-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "sm_scale_log2_e" .f32 0x3E0293EE#32 (((Real.log 2)⁻¹ * (Real.sqrt 128)⁻¹ : ℝ) : EReal)
  ∧ IdealRules.named_const.Statement Cert.KernelIdeal.κ "log2_e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_v80_0) = v1 c
          ∧ r.2.mem ((c.tc : Thread Cert.ReferenceIdeal.nD Cert.ReferenceIdeal.τ).loc Cert.ReferenceIdeal.main_v160) = v2 c
          ∧ r.2.mem ((c.tc : Thread Cert.ReferenceIdeal.nD Cert.ReferenceIdeal.τ).loc Cert.ReferenceIdeal.main_v80_1) = v3 c
          ∧ r.2.mem ((c.tc : Thread Cert.ReferenceIdeal.nD Cert.ReferenceIdeal.τ).loc Cert.ReferenceIdeal.main_v161) = v4 c
          ∧ r.2.mem ((c.tc : Thread Cert.ReferenceIdeal.nD Cert.ReferenceIdeal.τ).loc Cert.ReferenceIdeal.main_v80_2) = v5 c
          ∧ r.2.mem ((c.tc : Thread Cert.ReferenceIdeal.nD Cert.ReferenceIdeal.τ).loc Cert.ReferenceIdeal.main_v77) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S9x4096x1024 : Shape := ⟨3, ![9, 4096, 1024]⟩
abbrev S9x4096x256 : Shape := ⟨3, ![9, 4096, 256]⟩
abbrev S8 : Shape := ⟨1, ![8]⟩
abbrev S_ : Shape := ⟨0, ![]⟩

class Facts : Prop where
  bitsLt_bf16_f32 : FTy.bits .bf16 < FTy.bits .f32
  bcast_S_S9x4096x1024 : S_.BroadcastsInDim S9x4096x1024 (![] : Fin 0 → Fin S9x4096x1024.rank)
  reducesTo_S9x4096x1024_S_d0_1_2 : S9x4096x1024.ReducesTo [0, 1, 2] S_
  h_S_ : 0 < S_.numel
  bcast_S_S9x4096x256 : S_.BroadcastsInDim S9x4096x256 (![] : Fin 0 → Fin S9x4096x256.rank)
  reducesTo_S9x4096x256_S_d0_1_2 : S9x4096x256.ReducesTo [0, 1, 2] S_

variable [Facts]

def fn {F : FTy → Type} [FloatOps F] (main_arg0 : FVec F S9x4096x1024 .bf16) (main_arg1 : FVec F S9x4096x256 .bf16) (main_arg2 : FVec F S9x4096x256 .bf16) (main_arg3 : FVec F S8 .f32) : IVec S_ 1 :=
  let main_v0 : FVec F S9x4096x1024 .f32 := (extf .f32 · bitsLt_bf16_f32) main_arg0
  let main_v1 : FVec F S9x4096x1024 .f32 := Host.absf main_v0
  let main_cst : FVec F S_ .f32 := constant S_ .f32 0x7F7F0000#32
  let main_v2 : FVec F S9x4096x1024 .f32 := broadcastInDim S9x4096x1024 ![] bcast_S_S9x4096x1024 main_cst
  let main_v3 : IVec S9x4096x1024 1 := cmpf .ole main_v1 main_v2
  let main_c : IVec S_ 1 := constantI S_ 1 1#1
  let main_v4 : IVec S_ 1 := (fun x v => Host.reduce IntOp.andi x v reducesTo_S9x4096x1024_S_d0_1_2 h_S_) main_v3 main_c
  let main_v5 : FVec F S9x4096x256 .f32 := (extf .f32 · bitsLt_bf16_f32) main_arg1
  let main_v6 : FVec F S9x4096x256 .f32 := Host.absf main_v5
  let main_cst_0 : FVec F S_ .f32 := constant S_ .f32 0x7F7F0000#32
  let main_v7 : FVec F S9x4096x256 .f32 := broadcastInDim S9x4096x256 ![] bcast_S_S9x4096x256 main_cst_0
  let main_v8 : IVec S9x4096x256 1 := cmpf .ole main_v6 main_v7
  let main_c_1 : IVec S_ 1 := constantI S_ 1 1#1
  let main_v9 : IVec S_ 1 := (fun x v => Host.reduce IntOp.andi x v reducesTo_S9x4096x256_S_d0_1_2 h_S_) main_v8 main_c_1
  let main_v10 : IVec S_ 1 := andi main_v4 main_v9
  let main_v11 : FVec F S9x4096x256 .f32 := (extf .f32 · bitsLt_bf16_f32) main_arg2
  let main_v12 : FVec F S9x4096x256 .f32 := Host.absf main_v11
  let main_cst_2 : FVec F S_ .f32 := constant S_ .f32 0x7F7F0000#32
  let main_v13 : FVec F S9x4096x256 .f32 := broadcastInDim S9x4096x256 ![] bcast_S_S9x4096x256 main_cst_2
  let main_v14 : IVec S9x4096x256 1 := cmpf .ole main_v12 main_v13
  let main_c_3 : IVec S_ 1 := constantI S_ 1 1#1
  let main_v15 : IVec S_ 1 := (fun x v => Host.reduce IntOp.andi x v reducesTo_S9x4096x256_S_d0_1_2 h_S_) main_v14 main_c_3
  let main_v16 : IVec S_ 1 := andi main_v10 main_v15
  main_v16
-- ==== Kernel.lean ====
abbrev S9x4096x1024 : Shape := ⟨3, ![9, 4096, 1024]⟩
abbrev S9x4096x256 : Shape := ⟨3, ![9, 4096, 256]⟩
abbrev S8 : Shape := ⟨1, ![8]⟩
abbrev S9x4096x8x128 : Shape := ⟨4, ![9, 4096, 8, 128]⟩
abbrev S9x8x4096 : Shape := ⟨3, ![9, 8, 4096]⟩
abbrev S9x2x4096x128 : Shape := ⟨4, ![9, 2, 4096, 128]⟩
abbrev S9x2x4096 : Shape := ⟨3, ![9, 2, 4096]⟩
abbrev S9x2x128 : Shape := ⟨3, ![9, 2, 128]⟩
abbrev S1x256x1024 : Shape := ⟨3, ![1, 256, 1024]⟩
abbrev S1x4096x256 : Shape := ⟨3, ![1, 4096, 256]⟩
abbrev S1x256x8x128 : Shape := ⟨4, ![1, 256, 8, 128]⟩
abbrev S1x8x256 : Shape := ⟨3, ![1, 8, 256]⟩
abbrev S1x2x4096x128 : Shape := ⟨4, ![1, 2, 4096, 128]⟩
abbrev S1x2x4096 : Shape := ⟨3, ![1, 2, 4096]⟩
abbrev S1x2x128 : Shape := ⟨3, ![1, 2, 128]⟩
abbrev S8x256x128 : Shape := ⟨3, ![8, 256, 128]⟩
abbrev S8x256 : Shape := ⟨2, ![8, 256]⟩
abbrev S2x16x256x128 : Shape := ⟨4, ![2, 16, 256, 128]⟩
abbrev S2x16x128x256 : Shape := ⟨4, ![2, 16, 128, 256]⟩
abbrev S2x128 : Shape := ⟨2, ![2, 128]⟩
abbrev S256x256 : Shape := ⟨2, ![256, 256]⟩
abbrev S2x4x256x256 : Shape := ⟨4, ![2, 4, 256, 256]⟩
abbrev S256x128 : Shape := ⟨2, ![256, 128]⟩
abbrev S1x4096x128 : Shape := ⟨3, ![1, 4096, 128]⟩
abbrev S4096x128 : Shape := ⟨2, ![4096, 128]⟩
abbrev S128 : Shape := ⟨1, ![128]⟩
abbrev S1x128 : Shape := ⟨2, ![1, 128]⟩
abbrev S256x1x128 : Shape := ⟨3, ![256, 1, 128]⟩
abbrev S1x1x128 : Shape := ⟨3, ![1, 1, 128]⟩
abbrev S1x256x128 : Shape := ⟨3, ![1, 256, 128]⟩
abbrev S256 : Shape := ⟨1, ![256]⟩
abbrev S256x1 : Shape := ⟨2, ![256, 1]⟩
abbrev S256x256x1 : Shape := ⟨3, ![256, 256, 1]⟩
abbrev S1x256x1 : Shape := ⟨3, ![1, 256, 1]⟩
abbrev S1x1x256x128 : Shape := ⟨4, ![1, 1, 256, 128]⟩
abbrev S128x256 : Shape := ⟨2, ![128, 256]⟩
abbrev S1x1x128x256 : Shape := ⟨4, ![1, 1, 128, 256]⟩
abbrev S16x256 : Shape := ⟨2, ![16, 256]⟩
abbrev S256x16x256 : Shape := ⟨3, ![256, 16, 256]⟩
abbrev S1x16x256 : Shape := ⟨3, ![1, 16, 256]⟩
abbrev S2x256 : Shape := ⟨2, ![2, 256]⟩
abbrev S1x2x256 : Shape := ⟨3, ![1, 2, 256]⟩
abbrev S256x8x128 : Shape := ⟨3, ![256, 8, 128]⟩
abbrev S1x1x256x256 : Shape := ⟨4, ![1, 1, 256, 256]⟩
abbrev S32x8x256 : Shape := ⟨3, ![32, 8, 256]⟩
abbrev S1x256 : Shape := ⟨2, ![1, 256]⟩
abbrev S1 : Shape := ⟨1, ![1]⟩
abbrev S256x1x256 : Shape := ⟨3, ![256, 1, 256]⟩
abbrev S1x1x256 : Shape := ⟨3, ![1, 1, 256]⟩

abbrev nBuf : Space → Nat
  | .hbm => 11
  | .vmem => 27
  | .smem => 1
  | _ => 0

abbrev bufTy : (tb : Table) → Fin (tcTables nBuf tb) → BufTy
  | .hbm, ⟨0, _⟩ => ⟨S9x4096x1024, .bf16⟩
  | .hbm, ⟨1, _⟩ => ⟨S9x4096x256, .bf16⟩
  | .hbm, ⟨2, _⟩ => ⟨S9x4096x256, .bf16⟩
  | .hbm, ⟨3, _⟩ => ⟨S8, .f32⟩
  | .hbm, ⟨4, _⟩ => ⟨S9x4096x1024, .bf16⟩
  | .hbm, ⟨5, _⟩ => ⟨S9x4096x8x128, .fp8e4m3⟩
  | .hbm, ⟨6, _⟩ => ⟨S9x8x4096, .f32⟩
  | .hbm, ⟨7, _⟩ => ⟨S9x2x4096x128, .fp8e4m3⟩
  | .hbm, ⟨8, _⟩ => ⟨S9x2x4096, .f32⟩
  | .hbm, ⟨9, _⟩ => ⟨S9x2x4096x128, .fp8e4m3⟩
  | .hbm, ⟨10, _⟩ => ⟨S9x2x128, .f32⟩
  | .local _ .vmem, ⟨0, _⟩ => ⟨S1x256x1024, .bf16⟩
  | .local _ .vmem, ⟨1, _⟩ => ⟨S1x256x1024, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x8x128, .fp8e4m3⟩
  | .local _ .vmem, ⟨9, _⟩ => ⟨S1x256x8x128, .fp8e4m3⟩
  | .local _ .vmem, ⟨10, _⟩ => ⟨S1x8x256, .f32⟩
  | .local _ .vmem, ⟨11, _⟩ => ⟨S1x8x256, .f32⟩
  | .local _ .vmem, ⟨12, _⟩ => ⟨S1x2x4096x128, .fp8e4m3⟩
  | .local _ .vmem, ⟨13, _⟩ => ⟨S1x2x4096x128, .fp8e4m3⟩
  | .local _ .vmem, ⟨14, _⟩ => ⟨S1x2x4096, .f32⟩
  | .local _ .vmem, ⟨15, _⟩ => ⟨S1x2x4096, .f32⟩
  | .local _ .vmem, ⟨16, _⟩ => ⟨S1x2x4096x128, .fp8e4m3⟩
  | .local _ .vmem, ⟨17, _⟩ => ⟨S1x2x4096x128, .fp8e4m3⟩
  | .local _ .vmem, ⟨18, _⟩ => ⟨S1x2x128, .f32⟩
  | .local _ .vmem, ⟨19, _⟩ => ⟨S1x2x128, .f32⟩
  | .local _ .vmem, ⟨20, _⟩ => ⟨S8x256x128, .fp8e4m3⟩
  | .local _ .vmem, ⟨21, _⟩ => ⟨S8x256, .f32⟩
  | .local _ .vmem, ⟨22, _⟩ => ⟨S2x16x256x128, .f32⟩
  | .local _ .vmem, ⟨23, _⟩ => ⟨S2x16x128x256, .fp8e4m3⟩
  | .local _ .vmem, ⟨24, _⟩ => ⟨S2x128, .f32⟩
  | .local _ .vmem, ⟨25, _⟩ => ⟨S256x256, .i32⟩
  | .local _ .vmem, ⟨26, _⟩ => ⟨S2x4x256x256, .f32⟩
  | .local _ .smem, ⟨0, _⟩ => ⟨S8, .f32⟩
  | _, _ => ⟨S9x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev main_v0_6 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![9, 16], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 3 → Nat :=
  let c0 : Index := 0#32
  let arg1 : BitVec 32 := BitVec.ofNat 32 (i 1).val
  let c256_i32 : BitVec 32 := 256#32
  let v0 : BitVec 32 := Scalar.muli arg1 c256_i32
  let v1 : BitVec 32 := v0
  let v7 : Index := Scalar.indexCast v1
  let c0_1 : Index := 0#32
  ![0, v7.toNat, 0]
def k0_off2 (i : grid0.Coords) : Fin 4 → Nat :=
  let c0_7 : Index := 0#32
  let c0_8 : Index := 0#32
  let arg1 : BitVec 32 := BitVec.ofNat 32 (i 1).val
  let c256_i32 : BitVec 32 := 256#32
  let v0 : BitVec 32 := Scalar.muli arg1 c256_i32
  let v1 : BitVec 32 := v0
  let v45 : Index := Scalar.indexCast v1
  let c0_9 : Index := 0#32
  ![0, 0, v45.toNat, 0]
def k0_off3 (i : grid0.Coords) : Fin 4 → Nat :=
  let c0_16 : Index := 0#32
  let arg1 : BitVec 32 := BitVec.ofNat 32 (i 1).val
  let v70 : Index := Scalar.indexCast arg1
  let c0_17 : Index := 0#32
  let c0_18 : Index := 0#32
  ![0, v70.toNat, 0, 0]
def k0_off4 (i : grid0.Coords) : Fin 4 → Nat :=
  let c0_28 : Index := 0#32
  let arg1 : BitVec 32 := BitVec.ofNat 32 (i 1).val
  let v92 : Index := Scalar.indexCast arg1
  let c0_29 : Index := 0#32
  let c0_30 : Index := 0#32
  ![0, v92.toNat, 0, 0]
def k0_off5 (i : grid0.Coords) : Fin 3 → Nat :=
  let c0_31 : Index := 0#32
  let arg1 : BitVec 32 := BitVec.ofNat 32 (i 1).val
  let c256_i32 : BitVec 32 := 256#32
  let v0 : BitVec 32 := Scalar.muli arg1 c256_i32
  let v1 : BitVec 32 := v0
  let v96 : Index := Scalar.indexCast v1
  let c128 : Index := 128#32
  ![0, v96.toNat, 128]
def k0_off6 (i : grid0.Coords) : Fin 4 → Nat :=
  let c0_42 : Index := 0#32
  let c1 : Index := 1#32
  let arg1 : BitVec 32 := BitVec.ofNat 32 (i 1).val
  let c256_i32 : BitVec 32 := 256#32
  let v0 : BitVec 32 := Scalar.muli arg1 c256_i32
  let v1 : BitVec 32 := v0
  let v134 : Index := Scalar.indexCast v1
  let c0_43 : Index := 0#32
  ![0, 1, v134.toNat, 0]
def k0_off7 (i : grid0.Coords) : Fin 4 → Nat :=
  let c1_51 : Index := 1#32
  let arg1 : BitVec 32 := BitVec.ofNat 32 (i 1).val
  let v159 : Index := Scalar.indexCast arg1
  let c0_52 : Index := 0#32
  let c0_53 : Index := 0#32
  ![1, v159.toNat, 0, 0]
def k0_off8 (i : grid0.Coords) : Fin 4 → Nat :=
  let c1_63 : Index := 1#32
  let arg1 : BitVec 32 := BitVec.ofNat 32 (i 1).val
  let v181 : Index := Scalar.indexCast arg1
  let c0_64 : Index := 0#32
  let c0_65 : Index := 0#32
  ![1, v181.toNat, 0, 0]
def k0_off9 (i : grid0.Coords) : Fin 3 → Nat :=
  let c0_193 : Index := 0#32
  let c0_194 : Index := 0#32
  let arg1 : BitVec 32 := BitVec.ofNat 32 (i 1).val
  let c256_i32 : BitVec 32 := 256#32
  let v0 : BitVec 32 := Scalar.muli arg1 c256_i32
  let v1 : BitVec 32 := v0
  let v531 : Index := Scalar.indexCast v1
  ![0, 0, v531.toNat]
def k0_cond2 (i : grid0.Coords) : BitVec 1 :=
  let arg1 : BitVec 32 := BitVec.ofNat 32 (i 1).val
  let c0_i32_226 : BitVec 32 := 0#32
  let v569 : BitVec 1 := Scalar.cmpi .eq arg1 c0_i32_226
  let v570 : BitVec 32 := Scalar.extui v569
  let c0_i32_227 : BitVec 32 := 0#32
  let v571 : BitVec 1 := Scalar.cmpi .ne v570 c0_i32_227
  v571

def k0_mult2 (i : grid0.Coords) : BitVec 32 :=
  let arg1 : BitVec 32 := BitVec.ofNat 32 (i 1).val
  let c0_i32_242 : BitVec 32 := 0#32
  let v589 : BitVec 32 := Scalar.subi arg1 c0_i32_242
  let c256_i32_243 : BitVec 32 := 256#32
  let v590 : BitVec 32 := Scalar.muli v589 c256_i32_243
  v590
def k0_off10 (i : grid0.Coords) : Fin 4 → Nat :=
  let c0_244 : Index := 0#32
  let c0_245 : Index := 0#32
  let arg1 : BitVec 32 := BitVec.ofNat 32 (i 1).val
  let c0_i32_242 : BitVec 32 := 0#32
  let v589 : BitVec 32 := Scalar.subi arg1 c0_i32_242
  let c256_i32_243 : BitVec 32 := 256#32
  let v590 : BitVec 32 := Scalar.muli v589 c256_i32_243
  let v591 : BitVec 32 := v590
  let v592 : Index := Scalar.indexCast v591
  let c0_246 : Index := 0#32
  ![0, 0, v592.toNat, 0]
def k0_off11 (i : grid0.Coords) : Fin 4 → Nat :=
  let c0_249 : Index := 0#32
  let arg1 : BitVec 32 := BitVec.ofNat 32 (i 1).val
  let c0_i32_248 : BitVec 32 := 0#32
  let v596 : BitVec 32 := Scalar.subi arg1 c0_i32_248
  let v597 : Index := Scalar.indexCast v596
  let c0_250 : Index := 0#32
  let c0_251 : Index := 0#32
  ![0, v597.toNat, 0, 0]
def k0_off12 (i : grid0.Coords) : Fin 4 → Nat :=
  let c0_282 : Index := 0#32
  let arg1 : BitVec 32 := BitVec.ofNat 32 (i 1).val
  let c0_i32_281 : BitVec 32 := 0#32
  let v661 : BitVec 32 := Scalar.subi arg1 c0_i32_281
  let v662 : Index := Scalar.indexCast v661
  let c0_283 : Index := 0#32
  let c0_284 : Index := 0#32
  ![0, v662.toNat, 0, 0]
def k0_mult3 (i : grid0.Coords) : BitVec 32 :=
  let arg1 : BitVec 32 := BitVec.ofNat 32 (i 1).val
  let c0_i32_298 : BitVec 32 := 0#32
  let v691 : BitVec 32 := Scalar.subi arg1 c0_i32_298
  let c256_i32_299 : BitVec 32 := 256#32
  let v692 : BitVec 32 := Scalar.muli v691 c256_i32_299
  v692
def k0_mult4 (i : grid0.Coords) : BitVec 32 :=
  let arg1 : BitVec 32 := BitVec.ofNat 32 (i 1).val
  let c0_i32_355 : BitVec 32 := 0#32
  let v793 : BitVec 32 := Scalar.subi arg1 c0_i32_355
  let c256_i32_356 : BitVec 32 := 256#32
  let v794 : BitVec 32 := Scalar.muli v793 c256_i32_356
  v794
def k0_mult5 (i : grid0.Coords) : BitVec 32 :=
  let arg1 : BitVec 32 := BitVec.ofNat 32 (i 1).val
  let c0_i32_412 : BitVec 32 := 0#32
  let v895 : BitVec 32 := Scalar.subi arg1 c0_i32_412
  let c256_i32_413 : BitVec 32 := 256#32
  let v896 : BitVec 32 := Scalar.muli v895 c256_i32_413
  v896
def k0_mult6 (i : grid0.Coords) : BitVec 32 :=
  let arg1 : BitVec 32 := BitVec.ofNat 32 (i 1).val
  let c0_i32_469 : BitVec 32 := 0#32
  let v997 : BitVec 32 := Scalar.subi arg1 c0_i32_469
  let c256_i32_470 : BitVec 32 := 256#32
  let v998 : BitVec 32 := Scalar.muli v997 c256_i32_470
  v998
def k0_off13 (i : grid0.Coords) : Fin 4 → Nat :=
  let c0_471 : Index := 0#32
  let c1_472 : Index := 1#32
  let arg1 : BitVec 32 := BitVec.ofNat 32 (i 1).val
  let c0_i32_469 : BitVec 32 := 0#32
  let v997 : BitVec 32 := Scalar.subi arg1 c0_i32_469
  let c256_i32_470 : BitVec 32 := 256#32
  let v998 : BitVec 32 := Scalar.muli v997 c256_i32_470
  let v999 : BitVec 32 := v998
  let v1000 : Index := Scalar.indexCast v999
  let c0_473 : Index := 0#32
  ![0, 1, v1000.toNat, 0]
def k0_off14 (i : grid0.Coords) : Fin 4 → Nat :=
  let c1_476 : Index := 1#32
  let arg1 : BitVec 32 := BitVec.ofNat 32 (i 1).val
  let c0_i32_475 : BitVec 32 := 0#32
  let v1004 : BitVec 32 := Scalar.subi arg1 c0_i32_475
  let v1005 : Index := Scalar.indexCast v1004
  let c0_477 : Index := 0#32
  let c0_478 : Index := 0#32
  ![1, v1005.toNat, 0, 0]
def k0_off15 (i : grid0.Coords) : Fin 4 → Nat :=
  let c1_510 : Index := 1#32
  let arg1 : BitVec 32 := BitVec.ofNat 32 (i 1).val
  let c0_i32_509 : BitVec 32 := 0#32
  let v1069 : BitVec 32 := Scalar.subi arg1 c0_i32_509
  let v1070 : Index := Scalar.indexCast v1069
  let c0_511 : Index := 0#32
  let c0_512 : Index := 0#32
  ![1, v1070.toNat, 0, 0]
def k0_mult7 (i : grid0.Coords) : BitVec 32 :=
  let arg1 : BitVec 32 := BitVec.ofNat 32 (i 1).val
  let c0_i32_526 : BitVec 32 := 0#32
  let v1099 : BitVec 32 := Scalar.subi arg1 c0_i32_526
  let c256_i32_527 : BitVec 32 := 256#32
  let v1100 : BitVec 32 := Scalar.muli v1099 c256_i32_527
  v1100
def k0_mult8 (i : grid0.Coords) : BitVec 32 :=
  let arg1 : BitVec 32 := BitVec.ofNat 32 (i 1).val
  let c0_i32_583 : BitVec 32 := 0#32
  let v1201 : BitVec 32 := Scalar.subi arg1 c0_i32_583
  let c256_i32_584 : BitVec 32 := 256#32
  let v1202 : BitVec 32 := Scalar.muli v1201 c256_i32_584
  v1202
def k0_mult9 (i : grid0.Coords) : BitVec 32 :=
  let arg1 : BitVec 32 := BitVec.ofNat 32 (i 1).val
  let c0_i32_640 : BitVec 32 := 0#32
  let v1303 : BitVec 32 := Scalar.subi arg1 c0_i32_640
  let c256_i32_641 : BitVec 32 := 256#32
  let v1304 : BitVec 32 := Scalar.muli v1303 c256_i32_641
  v1304
def k0_cond3 (i : grid0.Coords) : BitVec 1 :=
  let arg1 : BitVec 32 := BitVec.ofNat 32 (i 1).val
  let c1_i32_228 : BitVec 32 := 1#32
  let v572 : BitVec 1 := Scalar.cmpi .eq arg1 c1_i32_228
  let v573 : BitVec 32 := Scalar.extui v572
  let c0_i32_229 : BitVec 32 := 0#32
  let v574 : BitVec 1 := Scalar.cmpi .ne v573 c0_i32_229
  v574

def k0_mult10 (i : grid0.Coords) : BitVec 32 :=
  let arg1 : BitVec 32 := BitVec.ofNat 32 (i 1).val
  let c0_i32_242 : BitVec 32 := 0#32
  let v589 : BitVec 32 := Scalar.subi arg1 c0_i32_242
  let c256_i32_243 : BitVec 32 := 256#32
  let v590 : BitVec 32 := Scalar.muli v589 c256_i32_243
  v590
def k0_off16 (i : grid0.Coords) (c0_i32_242 : BitVec 32) : Fin 4 → Nat :=
  let c0_244 : Index := 0#32
  let c0_245 : Index := 0#32
  let arg1 : BitVec 32 := BitVec.ofNat 32 (i 1).val
  let v589 : BitVec 32 := Scalar.subi arg1 c0_i32_242
  let c256_i32_243 : BitVec 32 := 256#32
  let v590 : BitVec 32 := Scalar.muli v589 c256_i32_243
  let v591 : BitVec 32 := v590
  let v592 : Index := Scalar.indexCast v591
  let c0_246 : Index := 0#32
  ![0, 0, v592.toNat, 0]
def k0_off17 (i : grid0.Coords) (c0_i32_248 : BitVec 32) : Fin 4 → Nat :=
  let c0_249 : Index := 0#32
  let arg1 : BitVec 32 := BitVec.ofNat 32 (i 1).val
  let v596 : BitVec 32 := Scalar.subi arg1 c0_i32_248
  let v597 : Index := Scalar.indexCast v596
  let c0_250 : Index := 0#32
  let c0_251 : Index := 0#32
  ![0, v597.toNat, 0, 0]
def k0_mult11 (i : grid0.Coords) : BitVec 32 :=
  let arg1 : BitVec 32 := BitVec.ofNat 32 (i 1).val
  let c1_i32_258 : BitVec 32 := 1#32
  let v609 : BitVec 32 := Scalar.subi arg1 c1_i32_258
  let c256_i32_259 : BitVec 32 := 256#32
  let v610 : BitVec 32 := Scalar.muli v609 c256_i32_259
  v610
def k0_off18 (i : grid0.Coords) (c0_i32_296 : BitVec 32) : Fin 4 → Nat :=
  let c0_297 : Index := 0#32
  let arg1 : BitVec 32 := BitVec.ofNat 32 (i 1).val
  let v680 : BitVec 32 := Scalar.subi arg1 c0_i32_296
  let v681 : Index := Scalar.indexCast v680
  let c0_298 : Index := 0#32
  let c0_299 : Index := 0#32
  ![0, v681.toNat, 0, 0]
def k0_mult12 (i : grid0.Coords) : BitVec 32 :=
  let arg1 : BitVec 32 := BitVec.ofNat 32 (i 1).val
  let c0_i32_325 : BitVec 32 := 0#32
  let v731 : BitVec 32 := Scalar.subi arg1 c0_i32_325
  let c256_i32_326 : BitVec 32 := 256#32
  let v732 : BitVec 32 := Scalar.muli v731 c256_i32_326
  v732
def k0_mult13 (i : grid0.Coords) : BitVec 32 :=
  let arg1 : BitVec 32 := BitVec.ofNat 32 (i 1).val
  let c1_i32_341 : BitVec 32 := 1#32
  let v751 : BitVec 32 := Scalar.subi arg1 c1_i32_341
  let c256_i32_342 : BitVec 32 := 256#32
  let v752 : BitVec 32 := Scalar.muli v751 c256_i32_342
  v752
def k0_mult14 (i : grid0.Coords) : BitVec 32 :=
  let arg1 : BitVec 32 := BitVec.ofNat 32 (i 1).val
  let c0_i32_409 : BitVec 32 := 0#32
  let v873 : BitVec 32 := Scalar.subi arg1 c0_i32_409
  let c256_i32_410 : BitVec 32 := 256#32
  let v874 : BitVec 32 := Scalar.muli v873 c256_i32_410
  v874
def k0_mult15 (i : grid0.Coords) : BitVec 32 :=
  let arg1 : BitVec 32 := BitVec.ofNat 32 (i 1).val
  let c1_i32_425 : BitVec 32 := 1#32
  let v893 : BitVec 32 := Scalar.subi arg1 c1_i32_425
  let c256_i32_426 : BitVec 32 := 256#32
  let v894 : BitVec 32 := Scalar.muli v893 c256_i32_426
  v894
def k0_mult16 (i : grid0.Coords) : BitVec 32 :=
  let arg1 : BitVec 32 := BitVec.ofNat 32 (i 1).val
  let c0_i32_493 : BitVec 32 := 0#32
  let v1015 : BitVec 32 := Scalar.subi arg1 c0_i32_493
  let c256_i32_494 : BitVec 32 := 256#32
  let v1016 : BitVec 32 := Scalar.muli v1015 c256_i32_494
  v1016
def k0_mult17 (i : grid0.Coords) : BitVec 32 :=
  let arg1 : BitVec 32 := BitVec.ofNat 32 (i 1).val
  let c1_i32_509 : BitVec 32 := 1#32
  let v1035 : BitVec 32 := Scalar.subi arg1 c1_i32_509
  let c256_i32_510 : BitVec 32 := 256#32
  let v1036 : BitVec 32 := Scalar.muli v1035 c256_i32_510
  v1036
def k0_mult18 (i : grid0.Coords) : BitVec 32 :=
  let arg1 : BitVec 32 := BitVec.ofNat 32 (i 1).val
  let c0_i32_577 : BitVec 32 := 0#32
  let v1157 : BitVec 32 := Scalar.subi arg1 c0_i32_577
  let c256_i32_578 : BitVec 32 := 256#32
  let v1158 : BitVec 32 := Scalar.muli v1157 c256_i32_578
  v1158
def k0_off19 (i : grid0.Coords) (c0_i32_577 : BitVec 32) : Fin 4 → Nat :=
  let c0_579 : Index := 0#32
  let c1_580 : Index := 1#32
  let arg1 : BitVec 32 := BitVec.ofNat 32 (i 1).val
  let v1157 : BitVec 32 := Scalar.subi arg1 c0_i32_577
  let c256_i32_578 : BitVec 32 := 256#32
  let v1158 : BitVec 32 := Scalar.muli v1157 c256_i32_578
  let v1159 : BitVec 32 := v1158
  let v1160 : Index := Scalar.indexCast v1159
  let c0_581 : Index := 0#32
  ![0, 1, v1160.toNat, 0]
def k0_off20 (i : grid0.Coords) (c0_i32_583 : BitVec 32) : Fin 4 → Nat :=
  let c1_584 : Index := 1#32
  let arg1 : BitVec 32 := BitVec.ofNat 32 (i 1).val
  let v1164 : BitVec 32 := Scalar.subi arg1 c0_i32_583
  let v1165 : Index := Scalar.indexCast v1164
  let c0_585 : Index := 0#32
  let c0_586 : Index := 0#32
  ![1, v1165.toNat, 0, 0]
def k0_mult19 (i : grid0.Coords) : BitVec 32 :=
  let arg1 : BitVec 32 := BitVec.ofNat 32 (i 1).val
  let c1_i32_593 : BitVec 32 := 1#32
  let v1177 : BitVec 32 := Scalar.subi arg1 c1_i32_593
  let c256_i32_594 : BitVec 32 := 256#32
  let v1178 : BitVec 32 := Scalar.muli v1177 c256_i32_594
  v1178
def k0_off21 (i : grid0.Coords) (c0_i32_632 : BitVec 32) : Fin 4 → Nat :=
  let c1_633 : Index := 1#32
  let arg1 : BitVec 32 := BitVec.ofNat 32 (i 1).val
  let v1248 : BitVec 32 := Scalar.subi arg1 c0_i32_632
  let v1249 : Index := Scalar.indexCast v1248
  let c0_634 : Index := 0#32
  let c0_635 : Index := 0#32
  ![1, v1249.toNat, 0, 0]
def k0_mult20 (i : grid0.Coords) : BitVec 32 :=
  let arg1 : BitVec 32 := BitVec.ofNat 32 (i 1).val
  let c0_i32_661 : BitVec 32 := 0#32
  let v1299 : BitVec 32 := Scalar.subi arg1 c0_i32_661
  let c256_i32_662 : BitVec 32 := 256#32
  let v1300 : BitVec 32 := Scalar.muli v1299 c256_i32_662
  v1300
def k0_mult21 (i : grid0.Coords) : BitVec 32 :=
  let arg1 : BitVec 32 := BitVec.ofNat 32 (i 1).val
  let c1_i32_677 : BitVec 32 := 1#32
  let v1319 : BitVec 32 := Scalar.subi arg1 c1_i32_677
  let c256_i32_678 : BitVec 32 := 256#32
  let v1320 : BitVec 32 := Scalar.muli v1319 c256_i32_678
  v1320
def k0_mult22 (i : grid0.Coords) : BitVec 32 :=
  let arg1 : BitVec 32 := BitVec.ofNat 32 (i 1).val
  let c0_i32_745 : BitVec 32 := 0#32
  let v1441 : BitVec 32 := Scalar.subi arg1 c0_i32_745
  let c256_i32_746 : BitVec 32 := 256#32
  let v1442 : BitVec 32 := Scalar.muli v1441 c256_i32_746
  v1442
def k0_mult23 (i : grid0.Coords) : BitVec 32 :=
  let arg1 : BitVec 32 := BitVec.ofNat 32 (i 1).val
  let c1_i32_761 : BitVec 32 := 1#32
  let v1461 : BitVec 32 := Scalar.subi arg1 c1_i32_761
  let c256_i32_762 : BitVec 32 := 256#32
  let v1462 : BitVec 32 := Scalar.muli v1461 c256_i32_762
  v1462
def k0_mult24 (i : grid0.Coords) : BitVec 32 :=
  let arg1 : BitVec 32 := BitVec.ofNat 32 (i 1).val
  let c0_i32_829 : BitVec 32 := 0#32
  let v1583 : BitVec 32 := Scalar.subi arg1 c0_i32_829
  let c256_i32_830 : BitVec 32 := 256#32
  let v1584 : BitVec 32 := Scalar.muli v1583 c256_i32_830
  v1584
def k0_mult25 (i : grid0.Coords) : BitVec 32 :=
  let arg1 : BitVec 32 := BitVec.ofNat 32 (i 1).val
  let c1_i32_845 : BitVec 32 := 1#32
  let v1603 : BitVec 32 := Scalar.subi arg1 c1_i32_845
  let c256_i32_846 : BitVec 32 := 256#32
  let v1604 : BitVec 32 := Scalar.muli v1603 c256_i32_846
  v1604
def k0_cond4 (i : grid0.Coords) : BitVec 1 :=
  let arg1 : BitVec 32 := BitVec.ofNat 32 (i 1).val
  let c2_i32_230 : BitVec 32 := 2#32
  let v575 : BitVec 1 := Scalar.cmpi .eq arg1 c2_i32_230
  let v576 : BitVec 32 := Scalar.extui v575
  let c0_i32_231 : BitVec 32 := 0#32
  let v577 : BitVec 1 := Scalar.cmpi .ne v576 c0_i32_231
  v577

def k0_mult26 (i : grid0.Coords) : BitVec 32 :=
  let arg1 : BitVec 32 := BitVec.ofNat 32 (i 1).val
  let c0_i32_242 : BitVec 32 := 0#32
  let v589 : BitVec 32 := Scalar.subi arg1 c0_i32_242
  let c256_i32_243 : BitVec 32 := 256#32
  let v590 : BitVec 32 := Scalar.muli v589 c256_i32_243
  v590
def k0_off22 (i : grid0.Coords) (c0_i32_242 : BitVec 32) : Fin 4 → Nat :=
  let c0_244 : Index := 0#32
  let c0_245 : Index := 0#32
  let arg1 : BitVec 32 := BitVec.ofNat 32 (i 1).val
  let v589 : BitVec 32 := Scalar.subi arg1 c0_i32_242
  let c256_i32_243 : BitVec 32 := 256#32
  let v590 : BitVec 32 := Scalar.muli v589 c256_i32_243
  let v591 : BitVec 32 := v590
  let v592 : Index := Scalar.indexCast v591
  let c0_246 : Index := 0#32
  ![0, 0, v592.toNat, 0]
def k0_off23 (i : grid0.Coords) (c0_i32_248 : BitVec 32) : Fin 4 → Nat :=
  let c0_249 : Index := 0#32
  let arg1 : BitVec 32 := BitVec.ofNat 32 (i 1).val
  let v596 : BitVec 32 := Scalar.subi arg1 c0_i32_248
  let v597 : Index := Scalar.indexCast v596
  let c0_250 : Index := 0#32
  let c0_251 : Index := 0#32
  ![0, v597.toNat, 0, 0]
def k0_mult27 (i : grid0.Coords) : BitVec 32 :=
  let arg1 : BitVec 32 := BitVec.ofNat 32 (i 1).val
  let c1_i32_258 : BitVec 32 := 1#32
  let v609 : BitVec 32 := Scalar.subi arg1 c1_i32_258
  let c256_i32_259 : BitVec 32 := 256#32
  let v610 : BitVec 32 := Scalar.muli v609 c256_i32_259
  v610
def k0_mult28 (i : grid0.Coords) : BitVec 32 :=
  let arg1 : BitVec 32 := BitVec.ofNat 32 (i 1).val
  let c2_i32_273 : BitVec 32 := 2#32
  let v628 : BitVec 32 := Scalar.subi arg1 c2_i32_273
  let c256_i32_274 : BitVec 32 := 256#32
  let v629 : BitVec 32 := Scalar.muli v628 c256_i32_274
  v629
def k0_off24 (i : grid0.Coords) (c0_i32_311 : BitVec 32) : Fin 4 → Nat :=
  let c0_312 : Index := 0#32
  let arg1 : BitVec 32 := BitVec.ofNat 32 (i 1).val
  let v699 : BitVec 32 := Scalar.subi arg1 c0_i32_311
  let v700 : Index := Scalar.indexCast v699
  let c0_313 : Index := 0#32
  let c0_314 : Index := 0#32
  ![0, v700.toNat, 0, 0]
def k0_mult29 (i : grid0.Coords) : BitVec 32 :=
  let arg1 : BitVec 32 := BitVec.ofNat 32 (i 1).val
  let c0_i32_352 : BitVec 32 := 0#32
  let v771 : BitVec 32 := Scalar.subi arg1 c0_i32_352
  let c256_i32_353 : BitVec 32 := 256#32
  let v772 : BitVec 32 := Scalar.muli v771 c256_i32_353
  v772
def k0_mult30 (i : grid0.Coords) : BitVec 32 :=
  let arg1 : BitVec 32 := BitVec.ofNat 32 (i 1).val
  let c1_i32_368 : BitVec 32 := 1#32
  let v791 : BitVec 32 := Scalar.subi arg1 c1_i32_368
  let c256_i32_369 : BitVec 32 := 256#32
  let v792 : BitVec 32 := Scalar.muli v791 c256_i32_369
  v792
def k0_mult31 (i : grid0.Coords) : BitVec 32 :=
  let arg1 : BitVec 32 := BitVec.ofNat 32 (i 1).val
  let c2_i32_383 : BitVec 32 := 2#32
  let v810 : BitVec 32 := Scalar.subi arg1 c2_i32_383
  let c256_i32_384 : BitVec 32 := 256#32
  let v811 : BitVec 32 := Scalar.muli v810 c256_i32_384
  v811
def k0_mult32 (i : grid0.Coords) : BitVec 32 :=
  let arg1 : BitVec 32 := BitVec.ofNat 32 (i 1).val
  let c0_i32_463 : BitVec 32 := 0#32
  let v953 : BitVec 32 := Scalar.subi arg1 c0_i32_463
  let c256_i32_464 : BitVec 32 := 256#32
  let v954 : BitVec 32 := Scalar.muli v953 c256_i32_464
  v954
def k0_mult33 (i : grid0.Coords) : BitVec 32 :=
  let arg1 : BitVec 32 := BitVec.ofNat 32 (i 1).val
  let c1_i32_479 : BitVec 32 := 1#32
  let v973 : BitVec 32 := Scalar.subi arg1 c1_i32_479
  let c256_i32_480 : BitVec 32 := 256#32
  let v974 : BitVec 32 := Scalar.muli v973 c256_i32_480
  v974
def k0_mult34 (i : grid0.Coords) : BitVec 32 :=
  let arg1 : BitVec 32 := BitVec.ofNat 32 (i 1).val
  let c2_i32_494 : BitVec 32 := 2#32
  let v992 : BitVec 32 := Scalar.subi arg1 c2_i32_494
  let c256_i32_495 : BitVec 32 := 256#32
  let v993 : BitVec 32 := Scalar.muli v992 c256_i32_495
  v993
def k0_mult35 (i : grid0.Coords) : BitVec 32 :=
  let arg1 : BitVec 32 := BitVec.ofNat 32 (i 1).val
  let c0_i32_574 : BitVec 32 := 0#32
  let v1135 : BitVec 32 := Scalar.subi arg1 c0_i32_574
  let c256_i32_575 : BitVec 32 := 256#32
  let v1136 : BitVec 32 := Scalar.muli v1135 c256_i32_575
  v1136
def k0_mult36 (i : grid0.Coords) : BitVec 32 :=
  let arg1 : BitVec 32 := BitVec.ofNat 32 (i 1).val
  let c1_i32_590 : BitVec 32 := 1#32
  let v1155 : BitVec 32 := Scalar.subi arg1 c1_i32_590
  let c256_i32_591 : BitVec 32 := 256#32
  let v1156 : BitVec 32 := Scalar.muli v1155 c256_i32_591
  v1156
def k0_mult37 (i : grid0.Coords) : BitVec 32 :=
  let arg1 : BitVec 32 := BitVec.ofNat 32 (i 1).val
  let c2_i32_605 : BitVec 32 := 2#32
  let v1174 : BitVec 32 := Scalar.subi arg1 c2_i32_605
  let c256_i32_606 : BitVec 32 := 256#32
  let v1175 : BitVec 32 := Scalar.muli v1174 c256_i32_606
  v1175
def k0_mult38 (i : grid0.Coords) : BitVec 32 :=
  let arg1 : BitVec 32 := BitVec.ofNat 32 (i 1).val
  let c0_i32_685 : BitVec 32 := 0#32
  let v1317 : BitVec 32 := Scalar.subi arg1 c0_i32_685
  let c256_i32_686 : BitVec 32 := 256#32
  let v1318 : BitVec 32 := Scalar.muli v1317 c256_i32_686
  v1318
def k0_off25 (i : grid0.Coords) (c0_i32_685 : BitVec 32) : Fin 4 → Nat :=
  let c0_687 : Index := 0#32
  let c1_688 : Index := 1#32
  let arg1 : BitVec 32 := BitVec.ofNat 32 (i 1).val
  let v1317 : BitVec 32 := Scalar.subi arg1 c0_i32_685
  let c256_i32_686 : BitVec 32 := 256#32
  let v1318 : BitVec 32 := Scalar.muli v1317 c256_i32_686
  let v1319 : BitVec 32 := v1318
  let v1320 : Index := Scalar.indexCast v1319
  let c0_689 : Index := 0#32
  ![0, 1, v1320.toNat, 0]
def k0_off26 (i : grid0.Coords) (c0_i32_691 : BitVec 32) : Fin 4 → Nat :=
  let c1_692 : Index := 1#32
  let arg1 : BitVec 32 := BitVec.ofNat 32 (i 1).val
  let v1324 : BitVec 32 := Scalar.subi arg1 c0_i32_691
  let v1325 : Index := Scalar.indexCast v1324
  let c0_693 : Index := 0#32
  let c0_694 : Index := 0#32
  ![1, v1325.toNat, 0, 0]
def k0_mult39 (i : grid0.Coords) : BitVec 32 :=
  let arg1 : BitVec 32 := BitVec.ofNat 32 (i 1).val
  let c1_i32_701 : BitVec 32 := 1#32
  let v1337 : BitVec 32 := Scalar.subi arg1 c1_i32_701
  let c256_i32_702 : BitVec 32 := 256#32
  let v1338 : BitVec 32 := Scalar.muli v1337 c256_i32_702
  v1338
def k0_mult40 (i : grid0.Coords) : BitVec 32 :=
  let arg1 : BitVec 32 := BitVec.ofNat 32 (i 1).val
  let c2_i32_716 : BitVec 32 := 2#32
  let v1356 : BitVec 32 := Scalar.subi arg1 c2_i32_716
  let c256_i32_717 : BitVec 32 := 256#32
  let v1357 : BitVec 32 := Scalar.muli v1356 c256_i32_717
  v1357
def k0_off27 (i : grid0.Coords) (c0_i32_755 : BitVec 32) : Fin 4 → Nat :=
  let c1_756 : Index := 1#32
  let arg1 : BitVec 32 := BitVec.ofNat 32 (i 1).val
  let v1427 : BitVec 32 := Scalar.subi arg1 c0_i32_755
  let v1428 : Index := Scalar.indexCast v1427
  let c0_757 : Index := 0#32
  let c0_758 : Index := 0#32
  ![1, v1428.toNat, 0, 0]
def k0_mult41 (i : grid0.Coords) : BitVec 32 :=
  let arg1 : BitVec 32 := BitVec.ofNat 32 (i 1).val
  let c0_i32_796 : BitVec 32 := 0#32
  let v1499 : BitVec 32 := Scalar.subi arg1 c0_i32_796
  let c256_i32_797 : BitVec 32 := 256#32
  let v1500 : BitVec 32 := Scalar.muli v1499 c256_i32_797
  v1500
def k0_mult42 (i : grid0.Coords) : BitVec 32 :=
  let arg1 : BitVec 32 := BitVec.ofNat 32 (i 1).val
  let c1_i32_812 : BitVec 32 := 1#32
  let v1519 : BitVec 32 := Scalar.subi arg1 c1_i32_812
  let c256_i32_813 : BitVec 32 := 256#32
  let v1520 : BitVec 32 := Scalar.muli v1519 c256_i32_813
  v1520
def k0_mult43 (i : grid0.Coords) : BitVec 32 :=
  let arg1 : BitVec 32 := BitVec.ofNat 32 (i 1).val
  let c2_i32_827 : BitVec 32 := 2#32
  let v1538 : BitVec 32 := Scalar.subi arg1 c2_i32_827
  let c256_i32_828 : BitVec 32 := 256#32
  let v1539 : BitVec 32 := Scalar.muli v1538 c256_i32_828
  v1539
def k0_mult44 (i : grid0.Coords) : BitVec 32 :=
  let arg1 : BitVec 32 := BitVec.ofNat 32 (i 1).val
  let c0_i32_907 : BitVec 32 := 0#32
  let v1681 : BitVec 32 := Scalar.subi arg1 c0_i32_907
  let c256_i32_908 : BitVec 32 := 256#32
  let v1682 : BitVec 32 := Scalar.muli v1681 c256_i32_908
  v1682
def k0_mult45 (i : grid0.Coords) : BitVec 32 :=
  let arg1 : BitVec 32 := BitVec.ofNat 32 (i 1).val
  let c1_i32_923 : BitVec 32 := 1#32
  let v1701 : BitVec 32 := Scalar.subi arg1 c1_i32_923
  let c256_i32_924 : BitVec 32 := 256#32
  let v1702 : BitVec 32 := Scalar.muli v1701 c256_i32_924
  v1702
def k0_mult46 (i : grid0.Coords) : BitVec 32 :=
  let arg1 : BitVec 32 := BitVec.ofNat 32 (i 1).val
  let c2_i32_938 : BitVec 32 := 2#32
  let v1720 : BitVec 32 := Scalar.subi arg1 c2_i32_938
  let c256_i32_939 : BitVec 32 := 256#32
  let v1721 : BitVec 32 := Scalar.muli v1720 c256_i32_939
  v1721
def k0_mult47 (i : grid0.Coords) : BitVec 32 :=
  let arg1 : BitVec 32 := BitVec.ofNat 32 (i 1).val
  let c0_i32_1018 : BitVec 32 := 0#32
  let v1863 : BitVec 32 := Scalar.subi arg1 c0_i32_1018
  let c256_i32_1019 : BitVec 32 := 256#32
  let v1864 : BitVec 32 := Scalar.muli v1863 c256_i32_1019
  v1864
def k0_mult48 (i : grid0.Coords) : BitVec 32 :=
  let arg1 : BitVec 32 := BitVec.ofNat 32 (i 1).val
  let c1_i32_1034 : BitVec 32 := 1#32
  let v1883 : BitVec 32 := Scalar.subi arg1 c1_i32_1034
  let c256_i32_1035 : BitVec 32 := 256#32
  let v1884 : BitVec 32 := Scalar.muli v1883 c256_i32_1035
  v1884
def k0_mult49 (i : grid0.Coords) : BitVec 32 :=
  let arg1 : BitVec 32 := BitVec.ofNat 32 (i 1).val
  let c2_i32_1049 : BitVec 32 := 2#32
  let v1902 : BitVec 32 := Scalar.subi arg1 c2_i32_1049
  let c256_i32_1050 : BitVec 32 := 256#32
  let v1903 : BitVec 32 := Scalar.muli v1902 c256_i32_1050
  v1903
def k0_cond5 (i : grid0.Coords) : BitVec 1 :=
  let arg1 : BitVec 32 := BitVec.ofNat 32 (i 1).val
  let c3_i32_232 : BitVec 32 := 3#32
  let v578 : BitVec 1 := Scalar.cmpi .eq arg1 c3_i32_232
  let v579 : BitVec 32 := Scalar.extui v578
  let c0_i32_233 : BitVec 32 := 0#32
  let v580 : BitVec 1 := Scalar.cmpi .ne v579 c0_i32_233
  v580

def k0_mult50 (i : grid0.Coords) : BitVec 32 :=
  let arg1 : BitVec 32 := BitVec.ofNat 32 (i 1).val
  let c0_i32_242 : BitVec 32 := 0#32
  let v589 : BitVec 32 := Scalar.subi arg1 c0_i32_242
  let c256_i32_243 : BitVec 32 := 256#32
  let v590 : BitVec 32 := Scalar.muli v589 c256_i32_243
  v590
def k0_off28 (i : grid0.Coords) (c0_i32_242 : BitVec 32) : Fin 4 → Nat :=
  let c0_244 : Index := 0#32
  let c0_245 : Index := 0#32
  let arg1 : BitVec 32 := BitVec.ofNat 32 (i 1).val
  let v589 : BitVec 32 := Scalar.subi arg1 c0_i32_242
  let c256_i32_243 : BitVec 32 := 256#32
  let v590 : BitVec 32 := Scalar.muli v589 c256_i32_243
  let v591 : BitVec 32 := v590
  let v592 : Index := Scalar.indexCast v591
  let c0_246 : Index := 0#32
  ![0, 0, v592.toNat, 0]
def k0_off29 (i : grid0.Coords) (c0_i32_248 : BitVec 32) : Fin 4 → Nat :=
  let c0_249 : Index := 0#32
  let arg1 : BitVec 32 := BitVec.ofNat 32 (i 1).val
  let v596 : BitVec 32 := Scalar.subi arg1 c0_i32_248
  let v597 : Index := Scalar.indexCast v596
  let c0_250 : Index := 0#32
  let c0_251 : Index := 0#32
  ![0, v597.toNat, 0, 0]
def k0_mult51 (i : grid0.Coords) : BitVec 32 :=
  let arg1 : BitVec 32 := BitVec.ofNat 32 (i 1).val
  let c1_i32_258 : BitVec 32 := 1#32
  let v609 : BitVec 32 := Scalar.subi arg1 c1_i32_258
  let c256_i32_259 : BitVec 32 := 256#32
  let v610 : BitVec 32 := Scalar.muli v609 c256_i32_259
  v610
def k0_mult52 (i : grid0.Coords) : BitVec 32 :=
  let arg1 : BitVec 32 := BitVec.ofNat 32 (i 1).val
  let c2_i32_273 : BitVec 32 := 2#32
  let v628 : BitVec 32 := Scalar.subi arg1 c2_i32_273
  let c256_i32_274 : BitVec 32 := 256#32
  let v629 : BitVec 32 := Scalar.muli v628 c256_i32_274
  v629
def k0_mult53 (i : grid0.Coords) : BitVec 32 :=
  let arg1 : BitVec 32 := BitVec.ofNat 32 (i 1).val
  let c3_i32_288 : BitVec 32 := 3#32
  let v647 : BitVec 32 := Scalar.subi arg1 c3_i32_288
  let c256_i32_289 : BitVec 32 := 256#32
  let v648 : BitVec 32 := Scalar.muli v647 c256_i32_289
  v648
def k0_off30 (i : grid0.Coords) (c0_i32_326 : BitVec 32) : Fin 4 → Nat :=
  let c0_327 : Index := 0#32
  let arg1 : BitVec 32 := BitVec.ofNat 32 (i 1).val
  let v718 : BitVec 32 := Scalar.subi arg1 c0_i32_326
  let v719 : Index := Scalar.indexCast v718
  let c0_328 : Index := 0#32
  let c0_329 : Index := 0#32
  ![0, v719.toNat, 0, 0]
def k0_mult54 (i : grid0.Coords) : BitVec 32 :=
  let arg1 : BitVec 32 := BitVec.ofNat 32 (i 1).val
  let c0_i32_379 : BitVec 32 := 0#32
  let v811 : BitVec 32 := Scalar.subi arg1 c0_i32_379
  let c256_i32_380 : BitVec 32 := 256#32
  let v812 : BitVec 32 := Scalar.muli v811 c256_i32_380
  v812
def k0_mult55 (i : grid0.Coords) : BitVec 32 :=
  let arg1 : BitVec 32 := BitVec.ofNat 32 (i 1).val
  let c1_i32_395 : BitVec 32 := 1#32
  let v831 : BitVec 32 := Scalar.subi arg1 c1_i32_395
  let c256_i32_396 : BitVec 32 := 256#32
  let v832 : BitVec 32 := Scalar.muli v831 c256_i32_396
  v832
def k0_mult56 (i : grid0.Coords) : BitVec 32 :=
  let arg1 : BitVec 32 := BitVec.ofNat 32 (i 1).val
  let c2_i32_410 : BitVec 32 := 2#32
  let v850 : BitVec 32 := Scalar.subi arg1 c2_i32_410
  let c256_i32_411 : BitVec 32 := 256#32
  let v851 : BitVec 32 := Scalar.muli v850 c256_i32_411
  v851
def k0_mult57 (i : grid0.Coords) : BitVec 32 :=
  let arg1 : BitVec 32 := BitVec.ofNat 32 (i 1).val
  let c3_i32_425 : BitVec 32 := 3#32
  let v869 : BitVec 32 := Scalar.subi arg1 c3_i32_425
  let c256_i32_426 : BitVec 32 := 256#32
  let v870 : BitVec 32 := Scalar.muli v869 c256_i32_426
  v870
def k0_mult58 (i : grid0.Coords) : BitVec 32 :=
  let arg1 : BitVec 32 := BitVec.ofNat 32 (i 1).val
  let c0_i32_517 : BitVec 32 := 0#32
  let v1033 : BitVec 32 := Scalar.subi arg1 c0_i32_517
  let c256_i32_518 : BitVec 32 := 256#32
  let v1034 : BitVec 32 := Scalar.muli v1033 c256_i32_518
  v1034
def k0_mult59 (i : grid0.Coords) : BitVec 32 :=
  let arg1 : BitVec 32 := BitVec.ofNat 32 (i 1).val
  let c1_i32_533 : BitVec 32 := 1#32
  let v1053 : BitVec 32 := Scalar.subi arg1 c1_i32_533
  let c256_i32_534 : BitVec 32 := 256#32
  let v1054 : BitVec 32 := Scalar.muli v1053 c256_i32_534
  v1054
def k0_mult60 (i : grid0.Coords) : BitVec 32 :=
  let arg1 : BitVec 32 := BitVec.ofNat 32 (i 1).val
  let c2_i32_548 : BitVec 32 := 2#32
  let v1072 : BitVec 32 := Scalar.subi arg1 c2_i32_548
  let c256_i32_549 : BitVec 32 := 256#32
  let v1073 : BitVec 32 := Scalar.muli v1072 c256_i32_549
  v1073
def k0_mult61 (i : grid0.Coords) : BitVec 32 :=
  let arg1 : BitVec 32 := BitVec.ofNat 32 (i 1).val
  let c3_i32_563 : BitVec 32 := 3#32
  let v1091 : BitVec 32 := Scalar.subi arg1 c3_i32_563
  let c256_i32_564 : BitVec 32 := 256#32
  let v1092 : BitVec 32 := Scalar.muli v1091 c256_i32_564
  v1092
def k0_mult62 (i : grid0.Coords) : BitVec 32 :=
  let arg1 : BitVec 32 := BitVec.ofNat 32 (i 1).val
  let c0_i32_655 : BitVec 32 := 0#32
  let v1255 : BitVec 32 := Scalar.subi arg1 c0_i32_655
  let c256_i32_656 : BitVec 32 := 256#32
  let v1256 : BitVec 32 := Scalar.muli v1255 c256_i32_656
  v1256
def k0_mult63 (i : grid0.Coords) : BitVec 32 :=
  let arg1 : BitVec 32 := BitVec.ofNat 32 (i 1).val
  let c1_i32_671 : BitVec 32 := 1#32
  let v1275 : BitVec 32 := Scalar.subi arg1 c1_i32_671
  let c256_i32_672 : BitVec 32 := 256#32
  let v1276 : BitVec 32 := Scalar.muli v1275 c256_i32_672
  v1276
def k0_mult64 (i : grid0.Coords) : BitVec 32 :=
  let arg1 : BitVec 32 := BitVec.ofNat 32 (i 1).val
  let c2_i32_686 : BitVec 32 := 2#32
  let v1294 : BitVec 32 := Scalar.subi arg1 c2_i32_686
  let c256_i32_687 : BitVec 32 := 256#32
  let v1295 : BitVec 32 := Scalar.muli v1294 c256_i32_687
  v1295
def k0_mult65 (i : grid0.Coords) : BitVec 32 :=
  let arg1 : BitVec 32 := BitVec.ofNat 32 (i 1).val
  let c3_i32_701 : BitVec 32 := 3#32
  let v1313 : BitVec 32 := Scalar.subi arg1 c3_i32_701
  let c256_i32_702 : BitVec 32 := 256#32
  let v1314 : BitVec 32 := Scalar.muli v1313 c256_i32_702
  v1314
def k0_mult66 (i : grid0.Coords) : BitVec 32 :=
  let arg1 : BitVec 32 := BitVec.ofNat 32 (i 1).val
  let c0_i32_793 : BitVec 32 := 0#32
  let v1477 : BitVec 32 := Scalar.subi arg1 c0_i32_793
  let c256_i32_794 : BitVec 32 := 256#32
  let v1478 : BitVec 32 := Scalar.muli v1477 c256_i32_794
  v1478
def k0_off31 (i : grid0.Coords) (c0_i32_793 : BitVec 32) : Fin 4 → Nat :=
  let c0_795 : Index := 0#32
  let c1_796 : Index := 1#32
  let arg1 : BitVec 32 := BitVec.ofNat 32 (i 1).val
  let v1477 : BitVec 32 := Scalar.subi arg1 c0_i32_793
  let c256_i32_794 : BitVec 32 := 256#32
  let v1478 : BitVec 32 := Scalar.muli v1477 c256_i32_794
  let v1479 : BitVec 32 := v1478
  let v1480 : Index := Scalar.indexCast v1479
  let c0_797 : Index := 0#32
  ![0, 1, v1480.toNat, 0]
def k0_off32 (i : grid0.Coords) (c0_i32_799 : BitVec 32) : Fin 4 → Nat :=
  let c1_800 : Index := 1#32
  let arg1 : BitVec 32 := BitVec.ofNat 32 (i 1).val
  let v1484 : BitVec 32 := Scalar.subi arg1 c0_i32_799
  let v1485 : Index := Scalar.indexCast v1484
  let c0_801 : Index := 0#32
  let c0_802 : Index := 0#32
  ![1, v1485.toNat, 0, 0]
def k0_mult67 (i : grid0.Coords) : BitVec 32 :=
  let arg1 : BitVec 32 := BitVec.ofNat 32 (i 1).val
  let c1_i32_809 : BitVec 32 := 1#32
  let v1497 : BitVec 32 := Scalar.subi arg1 c1_i32_809
  let c256_i32_810 : BitVec 32 := 256#32
  let v1498 : BitVec 32 := Scalar.muli v1497 c256_i32_810
  v1498
def k0_mult68 (i : grid0.Coords) : BitVec 32 :=
  let arg1 : BitVec 32 := BitVec.ofNat 32 (i 1).val
  let c2_i32_824 : BitVec 32 := 2#32
  let v1516 : BitVec 32 := Scalar.subi arg1 c2_i32_824
  let c256_i32_825 : BitVec 32 := 256#32
  let v1517 : BitVec 32 := Scalar.muli v1516 c256_i32_825
  v1517
def k0_mult69 (i : grid0.Coords) : BitVec 32 :=
  let arg1 : BitVec 32 := BitVec.ofNat 32 (i 1).val
  let c3_i32_839 : BitVec 32 := 3#32
  let v1535 : BitVec 32 := Scalar.subi arg1 c3_i32_839
  let c256_i32_840 : BitVec 32 := 256#32
  let v1536 : BitVec 32 := Scalar.muli v1535 c256_i32_840
  v1536
def k0_off33 (i : grid0.Coords) (c0_i32_878 : BitVec 32) : Fin 4 → Nat :=
  let c1_879 : Index := 1#32
  let arg1 : BitVec 32 := BitVec.ofNat 32 (i 1).val
  let v1606 : BitVec 32 := Scalar.subi arg1 c0_i32_878
  let v1607 : Index := Scalar.indexCast v1606
  let c0_880 : Index := 0#32
  let c0_881 : Index := 0#32
  ![1, v1607.toNat, 0, 0]
def k0_mult70 (i : grid0.Coords) : BitVec 32 :=
  let arg1 : BitVec 32 := BitVec.ofNat 32 (i 1).val
  let c0_i32_931 : BitVec 32 := 0#32
  let v1699 : BitVec 32 := Scalar.subi arg1 c0_i32_931
  let c256_i32_932 : BitVec 32 := 256#32
  let v1700 : BitVec 32 := Scalar.muli v1699 c256_i32_932
  v1700
def k0_mult71 (i : grid0.Coords) : BitVec 32 :=
  let arg1 : BitVec 32 := BitVec.ofNat 32 (i 1).val
  let c1_i32_947 : BitVec 32 := 1#32
  let v1719 : BitVec 32 := Scalar.subi arg1 c1_i32_947
  let c256_i32_948 : BitVec 32 := 256#32
  let v1720 : BitVec 32 := Scalar.muli v1719 c256_i32_948
  v1720
def k0_mult72 (i : grid0.Coords) : BitVec 32 :=
  let arg1 : BitVec 32 := BitVec.ofNat 32 (i 1).val
  let c2_i32_962 : BitVec 32 := 2#32
  let v1738 : BitVec 32 := Scalar.subi arg1 c2_i32_962
  let c256_i32_963 : BitVec 32 := 256#32
  let v1739 : BitVec 32 := Scalar.muli v1738 c256_i32_963
  v1739
def k0_mult73 (i : grid0.Coords) : BitVec 32 :=
  let arg1 : BitVec 32 := BitVec.ofNat 32 (i 1).val
  let c3_i32_977 : BitVec 32 := 3#32
  let v1757 : BitVec 32 := Scalar.subi arg1 c3_i32_977
  let c256_i32_978 : BitVec 32 := 256#32
  let v1758 : BitVec 32 := Scalar.muli v1757 c256_i32_978
  v1758
def k0_mult74 (i : grid0.Coords) : BitVec 32 :=
  let arg1 : BitVec 32 := BitVec.ofNat 32 (i 1).val
  let c0_i32_1069 : BitVec 32 := 0#32
  let v1921 : BitVec 32 := Scalar.subi arg1 c0_i32_1069
  let c256_i32_1070 : BitVec 32 := 256#32
  let v1922 : BitVec 32 := Scalar.muli v1921 c256_i32_1070
  v1922
def k0_mult75 (i : grid0.Coords) : BitVec 32 :=
  let arg1 : BitVec 32 := BitVec.ofNat 32 (i 1).val
  let c1_i32_1085 : BitVec 32 := 1#32
  let v1941 : BitVec 32 := Scalar.subi arg1 c1_i32_1085
  let c256_i32_1086 : BitVec 32 := 256#32
  let v1942 : BitVec 32 := Scalar.muli v1941 c256_i32_1086
  v1942
def k0_mult76 (i : grid0.Coords) : BitVec 32 :=
  let arg1 : BitVec 32 := BitVec.ofNat 32 (i 1).val
  let c2_i32_1100 : BitVec 32 := 2#32
  let v1960 : BitVec 32 := Scalar.subi arg1 c2_i32_1100
  let c256_i32_1101 : BitVec 32 := 256#32
  let v1961 : BitVec 32 := Scalar.muli v1960 c256_i32_1101
  v1961
def k0_mult77 (i : grid0.Coords) : BitVec 32 :=
  let arg1 : BitVec 32 := BitVec.ofNat 32 (i 1).val
  let c3_i32_1115 : BitVec 32 := 3#32
  let v1979 : BitVec 32 := Scalar.subi arg1 c3_i32_1115
  let c256_i32_1116 : BitVec 32 := 256#32
  let v1980 : BitVec 32 := Scalar.muli v1979 c256_i32_1116
  v1980
def k0_mult78 (i : grid0.Coords) : BitVec 32 :=
  let arg1 : BitVec 32 := BitVec.ofNat 32 (i 1).val
  let c0_i32_1207 : BitVec 32 := 0#32
  let v2143 : BitVec 32 := Scalar.subi arg1 c0_i32_1207
  let c256_i32_1208 : BitVec 32 := 256#32
  let v2144 : BitVec 32 := Scalar.muli v2143 c256_i32_1208
  v2144
def k0_mult79 (i : grid0.Coords) : BitVec 32 :=
  let arg1 : BitVec 32 := BitVec.ofNat 32 (i 1).val
  let c1_i32_1223 : BitVec 32 := 1#32
  let v2163 : BitVec 32 := Scalar.subi arg1 c1_i32_1223
  let c256_i32_1224 : BitVec 32 := 256#32
  let v2164 : BitVec 32 := Scalar.muli v2163 c256_i32_1224
  v2164
def k0_mult80 (i : grid0.Coords) : BitVec 32 :=
  let arg1 : BitVec 32 := BitVec.ofNat 32 (i 1).val
  let c2_i32_1238 : BitVec 32 := 2#32
  let v2182 : BitVec 32 := Scalar.subi arg1 c2_i32_1238
  let c256_i32_1239 : BitVec 32 := 256#32
  let v2183 : BitVec 32 := Scalar.muli v2182 c256_i32_1239
  v2183
def k0_mult81 (i : grid0.Coords) : BitVec 32 :=
  let arg1 : BitVec 32 := BitVec.ofNat 32 (i 1).val
  let c3_i32_1253 : BitVec 32 := 3#32
  let v2201 : BitVec 32 := Scalar.subi arg1 c3_i32_1253
  let c256_i32_1254 : BitVec 32 := 256#32
  let v2202 : BitVec 32 := Scalar.muli v2201 c256_i32_1254
  v2202
def k0_cond6 (i : grid0.Coords) : BitVec 1 :=
  let arg1 : BitVec 32 := BitVec.ofNat 32 (i 1).val
  let c4_i32_234 : BitVec 32 := 4#32
  let v581 : BitVec 1 := Scalar.cmpi .sge arg1 c4_i32_234
  let v582 : BitVec 32 := Scalar.extui v581
  let c0_i32_235 : BitVec 32 := 0#32
  let v583 : BitVec 1 := Scalar.cmpi .ne v582 c0_i32_235
  v583

def k0_mult82 (i : grid0.Coords) : BitVec 32 :=
  let arg1 : BitVec 32 := BitVec.ofNat 32 (i 1).val
  let c4_i32_241 : BitVec 32 := 4#32
  let v587 : BitVec 32 := Scalar.subi arg1 c4_i32_241
  let c256_i32_242 : BitVec 32 := 256#32
  let v588 : BitVec 32 := Scalar.muli v587 c256_i32_242
  v588
def k0_off34 (i : grid0.Coords) (c4_i32_241 : BitVec 32) : Fin 4 → Nat :=
  let c0_243 : Index := 0#32
  let c0_244 : Index := 0#32
  let arg1 : BitVec 32 := BitVec.ofNat 32 (i 1).val
  let v587 : BitVec 32 := Scalar.subi arg1 c4_i32_241
  let c256_i32_242 : BitVec 32 := 256#32
  let v588 : BitVec 32 := Scalar.muli v587 c256_i32_242
  let v589 : BitVec 32 := v588
  let v590 : Index := Scalar.indexCast v589
  let c0_245 : Index := 0#32
  ![0, 0, v590.toNat, 0]
def k0_off35 (i : grid0.Coords) (c4_i32_247 : BitVec 32) : Fin 4 → Nat :=
  let c0_248 : Index := 0#32
  let arg1 : BitVec 32 := BitVec.ofNat 32 (i 1).val
  let v594 : BitVec 32 := Scalar.subi arg1 c4_i32_247
  let v595 : Index := Scalar.indexCast v594
  let c0_249 : Index := 0#32
  let c0_250 : Index := 0#32
  ![0, v595.toNat, 0, 0]
def k0_mult83 (i : grid0.Coords) : BitVec 32 :=
  let arg1 : BitVec 32 := BitVec.ofNat 32 (i 1).val
  let c0_i32_252 : BitVec 32 := 0#32
  let v602 : BitVec 32 := Scalar.subi arg1 c0_i32_252
  let c256_i32_253 : BitVec 32 := 256#32
  let v603 : BitVec 32 := Scalar.muli v602 c256_i32_253
  v603
def k0_mult84 (i : grid0.Coords) : BitVec 32 :=
  let arg1 : BitVec 32 := BitVec.ofNat 32 (i 1).val
  let c1_i32_267 : BitVec 32 := 1#32
  let v621 : BitVec 32 := Scalar.subi arg1 c1_i32_267
  let c256_i32_268 : BitVec 32 := 256#32
  let v622 : BitVec 32 := Scalar.muli v621 c256_i32_268
  v622
def k0_mult85 (i : grid0.Coords) : BitVec 32 :=
  let arg1 : BitVec 32 := BitVec.ofNat 32 (i 1).val
  let c2_i32_282 : BitVec 32 := 2#32
  let v640 : BitVec 32 := Scalar.subi arg1 c2_i32_282
  let c256_i32_283 : BitVec 32 := 256#32
  let v641 : BitVec 32 := Scalar.muli v640 c256_i32_283
  v641
def k0_mult86 (i : grid0.Coords) : BitVec 32 :=
  let arg1 : BitVec 32 := BitVec.ofNat 32 (i 1).val
  let c3_i32_297 : BitVec 32 := 3#32
  let v659 : BitVec 32 := Scalar.subi arg1 c3_i32_297
  let c256_i32_298 : BitVec 32 := 256#32
  let v660 : BitVec 32 := Scalar.muli v659 c256_i32_298
  v660
def k0_off36 (i : grid0.Coords) (c4_i32_335 : BitVec 32) : Fin 4 → Nat :=
  let c0_336 : Index := 0#32
  let arg1 : BitVec 32 := BitVec.ofNat 32 (i 1).val
  let v731 : BitVec 32 := Scalar.subi arg1 c4_i32_335
  let v732 : Index := Scalar.indexCast v731
  let c0_337 : Index := 0#32
  let c0_338 : Index := 0#32
  ![0, v732.toNat, 0, 0]
def k0_mult87 (i : grid0.Coords) : BitVec 32 :=
  let arg1 : BitVec 32 := BitVec.ofNat 32 (i 1).val
  let c4_i32_394 : BitVec 32 := 4#32
  let v832 : BitVec 32 := Scalar.subi arg1 c4_i32_394
  let c256_i32_395 : BitVec 32 := 256#32
  let v833 : BitVec 32 := Scalar.muli v832 c256_i32_395
  v833
def k0_mult88 (i : grid0.Coords) : BitVec 32 :=
  let arg1 : BitVec 32 := BitVec.ofNat 32 (i 1).val
  let c0_i32_405 : BitVec 32 := 0#32
  let v847 : BitVec 32 := Scalar.subi arg1 c0_i32_405
  let c256_i32_406 : BitVec 32 := 256#32
  let v848 : BitVec 32 := Scalar.muli v847 c256_i32_406
  v848
def k0_mult89 (i : grid0.Coords) : BitVec 32 :=
  let arg1 : BitVec 32 := BitVec.ofNat 32 (i 1).val
  let c1_i32_420 : BitVec 32 := 1#32
  let v866 : BitVec 32 := Scalar.subi arg1 c1_i32_420
  let c256_i32_421 : BitVec 32 := 256#32
  let v867 : BitVec 32 := Scalar.muli v866 c256_i32_421
  v867
def k0_mult90 (i : grid0.Coords) : BitVec 32 :=
  let arg1 : BitVec 32 := BitVec.ofNat 32 (i 1).val
  let c2_i32_435 : BitVec 32 := 2#32
  let v885 : BitVec 32 := Scalar.subi arg1 c2_i32_435
  let c256_i32_436 : BitVec 32 := 256#32
  let v886 : BitVec 32 := Scalar.muli v885 c256_i32_436
  v886
def k0_mult91 (i : grid0.Coords) : BitVec 32 :=
  let arg1 : BitVec 32 := BitVec.ofNat 32 (i 1).val
  let c3_i32_450 : BitVec 32 := 3#32
  let v904 : BitVec 32 := Scalar.subi arg1 c3_i32_450
  let c256_i32_451 : BitVec 32 := 256#32
  let v905 : BitVec 32 := Scalar.muli v904 c256_i32_451
  v905
def k0_mult92 (i : grid0.Coords) : BitVec 32 :=
  let arg1 : BitVec 32 := BitVec.ofNat 32 (i 1).val
  let c4_i32_548 : BitVec 32 := 4#32
  let v1077 : BitVec 32 := Scalar.subi arg1 c4_i32_548
  let c256_i32_549 : BitVec 32 := 256#32
  let v1078 : BitVec 32 := Scalar.muli v1077 c256_i32_549
  v1078
def k0_mult93 (i : grid0.Coords) : BitVec 32 :=
  let arg1 : BitVec 32 := BitVec.ofNat 32 (i 1).val
  let c0_i32_559 : BitVec 32 := 0#32
  let v1092 : BitVec 32 := Scalar.subi arg1 c0_i32_559
  let c256_i32_560 : BitVec 32 := 256#32
  let v1093 : BitVec 32 := Scalar.muli v1092 c256_i32_560
  v1093
def k0_mult94 (i : grid0.Coords) : BitVec 32 :=
  let arg1 : BitVec 32 := BitVec.ofNat 32 (i 1).val
  let c1_i32_574 : BitVec 32 := 1#32
  let v1111 : BitVec 32 := Scalar.subi arg1 c1_i32_574
  let c256_i32_575 : BitVec 32 := 256#32
  let v1112 : BitVec 32 := Scalar.muli v1111 c256_i32_575
  v1112
def k0_mult95 (i : grid0.Coords) : BitVec 32 :=
  let arg1 : BitVec 32 := BitVec.ofNat 32 (i 1).val
  let c2_i32_589 : BitVec 32 := 2#32
  let v1130 : BitVec 32 := Scalar.subi arg1 c2_i32_589
  let c256_i32_590 : BitVec 32 := 256#32
  let v1131 : BitVec 32 := Scalar.muli v1130 c256_i32_590
  v1131
def k0_mult96 (i : grid0.Coords) : BitVec 32 :=
  let arg1 : BitVec 32 := BitVec.ofNat 32 (i 1).val
  let c3_i32_604 : BitVec 32 := 3#32
  let v1149 : BitVec 32 := Scalar.subi arg1 c3_i32_604
  let c256_i32_605 : BitVec 32 := 256#32
  let v1150 : BitVec 32 := Scalar.muli v1149 c256_i32_605
  v1150
def k0_mult97 (i : grid0.Coords) : BitVec 32 :=
  let arg1 : BitVec 32 := BitVec.ofNat 32 (i 1).val
  let c4_i32_702 : BitVec 32 := 4#32
  let v1322 : BitVec 32 := Scalar.subi arg1 c4_i32_702
  let c256_i32_703 : BitVec 32 := 256#32
  let v1323 : BitVec 32 := Scalar.muli v1322 c256_i32_703
  v1323
def k0_mult98 (i : grid0.Coords) : BitVec 32 :=
  let arg1 : BitVec 32 := BitVec.ofNat 32 (i 1).val
  let c0_i32_713 : BitVec 32 := 0#32
  let v1337 : BitVec 32 := Scalar.subi arg1 c0_i32_713
  let c256_i32_714 : BitVec 32 := 256#32
  let v1338 : BitVec 32 := Scalar.muli v1337 c256_i32_714
  v1338
def k0_mult99 (i : grid0.Coords) : BitVec 32 :=
  let arg1 : BitVec 32 := BitVec.ofNat 32 (i 1).val
  let c1_i32_728 : BitVec 32 := 1#32
  let v1356 : BitVec 32 := Scalar.subi arg1 c1_i32_728
  let c256_i32_729 : BitVec 32 := 256#32
  let v1357 : BitVec 32 := Scalar.muli v1356 c256_i32_729
  v1357
def k0_mult100 (i : grid0.Coords) : BitVec 32 :=
  let arg1 : BitVec 32 := BitVec.ofNat 32 (i 1).val
  let c2_i32_743 : BitVec 32 := 2#32
  let v1375 : BitVec 32 := Scalar.subi arg1 c2_i32_743
  let c256_i32_744 : BitVec 32 := 256#32
  let v1376 : BitVec 32 := Scalar.muli v1375 c256_i32_744
  v1376
def k0_mult101 (i : grid0.Coords) : BitVec 32 :=
  let arg1 : BitVec 32 := BitVec.ofNat 32 (i 1).val
  let c3_i32_758 : BitVec 32 := 3#32
  let v1394 : BitVec 32 := Scalar.subi arg1 c3_i32_758
  let c256_i32_759 : BitVec 32 := 256#32
  let v1395 : BitVec 32 := Scalar.muli v1394 c256_i32_759
  v1395
def k0_mult102 (i : grid0.Coords) : BitVec 32 :=
  let arg1 : BitVec 32 := BitVec.ofNat 32 (i 1).val
  let c4_i32_856 : BitVec 32 := 4#32
  let v1567 : BitVec 32 := Scalar.subi arg1 c4_i32_856
  let c256_i32_857 : BitVec 32 := 256#32
  let v1568 : BitVec 32 := Scalar.muli v1567 c256_i32_857
  v1568
def k0_off37 (i : grid0.Coords) (c4_i32_856 : BitVec 32) : Fin 4 → Nat :=
  let c0_858 : Index := 0#32
  let c1_859 : Index := 1#32
  let arg1 : BitVec 32 := BitVec.ofNat 32 (i 1).val
  let v1567 : BitVec 32 := Scalar.subi arg1 c4_i32_856
  let c256_i32_857 : BitVec 32 := 256#32
  let v1568 : BitVec 32 := Scalar.muli v1567 c256_i32_857
  let v1569 : BitVec 32 := v1568
  let v1570 : Index := Scalar.indexCast v1569
  let c0_860 : Index := 0#32
  ![0, 1, v1570.toNat, 0]
def k0_off38 (i : grid0.Coords) (c4_i32_862 : BitVec 32) : Fin 4 → Nat :=
  let c1_863 : Index := 1#32
  let arg1 : BitVec 32 := BitVec.ofNat 32 (i 1).val
  let v1574 : BitVec 32 := Scalar.subi arg1 c4_i32_862
  let v1575 : Index := Scalar.indexCast v1574
  let c0_864 : Index := 0#32
  let c0_865 : Index := 0#32
  ![1, v1575.toNat, 0, 0]
def k0_mult103 (i : grid0.Coords) : BitVec 32 :=
  let arg1 : BitVec 32 := BitVec.ofNat 32 (i 1).val
  let c0_i32_867 : BitVec 32 := 0#32
  let v1582 : BitVec 32 := Scalar.subi arg1 c0_i32_867
  let c256_i32_868 : BitVec 32 := 256#32
  let v1583 : BitVec 32 := Scalar.muli v1582 c256_i32_868
  v1583
def k0_mult104 (i : grid0.Coords) : BitVec 32 :=
  let arg1 : BitVec 32 := BitVec.ofNat 32 (i 1).val
  let c1_i32_882 : BitVec 32 := 1#32
  let v1601 : BitVec 32 := Scalar.subi arg1 c1_i32_882
  let c256_i32_883 : BitVec 32 := 256#32
  let v1602 : BitVec 32 := Scalar.muli v1601 c256_i32_883
  v1602
def k0_mult105 (i : grid0.Coords) : BitVec 32 :=
  let arg1 : BitVec 32 := BitVec.ofNat 32 (i 1).val
  let c2_i32_897 : BitVec 32 := 2#32
  let v1620 : BitVec 32 := Scalar.subi arg1 c2_i32_897
  let c256_i32_898 : BitVec 32 := 256#32
  let v1621 : BitVec 32 := Scalar.muli v1620 c256_i32_898
  v1621
def k0_mult106 (i : grid0.Coords) : BitVec 32 :=
  let arg1 : BitVec 32 := BitVec.ofNat 32 (i 1).val
  let c3_i32_912 : BitVec 32 := 3#32
  let v1639 : BitVec 32 := Scalar.subi arg1 c3_i32_912
  let c256_i32_913 : BitVec 32 := 256#32
  let v1640 : BitVec 32 := Scalar.muli v1639 c256_i32_913
  v1640
def k0_off39 (i : grid0.Coords) (c4_i32_951 : BitVec 32) : Fin 4 → Nat :=
  let c1_952 : Index := 1#32
  let arg1 : BitVec 32 := BitVec.ofNat 32 (i 1).val
  let v1711 : BitVec 32 := Scalar.subi arg1 c4_i32_951
  let v1712 : Index := Scalar.indexCast v1711
  let c0_953 : Index := 0#32
  let c0_954 : Index := 0#32
  ![1, v1712.toNat, 0, 0]
def k0_mult107 (i : grid0.Coords) : BitVec 32 :=
  let arg1 : BitVec 32 := BitVec.ofNat 32 (i 1).val
  let c4_i32_1010 : BitVec 32 := 4#32
  let v1812 : BitVec 32 := Scalar.subi arg1 c4_i32_1010
  let c256_i32_1011 : BitVec 32 := 256#32
  let v1813 : BitVec 32 := Scalar.muli v1812 c256_i32_1011
  v1813
def k0_mult108 (i : grid0.Coords) : BitVec 32 :=
  let arg1 : BitVec 32 := BitVec.ofNat 32 (i 1).val
  let c0_i32_1021 : BitVec 32 := 0#32
  let v1827 : BitVec 32 := Scalar.subi arg1 c0_i32_1021
  let c256_i32_1022 : BitVec 32 := 256#32
  let v1828 : BitVec 32 := Scalar.muli v1827 c256_i32_1022
  v1828
def k0_mult109 (i : grid0.Coords) : BitVec 32 :=
  let arg1 : BitVec 32 := BitVec.ofNat 32 (i 1).val
  let c1_i32_1036 : BitVec 32 := 1#32
  let v1846 : BitVec 32 := Scalar.subi arg1 c1_i32_1036
  let c256_i32_1037 : BitVec 32 := 256#32
  let v1847 : BitVec 32 := Scalar.muli v1846 c256_i32_1037
  v1847
def k0_mult110 (i : grid0.Coords) : BitVec 32 :=
  let arg1 : BitVec 32 := BitVec.ofNat 32 (i 1).val
  let c2_i32_1051 : BitVec 32 := 2#32
  let v1865 : BitVec 32 := Scalar.subi arg1 c2_i32_1051
  let c256_i32_1052 : BitVec 32 := 256#32
  let v1866 : BitVec 32 := Scalar.muli v1865 c256_i32_1052
  v1866
def k0_mult111 (i : grid0.Coords) : BitVec 32 :=
  let arg1 : BitVec 32 := BitVec.ofNat 32 (i 1).val
  let c3_i32_1066 : BitVec 32 := 3#32
  let v1884 : BitVec 32 := Scalar.subi arg1 c3_i32_1066
  let c256_i32_1067 : BitVec 32 := 256#32
  let v1885 : BitVec 32 := Scalar.muli v1884 c256_i32_1067
  v1885
def k0_mult112 (i : grid0.Coords) : BitVec 32 :=
  let arg1 : BitVec 32 := BitVec.ofNat 32 (i 1).val
  let c4_i32_1164 : BitVec 32 := 4#32
  let v2057 : BitVec 32 := Scalar.subi arg1 c4_i32_1164
  let c256_i32_1165 : BitVec 32 := 256#32
  let v2058 : BitVec 32 := Scalar.muli v2057 c256_i32_1165
  v2058
def k0_mult113 (i : grid0.Coords) : BitVec 32 :=
  let arg1 : BitVec 32 := BitVec.ofNat 32 (i 1).val
  let c0_i32_1175 : BitVec 32 := 0#32
  let v2072 : BitVec 32 := Scalar.subi arg1 c0_i32_1175
  let c256_i32_1176 : BitVec 32 := 256#32
  let v2073 : BitVec 32 := Scalar.muli v2072 c256_i32_1176
  v2073
def k0_mult114 (i : grid0.Coords) : BitVec 32 :=
  let arg1 : BitVec 32 := BitVec.ofNat 32 (i 1).val
  let c1_i32_1190 : BitVec 32 := 1#32
  let v2091 : BitVec 32 := Scalar.subi arg1 c1_i32_1190
  let c256_i32_1191 : BitVec 32 := 256#32
  let v2092 : BitVec 32 := Scalar.muli v2091 c256_i32_1191
  v2092
def k0_mult115 (i : grid0.Coords) : BitVec 32 :=
  let arg1 : BitVec 32 := BitVec.ofNat 32 (i 1).val
  let c2_i32_1205 : BitVec 32 := 2#32
  let v2110 : BitVec 32 := Scalar.subi arg1 c2_i32_1205
  let c256_i32_1206 : BitVec 32 := 256#32
  let v2111 : BitVec 32 := Scalar.muli v2110 c256_i32_1206
  v2111
def k0_mult116 (i : grid0.Coords) : BitVec 32 :=
  let arg1 : BitVec 32 := BitVec.ofNat 32 (i 1).val
  let c3_i32_1220 : BitVec 32 := 3#32
  let v2129 : BitVec 32 := Scalar.subi arg1 c3_i32_1220
  let c256_i32_1221 : BitVec 32 := 256#32
  let v2130 : BitVec 32 := Scalar.muli v2129 c256_i32_1221
  v2130
def k0_mult117 (i : grid0.Coords) : BitVec 32 :=
  let arg1 : BitVec 32 := BitVec.ofNat 32 (i 1).val
  let c4_i32_1318 : BitVec 32 := 4#32
  let v2302 : BitVec 32 := Scalar.subi arg1 c4_i32_1318
  let c256_i32_1319 : BitVec 32 := 256#32
  let v2303 : BitVec 32 := Scalar.muli v2302 c256_i32_1319
  v2303
def k0_mult118 (i : grid0.Coords) : BitVec 32 :=
  let arg1 : BitVec 32 := BitVec.ofNat 32 (i 1).val
  let c0_i32_1329 : BitVec 32 := 0#32
  let v2317 : BitVec 32 := Scalar.subi arg1 c0_i32_1329
  let c256_i32_1330 : BitVec 32 := 256#32
  let v2318 : BitVec 32 := Scalar.muli v2317 c256_i32_1330
  v2318
def k0_mult119 (i : grid0.Coords) : BitVec 32 :=
  let arg1 : BitVec 32 := BitVec.ofNat 32 (i 1).val
  let c1_i32_1344 : BitVec 32 := 1#32
  let v2336 : BitVec 32 := Scalar.subi arg1 c1_i32_1344
  let c256_i32_1345 : BitVec 32 := 256#32
  let v2337 : BitVec 32 := Scalar.muli v2336 c256_i32_1345
  v2337
def k0_mult120 (i : grid0.Coords) : BitVec 32 :=
  let arg1 : BitVec 32 := BitVec.ofNat 32 (i 1).val
  let c2_i32_1359 : BitVec 32 := 2#32
  let v2355 : BitVec 32 := Scalar.subi arg1 c2_i32_1359
  let c256_i32_1360 : BitVec 32 := 256#32
  let v2356 : BitVec 32 := Scalar.muli v2355 c256_i32_1360
  v2356
def k0_mult121 (i : grid0.Coords) : BitVec 32 :=
  let arg1 : BitVec 32 := BitVec.ofNat 32 (i 1).val
  let c3_i32_1374 : BitVec 32 := 3#32
  let v2374 : BitVec 32 := Scalar.subi arg1 c3_i32_1374
  let c256_i32_1375 : BitVec 32 := 256#32
  let v2375 : BitVec 32 := Scalar.muli v2374 c256_i32_1375
  v2375
def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_0 : BitVec 32 := 0#32
  let v5 : BitVec 1 := Scalar.cmpi .ne v4 c0_i32_0
  v5

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x8x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x4096x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x2x4096x128 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x2x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== KernelIdeal.lean ====
variable {F : FTy → Type} [FloatOps F] [Named F]
def κ : String → Option EReal := fun
  | "log2_e" => some (((Real.log 2)⁻¹ : ℝ) : EReal)
  | "sm_scale_log2_e" => some (((Real.log 2)⁻¹ * (Real.sqrt 128)⁻¹ : ℝ) : EReal)
  | _ => none
-- ==== ReferenceIdeal.lean ====
abbrev S9x4096x1024 : Shape := ⟨3, ![9, 4096, 1024]⟩
abbrev S9x4096x256 : Shape := ⟨3, ![9, 4096, 256]⟩
abbrev S8 : Shape := ⟨1, ![8]⟩
abbrev S9x4096x8x128 : Shape := ⟨4, ![9, 4096, 8, 128]⟩
abbrev S_ : Shape := ⟨0, ![]⟩
abbrev S9x4096x8 : Shape := ⟨3, ![9, 4096, 8]⟩
abbrev S9x4096x8x1 : Shape := ⟨4, ![9, 4096, 8, 1]⟩
abbrev S9x4096x2x128 : Shape := ⟨4, ![9, 4096, 2, 128]⟩
abbrev S9x4096x2 : Shape := ⟨3, ![9, 4096, 2]⟩
abbrev S9x4096x2x1 : Shape := ⟨4, ![9, 4096, 2, 1]⟩
abbrev S9x2x128 : Shape := ⟨3, ![9, 2, 128]⟩
abbrev S9x1x2x128 : Shape := ⟨4, ![9, 1, 2, 128]⟩
abbrev S9x2x4096x128 : Shape := ⟨4, ![9, 2, 4096, 128]⟩
abbrev S2x4 : Shape := ⟨2, ![2, 4]⟩
abbrev S1x2x4x1 : Shape := ⟨4, ![1, 2, 4, 1]⟩
abbrev S9x4096x2x4 : Shape := ⟨4, ![9, 4096, 2, 4]⟩
abbrev S9x4096x2x4x128 : Shape := ⟨5, ![9, 4096, 2, 4, 128]⟩
abbrev S9x2x4096x4096x4 : Shape := ⟨5, ![9, 2, 4096, 4096, 4]⟩
abbrev S9x2x4x4096x4096 : Shape := ⟨5, ![9, 2, 4, 4096, 4096]⟩
abbrev S9x2x4x4096 : Shape := ⟨4, ![9, 2, 4, 4096]⟩
abbrev S9x2x4x4096x1 : Shape := ⟨5, ![9, 2, 4, 4096, 1]⟩
abbrev S9x2x4096 : Shape := ⟨3, ![9, 2, 4096]⟩
abbrev S9x2x1x1x4096 : Shape := ⟨5, ![9, 2, 1, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S9x2x128x4x4096 : Shape := ⟨5, ![9, 2, 128, 4, 4096]⟩
abbrev S9x4096x2x4x1 : Shape := ⟨5, ![9, 4096, 2, 4, 1]⟩
abbrev S9x1x2x1x128 : Shape := ⟨5, ![9, 1, 2, 1, 128]⟩
abbrev S9x8x4096 : Shape := ⟨3, ![9, 8, 4096]⟩

abbrev nBuf : Space → Nat
  | .hbm => 247
  | .vmem => 9
  | .smem => 0
  | _ => 0

abbrev hbmTy0_0 (i : Nat) : BufTy := match i % 128 with
  | 0 => ⟨S9x4096x1024, .bf16⟩
  | 1 => ⟨S9x4096x256, .bf16⟩
  | 2 => ⟨S9x4096x256, .bf16⟩
  | 3 => ⟨S8, .f32⟩
  | 4 => ⟨S9x4096x8x128, .bf16⟩
  | 5 => ⟨S9x4096x8x128, .f32⟩
  | 6 => ⟨S9x4096x8x128, .f32⟩
  | 7 => ⟨S_, .f32⟩
  | 8 => ⟨S9x4096x8, .f32⟩
  | 9 => ⟨S9x4096x8x1, .f32⟩
  | 10 => ⟨S_, .f32⟩
  | 11 => ⟨S9x4096x8x1, .f32⟩
  | 12 => ⟨S9x4096x8x1, .f32⟩
  | 13 => ⟨S_, .f32⟩
  | 14 => ⟨S9x4096x8x1, .f32⟩
  | 15 => ⟨S9x4096x8x1, .i1⟩
  | 16 => ⟨S9x4096x8x1, .f32⟩
  | 17 => ⟨S_, .f32⟩
  | 18 => ⟨S_, .f32⟩
  | 19 => ⟨S9x4096x8x1, .f32⟩
  | 20 => ⟨S9x4096x8x1, .f32⟩
  | 21 => ⟨S9x4096x8x1, .f32⟩
  | 22 => ⟨S_, .f32⟩
  | 23 => ⟨S9x4096x8x1, .f32⟩
  | 24 => ⟨S9x4096x8x1, .f32⟩
  | 25 => ⟨S_, .f32⟩
  | 26 => ⟨S_, .f32⟩
  | 27 => ⟨S9x4096x8x1, .f32⟩
  | 28 => ⟨S9x4096x8x1, .f32⟩
  | 29 => ⟨S9x4096x8x1, .f32⟩
  | 30 => ⟨S_, .f32⟩
  | 31 => ⟨S9x4096x8x1, .f32⟩
  | 32 => ⟨S9x4096x8x1, .f32⟩
  | 33 => ⟨S9x4096x8x128, .f32⟩
  | 34 => ⟨S9x4096x8x128, .f32⟩
  | 35 => ⟨S_, .f32⟩
  | 36 => ⟨S_, .f32⟩
  | 37 => ⟨S_, .f32⟩
  | 38 => ⟨S9x4096x8x128, .f32⟩
  | 39 => ⟨S9x4096x8x128, .f32⟩
  | 40 => ⟨S_, .f32⟩
  | 41 => ⟨S9x4096x8x128, .f32⟩
  | 42 => ⟨S9x4096x8x128, .f32⟩
  | 43 => ⟨S_, .f32⟩
  | 44 => ⟨S9x4096x8x1, .f32⟩
  | 45 => ⟨S9x4096x8x1, .f32⟩
  | 46 => ⟨S9x4096x8, .f32⟩
  | 47 => ⟨S9x4096x2x128, .bf16⟩
  | 48 => ⟨S9x4096x2x128, .f32⟩
  | 49 => ⟨S9x4096x2x128, .f32⟩
  | 50 => ⟨S_, .f32⟩
  | 51 => ⟨S9x4096x2, .f32⟩
  | 52 => ⟨S9x4096x2x1, .f32⟩
  | 53 => ⟨S_, .f32⟩
  | 54 => ⟨S9x4096x2x1, .f32⟩
  | 55 => ⟨S9x4096x2x1, .f32⟩
  | 56 => ⟨S_, .f32⟩
  | 57 => ⟨S9x4096x2x1, .f32⟩
  | 58 => ⟨S9x4096x2x1, .i1⟩
  | 59 => ⟨S9x4096x2x1, .f32⟩
  | 60 => ⟨S_, .f32⟩
  | 61 => ⟨S_, .f32⟩
  | 62 => ⟨S9x4096x2x1, .f32⟩
  | 63 => ⟨S9x4096x2x1, .f32⟩
  | 64 => ⟨S9x4096x2x1, .f32⟩
  | 65 => ⟨S_, .f32⟩
  | 66 => ⟨S9x4096x2x1, .f32⟩
  | 67 => ⟨S9x4096x2x1, .f32⟩
  | 68 => ⟨S_, .f32⟩
  | 69 => ⟨S_, .f32⟩
  | 70 => ⟨S9x4096x2x1, .f32⟩
  | 71 => ⟨S9x4096x2x1, .f32⟩
  | 72 => ⟨S9x4096x2x1, .f32⟩
  | 73 => ⟨S_, .f32⟩
  | 74 => ⟨S9x4096x2x1, .f32⟩
  | 75 => ⟨S9x4096x2x1, .f32⟩
  | 76 => ⟨S9x4096x2x128, .f32⟩
  | 77 => ⟨S9x4096x2x128, .f32⟩
  | 78 => ⟨S_, .f32⟩
  | 79 => ⟨S_, .f32⟩
  | 80 => ⟨S_, .f32⟩
  | 81 => ⟨S9x4096x2x128, .f32⟩
  | 82 => ⟨S9x4096x2x128, .f32⟩
  | 83 => ⟨S_, .f32⟩
  | 84 => ⟨S9x4096x2x128, .f32⟩
  | 85 => ⟨S9x4096x2x128, .f32⟩
  | 86 => ⟨S_, .f32⟩
  | 87 => ⟨S9x4096x2x1, .f32⟩
  | 88 => ⟨S9x4096x2x1, .f32⟩
  | 89 => ⟨S9x4096x2, .f32⟩
  | 90 => ⟨S9x4096x2x128, .bf16⟩
  | 91 => ⟨S9x4096x2x128, .f32⟩
  | 92 => ⟨S9x4096x2x128, .f32⟩
  | 93 => ⟨S_, .f32⟩
  | 94 => ⟨S9x2x128, .f32⟩
  | 95 => ⟨S9x1x2x128, .f32⟩
  | 96 => ⟨S_, .f32⟩
  | 97 => ⟨S9x1x2x128, .f32⟩
  | 98 => ⟨S9x1x2x128, .f32⟩
  | 99 => ⟨S_, .f32⟩
  | 100 => ⟨S9x1x2x128, .f32⟩
  | 101 => ⟨S9x1x2x128, .i1⟩
  | 102 => ⟨S9x1x2x128, .f32⟩
  | 103 => ⟨S_, .f32⟩
  | 104 => ⟨S_, .f32⟩
  | 105 => ⟨S9x1x2x128, .f32⟩
  | 106 => ⟨S9x1x2x128, .f32⟩
  | 107 => ⟨S9x1x2x128, .f32⟩
  | 108 => ⟨S_, .f32⟩
  | 109 => ⟨S9x1x2x128, .f32⟩
  | 110 => ⟨S9x1x2x128, .f32⟩
  | 111 => ⟨S_, .f32⟩
  | 112 => ⟨S_, .f32⟩
  | 113 => ⟨S9x1x2x128, .f32⟩
  | 114 => ⟨S9x1x2x128, .f32⟩
  | 115 => ⟨S9x1x2x128, .f32⟩
  | 116 => ⟨S_, .f32⟩
  | 117 => ⟨S9x1x2x128, .f32⟩
  | 118 => ⟨S9x1x2x128, .f32⟩
  | 119 => ⟨S9x4096x2x128, .f32⟩
  | 120 => ⟨S9x4096x2x128, .f32⟩
  | 121 => ⟨S_, .f32⟩
  | 122 => ⟨S_, .f32⟩
  | 123 => ⟨S_, .f32⟩
  | 124 => ⟨S9x4096x2x128, .f32⟩
  | 125 => ⟨S9x4096x2x128, .f32⟩
  | 126 => ⟨S_, .f32⟩
  | 127 => ⟨S9x4096x2x128, .f32⟩
  | _ => ⟨S9x4096x1024, .bf16⟩

abbrev hbmTy0_1 (i : Nat) : BufTy := match i % 128 with
  | 0 => ⟨S9x4096x2x128, .f32⟩
  | 1 => ⟨S_, .f32⟩
  | 2 => ⟨S9x1x2x128, .f32⟩
  | 3 => ⟨S9x1x2x128, .f32⟩
  | 4 => ⟨S9x2x128, .f32⟩
  | 5 => ⟨S9x2x4096x128, .f32⟩
  | 6 => ⟨S9x2x4096x128, .f32⟩
  | 7 => ⟨S9x4096x8x128, .fp8e4m3⟩
  | 8 => ⟨S9x2x4096x128, .fp8e4m3⟩
  | 9 => ⟨S9x2x4096x128, .fp8e4m3⟩
  | 10 => ⟨S9x4096x8x128, .f32⟩
  | 11 => ⟨S9x2x4096x128, .f32⟩
  | 12 => ⟨S9x2x4096x128, .f32⟩
  | 13 => ⟨S2x4, .f32⟩
  | 14 => ⟨S1x2x4x1, .f32⟩
  | 15 => ⟨S9x4096x2x4, .f32⟩
  | 16 => ⟨S9x4096x2x4x128, .f32⟩
  | 17 => ⟨S9x2x4096x4096x4, .f32⟩
  | 18 => ⟨S9x2x4x4096x4096, .f32⟩
  | 19 => ⟨S9x2x4x4096, .f32⟩
  | 20 => ⟨S_, .f32⟩
  | 21 => ⟨S_, .f32⟩
  | 22 => ⟨S9x2x4x4096, .f32⟩
  | 23 => ⟨S9x2x4x4096, .f32⟩
  | 24 => ⟨S9x2x4x4096x1, .f32⟩
  | 25 => ⟨S9x2x4x4096x4096, .f32⟩
  | 26 => ⟨S9x2x4x4096x4096, .f32⟩
  | 27 => ⟨S9x2x4096, .f32⟩
  | 28 => ⟨S9x2x1x1x4096, .f32⟩
  | 29 => ⟨S9x2x4x4096x4096, .f32⟩
  | 30 => ⟨S9x2x4x4096x4096, .f32⟩
  | 31 => ⟨S4096, .i32⟩
  | 32 => ⟨S4096x1, .i32⟩
  | 33 => ⟨S4096, .i32⟩
  | 34 => ⟨S1x4096, .i32⟩
  | 35 => ⟨S4096x4096, .i32⟩
  | 36 => ⟨S4096x4096, .i32⟩
  | 37 => ⟨S4096x4096, .i1⟩
  | 38 => ⟨S_, .i32⟩
  | 39 => ⟨S4096x1, .i32⟩
  | 40 => ⟨S4096x1, .i32⟩
  | 41 => ⟨S4096x4096, .i32⟩
  | 42 => ⟨S4096x4096, .i32⟩
  | 43 => ⟨S4096x4096, .i1⟩
  | 44 => ⟨S4096x4096, .i1⟩
  | 45 => ⟨S_, .f32⟩
  | 46 => ⟨S_, .f32⟩
  | 47 => ⟨S9x2x4x4096x4096, .i1⟩
  | 48 => ⟨S9x2x4x4096x4096, .f32⟩
  | 49 => ⟨S9x2x4x4096x4096, .f32⟩
  | 50 => ⟨S_, .f32⟩
  | 51 => ⟨S9x2x4x4096, .f32⟩
  | 52 => ⟨S9x2x4x4096, .f32⟩
  | 53 => ⟨S9x2x4x4096, .f32⟩
  | 54 => ⟨S9x2x4x4096x1, .f32⟩
  | 55 => ⟨S9x2x4x4096x4096, .f32⟩
  | 56 => ⟨S9x2x4x4096x4096, .f32⟩
  | 57 => ⟨S9x2x4x4096x4096, .f32⟩
  | 58 => ⟨S_, .f32⟩
  | 59 => ⟨S9x2x4x4096, .f32⟩
  | 60 => ⟨S9x2x4x4096, .f32⟩
  | 61 => ⟨S9x2x4x4096, .f32⟩
  | 62 => ⟨S9x2x4x4096, .f32⟩
  | 63 => ⟨S9x2x4x4096, .f32⟩
  | 64 => ⟨S9x2x4x4096x4096, .f32⟩
  | 65 => ⟨S_, .f32⟩
  | 66 => ⟨S9x2x4x4096, .f32⟩
  | 67 => ⟨S9x2x4x4096x1, .f32⟩
  | 68 => ⟨S_, .f32⟩
  | 69 => ⟨S9x2x4x4096x1, .f32⟩
  | 70 => ⟨S9x2x4x4096x1, .f32⟩
  | 71 => ⟨S_, .f32⟩
  | 72 => ⟨S9x2x4x4096x1, .f32⟩
  | 73 => ⟨S9x2x4x4096x1, .i1⟩
  | 74 => ⟨S9x2x4x4096x1, .f32⟩
  | 75 => ⟨S_, .f32⟩
  | 76 => ⟨S_, .f32⟩
  | 77 => ⟨S9x2x4x4096x1, .f32⟩
  | 78 => ⟨S9x2x4x4096x1, .f32⟩
  | 79 => ⟨S9x2x4x4096x1, .f32⟩
  | 80 => ⟨S_, .f32⟩
  | 81 => ⟨S9x2x4x4096x1, .f32⟩
  | 82 => ⟨S9x2x4x4096x1, .f32⟩
  | 83 => ⟨S_, .f32⟩
  | 84 => ⟨S_, .f32⟩
  | 85 => ⟨S9x2x4x4096x1, .f32⟩
  | 86 => ⟨S9x2x4x4096x1, .f32⟩
  | 87 => ⟨S9x2x4x4096x1, .f32⟩
  | 88 => ⟨S_, .f32⟩
  | 89 => ⟨S9x2x4x4096x1, .f32⟩
  | 90 => ⟨S9x2x4x4096x1, .f32⟩
  | 91 => ⟨S9x2x4x4096x4096, .f32⟩
  | 92 => ⟨S9x2x4x4096x4096, .f32⟩
  | 93 => ⟨S_, .f32⟩
  | 94 => ⟨S_, .f32⟩
  | 95 => ⟨S_, .f32⟩
  | 96 => ⟨S9x2x4x4096x4096, .f32⟩
  | 97 => ⟨S9x2x4x4096x4096, .f32⟩
  | 98 => ⟨S_, .f32⟩
  | 99 => ⟨S9x2x4x4096x4096, .f32⟩
  | 100 => ⟨S9x2x4x4096x4096, .f32⟩
  | 101 => ⟨S_, .f32⟩
  | 102 => ⟨S9x2x4x4096x1, .f32⟩
  | 103 => ⟨S9x2x4x4096x1, .f32⟩
  | 104 => ⟨S9x2x4x4096, .f32⟩
  | 105 => ⟨S9x2x128x4x4096, .f32⟩
  | 106 => ⟨S9x4096x2x4x128, .f32⟩
  | 107 => ⟨S9x2x4x4096, .f32⟩
  | 108 => ⟨S9x4096x2x4, .f32⟩
  | 109 => ⟨S9x4096x2x4x1, .f32⟩
  | 110 => ⟨S9x4096x2x4x128, .f32⟩
  | 111 => ⟨S9x4096x2x4x128, .f32⟩
  | 112 => ⟨S9x1x2x1x128, .f32⟩
  | 113 => ⟨S9x4096x2x4x128, .f32⟩
  | 114 => ⟨S9x4096x2x4x128, .f32⟩
  | 115 => ⟨S9x4096x1024, .f32⟩
  | 116 => ⟨S9x4096x1024, .bf16⟩
  | 117 => ⟨S9x8x4096, .f32⟩
  | 118 => ⟨S9x2x4096, .f32⟩
  | _ => ⟨S9x4096x1024, .bf16⟩

abbrev hbmTy (i : Nat) : BufTy := match i / 128 with
  | 0 => hbmTy0_0 i
  | 1 => hbmTy0_1 i
  | _ => ⟨S9x4096x1024, .bf16⟩

abbrev bufTy : (tb : Table) → Fin (tcTables nBuf tb) → BufTy
  | .hbm, ⟨i, _⟩ => hbmTy i
  | .local _ .vmem, ⟨0, _⟩ => ⟨S9x4096x8x128, .f32⟩
  | .local _ .vmem, ⟨1, _⟩ => ⟨S9x2x4096x128, .f32⟩
  | .local _ .vmem, ⟨2, _⟩ => ⟨S9x2x4096x128, .f32⟩
  | .local _ .vmem, ⟨3, _⟩ => ⟨S9x4096x8x128, .fp8e4m3⟩
  | .local _ .vmem, ⟨4, _⟩ => ⟨S9x2x4096x128, .fp8e4m3⟩
  | .local _ .vmem, ⟨5, _⟩ => ⟨S9x2x4096x128, .fp8e4m3⟩
  | .local _ .vmem, ⟨6, _⟩ => ⟨S9x4096x8x128, .f32⟩
  | .local _ .vmem, ⟨7, _⟩ => ⟨S9x2x4096x128, .f32⟩
  | .local _ .vmem, ⟨8, _⟩ => ⟨S9x2x4096x128, .f32⟩
  | _, _ => ⟨S9x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_cst_7 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v22 : Ref sig .tc := ⟨.hbm, 42, rfl⟩
abbrev main_cst_8 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_9 : Ref sig .tc := ⟨.hbm, 50, rfl⟩
abbrev main_v29 : Ref sig .tc := ⟨.hbm, 51, rfl⟩
abbrev main_v30 : Ref sig .tc := ⟨.hbm, 52, rfl⟩
abbrev main_cst_10 : Ref sig .tc := ⟨.hbm, 53, rfl⟩
abbrev main_v31 : Ref sig .tc := ⟨.hbm, 54, rfl⟩
abbrev main_v32 : Ref sig .tc := ⟨.hbm, 55, rfl⟩
abbrev main_cst_11 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_12 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_13 : Ref sig .tc := ⟨.hbm, 65, rfl⟩
abbrev main_v40 : Ref sig .tc := ⟨.hbm, 66, rfl⟩
abbrev main_v41 : Ref sig .tc := ⟨.hbm, 67, rfl⟩
abbrev main_cst_14 : Ref sig .tc := ⟨.hbm, 68, rfl⟩
abbrev main_call2_v0 : Ref sig .tc := ⟨.hbm, 69, rfl⟩
abbrev main_call2_v1 : Ref sig .tc := ⟨.hbm, 70, rfl⟩
abbrev main_v42 : Ref sig .tc := ⟨.hbm, 71, rfl⟩
abbrev main_v43 : Ref sig .tc := ⟨.hbm, 72, rfl⟩
abbrev main_cst_15 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_16 : Ref sig .tc := ⟨.hbm, 78, rfl⟩
abbrev main_cst_17 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_v48 : Ref sig .tc := ⟨.hbm, 85, rfl⟩
abbrev main_cst_18 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_cst_19 : Ref sig .tc := ⟨.hbm, 93, rfl⟩
abbrev main_v55 : Ref sig .tc := ⟨.hbm, 94, rfl⟩
abbrev main_v56 : Ref sig .tc := ⟨.hbm, 95, rfl⟩
abbrev main_cst_20 : Ref sig .tc := ⟨.hbm, 96, rfl⟩
abbrev main_v57 : Ref sig .tc := ⟨.hbm, 97, rfl⟩
abbrev main_v58 : Ref sig .tc := ⟨.hbm, 98, rfl⟩
abbrev main_cst_21 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_cst_22 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_cst_23 : Ref sig .tc := ⟨.hbm, 108, rfl⟩
abbrev main_v66 : Ref sig .tc := ⟨.hbm, 109, rfl⟩
abbrev main_v67 : Ref sig .tc := ⟨.hbm, 110, rfl⟩
abbrev main_cst_24 : Ref sig .tc := ⟨.hbm, 111, rfl⟩
abbrev main_call4_v0 : Ref sig .tc := ⟨.hbm, 112, rfl⟩
abbrev main_call4_v1 : Ref sig .tc := ⟨.hbm, 113, rfl⟩
abbrev main_v68 : Ref sig .tc := ⟨.hbm, 114, rfl⟩
abbrev main_v69 : Ref sig .tc := ⟨.hbm, 115, rfl⟩
abbrev main_cst_25 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_cst_26 : Ref sig .tc := ⟨.hbm, 121, rfl⟩
abbrev main_cst_27 : Ref sig .tc := ⟨.hbm, 122, rfl⟩
abbrev main_call5_v0 : Ref sig .tc := ⟨.hbm, 123, rfl⟩
abbrev main_call5_v1 : Ref sig .tc := ⟨.hbm, 124, rfl⟩
abbrev main_call5_v2 : Ref sig .tc := ⟨.hbm, 125, rfl⟩
abbrev main_call5_v3 : Ref sig .tc := ⟨.hbm, 126, rfl⟩
abbrev main_call5_v4 : Ref sig .tc := ⟨.hbm, 127, rfl⟩
abbrev main_v74 : Ref sig .tc := ⟨.hbm, 128, rfl⟩
abbrev main_cst_28 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80_0 : Ref sig .tc := ⟨.hbm, 135, rfl⟩
abbrev main_v80_1 : Ref sig .tc := ⟨.hbm, 136, rfl⟩
abbrev main_v80_2 : Ref sig .tc := ⟨.hbm, 137, rfl⟩
abbrev main_v80_3 : Ref sig .tc := ⟨.hbm, 138, rfl⟩
abbrev main_v80_4 : Ref sig .tc := ⟨.hbm, 139, rfl⟩
abbrev main_v80_5 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_cst_29 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_c : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_cst_30 : Ref sig .tc := ⟨.hbm, 173, rfl⟩
abbrev main_call6_v0 : Ref sig .tc := ⟨.hbm, 174, rfl⟩
abbrev main_call6_v1 : Ref sig .tc := ⟨.hbm, 175, rfl⟩
abbrev main_call6_v2 : Ref sig .tc := ⟨.hbm, 176, rfl⟩
abbrev main_v111 : Ref sig .tc := ⟨.hbm, 177, rfl⟩
abbrev main_cst_31 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_cst_32 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_cst_33 : Ref sig .tc := ⟨.hbm, 193, rfl⟩
abbrev main_v125 : Ref sig .tc := ⟨.hbm, 194, rfl⟩
abbrev main_v126 : Ref sig .tc := ⟨.hbm, 195, rfl⟩
abbrev main_cst_34 : Ref sig .tc := ⟨.hbm, 196, rfl⟩
abbrev main_v127 : Ref sig .tc := ⟨.hbm, 197, rfl⟩
abbrev main_v128 : Ref sig .tc := ⟨.hbm, 198, rfl⟩
abbrev main_cst_35 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_cst_36 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_cst_37 : Ref sig .tc := ⟨.hbm, 208, rfl⟩
abbrev main_v136 : Ref sig .tc := ⟨.hbm, 209, rfl⟩
abbrev main_v137 : Ref sig .tc := ⟨.hbm, 210, rfl⟩
abbrev main_cst_38 : Ref sig .tc := ⟨.hbm, 211, rfl⟩
abbrev main_call7_v0 : Ref sig .tc := ⟨.hbm, 212, rfl⟩
abbrev main_call7_v1 : Ref sig .tc := ⟨.hbm, 213, rfl⟩
abbrev main_v138 : Ref sig .tc := ⟨.hbm, 214, rfl⟩
abbrev main_v139 : Ref sig .tc := ⟨.hbm, 215, rfl⟩
abbrev main_cst_39 : Ref sig .tc := ⟨.hbm, 216, rfl⟩
abbrev main_v140 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_cst_40 : Ref sig .tc := ⟨.hbm, 221, rfl⟩
abbrev main_cst_41 : Ref sig .tc := ⟨.hbm, 222, rfl⟩
abbrev main_call8_v0 : Ref sig .tc := ⟨.hbm, 223, rfl⟩
abbrev main_call8_v1 : Ref sig .tc := ⟨.hbm, 224, rfl⟩
abbrev main_call8_v2 : Ref sig .tc := ⟨.hbm, 225, rfl⟩
abbrev main_call8_v3 : Ref sig .tc := ⟨.hbm, 226, rfl⟩
abbrev main_call8_v4 : Ref sig .tc := ⟨.hbm, 227, rfl⟩
abbrev main_v144 : Ref sig .tc := ⟨.hbm, 228, rfl⟩
abbrev main_cst_42 : Ref sig .tc := ⟨.hbm, 229, rfl⟩
abbrev main_v145 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_v152 : Ref sig .tc := ⟨.hbm, 237, rfl⟩
abbrev main_v153 : Ref sig .tc := ⟨.hbm, 238, rfl⟩
abbrev main_v154 : Ref sig .tc := ⟨.hbm, 239, rfl⟩
abbrev main_v155 : Ref sig .tc := ⟨.hbm, 240, rfl⟩
abbrev main_v156 : Ref sig .tc := ⟨.hbm, 241, rfl⟩
abbrev main_v157 : Ref sig .tc := ⟨.hbm, 242, rfl⟩
abbrev main_v158 : Ref sig .tc := ⟨.hbm, 243, rfl⟩
abbrev main_v159 : Ref sig .tc := ⟨.hbm, 244, rfl⟩
abbrev main_v160 : Ref sig .tc := ⟨.hbm, 245, rfl⟩
abbrev main_v161 : Ref sig .tc := ⟨.hbm, 246, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S9x4096x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9x2x4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9x2x4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9x4096x8x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9x2x4096x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9x2x4096x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S9x4096x8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S9x2x4096x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S9x2x4096x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Model.lean ====
/- The kernel body as a structured program: the quantisation of one block of rows, and one attention
   head over a list of key tiles, each written once with its offsets as parameters. `Model.body_eq`
   (Proof/ModelEq.lean) says the printed body is this program. -/
module

public import proofs.«01_k».proof.KernelIdeal

@[expose] public section

set_option synthInstance.maxSize 4096

noncomputable section

namespace Cert.KernelIdeal.Model

open Idealize.ShloMosaic Idealize.SL.Sem

variable {F : FTy → Type} [FloatOps F] [Named F]
variable [Facts]
open Facts₀ Facts

/-! ## The values -/

/-- The exponent field of the scale of a magnitude, in place: the largest `j · 2^23` whose float bound (the float
    with bits `j · 2^23 - 2^21`) is at most the magnitude. -/
def expBits {s s1 s3 : Shape} (ax : Fin s3.rank) (hi : s3.Iotas .tc 32 [ax]) (hc : s.ShapeCasts s1) (hb : s1.Broadcasts s3)
    (hr : s3.Reduces [ax] s) (a : FVec F s .f32) : IVec s 32 :=
  multiReductionI .maxsi [ax] s
    (select (cmpf .olt (broadcastTo s3 (shapeCast s1 a hc) hb)
        (bitcastToFloat .f32 (subi (shli (iota .tc s3 32 [ax] hi) (broadcast s3 23#32)) (broadcast s3 2097152#32))))
      (broadcast s3 0#32) (shli (iota .tc s3 32 [ax] hi) (broadcast s3 23#32)))
    2147483648#32 hr rfl

/-- Whether the exponent is large enough for a scale other than one. -/
def expOk {s : Shape} (e : IVec s 32) : IVec s 1 := cmpi .sge e (broadcast s 83886080#32)

/-- The scale, by its bits. -/
def scaleOf {s : Shape} (e : IVec s 32) : FVec F s .f32 :=
  bitcastToFloat .f32 (select (expOk e) (subi e (broadcast s 67108864#32)) (broadcast s 1065353216#32))

/-- The inverse of the scale, by its bits. -/
def invOf {s : Shape} (e : IVec s 32) : FVec F s .f32 :=
  bitcastToFloat .f32 (select (expOk e) (subi (broadcast s 2197815296#32) e) (broadcast s 1065353216#32))

/-- A clip to the range of the fp8 format. -/
def clip {s : Shape} (x : FVec F s .f32) : FVec F s .f32 :=
  minimumf (broadcast s (Scalar.ofBits .f32 0x43E00000#32)) (maximumf (broadcast s (Scalar.ofBits .f32 0xC3E00000#32)) x)

/-- `expBits` of one column of magnitudes. -/
def expCol (a : FVec F S256x1 .f32) : IVec S256x1 32 :=
  expBits (s1 := S1x256x1) (s3 := S256x256x1) 0 iota_S256x256x1_d0_w32 shapeCasts_S256x1_S1x256x1 broadcasts_S1x256x1_S256x256x1 reduces_S256x256x1_S256x1 a

/-- `expBits` of one row of magnitudes over the lanes of a head. -/
def expLane (a : FVec F S1x128 .f32) : IVec S1x128 32 :=
  expBits (s1 := S1x1x128) (s3 := S256x1x128) 0 iota_S256x1x128_d0_w32 shapeCasts_S1x128_S1x1x128 broadcasts_S1x1x128_S256x1x128 reduces_S256x1x128_S1x128 a

/-- `expBits` of sixteen rows of magnitudes. -/
def expRows (a : FVec F S16x256 .f32) : IVec S16x256 32 :=
  expBits (s1 := S1x16x256) (s3 := S256x16x256) 0 iota_S256x16x256_d0_w32 shapeCasts_S16x256_S1x16x256 broadcasts_S1x16x256_S256x16x256 reduces_S256x16x256_S16x256 a

/-- `expBits` of one row of magnitudes over the queries of a block. -/
def expRow (a : FVec F S1x256 .f32) : IVec S1x256 32 :=
  expBits (s1 := S1x1x256) (s3 := S256x1x256) 0 iota_S256x1x256_d0_w32 shapeCasts_S1x256_S1x1x256 broadcasts_S1x1x256_S256x1x256 reduces_S256x1x256_S1x256 a

/-- The largest magnitude of each row of a block. -/
def amaxCol (x : FVec F S256x128 .f32) : FVec F S256x1 .f32 :=
  shapeCast S256x1 (multiReduction .maximumf [1] S256 (absf x) 0xFF800000#32 reduces_S256x128_S256 (.inl rfl) rfl) shapeCasts_S256_S256x1

/-- The codes of a block of rows before rounding: each row by the inverse of its scale, clipped. -/
def codesOf (x : FVec F S256x128 .f32) : FVec F S256x128 .f32 :=
  clip (mulf x (broadcastTo S256x128 (invOf (expCol (amaxCol x))) broadcasts_S256x1_S256x128))

/-- The scales of a block of rows over every lane. -/
def scaleTile (x : FVec F S256x128 .f32) : FVec F S256x128 .f32 :=
  broadcastTo S256x128 (shapeCast S256x1 (scaleOf (expCol (amaxCol x))) shapeCasts_S256x1_S256x1) broadcasts_S256x1_S256x128

/-- The magnitudes of a block of rows put in lane `n`. -/
def laneSel (n : BitVec 32) (a : FVec F S256x1 .f32) (acc : FVec F S256x128 .f32) : FVec F S256x128 .f32 :=
  select (cmpi .eq (iota .tc S256x128 32 [1] iota_S256x128_d1_w32) (broadcast S256x128 n))
    (broadcastTo S256x128 (shapeCast S256x1 a shapeCasts_S256x1_S256x1) broadcasts_S256x1_S256x128) acc

/-- A block of sixteen-bit rows read as 32-bit floats. -/
def rowsOf (x : Vec F S1x256x128 .bf16) : FVec F S256x128 .f32 :=
  extf .f32 (shapeCast S256x128 x shapeCasts_S1x256x128_S256x128 : FVec F S256x128 .bf16) bitsLt_bf16_f32

/-- The largest magnitude of each lane over every row. -/
def amaxLane (x : Vec F S1x4096x128 .bf16) : FVec F S1x128 .f32 :=
  shapeCast S1x128 (multiReduction .maximumf [0] S128 (absf (extf .f32 (shapeCast S4096x128 x shapeCasts_S1x4096x128_S4096x128 : FVec F S4096x128 .bf16) bitsLt_bf16_f32))
    0xFF800000#32 reduces_S4096x128_S128 (.inl rfl) rfl) shapeCasts_S128_S1x128

/-- The value codes of a block before rounding. -/
def vcodesOf (x : Vec F S1x256x128 .bf16) (vinv : Vec F S1x128 .f32) : FVec F S256x128 .f32 :=
  clip (mulf (rowsOf x) (broadcastTo S256x128 vinv broadcasts_S1x128_S256x128))

/-- One tile of scores: the codes' products times the key scales. -/
def scoreV (kc : Vec F S1x1x256x128 .fp8e4m3) (ks : Vec F S1x1x256x128 .f32) (q : FVec F S256x128 .fp8e4m3) : FVec F S256x256 .f32 :=
  mulf (matmul dot_S256x128_S256x128_S256x256_1_1_0_0_n_n none (shapeCast S256x128 kc shapeCasts_S1x1x256x128_S256x128 : FVec F S256x128 .fp8e4m3) q (constant S256x256 .f32 0x00000000#32))
    (concatenate S256x256 1 [⟨S256x128, shapeCast S256x128 ks shapeCasts_S1x1x256x128_S256x128⟩, ⟨S256x128, shapeCast S256x128 ks shapeCasts_S1x1x256x128_S256x128⟩] concatenates_S256x128_S256x128_S256x256_d1)

/-- The mask of the keys at or before a query within a block. -/
def triMask (tri : Vec F S256x256 .i32) : IVec S256x256 1 := cmpi .ne tri (broadcast S256x256 0#32)

/-- The tile's maxima over groups of 32 rows. -/
def tileMax (t : FVec F S256x256 .f32) : FVec F S8x256 .f32 :=
  multiReduction .maximumf [0] S8x256 (shapeCast S32x8x256 t shapeCasts_S256x256_S32x8x256) 0xFF800000#32 reduces_S32x8x256_S8x256 (.inl rfl) rfl

/-- The tile's sums over groups of 32 rows. -/
def tileSum (t : FVec F S256x256 .f32) : FVec F S8x256 .f32 :=
  multiReduction .add [0] S8x256 (shapeCast S32x8x256 t shapeCasts_S256x256_S32x8x256) 0x00000000#32 reduces_S32x8x256_S8x256 (.inl rfl) rfl

/-- The score maximum of each query, scaled. -/
def uMax (mx : FVec F S8x256 .f32) (c : Vec F S1x256 .f32) : FVec F S1x256 .f32 :=
  mulf (shapeCast S1x256 (multiReduction .maximumf [0] S256 mx 0xFF800000#32 reduces_S8x256_S256 (.inl rfl) rfl) shapeCasts_S256_S1x256) c

/-- The shift of each query's exponent: the maximum of the scaled scores and the sink, plus the exponent of the
    scale of the largest probability. -/
def shiftV (u : FVec F S1x256 .f32) (sink : F .f32) : FVec F S1x256 .f32 :=
  addf (maximumf u (broadcast S1x256 sink))
    (sitofp .f32 (select (expOk (expRow (exp2 (subf u (maximumf u (broadcast S1x256 sink))))))
      (subi (shrui (expRow (exp2 (subf u (maximumf u (broadcast S1x256 sink))))) (broadcast S1x256 23#32)) (broadcast S1x256 135#32))
      (broadcast S1x256 0#32)))

/-- The shifted exponentials of one tile of scores. -/
def probs (t : Vec F S1x1x256x256 .f32) (c : Vec F S1x256 .f32) (shift : FVec F S1x256 .f32) : FVec F S256x256 .f32 :=
  exp2 (subf (mulf (shapeCast S256x256 t shapeCasts_S1x1x256x256_S256x256) (broadcastTo S256x256 c broadcasts_S1x256_S256x256)) (broadcastTo S256x256 shift broadcasts_S1x256_S256x256))

/-- The products of one tile of values with the probability codes, added to what went before. -/
def pvV (vt : Vec F S1x1x128x256 .fp8e4m3) (p : FVec F S256x256 .f32) (acc : FVec F S128x256 .f32) : FVec F S128x256 .f32 :=
  addf acc (matmul dot_S128x256_S256x256_S128x256_1_0_0_1_n_n none (shapeCast S128x256 vt shapeCasts_S1x1x128x256_S128x256 : FVec F S128x256 .fp8e4m3)
    (truncf .fp8e4m3 p bitsLt_fp8e4m3_f32) (constant S128x256 .f32 0x00000000#32))

/-- The attention output of a block of queries from the weighted sums. -/
def outV (acc : FVec F S128x256 .f32) (lsum : FVec F S8x256 .f32) (sink : F .f32) (shift : FVec F S1x256 .f32) (vs : Vec F S1x1x128 .f32) : FVec F S1x256x128 .bf16 :=
  shapeCast S1x256x128 (truncf .bf16 (mulf (transpose S256x128 [1, 0]
      (mulf acc (broadcastTo S128x256 (divf (broadcast S1x256 (Scalar.ofBits .f32 0x3F800000#32))
        (addf (shapeCast S1x256 (multiReduction .add [0] S256 lsum 0x00000000#32 reduces_S8x256_S256 (.inl rfl) rfl) shapeCasts_S256_S1x256)
          (exp2 (subf (broadcast S1x256 sink) shift)))) broadcasts_S1x256_S128x256)) transposes_S128x256_p1_0_S256x128)
      (broadcastTo S256x128 (shapeCast S1x128 vs shapeCasts_S1x1x128_S1x128) broadcasts_S1x128_S256x128)) bitsLt_bf16_f32) shapeCasts_S256x128_S1x256x128

/-! ## One attention head -/

/-- Where one key tile lies in the buffers of codes, key scales and transposed values, and the slot of the score
    buffer it uses. -/
structure Tile where
  kc : Fin 4 → Nat
  hkc : ∀ a, kc a + S1x1x256x128.size a ≤ S1x2x4096x128.size a
  ks : Fin 4 → Nat
  hks : ∀ a, ks a + S1x1x256x128.size a ≤ S2x16x256x128.size a
  vt : Fin 4 → Nat
  hvt : ∀ a, vt a + S1x1x128x256.size a ≤ S2x16x128x256.size a
  sl : Fin 4 → Nat
  hsl : ∀ a, sl a + S1x1x256x256.size a ≤ S2x4x256x256.size a

section
variable (arg9 : Memref sig .tc .vmem S1x2x4096x128 .fp8e4m3) (arg15 : Memref sig .tc .vmem S2x16x256x128 .f32) (arg16 : Memref sig .tc .vmem S2x16x128x256 .fp8e4m3) (arg19 : Memref sig .tc .vmem S2x4x256x256 .f32)

/-- Load one tile's codes and key scales and form its scores. -/
def score (q : FVec F S256x128 .fp8e4m3) (T : Tile) : Prog (TpuEff nD τ sig (Elt F) Λ₀ .tc) (FVec F S256x256 .f32) := do
  let a : Vec F S1x1x256x128 .fp8e4m3 ← Prog.lift (.load arg9 (Rect.unit (s := S1x2x4096x128) (T.kc) S1x1x256x128.size (T.hkc)).toLoadRect (View.loadsAt_vmem h_S1x1x256x128))
  let b : Vec F S1x1x256x128 .f32 ← Prog.lift (.load arg15 (Rect.unit (s := S2x16x256x128) (T.ks) S1x1x256x128.size (T.hks)).toLoadRect (View.loadsAt_vmem h_S1x1x256x128))
  pure (scoreV a b q)

/-- Keep one tile's scores in its slot. -/
def putT (T : Tile) (x : FVec F S256x256 .f32) : Prog (TpuEff nD τ sig (Elt F) Λ₀ .tc) PUnit := do
  let _v : Vec F S1x1x256x256 .f32 ← Prog.lift (.load arg19 (Rect.unit (s := S2x4x256x256) (T.sl) S1x1x256x256.size (T.hsl)).toLoadRect (View.loadsAt_vmem h_S1x1x256x256))
  Prog.lift (.store arg19 (Rect.unit (s := S2x4x256x256) (T.sl) S1x1x256x256.size (T.hsl)) (shapeCast S1x1x256x256 x shapeCasts_S256x256_S1x1x256x256) Finset.univ (View.stores_vmem_bits_univ h_S1x1x256x256 rfl) (.inl rfl))

/-- The first pass: the scores of each full tile, and their running maxima. -/
def pass1 (q : FVec F S256x128 .fp8e4m3) : List Tile → FVec F S8x256 .f32 → Prog (TpuEff nD τ sig (Elt F) Λ₀ .tc) (FVec F S8x256 .f32)
  | [], mx => pure mx
  | T :: Ts, mx => do
    let s ← score arg9 arg15 q T
    putT arg19 T s
    pass1 q Ts (maximumf mx (tileMax s))

/-- Load one tile's values and add its products. -/
def pv (T : Tile) (p : FVec F S256x256 .f32) (acc : FVec F S128x256 .f32) : Prog (TpuEff nD τ sig (Elt F) Λ₀ .tc) (FVec F S128x256 .f32) := do
  let v : Vec F S1x1x128x256 .fp8e4m3 ← Prog.lift (.load arg16 (Rect.unit (s := S2x16x128x256) (T.vt) S1x1x128x256.size (T.hvt)).toLoadRect (View.loadsAt_vmem h_S1x1x128x256))
  pure (pvV v p acc)

/-- Load one tile's scores. -/
def getT (T : Tile) : Prog (TpuEff nD τ sig (Elt F) Λ₀ .tc) (Vec F S1x1x256x256 .f32) := do
  let v : Vec F S1x1x256x256 .f32 ← Prog.lift (.load arg19 (Rect.unit (s := S2x4x256x256) (T.sl) S1x1x256x256.size (T.hsl)).toLoadRect (View.loadsAt_vmem h_S1x1x256x256))
  pure v

/-- The second pass over the full tiles: the sums of probabilities and of the weighted values. -/
def pass2 (c : Vec F S1x256 .f32) (shift : FVec F S1x256 .f32) : List Tile → FVec F S128x256 .f32 → FVec F S8x256 .f32 →
    Prog (TpuEff nD τ sig (Elt F) Λ₀ .tc) (FVec F S128x256 .f32 × FVec F S8x256 .f32)
  | [], acc, l => pure (acc, l)
  | T :: Ts, acc, l => do
    let t ← getT arg19 T
    let acc' ← pv arg16 T (clip (probs t c shift)) acc
    pass2 c shift Ts acc' (addf l (tileSum (probs t c shift)))

/-- The scores left of the diagonal block: those of the oldest tile, or nothing. -/
def leftScore (q : FVec F S256x128 .fp8e4m3) : Option Tile → Prog (TpuEff nD τ sig (Elt F) Λ₀ .tc) (FVec F S256x256 .f32)
  | none => pure (broadcast S256x256 (Scalar.ofBits .f32 0xFF800000#32))
  | some L => score arg9 arg15 q L

/-- The oldest tile's weighted values, the keys after the diagonal of the block. -/
def leftPv (tri : Vec F S256x256 .i32) (p : FVec F S256x256 .f32) (acc : FVec F S128x256 .f32) : Option Tile → Prog (TpuEff nD τ sig (Elt F) Λ₀ .tc) (FVec F S128x256 .f32)
  | none => pure acc
  | some L => pv arg16 L (select (triMask tri) (broadcast S256x256 (Scalar.ofBits .f32 0x00000000#32)) (clip p)) acc
end

/-- Where one head's codes, scale, sink, value scales and output columns lie. -/
structure HeadAt (arg6 : Memref sig .tc .vmem S1x256x1024 .bf16) where
  q : Fin 3 → Nat
  hq : ∀ a, q a + S1x256x128.size a ≤ S8x256x128.size a
  c : Fin 2 → Nat
  hc : ∀ a, c a + S1x256.size a ≤ S8x256.size a
  s : Fin 1 → Nat
  hs : ∀ a, s a + S1.size a ≤ S8.size a
  v : Fin 3 → Nat
  hv : ∀ a, v a + S1x1x128.size a ≤ S1x2x128.size a
  o : Fin 3 → Nat
  ho : ∀ a, o a + S1x256x128.size a ≤ S1x256x1024.size a
  hst : (arg6.access (Rect.unit (s := S1x256x1024) o S1x256x128.size ho)).Stores Finset.univ

section
variable (arg2 : Memref sig .tc .smem S8 .f32) (arg6 : Memref sig .tc .vmem S1x256x1024 .bf16) (arg9 : Memref sig .tc .vmem S1x2x4096x128 .fp8e4m3) (arg12 : Memref sig .tc .vmem S1x2x128 .f32) (arg13 : Memref sig .tc .vmem S8x256x128 .fp8e4m3) (arg14 : Memref sig .tc .vmem S8x256 .f32) (arg15 : Memref sig .tc .vmem S2x16x256x128 .f32) (arg16 : Memref sig .tc .vmem S2x16x128x256 .fp8e4m3) (arg19 : Memref sig .tc .vmem S2x4x256x256 .f32)

/-- One head: the scores of the diagonal tile (joined with the oldest tile where the window cuts it) and of the full
    tiles, the shift, then the weighted sums and the output. -/
def head (L : Option Tile) (T : Tile) (Ts : List Tile) (tri : Vec F S256x256 .i32) (H : HeadAt arg6) : Prog (TpuEff nD τ sig (Elt F) Λ₀ .tc) PUnit := do
  let q0 : Vec F S1x256x128 .fp8e4m3 ← Prog.lift (.load arg13 (Rect.unit (s := S8x256x128) (H.q) S1x256x128.size (H.hq)).toLoadRect (View.loadsAt_vmem h_S1x256x128))
  let l ← leftScore arg9 arg15 (shapeCast S256x128 q0 shapeCasts_S1x256x128_S256x128) L
  let s ← score arg9 arg15 (shapeCast S256x128 q0 shapeCasts_S1x256x128_S256x128) T
  putT arg19 T (select (triMask tri) s l)
  let mx ← pass1 arg9 arg15 arg19 (shapeCast S256x128 q0 shapeCasts_S1x256x128_S256x128) Ts (tileMax (select (triMask tri) s l))
  let c : Vec F S1x256 .f32 ← Prog.lift (.load arg14 (Rect.unit (s := S8x256) (H.c) S1x256.size (H.hc)).toLoadRect (View.loadsAt_vmem h_S1x256))
  let sk : Elt F .f32 ← smemLoad arg2 (Rect.unit (s := S8) (H.s) S1.size (H.hs)) numel1_S1 rfl
  let t ← getT arg19 T
  let acc0 ← leftPv arg16 tri (probs t c (shiftV (uMax mx c) (Scalar.mulf sk (Named.named κ "log2_e" 0x3FB8AA3B#32))))
    (broadcast S128x256 (Scalar.ofBits .f32 0x00000000#32)) L
  let acc1 ← pv arg16 T (select (triMask tri) (clip (probs t c (shiftV (uMax mx c) (Scalar.mulf sk (Named.named κ "log2_e" 0x3FB8AA3B#32)))))
    (broadcast S256x256 (Scalar.ofBits .f32 0x00000000#32))) acc0
  let r ← pass2 arg16 arg19 c (shiftV (uMax mx c) (Scalar.mulf sk (Named.named κ "log2_e" 0x3FB8AA3B#32))) Ts acc1
    (addf (broadcast S8x256 (Scalar.ofBits .f32 0x00000000#32)) (tileSum (probs t c (shiftV (uMax mx c) (Scalar.mulf sk (Named.named κ "log2_e" 0x3FB8AA3B#32))))))
  let vs : Vec F S1x1x128 .f32 ← Prog.lift (.load arg12 (Rect.unit (s := S1x2x128) (H.v) S1x1x128.size (H.hv)).toLoadRect (View.loadsAt_vmem h_S1x1x128))
  let _o : Vec F S1x256x128 .bf16 ← Prog.lift (.load arg6 (Rect.unit (s := S1x256x1024) (H.o) S1x256x128.size (H.ho)).toLoadRect (View.loadsAt_vmem h_S1x256x128))
  Prog.lift (.store arg6 (Rect.unit (s := S1x256x1024) (H.o) S1x256x128.size (H.ho)) (outV r.1 r.2 (Scalar.mulf sk (Named.named κ "log2_e" 0x3FB8AA3B#32)) (shiftV (uMax mx c) (Scalar.mulf sk (Named.named κ "log2_e" 0x3FB8AA3B#32))) vs) Finset.univ (H.hst) (.inl rfl))

/-- The heads of a block, one after the other. -/
def heads (tri : Vec F S256x256 .i32) : List (HeadAt arg6 × Option Tile × Tile × List Tile) → Prog (TpuEff nD τ sig (Elt F) Λ₀ .tc) PUnit
  | [] => pure ⟨⟩
  | x :: xs => do
    head arg2 arg6 arg9 arg12 arg13 arg14 arg15 arg16 arg19 x.2.1 x.2.2.1 x.2.2.2 tri x.1
    heads tri xs

/-- The attention of a block. -/
def attend (arg18 : Memref sig .tc .vmem S256x256 .i32) (xs : List (HeadAt arg6 × Option Tile × Tile × List Tile)) : Prog (TpuEff nD τ sig (Elt F) Λ₀ .tc) PUnit := do
  let tri : Vec F S256x256 .i32 ← Prog.lift (.load arg18 (Rect.unit (s := S256x256) (![0, 0]) S256x256.size (inb_S256x256_S256x256_0_0)).toLoadRect (View.loadsAt_vmem h_S256x256))
  heads arg2 arg6 arg9 arg12 arg13 arg14 arg15 arg16 arg19 tri xs
end

/-! ## The quantisation of a block -/

/-- Where one key head's rows of a block lie. -/
structure KvAt (arg9 arg11 : Memref sig .tc .vmem S1x2x4096x128 .fp8e4m3) (arg16 : Memref sig .tc .vmem S2x16x128x256 .fp8e4m3) where
  n : BitVec 32
  x : Fin 3 → Nat
  hx : ∀ a, x a + S1x256x128.size a ≤ S1x4096x256.size a
  kc : Fin 4 → Nat
  hkc : ∀ a, kc a + S1x1x256x128.size a ≤ S1x2x4096x128.size a
  ks : Fin 4 → Nat
  hks : ∀ a, ks a + S1x1x256x128.size a ≤ S2x16x256x128.size a
  vt : Fin 4 → Nat
  hvt : ∀ a, vt a + S1x1x128x256.size a ≤ S2x16x128x256.size a
  vi : Fin 2 → Nat
  hvi : ∀ a, vi a + S1x128.size a ≤ S2x128.size a
  st9 : (arg9.access (Rect.unit (s := S1x2x4096x128) kc S1x1x256x128.size hkc)).Stores Finset.univ
  st11 : (arg11.access (Rect.unit (s := S1x2x4096x128) kc S1x1x256x128.size hkc)).Stores Finset.univ
  st16 : (arg16.access (Rect.unit (s := S2x16x128x256) vt S1x1x128x256.size hvt)).Stores Finset.univ

/-- Where one head's query rows of a block lie. -/
structure QAt (arg13 : Memref sig .tc .vmem S8x256x128 .fp8e4m3) where
  n : BitVec 32
  x : Fin 3 → Nat
  hx : ∀ a, x a + S1x256x128.size a ≤ S1x256x1024.size a
  q : Fin 3 → Nat
  hq : ∀ a, q a + S1x256x128.size a ≤ S8x256x128.size a
  st : (arg13.access (Rect.unit (s := S8x256x128) q S1x256x128.size hq)).Stores Finset.univ

/-- Where one key head's value scales lie. -/
structure VAt where
  x : Fin 3 → Nat
  hx : ∀ a, x a + S1x4096x128.size a ≤ S1x4096x256.size a
  vs : Fin 3 → Nat
  hvs : ∀ a, vs a + S1x1x128.size a ≤ S1x2x128.size a
  vi : Fin 2 → Nat
  hvi : ∀ a, vi a + S1x128.size a ≤ S2x128.size a

/-- One key head's rows: the key codes and scales, and the value codes, kept also transposed. -/
def kvStep (arg4 : Memref sig .tc .vmem S1x4096x256 .bf16) (arg5 : Memref sig .tc .vmem S1x4096x256 .bf16) (arg9 : Memref sig .tc .vmem S1x2x4096x128 .fp8e4m3) (arg11 : Memref sig .tc .vmem S1x2x4096x128 .fp8e4m3) (arg15 : Memref sig .tc .vmem S2x16x256x128 .f32) (arg16 : Memref sig .tc .vmem S2x16x128x256 .fp8e4m3) (arg17 : Memref sig .tc .vmem S2x128 .f32) (K : KvAt arg9 arg11 arg16) (acc : FVec F S256x128 .f32) : Prog (TpuEff nD τ sig (Elt F) Λ₀ .tc) (FVec F S256x128 .f32) := do
  let x : Vec F S1x256x128 .bf16 ← Prog.lift (.load arg4 (Rect.unit (s := S1x4096x256) (K.x) S1x256x128.size (K.hx)).toLoadRect (View.loadsAt_vmem h_S1x256x128))
  let _a : Vec F S1x1x256x128 .fp8e4m3 ← Prog.lift (.load arg9 (Rect.unit (s := S1x2x4096x128) (K.kc) S1x1x256x128.size (K.hkc)).toLoadRect (View.loadsAt_vmem h_S1x1x256x128))
  Prog.lift (.store arg9 (Rect.unit (s := S1x2x4096x128) (K.kc) S1x1x256x128.size (K.hkc)) (shapeCast S1x1x256x128 (truncf .fp8e4m3 (codesOf (rowsOf x)) bitsLt_fp8e4m3_f32 : FVec F S256x128 .fp8e4m3) shapeCasts_S256x128_S1x1x256x128) Finset.univ (K.st9) (.inl rfl))
  let _b : Vec F S1x1x256x128 .f32 ← Prog.lift (.load arg15 (Rect.unit (s := S2x16x256x128) (K.ks) S1x1x256x128.size (K.hks)).toLoadRect (View.loadsAt_vmem h_S1x1x256x128))
  Prog.lift (.store arg15 (Rect.unit (s := S2x16x256x128) (K.ks) S1x1x256x128.size (K.hks)) (shapeCast S1x1x256x128 (scaleTile (rowsOf x)) shapeCasts_S256x128_S1x1x256x128) Finset.univ (View.stores_vmem_bits_univ h_S1x1x256x128 rfl) (.inl rfl))
  let v : Vec F S1x256x128 .bf16 ← Prog.lift (.load arg5 (Rect.unit (s := S1x4096x256) (K.x) S1x256x128.size (K.hx)).toLoadRect (View.loadsAt_vmem h_S1x256x128))
  let vi : Vec F S1x128 .f32 ← Prog.lift (.load arg17 (Rect.unit (s := S2x128) (K.vi) S1x128.size (K.hvi)).toLoadRect (View.loadsAt_vmem h_S1x128))
  let _c : Vec F S1x1x256x128 .fp8e4m3 ← Prog.lift (.load arg11 (Rect.unit (s := S1x2x4096x128) (K.kc) S1x1x256x128.size (K.hkc)).toLoadRect (View.loadsAt_vmem h_S1x1x256x128))
  Prog.lift (.store arg11 (Rect.unit (s := S1x2x4096x128) (K.kc) S1x1x256x128.size (K.hkc)) (shapeCast S1x1x256x128 (truncf .fp8e4m3 (vcodesOf v vi) bitsLt_fp8e4m3_f32 : FVec F S256x128 .fp8e4m3) shapeCasts_S256x128_S1x1x256x128) Finset.univ (K.st11) (.inl rfl))
  let _d : Vec F S1x1x128x256 .fp8e4m3 ← Prog.lift (.load arg16 (Rect.unit (s := S2x16x128x256) (K.vt) S1x1x128x256.size (K.hvt)).toLoadRect (View.loadsAt_vmem h_S1x1x128x256))
  Prog.lift (.store arg16 (Rect.unit (s := S2x16x128x256) (K.vt) S1x1x128x256.size (K.hvt)) (shapeCast S1x1x128x256 (truncf .fp8e4m3 (transpose S128x256 [1, 0] (vcodesOf v vi) transposes_S256x128_p1_0_S128x256) bitsLt_fp8e4m3_f32 : FVec F S128x256 .fp8e4m3) shapeCasts_S128x256_S1x1x128x256) Finset.univ (K.st16) (.inl rfl))
  pure (laneSel K.n (amaxCol (rowsOf x)) acc)

/-- One head's query rows: their codes. -/
def qStep (arg3 : Memref sig .tc .vmem S1x256x1024 .bf16) (arg13 : Memref sig .tc .vmem S8x256x128 .fp8e4m3) (Q : QAt arg13) (acc : FVec F S256x128 .f32) : Prog (TpuEff nD τ sig (Elt F) Λ₀ .tc) (FVec F S256x128 .f32) := do
  let x : Vec F S1x256x128 .bf16 ← Prog.lift (.load arg3 (Rect.unit (s := S1x256x1024) (Q.x) S1x256x128.size (Q.hx)).toLoadRect (View.loadsAt_vmem h_S1x256x128))
  let _a : Vec F S1x256x128 .fp8e4m3 ← Prog.lift (.load arg13 (Rect.unit (s := S8x256x128) (Q.q) S1x256x128.size (Q.hq)).toLoadRect (View.loadsAt_vmem h_S1x256x128))
  Prog.lift (.store arg13 (Rect.unit (s := S8x256x128) (Q.q) S1x256x128.size (Q.hq)) (shapeCast S1x256x128 (truncf .fp8e4m3 (codesOf (rowsOf x)) bitsLt_fp8e4m3_f32 : FVec F S256x128 .fp8e4m3) shapeCasts_S256x128_S1x256x128) Finset.univ (Q.st) (.inl rfl))
  pure (laneSel Q.n (amaxCol (rowsOf x)) acc)

/-- The query rows of every head. -/
def qSteps (arg3 : Memref sig .tc .vmem S1x256x1024 .bf16) (arg13 : Memref sig .tc .vmem S8x256x128 .fp8e4m3) : List (QAt arg13) → FVec F S256x128 .f32 → Prog (TpuEff nD τ sig (Elt F) Λ₀ .tc) (FVec F S256x128 .f32)
  | [], acc => pure acc
  | Q :: Qs, acc => do
    let acc' ← qStep arg3 arg13 Q acc
    qSteps arg3 arg13 Qs acc'

/-- One key head's value scales and their inverses. -/
def vStep (arg5 : Memref sig .tc .vmem S1x4096x256 .bf16) (arg12 : Memref sig .tc .vmem S1x2x128 .f32) (arg17 : Memref sig .tc .vmem S2x128 .f32) (V : VAt) : Prog (TpuEff nD τ sig (Elt F) Λ₀ .tc) PUnit := do
  let x : Vec F S1x4096x128 .bf16 ← Prog.lift (.load arg5 (Rect.unit (s := S1x4096x256) (V.x) S1x4096x128.size (V.hx)).toLoadRect (View.loadsAt_vmem h_S1x4096x128))
  let _a : Vec F S1x1x128 .f32 ← Prog.lift (.load arg12 (Rect.unit (s := S1x2x128) (V.vs) S1x1x128.size (V.hvs)).toLoadRect (View.loadsAt_vmem h_S1x1x128))
  Prog.lift (.store arg12 (Rect.unit (s := S1x2x128) (V.vs) S1x1x128.size (V.hvs)) (shapeCast S1x1x128 (scaleOf (expLane (amaxLane x))) shapeCasts_S1x128_S1x1x128) Finset.univ (View.stores_vmem_bits_univ h_S1x1x128 rfl) (.inl rfl))
  let _b : Vec F S1x128 .f32 ← Prog.lift (.load arg17 (Rect.unit (s := S2x128) (V.vi) S1x128.size (V.hvi)).toLoadRect (View.loadsAt_vmem h_S1x128))
  Prog.lift (.store arg17 (Rect.unit (s := S2x128) (V.vi) S1x128.size (V.hvi)) (shapeCast S1x128 (invOf (expLane (amaxLane x))) shapeCasts_S1x128_S1x128) Finset.univ (View.stores_vmem_bits_univ h_S1x128 rfl) (.inl rfl))

/-- The mask of a block's diagonal. -/
def triV : IVec S256x256 32 :=
  select (cmpi .sle (iota .tc S256x256 32 [0] iota_S256x256_d0_w32) (iota .tc S256x256 32 [1] iota_S256x256_d1_w32)) (broadcast S256x256 4294967295#32) (broadcast S256x256 0#32)

/-- What the first block of a batch does: the value scales, and the mask. -/
def init (arg5 : Memref sig .tc .vmem S1x4096x256 .bf16) (arg12 : Memref sig .tc .vmem S1x2x128 .f32) (arg17 : Memref sig .tc .vmem S2x128 .f32) (arg18 : Memref sig .tc .vmem S256x256 .i32) (V0 V1 : VAt) : Prog (TpuEff nD τ sig (Elt F) Λ₀ .tc) PUnit := do
  vStep arg5 arg12 arg17 V0
  vStep arg5 arg12 arg17 V1
  let _t : Vec F S256x256 .i32 ← Prog.lift (.load arg18 (Rect.unit (s := S256x256) (![0, 0]) S256x256.size (inb_S256x256_S256x256_0_0)).toLoadRect (View.loadsAt_vmem h_S256x256))
  Prog.lift (.store arg18 (Rect.unit (s := S256x256) (![0, 0]) S256x256.size (inb_S256x256_S256x256_0_0)) ((shapeCast S256x256 triV shapeCasts_S256x256_S256x256 : IVec S256x256 32)) Finset.univ (View.stores_vmem_bits_univ h_S256x256 rfl) (.inl rfl))

/-- The scales of a block's rows: of the query heads, then of the key heads. -/
def scales (acc : FVec F S256x128 .f32) : FVec F S16x256 .f32 :=
  scaleOf (expRows (extractStridedSlice S16x256 ![0, 0] (transpose S128x256 [1, 0] acc transposes_S256x128_p1_0_S128x256) slices_S128x256_o0_0_S16x256))

/-- Keep the scales. -/
def putScales (arg8 : Memref sig .tc .vmem S1x8x256 .f32) (arg10 : Memref sig .tc .vmem S1x2x4096 .f32) (arg14 : Memref sig .tc .vmem S8x256 .f32) (o : Fin 3 → Nat) (ho : ∀ a, o a + S1x2x256.size a ≤ S1x2x4096.size a) (sc : FVec F S16x256 .f32) : Prog (TpuEff nD τ sig (Elt F) Λ₀ .tc) PUnit := do
  let _a : Vec F S1x8x256 .f32 ← Prog.lift (.load arg8 (Rect.unit (s := S1x8x256) (![0, 0, 0]) S1x8x256.size (inb_S1x8x256_S1x8x256_0_0_0)).toLoadRect (View.loadsAt_vmem h_S1x8x256))
  Prog.lift (.store arg8 (Rect.unit (s := S1x8x256) (![0, 0, 0]) S1x8x256.size (inb_S1x8x256_S1x8x256_0_0_0)) (shapeCast S1x8x256 (extractStridedSlice S8x256 ![0, 0] sc slices_S16x256_o0_0_S8x256) shapeCasts_S8x256_S1x8x256) Finset.univ (View.stores_vmem_bits_univ h_S1x8x256 rfl) (.inl rfl))
  let _b : Vec F S1x2x256 .f32 ← Prog.lift (.load arg10 (Rect.unit (s := S1x2x4096) (o) S1x2x256.size (ho)).toLoadRect (View.loadsAt_vmem h_S1x2x256))
  Prog.lift (.store arg10 (Rect.unit (s := S1x2x4096) (o) S1x2x256.size (ho)) (shapeCast S1x2x256 (extractStridedSlice S2x256 ![8, 0] sc slices_S16x256_o8_0_S2x256) shapeCasts_S2x256_S1x2x256) Finset.univ (View.stores_vmem_bits_univ h_S1x2x256 rfl) (.inl rfl))
  let _c : Vec F S8x256 .f32 ← Prog.lift (.load arg14 (Rect.unit (s := S8x256) (![0, 0]) S8x256.size (inb_S8x256_S8x256_0_0)).toLoadRect (View.loadsAt_vmem h_S8x256))
  Prog.lift (.store arg14 (Rect.unit (s := S8x256) (![0, 0]) S8x256.size (inb_S8x256_S8x256_0_0)) (shapeCast S8x256 (mulf (extractStridedSlice S8x256 ![0, 0] sc slices_S16x256_o0_0_S8x256) (broadcast S8x256 (Named.named κ "sm_scale_log2_e" 0x3E0293EE#32))) shapeCasts_S8x256_S8x256) Finset.univ (View.stores_vmem_bits_univ h_S8x256 rfl) (.inl rfl))

/-- One head's codes as a column of the interleaved block. -/
def qCol (x : Vec F S1x256x128 .fp8e4m3) : FVec F S256x1x128 .fp8e4m3 :=
  shapeCast S256x1x128 (shapeCast S256x128 x shapeCasts_S1x256x128_S256x128 : FVec F S256x128 .fp8e4m3) shapeCasts_S256x128_S256x1x128

/-- Interleave the heads' codes. -/
def putCodes (arg7 : Memref sig .tc .vmem S1x256x8x128 .fp8e4m3) (arg13 : Memref sig .tc .vmem S8x256x128 .fp8e4m3) (hst : (arg7.access (Rect.unit (s := S1x256x8x128) ![0, 0, 0, 0] S1x256x8x128.size inb_S1x256x8x128_S1x256x8x128_0_0_0_0)).Stores Finset.univ) : Prog (TpuEff nD τ sig (Elt F) Λ₀ .tc) PUnit := do
  let x0 : Vec F S1x256x128 .fp8e4m3 ← Prog.lift (.load arg13 (Rect.unit (s := S8x256x128) (![0, 0, 0]) S1x256x128.size (inb_S8x256x128_S1x256x128_0_0_0)).toLoadRect (View.loadsAt_vmem h_S1x256x128))
  let x1 : Vec F S1x256x128 .fp8e4m3 ← Prog.lift (.load arg13 (Rect.unit (s := S8x256x128) (![1, 0, 0]) S1x256x128.size (inb_S8x256x128_S1x256x128_1_0_0)).toLoadRect (View.loadsAt_vmem h_S1x256x128))
  let x2 : Vec F S1x256x128 .fp8e4m3 ← Prog.lift (.load arg13 (Rect.unit (s := S8x256x128) (![2, 0, 0]) S1x256x128.size (inb_S8x256x128_S1x256x128_2_0_0)).toLoadRect (View.loadsAt_vmem h_S1x256x128))
  let x3 : Vec F S1x256x128 .fp8e4m3 ← Prog.lift (.load arg13 (Rect.unit (s := S8x256x128) (![3, 0, 0]) S1x256x128.size (inb_S8x256x128_S1x256x128_3_0_0)).toLoadRect (View.loadsAt_vmem h_S1x256x128))
  let x4 : Vec F S1x256x128 .fp8e4m3 ← Prog.lift (.load arg13 (Rect.unit (s := S8x256x128) (![4, 0, 0]) S1x256x128.size (inb_S8x256x128_S1x256x128_4_0_0)).toLoadRect (View.loadsAt_vmem h_S1x256x128))
  let x5 : Vec F S1x256x128 .fp8e4m3 ← Prog.lift (.load arg13 (Rect.unit (s := S8x256x128) (![5, 0, 0]) S1x256x128.size (inb_S8x256x128_S1x256x128_5_0_0)).toLoadRect (View.loadsAt_vmem h_S1x256x128))
  let x6 : Vec F S1x256x128 .fp8e4m3 ← Prog.lift (.load arg13 (Rect.unit (s := S8x256x128) (![6, 0, 0]) S1x256x128.size (inb_S8x256x128_S1x256x128_6_0_0)).toLoadRect (View.loadsAt_vmem h_S1x256x128))
  let x7 : Vec F S1x256x128 .fp8e4m3 ← Prog.lift (.load arg13 (Rect.unit (s := S8x256x128) (![7, 0, 0]) S1x256x128.size (inb_S8x256x128_S1x256x128_7_0_0)).toLoadRect (View.loadsAt_vmem h_S1x256x128))
  let _a : Vec F S1x256x8x128 .fp8e4m3 ← Prog.lift (.load arg7 (Rect.unit (s := S1x256x8x128) (![0, 0, 0, 0]) S1x256x8x128.size (inb_S1x256x8x128_S1x256x8x128_0_0_0_0)).toLoadRect (View.loadsAt_vmem h_S1x256x8x128))
  Prog.lift (.store arg7 (Rect.unit (s := S1x256x8x128) (![0, 0, 0, 0]) S1x256x8x128.size (inb_S1x256x8x128_S1x256x8x128_0_0_0_0)) (shapeCast S1x256x8x128 (concatenate S256x8x128 1 [⟨S256x1x128, qCol x0⟩, ⟨S256x1x128, qCol x1⟩, ⟨S256x1x128, qCol x2⟩, ⟨S256x1x128, qCol x3⟩, ⟨S256x1x128, qCol x4⟩, ⟨S256x1x128, qCol x5⟩, ⟨S256x1x128, qCol x6⟩, ⟨S256x1x128, qCol x7⟩] concatenates_S256x1x128_S256x1x128_S256x1x128_S256x1x128_S256x1x128_S256x1x128_S256x1x128_S256x1x128_S256x8x128_d1) shapeCasts_S256x8x128_S1x256x8x128) Finset.univ (hst) (.inl rfl))

/-- The quantisation of a block, after the first block's own work. -/
def prep (arg3 : Memref sig .tc .vmem S1x256x1024 .bf16) (arg4 : Memref sig .tc .vmem S1x4096x256 .bf16) (arg5 : Memref sig .tc .vmem S1x4096x256 .bf16) (arg7 : Memref sig .tc .vmem S1x256x8x128 .fp8e4m3) (arg8 : Memref sig .tc .vmem S1x8x256 .f32) (arg9 : Memref sig .tc .vmem S1x2x4096x128 .fp8e4m3) (arg10 : Memref sig .tc .vmem S1x2x4096 .f32) (arg11 : Memref sig .tc .vmem S1x2x4096x128 .fp8e4m3) (arg13 : Memref sig .tc .vmem S8x256x128 .fp8e4m3) (arg14 : Memref sig .tc .vmem S8x256 .f32) (arg15 : Memref sig .tc .vmem S2x16x256x128 .f32) (arg16 : Memref sig .tc .vmem S2x16x128x256 .fp8e4m3) (arg17 : Memref sig .tc .vmem S2x128 .f32)
    (K0 K1 : KvAt arg9 arg11 arg16) (Qs : List (QAt arg13)) (o : Fin 3 → Nat) (ho : ∀ a, o a + S1x2x256.size a ≤ S1x2x4096.size a)
    (hst : (arg7.access (Rect.unit (s := S1x256x8x128) ![0, 0, 0, 0] S1x256x8x128.size inb_S1x256x8x128_S1x256x8x128_0_0_0_0)).Stores Finset.univ) : Prog (TpuEff nD τ sig (Elt F) Λ₀ .tc) PUnit := do
  let a0 ← kvStep arg4 arg5 arg9 arg11 arg15 arg16 arg17 K0 (broadcast S256x128 (Scalar.ofBits .f32 0x00000000#32))
  let a1 ← kvStep arg4 arg5 arg9 arg11 arg15 arg16 arg17 K1 a0
  let a2 ← qSteps arg3 arg13 Qs a1
  putScales arg8 arg10 arg14 o ho (scales a2)
  putCodes arg7 arg13 hst

end Cert.KernelIdeal.Model

end
-- ==== Proof.Body.lean ====
/- The offsets of the kernel body's pieces at a grid point, and the body of each of the five kinds of block (the
   first four of a batch, and the later ones) as the structured program of Proof/Model.lean. -/
module

public import proofs.«01_k».proof.Proof.Model

@[expose] public section

set_option synthInstance.maxSize 4096

noncomputable section

namespace Cert.KernelIdeal.Model

open Idealize.ShloMosaic Idealize.SL.Sem

variable {F : FTy → Type} [FloatOps F] [Named F]
variable [Facts]
open Facts₀ Facts

/-- The slot of a head's scores: heads alternate between two halves. -/
def slot (p : Fin 2) (k : Fin 4) : Fin 4 → Nat := ![p.val, k.val, 0, 0]

/-- A tile of the kept scores lies in its buffer. -/
theorem slot_inb (p : Fin 2) (k : Fin 4) : ∀ a, slot p k a + S1x1x256x256.size a ≤ S2x4x256x256.size a := by
  revert p k; decide

/-- A head's columns lie in the block. -/
theorem hd_inb (h : Fin 8) : ∀ a, (![0, 0, 128 * h.val] : Fin 3 → Nat) a + S1x256x128.size a ≤ S1x256x1024.size a := by
  revert h; decide

/-- A head's query codes lie in their buffer. -/
theorem qat_inb (h : Fin 8) : ∀ a, (![h.val, 0, 0] : Fin 3 → Nat) a + S1x256x128.size a ≤ S8x256x128.size a := by
  revert h; decide

/-- A head's columns of the output fill whole words. -/
theorem hd_packed : ∀ h : Fin 8, (Rect.unit (s := S1x256x1024) ![0, 0, 128 * h.val] S1x256x128.size (hd_inb h)).PackedRows (EltTy.packing .bf16)
  | 0 => packedbf16_S1x256x1024_S1x256x128_0_0_0
  | 1 => packedbf16_S1x256x1024_S1x256x128_0_0_128
  | 2 => packedbf16_S1x256x1024_S1x256x128_0_0_256
  | 3 => packedbf16_S1x256x1024_S1x256x128_0_0_384
  | 4 => packedbf16_S1x256x1024_S1x256x128_0_0_512
  | 5 => packedbf16_S1x256x1024_S1x256x128_0_0_640
  | 6 => packedbf16_S1x256x1024_S1x256x128_0_0_768
  | 7 => packedbf16_S1x256x1024_S1x256x128_0_0_896

/-- A head's query codes fill whole words. -/
theorem qat_packed : ∀ h : Fin 8, (Rect.unit (s := S8x256x128) ![h.val, 0, 0] S1x256x128.size (qat_inb h)).PackedRows (EltTy.packing .fp8e4m3)
  | 0 => packedfp8e4m3_S8x256x128_S1x256x128_0_0_0
  | 1 => packedfp8e4m3_S8x256x128_S1x256x128_1_0_0
  | 2 => packedfp8e4m3_S8x256x128_S1x256x128_2_0_0
  | 3 => packedfp8e4m3_S8x256x128_S1x256x128_3_0_0
  | 4 => packedfp8e4m3_S8x256x128_S1x256x128_4_0_0
  | 5 => packedfp8e4m3_S8x256x128_S1x256x128_5_0_0
  | 6 => packedfp8e4m3_S8x256x128_S1x256x128_6_0_0
  | 7 => packedfp8e4m3_S8x256x128_S1x256x128_7_0_0

/-- The half of the score buffer a head uses. -/
def par (h : Fin 8) : Fin 2 := ⟨h.val % 2, Nat.mod_lt _ (by decide)⟩

/-- Where a head's pieces lie. -/
def hd (arg6 : Memref sig .tc .vmem S1x256x1024 .bf16) (harg6 : arg6.IsWhole) (h : Fin 8) : HeadAt arg6 where
  q := ![h.val, 0, 0]
  hq := by revert h; decide
  c := ![h.val, 0]
  hc := by revert h; decide
  s := ![h.val]
  hs := by revert h; decide
  v := ![0, h.val / 4, 0]
  hv := by revert h; decide
  o := ![0, 0, 128 * h.val]
  ho := hd_inb h
  hst := View.stores_vmem h_S1x256x128 (harg6.storeExact_slice rfl _ (hd_packed h)) (fun _ => rfl)

/-- Where a head's query rows lie. -/
def qat (arg13 : Memref sig .tc .vmem S8x256x128 .fp8e4m3) (harg13 : arg13.IsWhole) (h : Fin 8) : QAt arg13 where
  n := BitVec.ofNat 32 h.val
  x := ![0, 0, 128 * h.val]
  hx := by revert h; decide
  q := ![h.val, 0, 0]
  hq := qat_inb h
  st := View.stores_vmem h_S1x256x128 (harg13.storeExact_slice rfl _ (qat_packed h)) (fun _ => rfl)

/-- Where a key head's value scales lie. -/
def vat (g : Fin 2) : VAt where
  x := ![0, 0, 128 * g.val]
  hx := by revert g; decide
  vs := ![0, g.val, 0]
  hvs := by revert g; decide
  vi := ![g.val, 0]
  hvi := by revert g; decide

/-- Where the rows of key head 0 of a block lie. -/
def kvat0 (arg9 : Memref sig .tc .vmem S1x2x4096x128 .fp8e4m3) (harg9 : arg9.IsWhole) (arg11 : Memref sig .tc .vmem S1x2x4096x128 .fp8e4m3) (harg11 : arg11.IsWhole)
    (arg16 : Memref sig .tc .vmem S2x16x128x256 .fp8e4m3) (harg16 : arg16.IsWhole) (i : grid0.Coords) : KvAt arg9 arg11 arg16 where
  n := 8#32
  x := k0_off1 i
  hx := k0_off1_inb i
  kc := k0_off2 i
  hkc := k0_off2_inb i
  ks := k0_off3 i
  hks := k0_off3_inb i
  vt := k0_off4 i
  hvt := k0_off4_inb i
  vi := ![0, 0]
  hvi := inb_S2x128_S1x128_0_0
  st9 := View.stores_vmem h_S1x1x256x128 (harg9.storeExact_slice rfl _ (k0_off2_packedfp8e4m3 i)) (fun _ => rfl)
  st11 := View.stores_vmem h_S1x1x256x128 (harg11.storeExact_slice rfl _ (k0_off2_packedfp8e4m3 i)) (fun _ => rfl)
  st16 := View.stores_vmem h_S1x1x128x256 (harg16.storeExact_slice rfl _ (k0_off4_packedfp8e4m3 i)) (fun _ => rfl)

/-- Where the rows of key head 1 of a block lie. -/
def kvat1 (arg9 : Memref sig .tc .vmem S1x2x4096x128 .fp8e4m3) (harg9 : arg9.IsWhole) (arg11 : Memref sig .tc .vmem S1x2x4096x128 .fp8e4m3) (harg11 : arg11.IsWhole)
    (arg16 : Memref sig .tc .vmem S2x16x128x256 .fp8e4m3) (harg16 : arg16.IsWhole) (i : grid0.Coords) : KvAt arg9 arg11 arg16 where
  n := 9#32
  x := k0_off5 i
  hx := k0_off5_inb i
  kc := k0_off6 i
  hkc := k0_off6_inb i
  ks := k0_off7 i
  hks := k0_off7_inb i
  vt := k0_off8 i
  hvt := k0_off8_inb i
  vi := ![1, 0]
  hvi := inb_S2x128_S1x128_1_0
  st9 := View.stores_vmem h_S1x1x256x128 (harg9.storeExact_slice rfl _ (k0_off6_packedfp8e4m3 i)) (fun _ => rfl)
  st11 := View.stores_vmem h_S1x1x256x128 (harg11.storeExact_slice rfl _ (k0_off6_packedfp8e4m3 i)) (fun _ => rfl)
  st16 := View.stores_vmem h_S1x1x128x256 (harg16.storeExact_slice rfl _ (k0_off8_packedfp8e4m3 i)) (fun _ => rfl)

/-- The tile of key head 0 at the first block: its own. -/
def tile0_0 (i : grid0.Coords) (h : k0_cond2 i = 1#1) (p : Fin 2) (k : Fin 4) : Tile :=
  ⟨k0_off10 i, k0_off10_inb i h, k0_off11 i, k0_off11_inb i h, k0_off12 i, k0_off12_inb i h, slot p k, slot_inb p k⟩

/-- The tile of key head 1 at the first block: its own. -/
def tile0_1 (i : grid0.Coords) (h : k0_cond2 i = 1#1) (p : Fin 2) (k : Fin 4) : Tile :=
  ⟨k0_off13 i, k0_off13_inb i h, k0_off14 i, k0_off14_inb i h, k0_off15 i, k0_off15_inb i h, slot p k, slot_inb p k⟩

/-- The heads and their tiles at block 0 of a batch. -/
def heads0 (arg6 : Memref sig .tc .vmem S1x256x1024 .bf16) (harg6 : arg6.IsWhole) (i : grid0.Coords) (h : k0_cond2 i = 1#1) :
    List (HeadAt arg6 × Option Tile × Tile × List Tile) :=
  (([0, 1, 2, 3] : List (Fin 8)).map fun x => (hd arg6 harg6 x, none, tile0_0 i h (par x) 0, [])) ++
  (([4, 5, 6, 7] : List (Fin 8)).map fun x => (hd arg6 harg6 x, none, tile0_1 i h (par x) 0, []))

/-- The tile of key head 0 that lies `r` blocks back, at block 1. -/
def tile1_0 (i : grid0.Coords) (h : k0_cond3 i = 1#1) (p : Fin 2) (k : Fin 4) (r : Fin 2) : Tile :=
  ⟨k0_off16 i (BitVec.ofNat 32 r.val), k0_off16_inb i h r, k0_off17 i (BitVec.ofNat 32 r.val), k0_off17_inb i h r, k0_off18 i (BitVec.ofNat 32 r.val), k0_off18_inb i h r, slot p k, slot_inb p k⟩

/-- The tile of key head 1 that lies `r` blocks back, at block 1. -/
def tile1_1 (i : grid0.Coords) (h : k0_cond3 i = 1#1) (p : Fin 2) (k : Fin 4) (r : Fin 2) : Tile :=
  ⟨k0_off19 i (BitVec.ofNat 32 r.val), k0_off19_inb i h r, k0_off20 i (BitVec.ofNat 32 r.val), k0_off20_inb i h r, k0_off21 i (BitVec.ofNat 32 r.val), k0_off21_inb i h r, slot p k, slot_inb p k⟩

/-- The heads and their tiles at block 1 of a batch. -/
def heads1 (arg6 : Memref sig .tc .vmem S1x256x1024 .bf16) (harg6 : arg6.IsWhole) (i : grid0.Coords) (h : k0_cond3 i = 1#1) :
    List (HeadAt arg6 × Option Tile × Tile × List Tile) :=
  (([0, 1, 2, 3] : List (Fin 8)).map fun x => (hd arg6 harg6 x, none, tile1_0 i h (par x) 0 0, [tile1_0 i h (par x) 1 1])) ++
  (([4, 5, 6, 7] : List (Fin 8)).map fun x => (hd arg6 harg6 x, none, tile1_1 i h (par x) 0 0, [tile1_1 i h (par x) 1 1]))

/-- The tile of key head 0 that lies `r` blocks back, at block 2. -/
def tile2_0 (i : grid0.Coords) (h : k0_cond4 i = 1#1) (p : Fin 2) (k : Fin 4) (r : Fin 3) : Tile :=
  ⟨k0_off22 i (BitVec.ofNat 32 r.val), k0_off22_inb i h r, k0_off23 i (BitVec.ofNat 32 r.val), k0_off23_inb i h r, k0_off24 i (BitVec.ofNat 32 r.val), k0_off24_inb i h r, slot p k, slot_inb p k⟩

/-- The tile of key head 1 that lies `r` blocks back, at block 2. -/
def tile2_1 (i : grid0.Coords) (h : k0_cond4 i = 1#1) (p : Fin 2) (k : Fin 4) (r : Fin 3) : Tile :=
  ⟨k0_off25 i (BitVec.ofNat 32 r.val), k0_off25_inb i h r, k0_off26 i (BitVec.ofNat 32 r.val), k0_off26_inb i h r, k0_off27 i (BitVec.ofNat 32 r.val), k0_off27_inb i h r, slot p k, slot_inb p k⟩

/-- The heads and their tiles at block 2 of a batch. -/
def heads2 (arg6 : Memref sig .tc .vmem S1x256x1024 .bf16) (harg6 : arg6.IsWhole) (i : grid0.Coords) (h : k0_cond4 i = 1#1) :
    List (HeadAt arg6 × Option Tile × Tile × List Tile) :=
  (([0, 1, 2, 3] : List (Fin 8)).map fun x => (hd arg6 harg6 x, none, tile2_0 i h (par x) 0 0, [tile2_0 i h (par x) 1 1, tile2_0 i h (par x) 2 2])) ++
  (([4, 5, 6, 7] : List (Fin 8)).map fun x => (hd arg6 harg6 x, none, tile2_1 i h (par x) 0 0, [tile2_1 i h (par x) 1 1, tile2_1 i h (par x) 2 2]))

/-- The tile of key head 0 that lies `r` blocks back, at block 3. -/
def tile3_0 (i : grid0.Coords) (h : k0_cond5 i = 1#1) (p : Fin 2) (k : Fin 4) (r : Fin 4) : Tile :=
  ⟨k0_off28 i (BitVec.ofNat 32 r.val), k0_off28_inb i h r, k0_off29 i (BitVec.ofNat 32 r.val), k0_off29_inb i h r, k0_off30 i (BitVec.ofNat 32 r.val), k0_off30_inb i h r, slot p k, slot_inb p k⟩

/-- The tile of key head 1 that lies `r` blocks back, at block 3. -/
def tile3_1 (i : grid0.Coords) (h : k0_cond5 i = 1#1) (p : Fin 2) (k : Fin 4) (r : Fin 4) : Tile :=
  ⟨k0_off31 i (BitVec.ofNat 32 r.val), k0_off31_inb i h r, k0_off32 i (BitVec.ofNat 32 r.val), k0_off32_inb i h r, k0_off33 i (BitVec.ofNat 32 r.val), k0_off33_inb i h r, slot p k, slot_inb p k⟩

/-- The heads and their tiles at block 3 of a batch. -/
def heads3 (arg6 : Memref sig .tc .vmem S1x256x1024 .bf16) (harg6 : arg6.IsWhole) (i : grid0.Coords) (h : k0_cond5 i = 1#1) :
    List (HeadAt arg6 × Option Tile × Tile × List Tile) :=
  (([0, 1, 2, 3] : List (Fin 8)).map fun x => (hd arg6 harg6 x, none, tile3_0 i h (par x) 0 0, [tile3_0 i h (par x) 1 1, tile3_0 i h (par x) 2 2, tile3_0 i h (par x) 3 3])) ++
  (([4, 5, 6, 7] : List (Fin 8)).map fun x => (hd arg6 harg6 x, none, tile3_1 i h (par x) 0 0, [tile3_1 i h (par x) 1 1, tile3_1 i h (par x) 2 2, tile3_1 i h (par x) 3 3]))

/-- The tile of key head 0 that lies `r` blocks back, at a later block. -/
def tile4_0 (i : grid0.Coords) (h : k0_cond6 i = 1#1) (p : Fin 2) (k : Fin 4) (r : Fin 5) : Tile :=
  ⟨k0_off34 i (BitVec.ofNat 32 r.val), k0_off34_inb i h r, k0_off35 i (BitVec.ofNat 32 r.val), k0_off35_inb i h r, k0_off36 i (BitVec.ofNat 32 r.val), k0_off36_inb i h r, slot p k, slot_inb p k⟩

/-- The tile of key head 1 that lies `r` blocks back, at a later block. -/
def tile4_1 (i : grid0.Coords) (h : k0_cond6 i = 1#1) (p : Fin 2) (k : Fin 4) (r : Fin 5) : Tile :=
  ⟨k0_off37 i (BitVec.ofNat 32 r.val), k0_off37_inb i h r, k0_off38 i (BitVec.ofNat 32 r.val), k0_off38_inb i h r, k0_off39 i (BitVec.ofNat 32 r.val), k0_off39_inb i h r, slot p k, slot_inb p k⟩

/-- The heads and their tiles at a later block of a batch. -/
def heads4 (arg6 : Memref sig .tc .vmem S1x256x1024 .bf16) (harg6 : arg6.IsWhole) (i : grid0.Coords) (h : k0_cond6 i = 1#1) :
    List (HeadAt arg6 × Option Tile × Tile × List Tile) :=
  (([0, 1, 2, 3] : List (Fin 8)).map fun x => (hd arg6 harg6 x, some (tile4_0 i h (par x) 0 4), tile4_0 i h (par x) 0 0, [tile4_0 i h (par x) 1 1, tile4_0 i h (par x) 2 2, tile4_0 i h (par x) 3 3])) ++
  (([4, 5, 6, 7] : List (Fin 8)).map fun x => (hd arg6 harg6 x, some (tile4_1 i h (par x) 0 4), tile4_1 i h (par x) 0 0, [tile4_1 i h (par x) 1 1, tile4_1 i h (par x) 2 2, tile4_1 i h (par x) 3 3]))

/-- The quantisation of the block of a grid point. -/
def prepAt (i : grid0.Coords) (arg2 : Memref sig .tc .smem S8 .f32) (harg2 : arg2.IsWhole) (arg3 : Memref sig .tc .vmem S1x256x1024 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x1024 .bf16) (harg6 : arg6.IsWhole) (arg7 : Memref sig .tc .vmem S1x256x8x128 .fp8e4m3) (harg7 : arg7.IsWhole) (arg8 : Memref sig .tc .vmem S1x8x256 .f32) (harg8 : arg8.IsWhole) (arg9 : Memref sig .tc .vmem S1x2x4096x128 .fp8e4m3) (harg9 : arg9.IsWhole) (arg10 : Memref sig .tc .vmem S1x2x4096 .f32) (harg10 : arg10.IsWhole) (arg11 : Memref sig .tc .vmem S1x2x4096x128 .fp8e4m3) (harg11 : arg11.IsWhole) (arg12 : Memref sig .tc .vmem S1x2x128 .f32) (harg12 : arg12.IsWhole) (arg13 : Memref sig .tc .vmem S8x256x128 .fp8e4m3) (harg13 : arg13.IsWhole) (arg14 : Memref sig .tc .vmem S8x256 .f32) (harg14 : arg14.IsWhole) (arg15 : Memref sig .tc .vmem S2x16x256x128 .f32) (harg15 : arg15.IsWhole) (arg16 : Memref sig .tc .vmem S2x16x128x256 .fp8e4m3) (harg16 : arg16.IsWhole) (arg17 : Memref sig .tc .vmem S2x128 .f32) (harg17 : arg17.IsWhole) (arg18 : Memref sig .tc .vmem S256x256 .i32) (harg18 : arg18.IsWhole) (arg19 : Memref sig .tc .vmem S2x4x256x256 .f32) (harg19 : arg19.IsWhole) : Prog (TpuEff nD τ sig (Elt F) Λ₀ .tc) PUnit :=
  prep arg3 arg4 arg5 arg7 arg8 arg9 arg10 arg11 arg13 arg14 arg15 arg16 arg17 (kvat0 arg9 harg9 arg11 harg11 arg16 harg16 i) (kvat1 arg9 harg9 arg11 harg11 arg16 harg16 i)
    (([0, 1, 2, 3, 4, 5, 6, 7] : List (Fin 8)).map (qat arg13 harg13)) (k0_off9 i) (k0_off9_inb i)
    (View.stores_vmem h_S1x256x8x128 (harg7.storeExact_slice rfl _ packedfp8e4m3_S1x256x8x128_S1x256x8x128_0_0_0_0) (fun _ => rfl))

/-- The body at the first block of a batch. -/
def body0 (i : grid0.Coords) (h : k0_cond2 i = 1#1) (arg2 : Memref sig .tc .smem S8 .f32) (harg2 : arg2.IsWhole) (arg3 : Memref sig .tc .vmem S1x256x1024 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x1024 .bf16) (harg6 : arg6.IsWhole) (arg7 : Memref sig .tc .vmem S1x256x8x128 .fp8e4m3) (harg7 : arg7.IsWhole) (arg8 : Memref sig .tc .vmem S1x8x256 .f32) (harg8 : arg8.IsWhole) (arg9 : Memref sig .tc .vmem S1x2x4096x128 .fp8e4m3) (harg9 : arg9.IsWhole) (arg10 : Memref sig .tc .vmem S1x2x4096 .f32) (harg10 : arg10.IsWhole) (arg11 : Memref sig .tc .vmem S1x2x4096x128 .fp8e4m3) (harg11 : arg11.IsWhole) (arg12 : Memref sig .tc .vmem S1x2x128 .f32) (harg12 : arg12.IsWhole) (arg13 : Memref sig .tc .vmem S8x256x128 .fp8e4m3) (harg13 : arg13.IsWhole) (arg14 : Memref sig .tc .vmem S8x256 .f32) (harg14 : arg14.IsWhole) (arg15 : Memref sig .tc .vmem S2x16x256x128 .f32) (harg15 : arg15.IsWhole) (arg16 : Memref sig .tc .vmem S2x16x128x256 .fp8e4m3) (harg16 : arg16.IsWhole) (arg17 : Memref sig .tc .vmem S2x128 .f32) (harg17 : arg17.IsWhole) (arg18 : Memref sig .tc .vmem S256x256 .i32) (harg18 : arg18.IsWhole) (arg19 : Memref sig .tc .vmem S2x4x256x256 .f32) (harg19 : arg19.IsWhole) : Prog (TpuEff nD τ sig (Elt F) Λ₀ .tc) PUnit := do
  init arg5 arg12 arg17 arg18 (vat 0) (vat 1)
  prepAt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  attend arg2 arg6 arg9 arg12 arg13 arg14 arg15 arg16 arg19 arg18 (heads0 arg6 harg6 i h)

/-- The body at block 1 of a batch. -/
def body1 (i : grid0.Coords) (h : k0_cond3 i = 1#1) (arg2 : Memref sig .tc .smem S8 .f32) (harg2 : arg2.IsWhole) (arg3 : Memref sig .tc .vmem S1x256x1024 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x1024 .bf16) (harg6 : arg6.IsWhole) (arg7 : Memref sig .tc .vmem S1x256x8x128 .fp8e4m3) (harg7 : arg7.IsWhole) (arg8 : Memref sig .tc .vmem S1x8x256 .f32) (harg8 : arg8.IsWhole) (arg9 : Memref sig .tc .vmem S1x2x4096x128 .fp8e4m3) (harg9 : arg9.IsWhole) (arg10 : Memref sig .tc .vmem S1x2x4096 .f32) (harg10 : arg10.IsWhole) (arg11 : Memref sig .tc .vmem S1x2x4096x128 .fp8e4m3) (harg11 : arg11.IsWhole) (arg12 : Memref sig .tc .vmem S1x2x128 .f32) (harg12 : arg12.IsWhole) (arg13 : Memref sig .tc .vmem S8x256x128 .fp8e4m3) (harg13 : arg13.IsWhole) (arg14 : Memref sig .tc .vmem S8x256 .f32) (harg14 : arg14.IsWhole) (arg15 : Memref sig .tc .vmem S2x16x256x128 .f32) (harg15 : arg15.IsWhole) (arg16 : Memref sig .tc .vmem S2x16x128x256 .fp8e4m3) (harg16 : arg16.IsWhole) (arg17 : Memref sig .tc .vmem S2x128 .f32) (harg17 : arg17.IsWhole) (arg18 : Memref sig .tc .vmem S256x256 .i32) (harg18 : arg18.IsWhole) (arg19 : Memref sig .tc .vmem S2x4x256x256 .f32) (harg19 : arg19.IsWhole) : Prog (TpuEff nD τ sig (Elt F) Λ₀ .tc) PUnit := do
  prepAt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  attend arg2 arg6 arg9 arg12 arg13 arg14 arg15 arg16 arg19 arg18 (heads1 arg6 harg6 i h)

/-- The body at block 2 of a batch. -/
def body2 (i : grid0.Coords) (h : k0_cond4 i = 1#1) (arg2 : Memref sig .tc .smem S8 .f32) (harg2 : arg2.IsWhole) (arg3 : Memref sig .tc .vmem S1x256x1024 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x1024 .bf16) (harg6 : arg6.IsWhole) (arg7 : Memref sig .tc .vmem S1x256x8x128 .fp8e4m3) (harg7 : arg7.IsWhole) (arg8 : Memref sig .tc .vmem S1x8x256 .f32) (harg8 : arg8.IsWhole) (arg9 : Memref sig .tc .vmem S1x2x4096x128 .fp8e4m3) (harg9 : arg9.IsWhole) (arg10 : Memref sig .tc .vmem S1x2x4096 .f32) (harg10 : arg10.IsWhole) (arg11 : Memref sig .tc .vmem S1x2x4096x128 .fp8e4m3) (harg11 : arg11.IsWhole) (arg12 : Memref sig .tc .vmem S1x2x128 .f32) (harg12 : arg12.IsWhole) (arg13 : Memref sig .tc .vmem S8x256x128 .fp8e4m3) (harg13 : arg13.IsWhole) (arg14 : Memref sig .tc .vmem S8x256 .f32) (harg14 : arg14.IsWhole) (arg15 : Memref sig .tc .vmem S2x16x256x128 .f32) (harg15 : arg15.IsWhole) (arg16 : Memref sig .tc .vmem S2x16x128x256 .fp8e4m3) (harg16 : arg16.IsWhole) (arg17 : Memref sig .tc .vmem S2x128 .f32) (harg17 : arg17.IsWhole) (arg18 : Memref sig .tc .vmem S256x256 .i32) (harg18 : arg18.IsWhole) (arg19 : Memref sig .tc .vmem S2x4x256x256 .f32) (harg19 : arg19.IsWhole) : Prog (TpuEff nD τ sig (Elt F) Λ₀ .tc) PUnit := do
  prepAt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  attend arg2 arg6 arg9 arg12 arg13 arg14 arg15 arg16 arg19 arg18 (heads2 arg6 harg6 i h)

/-- The body at block 3 of a batch. -/
def body3 (i : grid0.Coords) (h : k0_cond5 i = 1#1) (arg2 : Memref sig .tc .smem S8 .f32) (harg2 : arg2.IsWhole) (arg3 : Memref sig .tc .vmem S1x256x1024 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x1024 .bf16) (harg6 : arg6.IsWhole) (arg7 : Memref sig .tc .vmem S1x256x8x128 .fp8e4m3) (harg7 : arg7.IsWhole) (arg8 : Memref sig .tc .vmem S1x8x256 .f32) (harg8 : arg8.IsWhole) (arg9 : Memref sig .tc .vmem S1x2x4096x128 .fp8e4m3) (harg9 : arg9.IsWhole) (arg10 : Memref sig .tc .vmem S1x2x4096 .f32) (harg10 : arg10.IsWhole) (arg11 : Memref sig .tc .vmem S1x2x4096x128 .fp8e4m3) (harg11 : arg11.IsWhole) (arg12 : Memref sig .tc .vmem S1x2x128 .f32) (harg12 : arg12.IsWhole) (arg13 : Memref sig .tc .vmem S8x256x128 .fp8e4m3) (harg13 : arg13.IsWhole) (arg14 : Memref sig .tc .vmem S8x256 .f32) (harg14 : arg14.IsWhole) (arg15 : Memref sig .tc .vmem S2x16x256x128 .f32) (harg15 : arg15.IsWhole) (arg16 : Memref sig .tc .vmem S2x16x128x256 .fp8e4m3) (harg16 : arg16.IsWhole) (arg17 : Memref sig .tc .vmem S2x128 .f32) (harg17 : arg17.IsWhole) (arg18 : Memref sig .tc .vmem S256x256 .i32) (harg18 : arg18.IsWhole) (arg19 : Memref sig .tc .vmem S2x4x256x256 .f32) (harg19 : arg19.IsWhole) : Prog (TpuEff nD τ sig (Elt F) Λ₀ .tc) PUnit := do
  prepAt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  attend arg2 arg6 arg9 arg12 arg13 arg14 arg15 arg16 arg19 arg18 (heads3 arg6 harg6 i h)

/-- The body at a later block of a batch. -/
def body4 (i : grid0.Coords) (h : k0_cond6 i = 1#1) (arg2 : Memref sig .tc .smem S8 .f32) (harg2 : arg2.IsWhole) (arg3 : Memref sig .tc .vmem S1x256x1024 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x1024 .bf16) (harg6 : arg6.IsWhole) (arg7 : Memref sig .tc .vmem S1x256x8x128 .fp8e4m3) (harg7 : arg7.IsWhole) (arg8 : Memref sig .tc .vmem S1x8x256 .f32) (harg8 : arg8.IsWhole) (arg9 : Memref sig .tc .vmem S1x2x4096x128 .fp8e4m3) (harg9 : arg9.IsWhole) (arg10 : Memref sig .tc .vmem S1x2x4096 .f32) (harg10 : arg10.IsWhole) (arg11 : Memref sig .tc .vmem S1x2x4096x128 .fp8e4m3) (harg11 : arg11.IsWhole) (arg12 : Memref sig .tc .vmem S1x2x128 .f32) (harg12 : arg12.IsWhole) (arg13 : Memref sig .tc .vmem S8x256x128 .fp8e4m3) (harg13 : arg13.IsWhole) (arg14 : Memref sig .tc .vmem S8x256 .f32) (harg14 : arg14.IsWhole) (arg15 : Memref sig .tc .vmem S2x16x256x128 .f32) (harg15 : arg15.IsWhole) (arg16 : Memref sig .tc .vmem S2x16x128x256 .fp8e4m3) (harg16 : arg16.IsWhole) (arg17 : Memref sig .tc .vmem S2x128 .f32) (harg17 : arg17.IsWhole) (arg18 : Memref sig .tc .vmem S256x256 .i32) (harg18 : arg18.IsWhole) (arg19 : Memref sig .tc .vmem S2x4x256x256 .f32) (harg19 : arg19.IsWhole) : Prog (TpuEff nD τ sig (Elt F) Λ₀ .tc) PUnit := do
  prepAt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  attend arg2 arg6 arg9 arg12 arg13 arg14 arg15 arg16 arg19 arg18 (heads4 arg6 harg6 i h)

end Cert.KernelIdeal.Model

end
-- ==== Proof.Runs.lean ====
/- How the structured body runs: the values of the buffers it touches (`St`), owned together (`Own`), and the judgement
   `Runs p s a s'`: from the values `s`, the program `p` returns `a` and leaves the values `s'`. -/
module

public import proofs.«01_k».proof.Proof.Body
public import proofs.«01_k».proof.Proof.Gen.KernelIdeal.Frame
public import Idealize.ShloMosaic.Lib.VecWindow

@[expose] public section

set_option synthInstance.maxSize 4096

noncomputable section

namespace Cert.KernelIdeal.Model

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-- The memrefs of the body. -/
structure Mems where
  a2 : Memref sig .tc .smem S8 .f32
  a3 : Memref sig .tc .vmem S1x256x1024 .bf16
  a4 : Memref sig .tc .vmem S1x4096x256 .bf16
  a5 : Memref sig .tc .vmem S1x4096x256 .bf16
  a6 : Memref sig .tc .vmem S1x256x1024 .bf16
  a7 : Memref sig .tc .vmem S1x256x8x128 .fp8e4m3
  a8 : Memref sig .tc .vmem S1x8x256 .f32
  a9 : Memref sig .tc .vmem S1x2x4096x128 .fp8e4m3
  a10 : Memref sig .tc .vmem S1x2x4096 .f32
  a11 : Memref sig .tc .vmem S1x2x4096x128 .fp8e4m3
  a12 : Memref sig .tc .vmem S1x2x128 .f32
  a13 : Memref sig .tc .vmem S8x256x128 .fp8e4m3
  a14 : Memref sig .tc .vmem S8x256 .f32
  a15 : Memref sig .tc .vmem S2x16x256x128 .f32
  a16 : Memref sig .tc .vmem S2x16x128x256 .fp8e4m3
  a17 : Memref sig .tc .vmem S2x128 .f32
  a18 : Memref sig .tc .vmem S256x256 .i32
  a19 : Memref sig .tc .vmem S2x4x256x256 .f32

/-- The values the body's buffers hold. -/
@[ext] structure St (F : FTy → Type) [FloatOps F] [Named F] where
  b2 : Vec F S8 .f32
  b3 : Vec F S1x256x1024 .bf16
  b4 : Vec F S1x4096x256 .bf16
  b5 : Vec F S1x4096x256 .bf16
  b6 : Vec F S1x256x1024 .bf16
  b7 : Vec F S1x256x8x128 .fp8e4m3
  b8 : Vec F S1x8x256 .f32
  b9 : Vec F S1x2x4096x128 .fp8e4m3
  b10 : Vec F S1x2x4096 .f32
  b11 : Vec F S1x2x4096x128 .fp8e4m3
  b12 : Vec F S1x2x128 .f32
  b13 : Vec F S8x256x128 .fp8e4m3
  b14 : Vec F S8x256 .f32
  b15 : Vec F S2x16x256x128 .f32
  b16 : Vec F S2x16x128x256 .fp8e4m3
  b17 : Vec F S2x128 .f32
  b18 : Vec F S256x256 .i32
  b19 : Vec F S2x4x256x256 .f32

/-- The values with another content of buffer 2. -/
def St.set2 (s : St F) (x : Vec F S8 .f32) : St F := { s with b2 := x }

/-- The values with another content of buffer 3. -/
def St.set3 (s : St F) (x : Vec F S1x256x1024 .bf16) : St F := { s with b3 := x }

/-- The values with another content of buffer 4. -/
def St.set4 (s : St F) (x : Vec F S1x4096x256 .bf16) : St F := { s with b4 := x }

/-- The values with another content of buffer 5. -/
def St.set5 (s : St F) (x : Vec F S1x4096x256 .bf16) : St F := { s with b5 := x }

/-- The values with another content of buffer 6. -/
def St.set6 (s : St F) (x : Vec F S1x256x1024 .bf16) : St F := { s with b6 := x }

/-- The values with another content of buffer 7. -/
def St.set7 (s : St F) (x : Vec F S1x256x8x128 .fp8e4m3) : St F := { s with b7 := x }

/-- The values with another content of buffer 8. -/
def St.set8 (s : St F) (x : Vec F S1x8x256 .f32) : St F := { s with b8 := x }

/-- The values with another content of buffer 9. -/
def St.set9 (s : St F) (x : Vec F S1x2x4096x128 .fp8e4m3) : St F := { s with b9 := x }

/-- The values with another content of buffer 10. -/
def St.set10 (s : St F) (x : Vec F S1x2x4096 .f32) : St F := { s with b10 := x }

/-- The values with another content of buffer 11. -/
def St.set11 (s : St F) (x : Vec F S1x2x4096x128 .fp8e4m3) : St F := { s with b11 := x }

/-- The values with another content of buffer 12. -/
def St.set12 (s : St F) (x : Vec F S1x2x128 .f32) : St F := { s with b12 := x }

/-- The values with another content of buffer 13. -/
def St.set13 (s : St F) (x : Vec F S8x256x128 .fp8e4m3) : St F := { s with b13 := x }

/-- The values with another content of buffer 14. -/
def St.set14 (s : St F) (x : Vec F S8x256 .f32) : St F := { s with b14 := x }

/-- The values with another content of buffer 15. -/
def St.set15 (s : St F) (x : Vec F S2x16x256x128 .f32) : St F := { s with b15 := x }

/-- The values with another content of buffer 16. -/
def St.set16 (s : St F) (x : Vec F S2x16x128x256 .fp8e4m3) : St F := { s with b16 := x }

/-- The values with another content of buffer 17. -/
def St.set17 (s : St F) (x : Vec F S2x128 .f32) : St F := { s with b17 := x }

/-- The values with another content of buffer 18. -/
def St.set18 (s : St F) (x : Vec F S256x256 .i32) : St F := { s with b18 := x }

/-- The values with another content of buffer 19. -/
def St.set19 (s : St F) (x : Vec F S2x4x256x256 .f32) : St F := { s with b19 := x }

variable (c : Dev nD) (M : Mems) (E : Set ℕ)

/-- Every buffer of the body owned, at the values `s`. -/
def Own (s : St F) : sProp 𝕄 :=
  iprop(owns (c : Thread nD τ) M.a2 fullShare s.b2 ∗ owns (c : Thread nD τ) M.a3 fullShare s.b3 ∗ owns (c : Thread nD τ) M.a4 fullShare s.b4 ∗ owns (c : Thread nD τ) M.a5 fullShare s.b5 ∗ owns (c : Thread nD τ) M.a6 fullShare s.b6 ∗ owns (c : Thread nD τ) M.a7 fullShare s.b7 ∗ owns (c : Thread nD τ) M.a8 fullShare s.b8 ∗ owns (c : Thread nD τ) M.a9 fullShare s.b9 ∗ owns (c : Thread nD τ) M.a10 fullShare s.b10 ∗ owns (c : Thread nD τ) M.a11 fullShare s.b11 ∗ owns (c : Thread nD τ) M.a12 fullShare s.b12 ∗ owns (c : Thread nD τ) M.a13 fullShare s.b13 ∗ owns (c : Thread nD τ) M.a14 fullShare s.b14 ∗ owns (c : Thread nD τ) M.a15 fullShare s.b15 ∗ owns (c : Thread nD τ) M.a16 fullShare s.b16 ∗ owns (c : Thread nD τ) M.a17 fullShare s.b17 ∗ owns (c : Thread nD τ) M.a18 fullShare s.b18 ∗ owns (c : Thread nD τ) M.a19 fullShare s.b19)

/-- From the values `s` the program returns `a` and leaves the values `s'`. -/
def Runs {α : Type} (p : Prog (TpuEff nD τ sig (Elt F) Λ₀ .tc) α) (s : St F) (a : α) (s' : St F) : Prop :=
  Own c M s ⊢ wp frame (wpE (defs₀ (F := F)) Variants.none c none) E p fun r => iprop(⌜r = a⌝ ∗ Own c M s')

variable {c M E}

/-- A return runs to its value. -/
theorem Runs.ret {α : Type} (a : α) (s : St F) : Runs c M E (pure a) s a s := by
  unfold Runs
  refine BIBase.Entails.trans ?_ (le_wp_ret _ _ _ _ _)
  iintro H; isplitr
  · ipureintro; rfl
  · iexact H

/-- One program after another. -/
theorem Runs.bind {α β : Type} {p : Prog (TpuEff nD τ sig (Elt F) Λ₀ .tc) α} {k : α → Prog (TpuEff nD τ sig (Elt F) Λ₀ .tc) β}
    {s s' s'' : St F} {a : α} {b : β} (hp : Runs c M E p s a s') (hk : Runs c M E (k a) s' b s'') : Runs c M E (p >>= k) s b s'' := by
  unfold Runs at *
  rw [wp_bind]
  refine hp.trans (wp_mono _ _ _ fun r => ?_)
  iintro ⟨%hr, H⟩
  subst hr
  iapply hk; iexact H

variable (c M) in
/-- A buffer of the body: what it holds, and the values with another content of it. -/
def Lens {sp : CoreSpace} {sh : Shape} {e : EltTy} (m : Memref sig .tc sp sh e) (g : St F → (sh.Idx → Elt F e)) (p : St F → (sh.Idx → Elt F e) → St F) : Prop :=
  (∀ s, Own c M s ⊢ iprop(owns (c : Thread nD τ) m fullShare (g s) ∗ (∀ x, owns (c : Thread nD τ) m fullShare x -∗ Own c M (p s x)))) ∧ ∀ s, p s (g s) = s

/-- A load reads a window of the buffer's values. -/
theorem Lens.load {sp : CoreSpace} {sh : Shape} {e : EltTy} {m : Memref sig .tc sp sh e} {g : St F → (sh.Idx → Elt F e)} {p : St F → (sh.Idx → Elt F e) → St F}
    (h : Lens c M m g p) (off size : Fin sh.rank → Nat) (inb : ∀ a, off a + size a ≤ sh.size a) (hl) (s : St F) :
    Runs c M E (Prog.lift (.load m (Rect.unit off size inb).toLoadRect hl)) s (VecWindow.window (g s) off size inb) s := by
  unfold Runs
  refine (h.1 s).trans ?_
  unfold owns
  iintro ⟨⟨%f, %hf, H⟩, Hw⟩
  iapply (wp_load_rect (defs := defs₀ (F := F)) Variants.none (c : Thread nD τ) none E (m := m) (r := Rect.unit off size inb) (S := m.view.set) (View.set_slice_subset _ _)) $$ H
  iintro H
  iapply (le_wp_ret _ _ _ _ _)
  isplitr
  · ipureintro; show _ = VecWindow.window (g s) off size inb; rw [← hf]; rfl
  · conv => rhs; rw [← h.2 s]
    iapply Hw; iexists f; isplitr
    · ipureintro; exact hf
    · iexact H

/-- A store puts its payload over a window of the buffer's values. -/
theorem Lens.store {sp : CoreSpace} {sh : Shape} {e : EltTy} {m : Memref sig .tc sp sh e} {g : St F → (sh.Idx → Elt F e)} {p : St F → (sh.Idx → Elt F e) → St F}
    (h : Lens c M m g p) (off size : Fin sh.rank → Nat) (inb : ∀ a, off a + size a ≤ sh.size a) (w) (hx) (hm) (s : St F) :
    Runs c M E (Prog.lift (.store m (Rect.unit off size inb) w Finset.univ hx hm)) s ⟨⟩ (p s (VecWindow.put (g s) off size w)) := by
  unfold Runs
  refine (h.1 s).trans ?_
  unfold owns
  iintro ⟨⟨%f, %hf, H⟩, Hw⟩
  iapply (wp_store (defs := defs₀ (F := F)) Variants.none (c : Thread nD τ) none E (m := m) (r := Rect.unit off size inb) (S := m.view.set) (by rw [View.setOn_univ]; exact View.set_slice_subset _ _)) $$ H
  iintro H
  iapply (le_wp_ret _ _ _ _ _)
  isplitr
  · ipureintro; rfl
  · iapply Hw; iexists ((m.access (Rect.unit off size inb)).write (Elt F) f w Finset.univ); isplitr
    · ipureintro; show _ = VecWindow.put (g s) off size w; rw [← hf]; exact View.read_writes_cons_put m.view f inb w [] rfl
    · iexact H

/-- A load of one scalar reads it. -/
theorem Lens.sload {sh : Shape} {e : EltTy} {m : Memref sig .tc .smem sh e} {g : St F → (sh.Idx → Elt F e)} {p : St F → (sh.Idx → Elt F e) → St F}
    (h : Lens c M m g p) (off : Fin sh.rank → Nat) (size : Fin sh.rank → Nat) (inb : ∀ a, off a + size a ≤ sh.size a) (h1) (h2) (s : St F) :
    Runs c M E (smemLoad m (Rect.unit off size inb) h1 h2) s (VecWindow.window (g s) off size inb (Shape.Idx.first (by rw [h1]; decide))) s := by
  unfold Runs smemLoad
  refine (h.1 s).trans ?_
  unfold owns
  iintro ⟨⟨%f, %hf, H⟩, Hw⟩
  iapply (wp_smemLoadElt (defs := defs₀ (F := F)) Variants.none (c : Thread nD τ) none E (m := m) (r := Rect.unit off size inb) (S := m.view.set) (View.set_slice_subset _ _)) $$ H
  iintro H
  iapply (le_wp_ret _ _ _ _ _)
  isplitr
  · ipureintro; rw [← hf]; rfl
  · conv => rhs; rw [← h.2 s]
    iapply Hw; iexists f; isplitr
    · ipureintro; exact hf
    · iexact H

variable (c M) in
/-- Buffer 2 of the body. -/
theorem lens2 : Lens (F := F) c M M.a2 (fun s => s.b2) (fun s x => s.set2 x) := by
  refine ⟨fun s => ?_, fun s => rfl⟩
  unfold Own
  iintro ⟨H2, H3, H4, H5, H6, H7, H8, H9, H10, H11, H12, H13, H14, H15, H16, H17, H18, H19⟩
  isplitl [H2]; · iexact H2
  iintro %x Hx
  isplitl [Hx]; · iexact Hx
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

variable (c M) in
/-- Buffer 3 of the body. -/
theorem lens3 : Lens (F := F) c M M.a3 (fun s => s.b3) (fun s x => s.set3 x) := by
  refine ⟨fun s => ?_, fun s => rfl⟩
  unfold Own
  iintro ⟨H2, H3, H4, H5, H6, H7, H8, H9, H10, H11, H12, H13, H14, H15, H16, H17, H18, H19⟩
  isplitl [H3]; · iexact H3
  iintro %x Hx
  isplitl [H2]; · iexact H2
  isplitl [Hx]; · iexact Hx
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

variable (c M) in
/-- Buffer 4 of the body. -/
theorem lens4 : Lens (F := F) c M M.a4 (fun s => s.b4) (fun s x => s.set4 x) := by
  refine ⟨fun s => ?_, fun s => rfl⟩
  unfold Own
  iintro ⟨H2, H3, H4, H5, H6, H7, H8, H9, H10, H11, H12, H13, H14, H15, H16, H17, H18, H19⟩
  isplitl [H4]; · iexact H4
  iintro %x Hx
  isplitl [H2]; · iexact H2
  isplitl [H3]; · iexact H3
  isplitl [Hx]; · iexact Hx
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

variable (c M) in
/-- Buffer 5 of the body. -/
theorem lens5 : Lens (F := F) c M M.a5 (fun s => s.b5) (fun s x => s.set5 x) := by
  refine ⟨fun s => ?_, fun s => rfl⟩
  unfold Own
  iintro ⟨H2, H3, H4, H5, H6, H7, H8, H9, H10, H11, H12, H13, H14, H15, H16, H17, H18, H19⟩
  isplitl [H5]; · iexact H5
  iintro %x Hx
  isplitl [H2]; · iexact H2
  isplitl [H3]; · iexact H3
  isplitl [H4]; · iexact H4
  isplitl [Hx]; · iexact Hx
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

variable (c M) in
/-- Buffer 6 of the body. -/
theorem lens6 : Lens (F := F) c M M.a6 (fun s => s.b6) (fun s x => s.set6 x) := by
  refine ⟨fun s => ?_, fun s => rfl⟩
  unfold Own
  iintro ⟨H2, H3, H4, H5, H6, H7, H8, H9, H10, H11, H12, H13, H14, H15, H16, H17, H18, H19⟩
  isplitl [H6]; · iexact H6
  iintro %x Hx
  isplitl [H2]; · iexact H2
  isplitl [H3]; · iexact H3
  isplitl [H4]; · iexact H4
  isplitl [H5]; · iexact H5
  isplitl [Hx]; · iexact Hx
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

variable (c M) in
/-- Buffer 7 of the body. -/
theorem lens7 : Lens (F := F) c M M.a7 (fun s => s.b7) (fun s x => s.set7 x) := by
  refine ⟨fun s => ?_, fun s => rfl⟩
  unfold Own
  iintro ⟨H2, H3, H4, H5, H6, H7, H8, H9, H10, H11, H12, H13, H14, H15, H16, H17, H18, H19⟩
  isplitl [H7]; · iexact H7
  iintro %x Hx
  isplitl [H2]; · iexact H2
  isplitl [H3]; · iexact H3
  isplitl [H4]; · iexact H4
  isplitl [H5]; · iexact H5
  isplitl [H6]; · iexact H6
  isplitl [Hx]; · iexact Hx
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

variable (c M) in
/-- Buffer 8 of the body. -/
theorem lens8 : Lens (F := F) c M M.a8 (fun s => s.b8) (fun s x => s.set8 x) := by
  refine ⟨fun s => ?_, fun s => rfl⟩
  unfold Own
  iintro ⟨H2, H3, H4, H5, H6, H7, H8, H9, H10, H11, H12, H13, H14, H15, H16, H17, H18, H19⟩
  isplitl [H8]; · iexact H8
  iintro %x Hx
  isplitl [H2]; · iexact H2
  isplitl [H3]; · iexact H3
  isplitl [H4]; · iexact H4
  isplitl [H5]; · iexact H5
  isplitl [H6]; · iexact H6
  isplitl [H7]; · iexact H7
  isplitl [Hx]; · iexact Hx
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

variable (c M) in
/-- Buffer 9 of the body. -/
theorem lens9 : Lens (F := F) c M M.a9 (fun s => s.b9) (fun s x => s.set9 x) := by
  refine ⟨fun s => ?_, fun s => rfl⟩
  unfold Own
  iintro ⟨H2, H3, H4, H5, H6, H7, H8, H9, H10, H11, H12, H13, H14, H15, H16, H17, H18, H19⟩
  isplitl [H9]; · iexact H9
  iintro %x Hx
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [Hx]; · iexact Hx
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

variable (c M) in
/-- Buffer 10 of the body. -/
theorem lens10 : Lens (F := F) c M M.a10 (fun s => s.b10) (fun s x => s.set10 x) := by
  refine ⟨fun s => ?_, fun s => rfl⟩
  unfold Own
  iintro ⟨H2, H3, H4, H5, H6, H7, H8, H9, H10, H11, H12, H13, H14, H15, H16, H17, H18, H19⟩
  isplitl [H10]; · iexact H10
  iintro %x Hx
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [Hx]; · iexact Hx
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

variable (c M) in
/-- Buffer 11 of the body. -/
theorem lens11 : Lens (F := F) c M M.a11 (fun s => s.b11) (fun s x => s.set11 x) := by
  refine ⟨fun s => ?_, fun s => rfl⟩
  unfold Own
  iintro ⟨H2, H3, H4, H5, H6, H7, H8, H9, H10, H11, H12, H13, H14, H15, H16, H17, H18, H19⟩
  isplitl [H11]; · iexact H11
  iintro %x Hx
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [Hx]; · iexact Hx
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

variable (c M) in
/-- Buffer 12 of the body. -/
theorem lens12 : Lens (F := F) c M M.a12 (fun s => s.b12) (fun s x => s.set12 x) := by
  refine ⟨fun s => ?_, fun s => rfl⟩
  unfold Own
  iintro ⟨H2, H3, H4, H5, H6, H7, H8, H9, H10, H11, H12, H13, H14, H15, H16, H17, H18, H19⟩
  isplitl [H12]; · iexact H12
  iintro %x Hx
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [Hx]; · iexact Hx
  isplitl [H13]; · iexact H13
  isplitl [H14]; · iexact H14
  isplitl [H15]; · iexact H15
  isplitl [H16]; · iexact H16
  isplitl [H17]; · iexact H17
  isplitl [H18]; · iexact H18
  iexact H19

variable (c M) in
/-- Buffer 13 of the body. -/
theorem lens13 : Lens (F := F) c M M.a13 (fun s => s.b13) (fun s x => s.set13 x) := by
  refine ⟨fun s => ?_, fun s => rfl⟩
  unfold Own
  iintro ⟨H2, H3, H4, H5, H6, H7, H8, H9, H10, H11, H12, H13, H14, H15, H16, H17, H18, H19⟩
  isplitl [H13]; · iexact H13
  iintro %x Hx
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [Hx]; · iexact Hx
  isplitl [H14]; · iexact H14
  isplitl [H15]; · iexact H15
  isplitl [H16]; · iexact H16
  isplitl [H17]; · iexact H17
  isplitl [H18]; · iexact H18
  iexact H19

variable (c M) in
/-- Buffer 14 of the body. -/
theorem lens14 : Lens (F := F) c M M.a14 (fun s => s.b14) (fun s x => s.set14 x) := by
  refine ⟨fun s => ?_, fun s => rfl⟩
  unfold Own
  iintro ⟨H2, H3, H4, H5, H6, H7, H8, H9, H10, H11, H12, H13, H14, H15, H16, H17, H18, H19⟩
  isplitl [H14]; · iexact H14
  iintro %x Hx
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [Hx]; · iexact Hx
  isplitl [H15]; · iexact H15
  isplitl [H16]; · iexact H16
  isplitl [H17]; · iexact H17
  isplitl [H18]; · iexact H18
  iexact H19

variable (c M) in
/-- Buffer 15 of the body. -/
theorem lens15 : Lens (F := F) c M M.a15 (fun s => s.b15) (fun s x => s.set15 x) := by
  refine ⟨fun s => ?_, fun s => rfl⟩
  unfold Own
  iintro ⟨H2, H3, H4, H5, H6, H7, H8, H9, H10, H11, H12, H13, H14, H15, H16, H17, H18, H19⟩
  isplitl [H15]; · iexact H15
  iintro %x Hx
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [Hx]; · iexact Hx
  isplitl [H16]; · iexact H16
  isplitl [H17]; · iexact H17
  isplitl [H18]; · iexact H18
  iexact H19

variable (c M) in
/-- Buffer 16 of the body. -/
theorem lens16 : Lens (F := F) c M M.a16 (fun s => s.b16) (fun s x => s.set16 x) := by
  refine ⟨fun s => ?_, fun s => rfl⟩
  unfold Own
  iintro ⟨H2, H3, H4, H5, H6, H7, H8, H9, H10, H11, H12, H13, H14, H15, H16, H17, H18, H19⟩
  isplitl [H16]; · iexact H16
  iintro %x Hx
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [Hx]; · iexact Hx
  isplitl [H17]; · iexact H17
  isplitl [H18]; · iexact H18
  iexact H19

variable (c M) in
/-- Buffer 17 of the body. -/
theorem lens17 : Lens (F := F) c M M.a17 (fun s => s.b17) (fun s x => s.set17 x) := by
  refine ⟨fun s => ?_, fun s => rfl⟩
  unfold Own
  iintro ⟨H2, H3, H4, H5, H6, H7, H8, H9, H10, H11, H12, H13, H14, H15, H16, H17, H18, H19⟩
  isplitl [H17]; · iexact H17
  iintro %x Hx
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [Hx]; · iexact Hx
  isplitl [H18]; · iexact H18
  iexact H19

variable (c M) in
/-- Buffer 18 of the body. -/
theorem lens18 : Lens (F := F) c M M.a18 (fun s => s.b18) (fun s x => s.set18 x) := by
  refine ⟨fun s => ?_, fun s => rfl⟩
  unfold Own
  iintro ⟨H2, H3, H4, H5, H6, H7, H8, H9, H10, H11, H12, H13, H14, H15, H16, H17, H18, H19⟩
  isplitl [H18]; · iexact H18
  iintro %x Hx
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [Hx]; · iexact Hx
  iexact H19

variable (c M) in
/-- Buffer 19 of the body. -/
theorem lens19 : Lens (F := F) c M M.a19 (fun s => s.b19) (fun s x => s.set19 x) := by
  refine ⟨fun s => ?_, fun s => rfl⟩
  unfold Own
  iintro ⟨H2, H3, H4, H5, H6, H7, H8, H9, H10, H11, H12, H13, H14, H15, H16, H17, H18, H19⟩
  isplitl [H19]; · iexact H19
  iintro %x Hx
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact Hx

end Cert.KernelIdeal.Model

end
-- ==== Proof.RunsBody.lean ====
/- How the pieces of the structured body run: what each returns and which values it leaves in the buffers. -/
module

public import proofs.«01_k».proof.Proof.Runs

@[expose] public section

set_option synthInstance.maxSize 4096

noncomputable section

namespace Cert.KernelIdeal.Model

open Idealize.ShloMosaic Idealize.ShloMosaic.TcCoe Idealize.ShloMosaic.Tactic
open Idealize.SL Idealize.SL.RA Idealize.SL.BI
open Idealize.SL.Sem
open Cert.KernelIdeal.Gen
open VecWindow (window put)

variable {F : FTy → Type} [FloatOps F] [Named F]
variable {c : Dev nD} {M : Mems} {E : Set ℕ}

/-! ## Windows -/

/-- Windows at equal offsets are equal. -/
theorem window_congr {s : Shape} {α : Type} {x y : s.Idx → α} (hx : x = y) {off off' size : Fin s.rank → ℕ} (h : off = off') (inb : ∀ a, off a + size a ≤ s.size a) (inb' : ∀ a, off' a + size a ≤ s.size a) :
    window x off size inb = window y off' size inb' := by
  subst h hx; rfl

/-- A window put over the whole buffer is all it holds. -/
theorem put_full {s : Shape} {α : Type} (x : s.Idx → α) (off : Fin s.rank → ℕ) (h : ∀ a, off a = 0) (w : s.Idx → α) :
    put x off s.size w = w := by
  funext y
  have hy : ∀ a, off a ≤ (y a).val ∧ (y a).val < off a + s.size a := fun a => by have := (y a).isLt; rw [h a]; omega
  unfold put
  rw [dif_pos hy]
  congr 1
  funext a
  exact Fin.ext (by show (y a).val - off a = (y a).val; rw [h a]; rfl)

/-- The window of the whole buffer is the buffer. -/
theorem window_full {s : Shape} {α : Type} (x : s.Idx → α) (off : Fin s.rank → ℕ) (h : ∀ a, off a = 0) (inb : ∀ a, off a + s.size a ≤ s.size a) :
    window x off s.size inb = x := by
  funext y
  show x _ = x y
  congr 1
  funext a
  exact Fin.ext (by show off a + 1 * (y a).val = (y a).val; rw [h a]; omega)

/-- A window apart from every window of a list of them is kept. -/
theorem window_foldl_of_apart {s : Shape} {α ι : Type} (o : ι → Fin s.rank → ℕ) (size : Fin s.rank → ℕ) (w : ι → ((a : Fin s.rank) → Fin (size a)) → α)
    (off' size' : Fin s.rank → ℕ) (inb' : ∀ a, off' a + size' a ≤ s.size a) (L : List ι)
    (h : ∀ i ∈ L, ∃ a, off' a + size' a ≤ o i a ∨ o i a + size a ≤ off' a) (x : s.Idx → α) :
    window (L.foldl (fun b i => put b (o i) size (w i)) x) off' size' inb' = window x off' size' inb' := by
  induction L generalizing x with
  | nil => rfl
  | cons i L ih =>
    obtain ⟨a, ha⟩ := h i (by simp)
    rw [List.foldl_cons, ih (fun i hi => h i (by simp [hi])), VecWindow.window_put_of_disjoint x (o i) size off' size' inb' (w i) a ha]

/-- Of windows put one after the other, each apart from the others, each is read back. -/
theorem window_foldl {s : Shape} {α ι : Type} (o : ι → Fin s.rank → ℕ) (size : Fin s.rank → ℕ) (w : ι → ((a : Fin s.rank) → Fin (size a)) → α)
    (inb : ∀ i a, o i a + size a ≤ s.size a) (L : List ι) (hL : L.Nodup)
    (h : ∀ i j : ι, i ≠ j → ∃ a, o i a + size a ≤ o j a ∨ o j a + size a ≤ o i a) (x : s.Idx → α) (i : ι) (hi : i ∈ L) :
    window (L.foldl (fun b i => put b (o i) size (w i)) x) (o i) size (inb i) = w i := by
  induction L generalizing x with
  | nil => simp at hi
  | cons j L ih =>
    rw [List.foldl_cons]
    rcases List.mem_cons.mp hi with rfl | hi'
    · rw [window_foldl_of_apart o size w (o i) size (inb i) L (fun k hk => h i k (fun e => by subst e; exact (List.nodup_cons.mp hL).1 hk)),
        VecWindow.window_put_same]
    · exact ih (List.nodup_cons.mp hL).2 _ hi'

/-! ## One attention head -/

/-- What a key tile holds: the codes, the key scales, the transposed value codes. -/
structure TileV (F : FTy → Type) [FloatOps F] [Named F] where
  kc : Vec F S1x1x256x128 .fp8e4m3
  ks : Vec F S1x1x256x128 .f32
  vt : Vec F S1x1x128x256 .fp8e4m3

/-- What a tile holds in the buffers. -/
def tileOf (s : St F) (T : Tile) : TileV F :=
  ⟨window s.b9 T.kc S1x1x256x128.size T.hkc, window s.b15 T.ks S1x1x256x128.size T.hks, window s.b16 T.vt S1x1x128x256.size T.hvt⟩

/-- The running maxima after the full tiles. -/
def pass1V (q : FVec F S256x128 .fp8e4m3) : List (TileV F) → FVec F S8x256 .f32 → FVec F S8x256 .f32
  | [], mx => mx
  | T :: Ts, mx => pass1V q Ts (maximumf mx (tileMax (scoreV T.kc T.ks q)))

/-- One tile's scores as they are kept. -/
def keptV (x : FVec F S256x256 .f32) : Vec F S1x1x256x256 .f32 := shapeCast S1x1x256x256 x Facts₀.shapeCasts_S256x256_S1x1x256x256

/-- The weighted sums over a list of tiles' values and scores. -/
def pass2V (c : Vec F S1x256 .f32) (shift : FVec F S1x256 .f32) : List (Vec F S1x1x128x256 .fp8e4m3 × Vec F S1x1x256x256 .f32) → FVec F S128x256 .f32 → FVec F S8x256 .f32 →
    FVec F S128x256 .f32 × FVec F S8x256 .f32
  | [], acc, l => (acc, l)
  | T :: Ts, acc, l => pass2V c shift Ts (pvV T.1 (clip (probs T.2 c shift)) acc) (addf l (tileSum (probs T.2 c shift)))

/-- The scores left of the diagonal block. -/
def leftScoreV (q : FVec F S256x128 .fp8e4m3) : Option (TileV F) → FVec F S256x256 .f32
  | none => broadcast S256x256 (Scalar.ofBits .f32 0xFF800000#32)
  | some L => scoreV L.kc L.ks q

/-- The oldest tile's weighted values. -/
def leftPvV (tri : Vec F S256x256 .i32) (p : FVec F S256x256 .f32) (acc : FVec F S128x256 .f32) : Option (TileV F) → FVec F S128x256 .f32
  | none => acc
  | some L => pvV L.vt (select (triMask tri) (broadcast S256x256 (Scalar.ofBits .f32 0x00000000#32)) (clip p)) acc

/-- A sink in units of powers of two. -/
def sinkV (sk : F .f32) : F .f32 := Scalar.mulf sk (Named.named κ "log2_e" 0x3FB8AA3B#32)

/-- A head's codes as a matrix. -/
def qMat (q0 : Vec F S1x256x128 .fp8e4m3) : FVec F S256x128 .fp8e4m3 := shapeCast S256x128 q0 Facts₀.shapeCasts_S1x256x128_S256x128

/-- The scores of the diagonal tile, joined with the oldest tile's where the window cuts it. -/
def diagV (q0 : Vec F S1x256x128 .fp8e4m3) (tri : Vec F S256x256 .i32) (L : Option (TileV F)) (T : TileV F) : FVec F S256x256 .f32 :=
  select (triMask tri) (scoreV T.kc T.ks (qMat q0)) (leftScoreV (qMat q0) L)

/-- The shift of a head's exponents. -/
def headShift (q0 : Vec F S1x256x128 .fp8e4m3) (c : Vec F S1x256 .f32) (sk : F .f32) (tri : Vec F S256x256 .i32) (L : Option (TileV F)) (T : TileV F) (Ts : List (TileV F)) : FVec F S1x256 .f32 :=
  shiftV (uMax (pass1V (qMat q0) Ts (tileMax (diagV q0 tri L T))) c) (sinkV sk)

/-- The weighted sums of one head. -/
def headSums (q0 : Vec F S1x256x128 .fp8e4m3) (c : Vec F S1x256 .f32) (shift : FVec F S1x256 .f32) (tri : Vec F S256x256 .i32) (L : Option (TileV F)) (T : TileV F) (Ts : List (TileV F)) :
    FVec F S128x256 .f32 × FVec F S8x256 .f32 :=
  pass2V c shift (Ts.map fun T => (T.vt, keptV (scoreV T.kc T.ks (qMat q0))))
    (pvV T.vt (select (triMask tri) (clip (probs (keptV (diagV q0 tri L T)) c shift)) (broadcast S256x256 (Scalar.ofBits .f32 0x00000000#32)))
      (leftPvV tri (probs (keptV (diagV q0 tri L T)) c shift) (broadcast S128x256 (Scalar.ofBits .f32 0x00000000#32)) L))
    (addf (broadcast S8x256 (Scalar.ofBits .f32 0x00000000#32)) (tileSum (probs (keptV (diagV q0 tri L T)) c shift)))

/-- The output of one head for a block of queries. -/
def headV (q0 : Vec F S1x256x128 .fp8e4m3) (c : Vec F S1x256 .f32) (sk : F .f32) (vs : Vec F S1x1x128 .f32) (tri : Vec F S256x256 .i32) (L : Option (TileV F)) (T : TileV F) (Ts : List (TileV F)) : FVec F S1x256x128 .bf16 :=
  outV (headSums q0 c (headShift q0 c sk tri L T Ts) tri L T Ts).1 (headSums q0 c (headShift q0 c sk tri L T Ts) tri L T Ts).2 (sinkV sk) (headShift q0 c sk tri L T Ts) vs

/-- Two tiles' score slots are apart. -/
def Apart (U T : Tile) : Prop := U.sl 1 + 1 ≤ T.sl 1 ∨ T.sl 1 + 1 ≤ U.sl 1

/-- One tile's scores. -/
theorem score_runs (q : FVec F S256x128 .fp8e4m3) (T : Tile) (s : St F) :
    Runs c M E (score M.a9 M.a15 q T) s (scoreV (tileOf s T).kc (tileOf s T).ks q) s := by
  unfold score
  exact ((lens9 c M).load _ _ _ _ s).bind (((lens15 c M).load _ _ _ _ s).bind (Runs.ret _ s))

/-- Keeping one tile's scores. -/
theorem putT_runs (T : Tile) (x : FVec F S256x256 .f32) (s : St F) :
    Runs c M E (putT M.a19 T x) s ⟨⟩ (s.set19 (put s.b19 T.sl S1x1x256x256.size (keptV x))) := by
  unfold putT
  exact ((lens19 c M).load _ _ _ _ s).bind ((lens19 c M).store _ _ _ _ _ _ s)

/-- The first pass returns the maxima and keeps every tile's scores. -/
theorem pass1_runs (q : FVec F S256x128 .fp8e4m3) (Ts : List Tile) (hTs : Ts.Pairwise Apart) (mx : FVec F S8x256 .f32) (s : St F) :
    ∃ y, Runs c M E (pass1 M.a9 M.a15 M.a19 q Ts mx) s (pass1V q (Ts.map (tileOf s)) mx) (s.set19 y)
      ∧ (∀ T ∈ Ts, window y T.sl S1x1x256x256.size T.hsl = keptV (scoreV (tileOf s T).kc (tileOf s T).ks q))
      ∧ ∀ U : Tile, (∀ T ∈ Ts, Apart U T) → window y U.sl S1x1x256x256.size U.hsl = window s.b19 U.sl S1x1x256x256.size U.hsl := by
  induction Ts generalizing mx s with
  | nil => exact ⟨s.b19, Runs.ret _ s, by simp, fun _ _ => rfl⟩
  | cons T Ts ih =>
    have hTs' := List.pairwise_cons.mp hTs
    obtain ⟨y, hy, h1, h2⟩ := ih hTs'.2 (maximumf mx (tileMax (scoreV (tileOf s T).kc (tileOf s T).ks q)))
      (s.set19 (put s.b19 T.sl S1x1x256x256.size (keptV (scoreV (tileOf s T).kc (tileOf s T).ks q))))
    refine ⟨y, (score_runs q T s).bind ((putT_runs T _ s).bind hy), fun U hU => ?_, fun U hU => ?_⟩
    · rcases List.mem_cons.mp hU with rfl | hU
      · rw [h2 U hTs'.1]; exact VecWindow.window_put_same _ _ _ _ _
      · exact h1 U hU
    · rw [h2 U fun T hT => hU T (by simp [hT])]
      exact VecWindow.window_put_of_disjoint _ _ _ _ _ _ _ 1 (hU T (by simp))

/-- One tile's weighted values. -/
theorem pv_runs (T : Tile) (p : FVec F S256x256 .f32) (acc : FVec F S128x256 .f32) (s : St F) :
    Runs c M E (pv M.a16 T p acc) s (pvV (tileOf s T).vt p acc) s := by
  unfold pv
  exact ((lens16 c M).load _ _ _ _ s).bind (Runs.ret _ s)

/-- One tile's kept scores. -/
theorem getT_runs (T : Tile) (s : St F) :
    Runs c M E (getT M.a19 T) s (window s.b19 T.sl S1x1x256x256.size T.hsl) s := by
  unfold getT
  exact ((lens19 c M).load _ _ _ _ s).bind (Runs.ret _ s)

/-- The second pass returns the weighted sums. -/
theorem pass2_runs (k : Vec F S1x256 .f32) (shift : FVec F S1x256 .f32) (Ts : List Tile) (acc : FVec F S128x256 .f32) (l : FVec F S8x256 .f32) (s : St F) :
    Runs c M E (pass2 M.a16 M.a19 k shift Ts acc l) s
      (pass2V k shift (Ts.map fun T => ((tileOf s T).vt, window s.b19 T.sl S1x1x256x256.size T.hsl)) acc l) s := by
  induction Ts generalizing acc l with
  | nil => exact Runs.ret _ s
  | cons T Ts ih => exact (getT_runs T s).bind ((pv_runs T _ _ s).bind (ih _ _))

/-- The scores left of the diagonal block. -/
theorem leftScore_runs (q : FVec F S256x128 .fp8e4m3) (L : Option Tile) (s : St F) :
    Runs c M E (leftScore M.a9 M.a15 q L) s (leftScoreV q (L.map (tileOf s))) s := by
  cases L with
  | none => exact Runs.ret _ s
  | some L => exact score_runs q L s

/-- The oldest tile's weighted values. -/
theorem leftPv_runs (tri : Vec F S256x256 .i32) (p : FVec F S256x256 .f32) (acc : FVec F S128x256 .f32) (L : Option Tile) (s : St F) :
    Runs c M E (leftPv M.a16 tri p acc L) s (leftPvV tri p acc (L.map (tileOf s))) s := by
  cases L with
  | none => exact Runs.ret _ s
  | some L => exact pv_runs L _ _ s

/-- What a head writes, from the values the buffers hold. -/
def headOut {arg6 : Memref sig .tc .vmem S1x256x1024 .bf16} (s : St F) (tri : Vec F S256x256 .i32) (x : HeadAt arg6 × Option Tile × Tile × List Tile) : FVec F S1x256x128 .bf16 :=
  headV (window s.b13 x.1.q S1x256x128.size x.1.hq) (window s.b14 x.1.c S1x256.size x.1.hc) (window s.b2 x.1.s S1.size x.1.hs (Shape.Idx.first (by show 0 < S1.numel; decide)))
    (window s.b12 x.1.v S1x1x128.size x.1.hv) tri (x.2.1.map (tileOf s)) (tileOf s x.2.2.1) (x.2.2.2.map (tileOf s))

/-- A head writes its output over its columns, and only its score slots besides. -/
theorem head_runs (H : HeadAt M.a6) (L : Option Tile) (T : Tile) (Ts : List Tile) (hTs : (T :: Ts).Pairwise Apart) (tri : Vec F S256x256 .i32) (s : St F) :
    ∃ y, Runs c M E (head M.a2 M.a6 M.a9 M.a12 M.a13 M.a14 M.a15 M.a16 M.a19 L T Ts tri H) s ⟨⟩
      ((s.set19 y).set6 (put s.b6 H.o S1x256x128.size (headOut s tri (H, L, T, Ts)))) := by
  have hTs' := List.pairwise_cons.mp hTs
  let q0 : Vec F S1x256x128 .fp8e4m3 := window s.b13 H.q S1x256x128.size H.hq
  let d := diagV q0 tri (L.map (tileOf s)) (tileOf s T)
  obtain ⟨y, hy, h1, h2⟩ := pass1_runs (c := c) (M := M) (E := E) (qMat q0) Ts hTs'.2 (tileMax d) (s.set19 (put s.b19 T.sl S1x1x256x256.size (keptV d)))
  have hT : window y T.sl S1x1x256x256.size T.hsl = keptV d := (h2 T hTs'.1).trans (VecWindow.window_put_same _ _ _ _ _)
  have hm : (Ts.map fun U => ((tileOf s U).vt, window y U.sl S1x1x256x256.size U.hsl)) = (Ts.map (tileOf s)).map fun T => (T.vt, keptV (scoreV T.kc T.ks (qMat q0))) := by
    rw [List.map_map]
    exact List.map_congr_left fun U hU => by rw [h1 U hU]; rfl
  refine ⟨y, ?_⟩
  unfold head
  refine ((lens13 c M).load _ _ _ _ s).bind ?_
  refine (leftScore_runs _ L s).bind ?_
  refine (score_runs _ T s).bind ?_
  refine (putT_runs T _ s).bind ?_
  refine hy.bind ?_
  refine ((lens14 c M).load _ _ _ _ _).bind ?_
  refine ((lens2 c M).sload _ _ _ _ _ _).bind ?_
  refine (getT_runs T _).bind ?_
  refine (leftPv_runs tri _ _ L _).bind ?_
  refine (pv_runs T _ _ _).bind ?_
  refine (pass2_runs _ _ Ts _ _ _).bind ?_
  refine ((lens12 c M).load _ _ _ _ _).bind ?_
  refine ((lens6 c M).load _ _ _ _ _).bind ?_
  have hst : ∀ w, w = headOut s tri (H, L, T, Ts) → Runs c M E (Prog.lift (.store M.a6 (Rect.unit H.o S1x256x128.size H.ho) w Finset.univ H.hst (.inl rfl))) (s.set19 y) ⟨⟩
      ((s.set19 y).set6 (put s.b6 H.o S1x256x128.size (headOut s tri (H, L, T, Ts)))) := by
    rintro _ rfl
    exact (lens6 c M).store H.o S1x256x128.size H.ho _ H.hst (.inl rfl) (s.set19 y)
  refine hst _ ?_
  unfold headOut headV headSums headShift
  rw [← hm]
  show _ = outV (pass2V _ _ _ (pvV _ (select _ (clip (probs (keptV d) _ _)) _) (leftPvV _ (probs (keptV d) _ _) _ _)) (addf _ (tileSum (probs (keptV d) _ _)))).1
    (pass2V _ _ _ (pvV _ (select _ (clip (probs (keptV d) _ _)) _) (leftPvV _ (probs (keptV d) _ _) _ _)) (addf _ (tileSum (probs (keptV d) _ _)))).2 _ _ _
  rw [← hT]
  rfl

end Cert.KernelIdeal.Model

end
-- ==== Proof.RunsBlock.lean ====
/- What one grid point of the kernel leaves in the buffers: the codes and scales of its block, and the attention of
   its queries over the blocks kept so far. -/
module

public import proofs.«01_k».proof.Proof.RunsBody

@[expose] public section

set_option synthInstance.maxSize 4096

noncomputable section

namespace Cert.KernelIdeal.Model

open Idealize.ShloMosaic Idealize.ShloMosaic.TcCoe Idealize.ShloMosaic.Tactic
open Idealize.SL Idealize.SL.RA Idealize.SL.BI
open Idealize.SL.Sem
open VecWindow (window put)
open Facts₀ Facts

variable {F : FTy → Type} [FloatOps F] [Named F]
variable {c : Dev nD} {M : Mems} {E : Set ℕ}

/-- A store over a whole buffer leaves its payload. -/
theorem Lens.storeFull {sp : CoreSpace} {sh : Shape} {e : EltTy} {m : Memref sig .tc sp sh e} {g : St F → (sh.Idx → Elt F e)} {p : St F → (sh.Idx → Elt F e) → St F}
    (h : Lens c M m g p) (off : Fin sh.rank → Nat) (h0 : ∀ a, off a = 0) (inb : ∀ a, off a + sh.size a ≤ sh.size a) (w : sh.Idx → Elt F e) (hx) (hm) (s : St F) :
    Runs c M E (Prog.lift (.store m (Rect.unit off sh.size inb) w Finset.univ hx hm)) s ⟨⟩ (p s w) := by
  have := h.store (E := E) off sh.size inb w hx hm s
  rw [put_full (g s) off h0 w] at this
  exact this

/-- The heads write their outputs one after the other. -/
theorem heads_runs (tri : Vec F S256x256 .i32) (xs : List (HeadAt M.a6 × Option Tile × Tile × List Tile))
    (hx : ∀ x ∈ xs, (x.2.2.1 :: x.2.2.2).Pairwise Apart) (s : St F) :
    ∃ y, Runs c M E (heads M.a2 M.a6 M.a9 M.a12 M.a13 M.a14 M.a15 M.a16 M.a19 tri xs) s ⟨⟩
      ((s.set19 y).set6 (xs.foldl (fun b x => put b x.1.o S1x256x128.size (headOut s tri x)) s.b6)) := by
  induction xs generalizing s with
  | nil => exact ⟨s.b19, Runs.ret _ s⟩
  | cons x xs ih =>
    obtain ⟨y, hy⟩ := head_runs (c := c) (M := M) (E := E) x.1 x.2.1 x.2.2.1 x.2.2.2 (hx x (by simp)) tri s
    obtain ⟨z, hz⟩ := ih (fun x h => hx x (by simp [h])) ((s.set19 y).set6 (put s.b6 x.1.o S1x256x128.size (headOut s tri x)))
    exact ⟨z, hy.bind hz⟩

/-- The attention of a block. -/
theorem attend_runs (xs : List (HeadAt M.a6 × Option Tile × Tile × List Tile))
    (hx : ∀ x ∈ xs, (x.2.2.1 :: x.2.2.2).Pairwise Apart) (s : St F) :
    ∃ y, Runs c M E (attend M.a2 M.a6 M.a9 M.a12 M.a13 M.a14 M.a15 M.a16 M.a19 M.a18 xs) s ⟨⟩
      ((s.set19 y).set6 (xs.foldl (fun b x => put b x.1.o S1x256x128.size (headOut s s.b18 x)) s.b6)) := by
  obtain ⟨y, hy⟩ := heads_runs (c := c) (M := M) (E := E) s.b18 xs hx s
  refine ⟨y, ?_⟩
  unfold attend
  refine ((lens18 c M).load _ _ _ _ s).bind ?_
  have h : window s.b18 ![0, 0] S256x256.size inb_S256x256_S256x256_0_0 = s.b18 := window_full _ _ (by decide) _
  rw [h]
  exact hy

/-! ## The quantisation -/

/-- One key head's rows. -/
theorem kvStep_runs (K : KvAt M.a9 M.a11 M.a16) (acc : FVec F S256x128 .f32) (s : St F) :
    Runs c M E (kvStep M.a4 M.a5 M.a9 M.a11 M.a15 M.a16 M.a17 K acc) s (laneSel K.n (amaxCol (rowsOf (window s.b4 K.x S1x256x128.size K.hx))) acc)
      ((((s.set9 (put s.b9 K.kc S1x1x256x128.size (shapeCast S1x1x256x128 (truncf .fp8e4m3 (codesOf (rowsOf (window s.b4 K.x S1x256x128.size K.hx))) bitsLt_fp8e4m3_f32 : FVec F S256x128 .fp8e4m3) shapeCasts_S256x128_S1x1x256x128))).set15
        (put s.b15 K.ks S1x1x256x128.size (shapeCast S1x1x256x128 (scaleTile (rowsOf (window s.b4 K.x S1x256x128.size K.hx))) shapeCasts_S256x128_S1x1x256x128))).set11
        (put s.b11 K.kc S1x1x256x128.size (shapeCast S1x1x256x128 (truncf .fp8e4m3 (vcodesOf (window s.b5 K.x S1x256x128.size K.hx) (window s.b17 K.vi S1x128.size K.hvi)) bitsLt_fp8e4m3_f32 : FVec F S256x128 .fp8e4m3) shapeCasts_S256x128_S1x1x256x128))).set16
        (put s.b16 K.vt S1x1x128x256.size (shapeCast S1x1x128x256 (truncf .fp8e4m3 (transpose S128x256 [1, 0] (vcodesOf (window s.b5 K.x S1x256x128.size K.hx) (window s.b17 K.vi S1x128.size K.hvi)) transposes_S256x128_p1_0_S128x256) bitsLt_fp8e4m3_f32 : FVec F S128x256 .fp8e4m3) shapeCasts_S128x256_S1x1x128x256))) := by
  unfold kvStep
  refine ((lens4 c M).load _ _ _ _ s).bind ?_
  refine ((lens9 c M).load _ _ _ _ _).bind ?_
  refine ((lens9 c M).store _ _ _ _ _ _ _).bind ?_
  refine ((lens15 c M).load _ _ _ _ _).bind ?_
  refine ((lens15 c M).store _ _ _ _ _ _ _).bind ?_
  refine ((lens5 c M).load _ _ _ _ _).bind ?_
  refine ((lens17 c M).load _ _ _ _ _).bind ?_
  refine ((lens11 c M).load _ _ _ _ _).bind ?_
  refine ((lens11 c M).store _ _ _ _ _ _ _).bind ?_
  refine ((lens16 c M).load _ _ _ _ _).bind ?_
  refine ((lens16 c M).store _ _ _ _ _ _ _).bind ?_
  exact Runs.ret _ _

/-- The query rows of every head. -/
theorem qSteps_runs (Qs : List (QAt M.a13)) (acc : FVec F S256x128 .f32) (s : St F) :
    Runs c M E (qSteps M.a3 M.a13 Qs acc) s (Qs.foldl (fun a Q => laneSel Q.n (amaxCol (rowsOf (window s.b3 Q.x S1x256x128.size Q.hx))) a) acc)
      (s.set13 (Qs.foldl (fun b Q => put b Q.q S1x256x128.size (shapeCast S1x256x128 (truncf .fp8e4m3 (codesOf (rowsOf (window s.b3 Q.x S1x256x128.size Q.hx))) bitsLt_fp8e4m3_f32 : FVec F S256x128 .fp8e4m3) shapeCasts_S256x128_S1x256x128)) s.b13)) := by
  induction Qs generalizing acc s with
  | nil => exact Runs.ret _ s
  | cons Q Qs ih =>
    unfold qSteps qStep
    refine Runs.bind (((lens3 c M).load _ _ _ _ s).bind (((lens13 c M).load _ _ _ _ _).bind (((lens13 c M).store _ _ _ _ _ _ _).bind (Runs.ret _ _)))) ?_
    exact ih _ _

/-- One key head's value scales. -/
theorem vStep_runs (V : VAt) (s : St F) :
    Runs c M E (vStep M.a5 M.a12 M.a17 V) s ⟨⟩
      ((s.set12 (put s.b12 V.vs S1x1x128.size (shapeCast S1x1x128 (scaleOf (expLane (amaxLane (window s.b5 V.x S1x4096x128.size V.hx)))) shapeCasts_S1x128_S1x1x128))).set17
        (put s.b17 V.vi S1x128.size (shapeCast S1x128 (invOf (expLane (amaxLane (window s.b5 V.x S1x4096x128.size V.hx)))) shapeCasts_S1x128_S1x128))) := by
  unfold vStep
  refine ((lens5 c M).load _ _ _ _ s).bind ?_
  refine ((lens12 c M).load _ _ _ _ _).bind ?_
  refine ((lens12 c M).store _ _ _ _ _ _ _).bind ?_
  refine ((lens17 c M).load _ _ _ _ _).bind ?_
  exact (lens17 c M).store _ _ _ _ _ _ _

/-- The scales of a block. -/
theorem putScales_runs (o : Fin 3 → Nat) (ho : ∀ a, o a + S1x2x256.size a ≤ S1x2x4096.size a) (sc : FVec F S16x256 .f32) (s : St F) :
    Runs c M E (putScales M.a8 M.a10 M.a14 o ho sc) s ⟨⟩
      (((s.set8 (shapeCast S1x8x256 (extractStridedSlice S8x256 ![0, 0] sc slices_S16x256_o0_0_S8x256) shapeCasts_S8x256_S1x8x256)).set10
        (put s.b10 o S1x2x256.size (shapeCast S1x2x256 (extractStridedSlice S2x256 ![8, 0] sc slices_S16x256_o8_0_S2x256) shapeCasts_S2x256_S1x2x256))).set14
        (shapeCast S8x256 (mulf (extractStridedSlice S8x256 ![0, 0] sc slices_S16x256_o0_0_S8x256) (broadcast S8x256 (Named.named κ "sm_scale_log2_e" 0x3E0293EE#32))) shapeCasts_S8x256_S8x256)) := by
  unfold putScales
  refine ((lens8 c M).load _ _ _ _ s).bind ?_
  refine ((lens8 c M).storeFull ![0, 0, 0] (by decide) _ _ _ _ _).bind ?_
  refine ((lens10 c M).load _ _ _ _ _).bind ?_
  refine ((lens10 c M).store _ _ _ _ _ _ _).bind ?_
  refine ((lens14 c M).load _ _ _ _ _).bind ?_
  exact (lens14 c M).storeFull _ (by decide) _ _ _ _ _

/-- The interleaved codes of a block. -/
def codesV (b : Vec F S8x256x128 .fp8e4m3) : Vec F S1x256x8x128 .fp8e4m3 :=
  shapeCast S1x256x8x128 (concatenate S256x8x128 1 [⟨S256x1x128, qCol (window b ![0, 0, 0] S1x256x128.size inb_S8x256x128_S1x256x128_0_0_0)⟩,
    ⟨S256x1x128, qCol (window b ![1, 0, 0] S1x256x128.size inb_S8x256x128_S1x256x128_1_0_0)⟩,
    ⟨S256x1x128, qCol (window b ![2, 0, 0] S1x256x128.size inb_S8x256x128_S1x256x128_2_0_0)⟩,
    ⟨S256x1x128, qCol (window b ![3, 0, 0] S1x256x128.size inb_S8x256x128_S1x256x128_3_0_0)⟩,
    ⟨S256x1x128, qCol (window b ![4, 0, 0] S1x256x128.size inb_S8x256x128_S1x256x128_4_0_0)⟩,
    ⟨S256x1x128, qCol (window b ![5, 0, 0] S1x256x128.size inb_S8x256x128_S1x256x128_5_0_0)⟩,
    ⟨S256x1x128, qCol (window b ![6, 0, 0] S1x256x128.size inb_S8x256x128_S1x256x128_6_0_0)⟩,
    ⟨S256x1x128, qCol (window b ![7, 0, 0] S1x256x128.size inb_S8x256x128_S1x256x128_7_0_0)⟩]
    concatenates_S256x1x128_S256x1x128_S256x1x128_S256x1x128_S256x1x128_S256x1x128_S256x1x128_S256x1x128_S256x8x128_d1) shapeCasts_S256x8x128_S1x256x8x128

/-- Interleaving the heads' codes. -/
theorem putCodes_runs (hst) (s : St F) : Runs c M E (putCodes M.a7 M.a13 hst) s ⟨⟩ (s.set7 (codesV s.b13)) := by
  unfold putCodes
  refine ((lens13 c M).load _ _ _ _ s).bind ?_
  refine ((lens13 c M).load _ _ _ _ s).bind ?_
  refine ((lens13 c M).load _ _ _ _ s).bind ?_
  refine ((lens13 c M).load _ _ _ _ s).bind ?_
  refine ((lens13 c M).load _ _ _ _ s).bind ?_
  refine ((lens13 c M).load _ _ _ _ s).bind ?_
  refine ((lens13 c M).load _ _ _ _ s).bind ?_
  refine ((lens13 c M).load _ _ _ _ s).bind ?_
  refine ((lens7 c M).load _ _ _ _ s).bind ?_
  exact (lens7 c M).storeFull ![0, 0, 0, 0] (by decide) _ _ _ _ _

/-- The first block's own work. -/
theorem init_runs (V0 V1 : VAt) (s : St F) :
    ∃ s1 s2, Runs c M E (vStep M.a5 M.a12 M.a17 V0) s ⟨⟩ s1 ∧ Runs c M E (vStep M.a5 M.a12 M.a17 V1) s1 ⟨⟩ s2
      ∧ Runs c M E (init M.a5 M.a12 M.a17 M.a18 V0 V1) s ⟨⟩ (s2.set18 (shapeCast S256x256 triV shapeCasts_S256x256_S256x256 : IVec S256x256 32))
      ∧ s1 = ((s.set12 (put s.b12 V0.vs S1x1x128.size (shapeCast S1x1x128 (scaleOf (expLane (amaxLane (window s.b5 V0.x S1x4096x128.size V0.hx)))) shapeCasts_S1x128_S1x1x128))).set17
        (put s.b17 V0.vi S1x128.size (shapeCast S1x128 (invOf (expLane (amaxLane (window s.b5 V0.x S1x4096x128.size V0.hx)))) shapeCasts_S1x128_S1x128)))
      ∧ s2 = ((s1.set12 (put s1.b12 V1.vs S1x1x128.size (shapeCast S1x1x128 (scaleOf (expLane (amaxLane (window s1.b5 V1.x S1x4096x128.size V1.hx)))) shapeCasts_S1x128_S1x1x128))).set17
        (put s1.b17 V1.vi S1x128.size (shapeCast S1x128 (invOf (expLane (amaxLane (window s1.b5 V1.x S1x4096x128.size V1.hx)))) shapeCasts_S1x128_S1x128))) := by
  refine ⟨_, _, vStep_runs V0 s, vStep_runs V1 _, ?_, rfl, rfl⟩
  unfold init
  refine (vStep_runs V0 s).bind ?_
  refine (vStep_runs V1 _).bind ?_
  refine ((lens18 c M).load _ _ _ _ _).bind ?_
  exact (lens18 c M).storeFull ![0, 0] (by decide) _ _ _ _ _

end Cert.KernelIdeal.Model

end
-- ==== Proof.Block.lean ====
/- One grid point of the kernel: from the codes and scales of the blocks before it to those of its own block, and the
   attention output of its queries. -/
module

public import proofs.«01_k».proof.Proof.RunsBlock

@[expose] public section

set_option synthInstance.maxSize 4096

noncomputable section

namespace Cert.KernelIdeal.Model

open Idealize.ShloMosaic Idealize.ShloMosaic.TcCoe Idealize.ShloMosaic.Tactic
open Idealize.SL Idealize.SL.RA Idealize.SL.BI
open Idealize.SL.Sem
open VecWindow (window put)
open Facts₀ Facts

variable {F : FTy → Type} [FloatOps F] [Named F]
variable {c : Dev nD} {M : Mems} {E : Set ℕ}

/-! ## What a block's quantisation gives -/

/-- The key head of a query head. -/
def grp (h : Fin 8) : Fin 2 := ⟨h.val / 4, by omega⟩

/-- Block `j` of key head `g`'s rows. -/
def kblk (K : Vec F S1x4096x256 .bf16) (g : Fin 2) (j : Fin 16) : Vec F S1x256x128 .bf16 :=
  window K ![0, 256 * j.val, 128 * g.val] S1x256x128.size (by revert g j; decide)

/-- Head `h`'s query rows of a block. -/
def qblk (X : Vec F S1x256x1024 .bf16) (h : Fin 8) : Vec F S1x256x128 .bf16 :=
  window X ![0, 0, 128 * h.val] S1x256x128.size (by revert h; decide)

/-- Value head `g`'s rows, of every block. -/
def vall (V : Vec F S1x4096x256 .bf16) (g : Fin 2) : Vec F S1x4096x128 .bf16 :=
  window V ![0, 0, 128 * g.val] S1x4096x128.size (by revert g; decide)

/-- The inverse value scales. -/
def vinvV (V : Vec F S1x4096x256 .bf16) (g : Fin 2) : Vec F S1x128 .f32 :=
  shapeCast S1x128 (invOf (expLane (amaxLane (vall V g)))) shapeCasts_S1x128_S1x128

/-- The value scales. -/
def vsV (V : Vec F S1x4096x256 .bf16) (g : Fin 2) : Vec F S1x1x128 .f32 :=
  shapeCast S1x1x128 (scaleOf (expLane (amaxLane (vall V g)))) shapeCasts_S1x128_S1x1x128

/-- The key codes of a block. -/
def kcV (K : Vec F S1x4096x256 .bf16) (g : Fin 2) (j : Fin 16) : Vec F S1x1x256x128 .fp8e4m3 :=
  shapeCast S1x1x256x128 (truncf .fp8e4m3 (codesOf (rowsOf (kblk K g j))) bitsLt_fp8e4m3_f32 : FVec F S256x128 .fp8e4m3) shapeCasts_S256x128_S1x1x256x128

/-- The key scales of a block over every lane. -/
def ksrV (K : Vec F S1x4096x256 .bf16) (g : Fin 2) (j : Fin 16) : Vec F S1x1x256x128 .f32 :=
  shapeCast S1x1x256x128 (scaleTile (rowsOf (kblk K g j))) shapeCasts_S256x128_S1x1x256x128

/-- The value codes of a block. -/
def vcV (V : Vec F S1x4096x256 .bf16) (g : Fin 2) (j : Fin 16) : Vec F S1x1x256x128 .fp8e4m3 :=
  shapeCast S1x1x256x128 (truncf .fp8e4m3 (vcodesOf (kblk V g j) (vinvV V g)) bitsLt_fp8e4m3_f32 : FVec F S256x128 .fp8e4m3) shapeCasts_S256x128_S1x1x256x128

/-- The value codes of a block, transposed. -/
def vtV (V : Vec F S1x4096x256 .bf16) (g : Fin 2) (j : Fin 16) : Vec F S1x1x128x256 .fp8e4m3 :=
  shapeCast S1x1x128x256 (truncf .fp8e4m3 (transpose S128x256 [1, 0] (vcodesOf (kblk V g j) (vinvV V g)) transposes_S256x128_p1_0_S128x256) bitsLt_fp8e4m3_f32 : FVec F S128x256 .fp8e4m3) shapeCasts_S128x256_S1x1x128x256

/-- The query codes of a block. -/
def qcV (X : Vec F S1x256x1024 .bf16) (h : Fin 8) : Vec F S1x256x128 .fp8e4m3 :=
  shapeCast S1x256x128 (truncf .fp8e4m3 (codesOf (rowsOf (qblk X h))) bitsLt_fp8e4m3_f32 : FVec F S256x128 .fp8e4m3) shapeCasts_S256x128_S1x256x128

/-- The largest magnitudes of a block's rows: lane `h` of the query heads, lane `8 + g` of the key heads. -/
def accV (X : Vec F S1x256x1024 .bf16) (K : Vec F S1x4096x256 .bf16) (j : Fin 16) : FVec F S256x128 .f32 :=
  ([0, 1, 2, 3, 4, 5, 6, 7] : List (Fin 8)).foldl (fun a h => laneSel (BitVec.ofNat 32 h.val) (amaxCol (rowsOf (qblk X h))) a)
    (laneSel 9#32 (amaxCol (rowsOf (kblk K 1 j))) (laneSel 8#32 (amaxCol (rowsOf (kblk K 0 j))) (broadcast S256x128 (Scalar.ofBits .f32 0x00000000#32))))

/-- The query scales of a block. -/
def qsV (X : Vec F S1x256x1024 .bf16) (K : Vec F S1x4096x256 .bf16) (j : Fin 16) : Vec F S1x8x256 .f32 :=
  shapeCast S1x8x256 (extractStridedSlice S8x256 ![0, 0] (scales (accV X K j)) slices_S16x256_o0_0_S8x256) shapeCasts_S8x256_S1x8x256

/-- The key scales of a block. -/
def ksV (X : Vec F S1x256x1024 .bf16) (K : Vec F S1x4096x256 .bf16) (j : Fin 16) : Vec F S1x2x256 .f32 :=
  shapeCast S1x2x256 (extractStridedSlice S2x256 ![8, 0] (scales (accV X K j)) slices_S16x256_o8_0_S2x256) shapeCasts_S2x256_S1x2x256

/-- The query scales in units of the softmax. -/
def cV (X : Vec F S1x256x1024 .bf16) (K : Vec F S1x4096x256 .bf16) (j : Fin 16) : Vec F S8x256 .f32 :=
  shapeCast S8x256 (mulf (extractStridedSlice S8x256 ![0, 0] (scales (accV X K j)) slices_S16x256_o0_0_S8x256) (broadcast S8x256 (Named.named κ "sm_scale_log2_e" 0x3E0293EE#32))) shapeCasts_S8x256_S8x256

/-- The diagonal mask as it is kept. -/
def triC : Vec F S256x256 .i32 := (shapeCast S256x256 triV shapeCasts_S256x256_S256x256 : IVec S256x256 32)

/-- What a key tile holds. -/
def tv (K V : Vec F S1x4096x256 .bf16) (g : Fin 2) (j : Fin 16) : TileV F := ⟨kcV K g j, ksrV K g j, vtV V g j⟩

/-- The block `r` before block `j`. -/
def back (j : Fin 16) (r : ℕ) : Fin 16 := ⟨j.val - r, by omega⟩

/-- The oldest tile of a block's window, where it is one. -/
def leftTv (K V : Vec F S1x4096x256 .bf16) (g : Fin 2) (j : Fin 16) : Option (TileV F) := if 4 ≤ j.val then some (tv K V g (back j 4)) else none

/-- The tiles of a block's window that lie before the block and are seen whole. -/
def restTv (K V : Vec F S1x4096x256 .bf16) (g : Fin 2) (j : Fin 16) : List (TileV F) :=
  if j.val = 0 then [] else if j.val = 1 then [tv K V g (back j 1)] else if j.val = 2 then [tv K V g (back j 1), tv K V g (back j 2)]
  else [tv K V g (back j 1), tv K V g (back j 2), tv K V g (back j 3)]

/-- Head `h`'s scale in units of the softmax. -/
def cRow (X : Vec F S1x256x1024 .bf16) (K : Vec F S1x4096x256 .bf16) (j : Fin 16) (h : Fin 8) : Vec F S1x256 .f32 :=
  window (cV X K j) ![h.val, 0] S1x256.size (by revert h; decide)

/-- Head `h`'s sink. -/
def skAt (sk : Vec F S8 .f32) (h : Fin 8) : F .f32 :=
  window sk ![h.val] S1.size (by revert h; decide) (Shape.Idx.first (by show 0 < S1.numel; decide))

/-- The attention output of head `h` for the queries of block `j`. -/
def outB (X : Vec F S1x256x1024 .bf16) (K V : Vec F S1x4096x256 .bf16) (sk : Vec F S8 .f32) (j : Fin 16) (h : Fin 8) : FVec F S1x256x128 .bf16 :=
  headV (qcV X h) (cRow X K j h) (skAt sk h) (vsV V (grp h)) triC (leftTv K V (grp h) j) (tv K V (grp h) j) (restTv K V (grp h) j)

/-- The interleaved query codes of a block. -/
def codesB (X : Vec F S1x256x1024 .bf16) : Vec F S1x256x8x128 .fp8e4m3 :=
  shapeCast S1x256x8x128 (concatenate S256x8x128 1 [⟨S256x1x128, qCol (qcV X 0)⟩, ⟨S256x1x128, qCol (qcV X 1)⟩, ⟨S256x1x128, qCol (qcV X 2)⟩, ⟨S256x1x128, qCol (qcV X 3)⟩,
    ⟨S256x1x128, qCol (qcV X 4)⟩, ⟨S256x1x128, qCol (qcV X 5)⟩, ⟨S256x1x128, qCol (qcV X 6)⟩, ⟨S256x1x128, qCol (qcV X 7)⟩]
    concatenates_S256x1x128_S256x1x128_S256x1x128_S256x1x128_S256x1x128_S256x1x128_S256x1x128_S256x1x128_S256x8x128_d1) shapeCasts_S256x8x128_S1x256x8x128

/-! ## What the buffers hold -/

/-- A block of codes lies in its array. -/
theorem rows_inb (g : Fin 2) (j : Fin 16) : ∀ a, (![0, g.val, 256 * j.val, 0] : Fin 4 → ℕ) a + S1x1x256x128.size a ≤ S1x2x4096x128.size a := by
  revert g j; decide

/-- A block of row scales lies in its buffer. -/
theorem ksr_inb (g : Fin 2) (j : Fin 16) : ∀ a, (![g.val, j.val, 0, 0] : Fin 4 → ℕ) a + S1x1x256x128.size a ≤ S2x16x256x128.size a := by
  revert g j; decide

/-- A block of transposed codes lies in its buffer. -/
theorem vt_inb (g : Fin 2) (j : Fin 16) : ∀ a, (![g.val, j.val, 0, 0] : Fin 4 → ℕ) a + S1x1x128x256.size a ≤ S2x16x128x256.size a := by
  revert g j; decide

/-- A block of key scales lies in its array. -/
theorem ks_inb (j : Fin 16) : ∀ a, (![0, 0, 256 * j.val] : Fin 3 → ℕ) a + S1x2x256.size a ≤ S1x2x4096.size a := by
  revert j; decide

/-- A head's value scales lie in their array. -/
theorem vs_inb (g : Fin 2) : ∀ a, (![0, g.val, 0] : Fin 3 → ℕ) a + S1x1x128.size a ≤ S1x2x128.size a := by
  revert g; decide

/-- A head's inverse value scales lie in their buffer. -/
theorem vinv_inb (g : Fin 2) : ∀ a, (![g.val, 0] : Fin 2 → ℕ) a + S1x128.size a ≤ S2x128.size a := by
  revert g; decide

/-- The key codes of the first `n` blocks are kept. -/
def KcUpto (K : Vec F S1x4096x256 .bf16) (n : ℕ) (b : Vec F S1x2x4096x128 .fp8e4m3) : Prop :=
  ∀ j : Fin 16, j.val < n → ∀ g, window b ![0, g.val, 256 * j.val, 0] S1x1x256x128.size (rows_inb g j) = kcV K g j

/-- The value codes of the first `n` blocks are kept. -/
def VcUpto (V : Vec F S1x4096x256 .bf16) (n : ℕ) (b : Vec F S1x2x4096x128 .fp8e4m3) : Prop :=
  ∀ j : Fin 16, j.val < n → ∀ g, window b ![0, g.val, 256 * j.val, 0] S1x1x256x128.size (rows_inb g j) = vcV V g j

/-- The key scales of the first `n` blocks are kept. -/
def KsUpto (X : Fin 16 → Vec F S1x256x1024 .bf16) (K : Vec F S1x4096x256 .bf16) (n : ℕ) (b : Vec F S1x2x4096 .f32) : Prop :=
  ∀ j : Fin 16, j.val < n → window b ![0, 0, 256 * j.val] S1x2x256.size (ks_inb j) = ksV (X j) K j

/-- The key scales over the lanes of the first `n` blocks are kept. -/
def KsrUpto (K : Vec F S1x4096x256 .bf16) (n : ℕ) (b : Vec F S2x16x256x128 .f32) : Prop :=
  ∀ j : Fin 16, j.val < n → ∀ g, window b ![g.val, j.val, 0, 0] S1x1x256x128.size (ksr_inb g j) = ksrV K g j

/-- The transposed value codes of the first `n` blocks are kept. -/
def VtUpto (V : Vec F S1x4096x256 .bf16) (n : ℕ) (b : Vec F S2x16x128x256 .fp8e4m3) : Prop :=
  ∀ j : Fin 16, j.val < n → ∀ g, window b ![g.val, j.val, 0, 0] S1x1x128x256.size (vt_inb g j) = vtV V g j

/-- The value scales are kept. -/
def VsDone (V : Vec F S1x4096x256 .bf16) (b : Vec F S1x2x128 .f32) : Prop :=
  ∀ g : Fin 2, window b ![0, g.val, 0] S1x1x128.size (vs_inb g) = vsV V g

/-- The inverse value scales are kept. -/
def VinvDone (V : Vec F S1x4096x256 .bf16) (b : Vec F S2x128 .f32) : Prop :=
  ∀ g : Fin 2, window b ![g.val, 0] S1x128.size (vinv_inb g) = vinvV V g

/-- The attention output of a block is kept. -/
def OutDone (X : Vec F S1x256x1024 .bf16) (K V : Vec F S1x4096x256 .bf16) (sk : Vec F S8 .f32) (j : Fin 16) (b : Vec F S1x256x1024 .bf16) : Prop :=
  ∀ h : Fin 8, window b ![0, 0, 128 * h.val] S1x256x128.size (hd_inb h) = outB X K V sk j h

/-- What the buffers hold of the first `n` blocks of a batch. -/
structure Upto (X : Fin 16 → Vec F S1x256x1024 .bf16) (K V : Vec F S1x4096x256 .bf16) (n : ℕ) (s : St F) : Prop where
  kc : KcUpto K n s.b9
  ks : KsUpto X K n s.b10
  vc : VcUpto V n s.b11
  ksr : KsrUpto K n s.b15
  vt : VtUpto V n s.b16

/-- What the first block of a batch keeps for the later ones. -/
structure Base (V : Vec F S1x4096x256 .bf16) (s : St F) : Prop where
  vs : VsDone V s.b12
  vinv : VinvDone V s.b17
  tri : s.b18 = triC

/-- The inputs of a grid point. -/
structure Ins (X : Fin 16 → Vec F S1x256x1024 .bf16) (K V : Vec F S1x4096x256 .bf16) (sk : Vec F S8 .f32) (j : Fin 16) (s : St F) : Prop where
  sk : s.b2 = sk
  x : s.b3 = X j
  k : s.b4 = K
  v : s.b5 = V

/-! ## Stores that leave the facts alone -/

section Keep

variable {X : Fin 16 → Vec F S1x256x1024 .bf16} {K V : Vec F S1x4096x256 .bf16} {sk : Vec F S8 .f32} {j : Fin 16} {n : ℕ} {s : St F}

/-- A store of the output keeps the arguments staged. -/
theorem Ins.set6 (h : Ins X K V sk j s) (x : Vec F S1x256x1024 .bf16) : Ins X K V sk j (s.set6 x) := ⟨h.sk, h.x, h.k, h.v⟩

/-- A store of the output keeps what earlier blocks left. -/
theorem Upto.set6 (h : Upto X K V n s) (x : Vec F S1x256x1024 .bf16) : Upto X K V n (s.set6 x) := ⟨h.kc, h.ks, h.vc, h.ksr, h.vt⟩

/-- A store of the output keeps what the first block left. -/
theorem Base.set6 (h : Base V s) (x : Vec F S1x256x1024 .bf16) : Base V (s.set6 x) := ⟨h.vs, h.vinv, h.tri⟩

/-- A store of the query codes keeps the arguments staged. -/
theorem Ins.set7 (h : Ins X K V sk j s) (x : Vec F S1x256x8x128 .fp8e4m3) : Ins X K V sk j (s.set7 x) := ⟨h.sk, h.x, h.k, h.v⟩

/-- A store of the query codes keeps what earlier blocks left. -/
theorem Upto.set7 (h : Upto X K V n s) (x : Vec F S1x256x8x128 .fp8e4m3) : Upto X K V n (s.set7 x) := ⟨h.kc, h.ks, h.vc, h.ksr, h.vt⟩

/-- A store of the query codes keeps what the first block left. -/
theorem Base.set7 (h : Base V s) (x : Vec F S1x256x8x128 .fp8e4m3) : Base V (s.set7 x) := ⟨h.vs, h.vinv, h.tri⟩

/-- A store of the query scales keeps the arguments staged. -/
theorem Ins.set8 (h : Ins X K V sk j s) (x : Vec F S1x8x256 .f32) : Ins X K V sk j (s.set8 x) := ⟨h.sk, h.x, h.k, h.v⟩

/-- A store of the query scales keeps what earlier blocks left. -/
theorem Upto.set8 (h : Upto X K V n s) (x : Vec F S1x8x256 .f32) : Upto X K V n (s.set8 x) := ⟨h.kc, h.ks, h.vc, h.ksr, h.vt⟩

/-- A store of the query scales keeps what the first block left. -/
theorem Base.set8 (h : Base V s) (x : Vec F S1x8x256 .f32) : Base V (s.set8 x) := ⟨h.vs, h.vinv, h.tri⟩

/-- A store of the key codes keeps the arguments staged. -/
theorem Ins.set9 (h : Ins X K V sk j s) (x : Vec F S1x2x4096x128 .fp8e4m3) : Ins X K V sk j (s.set9 x) := ⟨h.sk, h.x, h.k, h.v⟩

/-- A store of the key codes keeps what the first block left. -/
theorem Base.set9 (h : Base V s) (x : Vec F S1x2x4096x128 .fp8e4m3) : Base V (s.set9 x) := ⟨h.vs, h.vinv, h.tri⟩

/-- A store of the key scales keeps the arguments staged. -/
theorem Ins.set10 (h : Ins X K V sk j s) (x : Vec F S1x2x4096 .f32) : Ins X K V sk j (s.set10 x) := ⟨h.sk, h.x, h.k, h.v⟩

/-- A store of the key scales keeps what the first block left. -/
theorem Base.set10 (h : Base V s) (x : Vec F S1x2x4096 .f32) : Base V (s.set10 x) := ⟨h.vs, h.vinv, h.tri⟩

/-- A store of the value codes keeps the arguments staged. -/
theorem Ins.set11 (h : Ins X K V sk j s) (x : Vec F S1x2x4096x128 .fp8e4m3) : Ins X K V sk j (s.set11 x) := ⟨h.sk, h.x, h.k, h.v⟩

/-- A store of the value codes keeps what the first block left. -/
theorem Base.set11 (h : Base V s) (x : Vec F S1x2x4096x128 .fp8e4m3) : Base V (s.set11 x) := ⟨h.vs, h.vinv, h.tri⟩

/-- A store of the value scales keeps the arguments staged. -/
theorem Ins.set12 (h : Ins X K V sk j s) (x : Vec F S1x2x128 .f32) : Ins X K V sk j (s.set12 x) := ⟨h.sk, h.x, h.k, h.v⟩

/-- A store of the value scales keeps what earlier blocks left. -/
theorem Upto.set12 (h : Upto X K V n s) (x : Vec F S1x2x128 .f32) : Upto X K V n (s.set12 x) := ⟨h.kc, h.ks, h.vc, h.ksr, h.vt⟩

/-- A store of the kept query codes keeps the arguments staged. -/
theorem Ins.set13 (h : Ins X K V sk j s) (x : Vec F S8x256x128 .fp8e4m3) : Ins X K V sk j (s.set13 x) := ⟨h.sk, h.x, h.k, h.v⟩

/-- A store of the kept query codes keeps what earlier blocks left. -/
theorem Upto.set13 (h : Upto X K V n s) (x : Vec F S8x256x128 .fp8e4m3) : Upto X K V n (s.set13 x) := ⟨h.kc, h.ks, h.vc, h.ksr, h.vt⟩

/-- A store of the kept query codes keeps what the first block left. -/
theorem Base.set13 (h : Base V s) (x : Vec F S8x256x128 .fp8e4m3) : Base V (s.set13 x) := ⟨h.vs, h.vinv, h.tri⟩

/-- A store of the kept query factors keeps the arguments staged. -/
theorem Ins.set14 (h : Ins X K V sk j s) (x : Vec F S8x256 .f32) : Ins X K V sk j (s.set14 x) := ⟨h.sk, h.x, h.k, h.v⟩

/-- A store of the kept query factors keeps what earlier blocks left. -/
theorem Upto.set14 (h : Upto X K V n s) (x : Vec F S8x256 .f32) : Upto X K V n (s.set14 x) := ⟨h.kc, h.ks, h.vc, h.ksr, h.vt⟩

/-- A store of the kept query factors keeps what the first block left. -/
theorem Base.set14 (h : Base V s) (x : Vec F S8x256 .f32) : Base V (s.set14 x) := ⟨h.vs, h.vinv, h.tri⟩

/-- A store of the kept key scales keeps the arguments staged. -/
theorem Ins.set15 (h : Ins X K V sk j s) (x : Vec F S2x16x256x128 .f32) : Ins X K V sk j (s.set15 x) := ⟨h.sk, h.x, h.k, h.v⟩

/-- A store of the kept key scales keeps what the first block left. -/
theorem Base.set15 (h : Base V s) (x : Vec F S2x16x256x128 .f32) : Base V (s.set15 x) := ⟨h.vs, h.vinv, h.tri⟩

/-- A store of the kept value codes keeps the arguments staged. -/
theorem Ins.set16 (h : Ins X K V sk j s) (x : Vec F S2x16x128x256 .fp8e4m3) : Ins X K V sk j (s.set16 x) := ⟨h.sk, h.x, h.k, h.v⟩

/-- A store of the kept value codes keeps what the first block left. -/
theorem Base.set16 (h : Base V s) (x : Vec F S2x16x128x256 .fp8e4m3) : Base V (s.set16 x) := ⟨h.vs, h.vinv, h.tri⟩

/-- A store of the kept inverse value scales keeps the arguments staged. -/
theorem Ins.set17 (h : Ins X K V sk j s) (x : Vec F S2x128 .f32) : Ins X K V sk j (s.set17 x) := ⟨h.sk, h.x, h.k, h.v⟩

/-- A store of the kept inverse value scales keeps what earlier blocks left. -/
theorem Upto.set17 (h : Upto X K V n s) (x : Vec F S2x128 .f32) : Upto X K V n (s.set17 x) := ⟨h.kc, h.ks, h.vc, h.ksr, h.vt⟩

/-- A store of the triangle keeps the arguments staged. -/
theorem Ins.set18 (h : Ins X K V sk j s) (x : Vec F S256x256 .i32) : Ins X K V sk j (s.set18 x) := ⟨h.sk, h.x, h.k, h.v⟩

/-- A store of the triangle keeps what earlier blocks left. -/
theorem Upto.set18 (h : Upto X K V n s) (x : Vec F S256x256 .i32) : Upto X K V n (s.set18 x) := ⟨h.kc, h.ks, h.vc, h.ksr, h.vt⟩

/-- A store of the kept scores keeps the arguments staged. -/
theorem Ins.set19 (h : Ins X K V sk j s) (x : Vec F S2x4x256x256 .f32) : Ins X K V sk j (s.set19 x) := ⟨h.sk, h.x, h.k, h.v⟩

/-- A store of the kept scores keeps what earlier blocks left. -/
theorem Upto.set19 (h : Upto X K V n s) (x : Vec F S2x4x256x256 .f32) : Upto X K V n (s.set19 x) := ⟨h.kc, h.ks, h.vc, h.ksr, h.vt⟩

/-- A store of the kept scores keeps what the first block left. -/
theorem Base.set19 (h : Base V s) (x : Vec F S2x4x256x256 .f32) : Base V (s.set19 x) := ⟨h.vs, h.vinv, h.tri⟩

end Keep

/-- Two windows put at block `j` of both heads extend what is kept by that block. -/
theorem put2_upto {s : Shape} {α : Type} (o : Fin 2 → Fin 16 → Fin s.rank → ℕ) (size : Fin s.rank → ℕ) (w : Fin 2 → Fin 16 → ((a : Fin s.rank) → Fin (size a)) → α)
    (inb : ∀ g j a, o g j a + size a ≤ s.size a)
    (sep : ∀ g j g' j', (g, j) ≠ (g', j') → ∃ a, o g j a + size a ≤ o g' j' a ∨ o g' j' a + size a ≤ o g j a)
    (x : s.Idx → α) (j : Fin 16) (hx : ∀ j' : Fin 16, j'.val < j.val → ∀ g, window x (o g j') size (inb g j') = w g j')
    (j' : Fin 16) (hj' : j'.val < j.val + 1) (g : Fin 2) :
    window (put (put x (o 0 j) size (w 0 j)) (o 1 j) size (w 1 j)) (o g j') size (inb g j') = w g j' := by
  by_cases h1 : (g, j') = (1, j)
  · cases h1; exact VecWindow.window_put_same _ _ _ _ _
  obtain ⟨a, ha⟩ := sep g j' 1 j h1
  rw [VecWindow.window_put_of_disjoint _ _ _ _ _ _ _ a ha]
  by_cases h0 : (g, j') = (0, j)
  · cases h0; exact VecWindow.window_put_same _ _ _ _ _
  obtain ⟨a, ha⟩ := sep g j' 0 j h0
  rw [VecWindow.window_put_of_disjoint _ _ _ _ _ _ _ a ha]
  refine hx j' ?_ g
  rcases Nat.lt_or_ge j'.val j.val with h | h
  · exact h
  · exfalso
    have : j' = j := Fin.ext (by omega)
    subst this
    fin_cases g
    · exact h0 rfl
    · exact h1 rfl

/-- Different blocks of codes do not overlap. -/
theorem rows_sep (g : Fin 2) (j : Fin 16) (g' : Fin 2) (j' : Fin 16) (h : (g, j) ≠ (g', j')) :
    ∃ a, (![0, g.val, 256 * j.val, 0] : Fin 4 → ℕ) a + S1x1x256x128.size a ≤ (![0, g'.val, 256 * j'.val, 0] : Fin 4 → ℕ) a
      ∨ (![0, g'.val, 256 * j'.val, 0] : Fin 4 → ℕ) a + S1x1x256x128.size a ≤ (![0, g.val, 256 * j.val, 0] : Fin 4 → ℕ) a := by
  by_cases hg : g.val = g'.val
  · have : j.val ≠ j'.val := fun e => h (by rw [Fin.ext hg, Fin.ext e])
    exact ⟨2, by show 256 * j.val + 256 ≤ 256 * j'.val ∨ 256 * j'.val + 256 ≤ 256 * j.val; omega⟩
  · exact ⟨1, by show g.val + 1 ≤ g'.val ∨ g'.val + 1 ≤ g.val; omega⟩

/-- Different blocks in a buffer by head and block do not overlap. -/
theorem slot_sep {sz : Fin 4 → ℕ} (h0 : sz 0 = 1) (h1 : sz 1 = 1) (g : Fin 2) (j : Fin 16) (g' : Fin 2) (j' : Fin 16) (h : (g, j) ≠ (g', j')) :
    ∃ a, (![g.val, j.val, 0, 0] : Fin 4 → ℕ) a + sz a ≤ (![g'.val, j'.val, 0, 0] : Fin 4 → ℕ) a
      ∨ (![g'.val, j'.val, 0, 0] : Fin 4 → ℕ) a + sz a ≤ (![g.val, j.val, 0, 0] : Fin 4 → ℕ) a := by
  by_cases hg : g.val = g'.val
  · have : j.val ≠ j'.val := fun e => h (by rw [Fin.ext hg, Fin.ext e])
    exact ⟨1, by show j.val + sz 1 ≤ j'.val ∨ j'.val + sz 1 ≤ j.val; omega⟩
  · exact ⟨0, by show g.val + sz 0 ≤ g'.val ∨ g'.val + sz 0 ≤ g.val; omega⟩

/-- The memrefs of the body are whole buffers. -/
structure Whole (M : Mems) : Prop where
  h2 : M.a2.IsWhole
  h3 : M.a3.IsWhole
  h4 : M.a4.IsWhole
  h5 : M.a5.IsWhole
  h6 : M.a6.IsWhole
  h7 : M.a7.IsWhole
  h8 : M.a8.IsWhole
  h9 : M.a9.IsWhole
  h10 : M.a10.IsWhole
  h11 : M.a11.IsWhole
  h12 : M.a12.IsWhole
  h13 : M.a13.IsWhole
  h14 : M.a14.IsWhole
  h15 : M.a15.IsWhole
  h16 : M.a16.IsWhole
  h17 : M.a17.IsWhole
  h18 : M.a18.IsWhole
  h19 : M.a19.IsWhole

/-- Rows of a buffer at block `j` of key head 0 read as that block. -/
theorem kblk_eq0 (i : grid0.Coords) (j : Fin 16) (hj : j.val = (i 1).val) (K : Vec F S1x4096x256 .bf16) :
    window K (k0_off1 i) S1x256x128.size (k0_off1_inb i) = kblk K 0 j :=
  window_congr rfl (by rw [Gen.k0_off1_eq, ← hj]; rfl) _ _

/-- Rows of a buffer at block `j` of key head 1 read as that block. -/
theorem kblk_eq1 (i : grid0.Coords) (j : Fin 16) (hj : j.val = (i 1).val) (K : Vec F S1x4096x256 .bf16) :
    window K (k0_off5 i) S1x256x128.size (k0_off5_inb i) = kblk K 1 j :=
  window_congr rfl (by rw [Gen.k0_off5_eq, ← hj]; rfl) _ _

/-- The quantisation of a block: from the blocks before it to the blocks up to it, with the query codes and scales. -/
theorem prep_runs (hM : Whole M) (i : grid0.Coords) (j : Fin 16) (hj : j.val = (i 1).val) (X : Fin 16 → Vec F S1x256x1024 .bf16) (K V : Vec F S1x4096x256 .bf16) (sk : Vec F S8 .f32)
    (s : St F) (hI : Ins X K V sk j s) (hU : Upto X K V j.val s) (hB : Base V s) :
    ∃ s', Runs c M E (prepAt i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 M.a19 hM.h19) s ⟨⟩ s'
      ∧ Ins X K V sk j s' ∧ Upto X K V (j.val + 1) s' ∧ Base V s'
      ∧ (∀ h : Fin 8, window s'.b13 ![h.val, 0, 0] S1x256x128.size (qat_inb h) = qcV (X j) h)
      ∧ s'.b14 = cV (X j) K j ∧ s'.b7 = codesB (X j) ∧ s'.b8 = qsV (X j) K j := by
  have hv0 : window s.b17 ![0, 0] S1x128.size inb_S2x128_S1x128_0_0 = vinvV V 0 := hB.vinv 0
  have hk0 := kblk_eq0 (F := F) i j hj
  have hk1 := kblk_eq1 (F := F) i j hj
  have o2 : k0_off2 i = ![0, (0 : Fin 2).val, 256 * j.val, 0] := by rw [Gen.k0_off2_eq, ← hj]; rfl
  have o6 : k0_off6 i = ![0, (1 : Fin 2).val, 256 * j.val, 0] := by rw [Gen.k0_off6_eq, ← hj]; rfl
  have o3 : k0_off3 i = ![(0 : Fin 2).val, j.val, 0, 0] := by rw [Gen.k0_off3_eq, ← hj]; rfl
  have o7 : k0_off7 i = ![(1 : Fin 2).val, j.val, 0, 0] := by rw [Gen.k0_off7_eq, ← hj]; rfl
  have o4 : k0_off4 i = ![(0 : Fin 2).val, j.val, 0, 0] := by rw [Gen.k0_off4_eq, ← hj]; rfl
  have o8 : k0_off8 i = ![(1 : Fin 2).val, j.val, 0, 0] := by rw [Gen.k0_off8_eq, ← hj]; rfl
  have o9 : k0_off9 i = ![0, 0, 256 * j.val] := by rw [Gen.k0_off9_eq, ← hj]
  have r0 := kvStep_runs (c := c) (E := E) (kvat0 M.a9 hM.h9 M.a11 hM.h11 M.a16 hM.h16 i) (broadcast S256x128 (Scalar.ofBits .f32 0x00000000#32)) s
  dsimp only [kvat0] at r0
  rw [hk0, hk0, hv0, hI.k, hI.v] at r0
  generalize hs1 : St.set16 (F := F) _ _ = s1 at r0
  have hI1 : Ins X K V sk j s1 := hs1 ▸ (((hI.set9 _).set15 _).set11 _).set16 _
  have hB1 : Base V s1 := hs1 ▸ (((hB.set9 _).set15 _).set11 _).set16 _
  have hv1 : window s1.b17 ![1, 0] S1x128.size inb_S2x128_S1x128_1_0 = vinvV V 1 := hB1.vinv 1
  have r1 := kvStep_runs (c := c) (E := E) (kvat1 M.a9 hM.h9 M.a11 hM.h11 M.a16 hM.h16 i) (laneSel 8#32 (amaxCol (rowsOf (kblk K 0 j))) (broadcast S256x128 (Scalar.ofBits .f32 0x00000000#32))) s1
  dsimp only [kvat1] at r1
  rw [hk1, hk1, hv1, hI1.k, hI1.v] at r1
  generalize hs2 : St.set16 (F := F) _ _ = s2 at r1
  have hI2 : Ins X K V sk j s2 := hs2 ▸ (((hI1.set9 _).set15 _).set11 _).set16 _
  have r2 := qSteps_runs (c := c) (E := E) (([0, 1, 2, 3, 4, 5, 6, 7] : List (Fin 8)).map (qat M.a13 hM.h13))
    (laneSel 9#32 (amaxCol (rowsOf (kblk K 1 j))) (laneSel 8#32 (amaxCol (rowsOf (kblk K 0 j))) (broadcast S256x128 (Scalar.ofBits .f32 0x00000000#32)))) s2
  rw [hI2.x, List.foldl_map, List.foldl_map] at r2
  have hacc : (([0, 1, 2, 3, 4, 5, 6, 7] : List (Fin 8)).foldl (fun a h => laneSel (qat M.a13 hM.h13 h).n (amaxCol (rowsOf (window (X j) (qat M.a13 hM.h13 h).x S1x256x128.size (qat M.a13 hM.h13 h).hx))) a)
    (laneSel 9#32 (amaxCol (rowsOf (kblk K 1 j))) (laneSel 8#32 (amaxCol (rowsOf (kblk K 0 j))) (broadcast S256x128 (Scalar.ofBits .f32 0x00000000#32))))) = accV (X j) K j := rfl
  rw [hacc] at r2
  generalize hs3 : St.set13 (F := F) _ _ = s3 at r2
  have r3 := putScales_runs (c := c) (M := M) (E := E) (k0_off9 i) (k0_off9_inb i) (scales (accV (X j) K j)) s3
  generalize hs4 : St.set14 (F := F) _ _ = s4 at r3
  have hq : ∀ h : Fin 8, window s4.b13 ![h.val, 0, 0] S1x256x128.size (qat_inb h) = qcV (X j) h := fun h => by
    rw [← hs4, ← hs3]
    exact window_foldl (s := S8x256x128) (fun h : Fin 8 => ![h.val, 0, 0]) S1x256x128.size (fun h => qcV (X j) h) qat_inb [0, 1, 2, 3, 4, 5, 6, 7] (by decide)
      (fun a b hab => ⟨0, by show a.val + 1 ≤ b.val ∨ b.val + 1 ≤ a.val; have : a.val ≠ b.val := fun e => hab (Fin.ext e); omega⟩) s2.b13 h (by revert h; decide)
  have r4 := fun hst => putCodes_runs (F := F) (c := c) (M := M) (E := E) hst s4
  have hc : codesV s4.b13 = codesB (X j) := by
    unfold codesV codesB
    have e0 := hq 0; have e1 := hq 1; have e2 := hq 2; have e3 := hq 3; have e4 := hq 4; have e5 := hq 5; have e6 := hq 6; have e7 := hq 7
    erw [e0, e1, e2, e3, e4, e5, e6, e7]
  rw [hc] at r4
  refine ⟨s4.set7 (codesB (X j)), ?_, ?_, ?_, ?_, hq, ?_, rfl, ?_⟩
  · unfold prepAt prep
    exact r0.bind (r1.bind (r2.bind (r3.bind (r4 _))))
  · subst hs4 hs3 hs2 hs1; exact (((((((((((((hI.set9 _).set15 _).set11 _).set16 _).set9 _).set15 _).set11 _).set16 _).set13 _).set8 _).set10 _).set14 _).set7 _)
  · subst hs4 hs3 hs2 hs1
    refine ⟨?_, ?_, ?_, ?_, ?_⟩
    · show KcUpto K (j.val + 1) (put (put s.b9 (k0_off2 i) S1x1x256x128.size (kcV K 0 j)) (k0_off6 i) S1x1x256x128.size (kcV K 1 j))
      rw [o2, o6]
      exact put2_upto (s := S1x2x4096x128) (fun g j => ![0, g.val, 256 * j.val, 0]) S1x1x256x128.size (fun g j => kcV K g j) rows_inb rows_sep s.b9 j hU.kc
    · intro j' hj'
      show window (put s.b10 (k0_off9 i) S1x2x256.size (ksV (X j) K j)) _ _ _ = _
      rw [o9]
      by_cases h : j' = j
      · subst h; exact VecWindow.window_put_same _ _ _ _ _
      · have : j'.val ≠ j.val := fun e => h (Fin.ext e)
        rw [VecWindow.window_put_of_disjoint _ _ _ _ _ _ _ 2 (by show 256 * j'.val + 256 ≤ 256 * j.val ∨ 256 * j.val + 256 ≤ 256 * j'.val; omega)]
        exact hU.ks j' (by omega)
    · show VcUpto V (j.val + 1) (put (put s.b11 (k0_off2 i) S1x1x256x128.size (vcV V 0 j)) (k0_off6 i) S1x1x256x128.size (vcV V 1 j))
      rw [o2, o6]
      exact put2_upto (s := S1x2x4096x128) (fun g j => ![0, g.val, 256 * j.val, 0]) S1x1x256x128.size (fun g j => vcV V g j) rows_inb rows_sep s.b11 j hU.vc
    · show KsrUpto K (j.val + 1) (put (put s.b15 (k0_off3 i) S1x1x256x128.size (ksrV K 0 j)) (k0_off7 i) S1x1x256x128.size (ksrV K 1 j))
      rw [o3, o7]
      exact put2_upto (s := S2x16x256x128) (fun g j => ![g.val, j.val, 0, 0]) S1x1x256x128.size (fun g j => ksrV K g j) ksr_inb (slot_sep rfl rfl) s.b15 j hU.ksr
    · show VtUpto V (j.val + 1) (put (put s.b16 (k0_off4 i) S1x1x128x256.size (vtV V 0 j)) (k0_off8 i) S1x1x128x256.size (vtV V 1 j))
      rw [o4, o8]
      exact put2_upto (s := S2x16x128x256) (fun g j => ![g.val, j.val, 0, 0]) S1x1x128x256.size (fun g j => vtV V g j) vt_inb (slot_sep rfl rfl) s.b16 j hU.vt
  · subst hs4 hs3 hs2 hs1; exact (((((((((((((hB.set9 _).set15 _).set11 _).set16 _).set9 _).set15 _).set11 _).set16 _).set13 _).set8 _).set10 _).set14 _).set7 _)
  · subst hs4; rfl
  · subst hs4; rfl

/-- The first block's own work: the value scales and the mask. -/
theorem init_base (X : Fin 16 → Vec F S1x256x1024 .bf16) (K V : Vec F S1x4096x256 .bf16) (sk : Vec F S8 .f32) (j : Fin 16) (s : St F) (hI : Ins X K V sk j s) (hU : Upto X K V j.val s) :
    ∃ s', Runs c M E (init M.a5 M.a12 M.a17 M.a18 (vat 0) (vat 1)) s ⟨⟩ s' ∧ Ins X K V sk j s' ∧ Upto X K V j.val s' ∧ Base V s' := by
  obtain ⟨s1, s2, -, -, hr, h1, h2⟩ := init_runs (c := c) (M := M) (E := E) (vat 0) (vat 1) s
  refine ⟨_, hr, ?_, ?_, ?_⟩
  · subst h2 h1; exact (((((hI.set12 _).set17 _).set12 _).set17 _).set18 _)
  · subst h2 h1; exact (((((hU.set12 _).set17 _).set12 _).set17 _).set18 _)
  · have e5 := hI.v
    refine ⟨?_, ?_, ?_⟩
    · have e : (s2.set18 (shapeCast S256x256 triV shapeCasts_S256x256_S256x256 : IVec S256x256 32)).b12 = ([0, 1] : List (Fin 2)).foldl (fun b g => put (s := S1x2x128) b ![0, g.val, 0] S1x1x128.size (vsV V g)) s.b12 := by
        rw [h2, h1, ← e5]; rfl
      rw [e]
      intro g
      exact window_foldl (s := S1x2x128) (fun g : Fin 2 => ![0, g.val, 0]) S1x1x128.size (fun g => vsV V g) vs_inb [0, 1] (by decide)
        (fun a b hab => ⟨1, by show a.val + 1 ≤ b.val ∨ b.val + 1 ≤ a.val; have : a.val ≠ b.val := fun e => hab (Fin.ext e); omega⟩) s.b12 g (by revert g; decide)
    · have e : (s2.set18 (shapeCast S256x256 triV shapeCasts_S256x256_S256x256 : IVec S256x256 32)).b17 = ([0, 1] : List (Fin 2)).foldl (fun b g => put (s := S2x128) b ![g.val, 0] S1x128.size (vinvV V g)) s.b17 := by
        rw [h2, h1, ← e5]; rfl
      rw [e]
      intro g
      exact window_foldl (s := S2x128) (fun g : Fin 2 => ![g.val, 0]) S1x128.size (fun g => vinvV V g) vinv_inb [0, 1] (by decide)
        (fun a b hab => ⟨0, by show a.val + 1 ≤ b.val ∨ b.val + 1 ≤ a.val; have : a.val ≠ b.val := fun e => hab (Fin.ext e); omega⟩) s.b17 g (by revert g; decide)
    · rfl

/-- A tile at a block kept so far holds that block. -/
theorem tileOf_eq (X : Fin 16 → Vec F S1x256x1024 .bf16) (K V : Vec F S1x4096x256 .bf16) (n : ℕ) (s : St F) (hU : Upto X K V n s) (T : Tile) (g : Fin 2) (j : Fin 16) (hj : j.val < n)
    (h1 : T.kc = ![0, g.val, 256 * j.val, 0]) (h2 : T.ks = ![g.val, j.val, 0, 0]) (h3 : T.vt = ![g.val, j.val, 0, 0]) : tileOf s T = tv K V g j := by
  unfold tileOf tv
  rw [← hU.kc j hj g, ← hU.ksr j hj g, ← hU.vt j hj g]
  congr 1
  · exact window_congr rfl h1 _ _
  · exact window_congr rfl h2 _ _
  · exact window_congr rfl h3 _ _

/-- The attention of a block, its tiles given by head. -/
theorem attend_block (h6 : M.a6.IsWhole) (X : Fin 16 → Vec F S1x256x1024 .bf16) (K V : Vec F S1x4096x256 .bf16) (sk : Vec F S8 .f32) (j : Fin 16)
    (L : Fin 8 → Option Tile) (T : Fin 8 → Tile) (Ts : Fin 8 → List Tile) (s : St F) (hI : Ins X K V sk j s) (hB : Base V s)
    (hq : ∀ h : Fin 8, window s.b13 ![h.val, 0, 0] S1x256x128.size (qat_inb h) = qcV (X j) h) (hc : s.b14 = cV (X j) K j)
    (hap : ∀ h, (T h :: Ts h).Pairwise Apart)
    (hL : ∀ h, (L h).map (tileOf s) = leftTv K V (grp h) j) (hT : ∀ h, tileOf s (T h) = tv K V (grp h) j) (hTs : ∀ h, (Ts h).map (tileOf s) = restTv K V (grp h) j) :
    ∃ y b, Runs c M E (attend M.a2 M.a6 M.a9 M.a12 M.a13 M.a14 M.a15 M.a16 M.a19 M.a18 (([0, 1, 2, 3, 4, 5, 6, 7] : List (Fin 8)).map fun h => (hd M.a6 h6 h, L h, T h, Ts h))) s ⟨⟩ ((s.set19 y).set6 b)
      ∧ OutDone (X j) K V sk j b := by
  obtain ⟨y, hy⟩ := attend_runs (c := c) (M := M) (E := E) (([0, 1, 2, 3, 4, 5, 6, 7] : List (Fin 8)).map fun h => (hd M.a6 h6 h, L h, T h, Ts h))
    (fun x hx => by obtain ⟨h, -, rfl⟩ := List.mem_map.mp hx; exact hap h) s
  refine ⟨y, _, hy, fun h => ?_⟩
  rw [List.foldl_map]
  refine (window_foldl (s := S1x256x1024) (fun h : Fin 8 => ![0, 0, 128 * h.val]) S1x256x128.size (fun h => headOut s s.b18 (hd M.a6 h6 h, L h, T h, Ts h)) hd_inb [0, 1, 2, 3, 4, 5, 6, 7] (by decide)
      (fun a b hab => ⟨2, by show 128 * a.val + 128 ≤ 128 * b.val ∨ 128 * b.val + 128 ≤ 128 * a.val; have : a.val ≠ b.val := fun e => hab (Fin.ext e); omega⟩) s.b6 h (by revert h; decide)).trans ?_
  unfold headOut outB
  dsimp only
  rw [hL, hT, hTs, hB.tri]
  have e1 : window s.b13 (hd M.a6 h6 h).q S1x256x128.size (hd M.a6 h6 h).hq = qcV (X j) h := hq h
  have e2 : window s.b14 (hd M.a6 h6 h).c S1x256.size (hd M.a6 h6 h).hc = cRow (X j) K j h := window_congr hc rfl _ _
  have e3 : window s.b12 (hd M.a6 h6 h).v S1x1x128.size (hd M.a6 h6 h).hv = vsV V (grp h) := hB.vs (grp h)
  have e4 : window s.b2 (hd M.a6 h6 h).s S1.size (hd M.a6 h6 h).hs = window sk (hd M.a6 h6 h).s S1.size (hd M.a6 h6 h).hs := window_congr hI.sk rfl _ _
  rw [e1, e2, e3, e4]
  rfl

end Cert.KernelIdeal.Model

end
-- ==== Proof.ModelEq0.lean ====
/- The printed kernel body at block 0 of a batch is the structured program `Model.body0`. -/
module

public import proofs.«01_k».proof.Proof.Body
public import Idealize.ShloMosaic.Lib.Tactic

public section

set_option synthInstance.maxSize 4096

noncomputable section

namespace Cert.KernelIdeal.Model

open Idealize.ShloMosaic Idealize.SL.Sem

variable {F : FTy → Type} [FloatOps F] [Named F]
variable [Facts]
open Facts₀ Facts

/-- The printed body at block 0 of a batch. -/
theorem body0_eq (i : grid0.Coords) (h : k0_cond2 i = 1#1) (h1 : k0_cond1 i = 1#1) (n1 : ¬ k0_cond3 i = 1#1) (n2 : ¬ k0_cond4 i = 1#1) (n3 : ¬ k0_cond5 i = 1#1) (n4 : ¬ k0_cond6 i = 1#1) (arg2 : Memref sig .tc .smem S8 .f32) (harg2 : arg2.IsWhole) (arg3 : Memref sig .tc .vmem S1x256x1024 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x1024 .bf16) (harg6 : arg6.IsWhole) (arg7 : Memref sig .tc .vmem S1x256x8x128 .fp8e4m3) (harg7 : arg7.IsWhole) (arg8 : Memref sig .tc .vmem S1x8x256 .f32) (harg8 : arg8.IsWhole) (arg9 : Memref sig .tc .vmem S1x2x4096x128 .fp8e4m3) (harg9 : arg9.IsWhole) (arg10 : Memref sig .tc .vmem S1x2x4096 .f32) (harg10 : arg10.IsWhole) (arg11 : Memref sig .tc .vmem S1x2x4096x128 .fp8e4m3) (harg11 : arg11.IsWhole) (arg12 : Memref sig .tc .vmem S1x2x128 .f32) (harg12 : arg12.IsWhole) (arg13 : Memref sig .tc .vmem S8x256x128 .fp8e4m3) (harg13 : arg13.IsWhole) (arg14 : Memref sig .tc .vmem S8x256 .f32) (harg14 : arg14.IsWhole) (arg15 : Memref sig .tc .vmem S2x16x256x128 .f32) (harg15 : arg15.IsWhole) (arg16 : Memref sig .tc .vmem S2x16x128x256 .fp8e4m3) (harg16 : arg16.IsWhole) (arg17 : Memref sig .tc .vmem S2x128 .f32) (harg17 : arg17.IsWhole) (arg18 : Memref sig .tc .vmem S256x256 .i32) (harg18 : arg18.IsWhole) (arg19 : Memref sig .tc .vmem S2x4x256x256 .f32) (harg19 : arg19.IsWhole) :
    cc0_fp8_swa (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = body0 i h arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 := by
  unfold cc0_fp8_swa k0_part198
  simp only [dif_pos h, dif_pos h1, dif_neg n1, dif_neg n2, dif_neg n3, dif_neg n4]
  sl_kernel_rfl

end Cert.KernelIdeal.Model

end
-- ==== Proof.ModelEq1.lean ====
/- The printed kernel body at block 1 of a batch is the structured program `Model.body1`. -/
module

public import proofs.«01_k».proof.Proof.Body
public import Idealize.ShloMosaic.Lib.Tactic

public section

set_option synthInstance.maxSize 4096

noncomputable section

namespace Cert.KernelIdeal.Model

open Idealize.ShloMosaic Idealize.SL.Sem

variable {F : FTy → Type} [FloatOps F] [Named F]
variable [Facts]
open Facts₀ Facts

/-- The printed body at block 1 of a batch. -/
theorem body1_eq (i : grid0.Coords) (h : k0_cond3 i = 1#1) (h1 : ¬ k0_cond1 i = 1#1) (n0 : ¬ k0_cond2 i = 1#1) (n2 : ¬ k0_cond4 i = 1#1) (n3 : ¬ k0_cond5 i = 1#1) (n4 : ¬ k0_cond6 i = 1#1) (arg2 : Memref sig .tc .smem S8 .f32) (harg2 : arg2.IsWhole) (arg3 : Memref sig .tc .vmem S1x256x1024 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x1024 .bf16) (harg6 : arg6.IsWhole) (arg7 : Memref sig .tc .vmem S1x256x8x128 .fp8e4m3) (harg7 : arg7.IsWhole) (arg8 : Memref sig .tc .vmem S1x8x256 .f32) (harg8 : arg8.IsWhole) (arg9 : Memref sig .tc .vmem S1x2x4096x128 .fp8e4m3) (harg9 : arg9.IsWhole) (arg10 : Memref sig .tc .vmem S1x2x4096 .f32) (harg10 : arg10.IsWhole) (arg11 : Memref sig .tc .vmem S1x2x4096x128 .fp8e4m3) (harg11 : arg11.IsWhole) (arg12 : Memref sig .tc .vmem S1x2x128 .f32) (harg12 : arg12.IsWhole) (arg13 : Memref sig .tc .vmem S8x256x128 .fp8e4m3) (harg13 : arg13.IsWhole) (arg14 : Memref sig .tc .vmem S8x256 .f32) (harg14 : arg14.IsWhole) (arg15 : Memref sig .tc .vmem S2x16x256x128 .f32) (harg15 : arg15.IsWhole) (arg16 : Memref sig .tc .vmem S2x16x128x256 .fp8e4m3) (harg16 : arg16.IsWhole) (arg17 : Memref sig .tc .vmem S2x128 .f32) (harg17 : arg17.IsWhole) (arg18 : Memref sig .tc .vmem S256x256 .i32) (harg18 : arg18.IsWhole) (arg19 : Memref sig .tc .vmem S2x4x256x256 .f32) (harg19 : arg19.IsWhole) :
    cc0_fp8_swa (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = body1 i h arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 := by
  unfold cc0_fp8_swa k0_part198
  simp only [dif_pos h, dif_neg h1, dif_neg n0, dif_neg n2, dif_neg n3, dif_neg n4]
  sl_kernel_rfl

end Cert.KernelIdeal.Model

end
-- ==== Proof.ModelEq2.lean ====
/- The printed kernel body at block 2 of a batch is the structured program `Model.body2`. -/
module

public import proofs.«01_k».proof.Proof.Body
public import Idealize.ShloMosaic.Lib.Tactic

public section

set_option synthInstance.maxSize 4096

noncomputable section

namespace Cert.KernelIdeal.Model

open Idealize.ShloMosaic Idealize.SL.Sem

variable {F : FTy → Type} [FloatOps F] [Named F]
variable [Facts]
open Facts₀ Facts

/-- The printed body at block 2 of a batch. -/
theorem body2_eq (i : grid0.Coords) (h : k0_cond4 i = 1#1) (h1 : ¬ k0_cond1 i = 1#1) (n0 : ¬ k0_cond2 i = 1#1) (n1 : ¬ k0_cond3 i = 1#1) (n3 : ¬ k0_cond5 i = 1#1) (n4 : ¬ k0_cond6 i = 1#1) (arg2 : Memref sig .tc .smem S8 .f32) (harg2 : arg2.IsWhole) (arg3 : Memref sig .tc .vmem S1x256x1024 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x1024 .bf16) (harg6 : arg6.IsWhole) (arg7 : Memref sig .tc .vmem S1x256x8x128 .fp8e4m3) (harg7 : arg7.IsWhole) (arg8 : Memref sig .tc .vmem S1x8x256 .f32) (harg8 : arg8.IsWhole) (arg9 : Memref sig .tc .vmem S1x2x4096x128 .fp8e4m3) (harg9 : arg9.IsWhole) (arg10 : Memref sig .tc .vmem S1x2x4096 .f32) (harg10 : arg10.IsWhole) (arg11 : Memref sig .tc .vmem S1x2x4096x128 .fp8e4m3) (harg11 : arg11.IsWhole) (arg12 : Memref sig .tc .vmem S1x2x128 .f32) (harg12 : arg12.IsWhole) (arg13 : Memref sig .tc .vmem S8x256x128 .fp8e4m3) (harg13 : arg13.IsWhole) (arg14 : Memref sig .tc .vmem S8x256 .f32) (harg14 : arg14.IsWhole) (arg15 : Memref sig .tc .vmem S2x16x256x128 .f32) (harg15 : arg15.IsWhole) (arg16 : Memref sig .tc .vmem S2x16x128x256 .fp8e4m3) (harg16 : arg16.IsWhole) (arg17 : Memref sig .tc .vmem S2x128 .f32) (harg17 : arg17.IsWhole) (arg18 : Memref sig .tc .vmem S256x256 .i32) (harg18 : arg18.IsWhole) (arg19 : Memref sig .tc .vmem S2x4x256x256 .f32) (harg19 : arg19.IsWhole) :
    cc0_fp8_swa (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = body2 i h arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 := by
  unfold cc0_fp8_swa k0_part198
  simp only [dif_pos h, dif_neg h1, dif_neg n0, dif_neg n1, dif_neg n3, dif_neg n4]
  sl_kernel_rfl

end Cert.KernelIdeal.Model

end
-- ==== Proof.ModelEq3.lean ====
/- The printed kernel body at block 3 of a batch is the structured program `Model.body3`. -/
module

public import proofs.«01_k».proof.Proof.Body
public import Idealize.ShloMosaic.Lib.Tactic

public section

set_option synthInstance.maxSize 4096

noncomputable section

namespace Cert.KernelIdeal.Model

open Idealize.ShloMosaic Idealize.SL.Sem

variable {F : FTy → Type} [FloatOps F] [Named F]
variable [Facts]
open Facts₀ Facts

/-- The printed body at block 3 of a batch. -/
theorem body3_eq (i : grid0.Coords) (h : k0_cond5 i = 1#1) (h1 : ¬ k0_cond1 i = 1#1) (n0 : ¬ k0_cond2 i = 1#1) (n1 : ¬ k0_cond3 i = 1#1) (n2 : ¬ k0_cond4 i = 1#1) (n4 : ¬ k0_cond6 i = 1#1) (arg2 : Memref sig .tc .smem S8 .f32) (harg2 : arg2.IsWhole) (arg3 : Memref sig .tc .vmem S1x256x1024 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x1024 .bf16) (harg6 : arg6.IsWhole) (arg7 : Memref sig .tc .vmem S1x256x8x128 .fp8e4m3) (harg7 : arg7.IsWhole) (arg8 : Memref sig .tc .vmem S1x8x256 .f32) (harg8 : arg8.IsWhole) (arg9 : Memref sig .tc .vmem S1x2x4096x128 .fp8e4m3) (harg9 : arg9.IsWhole) (arg10 : Memref sig .tc .vmem S1x2x4096 .f32) (harg10 : arg10.IsWhole) (arg11 : Memref sig .tc .vmem S1x2x4096x128 .fp8e4m3) (harg11 : arg11.IsWhole) (arg12 : Memref sig .tc .vmem S1x2x128 .f32) (harg12 : arg12.IsWhole) (arg13 : Memref sig .tc .vmem S8x256x128 .fp8e4m3) (harg13 : arg13.IsWhole) (arg14 : Memref sig .tc .vmem S8x256 .f32) (harg14 : arg14.IsWhole) (arg15 : Memref sig .tc .vmem S2x16x256x128 .f32) (harg15 : arg15.IsWhole) (arg16 : Memref sig .tc .vmem S2x16x128x256 .fp8e4m3) (harg16 : arg16.IsWhole) (arg17 : Memref sig .tc .vmem S2x128 .f32) (harg17 : arg17.IsWhole) (arg18 : Memref sig .tc .vmem S256x256 .i32) (harg18 : arg18.IsWhole) (arg19 : Memref sig .tc .vmem S2x4x256x256 .f32) (harg19 : arg19.IsWhole) :
    cc0_fp8_swa (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = body3 i h arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 := by
  unfold cc0_fp8_swa k0_part198
  simp only [dif_pos h, dif_neg h1, dif_neg n0, dif_neg n1, dif_neg n2, dif_neg n4]
  sl_kernel_rfl

end Cert.KernelIdeal.Model

end
-- ==== Proof.ModelEq4.lean ====
/- The printed kernel body at a later block of a batch is the structured program `Model.body4`. -/
module

public import proofs.«01_k».proof.Proof.Body
public import Idealize.ShloMosaic.Lib.Tactic

public section

set_option synthInstance.maxSize 4096

noncomputable section

namespace Cert.KernelIdeal.Model

open Idealize.ShloMosaic Idealize.SL.Sem

variable {F : FTy → Type} [FloatOps F] [Named F]
variable [Facts]
open Facts₀ Facts

/-- The printed body at a later block of a batch. -/
theorem body4_eq (i : grid0.Coords) (h : k0_cond6 i = 1#1) (h1 : ¬ k0_cond1 i = 1#1) (n0 : ¬ k0_cond2 i = 1#1) (n1 : ¬ k0_cond3 i = 1#1) (n2 : ¬ k0_cond4 i = 1#1) (n3 : ¬ k0_cond5 i = 1#1) (arg2 : Memref sig .tc .smem S8 .f32) (harg2 : arg2.IsWhole) (arg3 : Memref sig .tc .vmem S1x256x1024 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x1024 .bf16) (harg6 : arg6.IsWhole) (arg7 : Memref sig .tc .vmem S1x256x8x128 .fp8e4m3) (harg7 : arg7.IsWhole) (arg8 : Memref sig .tc .vmem S1x8x256 .f32) (harg8 : arg8.IsWhole) (arg9 : Memref sig .tc .vmem S1x2x4096x128 .fp8e4m3) (harg9 : arg9.IsWhole) (arg10 : Memref sig .tc .vmem S1x2x4096 .f32) (harg10 : arg10.IsWhole) (arg11 : Memref sig .tc .vmem S1x2x4096x128 .fp8e4m3) (harg11 : arg11.IsWhole) (arg12 : Memref sig .tc .vmem S1x2x128 .f32) (harg12 : arg12.IsWhole) (arg13 : Memref sig .tc .vmem S8x256x128 .fp8e4m3) (harg13 : arg13.IsWhole) (arg14 : Memref sig .tc .vmem S8x256 .f32) (harg14 : arg14.IsWhole) (arg15 : Memref sig .tc .vmem S2x16x256x128 .f32) (harg15 : arg15.IsWhole) (arg16 : Memref sig .tc .vmem S2x16x128x256 .fp8e4m3) (harg16 : arg16.IsWhole) (arg17 : Memref sig .tc .vmem S2x128 .f32) (harg17 : arg17.IsWhole) (arg18 : Memref sig .tc .vmem S256x256 .i32) (harg18 : arg18.IsWhole) (arg19 : Memref sig .tc .vmem S2x4x256x256 .f32) (harg19 : arg19.IsWhole) :
    cc0_fp8_swa (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = body4 i h arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 := by
  unfold cc0_fp8_swa k0_part198
  simp only [dif_pos h, dif_neg h1, dif_neg n0, dif_neg n1, dif_neg n2, dif_neg n3]
  sl_kernel_rfl

end Cert.KernelIdeal.Model

end
-- ==== Proof.Point.lean ====
/- What the body leaves in the buffers at each grid point, case by case of how many blocks lie before its own. -/
module

public import proofs.«01_k».proof.Proof.Block
public import proofs.«01_k».proof.Proof.ModelEq0
public import proofs.«01_k».proof.Proof.ModelEq1
public import proofs.«01_k».proof.Proof.ModelEq2
public import proofs.«01_k».proof.Proof.ModelEq3
public import proofs.«01_k».proof.Proof.ModelEq4

@[expose] public section

set_option synthInstance.maxSize 4096

noncomputable section

namespace Cert.KernelIdeal.Model

open Idealize.ShloMosaic Idealize.ShloMosaic.TcCoe Idealize.ShloMosaic.Tactic
open Idealize.SL Idealize.SL.RA Idealize.SL.BI
open Idealize.SL.Sem
open VecWindow (window put)
open Facts₀ Facts

variable {F : FTy → Type} [FloatOps F] [Named F]
variable {c : Dev nD} {M : Mems} {E : Set ℕ}

/-! ## The conditions and offsets in closed form -/

/-- The condition of the start holds where the block is the first of its batch. -/
theorem cond1_iff : ∀ i : grid0.Coords, k0_cond1 i = 1#1 ↔ (i 1).val = 0 := by decide +kernel

/-- The condition of the branch holds where the block is the first of its batch. -/
theorem cond2_iff : ∀ i : grid0.Coords, k0_cond2 i = 1#1 ↔ (i 1).val = 0 := by decide +kernel

/-- The condition of the branch holds where the block is the second of its batch. -/
theorem cond3_iff : ∀ i : grid0.Coords, k0_cond3 i = 1#1 ↔ (i 1).val = 1 := by decide +kernel

/-- The condition of the branch holds where the block is the third of its batch. -/
theorem cond4_iff : ∀ i : grid0.Coords, k0_cond4 i = 1#1 ↔ (i 1).val = 2 := by decide +kernel

/-- The condition of the branch holds where the block is the fourth of its batch. -/
theorem cond5_iff : ∀ i : grid0.Coords, k0_cond5 i = 1#1 ↔ (i 1).val = 3 := by decide +kernel

/-- The condition of the branch holds where the block has four blocks before it. -/
theorem cond6_iff : ∀ i : grid0.Coords, k0_cond6 i = 1#1 ↔ 4 ≤ (i 1).val := by decide +kernel

/-- Where the key codes of key head 0 lie, `r` blocks before the point's. -/
theorem off16_eq : ∀ i : grid0.Coords, k0_cond3 i = 1#1 → ∀ r : Fin 2, k0_off16 i (BitVec.ofNat 32 r.val) = ![0, 0, 256 * ((i 1).val - r.val), 0] := by decide +kernel

/-- Where the key scales of key head 0 lie, `r` blocks before the point's. -/
theorem off17_eq : ∀ i : grid0.Coords, k0_cond3 i = 1#1 → ∀ r : Fin 2, k0_off17 i (BitVec.ofNat 32 r.val) = ![0, (i 1).val - r.val, 0, 0] := by decide +kernel

/-- Where the transposed value codes of key head 0 lie, `r` blocks before the point's. -/
theorem off18_eq : ∀ i : grid0.Coords, k0_cond3 i = 1#1 → ∀ r : Fin 2, k0_off18 i (BitVec.ofNat 32 r.val) = ![0, (i 1).val - r.val, 0, 0] := by decide +kernel

/-- Where the key codes of key head 1 lie, `r` blocks before the point's. -/
theorem off19_eq : ∀ i : grid0.Coords, k0_cond3 i = 1#1 → ∀ r : Fin 2, k0_off19 i (BitVec.ofNat 32 r.val) = ![0, 1, 256 * ((i 1).val - r.val), 0] := by decide +kernel

/-- Where the key scales of key head 1 lie, `r` blocks before the point's. -/
theorem off20_eq : ∀ i : grid0.Coords, k0_cond3 i = 1#1 → ∀ r : Fin 2, k0_off20 i (BitVec.ofNat 32 r.val) = ![1, (i 1).val - r.val, 0, 0] := by decide +kernel

/-- Where the transposed value codes of key head 1 lie, `r` blocks before the point's. -/
theorem off21_eq : ∀ i : grid0.Coords, k0_cond3 i = 1#1 → ∀ r : Fin 2, k0_off21 i (BitVec.ofNat 32 r.val) = ![1, (i 1).val - r.val, 0, 0] := by decide +kernel

/-- Where the key codes of key head 0 lie, `r` blocks before the point's. -/
theorem off22_eq : ∀ i : grid0.Coords, k0_cond4 i = 1#1 → ∀ r : Fin 3, k0_off22 i (BitVec.ofNat 32 r.val) = ![0, 0, 256 * ((i 1).val - r.val), 0] := by decide +kernel

/-- Where the key scales of key head 0 lie, `r` blocks before the point's. -/
theorem off23_eq : ∀ i : grid0.Coords, k0_cond4 i = 1#1 → ∀ r : Fin 3, k0_off23 i (BitVec.ofNat 32 r.val) = ![0, (i 1).val - r.val, 0, 0] := by decide +kernel

/-- Where the transposed value codes of key head 0 lie, `r` blocks before the point's. -/
theorem off24_eq : ∀ i : grid0.Coords, k0_cond4 i = 1#1 → ∀ r : Fin 3, k0_off24 i (BitVec.ofNat 32 r.val) = ![0, (i 1).val - r.val, 0, 0] := by decide +kernel

/-- Where the key codes of key head 1 lie, `r` blocks before the point's. -/
theorem off25_eq : ∀ i : grid0.Coords, k0_cond4 i = 1#1 → ∀ r : Fin 3, k0_off25 i (BitVec.ofNat 32 r.val) = ![0, 1, 256 * ((i 1).val - r.val), 0] := by decide +kernel

/-- Where the key scales of key head 1 lie, `r` blocks before the point's. -/
theorem off26_eq : ∀ i : grid0.Coords, k0_cond4 i = 1#1 → ∀ r : Fin 3, k0_off26 i (BitVec.ofNat 32 r.val) = ![1, (i 1).val - r.val, 0, 0] := by decide +kernel

/-- Where the transposed value codes of key head 1 lie, `r` blocks before the point's. -/
theorem off27_eq : ∀ i : grid0.Coords, k0_cond4 i = 1#1 → ∀ r : Fin 3, k0_off27 i (BitVec.ofNat 32 r.val) = ![1, (i 1).val - r.val, 0, 0] := by decide +kernel

/-- Where the key codes of key head 0 lie, `r` blocks before the point's. -/
theorem off28_eq : ∀ i : grid0.Coords, k0_cond5 i = 1#1 → ∀ r : Fin 4, k0_off28 i (BitVec.ofNat 32 r.val) = ![0, 0, 256 * ((i 1).val - r.val), 0] := by decide +kernel

/-- Where the key scales of key head 0 lie, `r` blocks before the point's. -/
theorem off29_eq : ∀ i : grid0.Coords, k0_cond5 i = 1#1 → ∀ r : Fin 4, k0_off29 i (BitVec.ofNat 32 r.val) = ![0, (i 1).val - r.val, 0, 0] := by decide +kernel

/-- Where the transposed value codes of key head 0 lie, `r` blocks before the point's. -/
theorem off30_eq : ∀ i : grid0.Coords, k0_cond5 i = 1#1 → ∀ r : Fin 4, k0_off30 i (BitVec.ofNat 32 r.val) = ![0, (i 1).val - r.val, 0, 0] := by decide +kernel

/-- Where the key codes of key head 1 lie, `r` blocks before the point's. -/
theorem off31_eq : ∀ i : grid0.Coords, k0_cond5 i = 1#1 → ∀ r : Fin 4, k0_off31 i (BitVec.ofNat 32 r.val) = ![0, 1, 256 * ((i 1).val - r.val), 0] := by decide +kernel

/-- Where the key scales of key head 1 lie, `r` blocks before the point's. -/
theorem off32_eq : ∀ i : grid0.Coords, k0_cond5 i = 1#1 → ∀ r : Fin 4, k0_off32 i (BitVec.ofNat 32 r.val) = ![1, (i 1).val - r.val, 0, 0] := by decide +kernel

/-- Where the transposed value codes of key head 1 lie, `r` blocks before the point's. -/
theorem off33_eq : ∀ i : grid0.Coords, k0_cond5 i = 1#1 → ∀ r : Fin 4, k0_off33 i (BitVec.ofNat 32 r.val) = ![1, (i 1).val - r.val, 0, 0] := by decide +kernel

/-- Where the key codes of key head 0 lie, `r` blocks before the point's. -/
theorem off34_eq : ∀ i : grid0.Coords, k0_cond6 i = 1#1 → ∀ r : Fin 5, k0_off34 i (BitVec.ofNat 32 r.val) = ![0, 0, 256 * ((i 1).val - r.val), 0] := by decide +kernel

/-- Where the key scales of key head 0 lie, `r` blocks before the point's. -/
theorem off35_eq : ∀ i : grid0.Coords, k0_cond6 i = 1#1 → ∀ r : Fin 5, k0_off35 i (BitVec.ofNat 32 r.val) = ![0, (i 1).val - r.val, 0, 0] := by decide +kernel

/-- Where the transposed value codes of key head 0 lie, `r` blocks before the point's. -/
theorem off36_eq : ∀ i : grid0.Coords, k0_cond6 i = 1#1 → ∀ r : Fin 5, k0_off36 i (BitVec.ofNat 32 r.val) = ![0, (i 1).val - r.val, 0, 0] := by decide +kernel

/-- Where the key codes of key head 1 lie, `r` blocks before the point's. -/
theorem off37_eq : ∀ i : grid0.Coords, k0_cond6 i = 1#1 → ∀ r : Fin 5, k0_off37 i (BitVec.ofNat 32 r.val) = ![0, 1, 256 * ((i 1).val - r.val), 0] := by decide +kernel

/-- Where the key scales of key head 1 lie, `r` blocks before the point's. -/
theorem off38_eq : ∀ i : grid0.Coords, k0_cond6 i = 1#1 → ∀ r : Fin 5, k0_off38 i (BitVec.ofNat 32 r.val) = ![1, (i 1).val - r.val, 0, 0] := by decide +kernel

/-- Where the transposed value codes of key head 1 lie, `r` blocks before the point's. -/
theorem off39_eq : ∀ i : grid0.Coords, k0_cond6 i = 1#1 → ∀ r : Fin 5, k0_off39 i (BitVec.ofNat 32 r.val) = ![1, (i 1).val - r.val, 0, 0] := by decide +kernel

/-- The key head's choice for a query head. -/
def pick {α : Type} (h : Fin 8) (a b : α) : α := if h.val < 4 then a else b

/-- A map of a choice by query head is the choice of the maps. -/
theorem pick_eq {α β : Type} (f : α → β) (v : Fin 2 → β) (h : Fin 8) (a b : α) (ha : f a = v 0) (hb : f b = v 1) : f (pick h a b) = v (grp h) := by
  unfold pick
  by_cases hh : h.val < 4
  · rw [if_pos hh, ha]; exact congrArg v (Fin.ext (by show 0 = h.val / 4; omega))
  · rw [if_neg hh, hb]; exact congrArg v (Fin.ext (by show 1 = h.val / 4; omega))

/-! ## The tiles -/

/-- The tile that the first branch reads for key head 0 is the point's own block. -/
theorem tile0_0_eq (X : Fin 16 → Vec F S1x256x1024 .bf16) (K V : Vec F S1x4096x256 .bf16) (i : grid0.Coords) (h : k0_cond2 i = 1#1) (j : Fin 16) (hj : j.val = (i 1).val)
    (s : St F) (hU : Upto X K V (j.val + 1) s) (p : Fin 2) (k : Fin 4) : tileOf s (tile0_0 i h p k) = tv K V 0 j :=
  tileOf_eq X K V _ s hU _ 0 j (by omega) (by show k0_off10 i = _; rw [Gen.k0_off10_eq, ← hj]; rfl)
    (by show k0_off11 i = _; rw [Gen.k0_off11_eq, ← hj]; rfl) (by show k0_off12 i = _; rw [Gen.k0_off12_eq, ← hj]; rfl)

/-- The tile that the first branch reads for key head 1 is the point's own block. -/
theorem tile0_1_eq (X : Fin 16 → Vec F S1x256x1024 .bf16) (K V : Vec F S1x4096x256 .bf16) (i : grid0.Coords) (h : k0_cond2 i = 1#1) (j : Fin 16) (hj : j.val = (i 1).val)
    (s : St F) (hU : Upto X K V (j.val + 1) s) (p : Fin 2) (k : Fin 4) : tileOf s (tile0_1 i h p k) = tv K V 1 j :=
  tileOf_eq X K V _ s hU _ 1 j (by omega) (by show k0_off13 i = _; rw [Gen.k0_off13_eq, ← hj]; rfl)
    (by show k0_off14 i = _; rw [Gen.k0_off14_eq, ← hj]; rfl) (by show k0_off15 i = _; rw [Gen.k0_off15_eq, ← hj]; rfl)

/-- The tiles that the second branch reads for key head 0 are the blocks up to the point's own. -/
theorem tile1_0_eq (X : Fin 16 → Vec F S1x256x1024 .bf16) (K V : Vec F S1x4096x256 .bf16) (i : grid0.Coords) (h : k0_cond3 i = 1#1) (j : Fin 16) (hj : j.val = (i 1).val)
    (s : St F) (hU : Upto X K V (j.val + 1) s) (p : Fin 2) (k : Fin 4) (r : Fin 2) : tileOf s (tile1_0 i h p k r) = tv K V 0 (back j r.val) :=
  tileOf_eq X K V _ s hU _ 0 (back j r.val) (by show j.val - r.val < j.val + 1; omega) (by show k0_off16 i _ = _; rw [off16_eq i h r, ← hj]; rfl)
    (by show k0_off17 i _ = _; rw [off17_eq i h r, ← hj]; rfl) (by show k0_off18 i _ = _; rw [off18_eq i h r, ← hj]; rfl)

/-- The tiles that the second branch reads for key head 1 are the blocks up to the point's own. -/
theorem tile1_1_eq (X : Fin 16 → Vec F S1x256x1024 .bf16) (K V : Vec F S1x4096x256 .bf16) (i : grid0.Coords) (h : k0_cond3 i = 1#1) (j : Fin 16) (hj : j.val = (i 1).val)
    (s : St F) (hU : Upto X K V (j.val + 1) s) (p : Fin 2) (k : Fin 4) (r : Fin 2) : tileOf s (tile1_1 i h p k r) = tv K V 1 (back j r.val) :=
  tileOf_eq X K V _ s hU _ 1 (back j r.val) (by show j.val - r.val < j.val + 1; omega) (by show k0_off19 i _ = _; rw [off19_eq i h r, ← hj]; rfl)
    (by show k0_off20 i _ = _; rw [off20_eq i h r, ← hj]; rfl) (by show k0_off21 i _ = _; rw [off21_eq i h r, ← hj]; rfl)

/-- The tiles that the third branch reads for key head 0 are the blocks up to the point's own. -/
theorem tile2_0_eq (X : Fin 16 → Vec F S1x256x1024 .bf16) (K V : Vec F S1x4096x256 .bf16) (i : grid0.Coords) (h : k0_cond4 i = 1#1) (j : Fin 16) (hj : j.val = (i 1).val)
    (s : St F) (hU : Upto X K V (j.val + 1) s) (p : Fin 2) (k : Fin 4) (r : Fin 3) : tileOf s (tile2_0 i h p k r) = tv K V 0 (back j r.val) :=
  tileOf_eq X K V _ s hU _ 0 (back j r.val) (by show j.val - r.val < j.val + 1; omega) (by show k0_off22 i _ = _; rw [off22_eq i h r, ← hj]; rfl)
    (by show k0_off23 i _ = _; rw [off23_eq i h r, ← hj]; rfl) (by show k0_off24 i _ = _; rw [off24_eq i h r, ← hj]; rfl)

/-- The tiles that the third branch reads for key head 1 are the blocks up to the point's own. -/
theorem tile2_1_eq (X : Fin 16 → Vec F S1x256x1024 .bf16) (K V : Vec F S1x4096x256 .bf16) (i : grid0.Coords) (h : k0_cond4 i = 1#1) (j : Fin 16) (hj : j.val = (i 1).val)
    (s : St F) (hU : Upto X K V (j.val + 1) s) (p : Fin 2) (k : Fin 4) (r : Fin 3) : tileOf s (tile2_1 i h p k r) = tv K V 1 (back j r.val) :=
  tileOf_eq X K V _ s hU _ 1 (back j r.val) (by show j.val - r.val < j.val + 1; omega) (by show k0_off25 i _ = _; rw [off25_eq i h r, ← hj]; rfl)
    (by show k0_off26 i _ = _; rw [off26_eq i h r, ← hj]; rfl) (by show k0_off27 i _ = _; rw [off27_eq i h r, ← hj]; rfl)

/-- The tiles that the fourth branch reads for key head 0 are the blocks up to the point's own. -/
theorem tile3_0_eq (X : Fin 16 → Vec F S1x256x1024 .bf16) (K V : Vec F S1x4096x256 .bf16) (i : grid0.Coords) (h : k0_cond5 i = 1#1) (j : Fin 16) (hj : j.val = (i 1).val)
    (s : St F) (hU : Upto X K V (j.val + 1) s) (p : Fin 2) (k : Fin 4) (r : Fin 4) : tileOf s (tile3_0 i h p k r) = tv K V 0 (back j r.val) :=
  tileOf_eq X K V _ s hU _ 0 (back j r.val) (by show j.val - r.val < j.val + 1; omega) (by show k0_off28 i _ = _; rw [off28_eq i h r, ← hj]; rfl)
    (by show k0_off29 i _ = _; rw [off29_eq i h r, ← hj]; rfl) (by show k0_off30 i _ = _; rw [off30_eq i h r, ← hj]; rfl)

/-- The tiles that the fourth branch reads for key head 1 are the blocks up to the point's own. -/
theorem tile3_1_eq (X : Fin 16 → Vec F S1x256x1024 .bf16) (K V : Vec F S1x4096x256 .bf16) (i : grid0.Coords) (h : k0_cond5 i = 1#1) (j : Fin 16) (hj : j.val = (i 1).val)
    (s : St F) (hU : Upto X K V (j.val + 1) s) (p : Fin 2) (k : Fin 4) (r : Fin 4) : tileOf s (tile3_1 i h p k r) = tv K V 1 (back j r.val) :=
  tileOf_eq X K V _ s hU _ 1 (back j r.val) (by show j.val - r.val < j.val + 1; omega) (by show k0_off31 i _ = _; rw [off31_eq i h r, ← hj]; rfl)
    (by show k0_off32 i _ = _; rw [off32_eq i h r, ← hj]; rfl) (by show k0_off33 i _ = _; rw [off33_eq i h r, ← hj]; rfl)

/-- The tiles that the fifth branch reads for key head 0 are the blocks up to the point's own. -/
theorem tile4_0_eq (X : Fin 16 → Vec F S1x256x1024 .bf16) (K V : Vec F S1x4096x256 .bf16) (i : grid0.Coords) (h : k0_cond6 i = 1#1) (j : Fin 16) (hj : j.val = (i 1).val)
    (s : St F) (hU : Upto X K V (j.val + 1) s) (p : Fin 2) (k : Fin 4) (r : Fin 5) : tileOf s (tile4_0 i h p k r) = tv K V 0 (back j r.val) :=
  tileOf_eq X K V _ s hU _ 0 (back j r.val) (by show j.val - r.val < j.val + 1; omega) (by show k0_off34 i _ = _; rw [off34_eq i h r, ← hj]; rfl)
    (by show k0_off35 i _ = _; rw [off35_eq i h r, ← hj]; rfl) (by show k0_off36 i _ = _; rw [off36_eq i h r, ← hj]; rfl)

/-- The tiles that the fifth branch reads for key head 1 are the blocks up to the point's own. -/
theorem tile4_1_eq (X : Fin 16 → Vec F S1x256x1024 .bf16) (K V : Vec F S1x4096x256 .bf16) (i : grid0.Coords) (h : k0_cond6 i = 1#1) (j : Fin 16) (hj : j.val = (i 1).val)
    (s : St F) (hU : Upto X K V (j.val + 1) s) (p : Fin 2) (k : Fin 4) (r : Fin 5) : tileOf s (tile4_1 i h p k r) = tv K V 1 (back j r.val) :=
  tileOf_eq X K V _ s hU _ 1 (back j r.val) (by show j.val - r.val < j.val + 1; omega) (by show k0_off37 i _ = _; rw [off37_eq i h r, ← hj]; rfl)
    (by show k0_off38 i _ = _; rw [off38_eq i h r, ← hj]; rfl) (by show k0_off39 i _ = _; rw [off39_eq i h r, ← hj]; rfl)

/-- The body at a block with no block before it. -/
theorem point0_runs (hM : Whole M) (i : grid0.Coords) (j : Fin 16) (hj : j.val = (i 1).val) (X : Fin 16 → Vec F S1x256x1024 .bf16) (K V : Vec F S1x4096x256 .bf16) (sk : Vec F S8 .f32)
    (s : St F) (hI : Ins X K V sk j s) (hU : Upto X K V j.val s) (h : k0_cond2 i = 1#1) :
    ∃ s', Runs c M E (body0 i h M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 M.a19 hM.h19) s ⟨⟩ s' ∧ Ins X K V sk j s' ∧ Upto X K V (j.val + 1) s' ∧ Base V s'
      ∧ OutDone (X j) K V sk j s'.b6 ∧ s'.b7 = codesB (X j) ∧ s'.b8 = qsV (X j) K j := by
  have hb : (i 1).val = 0 := (cond2_iff i).1 h
  obtain ⟨s0, r0, hI0, hU0, hB0⟩ := init_base (c := c) (M := M) (E := E) X K V sk j s hI hU
  obtain ⟨s1, r1, hI1, hU1, hB1, hq, hc, h7, h8⟩ := prep_runs (c := c) (E := E) hM i j hj X K V sk s0 hI0 hU0 hB0
  obtain ⟨y, b, r2, ho⟩ := attend_block (c := c) (E := E) hM.h6 X K V sk j (fun x => none) (fun x => pick x (tile0_0 i h (par x) 0) (tile0_1 i h (par x) 0)) (fun x => []) s1 hI1 hB1 hq hc
    (fun x => by simp)
    (fun x => by unfold leftTv; rw [if_neg (by omega)]; rfl)
    (fun x => pick_eq (tileOf s1) (fun g => tv K V g j) x _ _ (tile0_0_eq X K V i h j hj s1 hU1 _ _) (tile0_1_eq X K V i h j hj s1 hU1 _ _))
    (fun x => by unfold restTv; rw [if_pos (by omega)]; rfl)
  refine ⟨_, ?_, (hI1.set19 y).set6 b, (hU1.set19 y).set6 b, (hB1.set19 y).set6 b, ho, h7, h8⟩
  unfold body0
  exact r0.bind (r1.bind r2)

/-- The body at a block with 1 blocks before it. -/
theorem point1_runs (hM : Whole M) (i : grid0.Coords) (j : Fin 16) (hj : j.val = (i 1).val) (X : Fin 16 → Vec F S1x256x1024 .bf16) (K V : Vec F S1x4096x256 .bf16) (sk : Vec F S8 .f32)
    (s : St F) (hI : Ins X K V sk j s) (hU : Upto X K V j.val s) (h : k0_cond3 i = 1#1) (hB : Base V s) :
    ∃ s', Runs c M E (body1 i h M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 M.a19 hM.h19) s ⟨⟩ s' ∧ Ins X K V sk j s' ∧ Upto X K V (j.val + 1) s' ∧ Base V s'
      ∧ OutDone (X j) K V sk j s'.b6 ∧ s'.b7 = codesB (X j) ∧ s'.b8 = qsV (X j) K j := by
  have hb : (i 1).val = 1 := (cond3_iff i).1 h
  obtain ⟨s1, r1, hI1, hU1, hB1, hq, hc, h7, h8⟩ := prep_runs (c := c) (E := E) hM i j hj X K V sk s hI hU hB
  obtain ⟨y, b, r2, ho⟩ := attend_block (c := c) (E := E) hM.h6 X K V sk j (fun x => none) (fun x => pick x (tile1_0 i h (par x) 0 0) (tile1_1 i h (par x) 0 0)) (fun x => pick x [(tile1_0 i h (par x) 1 1)] [(tile1_1 i h (par x) 1 1)]) s1 hI1 hB1 hq hc
    (fun x => by unfold pick; split <;> simp [Apart, tile1_0, tile1_1, slot])
    (fun x => by unfold leftTv; rw [if_neg (by omega)]; rfl)
    (fun x => pick_eq (tileOf s1) (fun g => tv K V g j) x _ _ (tile1_0_eq X K V i h j hj s1 hU1 _ _ 0) (tile1_1_eq X K V i h j hj s1 hU1 _ _ 0))
    (fun x => pick_eq (List.map (tileOf s1)) (fun g => restTv K V g j) x _ _ (by show List.map (tileOf s1) _ = restTv K V 0 j; unfold restTv; rw [if_neg (by omega), if_pos (by omega)]; simp only [List.map, tile1_0_eq X K V i h j hj s1 hU1 _ _ 1]; rfl) (by show List.map (tileOf s1) _ = restTv K V 1 j; unfold restTv; rw [if_neg (by omega), if_pos (by omega)]; simp only [List.map, tile1_1_eq X K V i h j hj s1 hU1 _ _ 1]; rfl))
  refine ⟨_, ?_, (hI1.set19 y).set6 b, (hU1.set19 y).set6 b, (hB1.set19 y).set6 b, ho, h7, h8⟩
  unfold body1
  exact r1.bind r2

/-- The body at a block with 2 blocks before it. -/
theorem point2_runs (hM : Whole M) (i : grid0.Coords) (j : Fin 16) (hj : j.val = (i 1).val) (X : Fin 16 → Vec F S1x256x1024 .bf16) (K V : Vec F S1x4096x256 .bf16) (sk : Vec F S8 .f32)
    (s : St F) (hI : Ins X K V sk j s) (hU : Upto X K V j.val s) (h : k0_cond4 i = 1#1) (hB : Base V s) :
    ∃ s', Runs c M E (body2 i h M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 M.a19 hM.h19) s ⟨⟩ s' ∧ Ins X K V sk j s' ∧ Upto X K V (j.val + 1) s' ∧ Base V s'
      ∧ OutDone (X j) K V sk j s'.b6 ∧ s'.b7 = codesB (X j) ∧ s'.b8 = qsV (X j) K j := by
  have hb : (i 1).val = 2 := (cond4_iff i).1 h
  obtain ⟨s1, r1, hI1, hU1, hB1, hq, hc, h7, h8⟩ := prep_runs (c := c) (E := E) hM i j hj X K V sk s hI hU hB
  obtain ⟨y, b, r2, ho⟩ := attend_block (c := c) (E := E) hM.h6 X K V sk j (fun x => none) (fun x => pick x (tile2_0 i h (par x) 0 0) (tile2_1 i h (par x) 0 0)) (fun x => pick x [(tile2_0 i h (par x) 1 1), (tile2_0 i h (par x) 2 2)] [(tile2_1 i h (par x) 1 1), (tile2_1 i h (par x) 2 2)]) s1 hI1 hB1 hq hc
    (fun x => by unfold pick; split <;> simp [Apart, tile2_0, tile2_1, slot])
    (fun x => by unfold leftTv; rw [if_neg (by omega)]; rfl)
    (fun x => pick_eq (tileOf s1) (fun g => tv K V g j) x _ _ (tile2_0_eq X K V i h j hj s1 hU1 _ _ 0) (tile2_1_eq X K V i h j hj s1 hU1 _ _ 0))
    (fun x => pick_eq (List.map (tileOf s1)) (fun g => restTv K V g j) x _ _ (by show List.map (tileOf s1) _ = restTv K V 0 j; unfold restTv; rw [if_neg (by omega), if_neg (by omega), if_pos (by omega)]; simp only [List.map, tile2_0_eq X K V i h j hj s1 hU1 _ _ 1, tile2_0_eq X K V i h j hj s1 hU1 _ _ 2]; rfl) (by show List.map (tileOf s1) _ = restTv K V 1 j; unfold restTv; rw [if_neg (by omega), if_neg (by omega), if_pos (by omega)]; simp only [List.map, tile2_1_eq X K V i h j hj s1 hU1 _ _ 1, tile2_1_eq X K V i h j hj s1 hU1 _ _ 2]; rfl))
  refine ⟨_, ?_, (hI1.set19 y).set6 b, (hU1.set19 y).set6 b, (hB1.set19 y).set6 b, ho, h7, h8⟩
  unfold body2
  exact r1.bind r2

/-- The body at a block with 3 blocks before it. -/
theorem point3_runs (hM : Whole M) (i : grid0.Coords) (j : Fin 16) (hj : j.val = (i 1).val) (X : Fin 16 → Vec F S1x256x1024 .bf16) (K V : Vec F S1x4096x256 .bf16) (sk : Vec F S8 .f32)
    (s : St F) (hI : Ins X K V sk j s) (hU : Upto X K V j.val s) (h : k0_cond5 i = 1#1) (hB : Base V s) :
    ∃ s', Runs c M E (body3 i h M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 M.a19 hM.h19) s ⟨⟩ s' ∧ Ins X K V sk j s' ∧ Upto X K V (j.val + 1) s' ∧ Base V s'
      ∧ OutDone (X j) K V sk j s'.b6 ∧ s'.b7 = codesB (X j) ∧ s'.b8 = qsV (X j) K j := by
  have hb : (i 1).val = 3 := (cond5_iff i).1 h
  obtain ⟨s1, r1, hI1, hU1, hB1, hq, hc, h7, h8⟩ := prep_runs (c := c) (E := E) hM i j hj X K V sk s hI hU hB
  obtain ⟨y, b, r2, ho⟩ := attend_block (c := c) (E := E) hM.h6 X K V sk j (fun x => none) (fun x => pick x (tile3_0 i h (par x) 0 0) (tile3_1 i h (par x) 0 0)) (fun x => pick x [(tile3_0 i h (par x) 1 1), (tile3_0 i h (par x) 2 2), (tile3_0 i h (par x) 3 3)] [(tile3_1 i h (par x) 1 1), (tile3_1 i h (par x) 2 2), (tile3_1 i h (par x) 3 3)]) s1 hI1 hB1 hq hc
    (fun x => by unfold pick; split <;> simp [Apart, tile3_0, tile3_1, slot])
    (fun x => by unfold leftTv; rw [if_neg (by omega)]; rfl)
    (fun x => pick_eq (tileOf s1) (fun g => tv K V g j) x _ _ (tile3_0_eq X K V i h j hj s1 hU1 _ _ 0) (tile3_1_eq X K V i h j hj s1 hU1 _ _ 0))
    (fun x => pick_eq (List.map (tileOf s1)) (fun g => restTv K V g j) x _ _ (by show List.map (tileOf s1) _ = restTv K V 0 j; unfold restTv; rw [if_neg (by omega), if_neg (by omega), if_neg (by omega)]; simp only [List.map, tile3_0_eq X K V i h j hj s1 hU1 _ _ 1, tile3_0_eq X K V i h j hj s1 hU1 _ _ 2, tile3_0_eq X K V i h j hj s1 hU1 _ _ 3]; rfl) (by show List.map (tileOf s1) _ = restTv K V 1 j; unfold restTv; rw [if_neg (by omega), if_neg (by omega), if_neg (by omega)]; simp only [List.map, tile3_1_eq X K V i h j hj s1 hU1 _ _ 1, tile3_1_eq X K V i h j hj s1 hU1 _ _ 2, tile3_1_eq X K V i h j hj s1 hU1 _ _ 3]; rfl))
  refine ⟨_, ?_, (hI1.set19 y).set6 b, (hU1.set19 y).set6 b, (hB1.set19 y).set6 b, ho, h7, h8⟩
  unfold body3
  exact r1.bind r2

/-- The body at a block with 4 blocks or more before it. -/
theorem point4_runs (hM : Whole M) (i : grid0.Coords) (j : Fin 16) (hj : j.val = (i 1).val) (X : Fin 16 → Vec F S1x256x1024 .bf16) (K V : Vec F S1x4096x256 .bf16) (sk : Vec F S8 .f32)
    (s : St F) (hI : Ins X K V sk j s) (hU : Upto X K V j.val s) (h : k0_cond6 i = 1#1) (hB : Base V s) :
    ∃ s', Runs c M E (body4 i h M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 M.a19 hM.h19) s ⟨⟩ s' ∧ Ins X K V sk j s' ∧ Upto X K V (j.val + 1) s' ∧ Base V s'
      ∧ OutDone (X j) K V sk j s'.b6 ∧ s'.b7 = codesB (X j) ∧ s'.b8 = qsV (X j) K j := by
  have hb : 4 ≤ (i 1).val := (cond6_iff i).1 h
  obtain ⟨s1, r1, hI1, hU1, hB1, hq, hc, h7, h8⟩ := prep_runs (c := c) (E := E) hM i j hj X K V sk s hI hU hB
  obtain ⟨y, b, r2, ho⟩ := attend_block (c := c) (E := E) hM.h6 X K V sk j (fun x => pick x (some (tile4_0 i h (par x) 0 4)) (some (tile4_1 i h (par x) 0 4))) (fun x => pick x (tile4_0 i h (par x) 0 0) (tile4_1 i h (par x) 0 0)) (fun x => pick x [(tile4_0 i h (par x) 1 1), (tile4_0 i h (par x) 2 2), (tile4_0 i h (par x) 3 3)] [(tile4_1 i h (par x) 1 1), (tile4_1 i h (par x) 2 2), (tile4_1 i h (par x) 3 3)]) s1 hI1 hB1 hq hc
    (fun x => by unfold pick; split <;> simp [Apart, tile4_0, tile4_1, slot])
    (fun x => pick_eq (Option.map (tileOf s1)) (fun g => leftTv K V g j) x _ _ (by show some _ = leftTv K V 0 j; unfold leftTv; rw [if_pos (by omega), tile4_0_eq X K V i h j hj s1 hU1 _ _ 4]; rfl) (by show some _ = leftTv K V 1 j; unfold leftTv; rw [if_pos (by omega), tile4_1_eq X K V i h j hj s1 hU1 _ _ 4]; rfl))
    (fun x => pick_eq (tileOf s1) (fun g => tv K V g j) x _ _ (tile4_0_eq X K V i h j hj s1 hU1 _ _ 0) (tile4_1_eq X K V i h j hj s1 hU1 _ _ 0))
    (fun x => pick_eq (List.map (tileOf s1)) (fun g => restTv K V g j) x _ _ (by show List.map (tileOf s1) _ = restTv K V 0 j; unfold restTv; rw [if_neg (by omega), if_neg (by omega), if_neg (by omega)]; simp only [List.map, tile4_0_eq X K V i h j hj s1 hU1 _ _ 1, tile4_0_eq X K V i h j hj s1 hU1 _ _ 2, tile4_0_eq X K V i h j hj s1 hU1 _ _ 3]; rfl) (by show List.map (tileOf s1) _ = restTv K V 1 j; unfold restTv; rw [if_neg (by omega), if_neg (by omega), if_neg (by omega)]; simp only [List.map, tile4_1_eq X K V i h j hj s1 hU1 _ _ 1, tile4_1_eq X K V i h j hj s1 hU1 _ _ 2, tile4_1_eq X K V i h j hj s1 hU1 _ _ 3]; rfl))
  refine ⟨_, ?_, (hI1.set19 y).set6 b, (hU1.set19 y).set6 b, (hB1.set19 y).set6 b, ho, h7, h8⟩
  unfold body4
  exact r1.bind r2

/-- The body at any grid point: from what the blocks before it left to what the blocks up to it leave, with the outputs of its own block. -/
theorem point_runs (hM : Whole M) (i : grid0.Coords) (j : Fin 16) (hj : j.val = (i 1).val) (X : Fin 16 → Vec F S1x256x1024 .bf16) (K V : Vec F S1x4096x256 .bf16) (sk : Vec F S8 .f32)
    (s : St F) (hI : Ins X K V sk j s) (hU : Upto X K V j.val s) (hB : j.val ≠ 0 → Base V s) :
    ∃ s', Runs c M E (cc0_fp8_swa (F := F) i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 M.a19 hM.h19) s ⟨⟩ s' ∧ Ins X K V sk j s' ∧ Upto X K V (j.val + 1) s' ∧ Base V s'
      ∧ OutDone (X j) K V sk j s'.b6 ∧ s'.b7 = codesB (X j) ∧ s'.b8 = qsV (X j) K j := by
  have hlt := j.isLt
  by_cases hb0 : (i 1).val = 0
  · have h := (cond2_iff i).2 hb0
    rw [body0_eq i h ((cond1_iff i).2 hb0) (fun e => by have := (cond3_iff i).1 e; omega) (fun e => by have := (cond4_iff i).1 e; omega) (fun e => by have := (cond5_iff i).1 e; omega) (fun e => by have := (cond6_iff i).1 e; omega)]
    exact point0_runs hM i j hj X K V sk s hI hU h
  by_cases hb1 : (i 1).val = 1
  · have h := (cond3_iff i).2 hb1
    rw [body1_eq i h (fun e => by have := (cond1_iff i).1 e; omega) (fun e => by have := (cond2_iff i).1 e; omega) (fun e => by have := (cond4_iff i).1 e; omega) (fun e => by have := (cond5_iff i).1 e; omega) (fun e => by have := (cond6_iff i).1 e; omega)]
    exact point1_runs hM i j hj X K V sk s hI hU h (hB (by omega))
  by_cases hb2 : (i 1).val = 2
  · have h := (cond4_iff i).2 hb2
    rw [body2_eq i h (fun e => by have := (cond1_iff i).1 e; omega) (fun e => by have := (cond2_iff i).1 e; omega) (fun e => by have := (cond3_iff i).1 e; omega) (fun e => by have := (cond5_iff i).1 e; omega) (fun e => by have := (cond6_iff i).1 e; omega)]
    exact point2_runs hM i j hj X K V sk s hI hU h (hB (by omega))
  by_cases hb3 : (i 1).val = 3
  · have h := (cond5_iff i).2 hb3
    rw [body3_eq i h (fun e => by have := (cond1_iff i).1 e; omega) (fun e => by have := (cond2_iff i).1 e; omega) (fun e => by have := (cond3_iff i).1 e; omega) (fun e => by have := (cond4_iff i).1 e; omega) (fun e => by have := (cond6_iff i).1 e; omega)]
    exact point3_runs hM i j hj X K V sk s hI hU h (hB (by omega))
  · have h := (cond6_iff i).2 (by omega)
    rw [body4_eq i h (fun e => by have := (cond1_iff i).1 e; omega) (fun e => by have := (cond2_iff i).1 e; omega) (fun e => by have := (cond3_iff i).1 e; omega) (fun e => by have := (cond4_iff i).1 e; omega) (fun e => by have := (cond5_iff i).1 e; omega)]
    exact point4_runs hM i j hj X K V sk s hI hU h (hB (by omega))

end Cert.KernelIdeal.Model

end
-- ==== Proof.Obligation.lean ====
/- The kernel's run: its body at every grid point, from what the pipeline and the blocks before it left; and the frame. -/
module

public import proofs.«01_k».proof.Proof.Point
public import proofs.«01_k».proof.Proof.Gen.KernelIdeal.Frame
public import Idealize.ShloMosaic.Lib.Pipeline.DatRel
public import Idealize.ShloMosaic.Lib.Pipeline.ArrRel
public import Idealize.ShloMosaic.Lib.Pipeline.ValueKit

@[expose] public section

set_option synthInstance.maxSize 4096
set_option maxRecDepth 16384

noncomputable section

namespace Cert.KernelIdeal.Model

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationRel cellOf)
open Cert.KernelIdeal.Gen
open VecWindow (window put)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The inputs of a batch -/

/-- The grid point of block `j` of batch `b`. -/
def pt (b : Fin 9) (j : Fin 16) : Fin cfg0.N := ⟨16 * b.val + j.val, by show 16 * b.val + j.val < 144; omega⟩

/-- The batch of a grid point. -/
def bat (n : ℕ) : Fin 9 := ⟨n / 16 % 9, Nat.mod_lt _ (by decide)⟩

/-- The block of a grid point. -/
def blkOf (n : ℕ) : Fin 16 := ⟨n % 16, Nat.mod_lt _ (by decide)⟩

/-- The queries of a batch, by block. -/
def inX (c : Dev nD) (b : Fin 9) (j : Fin 16) : Vec F S1x256x1024 .bf16 := iblk m c 1 (pt b j)

/-- The keys of a batch. -/
def inK (c : Dev nD) (b : Fin 9) : Vec F S1x4096x256 .bf16 := iblk m c 2 (pt b 0)

/-- The values of a batch. -/
def inV (c : Dev nD) (b : Fin 9) : Vec F S1x4096x256 .bf16 := iblk m c 3 (pt b 0)

/-- The sinks. -/
def inS (c : Dev nD) : Vec F S8 .f32 := iblk m c 0 (pt 0 0)

/-- The second coordinate of a grid point. -/
theorem coords_one : ∀ t : Fin cfg0.N, ((grid0.coords t) 1).val = t.val % 16 := by
  show ∀ t : Fin grid0.N, ((grid0.coords t) 1).val = t.val % 16
  decide +kernel

/-- The block of the keys at a grid point. -/
theorem index2 : ∀ t : Fin cfg0.N, win0_2.index t = ![t.val / 16, 0, 0] := by
  show ∀ t : Fin grid0.N, win0_2.index t = ![t.val / 16, 0, 0]
  decide +kernel

/-- The block of the values at a grid point. -/
theorem index3 : ∀ t : Fin cfg0.N, win0_3.index t = ![t.val / 16, 0, 0] := by
  show ∀ t : Fin grid0.N, win0_3.index t = ![t.val / 16, 0, 0]
  decide +kernel

/-- The block of the sinks at a grid point. -/
theorem index0 : ∀ t : Fin cfg0.N, win0_0.index t = ![0] := by
  show ∀ t : Fin grid0.N, win0_0.index t = ![0]
  decide +kernel

/-- A grid point is the one of its batch and of its block number. -/
theorem pt_eq (t : Fin cfg0.N) : pt (bat t.val) (blkOf t.val) = t := by
  have ht : t.val < 144 := t.isLt
  exact Fin.ext (by show 16 * (t.val / 16 % 9) + t.val % 16 = t.val; omega)

/-- The staged block of the queries is the one of the point's batch and block number. -/
theorem iblk1_eq (c : Dev nD) (t : Fin cfg0.N) : (iblk m c 1 t : Vec F S1x256x1024 .bf16) = inX m c (bat t.val) (blkOf t.val) := by
  unfold inX; rw [pt_eq]

/-- The staged block of the keys is the one of the point's batch and block number. -/
theorem iblk2_eq (c : Dev nD) (t : Fin cfg0.N) : (iblk m c 2 t : Vec F S1x4096x256 .bf16) = inK m c (bat t.val) := by
  have ht : t.val < 144 := t.isLt
  have e : win0_2.index t = win0_2.index (pt (bat t.val) 0) := by
    rw [index2, index2]
    show (![t.val / 16, 0, 0] : Fin 3 → ℕ) = ![(16 * (t.val / 16 % 9) + 0) / 16, 0, 0]
    congr 1; omega
  unfold inK
  funext y
  blk_simp [iblk]
  refine congrArg _ (funext fun a => Fin.ext ?_)
  blk_simp
  rw [e]

/-- The staged block of the values is the one of the point's batch and block number. -/
theorem iblk3_eq (c : Dev nD) (t : Fin cfg0.N) : (iblk m c 3 t : Vec F S1x4096x256 .bf16) = inV m c (bat t.val) := by
  have ht : t.val < 144 := t.isLt
  have e : win0_3.index t = win0_3.index (pt (bat t.val) 0) := by
    rw [index3, index3]
    show (![t.val / 16, 0, 0] : Fin 3 → ℕ) = ![(16 * (t.val / 16 % 9) + 0) / 16, 0, 0]
    congr 1; omega
  unfold inV
  funext y
  blk_simp [iblk]
  refine congrArg _ (funext fun a => Fin.ext ?_)
  blk_simp
  rw [e]

/-- The staged sinks are the same at every point. -/
theorem iblk0_eq (c : Dev nD) (t : Fin cfg0.N) : (iblk m c 0 t : Vec F S8 .f32) = inS m c := by
  have e : win0_0.index t = win0_0.index (pt 0 0) := by rw [index0, index0]
  unfold inS
  funext y
  blk_simp [iblk]
  refine congrArg _ (funext fun a => Fin.ext ?_)
  blk_simp
  rw [e]

/-! ## The pipeline's proof data -/

/-- What a grid point leaves in each window it writes. -/
def Rl (c : Dev nD) (w : Fin cfg0.W) (t : Fin cfg0.N) : ((cfg0.win w).block.Idx → Elt F (cfg0.win w).elt) → Prop :=
  match w with
  | ⟨0, _⟩ => fun _ => True
  | ⟨1, _⟩ => fun _ => True
  | ⟨2, _⟩ => fun _ => True
  | ⟨3, _⟩ => fun _ => True
  | ⟨4, _⟩ => fun X => OutDone (inX m c (bat t.val) (blkOf t.val)) (inK m c (bat t.val)) (inV m c (bat t.val)) (inS m c) (blkOf t.val) X
  | ⟨5, _⟩ => fun X => X = codesB (inX m c (bat t.val) (blkOf t.val))
  | ⟨6, _⟩ => fun X => X = qsV (inX m c (bat t.val) (blkOf t.val)) (inK m c (bat t.val)) (blkOf t.val)
  | ⟨7, _⟩ => fun X => KcUpto (inK m c (bat t.val)) (t.val % 16 + 1) X
  | ⟨8, _⟩ => fun X => KsUpto (inX m c (bat t.val)) (inK m c (bat t.val)) (t.val % 16 + 1) X
  | ⟨9, _⟩ => fun X => VcUpto (inV m c (bat t.val)) (t.val % 16 + 1) X
  | ⟨10, _⟩ => fun X => VsDone (inV m c (bat t.val)) X

/-- The windows the body writes. -/
def outs (w : Fin cfg0.W) : Bool := Nat.ble 4 w.val

/-- What the scratch buffers hold on entry to grid point `n`, after the first of its batch. -/
def Scr (c : Dev nD) (n : ℕ) (b15 : Vec F S2x16x256x128 .f32) (b16 : Vec F S2x16x128x256 .fp8e4m3) (b17 : Vec F S2x128 .f32) (b18 : Vec F S256x256 .i32) : Prop :=
  n % 16 ≠ 0 → KsrUpto (inK m c (bat n)) (n % 16) b15 ∧ VtUpto (inV m c (bat n)) (n % 16) b16 ∧ VinvDone (inV m c (bat n)) b17 ∧ b18 = triC

/-- The scratch buffers on entry to grid point `n`. -/
def Phi (c : Dev nD) (n : ℕ) : sProp 𝕄 :=
  iprop((∃ b13 b14 b15 b16 b17 b18 b19, ⌜Scr m c n b15 b16 b17 b18⌝
    ∗ owns (c : Thread nD τ) (Memref.whole cc0_scratch0) fullShare b13 ∗ owns (c : Thread nD τ) (Memref.whole cc0_scratch1) fullShare b14
    ∗ owns (c : Thread nD τ) (Memref.whole cc0_scratch2) fullShare b15 ∗ owns (c : Thread nD τ) (Memref.whole cc0_scratch3) fullShare b16
    ∗ owns (c : Thread nD τ) (Memref.whole cc0_scratch4) fullShare b17 ∗ owns (c : Thread nD τ) (Memref.whole cc0_scratch5) fullShare b18
    ∗ owns (c : Thread nD τ) (Memref.whole cc0_scratch6) fullShare b19) ∗ ∃ r, prngReg c r)

/-- The proof data: the inputs kept, the outputs held to what the grid point leaves. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => fun _ => Classical.arbitrary _
    | ⟨5, _⟩ => fun _ => Classical.arbitrary _
    | ⟨6, _⟩ => fun _ => Classical.arbitrary _
    | ⟨7, _⟩ => fun _ => Classical.arbitrary _
    | ⟨8, _⟩ => fun _ => Classical.arbitrary _
    | ⟨9, _⟩ => fun _ => Classical.arbitrary _
    | ⟨10, _⟩ => fun _ => Classical.arbitrary _
  Φ t := Phi m c t.val
  q _ := fullShare
  owed _ := 0

/-- The arrays at the start are those that the region finds. -/
theorem A_eq (c : Dev nD) (w : Fin cfg0.W) : (dat m c).A w = V m c (Pipeline.arrRef spec0 w) := by
  dsimp only [dat]

/-- A point leaves the sinks as it found them. -/
theorem after_0 (c : Dev nD) (t : Fin cfg0.N) : (dat m c).after 0 t = iblk m c 0 t := by dsimp only [dat]
/-- A point finds the sinks staged. -/
theorem before_0 (c : Dev nD) (t : Fin cfg0.N) (d) : (dat m c).before 0 t d = iblk m c 0 t :=
  before0_0_of m (dat m c) (A_eq m c 0) (after_0 m c) t d

/-- A point leaves the queries as it found them. -/
theorem after_1 (c : Dev nD) (t : Fin cfg0.N) : (dat m c).after 1 t = iblk m c 1 t := by dsimp only [dat]
/-- A point finds the queries staged. -/
theorem before_1 (c : Dev nD) (t : Fin cfg0.N) (d) : (dat m c).before 1 t d = iblk m c 1 t :=
  before0_1_of m (dat m c) (A_eq m c 1) (after_1 m c) t d

/-- A point leaves the keys as it found them. -/
theorem after_2 (c : Dev nD) (t : Fin cfg0.N) : (dat m c).after 2 t = iblk m c 2 t := by dsimp only [dat]
/-- A point finds the keys staged. -/
theorem before_2 (c : Dev nD) (t : Fin cfg0.N) (d) : (dat m c).before 2 t d = iblk m c 2 t :=
  before0_2_of m (dat m c) (A_eq m c 2) (after_2 m c) t d

/-- A point leaves the values as it found them. -/
theorem after_3 (c : Dev nD) (t : Fin cfg0.N) : (dat m c).after 3 t = iblk m c 3 t := by dsimp only [dat]
/-- A point finds the values staged. -/
theorem before_3 (c : Dev nD) (t : Fin cfg0.N) (d) : (dat m c).before 3 t d = iblk m c 3 t :=
  before0_3_of m (dat m c) (A_eq m c 3) (after_3 m c) t d

/-- The relational data. -/
abbrev rdat (c : Dev nD) : RDat τ (Elt F) Unit ℕ (UR sig nD τ) ℕ cfg0 c := (dat m c).toRRel outs (Rl m c)

/-- The block of the key codes is never fetched. -/
theorem nofetch_7 (t : Fin cfg0.N) : (cfg0.win 7).fetch t = false := by
  show win0_7.fetch t = false
  simp [Window.fetch]

/-- After a batch's first block, window 7 is found as the block before left it. -/
theorem finds_7 (c : Dev nD) (t : Fin cfg0.N) (ht : t.val % 16 ≠ 0) (Y) (h : (rdat m c).Finds 7 t Y) : Rl m c 7 ⟨t.val - 1, Nat.lt_of_le_of_lt (Nat.sub_le _ _) t.isLt⟩ Y := by
  have h' := ((rdat m c).finds_of_pos (nofetch_7 t) (by omega) Y).mp h
  rcases h' with h' | h'
  · exact absurd ((flush0_7 _).mp h') (by show ¬ (t.val - 1) % 16 = 15; omega)
  · exact (dat m c).toRRel_leaves rfl h'

/-- The block of the key scales is never fetched. -/
theorem nofetch_8 (t : Fin cfg0.N) : (cfg0.win 8).fetch t = false := by
  show win0_8.fetch t = false
  simp [Window.fetch]

/-- After a batch's first block, window 8 is found as the block before left it. -/
theorem finds_8 (c : Dev nD) (t : Fin cfg0.N) (ht : t.val % 16 ≠ 0) (Y) (h : (rdat m c).Finds 8 t Y) : Rl m c 8 ⟨t.val - 1, Nat.lt_of_le_of_lt (Nat.sub_le _ _) t.isLt⟩ Y := by
  have h' := ((rdat m c).finds_of_pos (nofetch_8 t) (by omega) Y).mp h
  rcases h' with h' | h'
  · exact absurd ((flush0_8 _).mp h') (by show ¬ (t.val - 1) % 16 = 15; omega)
  · exact (dat m c).toRRel_leaves rfl h'

/-- The block of the value codes is never fetched. -/
theorem nofetch_9 (t : Fin cfg0.N) : (cfg0.win 9).fetch t = false := by
  show win0_9.fetch t = false
  simp [Window.fetch]

/-- After a batch's first block, window 9 is found as the block before left it. -/
theorem finds_9 (c : Dev nD) (t : Fin cfg0.N) (ht : t.val % 16 ≠ 0) (Y) (h : (rdat m c).Finds 9 t Y) : Rl m c 9 ⟨t.val - 1, Nat.lt_of_le_of_lt (Nat.sub_le _ _) t.isLt⟩ Y := by
  have h' := ((rdat m c).finds_of_pos (nofetch_9 t) (by omega) Y).mp h
  rcases h' with h' | h'
  · exact absurd ((flush0_9 _).mp h') (by show ¬ (t.val - 1) % 16 = 15; omega)
  · exact (dat m c).toRRel_leaves rfl h'

/-- The block of the value scales is never fetched. -/
theorem nofetch_10 (t : Fin cfg0.N) : (cfg0.win 10).fetch t = false := by
  show win0_10.fetch t = false
  simp [Window.fetch]

/-- After a batch's first block, window 10 is found as the block before left it. -/
theorem finds_10 (c : Dev nD) (t : Fin cfg0.N) (ht : t.val % 16 ≠ 0) (Y) (h : (rdat m c).Finds 10 t Y) : Rl m c 10 ⟨t.val - 1, Nat.lt_of_le_of_lt (Nat.sub_le _ _) t.isLt⟩ Y := by
  have h' := ((rdat m c).finds_of_pos (nofetch_10 t) (by omega) Y).mp h
  rcases h' with h' | h'
  · exact absurd ((flush0_10 _).mp h') (by show ¬ (t.val - 1) % 16 = 15; omega)
  · exact (dat m c).toRRel_leaves rfl h'

/-! ## The body at a grid point -/

/-- The memrefs of the body at point `t`. -/
def mems (t : Fin cfg0.N) : Mems := ⟨win0_0.stage (cfg0.slots t 0), win0_1.stage (cfg0.slots t 1), win0_2.stage (cfg0.slots t 2), win0_3.stage (cfg0.slots t 3), win0_4.stage (cfg0.slots t 4), win0_5.stage (cfg0.slots t 5), win0_6.stage (cfg0.slots t 6), win0_7.stage (cfg0.slots t 7), win0_8.stage (cfg0.slots t 8), win0_9.stage (cfg0.slots t 9), win0_10.stage (cfg0.slots t 10), Memref.whole cc0_scratch0, Memref.whole cc0_scratch1, Memref.whole cc0_scratch2, Memref.whole cc0_scratch3, Memref.whole cc0_scratch4, Memref.whole cc0_scratch5, Memref.whole cc0_scratch6⟩

/-- The buffers of a point are whole. -/
theorem mems_whole (t : Fin cfg0.N) : Whole (mems t) := ⟨hstage0_0 ((cfg0.slots t 0).cast nbuf0_0), hstage0_1 ((cfg0.slots t 1).cast nbuf0_1), hstage0_2 ((cfg0.slots t 2).cast nbuf0_2), hstage0_3 ((cfg0.slots t 3).cast nbuf0_3), hstage0_4 ((cfg0.slots t 4).cast nbuf0_4), hstage0_5 ((cfg0.slots t 5).cast nbuf0_5), hstage0_6 ((cfg0.slots t 6).cast nbuf0_6), hstage0_7 ((cfg0.slots t 7).cast nbuf0_7), hstage0_8 ((cfg0.slots t 8).cast nbuf0_8), hstage0_9 ((cfg0.slots t 9).cast nbuf0_9), hstage0_10 ((cfg0.slots t 10).cast nbuf0_10), Memref.isWhole_whole _, Memref.isWhole_whole _, Memref.isWhole_whole _, Memref.isWhole_whole _, Memref.isWhole_whole _, Memref.isWhole_whole _, Memref.isWhole_whole _⟩

/-- A run within what else is held. -/
theorem Runs.within {c : Dev nD} {M : Mems} {E : Set ℕ} {p : Prog (TpuEff nD τ sig (Elt F) Λ₀ .tc) PUnit} {s s' : St F} (h : Runs c M E p s ⟨⟩ s') (Q : sProp 𝕄) :
    iprop(Own c M s ∗ (Own c M s' -∗ Q)) ⊢ wp frame (wpE (defs₀ (F := F)) Variants.none c none) E p (fun _ => Q) := by
  unfold Runs at h
  refine (sep_mono h .rfl).trans ((wp_frame_r _ _ _).trans (wp_mono _ _ _ fun a => ?_))
  iintro ⟨⟨%_, H⟩, Hw⟩
  iapply Hw; iexact H

/-- What the body is called with at point `t`, -/
def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ Y, ⌜(rdat m c).Finds 4 t Y⌝ ∗ owns (c : Thread nD τ) (st0_4 t) fullShare Y)
    ∗ (∃ Y, ⌜(rdat m c).Finds 5 t Y⌝ ∗ owns (c : Thread nD τ) (st0_5 t) fullShare Y)
    ∗ (∃ Y, ⌜(rdat m c).Finds 6 t Y⌝ ∗ owns (c : Thread nD τ) (st0_6 t) fullShare Y)
    ∗ (∃ Y, ⌜(rdat m c).Finds 7 t Y⌝ ∗ owns (c : Thread nD τ) (st0_7 t) fullShare Y)
    ∗ (∃ Y, ⌜(rdat m c).Finds 8 t Y⌝ ∗ owns (c : Thread nD τ) (st0_8 t) fullShare Y)
    ∗ (∃ Y, ⌜(rdat m c).Finds 9 t Y⌝ ∗ owns (c : Thread nD τ) (st0_9 t) fullShare Y)
    ∗ (∃ Y, ⌜(rdat m c).Finds 10 t Y⌝ ∗ owns (c : Thread nD τ) (st0_10 t) fullShare Y))

/-- and what it returns. -/
def bodyPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ (∃ X, ⌜Rl m c 4 t X⌝ ∗ owns (c : Thread nD τ) (st0_4 t) fullShare X)
    ∗ (∃ X, ⌜Rl m c 5 t X⌝ ∗ owns (c : Thread nD τ) (st0_5 t) fullShare X)
    ∗ (∃ X, ⌜Rl m c 6 t X⌝ ∗ owns (c : Thread nD τ) (st0_6 t) fullShare X)
    ∗ (∃ X, ⌜Rl m c 7 t X⌝ ∗ owns (c : Thread nD τ) (st0_7 t) fullShare X)
    ∗ (∃ X, ⌜Rl m c 8 t X⌝ ∗ owns (c : Thread nD τ) (st0_8 t) fullShare X)
    ∗ (∃ X, ⌜Rl m c 9 t X⌝ ∗ owns (c : Thread nD τ) (st0_9 t) fullShare X)
    ∗ (∃ X, ⌜Rl m c 10 t X⌝ ∗ owns (c : Thread nD τ) (st0_10 t) fullShare X))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dat m c).Φ t.succ = Phi m c (t.val + 1) from rfl, show (dat m c).Φ t.castSucc = Phi m c t.val from rfl,
    show (dat m c).owesAt () t.succ = (dat m c).owesAt () t.castSucc from rfl,
    after_0, after_1, after_2, after_3]
  unfold Phi
  iintro ⟨⟨⟨%b13, %b14, %b15, %b16, %b17, %b18, %b19, %hs, G0, G1, G2, G3, G4, G5, G6⟩, Hr⟩, Ho, ⟨%d0, H0⟩, ⟨%d1, H1⟩, ⟨%d2, H2⟩, ⟨%d3, H3⟩, ⟨%Y4, %h4, H4⟩, ⟨%Y5, %h5, H5⟩, ⟨%Y6, %h6, H6⟩, ⟨%Y7, %h7, H7⟩, ⟨%Y8, %h8, H8⟩, ⟨%Y9, %h9, H9⟩, ⟨%Y10, %h10, H10⟩⟩
  have ht : t.val < 144 := t.isLt
  have hb : t.val % 16 ≠ 0 → bat (t.val - 1) = bat t.val := fun h => Fin.ext (by show (t.val - 1) / 16 % 9 = t.val / 16 % 9; omega)
  have hn : t.val % 16 ≠ 0 → (t.val - 1) % 16 + 1 = t.val % 16 := fun h => by omega
  have hI : Ins (inX m c (bat t.val)) (inK m c (bat t.val)) (inV m c (bat t.val)) (inS m c) (blkOf t.val)
      (⟨iblk m c 0 t, iblk m c 1 t, iblk m c 2 t, iblk m c 3 t, Y4, Y5, Y6, Y7, Y8, Y9, Y10, b13, b14, b15, b16, b17, b18, b19⟩ : St F) :=
    ⟨iblk0_eq m c t, iblk1_eq m c t, iblk2_eq m c t, iblk3_eq m c t⟩
  have hU : Upto (inX m c (bat t.val)) (inK m c (bat t.val)) (inV m c (bat t.val)) (blkOf t.val).val
      (⟨iblk m c 0 t, iblk m c 1 t, iblk m c 2 t, iblk m c 3 t, Y4, Y5, Y6, Y7, Y8, Y9, Y10, b13, b14, b15, b16, b17, b18, b19⟩ : St F) := by
    by_cases h0 : t.val % 16 = 0
    · have e : (blkOf t.val).val = 0 := h0
      rw [e]
      exact ⟨fun j hj => absurd hj (Nat.not_lt_zero _), fun j hj => absurd hj (Nat.not_lt_zero _), fun j hj => absurd hj (Nat.not_lt_zero _), fun j hj => absurd hj (Nat.not_lt_zero _), fun j hj => absurd hj (Nat.not_lt_zero _)⟩
    · have k7 : KcUpto (inK m c (bat (t.val - 1))) ((t.val - 1) % 16 + 1) Y7 := finds_7 m c t h0 Y7 h7
      have k8 : KsUpto (inX m c (bat (t.val - 1))) (inK m c (bat (t.val - 1))) ((t.val - 1) % 16 + 1) Y8 := finds_8 m c t h0 Y8 h8
      have k9 : VcUpto (inV m c (bat (t.val - 1))) ((t.val - 1) % 16 + 1) Y9 := finds_9 m c t h0 Y9 h9
      rw [hb h0, hn h0] at k7 k8 k9
      exact ⟨k7, k8, k9, (hs h0).1, (hs h0).2.1⟩
  have hB : (blkOf t.val).val ≠ 0 → Base (inV m c (bat t.val))
      (⟨iblk m c 0 t, iblk m c 1 t, iblk m c 2 t, iblk m c 3 t, Y4, Y5, Y6, Y7, Y8, Y9, Y10, b13, b14, b15, b16, b17, b18, b19⟩ : St F) := fun h0 => by
    have k10 : VsDone (inV m c (bat (t.val - 1))) Y10 := finds_10 m c t h0 Y10 h10
    rw [hb h0] at k10
    exact ⟨k10, (hs h0).2.2.1, (hs h0).2.2.2⟩
  obtain ⟨s', hr, hI', hU', hB', ho, h5', h6'⟩ := point_runs (c := c) (E := Set.univ) (mems_whole t) (grid0.coords t) (blkOf t.val) (coords_one t).symm
    (inX m c (bat t.val)) (inK m c (bat t.val)) (inV m c (bat t.val)) (inS m c) _ hI hU hB
  have e0 : s'.b2 = iblk m c 0 t := hI'.sk.trans (iblk0_eq m c t).symm
  have e1 : s'.b3 = iblk m c 1 t := hI'.x.trans (iblk1_eq m c t).symm
  have e2 : s'.b4 = iblk m c 2 t := hI'.k.trans (iblk2_eq m c t).symm
  have e3 : s'.b5 = iblk m c 3 t := hI'.v.trans (iblk3_eq m c t).symm
  have hs' : Scr m c (t.val + 1) s'.b15 s'.b16 s'.b17 s'.b18 := fun h0 => by
    have e : bat (t.val + 1) = bat t.val := Fin.ext (by show (t.val + 1) / 16 % 9 = t.val / 16 % 9; omega)
    have e' : (t.val + 1) % 16 = t.val % 16 + 1 := by omega
    rw [e, e']
    exact ⟨hU'.ksr, hU'.vt, hB'.vinv, hB'.tri⟩
  iapply (Runs.within hr _)
  isplitl [G0 G1 G2 G3 G4 G5 G6 H0 H1 H2 H3 H4 H5 H6 H7 H8 H9 H10]
  · unfold Own

    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [G0]; · iexact G0
    isplitl [G1]; · iexact G1
    isplitl [G2]; · iexact G2
    isplitl [G3]; · iexact G3
    isplitl [G4]; · iexact G4
    isplitl [G5]; · iexact G5
    iexact G6
  unfold Own
  rw [e0, e1, e2, e3]
  iintro ⟨H0, H1, H2, H3, H4, H5, H6, H7, H8, H9, H10, G0, G1, G2, G3, G4, G5, G6⟩
  isplitl [G0 G1 G2 G3 G4 G5 G6 Hr]
  · isplitl [G0 G1 G2 G3 G4 G5 G6]
    · iexists s'.b13, s'.b14, s'.b15, s'.b16, s'.b17, s'.b18, s'.b19
      isplitr
      · ipureintro; exact hs'
      isplitl [G0]; · iexact G0
      isplitl [G1]; · iexact G1
      isplitl [G2]; · iexact G2
      isplitl [G3]; · iexact G3
      isplitl [G4]; · iexact G4
      isplitl [G5]; · iexact G5
      iexact G6
    · iexact Hr
  isplitl [Ho]; · iexact Ho
  isplitl [H0]; · iexact H0
  isplitl [H1]; · iexact H1
  isplitl [H2]; · iexact H2
  isplitl [H3]; · iexact H3
  isplitl [H4]
  · iexists s'.b6; isplitr
    · ipureintro; exact ho
    · iexact H4
  isplitl [H5]
  · iexists s'.b7; isplitr
    · ipureintro; exact h5'
    · iexact H5
  isplitl [H6]
  · iexists s'.b8; isplitr
    · ipureintro; exact h6'
    · iexact H6
  isplitl [H7]
  · iexists s'.b9; isplitr
    · ipureintro; exact hU'.kc
    · iexact H7
  isplitl [H8]
  · iexists s'.b10; isplitr
    · ipureintro; exact hU'.ks
    · iexact H8
  isplitl [H9]
  · iexists s'.b11; isplitr
    · ipureintro; exact hU'.vc
    · iexact H9
  iexists s'.b12; isplitr
  · ipureintro; exact hB'.vs
  · iexact H10

/-- The body of a point under the definitions. -/
theorem defs₀_row (t : Fin cfg0.N) : defs₀ (F := F) .tc cfg0.body (cfg0.bodyArgs t (cfg0.slots t)) = bodyAt0 t := by
  unfold defs₀; rw [Defs.onTc_tc]

/-- The body obligation at every point. -/
theorem body_obligation (c : Dev nD) : BodyObligationRel (dat (F := F) m c) (defs₀ (F := F)) Variants.none () Set.univ outs (Rl m c) := fun t => by
  rw [bigSep_W0, bigSep_W0, defs₀_row]
  exact triple_restated (sound_body m c t) rfl .rfl fun _ => .rfl

/-! ## The launch -/

/-- What the region holds at its start gives the invariant before the first point. -/
theorem phi_in (c : Dev nD) : Pipeline.ΦA (Val := Elt F) (U := UR sig nD τ) spec0 c ⊢ (rdat m c).Φ 0 := by
  show _ ⊢ Phi m c 0
  unfold Pipeline.ΦA Phi
  rw [scopedRest0_eq]
  iintro ⟨⟨⟨%f0, G0⟩, ⟨%f1, G1⟩, ⟨%f2, G2⟩, ⟨%f3, G3⟩, ⟨%f4, G4⟩, ⟨%f5, G5⟩, ⟨%f6, G6⟩⟩, Hr⟩
  isplitl [G0 G1 G2 G3 G4 G5 G6]
  · iexists f0, f1, f2, f3, f4, f5, f6
    simp only [owns_whole]
    isplitr
    · ipureintro; exact fun h => absurd rfl h
    isplitl [G0]; · iexact G0
    isplitl [G1]; · iexact G1
    isplitl [G2]; · iexact G2
    isplitl [G3]; · iexact G3
    isplitl [G4]; · iexact G4
    isplitl [G5]; · iexact G5
    iexact G6
  · iexact Hr

/-- The invariant after the last point gives back what the region held. -/
theorem phi_out (c : Dev nD) : (rdat m c).Φ (Fin.last cfg0.N) ⊢ Pipeline.ΦA (Val := Elt F) (U := UR sig nD τ) spec0 c := by
  show Phi m c cfg0.N ⊢ _
  unfold Pipeline.ΦA Phi
  rw [scopedRest0_eq]
  simp only [owns_whole]
  iintro ⟨⟨%f0, %f1, %f2, %f3, %f4, %f5, %f6, %_, G0, G1, G2, G3, G4, G5, G6⟩, Hr⟩
  isplitl [G0 G1 G2 G3 G4 G5 G6]
  · isplitl [G0]; · iexists f0; iexact G0
    isplitl [G1]; · iexists f1; iexact G1
    isplitl [G2]; · iexists f2; iexact G2
    isplitl [G3]; · iexists f3; iexact G3
    isplitl [G4]; · iexists f4; iexact G4
    isplitl [G5]; · iexists f5; iexact G5
    iexists f6; iexact G6
  · iexact Hr

set_option backward.isDefEq.respectTransparency.types false in
set_option maxHeartbeats 800000 in
/-- The run: every array as the grid points leave it, every counter at zero. -/
theorem run_main : θ_run defs (onTc (τ := τ) (main (F := F))) (s₀ m ρ) (fun r => RDat.FramePost cfg0 (rdat m) (V m) r ∧ r.2.sem = fun _ => 0) :=
  RDat.θ_run_frame_track cfgs (0 : Fin 1) launch0 defs₀ Variants.none (rdat m) m ρ main
    (hbody := fun c => (body_obligation m c).toRRel) (hshare := fun c w => (dat m c).share_full (fun _ => rfl) w)
    (howed := fun _ _ => rfl) (V := V m) (hmain := hmain m Variants.none) (hA := A_eq m) (hin := phi_in m) (hout := phi_out m)
    (Q' := fun r => RDat.FramePost cfg0 (rdat m) (V m) r ∧ r.2.sem = fun _ => 0) (hQ' := fun _ h => h)

/-- The arguments end as they began, every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => by
    obtain ⟨after, -, hA⟩ := h.1.exists_exact c
    exact ⟨(hA 1).trans ((((rdat m c).withAfter after).arrAt_in 1 rfl _).trans (A_eq m c 1)),
      (hA 2).trans ((((rdat m c).withAfter after).arrAt_in 2 rfl _).trans (A_eq m c 2)),
      (hA 3).trans ((((rdat m c).withAfter after).arrAt_in 3 rfl _).trans (A_eq m c 3)),
      (hA 0).trans ((((rdat m c).withAfter after).arrAt_in 0 rfl _).trans (A_eq m c 0))⟩, h.2⟩) (run_main m ρ)

end Cert.KernelIdeal.Model

end
-- ==== Proof.Printed.Model.lean ====
/- For the kernel as printed: The kernel body as a structured program: the quantisation of one block of rows, and one attention
   head over a list of key tiles, each written once with its offsets as parameters. `Model.body_eq`
   (Proof/ModelEq.lean) says the printed body is this program. -/
module

public import proofs.«01_k».proof.Kernel

@[expose] public section

set_option synthInstance.maxSize 4096

noncomputable section

namespace Cert.Kernel.Model

open Idealize.ShloMosaic Idealize.SL.Sem

variable {F : FTy → Type} [FloatOps F]
variable [Facts]
open Facts₀ Facts

/-! ## The values -/

/-- The exponent field of the scale of a magnitude, in place: the largest `j · 2^23` whose float bound (the float
    with bits `j · 2^23 - 2^21`) is at most the magnitude. -/
def expBits {s s1 s3 : Shape} (ax : Fin s3.rank) (hi : s3.Iotas .tc 32 [ax]) (hc : s.ShapeCasts s1) (hb : s1.Broadcasts s3)
    (hr : s3.Reduces [ax] s) (a : FVec F s .f32) : IVec s 32 :=
  multiReductionI .maxsi [ax] s
    (select (cmpf .olt (broadcastTo s3 (shapeCast s1 a hc) hb)
        (bitcastToFloat .f32 (subi (shli (iota .tc s3 32 [ax] hi) (broadcast s3 23#32)) (broadcast s3 2097152#32))))
      (broadcast s3 0#32) (shli (iota .tc s3 32 [ax] hi) (broadcast s3 23#32)))
    2147483648#32 hr rfl

/-- Whether the exponent is large enough for a scale other than one. -/
def expOk {s : Shape} (e : IVec s 32) : IVec s 1 := cmpi .sge e (broadcast s 83886080#32)

/-- The scale, by its bits. -/
def scaleOf {s : Shape} (e : IVec s 32) : FVec F s .f32 :=
  bitcastToFloat .f32 (select (expOk e) (subi e (broadcast s 67108864#32)) (broadcast s 1065353216#32))

/-- The inverse of the scale, by its bits. -/
def invOf {s : Shape} (e : IVec s 32) : FVec F s .f32 :=
  bitcastToFloat .f32 (select (expOk e) (subi (broadcast s 2197815296#32) e) (broadcast s 1065353216#32))

/-- A clip to the range of the fp8 format. -/
def clip {s : Shape} (x : FVec F s .f32) : FVec F s .f32 :=
  minimumf (broadcast s (Scalar.ofBits .f32 0x43E00000#32)) (maximumf (broadcast s (Scalar.ofBits .f32 0xC3E00000#32)) x)

/-- `expBits` of one column of magnitudes. -/
def expCol (a : FVec F S256x1 .f32) : IVec S256x1 32 :=
  expBits (s1 := S1x256x1) (s3 := S256x256x1) 0 iota_S256x256x1_d0_w32 shapeCasts_S256x1_S1x256x1 broadcasts_S1x256x1_S256x256x1 reduces_S256x256x1_S256x1 a

/-- `expBits` of one row of magnitudes over the lanes of a head. -/
def expLane (a : FVec F S1x128 .f32) : IVec S1x128 32 :=
  expBits (s1 := S1x1x128) (s3 := S256x1x128) 0 iota_S256x1x128_d0_w32 shapeCasts_S1x128_S1x1x128 broadcasts_S1x1x128_S256x1x128 reduces_S256x1x128_S1x128 a

/-- `expBits` of sixteen rows of magnitudes. -/
def expRows (a : FVec F S16x256 .f32) : IVec S16x256 32 :=
  expBits (s1 := S1x16x256) (s3 := S256x16x256) 0 iota_S256x16x256_d0_w32 shapeCasts_S16x256_S1x16x256 broadcasts_S1x16x256_S256x16x256 reduces_S256x16x256_S16x256 a

/-- `expBits` of one row of magnitudes over the queries of a block. -/
def expRow (a : FVec F S1x256 .f32) : IVec S1x256 32 :=
  expBits (s1 := S1x1x256) (s3 := S256x1x256) 0 iota_S256x1x256_d0_w32 shapeCasts_S1x256_S1x1x256 broadcasts_S1x1x256_S256x1x256 reduces_S256x1x256_S1x256 a

/-- The largest magnitude of each row of a block. -/
def amaxCol (x : FVec F S256x128 .f32) : FVec F S256x1 .f32 :=
  shapeCast S256x1 (multiReduction .maximumf [1] S256 (absf x) 0xFF800000#32 reduces_S256x128_S256 (.inl rfl) rfl) shapeCasts_S256_S256x1

/-- The codes of a block of rows before rounding: each row by the inverse of its scale, clipped. -/
def codesOf (x : FVec F S256x128 .f32) : FVec F S256x128 .f32 :=
  clip (mulf x (broadcastTo S256x128 (invOf (expCol (amaxCol x))) broadcasts_S256x1_S256x128))

/-- The scales of a block of rows over every lane. -/
def scaleTile (x : FVec F S256x128 .f32) : FVec F S256x128 .f32 :=
  broadcastTo S256x128 (shapeCast S256x1 (scaleOf (expCol (amaxCol x))) shapeCasts_S256x1_S256x1) broadcasts_S256x1_S256x128

/-- The magnitudes of a block of rows put in lane `n`. -/
def laneSel (n : BitVec 32) (a : FVec F S256x1 .f32) (acc : FVec F S256x128 .f32) : FVec F S256x128 .f32 :=
  select (cmpi .eq (iota .tc S256x128 32 [1] iota_S256x128_d1_w32) (broadcast S256x128 n))
    (broadcastTo S256x128 (shapeCast S256x1 a shapeCasts_S256x1_S256x1) broadcasts_S256x1_S256x128) acc

/-- A block of sixteen-bit rows read as 32-bit floats. -/
def rowsOf (x : Vec F S1x256x128 .bf16) : FVec F S256x128 .f32 :=
  extf .f32 (shapeCast S256x128 x shapeCasts_S1x256x128_S256x128 : FVec F S256x128 .bf16) bitsLt_bf16_f32

/-- The largest magnitude of each lane over every row. -/
def amaxLane (x : Vec F S1x4096x128 .bf16) : FVec F S1x128 .f32 :=
  shapeCast S1x128 (multiReduction .maximumf [0] S128 (absf (extf .f32 (shapeCast S4096x128 x shapeCasts_S1x4096x128_S4096x128 : FVec F S4096x128 .bf16) bitsLt_bf16_f32))
    0xFF800000#32 reduces_S4096x128_S128 (.inl rfl) rfl) shapeCasts_S128_S1x128

/-- The value codes of a block before rounding. -/
def vcodesOf (x : Vec F S1x256x128 .bf16) (vinv : Vec F S1x128 .f32) : FVec F S256x128 .f32 :=
  clip (mulf (rowsOf x) (broadcastTo S256x128 vinv broadcasts_S1x128_S256x128))

/-- One tile of scores: the codes' products times the key scales. -/
def scoreV (kc : Vec F S1x1x256x128 .fp8e4m3) (ks : Vec F S1x1x256x128 .f32) (q : FVec F S256x128 .fp8e4m3) : FVec F S256x256 .f32 :=
  mulf (matmul dot_S256x128_S256x128_S256x256_1_1_0_0_n_n none (shapeCast S256x128 kc shapeCasts_S1x1x256x128_S256x128 : FVec F S256x128 .fp8e4m3) q (constant S256x256 .f32 0x00000000#32))
    (concatenate S256x256 1 [⟨S256x128, shapeCast S256x128 ks shapeCasts_S1x1x256x128_S256x128⟩, ⟨S256x128, shapeCast S256x128 ks shapeCasts_S1x1x256x128_S256x128⟩] concatenates_S256x128_S256x128_S256x256_d1)

/-- The mask of the keys at or before a query within a block. -/
def triMask (tri : Vec F S256x256 .i32) : IVec S256x256 1 := cmpi .ne tri (broadcast S256x256 0#32)

/-- The tile's maxima over groups of 32 rows. -/
def tileMax (t : FVec F S256x256 .f32) : FVec F S8x256 .f32 :=
  multiReduction .maximumf [0] S8x256 (shapeCast S32x8x256 t shapeCasts_S256x256_S32x8x256) 0xFF800000#32 reduces_S32x8x256_S8x256 (.inl rfl) rfl

/-- The tile's sums over groups of 32 rows. -/
def tileSum (t : FVec F S256x256 .f32) : FVec F S8x256 .f32 :=
  multiReduction .add [0] S8x256 (shapeCast S32x8x256 t shapeCasts_S256x256_S32x8x256) 0x00000000#32 reduces_S32x8x256_S8x256 (.inl rfl) rfl

/-- The score maximum of each query, scaled. -/
def uMax (mx : FVec F S8x256 .f32) (c : Vec F S1x256 .f32) : FVec F S1x256 .f32 :=
  mulf (shapeCast S1x256 (multiReduction .maximumf [0] S256 mx 0xFF800000#32 reduces_S8x256_S256 (.inl rfl) rfl) shapeCasts_S256_S1x256) c

/-- The shift of each query's exponent: the maximum of the scaled scores and the sink, plus the exponent of the
    scale of the largest probability. -/
def shiftV (u : FVec F S1x256 .f32) (sink : F .f32) : FVec F S1x256 .f32 :=
  addf (maximumf u (broadcast S1x256 sink))
    (sitofp .f32 (select (expOk (expRow (exp2 (subf u (maximumf u (broadcast S1x256 sink))))))
      (subi (shrui (expRow (exp2 (subf u (maximumf u (broadcast S1x256 sink))))) (broadcast S1x256 23#32)) (broadcast S1x256 135#32))
      (broadcast S1x256 0#32)))

/-- The shifted exponentials of one tile of scores. -/
def probs (t : Vec F S1x1x256x256 .f32) (c : Vec F S1x256 .f32) (shift : FVec F S1x256 .f32) : FVec F S256x256 .f32 :=
  exp2 (subf (mulf (shapeCast S256x256 t shapeCasts_S1x1x256x256_S256x256) (broadcastTo S256x256 c broadcasts_S1x256_S256x256)) (broadcastTo S256x256 shift broadcasts_S1x256_S256x256))

/-- The products of one tile of values with the probability codes, added to what went before. -/
def pvV (vt : Vec F S1x1x128x256 .fp8e4m3) (p : FVec F S256x256 .f32) (acc : FVec F S128x256 .f32) : FVec F S128x256 .f32 :=
  addf acc (matmul dot_S128x256_S256x256_S128x256_1_0_0_1_n_n none (shapeCast S128x256 vt shapeCasts_S1x1x128x256_S128x256 : FVec F S128x256 .fp8e4m3)
    (truncf .fp8e4m3 p bitsLt_fp8e4m3_f32) (constant S128x256 .f32 0x00000000#32))

/-- The attention output of a block of queries from the weighted sums. -/
def outV (acc : FVec F S128x256 .f32) (lsum : FVec F S8x256 .f32) (sink : F .f32) (shift : FVec F S1x256 .f32) (vs : Vec F S1x1x128 .f32) : FVec F S1x256x128 .bf16 :=
  shapeCast S1x256x128 (truncf .bf16 (mulf (transpose S256x128 [1, 0]
      (mulf acc (broadcastTo S128x256 (divf (broadcast S1x256 (Scalar.ofBits .f32 0x3F800000#32))
        (addf (shapeCast S1x256 (multiReduction .add [0] S256 lsum 0x00000000#32 reduces_S8x256_S256 (.inl rfl) rfl) shapeCasts_S256_S1x256)
          (exp2 (subf (broadcast S1x256 sink) shift)))) broadcasts_S1x256_S128x256)) transposes_S128x256_p1_0_S256x128)
      (broadcastTo S256x128 (shapeCast S1x128 vs shapeCasts_S1x1x128_S1x128) broadcasts_S1x128_S256x128)) bitsLt_bf16_f32) shapeCasts_S256x128_S1x256x128

/-! ## One attention head -/

/-- Where one key tile lies in the buffers of codes, key scales and transposed values, and the slot of the score
    buffer it uses. -/
structure Tile where
  kc : Fin 4 → Nat
  hkc : ∀ a, kc a + S1x1x256x128.size a ≤ S1x2x4096x128.size a
  ks : Fin 4 → Nat
  hks : ∀ a, ks a + S1x1x256x128.size a ≤ S2x16x256x128.size a
  vt : Fin 4 → Nat
  hvt : ∀ a, vt a + S1x1x128x256.size a ≤ S2x16x128x256.size a
  sl : Fin 4 → Nat
  hsl : ∀ a, sl a + S1x1x256x256.size a ≤ S2x4x256x256.size a

section
variable (arg9 : Memref sig .tc .vmem S1x2x4096x128 .fp8e4m3) (arg15 : Memref sig .tc .vmem S2x16x256x128 .f32) (arg16 : Memref sig .tc .vmem S2x16x128x256 .fp8e4m3) (arg19 : Memref sig .tc .vmem S2x4x256x256 .f32)

/-- Load one tile's codes and key scales and form its scores. -/
def score (q : FVec F S256x128 .fp8e4m3) (T : Tile) : Prog (TpuEff nD τ sig (Elt F) Λ₀ .tc) (FVec F S256x256 .f32) := do
  let a : Vec F S1x1x256x128 .fp8e4m3 ← Prog.lift (.load arg9 (Rect.unit (s := S1x2x4096x128) (T.kc) S1x1x256x128.size (T.hkc)).toLoadRect (View.loadsAt_vmem h_S1x1x256x128))
  let b : Vec F S1x1x256x128 .f32 ← Prog.lift (.load arg15 (Rect.unit (s := S2x16x256x128) (T.ks) S1x1x256x128.size (T.hks)).toLoadRect (View.loadsAt_vmem h_S1x1x256x128))
  pure (scoreV a b q)

/-- Keep one tile's scores in its slot. -/
def putT (T : Tile) (x : FVec F S256x256 .f32) : Prog (TpuEff nD τ sig (Elt F) Λ₀ .tc) PUnit := do
  let _v : Vec F S1x1x256x256 .f32 ← Prog.lift (.load arg19 (Rect.unit (s := S2x4x256x256) (T.sl) S1x1x256x256.size (T.hsl)).toLoadRect (View.loadsAt_vmem h_S1x1x256x256))
  Prog.lift (.store arg19 (Rect.unit (s := S2x4x256x256) (T.sl) S1x1x256x256.size (T.hsl)) (shapeCast S1x1x256x256 x shapeCasts_S256x256_S1x1x256x256) Finset.univ (View.stores_vmem_bits_univ h_S1x1x256x256 rfl) (.inl rfl))

/-- The first pass: the scores of each full tile, and their running maxima. -/
def pass1 (q : FVec F S256x128 .fp8e4m3) : List Tile → FVec F S8x256 .f32 → Prog (TpuEff nD τ sig (Elt F) Λ₀ .tc) (FVec F S8x256 .f32)
  | [], mx => pure mx
  | T :: Ts, mx => do
    let s ← score arg9 arg15 q T
    putT arg19 T s
    pass1 q Ts (maximumf mx (tileMax s))

/-- Load one tile's values and add its products. -/
def pv (T : Tile) (p : FVec F S256x256 .f32) (acc : FVec F S128x256 .f32) : Prog (TpuEff nD τ sig (Elt F) Λ₀ .tc) (FVec F S128x256 .f32) := do
  let v : Vec F S1x1x128x256 .fp8e4m3 ← Prog.lift (.load arg16 (Rect.unit (s := S2x16x128x256) (T.vt) S1x1x128x256.size (T.hvt)).toLoadRect (View.loadsAt_vmem h_S1x1x128x256))
  pure (pvV v p acc)

/-- Load one tile's scores. -/
def getT (T : Tile) : Prog (TpuEff nD τ sig (Elt F) Λ₀ .tc) (Vec F S1x1x256x256 .f32) := do
  let v : Vec F S1x1x256x256 .f32 ← Prog.lift (.load arg19 (Rect.unit (s := S2x4x256x256) (T.sl) S1x1x256x256.size (T.hsl)).toLoadRect (View.loadsAt_vmem h_S1x1x256x256))
  pure v

/-- The second pass over the full tiles: the sums of probabilities and of the weighted values. -/
def pass2 (c : Vec F S1x256 .f32) (shift : FVec F S1x256 .f32) : List Tile → FVec F S128x256 .f32 → FVec F S8x256 .f32 →
    Prog (TpuEff nD τ sig (Elt F) Λ₀ .tc) (FVec F S128x256 .f32 × FVec F S8x256 .f32)
  | [], acc, l => pure (acc, l)
  | T :: Ts, acc, l => do
    let t ← getT arg19 T
    let acc' ← pv arg16 T (clip (probs t c shift)) acc
    pass2 c shift Ts acc' (addf l (tileSum (probs t c shift)))

/-- The scores left of the diagonal block: those of the oldest tile, or nothing. -/
def leftScore (q : FVec F S256x128 .fp8e4m3) : Option Tile → Prog (TpuEff nD τ sig (Elt F) Λ₀ .tc) (FVec F S256x256 .f32)
  | none => pure (broadcast S256x256 (Scalar.ofBits .f32 0xFF800000#32))
  | some L => score arg9 arg15 q L

/-- The oldest tile's weighted values, the keys after the diagonal of the block. -/
def leftPv (tri : Vec F S256x256 .i32) (p : FVec F S256x256 .f32) (acc : FVec F S128x256 .f32) : Option Tile → Prog (TpuEff nD τ sig (Elt F) Λ₀ .tc) (FVec F S128x256 .f32)
  | none => pure acc
  | some L => pv arg16 L (select (triMask tri) (broadcast S256x256 (Scalar.ofBits .f32 0x00000000#32)) (clip p)) acc
end

/-- Where one head's codes, scale, sink, value scales and output columns lie. -/
structure HeadAt (arg6 : Memref sig .tc .vmem S1x256x1024 .bf16) where
  q : Fin 3 → Nat
  hq : ∀ a, q a + S1x256x128.size a ≤ S8x256x128.size a
  c : Fin 2 → Nat
  hc : ∀ a, c a + S1x256.size a ≤ S8x256.size a
  s : Fin 1 → Nat
  hs : ∀ a, s a + S1.size a ≤ S8.size a
  v : Fin 3 → Nat
  hv : ∀ a, v a + S1x1x128.size a ≤ S1x2x128.size a
  o : Fin 3 → Nat
  ho : ∀ a, o a + S1x256x128.size a ≤ S1x256x1024.size a
  hst : (arg6.access (Rect.unit (s := S1x256x1024) o S1x256x128.size ho)).Stores Finset.univ

section
variable (arg2 : Memref sig .tc .smem S8 .f32) (arg6 : Memref sig .tc .vmem S1x256x1024 .bf16) (arg9 : Memref sig .tc .vmem S1x2x4096x128 .fp8e4m3) (arg12 : Memref sig .tc .vmem S1x2x128 .f32) (arg13 : Memref sig .tc .vmem S8x256x128 .fp8e4m3) (arg14 : Memref sig .tc .vmem S8x256 .f32) (arg15 : Memref sig .tc .vmem S2x16x256x128 .f32) (arg16 : Memref sig .tc .vmem S2x16x128x256 .fp8e4m3) (arg19 : Memref sig .tc .vmem S2x4x256x256 .f32)

/-- One head: the scores of the diagonal tile (joined with the oldest tile where the window cuts it) and of the full
    tiles, the shift, then the weighted sums and the output. -/
def head (L : Option Tile) (T : Tile) (Ts : List Tile) (tri : Vec F S256x256 .i32) (H : HeadAt arg6) : Prog (TpuEff nD τ sig (Elt F) Λ₀ .tc) PUnit := do
  let q0 : Vec F S1x256x128 .fp8e4m3 ← Prog.lift (.load arg13 (Rect.unit (s := S8x256x128) (H.q) S1x256x128.size (H.hq)).toLoadRect (View.loadsAt_vmem h_S1x256x128))
  let l ← leftScore arg9 arg15 (shapeCast S256x128 q0 shapeCasts_S1x256x128_S256x128) L
  let s ← score arg9 arg15 (shapeCast S256x128 q0 shapeCasts_S1x256x128_S256x128) T
  putT arg19 T (select (triMask tri) s l)
  let mx ← pass1 arg9 arg15 arg19 (shapeCast S256x128 q0 shapeCasts_S1x256x128_S256x128) Ts (tileMax (select (triMask tri) s l))
  let c : Vec F S1x256 .f32 ← Prog.lift (.load arg14 (Rect.unit (s := S8x256) (H.c) S1x256.size (H.hc)).toLoadRect (View.loadsAt_vmem h_S1x256))
  let sk : Elt F .f32 ← smemLoad arg2 (Rect.unit (s := S8) (H.s) S1.size (H.hs)) numel1_S1 rfl
  let t ← getT arg19 T
  let acc0 ← leftPv arg16 tri (probs t c (shiftV (uMax mx c) (Scalar.mulf sk (Scalar.ofBits .f32 0x3FB8AA3B#32))))
    (broadcast S128x256 (Scalar.ofBits .f32 0x00000000#32)) L
  let acc1 ← pv arg16 T (select (triMask tri) (clip (probs t c (shiftV (uMax mx c) (Scalar.mulf sk (Scalar.ofBits .f32 0x3FB8AA3B#32)))))
    (broadcast S256x256 (Scalar.ofBits .f32 0x00000000#32))) acc0
  let r ← pass2 arg16 arg19 c (shiftV (uMax mx c) (Scalar.mulf sk (Scalar.ofBits .f32 0x3FB8AA3B#32))) Ts acc1
    (addf (broadcast S8x256 (Scalar.ofBits .f32 0x00000000#32)) (tileSum (probs t c (shiftV (uMax mx c) (Scalar.mulf sk (Scalar.ofBits .f32 0x3FB8AA3B#32))))))
  let vs : Vec F S1x1x128 .f32 ← Prog.lift (.load arg12 (Rect.unit (s := S1x2x128) (H.v) S1x1x128.size (H.hv)).toLoadRect (View.loadsAt_vmem h_S1x1x128))
  let _o : Vec F S1x256x128 .bf16 ← Prog.lift (.load arg6 (Rect.unit (s := S1x256x1024) (H.o) S1x256x128.size (H.ho)).toLoadRect (View.loadsAt_vmem h_S1x256x128))
  Prog.lift (.store arg6 (Rect.unit (s := S1x256x1024) (H.o) S1x256x128.size (H.ho)) (outV r.1 r.2 (Scalar.mulf sk (Scalar.ofBits .f32 0x3FB8AA3B#32)) (shiftV (uMax mx c) (Scalar.mulf sk (Scalar.ofBits .f32 0x3FB8AA3B#32))) vs) Finset.univ (H.hst) (.inl rfl))

/-- The heads of a block, one after the other. -/
def heads (tri : Vec F S256x256 .i32) : List (HeadAt arg6 × Option Tile × Tile × List Tile) → Prog (TpuEff nD τ sig (Elt F) Λ₀ .tc) PUnit
  | [] => pure ⟨⟩
  | x :: xs => do
    head arg2 arg6 arg9 arg12 arg13 arg14 arg15 arg16 arg19 x.2.1 x.2.2.1 x.2.2.2 tri x.1
    heads tri xs

/-- The attention of a block. -/
def attend (arg18 : Memref sig .tc .vmem S256x256 .i32) (xs : List (HeadAt arg6 × Option Tile × Tile × List Tile)) : Prog (TpuEff nD τ sig (Elt F) Λ₀ .tc) PUnit := do
  let tri : Vec F S256x256 .i32 ← Prog.lift (.load arg18 (Rect.unit (s := S256x256) (![0, 0]) S256x256.size (inb_S256x256_S256x256_0_0)).toLoadRect (View.loadsAt_vmem h_S256x256))
  heads arg2 arg6 arg9 arg12 arg13 arg14 arg15 arg16 arg19 tri xs
end

/-! ## The quantisation of a block -/

/-- Where one key head's rows of a block lie. -/
structure KvAt (arg9 arg11 : Memref sig .tc .vmem S1x2x4096x128 .fp8e4m3) (arg16 : Memref sig .tc .vmem S2x16x128x256 .fp8e4m3) where
  n : BitVec 32
  x : Fin 3 → Nat
  hx : ∀ a, x a + S1x256x128.size a ≤ S1x4096x256.size a
  kc : Fin 4 → Nat
  hkc : ∀ a, kc a + S1x1x256x128.size a ≤ S1x2x4096x128.size a
  ks : Fin 4 → Nat
  hks : ∀ a, ks a + S1x1x256x128.size a ≤ S2x16x256x128.size a
  vt : Fin 4 → Nat
  hvt : ∀ a, vt a + S1x1x128x256.size a ≤ S2x16x128x256.size a
  vi : Fin 2 → Nat
  hvi : ∀ a, vi a + S1x128.size a ≤ S2x128.size a
  st9 : (arg9.access (Rect.unit (s := S1x2x4096x128) kc S1x1x256x128.size hkc)).Stores Finset.univ
  st11 : (arg11.access (Rect.unit (s := S1x2x4096x128) kc S1x1x256x128.size hkc)).Stores Finset.univ
  st16 : (arg16.access (Rect.unit (s := S2x16x128x256) vt S1x1x128x256.size hvt)).Stores Finset.univ

/-- Where one head's query rows of a block lie. -/
structure QAt (arg13 : Memref sig .tc .vmem S8x256x128 .fp8e4m3) where
  n : BitVec 32
  x : Fin 3 → Nat
  hx : ∀ a, x a + S1x256x128.size a ≤ S1x256x1024.size a
  q : Fin 3 → Nat
  hq : ∀ a, q a + S1x256x128.size a ≤ S8x256x128.size a
  st : (arg13.access (Rect.unit (s := S8x256x128) q S1x256x128.size hq)).Stores Finset.univ

/-- Where one key head's value scales lie. -/
structure VAt where
  x : Fin 3 → Nat
  hx : ∀ a, x a + S1x4096x128.size a ≤ S1x4096x256.size a
  vs : Fin 3 → Nat
  hvs : ∀ a, vs a + S1x1x128.size a ≤ S1x2x128.size a
  vi : Fin 2 → Nat
  hvi : ∀ a, vi a + S1x128.size a ≤ S2x128.size a

/-- One key head's rows: the key codes and scales, and the value codes, kept also transposed. -/
def kvStep (arg4 : Memref sig .tc .vmem S1x4096x256 .bf16) (arg5 : Memref sig .tc .vmem S1x4096x256 .bf16) (arg9 : Memref sig .tc .vmem S1x2x4096x128 .fp8e4m3) (arg11 : Memref sig .tc .vmem S1x2x4096x128 .fp8e4m3) (arg15 : Memref sig .tc .vmem S2x16x256x128 .f32) (arg16 : Memref sig .tc .vmem S2x16x128x256 .fp8e4m3) (arg17 : Memref sig .tc .vmem S2x128 .f32) (K : KvAt arg9 arg11 arg16) (acc : FVec F S256x128 .f32) : Prog (TpuEff nD τ sig (Elt F) Λ₀ .tc) (FVec F S256x128 .f32) := do
  let x : Vec F S1x256x128 .bf16 ← Prog.lift (.load arg4 (Rect.unit (s := S1x4096x256) (K.x) S1x256x128.size (K.hx)).toLoadRect (View.loadsAt_vmem h_S1x256x128))
  let _a : Vec F S1x1x256x128 .fp8e4m3 ← Prog.lift (.load arg9 (Rect.unit (s := S1x2x4096x128) (K.kc) S1x1x256x128.size (K.hkc)).toLoadRect (View.loadsAt_vmem h_S1x1x256x128))
  Prog.lift (.store arg9 (Rect.unit (s := S1x2x4096x128) (K.kc) S1x1x256x128.size (K.hkc)) (shapeCast S1x1x256x128 (truncf .fp8e4m3 (codesOf (rowsOf x)) bitsLt_fp8e4m3_f32 : FVec F S256x128 .fp8e4m3) shapeCasts_S256x128_S1x1x256x128) Finset.univ (K.st9) (.inl rfl))
  let _b : Vec F S1x1x256x128 .f32 ← Prog.lift (.load arg15 (Rect.unit (s := S2x16x256x128) (K.ks) S1x1x256x128.size (K.hks)).toLoadRect (View.loadsAt_vmem h_S1x1x256x128))
  Prog.lift (.store arg15 (Rect.unit (s := S2x16x256x128) (K.ks) S1x1x256x128.size (K.hks)) (shapeCast S1x1x256x128 (scaleTile (rowsOf x)) shapeCasts_S256x128_S1x1x256x128) Finset.univ (View.stores_vmem_bits_univ h_S1x1x256x128 rfl) (.inl rfl))
  let v : Vec F S1x256x128 .bf16 ← Prog.lift (.load arg5 (Rect.unit (s := S1x4096x256) (K.x) S1x256x128.size (K.hx)).toLoadRect (View.loadsAt_vmem h_S1x256x128))
  let vi : Vec F S1x128 .f32 ← Prog.lift (.load arg17 (Rect.unit (s := S2x128) (K.vi) S1x128.size (K.hvi)).toLoadRect (View.loadsAt_vmem h_S1x128))
  let _c : Vec F S1x1x256x128 .fp8e4m3 ← Prog.lift (.load arg11 (Rect.unit (s := S1x2x4096x128) (K.kc) S1x1x256x128.size (K.hkc)).toLoadRect (View.loadsAt_vmem h_S1x1x256x128))
  Prog.lift (.store arg11 (Rect.unit (s := S1x2x4096x128) (K.kc) S1x1x256x128.size (K.hkc)) (shapeCast S1x1x256x128 (truncf .fp8e4m3 (vcodesOf v vi) bitsLt_fp8e4m3_f32 : FVec F S256x128 .fp8e4m3) shapeCasts_S256x128_S1x1x256x128) Finset.univ (K.st11) (.inl rfl))
  let _d : Vec F S1x1x128x256 .fp8e4m3 ← Prog.lift (.load arg16 (Rect.unit (s := S2x16x128x256) (K.vt) S1x1x128x256.size (K.hvt)).toLoadRect (View.loadsAt_vmem h_S1x1x128x256))
  Prog.lift (.store arg16 (Rect.unit (s := S2x16x128x256) (K.vt) S1x1x128x256.size (K.hvt)) (shapeCast S1x1x128x256 (truncf .fp8e4m3 (transpose S128x256 [1, 0] (vcodesOf v vi) transposes_S256x128_p1_0_S128x256) bitsLt_fp8e4m3_f32 : FVec F S128x256 .fp8e4m3) shapeCasts_S128x256_S1x1x128x256) Finset.univ (K.st16) (.inl rfl))
  pure (laneSel K.n (amaxCol (rowsOf x)) acc)

/-- One head's query rows: their codes. -/
def qStep (arg3 : Memref sig .tc .vmem S1x256x1024 .bf16) (arg13 : Memref sig .tc .vmem S8x256x128 .fp8e4m3) (Q : QAt arg13) (acc : FVec F S256x128 .f32) : Prog (TpuEff nD τ sig (Elt F) Λ₀ .tc) (FVec F S256x128 .f32) := do
  let x : Vec F S1x256x128 .bf16 ← Prog.lift (.load arg3 (Rect.unit (s := S1x256x1024) (Q.x) S1x256x128.size (Q.hx)).toLoadRect (View.loadsAt_vmem h_S1x256x128))
  let _a : Vec F S1x256x128 .fp8e4m3 ← Prog.lift (.load arg13 (Rect.unit (s := S8x256x128) (Q.q) S1x256x128.size (Q.hq)).toLoadRect (View.loadsAt_vmem h_S1x256x128))
  Prog.lift (.store arg13 (Rect.unit (s := S8x256x128) (Q.q) S1x256x128.size (Q.hq)) (shapeCast S1x256x128 (truncf .fp8e4m3 (codesOf (rowsOf x)) bitsLt_fp8e4m3_f32 : FVec F S256x128 .fp8e4m3) shapeCasts_S256x128_S1x256x128) Finset.univ (Q.st) (.inl rfl))
  pure (laneSel Q.n (amaxCol (rowsOf x)) acc)

/-- The query rows of every head. -/
def qSteps (arg3 : Memref sig .tc .vmem S1x256x1024 .bf16) (arg13 : Memref sig .tc .vmem S8x256x128 .fp8e4m3) : List (QAt arg13) → FVec F S256x128 .f32 → Prog (TpuEff nD τ sig (Elt F) Λ₀ .tc) (FVec F S256x128 .f32)
  | [], acc => pure acc
  | Q :: Qs, acc => do
    let acc' ← qStep arg3 arg13 Q acc
    qSteps arg3 arg13 Qs acc'

/-- One key head's value scales and their inverses. -/
def vStep (arg5 : Memref sig .tc .vmem S1x4096x256 .bf16) (arg12 : Memref sig .tc .vmem S1x2x128 .f32) (arg17 : Memref sig .tc .vmem S2x128 .f32) (V : VAt) : Prog (TpuEff nD τ sig (Elt F) Λ₀ .tc) PUnit := do
  let x : Vec F S1x4096x128 .bf16 ← Prog.lift (.load arg5 (Rect.unit (s := S1x4096x256) (V.x) S1x4096x128.size (V.hx)).toLoadRect (View.loadsAt_vmem h_S1x4096x128))
  let _a : Vec F S1x1x128 .f32 ← Prog.lift (.load arg12 (Rect.unit (s := S1x2x128) (V.vs) S1x1x128.size (V.hvs)).toLoadRect (View.loadsAt_vmem h_S1x1x128))
  Prog.lift (.store arg12 (Rect.unit (s := S1x2x128) (V.vs) S1x1x128.size (V.hvs)) (shapeCast S1x1x128 (scaleOf (expLane (amaxLane x))) shapeCasts_S1x128_S1x1x128) Finset.univ (View.stores_vmem_bits_univ h_S1x1x128 rfl) (.inl rfl))
  let _b : Vec F S1x128 .f32 ← Prog.lift (.load arg17 (Rect.unit (s := S2x128) (V.vi) S1x128.size (V.hvi)).toLoadRect (View.loadsAt_vmem h_S1x128))
  Prog.lift (.store arg17 (Rect.unit (s := S2x128) (V.vi) S1x128.size (V.hvi)) (shapeCast S1x128 (invOf (expLane (amaxLane x))) shapeCasts_S1x128_S1x128) Finset.univ (View.stores_vmem_bits_univ h_S1x128 rfl) (.inl rfl))

/-- The mask of a block's diagonal. -/
def triV : IVec S256x256 32 :=
  select (cmpi .sle (iota .tc S256x256 32 [0] iota_S256x256_d0_w32) (iota .tc S256x256 32 [1] iota_S256x256_d1_w32)) (broadcast S256x256 4294967295#32) (broadcast S256x256 0#32)

/-- What the first block of a batch does: the value scales, and the mask. -/
def init (arg5 : Memref sig .tc .vmem S1x4096x256 .bf16) (arg12 : Memref sig .tc .vmem S1x2x128 .f32) (arg17 : Memref sig .tc .vmem S2x128 .f32) (arg18 : Memref sig .tc .vmem S256x256 .i32) (V0 V1 : VAt) : Prog (TpuEff nD τ sig (Elt F) Λ₀ .tc) PUnit := do
  vStep arg5 arg12 arg17 V0
  vStep arg5 arg12 arg17 V1
  let _t : Vec F S256x256 .i32 ← Prog.lift (.load arg18 (Rect.unit (s := S256x256) (![0, 0]) S256x256.size (inb_S256x256_S256x256_0_0)).toLoadRect (View.loadsAt_vmem h_S256x256))
  Prog.lift (.store arg18 (Rect.unit (s := S256x256) (![0, 0]) S256x256.size (inb_S256x256_S256x256_0_0)) ((shapeCast S256x256 triV shapeCasts_S256x256_S256x256 : IVec S256x256 32)) Finset.univ (View.stores_vmem_bits_univ h_S256x256 rfl) (.inl rfl))

/-- The scales of a block's rows: of the query heads, then of the key heads. -/
def scales (acc : FVec F S256x128 .f32) : FVec F S16x256 .f32 :=
  scaleOf (expRows (extractStridedSlice S16x256 ![0, 0] (transpose S128x256 [1, 0] acc transposes_S256x128_p1_0_S128x256) slices_S128x256_o0_0_S16x256))

/-- Keep the scales. -/
def putScales (arg8 : Memref sig .tc .vmem S1x8x256 .f32) (arg10 : Memref sig .tc .vmem S1x2x4096 .f32) (arg14 : Memref sig .tc .vmem S8x256 .f32) (o : Fin 3 → Nat) (ho : ∀ a, o a + S1x2x256.size a ≤ S1x2x4096.size a) (sc : FVec F S16x256 .f32) : Prog (TpuEff nD τ sig (Elt F) Λ₀ .tc) PUnit := do
  let _a : Vec F S1x8x256 .f32 ← Prog.lift (.load arg8 (Rect.unit (s := S1x8x256) (![0, 0, 0]) S1x8x256.size (inb_S1x8x256_S1x8x256_0_0_0)).toLoadRect (View.loadsAt_vmem h_S1x8x256))
  Prog.lift (.store arg8 (Rect.unit (s := S1x8x256) (![0, 0, 0]) S1x8x256.size (inb_S1x8x256_S1x8x256_0_0_0)) (shapeCast S1x8x256 (extractStridedSlice S8x256 ![0, 0] sc slices_S16x256_o0_0_S8x256) shapeCasts_S8x256_S1x8x256) Finset.univ (View.stores_vmem_bits_univ h_S1x8x256 rfl) (.inl rfl))
  let _b : Vec F S1x2x256 .f32 ← Prog.lift (.load arg10 (Rect.unit (s := S1x2x4096) (o) S1x2x256.size (ho)).toLoadRect (View.loadsAt_vmem h_S1x2x256))
  Prog.lift (.store arg10 (Rect.unit (s := S1x2x4096) (o) S1x2x256.size (ho)) (shapeCast S1x2x256 (extractStridedSlice S2x256 ![8, 0] sc slices_S16x256_o8_0_S2x256) shapeCasts_S2x256_S1x2x256) Finset.univ (View.stores_vmem_bits_univ h_S1x2x256 rfl) (.inl rfl))
  let _c : Vec F S8x256 .f32 ← Prog.lift (.load arg14 (Rect.unit (s := S8x256) (![0, 0]) S8x256.size (inb_S8x256_S8x256_0_0)).toLoadRect (View.loadsAt_vmem h_S8x256))
  Prog.lift (.store arg14 (Rect.unit (s := S8x256) (![0, 0]) S8x256.size (inb_S8x256_S8x256_0_0)) (shapeCast S8x256 (mulf (extractStridedSlice S8x256 ![0, 0] sc slices_S16x256_o0_0_S8x256) (broadcast S8x256 (Scalar.ofBits .f32 0x3E0293EE#32))) shapeCasts_S8x256_S8x256) Finset.univ (View.stores_vmem_bits_univ h_S8x256 rfl) (.inl rfl))

/-- One head's codes as a column of the interleaved block. -/
def qCol (x : Vec F S1x256x128 .fp8e4m3) : FVec F S256x1x128 .fp8e4m3 :=
  shapeCast S256x1x128 (shapeCast S256x128 x shapeCasts_S1x256x128_S256x128 : FVec F S256x128 .fp8e4m3) shapeCasts_S256x128_S256x1x128

/-- Interleave the heads' codes. -/
def putCodes (arg7 : Memref sig .tc .vmem S1x256x8x128 .fp8e4m3) (arg13 : Memref sig .tc .vmem S8x256x128 .fp8e4m3) (hst : (arg7.access (Rect.unit (s := S1x256x8x128) ![0, 0, 0, 0] S1x256x8x128.size inb_S1x256x8x128_S1x256x8x128_0_0_0_0)).Stores Finset.univ) : Prog (TpuEff nD τ sig (Elt F) Λ₀ .tc) PUnit := do
  let x0 : Vec F S1x256x128 .fp8e4m3 ← Prog.lift (.load arg13 (Rect.unit (s := S8x256x128) (![0, 0, 0]) S1x256x128.size (inb_S8x256x128_S1x256x128_0_0_0)).toLoadRect (View.loadsAt_vmem h_S1x256x128))
  let x1 : Vec F S1x256x128 .fp8e4m3 ← Prog.lift (.load arg13 (Rect.unit (s := S8x256x128) (![1, 0, 0]) S1x256x128.size (inb_S8x256x128_S1x256x128_1_0_0)).toLoadRect (View.loadsAt_vmem h_S1x256x128))
  let x2 : Vec F S1x256x128 .fp8e4m3 ← Prog.lift (.load arg13 (Rect.unit (s := S8x256x128) (![2, 0, 0]) S1x256x128.size (inb_S8x256x128_S1x256x128_2_0_0)).toLoadRect (View.loadsAt_vmem h_S1x256x128))
  let x3 : Vec F S1x256x128 .fp8e4m3 ← Prog.lift (.load arg13 (Rect.unit (s := S8x256x128) (![3, 0, 0]) S1x256x128.size (inb_S8x256x128_S1x256x128_3_0_0)).toLoadRect (View.loadsAt_vmem h_S1x256x128))
  let x4 : Vec F S1x256x128 .fp8e4m3 ← Prog.lift (.load arg13 (Rect.unit (s := S8x256x128) (![4, 0, 0]) S1x256x128.size (inb_S8x256x128_S1x256x128_4_0_0)).toLoadRect (View.loadsAt_vmem h_S1x256x128))
  let x5 : Vec F S1x256x128 .fp8e4m3 ← Prog.lift (.load arg13 (Rect.unit (s := S8x256x128) (![5, 0, 0]) S1x256x128.size (inb_S8x256x128_S1x256x128_5_0_0)).toLoadRect (View.loadsAt_vmem h_S1x256x128))
  let x6 : Vec F S1x256x128 .fp8e4m3 ← Prog.lift (.load arg13 (Rect.unit (s := S8x256x128) (![6, 0, 0]) S1x256x128.size (inb_S8x256x128_S1x256x128_6_0_0)).toLoadRect (View.loadsAt_vmem h_S1x256x128))
  let x7 : Vec F S1x256x128 .fp8e4m3 ← Prog.lift (.load arg13 (Rect.unit (s := S8x256x128) (![7, 0, 0]) S1x256x128.size (inb_S8x256x128_S1x256x128_7_0_0)).toLoadRect (View.loadsAt_vmem h_S1x256x128))
  let _a : Vec F S1x256x8x128 .fp8e4m3 ← Prog.lift (.load arg7 (Rect.unit (s := S1x256x8x128) (![0, 0, 0, 0]) S1x256x8x128.size (inb_S1x256x8x128_S1x256x8x128_0_0_0_0)).toLoadRect (View.loadsAt_vmem h_S1x256x8x128))
  Prog.lift (.store arg7 (Rect.unit (s := S1x256x8x128) (![0, 0, 0, 0]) S1x256x8x128.size (inb_S1x256x8x128_S1x256x8x128_0_0_0_0)) (shapeCast S1x256x8x128 (concatenate S256x8x128 1 [⟨S256x1x128, qCol x0⟩, ⟨S256x1x128, qCol x1⟩, ⟨S256x1x128, qCol x2⟩, ⟨S256x1x128, qCol x3⟩, ⟨S256x1x128, qCol x4⟩, ⟨S256x1x128, qCol x5⟩, ⟨S256x1x128, qCol x6⟩, ⟨S256x1x128, qCol x7⟩] concatenates_S256x1x128_S256x1x128_S256x1x128_S256x1x128_S256x1x128_S256x1x128_S256x1x128_S256x1x128_S256x8x128_d1) shapeCasts_S256x8x128_S1x256x8x128) Finset.univ (hst) (.inl rfl))

/-- The quantisation of a block, after the first block's own work. -/
def prep (arg3 : Memref sig .tc .vmem S1x256x1024 .bf16) (arg4 : Memref sig .tc .vmem S1x4096x256 .bf16) (arg5 : Memref sig .tc .vmem S1x4096x256 .bf16) (arg7 : Memref sig .tc .vmem S1x256x8x128 .fp8e4m3) (arg8 : Memref sig .tc .vmem S1x8x256 .f32) (arg9 : Memref sig .tc .vmem S1x2x4096x128 .fp8e4m3) (arg10 : Memref sig .tc .vmem S1x2x4096 .f32) (arg11 : Memref sig .tc .vmem S1x2x4096x128 .fp8e4m3) (arg13 : Memref sig .tc .vmem S8x256x128 .fp8e4m3) (arg14 : Memref sig .tc .vmem S8x256 .f32) (arg15 : Memref sig .tc .vmem S2x16x256x128 .f32) (arg16 : Memref sig .tc .vmem S2x16x128x256 .fp8e4m3) (arg17 : Memref sig .tc .vmem S2x128 .f32)
    (K0 K1 : KvAt arg9 arg11 arg16) (Qs : List (QAt arg13)) (o : Fin 3 → Nat) (ho : ∀ a, o a + S1x2x256.size a ≤ S1x2x4096.size a)
    (hst : (arg7.access (Rect.unit (s := S1x256x8x128) ![0, 0, 0, 0] S1x256x8x128.size inb_S1x256x8x128_S1x256x8x128_0_0_0_0)).Stores Finset.univ) : Prog (TpuEff nD τ sig (Elt F) Λ₀ .tc) PUnit := do
  let a0 ← kvStep arg4 arg5 arg9 arg11 arg15 arg16 arg17 K0 (broadcast S256x128 (Scalar.ofBits .f32 0x00000000#32))
  let a1 ← kvStep arg4 arg5 arg9 arg11 arg15 arg16 arg17 K1 a0
  let a2 ← qSteps arg3 arg13 Qs a1
  putScales arg8 arg10 arg14 o ho (scales a2)
  putCodes arg7 arg13 hst

end Cert.Kernel.Model

end
-- ==== Proof.Printed.Body.lean ====
/- For the kernel as printed: The offsets of the kernel body's pieces at a grid point, and the body of each of the five kinds of block (the
   first four of a batch, and the later ones) as the structured program of Proof/Model.lean. -/
module

public import proofs.«01_k».proof.Proof.Printed.Model

@[expose] public section

set_option synthInstance.maxSize 4096

noncomputable section

namespace Cert.Kernel.Model

open Idealize.ShloMosaic Idealize.SL.Sem

variable {F : FTy → Type} [FloatOps F]
variable [Facts]
open Facts₀ Facts

/-- The slot of a head's scores: heads alternate between two halves. -/
def slot (p : Fin 2) (k : Fin 4) : Fin 4 → Nat := ![p.val, k.val, 0, 0]

/-- A tile of the kept scores lies in its buffer. -/
theorem slot_inb (p : Fin 2) (k : Fin 4) : ∀ a, slot p k a + S1x1x256x256.size a ≤ S2x4x256x256.size a := by
  revert p k; decide

/-- A head's columns lie in the block. -/
theorem hd_inb (h : Fin 8) : ∀ a, (![0, 0, 128 * h.val] : Fin 3 → Nat) a + S1x256x128.size a ≤ S1x256x1024.size a := by
  revert h; decide

/-- A head's query codes lie in their buffer. -/
theorem qat_inb (h : Fin 8) : ∀ a, (![h.val, 0, 0] : Fin 3 → Nat) a + S1x256x128.size a ≤ S8x256x128.size a := by
  revert h; decide

/-- A head's columns of the output fill whole words. -/
theorem hd_packed : ∀ h : Fin 8, (Rect.unit (s := S1x256x1024) ![0, 0, 128 * h.val] S1x256x128.size (hd_inb h)).PackedRows (EltTy.packing .bf16)
  | 0 => packedbf16_S1x256x1024_S1x256x128_0_0_0
  | 1 => packedbf16_S1x256x1024_S1x256x128_0_0_128
  | 2 => packedbf16_S1x256x1024_S1x256x128_0_0_256
  | 3 => packedbf16_S1x256x1024_S1x256x128_0_0_384
  | 4 => packedbf16_S1x256x1024_S1x256x128_0_0_512
  | 5 => packedbf16_S1x256x1024_S1x256x128_0_0_640
  | 6 => packedbf16_S1x256x1024_S1x256x128_0_0_768
  | 7 => packedbf16_S1x256x1024_S1x256x128_0_0_896

/-- A head's query codes fill whole words. -/
theorem qat_packed : ∀ h : Fin 8, (Rect.unit (s := S8x256x128) ![h.val, 0, 0] S1x256x128.size (qat_inb h)).PackedRows (EltTy.packing .fp8e4m3)
  | 0 => packedfp8e4m3_S8x256x128_S1x256x128_0_0_0
  | 1 => packedfp8e4m3_S8x256x128_S1x256x128_1_0_0
  | 2 => packedfp8e4m3_S8x256x128_S1x256x128_2_0_0
  | 3 => packedfp8e4m3_S8x256x128_S1x256x128_3_0_0
  | 4 => packedfp8e4m3_S8x256x128_S1x256x128_4_0_0
  | 5 => packedfp8e4m3_S8x256x128_S1x256x128_5_0_0
  | 6 => packedfp8e4m3_S8x256x128_S1x256x128_6_0_0
  | 7 => packedfp8e4m3_S8x256x128_S1x256x128_7_0_0

/-- The half of the score buffer a head uses. -/
def par (h : Fin 8) : Fin 2 := ⟨h.val % 2, Nat.mod_lt _ (by decide)⟩

/-- Where a head's pieces lie. -/
def hd (arg6 : Memref sig .tc .vmem S1x256x1024 .bf16) (harg6 : arg6.IsWhole) (h : Fin 8) : HeadAt arg6 where
  q := ![h.val, 0, 0]
  hq := by revert h; decide
  c := ![h.val, 0]
  hc := by revert h; decide
  s := ![h.val]
  hs := by revert h; decide
  v := ![0, h.val / 4, 0]
  hv := by revert h; decide
  o := ![0, 0, 128 * h.val]
  ho := hd_inb h
  hst := View.stores_vmem h_S1x256x128 (harg6.storeExact_slice rfl _ (hd_packed h)) (fun _ => rfl)

/-- Where a head's query rows lie. -/
def qat (arg13 : Memref sig .tc .vmem S8x256x128 .fp8e4m3) (harg13 : arg13.IsWhole) (h : Fin 8) : QAt arg13 where
  n := BitVec.ofNat 32 h.val
  x := ![0, 0, 128 * h.val]
  hx := by revert h; decide
  q := ![h.val, 0, 0]
  hq := qat_inb h
  st := View.stores_vmem h_S1x256x128 (harg13.storeExact_slice rfl _ (qat_packed h)) (fun _ => rfl)

/-- Where a key head's value scales lie. -/
def vat (g : Fin 2) : VAt where
  x := ![0, 0, 128 * g.val]
  hx := by revert g; decide
  vs := ![0, g.val, 0]
  hvs := by revert g; decide
  vi := ![g.val, 0]
  hvi := by revert g; decide

/-- Where the rows of key head 0 of a block lie. -/
def kvat0 (arg9 : Memref sig .tc .vmem S1x2x4096x128 .fp8e4m3) (harg9 : arg9.IsWhole) (arg11 : Memref sig .tc .vmem S1x2x4096x128 .fp8e4m3) (harg11 : arg11.IsWhole)
    (arg16 : Memref sig .tc .vmem S2x16x128x256 .fp8e4m3) (harg16 : arg16.IsWhole) (i : grid0.Coords) : KvAt arg9 arg11 arg16 where
  n := 8#32
  x := k0_off1 i
  hx := k0_off1_inb i
  kc := k0_off2 i
  hkc := k0_off2_inb i
  ks := k0_off3 i
  hks := k0_off3_inb i
  vt := k0_off4 i
  hvt := k0_off4_inb i
  vi := ![0, 0]
  hvi := inb_S2x128_S1x128_0_0
  st9 := View.stores_vmem h_S1x1x256x128 (harg9.storeExact_slice rfl _ (k0_off2_packedfp8e4m3 i)) (fun _ => rfl)
  st11 := View.stores_vmem h_S1x1x256x128 (harg11.storeExact_slice rfl _ (k0_off2_packedfp8e4m3 i)) (fun _ => rfl)
  st16 := View.stores_vmem h_S1x1x128x256 (harg16.storeExact_slice rfl _ (k0_off4_packedfp8e4m3 i)) (fun _ => rfl)

/-- Where the rows of key head 1 of a block lie. -/
def kvat1 (arg9 : Memref sig .tc .vmem S1x2x4096x128 .fp8e4m3) (harg9 : arg9.IsWhole) (arg11 : Memref sig .tc .vmem S1x2x4096x128 .fp8e4m3) (harg11 : arg11.IsWhole)
    (arg16 : Memref sig .tc .vmem S2x16x128x256 .fp8e4m3) (harg16 : arg16.IsWhole) (i : grid0.Coords) : KvAt arg9 arg11 arg16 where
  n := 9#32
  x := k0_off5 i
  hx := k0_off5_inb i
  kc := k0_off6 i
  hkc := k0_off6_inb i
  ks := k0_off7 i
  hks := k0_off7_inb i
  vt := k0_off8 i
  hvt := k0_off8_inb i
  vi := ![1, 0]
  hvi := inb_S2x128_S1x128_1_0
  st9 := View.stores_vmem h_S1x1x256x128 (harg9.storeExact_slice rfl _ (k0_off6_packedfp8e4m3 i)) (fun _ => rfl)
  st11 := View.stores_vmem h_S1x1x256x128 (harg11.storeExact_slice rfl _ (k0_off6_packedfp8e4m3 i)) (fun _ => rfl)
  st16 := View.stores_vmem h_S1x1x128x256 (harg16.storeExact_slice rfl _ (k0_off8_packedfp8e4m3 i)) (fun _ => rfl)

/-- The tile of key head 0 at the first block: its own. -/
def tile0_0 (i : grid0.Coords) (h : k0_cond2 i = 1#1) (p : Fin 2) (k : Fin 4) : Tile :=
  ⟨k0_off10 i, k0_off10_inb i h, k0_off11 i, k0_off11_inb i h, k0_off12 i, k0_off12_inb i h, slot p k, slot_inb p k⟩

/-- The tile of key head 1 at the first block: its own. -/
def tile0_1 (i : grid0.Coords) (h : k0_cond2 i = 1#1) (p : Fin 2) (k : Fin 4) : Tile :=
  ⟨k0_off13 i, k0_off13_inb i h, k0_off14 i, k0_off14_inb i h, k0_off15 i, k0_off15_inb i h, slot p k, slot_inb p k⟩

/-- The heads and their tiles at block 0 of a batch. -/
def heads0 (arg6 : Memref sig .tc .vmem S1x256x1024 .bf16) (harg6 : arg6.IsWhole) (i : grid0.Coords) (h : k0_cond2 i = 1#1) :
    List (HeadAt arg6 × Option Tile × Tile × List Tile) :=
  (([0, 1, 2, 3] : List (Fin 8)).map fun x => (hd arg6 harg6 x, none, tile0_0 i h (par x) 0, [])) ++
  (([4, 5, 6, 7] : List (Fin 8)).map fun x => (hd arg6 harg6 x, none, tile0_1 i h (par x) 0, []))

/-- The tile of key head 0 that lies `r` blocks back, at block 1. -/
def tile1_0 (i : grid0.Coords) (h : k0_cond3 i = 1#1) (p : Fin 2) (k : Fin 4) (r : Fin 2) : Tile :=
  ⟨k0_off16 i (BitVec.ofNat 32 r.val), k0_off16_inb i h r, k0_off17 i (BitVec.ofNat 32 r.val), k0_off17_inb i h r, k0_off18 i (BitVec.ofNat 32 r.val), k0_off18_inb i h r, slot p k, slot_inb p k⟩

/-- The tile of key head 1 that lies `r` blocks back, at block 1. -/
def tile1_1 (i : grid0.Coords) (h : k0_cond3 i = 1#1) (p : Fin 2) (k : Fin 4) (r : Fin 2) : Tile :=
  ⟨k0_off19 i (BitVec.ofNat 32 r.val), k0_off19_inb i h r, k0_off20 i (BitVec.ofNat 32 r.val), k0_off20_inb i h r, k0_off21 i (BitVec.ofNat 32 r.val), k0_off21_inb i h r, slot p k, slot_inb p k⟩

/-- The heads and their tiles at block 1 of a batch. -/
def heads1 (arg6 : Memref sig .tc .vmem S1x256x1024 .bf16) (harg6 : arg6.IsWhole) (i : grid0.Coords) (h : k0_cond3 i = 1#1) :
    List (HeadAt arg6 × Option Tile × Tile × List Tile) :=
  (([0, 1, 2, 3] : List (Fin 8)).map fun x => (hd arg6 harg6 x, none, tile1_0 i h (par x) 0 0, [tile1_0 i h (par x) 1 1])) ++
  (([4, 5, 6, 7] : List (Fin 8)).map fun x => (hd arg6 harg6 x, none, tile1_1 i h (par x) 0 0, [tile1_1 i h (par x) 1 1]))

/-- The tile of key head 0 that lies `r` blocks back, at block 2. -/
def tile2_0 (i : grid0.Coords) (h : k0_cond4 i = 1#1) (p : Fin 2) (k : Fin 4) (r : Fin 3) : Tile :=
  ⟨k0_off22 i (BitVec.ofNat 32 r.val), k0_off22_inb i h r, k0_off23 i (BitVec.ofNat 32 r.val), k0_off23_inb i h r, k0_off24 i (BitVec.ofNat 32 r.val), k0_off24_inb i h r, slot p k, slot_inb p k⟩

/-- The tile of key head 1 that lies `r` blocks back, at block 2. -/
def tile2_1 (i : grid0.Coords) (h : k0_cond4 i = 1#1) (p : Fin 2) (k : Fin 4) (r : Fin 3) : Tile :=
  ⟨k0_off25 i (BitVec.ofNat 32 r.val), k0_off25_inb i h r, k0_off26 i (BitVec.ofNat 32 r.val), k0_off26_inb i h r, k0_off27 i (BitVec.ofNat 32 r.val), k0_off27_inb i h r, slot p k, slot_inb p k⟩

/-- The heads and their tiles at block 2 of a batch. -/
def heads2 (arg6 : Memref sig .tc .vmem S1x256x1024 .bf16) (harg6 : arg6.IsWhole) (i : grid0.Coords) (h : k0_cond4 i = 1#1) :
    List (HeadAt arg6 × Option Tile × Tile × List Tile) :=
  (([0, 1, 2, 3] : List (Fin 8)).map fun x => (hd arg6 harg6 x, none, tile2_0 i h (par x) 0 0, [tile2_0 i h (par x) 1 1, tile2_0 i h (par x) 2 2])) ++
  (([4, 5, 6, 7] : List (Fin 8)).map fun x => (hd arg6 harg6 x, none, tile2_1 i h (par x) 0 0, [tile2_1 i h (par x) 1 1, tile2_1 i h (par x) 2 2]))

/-- The tile of key head 0 that lies `r` blocks back, at block 3. -/
def tile3_0 (i : grid0.Coords) (h : k0_cond5 i = 1#1) (p : Fin 2) (k : Fin 4) (r : Fin 4) : Tile :=
  ⟨k0_off28 i (BitVec.ofNat 32 r.val), k0_off28_inb i h r, k0_off29 i (BitVec.ofNat 32 r.val), k0_off29_inb i h r, k0_off30 i (BitVec.ofNat 32 r.val), k0_off30_inb i h r, slot p k, slot_inb p k⟩

/-- The tile of key head 1 that lies `r` blocks back, at block 3. -/
def tile3_1 (i : grid0.Coords) (h : k0_cond5 i = 1#1) (p : Fin 2) (k : Fin 4) (r : Fin 4) : Tile :=
  ⟨k0_off31 i (BitVec.ofNat 32 r.val), k0_off31_inb i h r, k0_off32 i (BitVec.ofNat 32 r.val), k0_off32_inb i h r, k0_off33 i (BitVec.ofNat 32 r.val), k0_off33_inb i h r, slot p k, slot_inb p k⟩

/-- The heads and their tiles at block 3 of a batch. -/
def heads3 (arg6 : Memref sig .tc .vmem S1x256x1024 .bf16) (harg6 : arg6.IsWhole) (i : grid0.Coords) (h : k0_cond5 i = 1#1) :
    List (HeadAt arg6 × Option Tile × Tile × List Tile) :=
  (([0, 1, 2, 3] : List (Fin 8)).map fun x => (hd arg6 harg6 x, none, tile3_0 i h (par x) 0 0, [tile3_0 i h (par x) 1 1, tile3_0 i h (par x) 2 2, tile3_0 i h (par x) 3 3])) ++
  (([4, 5, 6, 7] : List (Fin 8)).map fun x => (hd arg6 harg6 x, none, tile3_1 i h (par x) 0 0, [tile3_1 i h (par x) 1 1, tile3_1 i h (par x) 2 2, tile3_1 i h (par x) 3 3]))

/-- The tile of key head 0 that lies `r` blocks back, at a later block. -/
def tile4_0 (i : grid0.Coords) (h : k0_cond6 i = 1#1) (p : Fin 2) (k : Fin 4) (r : Fin 5) : Tile :=
  ⟨k0_off34 i (BitVec.ofNat 32 r.val), k0_off34_inb i h r, k0_off35 i (BitVec.ofNat 32 r.val), k0_off35_inb i h r, k0_off36 i (BitVec.ofNat 32 r.val), k0_off36_inb i h r, slot p k, slot_inb p k⟩

/-- The tile of key head 1 that lies `r` blocks back, at a later block. -/
def tile4_1 (i : grid0.Coords) (h : k0_cond6 i = 1#1) (p : Fin 2) (k : Fin 4) (r : Fin 5) : Tile :=
  ⟨k0_off37 i (BitVec.ofNat 32 r.val), k0_off37_inb i h r, k0_off38 i (BitVec.ofNat 32 r.val), k0_off38_inb i h r, k0_off39 i (BitVec.ofNat 32 r.val), k0_off39_inb i h r, slot p k, slot_inb p k⟩

/-- The heads and their tiles at a later block of a batch. -/
def heads4 (arg6 : Memref sig .tc .vmem S1x256x1024 .bf16) (harg6 : arg6.IsWhole) (i : grid0.Coords) (h : k0_cond6 i = 1#1) :
    List (HeadAt arg6 × Option Tile × Tile × List Tile) :=
  (([0, 1, 2, 3] : List (Fin 8)).map fun x => (hd arg6 harg6 x, some (tile4_0 i h (par x) 0 4), tile4_0 i h (par x) 0 0, [tile4_0 i h (par x) 1 1, tile4_0 i h (par x) 2 2, tile4_0 i h (par x) 3 3])) ++
  (([4, 5, 6, 7] : List (Fin 8)).map fun x => (hd arg6 harg6 x, some (tile4_1 i h (par x) 0 4), tile4_1 i h (par x) 0 0, [tile4_1 i h (par x) 1 1, tile4_1 i h (par x) 2 2, tile4_1 i h (par x) 3 3]))

/-- The quantisation of the block of a grid point. -/
def prepAt (i : grid0.Coords) (arg2 : Memref sig .tc .smem S8 .f32) (harg2 : arg2.IsWhole) (arg3 : Memref sig .tc .vmem S1x256x1024 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x1024 .bf16) (harg6 : arg6.IsWhole) (arg7 : Memref sig .tc .vmem S1x256x8x128 .fp8e4m3) (harg7 : arg7.IsWhole) (arg8 : Memref sig .tc .vmem S1x8x256 .f32) (harg8 : arg8.IsWhole) (arg9 : Memref sig .tc .vmem S1x2x4096x128 .fp8e4m3) (harg9 : arg9.IsWhole) (arg10 : Memref sig .tc .vmem S1x2x4096 .f32) (harg10 : arg10.IsWhole) (arg11 : Memref sig .tc .vmem S1x2x4096x128 .fp8e4m3) (harg11 : arg11.IsWhole) (arg12 : Memref sig .tc .vmem S1x2x128 .f32) (harg12 : arg12.IsWhole) (arg13 : Memref sig .tc .vmem S8x256x128 .fp8e4m3) (harg13 : arg13.IsWhole) (arg14 : Memref sig .tc .vmem S8x256 .f32) (harg14 : arg14.IsWhole) (arg15 : Memref sig .tc .vmem S2x16x256x128 .f32) (harg15 : arg15.IsWhole) (arg16 : Memref sig .tc .vmem S2x16x128x256 .fp8e4m3) (harg16 : arg16.IsWhole) (arg17 : Memref sig .tc .vmem S2x128 .f32) (harg17 : arg17.IsWhole) (arg18 : Memref sig .tc .vmem S256x256 .i32) (harg18 : arg18.IsWhole) (arg19 : Memref sig .tc .vmem S2x4x256x256 .f32) (harg19 : arg19.IsWhole) : Prog (TpuEff nD τ sig (Elt F) Λ₀ .tc) PUnit :=
  prep arg3 arg4 arg5 arg7 arg8 arg9 arg10 arg11 arg13 arg14 arg15 arg16 arg17 (kvat0 arg9 harg9 arg11 harg11 arg16 harg16 i) (kvat1 arg9 harg9 arg11 harg11 arg16 harg16 i)
    (([0, 1, 2, 3, 4, 5, 6, 7] : List (Fin 8)).map (qat arg13 harg13)) (k0_off9 i) (k0_off9_inb i)
    (View.stores_vmem h_S1x256x8x128 (harg7.storeExact_slice rfl _ packedfp8e4m3_S1x256x8x128_S1x256x8x128_0_0_0_0) (fun _ => rfl))

/-- The body at the first block of a batch. -/
def body0 (i : grid0.Coords) (h : k0_cond2 i = 1#1) (arg2 : Memref sig .tc .smem S8 .f32) (harg2 : arg2.IsWhole) (arg3 : Memref sig .tc .vmem S1x256x1024 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x1024 .bf16) (harg6 : arg6.IsWhole) (arg7 : Memref sig .tc .vmem S1x256x8x128 .fp8e4m3) (harg7 : arg7.IsWhole) (arg8 : Memref sig .tc .vmem S1x8x256 .f32) (harg8 : arg8.IsWhole) (arg9 : Memref sig .tc .vmem S1x2x4096x128 .fp8e4m3) (harg9 : arg9.IsWhole) (arg10 : Memref sig .tc .vmem S1x2x4096 .f32) (harg10 : arg10.IsWhole) (arg11 : Memref sig .tc .vmem S1x2x4096x128 .fp8e4m3) (harg11 : arg11.IsWhole) (arg12 : Memref sig .tc .vmem S1x2x128 .f32) (harg12 : arg12.IsWhole) (arg13 : Memref sig .tc .vmem S8x256x128 .fp8e4m3) (harg13 : arg13.IsWhole) (arg14 : Memref sig .tc .vmem S8x256 .f32) (harg14 : arg14.IsWhole) (arg15 : Memref sig .tc .vmem S2x16x256x128 .f32) (harg15 : arg15.IsWhole) (arg16 : Memref sig .tc .vmem S2x16x128x256 .fp8e4m3) (harg16 : arg16.IsWhole) (arg17 : Memref sig .tc .vmem S2x128 .f32) (harg17 : arg17.IsWhole) (arg18 : Memref sig .tc .vmem S256x256 .i32) (harg18 : arg18.IsWhole) (arg19 : Memref sig .tc .vmem S2x4x256x256 .f32) (harg19 : arg19.IsWhole) : Prog (TpuEff nD τ sig (Elt F) Λ₀ .tc) PUnit := do
  init arg5 arg12 arg17 arg18 (vat 0) (vat 1)
  prepAt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  attend arg2 arg6 arg9 arg12 arg13 arg14 arg15 arg16 arg19 arg18 (heads0 arg6 harg6 i h)

/-- The body at block 1 of a batch. -/
def body1 (i : grid0.Coords) (h : k0_cond3 i = 1#1) (arg2 : Memref sig .tc .smem S8 .f32) (harg2 : arg2.IsWhole) (arg3 : Memref sig .tc .vmem S1x256x1024 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x1024 .bf16) (harg6 : arg6.IsWhole) (arg7 : Memref sig .tc .vmem S1x256x8x128 .fp8e4m3) (harg7 : arg7.IsWhole) (arg8 : Memref sig .tc .vmem S1x8x256 .f32) (harg8 : arg8.IsWhole) (arg9 : Memref sig .tc .vmem S1x2x4096x128 .fp8e4m3) (harg9 : arg9.IsWhole) (arg10 : Memref sig .tc .vmem S1x2x4096 .f32) (harg10 : arg10.IsWhole) (arg11 : Memref sig .tc .vmem S1x2x4096x128 .fp8e4m3) (harg11 : arg11.IsWhole) (arg12 : Memref sig .tc .vmem S1x2x128 .f32) (harg12 : arg12.IsWhole) (arg13 : Memref sig .tc .vmem S8x256x128 .fp8e4m3) (harg13 : arg13.IsWhole) (arg14 : Memref sig .tc .vmem S8x256 .f32) (harg14 : arg14.IsWhole) (arg15 : Memref sig .tc .vmem S2x16x256x128 .f32) (harg15 : arg15.IsWhole) (arg16 : Memref sig .tc .vmem S2x16x128x256 .fp8e4m3) (harg16 : arg16.IsWhole) (arg17 : Memref sig .tc .vmem S2x128 .f32) (harg17 : arg17.IsWhole) (arg18 : Memref sig .tc .vmem S256x256 .i32) (harg18 : arg18.IsWhole) (arg19 : Memref sig .tc .vmem S2x4x256x256 .f32) (harg19 : arg19.IsWhole) : Prog (TpuEff nD τ sig (Elt F) Λ₀ .tc) PUnit := do
  prepAt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  attend arg2 arg6 arg9 arg12 arg13 arg14 arg15 arg16 arg19 arg18 (heads1 arg6 harg6 i h)

/-- The body at block 2 of a batch. -/
def body2 (i : grid0.Coords) (h : k0_cond4 i = 1#1) (arg2 : Memref sig .tc .smem S8 .f32) (harg2 : arg2.IsWhole) (arg3 : Memref sig .tc .vmem S1x256x1024 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x1024 .bf16) (harg6 : arg6.IsWhole) (arg7 : Memref sig .tc .vmem S1x256x8x128 .fp8e4m3) (harg7 : arg7.IsWhole) (arg8 : Memref sig .tc .vmem S1x8x256 .f32) (harg8 : arg8.IsWhole) (arg9 : Memref sig .tc .vmem S1x2x4096x128 .fp8e4m3) (harg9 : arg9.IsWhole) (arg10 : Memref sig .tc .vmem S1x2x4096 .f32) (harg10 : arg10.IsWhole) (arg11 : Memref sig .tc .vmem S1x2x4096x128 .fp8e4m3) (harg11 : arg11.IsWhole) (arg12 : Memref sig .tc .vmem S1x2x128 .f32) (harg12 : arg12.IsWhole) (arg13 : Memref sig .tc .vmem S8x256x128 .fp8e4m3) (harg13 : arg13.IsWhole) (arg14 : Memref sig .tc .vmem S8x256 .f32) (harg14 : arg14.IsWhole) (arg15 : Memref sig .tc .vmem S2x16x256x128 .f32) (harg15 : arg15.IsWhole) (arg16 : Memref sig .tc .vmem S2x16x128x256 .fp8e4m3) (harg16 : arg16.IsWhole) (arg17 : Memref sig .tc .vmem S2x128 .f32) (harg17 : arg17.IsWhole) (arg18 : Memref sig .tc .vmem S256x256 .i32) (harg18 : arg18.IsWhole) (arg19 : Memref sig .tc .vmem S2x4x256x256 .f32) (harg19 : arg19.IsWhole) : Prog (TpuEff nD τ sig (Elt F) Λ₀ .tc) PUnit := do
  prepAt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  attend arg2 arg6 arg9 arg12 arg13 arg14 arg15 arg16 arg19 arg18 (heads2 arg6 harg6 i h)

/-- The body at block 3 of a batch. -/
def body3 (i : grid0.Coords) (h : k0_cond5 i = 1#1) (arg2 : Memref sig .tc .smem S8 .f32) (harg2 : arg2.IsWhole) (arg3 : Memref sig .tc .vmem S1x256x1024 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x1024 .bf16) (harg6 : arg6.IsWhole) (arg7 : Memref sig .tc .vmem S1x256x8x128 .fp8e4m3) (harg7 : arg7.IsWhole) (arg8 : Memref sig .tc .vmem S1x8x256 .f32) (harg8 : arg8.IsWhole) (arg9 : Memref sig .tc .vmem S1x2x4096x128 .fp8e4m3) (harg9 : arg9.IsWhole) (arg10 : Memref sig .tc .vmem S1x2x4096 .f32) (harg10 : arg10.IsWhole) (arg11 : Memref sig .tc .vmem S1x2x4096x128 .fp8e4m3) (harg11 : arg11.IsWhole) (arg12 : Memref sig .tc .vmem S1x2x128 .f32) (harg12 : arg12.IsWhole) (arg13 : Memref sig .tc .vmem S8x256x128 .fp8e4m3) (harg13 : arg13.IsWhole) (arg14 : Memref sig .tc .vmem S8x256 .f32) (harg14 : arg14.IsWhole) (arg15 : Memref sig .tc .vmem S2x16x256x128 .f32) (harg15 : arg15.IsWhole) (arg16 : Memref sig .tc .vmem S2x16x128x256 .fp8e4m3) (harg16 : arg16.IsWhole) (arg17 : Memref sig .tc .vmem S2x128 .f32) (harg17 : arg17.IsWhole) (arg18 : Memref sig .tc .vmem S256x256 .i32) (harg18 : arg18.IsWhole) (arg19 : Memref sig .tc .vmem S2x4x256x256 .f32) (harg19 : arg19.IsWhole) : Prog (TpuEff nD τ sig (Elt F) Λ₀ .tc) PUnit := do
  prepAt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  attend arg2 arg6 arg9 arg12 arg13 arg14 arg15 arg16 arg19 arg18 (heads3 arg6 harg6 i h)

/-- The body at a later block of a batch. -/
def body4 (i : grid0.Coords) (h : k0_cond6 i = 1#1) (arg2 : Memref sig .tc .smem S8 .f32) (harg2 : arg2.IsWhole) (arg3 : Memref sig .tc .vmem S1x256x1024 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x1024 .bf16) (harg6 : arg6.IsWhole) (arg7 : Memref sig .tc .vmem S1x256x8x128 .fp8e4m3) (harg7 : arg7.IsWhole) (arg8 : Memref sig .tc .vmem S1x8x256 .f32) (harg8 : arg8.IsWhole) (arg9 : Memref sig .tc .vmem S1x2x4096x128 .fp8e4m3) (harg9 : arg9.IsWhole) (arg10 : Memref sig .tc .vmem S1x2x4096 .f32) (harg10 : arg10.IsWhole) (arg11 : Memref sig .tc .vmem S1x2x4096x128 .fp8e4m3) (harg11 : arg11.IsWhole) (arg12 : Memref sig .tc .vmem S1x2x128 .f32) (harg12 : arg12.IsWhole) (arg13 : Memref sig .tc .vmem S8x256x128 .fp8e4m3) (harg13 : arg13.IsWhole) (arg14 : Memref sig .tc .vmem S8x256 .f32) (harg14 : arg14.IsWhole) (arg15 : Memref sig .tc .vmem S2x16x256x128 .f32) (harg15 : arg15.IsWhole) (arg16 : Memref sig .tc .vmem S2x16x128x256 .fp8e4m3) (harg16 : arg16.IsWhole) (arg17 : Memref sig .tc .vmem S2x128 .f32) (harg17 : arg17.IsWhole) (arg18 : Memref sig .tc .vmem S256x256 .i32) (harg18 : arg18.IsWhole) (arg19 : Memref sig .tc .vmem S2x4x256x256 .f32) (harg19 : arg19.IsWhole) : Prog (TpuEff nD τ sig (Elt F) Λ₀ .tc) PUnit := do
  prepAt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  attend arg2 arg6 arg9 arg12 arg13 arg14 arg15 arg16 arg19 arg18 (heads4 arg6 harg6 i h)

end Cert.Kernel.Model

end
-- ==== Proof.Printed.Runs.lean ====
/- For the kernel as printed: How the structured body runs: the values of the buffers it touches (`St`), owned together (`Own`), and the judgement
   `Runs p s a s'`: from the values `s`, the program `p` returns `a` and leaves the values `s'`. -/
module

public import proofs.«01_k».proof.Proof.Printed.Body
public import proofs.«01_k».proof.Proof.Gen.Kernel.Frame
public import Idealize.ShloMosaic.Lib.VecWindow

@[expose] public section

set_option synthInstance.maxSize 4096

noncomputable section

namespace Cert.Kernel.Model

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

local notation "𝕄" => MT nD τ sig Unit (Elt F) ℕ (UR sig nD τ) ℕ

/-- The memrefs of the body. -/
structure Mems where
  a2 : Memref sig .tc .smem S8 .f32
  a3 : Memref sig .tc .vmem S1x256x1024 .bf16
  a4 : Memref sig .tc .vmem S1x4096x256 .bf16
  a5 : Memref sig .tc .vmem S1x4096x256 .bf16
  a6 : Memref sig .tc .vmem S1x256x1024 .bf16
  a7 : Memref sig .tc .vmem S1x256x8x128 .fp8e4m3
  a8 : Memref sig .tc .vmem S1x8x256 .f32
  a9 : Memref sig .tc .vmem S1x2x4096x128 .fp8e4m3
  a10 : Memref sig .tc .vmem S1x2x4096 .f32
  a11 : Memref sig .tc .vmem S1x2x4096x128 .fp8e4m3
  a12 : Memref sig .tc .vmem S1x2x128 .f32
  a13 : Memref sig .tc .vmem S8x256x128 .fp8e4m3
  a14 : Memref sig .tc .vmem S8x256 .f32
  a15 : Memref sig .tc .vmem S2x16x256x128 .f32
  a16 : Memref sig .tc .vmem S2x16x128x256 .fp8e4m3
  a17 : Memref sig .tc .vmem S2x128 .f32
  a18 : Memref sig .tc .vmem S256x256 .i32
  a19 : Memref sig .tc .vmem S2x4x256x256 .f32

/-- The values the body's buffers hold. -/
@[ext] structure St (F : FTy → Type) [FloatOps F] where
  b2 : Vec F S8 .f32
  b3 : Vec F S1x256x1024 .bf16
  b4 : Vec F S1x4096x256 .bf16
  b5 : Vec F S1x4096x256 .bf16
  b6 : Vec F S1x256x1024 .bf16
  b7 : Vec F S1x256x8x128 .fp8e4m3
  b8 : Vec F S1x8x256 .f32
  b9 : Vec F S1x2x4096x128 .fp8e4m3
  b10 : Vec F S1x2x4096 .f32
  b11 : Vec F S1x2x4096x128 .fp8e4m3
  b12 : Vec F S1x2x128 .f32
  b13 : Vec F S8x256x128 .fp8e4m3
  b14 : Vec F S8x256 .f32
  b15 : Vec F S2x16x256x128 .f32
  b16 : Vec F S2x16x128x256 .fp8e4m3
  b17 : Vec F S2x128 .f32
  b18 : Vec F S256x256 .i32
  b19 : Vec F S2x4x256x256 .f32

/-- The values with another content of buffer 2. -/
def St.set2 (s : St F) (x : Vec F S8 .f32) : St F := { s with b2 := x }

/-- The values with another content of buffer 3. -/
def St.set3 (s : St F) (x : Vec F S1x256x1024 .bf16) : St F := { s with b3 := x }

/-- The values with another content of buffer 4. -/
def St.set4 (s : St F) (x : Vec F S1x4096x256 .bf16) : St F := { s with b4 := x }

/-- The values with another content of buffer 5. -/
def St.set5 (s : St F) (x : Vec F S1x4096x256 .bf16) : St F := { s with b5 := x }

/-- The values with another content of buffer 6. -/
def St.set6 (s : St F) (x : Vec F S1x256x1024 .bf16) : St F := { s with b6 := x }

/-- The values with another content of buffer 7. -/
def St.set7 (s : St F) (x : Vec F S1x256x8x128 .fp8e4m3) : St F := { s with b7 := x }

/-- The values with another content of buffer 8. -/
def St.set8 (s : St F) (x : Vec F S1x8x256 .f32) : St F := { s with b8 := x }

/-- The values with another content of buffer 9. -/
def St.set9 (s : St F) (x : Vec F S1x2x4096x128 .fp8e4m3) : St F := { s with b9 := x }

/-- The values with another content of buffer 10. -/
def St.set10 (s : St F) (x : Vec F S1x2x4096 .f32) : St F := { s with b10 := x }

/-- The values with another content of buffer 11. -/
def St.set11 (s : St F) (x : Vec F S1x2x4096x128 .fp8e4m3) : St F := { s with b11 := x }

/-- The values with another content of buffer 12. -/
def St.set12 (s : St F) (x : Vec F S1x2x128 .f32) : St F := { s with b12 := x }

/-- The values with another content of buffer 13. -/
def St.set13 (s : St F) (x : Vec F S8x256x128 .fp8e4m3) : St F := { s with b13 := x }

/-- The values with another content of buffer 14. -/
def St.set14 (s : St F) (x : Vec F S8x256 .f32) : St F := { s with b14 := x }

/-- The values with another content of buffer 15. -/
def St.set15 (s : St F) (x : Vec F S2x16x256x128 .f32) : St F := { s with b15 := x }

/-- The values with another content of buffer 16. -/
def St.set16 (s : St F) (x : Vec F S2x16x128x256 .fp8e4m3) : St F := { s with b16 := x }

/-- The values with another content of buffer 17. -/
def St.set17 (s : St F) (x : Vec F S2x128 .f32) : St F := { s with b17 := x }

/-- The values with another content of buffer 18. -/
def St.set18 (s : St F) (x : Vec F S256x256 .i32) : St F := { s with b18 := x }

/-- The values with another content of buffer 19. -/
def St.set19 (s : St F) (x : Vec F S2x4x256x256 .f32) : St F := { s with b19 := x }

variable (c : Dev nD) (M : Mems) (E : Set ℕ)

/-- Every buffer of the body owned, at the values `s`. -/
def Own (s : St F) : sProp 𝕄 :=
  iprop(owns (c : Thread nD τ) M.a2 fullShare s.b2 ∗ owns (c : Thread nD τ) M.a3 fullShare s.b3 ∗ owns (c : Thread nD τ) M.a4 fullShare s.b4 ∗ owns (c : Thread nD τ) M.a5 fullShare s.b5 ∗ owns (c : Thread nD τ) M.a6 fullShare s.b6 ∗ owns (c : Thread nD τ) M.a7 fullShare s.b7 ∗ owns (c : Thread nD τ) M.a8 fullShare s.b8 ∗ owns (c : Thread nD τ) M.a9 fullShare s.b9 ∗ owns (c : Thread nD τ) M.a10 fullShare s.b10 ∗ owns (c : Thread nD τ) M.a11 fullShare s.b11 ∗ owns (c : Thread nD τ) M.a12 fullShare s.b12 ∗ owns (c : Thread nD τ) M.a13 fullShare s.b13 ∗ owns (c : Thread nD τ) M.a14 fullShare s.b14 ∗ owns (c : Thread nD τ) M.a15 fullShare s.b15 ∗ owns (c : Thread nD τ) M.a16 fullShare s.b16 ∗ owns (c : Thread nD τ) M.a17 fullShare s.b17 ∗ owns (c : Thread nD τ) M.a18 fullShare s.b18 ∗ owns (c : Thread nD τ) M.a19 fullShare s.b19)

/-- From the values `s` the program returns `a` and leaves the values `s'`. -/
def Runs {α : Type} (p : Prog (TpuEff nD τ sig (Elt F) Λ₀ .tc) α) (s : St F) (a : α) (s' : St F) : Prop :=
  Own c M s ⊢ wp frame (wpE (defs₀ (F := F)) Variants.none c none) E p fun r => iprop(⌜r = a⌝ ∗ Own c M s')

variable {c M E}

/-- A return runs to its value. -/
theorem Runs.ret {α : Type} (a : α) (s : St F) : Runs c M E (pure a) s a s := by
  unfold Runs
  refine BIBase.Entails.trans ?_ (le_wp_ret _ _ _ _ _)
  iintro H; isplitr
  · ipureintro; rfl
  · iexact H

/-- One program after another. -/
theorem Runs.bind {α β : Type} {p : Prog (TpuEff nD τ sig (Elt F) Λ₀ .tc) α} {k : α → Prog (TpuEff nD τ sig (Elt F) Λ₀ .tc) β}
    {s s' s'' : St F} {a : α} {b : β} (hp : Runs c M E p s a s') (hk : Runs c M E (k a) s' b s'') : Runs c M E (p >>= k) s b s'' := by
  unfold Runs at *
  rw [wp_bind]
  refine hp.trans (wp_mono _ _ _ fun r => ?_)
  iintro ⟨%hr, H⟩
  subst hr
  iapply hk; iexact H

variable (c M) in
/-- A buffer of the body: what it holds, and the values with another content of it. -/
def Lens {sp : CoreSpace} {sh : Shape} {e : EltTy} (m : Memref sig .tc sp sh e) (g : St F → (sh.Idx → Elt F e)) (p : St F → (sh.Idx → Elt F e) → St F) : Prop :=
  (∀ s, Own c M s ⊢ iprop(owns (c : Thread nD τ) m fullShare (g s) ∗ (∀ x, owns (c : Thread nD τ) m fullShare x -∗ Own c M (p s x)))) ∧ ∀ s, p s (g s) = s

/-- A load reads a window of the buffer's values. -/
theorem Lens.load {sp : CoreSpace} {sh : Shape} {e : EltTy} {m : Memref sig .tc sp sh e} {g : St F → (sh.Idx → Elt F e)} {p : St F → (sh.Idx → Elt F e) → St F}
    (h : Lens c M m g p) (off size : Fin sh.rank → Nat) (inb : ∀ a, off a + size a ≤ sh.size a) (hl) (s : St F) :
    Runs c M E (Prog.lift (.load m (Rect.unit off size inb).toLoadRect hl)) s (VecWindow.window (g s) off size inb) s := by
  unfold Runs
  refine (h.1 s).trans ?_
  unfold owns
  iintro ⟨⟨%f, %hf, H⟩, Hw⟩
  iapply (wp_load_rect (defs := defs₀ (F := F)) Variants.none (c : Thread nD τ) none E (m := m) (r := Rect.unit off size inb) (S := m.view.set) (View.set_slice_subset _ _)) $$ H
  iintro H
  iapply (le_wp_ret _ _ _ _ _)
  isplitr
  · ipureintro; show _ = VecWindow.window (g s) off size inb; rw [← hf]; rfl
  · conv => rhs; rw [← h.2 s]
    iapply Hw; iexists f; isplitr
    · ipureintro; exact hf
    · iexact H

/-- A store puts its payload over a window of the buffer's values. -/
theorem Lens.store {sp : CoreSpace} {sh : Shape} {e : EltTy} {m : Memref sig .tc sp sh e} {g : St F → (sh.Idx → Elt F e)} {p : St F → (sh.Idx → Elt F e) → St F}
    (h : Lens c M m g p) (off size : Fin sh.rank → Nat) (inb : ∀ a, off a + size a ≤ sh.size a) (w) (hx) (hm) (s : St F) :
    Runs c M E (Prog.lift (.store m (Rect.unit off size inb) w Finset.univ hx hm)) s ⟨⟩ (p s (VecWindow.put (g s) off size w)) := by
  unfold Runs
  refine (h.1 s).trans ?_
  unfold owns
  iintro ⟨⟨%f, %hf, H⟩, Hw⟩
  iapply (wp_store (defs := defs₀ (F := F)) Variants.none (c : Thread nD τ) none E (m := m) (r := Rect.unit off size inb) (S := m.view.set) (by rw [View.setOn_univ]; exact View.set_slice_subset _ _)) $$ H
  iintro H
  iapply (le_wp_ret _ _ _ _ _)
  isplitr
  · ipureintro; rfl
  · iapply Hw; iexists ((m.access (Rect.unit off size inb)).write (Elt F) f w Finset.univ); isplitr
    · ipureintro; show _ = VecWindow.put (g s) off size w; rw [← hf]; exact View.read_writes_cons_put m.view f inb w [] rfl
    · iexact H

/-- A load of one scalar reads it. -/
theorem Lens.sload {sh : Shape} {e : EltTy} {m : Memref sig .tc .smem sh e} {g : St F → (sh.Idx → Elt F e)} {p : St F → (sh.Idx → Elt F e) → St F}
    (h : Lens c M m g p) (off : Fin sh.rank → Nat) (size : Fin sh.rank → Nat) (inb : ∀ a, off a + size a ≤ sh.size a) (h1) (h2) (s : St F) :
    Runs c M E (smemLoad m (Rect.unit off size inb) h1 h2) s (VecWindow.window (g s) off size inb (Shape.Idx.first (by rw [h1]; decide))) s := by
  unfold Runs smemLoad
  refine (h.1 s).trans ?_
  unfold owns
  iintro ⟨⟨%f, %hf, H⟩, Hw⟩
  iapply (wp_smemLoadElt (defs := defs₀ (F := F)) Variants.none (c : Thread nD τ) none E (m := m) (r := Rect.unit off size inb) (S := m.view.set) (View.set_slice_subset _ _)) $$ H
  iintro H
  iapply (le_wp_ret _ _ _ _ _)
  isplitr
  · ipureintro; rw [← hf]; rfl
  · conv => rhs; rw [← h.2 s]
    iapply Hw; iexists f; isplitr
    · ipureintro; exact hf
    · iexact H

variable (c M) in
/-- Buffer 2 of the body. -/
theorem lens2 : Lens (F := F) c M M.a2 (fun s => s.b2) (fun s x => s.set2 x) := by
  refine ⟨fun s => ?_, fun s => rfl⟩
  unfold Own
  iintro ⟨H2, H3, H4, H5, H6, H7, H8, H9, H10, H11, H12, H13, H14, H15, H16, H17, H18, H19⟩
  isplitl [H2]; · iexact H2
  iintro %x Hx
  isplitl [Hx]; · iexact Hx
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

variable (c M) in
/-- Buffer 3 of the body. -/
theorem lens3 : Lens (F := F) c M M.a3 (fun s => s.b3) (fun s x => s.set3 x) := by
  refine ⟨fun s => ?_, fun s => rfl⟩
  unfold Own
  iintro ⟨H2, H3, H4, H5, H6, H7, H8, H9, H10, H11, H12, H13, H14, H15, H16, H17, H18, H19⟩
  isplitl [H3]; · iexact H3
  iintro %x Hx
  isplitl [H2]; · iexact H2
  isplitl [Hx]; · iexact Hx
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

variable (c M) in
/-- Buffer 4 of the body. -/
theorem lens4 : Lens (F := F) c M M.a4 (fun s => s.b4) (fun s x => s.set4 x) := by
  refine ⟨fun s => ?_, fun s => rfl⟩
  unfold Own
  iintro ⟨H2, H3, H4, H5, H6, H7, H8, H9, H10, H11, H12, H13, H14, H15, H16, H17, H18, H19⟩
  isplitl [H4]; · iexact H4
  iintro %x Hx
  isplitl [H2]; · iexact H2
  isplitl [H3]; · iexact H3
  isplitl [Hx]; · iexact Hx
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

variable (c M) in
/-- Buffer 5 of the body. -/
theorem lens5 : Lens (F := F) c M M.a5 (fun s => s.b5) (fun s x => s.set5 x) := by
  refine ⟨fun s => ?_, fun s => rfl⟩
  unfold Own
  iintro ⟨H2, H3, H4, H5, H6, H7, H8, H9, H10, H11, H12, H13, H14, H15, H16, H17, H18, H19⟩
  isplitl [H5]; · iexact H5
  iintro %x Hx
  isplitl [H2]; · iexact H2
  isplitl [H3]; · iexact H3
  isplitl [H4]; · iexact H4
  isplitl [Hx]; · iexact Hx
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

variable (c M) in
/-- Buffer 6 of the body. -/
theorem lens6 : Lens (F := F) c M M.a6 (fun s => s.b6) (fun s x => s.set6 x) := by
  refine ⟨fun s => ?_, fun s => rfl⟩
  unfold Own
  iintro ⟨H2, H3, H4, H5, H6, H7, H8, H9, H10, H11, H12, H13, H14, H15, H16, H17, H18, H19⟩
  isplitl [H6]; · iexact H6
  iintro %x Hx
  isplitl [H2]; · iexact H2
  isplitl [H3]; · iexact H3
  isplitl [H4]; · iexact H4
  isplitl [H5]; · iexact H5
  isplitl [Hx]; · iexact Hx
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

variable (c M) in
/-- Buffer 7 of the body. -/
theorem lens7 : Lens (F := F) c M M.a7 (fun s => s.b7) (fun s x => s.set7 x) := by
  refine ⟨fun s => ?_, fun s => rfl⟩
  unfold Own
  iintro ⟨H2, H3, H4, H5, H6, H7, H8, H9, H10, H11, H12, H13, H14, H15, H16, H17, H18, H19⟩
  isplitl [H7]; · iexact H7
  iintro %x Hx
  isplitl [H2]; · iexact H2
  isplitl [H3]; · iexact H3
  isplitl [H4]; · iexact H4
  isplitl [H5]; · iexact H5
  isplitl [H6]; · iexact H6
  isplitl [Hx]; · iexact Hx
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

variable (c M) in
/-- Buffer 8 of the body. -/
theorem lens8 : Lens (F := F) c M M.a8 (fun s => s.b8) (fun s x => s.set8 x) := by
  refine ⟨fun s => ?_, fun s => rfl⟩
  unfold Own
  iintro ⟨H2, H3, H4, H5, H6, H7, H8, H9, H10, H11, H12, H13, H14, H15, H16, H17, H18, H19⟩
  isplitl [H8]; · iexact H8
  iintro %x Hx
  isplitl [H2]; · iexact H2
  isplitl [H3]; · iexact H3
  isplitl [H4]; · iexact H4
  isplitl [H5]; · iexact H5
  isplitl [H6]; · iexact H6
  isplitl [H7]; · iexact H7
  isplitl [Hx]; · iexact Hx
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

variable (c M) in
/-- Buffer 9 of the body. -/
theorem lens9 : Lens (F := F) c M M.a9 (fun s => s.b9) (fun s x => s.set9 x) := by
  refine ⟨fun s => ?_, fun s => rfl⟩
  unfold Own
  iintro ⟨H2, H3, H4, H5, H6, H7, H8, H9, H10, H11, H12, H13, H14, H15, H16, H17, H18, H19⟩
  isplitl [H9]; · iexact H9
  iintro %x Hx
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [Hx]; · iexact Hx
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

variable (c M) in
/-- Buffer 10 of the body. -/
theorem lens10 : Lens (F := F) c M M.a10 (fun s => s.b10) (fun s x => s.set10 x) := by
  refine ⟨fun s => ?_, fun s => rfl⟩
  unfold Own
  iintro ⟨H2, H3, H4, H5, H6, H7, H8, H9, H10, H11, H12, H13, H14, H15, H16, H17, H18, H19⟩
  isplitl [H10]; · iexact H10
  iintro %x Hx
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [Hx]; · iexact Hx
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

variable (c M) in
/-- Buffer 11 of the body. -/
theorem lens11 : Lens (F := F) c M M.a11 (fun s => s.b11) (fun s x => s.set11 x) := by
  refine ⟨fun s => ?_, fun s => rfl⟩
  unfold Own
  iintro ⟨H2, H3, H4, H5, H6, H7, H8, H9, H10, H11, H12, H13, H14, H15, H16, H17, H18, H19⟩
  isplitl [H11]; · iexact H11
  iintro %x Hx
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [Hx]; · iexact Hx
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

variable (c M) in
/-- Buffer 12 of the body. -/
theorem lens12 : Lens (F := F) c M M.a12 (fun s => s.b12) (fun s x => s.set12 x) := by
  refine ⟨fun s => ?_, fun s => rfl⟩
  unfold Own
  iintro ⟨H2, H3, H4, H5, H6, H7, H8, H9, H10, H11, H12, H13, H14, H15, H16, H17, H18, H19⟩
  isplitl [H12]; · iexact H12
  iintro %x Hx
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [Hx]; · iexact Hx
  isplitl [H13]; · iexact H13
  isplitl [H14]; · iexact H14
  isplitl [H15]; · iexact H15
  isplitl [H16]; · iexact H16
  isplitl [H17]; · iexact H17
  isplitl [H18]; · iexact H18
  iexact H19

variable (c M) in
/-- Buffer 13 of the body. -/
theorem lens13 : Lens (F := F) c M M.a13 (fun s => s.b13) (fun s x => s.set13 x) := by
  refine ⟨fun s => ?_, fun s => rfl⟩
  unfold Own
  iintro ⟨H2, H3, H4, H5, H6, H7, H8, H9, H10, H11, H12, H13, H14, H15, H16, H17, H18, H19⟩
  isplitl [H13]; · iexact H13
  iintro %x Hx
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [Hx]; · iexact Hx
  isplitl [H14]; · iexact H14
  isplitl [H15]; · iexact H15
  isplitl [H16]; · iexact H16
  isplitl [H17]; · iexact H17
  isplitl [H18]; · iexact H18
  iexact H19

variable (c M) in
/-- Buffer 14 of the body. -/
theorem lens14 : Lens (F := F) c M M.a14 (fun s => s.b14) (fun s x => s.set14 x) := by
  refine ⟨fun s => ?_, fun s => rfl⟩
  unfold Own
  iintro ⟨H2, H3, H4, H5, H6, H7, H8, H9, H10, H11, H12, H13, H14, H15, H16, H17, H18, H19⟩
  isplitl [H14]; · iexact H14
  iintro %x Hx
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [Hx]; · iexact Hx
  isplitl [H15]; · iexact H15
  isplitl [H16]; · iexact H16
  isplitl [H17]; · iexact H17
  isplitl [H18]; · iexact H18
  iexact H19

variable (c M) in
/-- Buffer 15 of the body. -/
theorem lens15 : Lens (F := F) c M M.a15 (fun s => s.b15) (fun s x => s.set15 x) := by
  refine ⟨fun s => ?_, fun s => rfl⟩
  unfold Own
  iintro ⟨H2, H3, H4, H5, H6, H7, H8, H9, H10, H11, H12, H13, H14, H15, H16, H17, H18, H19⟩
  isplitl [H15]; · iexact H15
  iintro %x Hx
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [Hx]; · iexact Hx
  isplitl [H16]; · iexact H16
  isplitl [H17]; · iexact H17
  isplitl [H18]; · iexact H18
  iexact H19

variable (c M) in
/-- Buffer 16 of the body. -/
theorem lens16 : Lens (F := F) c M M.a16 (fun s => s.b16) (fun s x => s.set16 x) := by
  refine ⟨fun s => ?_, fun s => rfl⟩
  unfold Own
  iintro ⟨H2, H3, H4, H5, H6, H7, H8, H9, H10, H11, H12, H13, H14, H15, H16, H17, H18, H19⟩
  isplitl [H16]; · iexact H16
  iintro %x Hx
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [Hx]; · iexact Hx
  isplitl [H17]; · iexact H17
  isplitl [H18]; · iexact H18
  iexact H19

variable (c M) in
/-- Buffer 17 of the body. -/
theorem lens17 : Lens (F := F) c M M.a17 (fun s => s.b17) (fun s x => s.set17 x) := by
  refine ⟨fun s => ?_, fun s => rfl⟩
  unfold Own
  iintro ⟨H2, H3, H4, H5, H6, H7, H8, H9, H10, H11, H12, H13, H14, H15, H16, H17, H18, H19⟩
  isplitl [H17]; · iexact H17
  iintro %x Hx
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [Hx]; · iexact Hx
  isplitl [H18]; · iexact H18
  iexact H19

variable (c M) in
/-- Buffer 18 of the body. -/
theorem lens18 : Lens (F := F) c M M.a18 (fun s => s.b18) (fun s x => s.set18 x) := by
  refine ⟨fun s => ?_, fun s => rfl⟩
  unfold Own
  iintro ⟨H2, H3, H4, H5, H6, H7, H8, H9, H10, H11, H12, H13, H14, H15, H16, H17, H18, H19⟩
  isplitl [H18]; · iexact H18
  iintro %x Hx
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [Hx]; · iexact Hx
  iexact H19

variable (c M) in
/-- Buffer 19 of the body. -/
theorem lens19 : Lens (F := F) c M M.a19 (fun s => s.b19) (fun s x => s.set19 x) := by
  refine ⟨fun s => ?_, fun s => rfl⟩
  unfold Own
  iintro ⟨H2, H3, H4, H5, H6, H7, H8, H9, H10, H11, H12, H13, H14, H15, H16, H17, H18, H19⟩
  isplitl [H19]; · iexact H19
  iintro %x Hx
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact Hx

end Cert.Kernel.Model

end
-- ==== Proof.Printed.RunsBody.lean ====
/- For the kernel as printed: How the pieces of the structured body run: what each returns and which values it leaves in the buffers. -/
module

public import proofs.«01_k».proof.Proof.Printed.Runs

@[expose] public section

set_option synthInstance.maxSize 4096

noncomputable section

namespace Cert.Kernel.Model

open Idealize.ShloMosaic Idealize.ShloMosaic.TcCoe Idealize.ShloMosaic.Tactic
open Idealize.SL Idealize.SL.RA Idealize.SL.BI
open Idealize.SL.Sem
open Cert.Kernel.Gen
open VecWindow (window put)

variable {F : FTy → Type} [FloatOps F]
variable {c : Dev nD} {M : Mems} {E : Set ℕ}

/-! ## Windows -/

/-- Windows at equal offsets are equal. -/
theorem window_congr {s : Shape} {α : Type} {x y : s.Idx → α} (hx : x = y) {off off' size : Fin s.rank → ℕ} (h : off = off') (inb : ∀ a, off a + size a ≤ s.size a) (inb' : ∀ a, off' a + size a ≤ s.size a) :
    window x off size inb = window y off' size inb' := by
  subst h hx; rfl

/-- A window put over the whole buffer is all it holds. -/
theorem put_full {s : Shape} {α : Type} (x : s.Idx → α) (off : Fin s.rank → ℕ) (h : ∀ a, off a = 0) (w : s.Idx → α) :
    put x off s.size w = w := by
  funext y
  have hy : ∀ a, off a ≤ (y a).val ∧ (y a).val < off a + s.size a := fun a => by have := (y a).isLt; rw [h a]; omega
  unfold put
  rw [dif_pos hy]
  congr 1
  funext a
  exact Fin.ext (by show (y a).val - off a = (y a).val; rw [h a]; rfl)

/-- The window of the whole buffer is the buffer. -/
theorem window_full {s : Shape} {α : Type} (x : s.Idx → α) (off : Fin s.rank → ℕ) (h : ∀ a, off a = 0) (inb : ∀ a, off a + s.size a ≤ s.size a) :
    window x off s.size inb = x := by
  funext y
  show x _ = x y
  congr 1
  funext a
  exact Fin.ext (by show off a + 1 * (y a).val = (y a).val; rw [h a]; omega)

/-- A window apart from every window of a list of them is kept. -/
theorem window_foldl_of_apart {s : Shape} {α ι : Type} (o : ι → Fin s.rank → ℕ) (size : Fin s.rank → ℕ) (w : ι → ((a : Fin s.rank) → Fin (size a)) → α)
    (off' size' : Fin s.rank → ℕ) (inb' : ∀ a, off' a + size' a ≤ s.size a) (L : List ι)
    (h : ∀ i ∈ L, ∃ a, off' a + size' a ≤ o i a ∨ o i a + size a ≤ off' a) (x : s.Idx → α) :
    window (L.foldl (fun b i => put b (o i) size (w i)) x) off' size' inb' = window x off' size' inb' := by
  induction L generalizing x with
  | nil => rfl
  | cons i L ih =>
    obtain ⟨a, ha⟩ := h i (by simp)
    rw [List.foldl_cons, ih (fun i hi => h i (by simp [hi])), VecWindow.window_put_of_disjoint x (o i) size off' size' inb' (w i) a ha]

/-- Of windows put one after the other, each apart from the others, each is read back. -/
theorem window_foldl {s : Shape} {α ι : Type} (o : ι → Fin s.rank → ℕ) (size : Fin s.rank → ℕ) (w : ι → ((a : Fin s.rank) → Fin (size a)) → α)
    (inb : ∀ i a, o i a + size a ≤ s.size a) (L : List ι) (hL : L.Nodup)
    (h : ∀ i j : ι, i ≠ j → ∃ a, o i a + size a ≤ o j a ∨ o j a + size a ≤ o i a) (x : s.Idx → α) (i : ι) (hi : i ∈ L) :
    window (L.foldl (fun b i => put b (o i) size (w i)) x) (o i) size (inb i) = w i := by
  induction L generalizing x with
  | nil => simp at hi
  | cons j L ih =>
    rw [List.foldl_cons]
    rcases List.mem_cons.mp hi with rfl | hi'
    · rw [window_foldl_of_apart o size w (o i) size (inb i) L (fun k hk => h i k (fun e => by subst e; exact (List.nodup_cons.mp hL).1 hk)),
        VecWindow.window_put_same]
    · exact ih (List.nodup_cons.mp hL).2 _ hi'

/-! ## One attention head -/

/-- What a key tile holds: the codes, the key scales, the transposed value codes. -/
structure TileV (F : FTy → Type) [FloatOps F] where
  kc : Vec F S1x1x256x128 .fp8e4m3
  ks : Vec F S1x1x256x128 .f32
  vt : Vec F S1x1x128x256 .fp8e4m3

/-- What a tile holds in the buffers. -/
def tileOf (s : St F) (T : Tile) : TileV F :=
  ⟨window s.b9 T.kc S1x1x256x128.size T.hkc, window s.b15 T.ks S1x1x256x128.size T.hks, window s.b16 T.vt S1x1x128x256.size T.hvt⟩

/-- The running maxima after the full tiles. -/
def pass1V (q : FVec F S256x128 .fp8e4m3) : List (TileV F) → FVec F S8x256 .f32 → FVec F S8x256 .f32
  | [], mx => mx
  | T :: Ts, mx => pass1V q Ts (maximumf mx (tileMax (scoreV T.kc T.ks q)))

/-- One tile's scores as they are kept. -/
def keptV (x : FVec F S256x256 .f32) : Vec F S1x1x256x256 .f32 := shapeCast S1x1x256x256 x Facts₀.shapeCasts_S256x256_S1x1x256x256

/-- The weighted sums over a list of tiles' values and scores. -/
def pass2V (c : Vec F S1x256 .f32) (shift : FVec F S1x256 .f32) : List (Vec F S1x1x128x256 .fp8e4m3 × Vec F S1x1x256x256 .f32) → FVec F S128x256 .f32 → FVec F S8x256 .f32 →
    FVec F S128x256 .f32 × FVec F S8x256 .f32
  | [], acc, l => (acc, l)
  | T :: Ts, acc, l => pass2V c shift Ts (pvV T.1 (clip (probs T.2 c shift)) acc) (addf l (tileSum (probs T.2 c shift)))

/-- The scores left of the diagonal block. -/
def leftScoreV (q : FVec F S256x128 .fp8e4m3) : Option (TileV F) → FVec F S256x256 .f32
  | none => broadcast S256x256 (Scalar.ofBits .f32 0xFF800000#32)
  | some L => scoreV L.kc L.ks q

/-- The oldest tile's weighted values. -/
def leftPvV (tri : Vec F S256x256 .i32) (p : FVec F S256x256 .f32) (acc : FVec F S128x256 .f32) : Option (TileV F) → FVec F S128x256 .f32
  | none => acc
  | some L => pvV L.vt (select (triMask tri) (broadcast S256x256 (Scalar.ofBits .f32 0x00000000#32)) (clip p)) acc

/-- A sink in units of powers of two. -/
def sinkV (sk : F .f32) : F .f32 := Scalar.mulf sk (Scalar.ofBits .f32 0x3FB8AA3B#32)

/-- A head's codes as a matrix. -/
def qMat (q0 : Vec F S1x256x128 .fp8e4m3) : FVec F S256x128 .fp8e4m3 := shapeCast S256x128 q0 Facts₀.shapeCasts_S1x256x128_S256x128

/-- The scores of the diagonal tile, joined with the oldest tile's where the window cuts it. -/
def diagV (q0 : Vec F S1x256x128 .fp8e4m3) (tri : Vec F S256x256 .i32) (L : Option (TileV F)) (T : TileV F) : FVec F S256x256 .f32 :=
  select (triMask tri) (scoreV T.kc T.ks (qMat q0)) (leftScoreV (qMat q0) L)

/-- The shift of a head's exponents. -/
def headShift (q0 : Vec F S1x256x128 .fp8e4m3) (c : Vec F S1x256 .f32) (sk : F .f32) (tri : Vec F S256x256 .i32) (L : Option (TileV F)) (T : TileV F) (Ts : List (TileV F)) : FVec F S1x256 .f32 :=
  shiftV (uMax (pass1V (qMat q0) Ts (tileMax (diagV q0 tri L T))) c) (sinkV sk)

/-- The weighted sums of one head. -/
def headSums (q0 : Vec F S1x256x128 .fp8e4m3) (c : Vec F S1x256 .f32) (shift : FVec F S1x256 .f32) (tri : Vec F S256x256 .i32) (L : Option (TileV F)) (T : TileV F) (Ts : List (TileV F)) :
    FVec F S128x256 .f32 × FVec F S8x256 .f32 :=
  pass2V c shift (Ts.map fun T => (T.vt, keptV (scoreV T.kc T.ks (qMat q0))))
    (pvV T.vt (select (triMask tri) (clip (probs (keptV (diagV q0 tri L T)) c shift)) (broadcast S256x256 (Scalar.ofBits .f32 0x00000000#32)))
      (leftPvV tri (probs (keptV (diagV q0 tri L T)) c shift) (broadcast S128x256 (Scalar.ofBits .f32 0x00000000#32)) L))
    (addf (broadcast S8x256 (Scalar.ofBits .f32 0x00000000#32)) (tileSum (probs (keptV (diagV q0 tri L T)) c shift)))

/-- The output of one head for a block of queries. -/
def headV (q0 : Vec F S1x256x128 .fp8e4m3) (c : Vec F S1x256 .f32) (sk : F .f32) (vs : Vec F S1x1x128 .f32) (tri : Vec F S256x256 .i32) (L : Option (TileV F)) (T : TileV F) (Ts : List (TileV F)) : FVec F S1x256x128 .bf16 :=
  outV (headSums q0 c (headShift q0 c sk tri L T Ts) tri L T Ts).1 (headSums q0 c (headShift q0 c sk tri L T Ts) tri L T Ts).2 (sinkV sk) (headShift q0 c sk tri L T Ts) vs

/-- Two tiles' score slots are apart. -/
def Apart (U T : Tile) : Prop := U.sl 1 + 1 ≤ T.sl 1 ∨ T.sl 1 + 1 ≤ U.sl 1

/-- One tile's scores. -/
theorem score_runs (q : FVec F S256x128 .fp8e4m3) (T : Tile) (s : St F) :
    Runs c M E (score M.a9 M.a15 q T) s (scoreV (tileOf s T).kc (tileOf s T).ks q) s := by
  unfold score
  exact ((lens9 c M).load _ _ _ _ s).bind (((lens15 c M).load _ _ _ _ s).bind (Runs.ret _ s))

/-- Keeping one tile's scores. -/
theorem putT_runs (T : Tile) (x : FVec F S256x256 .f32) (s : St F) :
    Runs c M E (putT M.a19 T x) s ⟨⟩ (s.set19 (put s.b19 T.sl S1x1x256x256.size (keptV x))) := by
  unfold putT
  exact ((lens19 c M).load _ _ _ _ s).bind ((lens19 c M).store _ _ _ _ _ _ s)

/-- The first pass returns the maxima and keeps every tile's scores. -/
theorem pass1_runs (q : FVec F S256x128 .fp8e4m3) (Ts : List Tile) (hTs : Ts.Pairwise Apart) (mx : FVec F S8x256 .f32) (s : St F) :
    ∃ y, Runs c M E (pass1 M.a9 M.a15 M.a19 q Ts mx) s (pass1V q (Ts.map (tileOf s)) mx) (s.set19 y)
      ∧ (∀ T ∈ Ts, window y T.sl S1x1x256x256.size T.hsl = keptV (scoreV (tileOf s T).kc (tileOf s T).ks q))
      ∧ ∀ U : Tile, (∀ T ∈ Ts, Apart U T) → window y U.sl S1x1x256x256.size U.hsl = window s.b19 U.sl S1x1x256x256.size U.hsl := by
  induction Ts generalizing mx s with
  | nil => exact ⟨s.b19, Runs.ret _ s, by simp, fun _ _ => rfl⟩
  | cons T Ts ih =>
    have hTs' := List.pairwise_cons.mp hTs
    obtain ⟨y, hy, h1, h2⟩ := ih hTs'.2 (maximumf mx (tileMax (scoreV (tileOf s T).kc (tileOf s T).ks q)))
      (s.set19 (put s.b19 T.sl S1x1x256x256.size (keptV (scoreV (tileOf s T).kc (tileOf s T).ks q))))
    refine ⟨y, (score_runs q T s).bind ((putT_runs T _ s).bind hy), fun U hU => ?_, fun U hU => ?_⟩
    · rcases List.mem_cons.mp hU with rfl | hU
      · rw [h2 U hTs'.1]; exact VecWindow.window_put_same _ _ _ _ _
      · exact h1 U hU
    · rw [h2 U fun T hT => hU T (by simp [hT])]
      exact VecWindow.window_put_of_disjoint _ _ _ _ _ _ _ 1 (hU T (by simp))

/-- One tile's weighted values. -/
theorem pv_runs (T : Tile) (p : FVec F S256x256 .f32) (acc : FVec F S128x256 .f32) (s : St F) :
    Runs c M E (pv M.a16 T p acc) s (pvV (tileOf s T).vt p acc) s := by
  unfold pv
  exact ((lens16 c M).load _ _ _ _ s).bind (Runs.ret _ s)

/-- One tile's kept scores. -/
theorem getT_runs (T : Tile) (s : St F) :
    Runs c M E (getT M.a19 T) s (window s.b19 T.sl S1x1x256x256.size T.hsl) s := by
  unfold getT
  exact ((lens19 c M).load _ _ _ _ s).bind (Runs.ret _ s)

/-- The second pass returns the weighted sums. -/
theorem pass2_runs (k : Vec F S1x256 .f32) (shift : FVec F S1x256 .f32) (Ts : List Tile) (acc : FVec F S128x256 .f32) (l : FVec F S8x256 .f32) (s : St F) :
    Runs c M E (pass2 M.a16 M.a19 k shift Ts acc l) s
      (pass2V k shift (Ts.map fun T => ((tileOf s T).vt, window s.b19 T.sl S1x1x256x256.size T.hsl)) acc l) s := by
  induction Ts generalizing acc l with
  | nil => exact Runs.ret _ s
  | cons T Ts ih => exact (getT_runs T s).bind ((pv_runs T _ _ s).bind (ih _ _))

/-- The scores left of the diagonal block. -/
theorem leftScore_runs (q : FVec F S256x128 .fp8e4m3) (L : Option Tile) (s : St F) :
    Runs c M E (leftScore M.a9 M.a15 q L) s (leftScoreV q (L.map (tileOf s))) s := by
  cases L with
  | none => exact Runs.ret _ s
  | some L => exact score_runs q L s

/-- The oldest tile's weighted values. -/
theorem leftPv_runs (tri : Vec F S256x256 .i32) (p : FVec F S256x256 .f32) (acc : FVec F S128x256 .f32) (L : Option Tile) (s : St F) :
    Runs c M E (leftPv M.a16 tri p acc L) s (leftPvV tri p acc (L.map (tileOf s))) s := by
  cases L with
  | none => exact Runs.ret _ s
  | some L => exact pv_runs L _ _ s

/-- What a head writes, from the values the buffers hold. -/
def headOut {arg6 : Memref sig .tc .vmem S1x256x1024 .bf16} (s : St F) (tri : Vec F S256x256 .i32) (x : HeadAt arg6 × Option Tile × Tile × List Tile) : FVec F S1x256x128 .bf16 :=
  headV (window s.b13 x.1.q S1x256x128.size x.1.hq) (window s.b14 x.1.c S1x256.size x.1.hc) (window s.b2 x.1.s S1.size x.1.hs (Shape.Idx.first (by show 0 < S1.numel; decide)))
    (window s.b12 x.1.v S1x1x128.size x.1.hv) tri (x.2.1.map (tileOf s)) (tileOf s x.2.2.1) (x.2.2.2.map (tileOf s))

/-- A head writes its output over its columns, and only its score slots besides. -/
theorem head_runs (H : HeadAt M.a6) (L : Option Tile) (T : Tile) (Ts : List Tile) (hTs : (T :: Ts).Pairwise Apart) (tri : Vec F S256x256 .i32) (s : St F) :
    ∃ y, Runs c M E (head M.a2 M.a6 M.a9 M.a12 M.a13 M.a14 M.a15 M.a16 M.a19 L T Ts tri H) s ⟨⟩
      ((s.set19 y).set6 (put s.b6 H.o S1x256x128.size (headOut s tri (H, L, T, Ts)))) := by
  have hTs' := List.pairwise_cons.mp hTs
  let q0 : Vec F S1x256x128 .fp8e4m3 := window s.b13 H.q S1x256x128.size H.hq
  let d := diagV q0 tri (L.map (tileOf s)) (tileOf s T)
  obtain ⟨y, hy, h1, h2⟩ := pass1_runs (c := c) (M := M) (E := E) (qMat q0) Ts hTs'.2 (tileMax d) (s.set19 (put s.b19 T.sl S1x1x256x256.size (keptV d)))
  have hT : window y T.sl S1x1x256x256.size T.hsl = keptV d := (h2 T hTs'.1).trans (VecWindow.window_put_same _ _ _ _ _)
  have hm : (Ts.map fun U => ((tileOf s U).vt, window y U.sl S1x1x256x256.size U.hsl)) = (Ts.map (tileOf s)).map fun T => (T.vt, keptV (scoreV T.kc T.ks (qMat q0))) := by
    rw [List.map_map]
    exact List.map_congr_left fun U hU => by rw [h1 U hU]; rfl
  refine ⟨y, ?_⟩
  unfold head
  refine ((lens13 c M).load _ _ _ _ s).bind ?_
  refine (leftScore_runs _ L s).bind ?_
  refine (score_runs _ T s).bind ?_
  refine (putT_runs T _ s).bind ?_
  refine hy.bind ?_
  refine ((lens14 c M).load _ _ _ _ _).bind ?_
  refine ((lens2 c M).sload _ _ _ _ _ _).bind ?_
  refine (getT_runs T _).bind ?_
  refine (leftPv_runs tri _ _ L _).bind ?_
  refine (pv_runs T _ _ _).bind ?_
  refine (pass2_runs _ _ Ts _ _ _).bind ?_
  refine ((lens12 c M).load _ _ _ _ _).bind ?_
  refine ((lens6 c M).load _ _ _ _ _).bind ?_
  have hst : ∀ w, w = headOut s tri (H, L, T, Ts) → Runs c M E (Prog.lift (.store M.a6 (Rect.unit H.o S1x256x128.size H.ho) w Finset.univ H.hst (.inl rfl))) (s.set19 y) ⟨⟩
      ((s.set19 y).set6 (put s.b6 H.o S1x256x128.size (headOut s tri (H, L, T, Ts)))) := by
    rintro _ rfl
    exact (lens6 c M).store H.o S1x256x128.size H.ho _ H.hst (.inl rfl) (s.set19 y)
  refine hst _ ?_
  unfold headOut headV headSums headShift
  rw [← hm]
  show _ = outV (pass2V _ _ _ (pvV _ (select _ (clip (probs (keptV d) _ _)) _) (leftPvV _ (probs (keptV d) _ _) _ _)) (addf _ (tileSum (probs (keptV d) _ _)))).1
    (pass2V _ _ _ (pvV _ (select _ (clip (probs (keptV d) _ _)) _) (leftPvV _ (probs (keptV d) _ _) _ _)) (addf _ (tileSum (probs (keptV d) _ _)))).2 _ _ _
  rw [← hT]
  rfl

end Cert.Kernel.Model

end
-- ==== Proof.Printed.RunsBlock.lean ====
/- For the kernel as printed: What one grid point of the kernel leaves in the buffers: the codes and scales of its block, and the attention of
   its queries over the blocks kept so far. -/
module

public import proofs.«01_k».proof.Proof.Printed.RunsBody

@[expose] public section

set_option synthInstance.maxSize 4096

noncomputable section

namespace Cert.Kernel.Model

open Idealize.ShloMosaic Idealize.ShloMosaic.TcCoe Idealize.ShloMosaic.Tactic
open Idealize.SL Idealize.SL.RA Idealize.SL.BI
open Idealize.SL.Sem
open VecWindow (window put)
open Facts₀ Facts

variable {F : FTy → Type} [FloatOps F]
variable {c : Dev nD} {M : Mems} {E : Set ℕ}

/-- A store over a whole buffer leaves its payload. -/
theorem Lens.storeFull {sp : CoreSpace} {sh : Shape} {e : EltTy} {m : Memref sig .tc sp sh e} {g : St F → (sh.Idx → Elt F e)} {p : St F → (sh.Idx → Elt F e) → St F}
    (h : Lens c M m g p) (off : Fin sh.rank → Nat) (h0 : ∀ a, off a = 0) (inb : ∀ a, off a + sh.size a ≤ sh.size a) (w : sh.Idx → Elt F e) (hx) (hm) (s : St F) :
    Runs c M E (Prog.lift (.store m (Rect.unit off sh.size inb) w Finset.univ hx hm)) s ⟨⟩ (p s w) := by
  have := h.store (E := E) off sh.size inb w hx hm s
  rw [put_full (g s) off h0 w] at this
  exact this

/-- The heads write their outputs one after the other. -/
theorem heads_runs (tri : Vec F S256x256 .i32) (xs : List (HeadAt M.a6 × Option Tile × Tile × List Tile))
    (hx : ∀ x ∈ xs, (x.2.2.1 :: x.2.2.2).Pairwise Apart) (s : St F) :
    ∃ y, Runs c M E (heads M.a2 M.a6 M.a9 M.a12 M.a13 M.a14 M.a15 M.a16 M.a19 tri xs) s ⟨⟩
      ((s.set19 y).set6 (xs.foldl (fun b x => put b x.1.o S1x256x128.size (headOut s tri x)) s.b6)) := by
  induction xs generalizing s with
  | nil => exact ⟨s.b19, Runs.ret _ s⟩
  | cons x xs ih =>
    obtain ⟨y, hy⟩ := head_runs (c := c) (M := M) (E := E) x.1 x.2.1 x.2.2.1 x.2.2.2 (hx x (by simp)) tri s
    obtain ⟨z, hz⟩ := ih (fun x h => hx x (by simp [h])) ((s.set19 y).set6 (put s.b6 x.1.o S1x256x128.size (headOut s tri x)))
    exact ⟨z, hy.bind hz⟩

/-- The attention of a block. -/
theorem attend_runs (xs : List (HeadAt M.a6 × Option Tile × Tile × List Tile))
    (hx : ∀ x ∈ xs, (x.2.2.1 :: x.2.2.2).Pairwise Apart) (s : St F) :
    ∃ y, Runs c M E (attend M.a2 M.a6 M.a9 M.a12 M.a13 M.a14 M.a15 M.a16 M.a19 M.a18 xs) s ⟨⟩
      ((s.set19 y).set6 (xs.foldl (fun b x => put b x.1.o S1x256x128.size (headOut s s.b18 x)) s.b6)) := by
  obtain ⟨y, hy⟩ := heads_runs (c := c) (M := M) (E := E) s.b18 xs hx s
  refine ⟨y, ?_⟩
  unfold attend
  refine ((lens18 c M).load _ _ _ _ s).bind ?_
  have h : window s.b18 ![0, 0] S256x256.size inb_S256x256_S256x256_0_0 = s.b18 := window_full _ _ (by decide) _
  rw [h]
  exact hy

/-! ## The quantisation -/

/-- One key head's rows. -/
theorem kvStep_runs (K : KvAt M.a9 M.a11 M.a16) (acc : FVec F S256x128 .f32) (s : St F) :
    Runs c M E (kvStep M.a4 M.a5 M.a9 M.a11 M.a15 M.a16 M.a17 K acc) s (laneSel K.n (amaxCol (rowsOf (window s.b4 K.x S1x256x128.size K.hx))) acc)
      ((((s.set9 (put s.b9 K.kc S1x1x256x128.size (shapeCast S1x1x256x128 (truncf .fp8e4m3 (codesOf (rowsOf (window s.b4 K.x S1x256x128.size K.hx))) bitsLt_fp8e4m3_f32 : FVec F S256x128 .fp8e4m3) shapeCasts_S256x128_S1x1x256x128))).set15
        (put s.b15 K.ks S1x1x256x128.size (shapeCast S1x1x256x128 (scaleTile (rowsOf (window s.b4 K.x S1x256x128.size K.hx))) shapeCasts_S256x128_S1x1x256x128))).set11
        (put s.b11 K.kc S1x1x256x128.size (shapeCast S1x1x256x128 (truncf .fp8e4m3 (vcodesOf (window s.b5 K.x S1x256x128.size K.hx) (window s.b17 K.vi S1x128.size K.hvi)) bitsLt_fp8e4m3_f32 : FVec F S256x128 .fp8e4m3) shapeCasts_S256x128_S1x1x256x128))).set16
        (put s.b16 K.vt S1x1x128x256.size (shapeCast S1x1x128x256 (truncf .fp8e4m3 (transpose S128x256 [1, 0] (vcodesOf (window s.b5 K.x S1x256x128.size K.hx) (window s.b17 K.vi S1x128.size K.hvi)) transposes_S256x128_p1_0_S128x256) bitsLt_fp8e4m3_f32 : FVec F S128x256 .fp8e4m3) shapeCasts_S128x256_S1x1x128x256))) := by
  unfold kvStep
  refine ((lens4 c M).load _ _ _ _ s).bind ?_
  refine ((lens9 c M).load _ _ _ _ _).bind ?_
  refine ((lens9 c M).store _ _ _ _ _ _ _).bind ?_
  refine ((lens15 c M).load _ _ _ _ _).bind ?_
  refine ((lens15 c M).store _ _ _ _ _ _ _).bind ?_
  refine ((lens5 c M).load _ _ _ _ _).bind ?_
  refine ((lens17 c M).load _ _ _ _ _).bind ?_
  refine ((lens11 c M).load _ _ _ _ _).bind ?_
  refine ((lens11 c M).store _ _ _ _ _ _ _).bind ?_
  refine ((lens16 c M).load _ _ _ _ _).bind ?_
  refine ((lens16 c M).store _ _ _ _ _ _ _).bind ?_
  exact Runs.ret _ _

/-- The query rows of every head. -/
theorem qSteps_runs (Qs : List (QAt M.a13)) (acc : FVec F S256x128 .f32) (s : St F) :
    Runs c M E (qSteps M.a3 M.a13 Qs acc) s (Qs.foldl (fun a Q => laneSel Q.n (amaxCol (rowsOf (window s.b3 Q.x S1x256x128.size Q.hx))) a) acc)
      (s.set13 (Qs.foldl (fun b Q => put b Q.q S1x256x128.size (shapeCast S1x256x128 (truncf .fp8e4m3 (codesOf (rowsOf (window s.b3 Q.x S1x256x128.size Q.hx))) bitsLt_fp8e4m3_f32 : FVec F S256x128 .fp8e4m3) shapeCasts_S256x128_S1x256x128)) s.b13)) := by
  induction Qs generalizing acc s with
  | nil => exact Runs.ret _ s
  | cons Q Qs ih =>
    unfold qSteps qStep
    refine Runs.bind (((lens3 c M).load _ _ _ _ s).bind (((lens13 c M).load _ _ _ _ _).bind (((lens13 c M).store _ _ _ _ _ _ _).bind (Runs.ret _ _)))) ?_
    exact ih _ _

/-- One key head's value scales. -/
theorem vStep_runs (V : VAt) (s : St F) :
    Runs c M E (vStep M.a5 M.a12 M.a17 V) s ⟨⟩
      ((s.set12 (put s.b12 V.vs S1x1x128.size (shapeCast S1x1x128 (scaleOf (expLane (amaxLane (window s.b5 V.x S1x4096x128.size V.hx)))) shapeCasts_S1x128_S1x1x128))).set17
        (put s.b17 V.vi S1x128.size (shapeCast S1x128 (invOf (expLane (amaxLane (window s.b5 V.x S1x4096x128.size V.hx)))) shapeCasts_S1x128_S1x128))) := by
  unfold vStep
  refine ((lens5 c M).load _ _ _ _ s).bind ?_
  refine ((lens12 c M).load _ _ _ _ _).bind ?_
  refine ((lens12 c M).store _ _ _ _ _ _ _).bind ?_
  refine ((lens17 c M).load _ _ _ _ _).bind ?_
  exact (lens17 c M).store _ _ _ _ _ _ _

/-- The scales of a block. -/
theorem putScales_runs (o : Fin 3 → Nat) (ho : ∀ a, o a + S1x2x256.size a ≤ S1x2x4096.size a) (sc : FVec F S16x256 .f32) (s : St F) :
    Runs c M E (putScales M.a8 M.a10 M.a14 o ho sc) s ⟨⟩
      (((s.set8 (shapeCast S1x8x256 (extractStridedSlice S8x256 ![0, 0] sc slices_S16x256_o0_0_S8x256) shapeCasts_S8x256_S1x8x256)).set10
        (put s.b10 o S1x2x256.size (shapeCast S1x2x256 (extractStridedSlice S2x256 ![8, 0] sc slices_S16x256_o8_0_S2x256) shapeCasts_S2x256_S1x2x256))).set14
        (shapeCast S8x256 (mulf (extractStridedSlice S8x256 ![0, 0] sc slices_S16x256_o0_0_S8x256) (broadcast S8x256 (Scalar.ofBits .f32 0x3E0293EE#32))) shapeCasts_S8x256_S8x256)) := by
  unfold putScales
  refine ((lens8 c M).load _ _ _ _ s).bind ?_
  refine ((lens8 c M).storeFull ![0, 0, 0] (by decide) _ _ _ _ _).bind ?_
  refine ((lens10 c M).load _ _ _ _ _).bind ?_
  refine ((lens10 c M).store _ _ _ _ _ _ _).bind ?_
  refine ((lens14 c M).load _ _ _ _ _).bind ?_
  exact (lens14 c M).storeFull _ (by decide) _ _ _ _ _

/-- The interleaved codes of a block. -/
def codesV (b : Vec F S8x256x128 .fp8e4m3) : Vec F S1x256x8x128 .fp8e4m3 :=
  shapeCast S1x256x8x128 (concatenate S256x8x128 1 [⟨S256x1x128, qCol (window b ![0, 0, 0] S1x256x128.size inb_S8x256x128_S1x256x128_0_0_0)⟩,
    ⟨S256x1x128, qCol (window b ![1, 0, 0] S1x256x128.size inb_S8x256x128_S1x256x128_1_0_0)⟩,
    ⟨S256x1x128, qCol (window b ![2, 0, 0] S1x256x128.size inb_S8x256x128_S1x256x128_2_0_0)⟩,
    ⟨S256x1x128, qCol (window b ![3, 0, 0] S1x256x128.size inb_S8x256x128_S1x256x128_3_0_0)⟩,
    ⟨S256x1x128, qCol (window b ![4, 0, 0] S1x256x128.size inb_S8x256x128_S1x256x128_4_0_0)⟩,
    ⟨S256x1x128, qCol (window b ![5, 0, 0] S1x256x128.size inb_S8x256x128_S1x256x128_5_0_0)⟩,
    ⟨S256x1x128, qCol (window b ![6, 0, 0] S1x256x128.size inb_S8x256x128_S1x256x128_6_0_0)⟩,
    ⟨S256x1x128, qCol (window b ![7, 0, 0] S1x256x128.size inb_S8x256x128_S1x256x128_7_0_0)⟩]
    concatenates_S256x1x128_S256x1x128_S256x1x128_S256x1x128_S256x1x128_S256x1x128_S256x1x128_S256x1x128_S256x8x128_d1) shapeCasts_S256x8x128_S1x256x8x128

/-- Interleaving the heads' codes. -/
theorem putCodes_runs (hst) (s : St F) : Runs c M E (putCodes M.a7 M.a13 hst) s ⟨⟩ (s.set7 (codesV s.b13)) := by
  unfold putCodes
  refine ((lens13 c M).load _ _ _ _ s).bind ?_
  refine ((lens13 c M).load _ _ _ _ s).bind ?_
  refine ((lens13 c M).load _ _ _ _ s).bind ?_
  refine ((lens13 c M).load _ _ _ _ s).bind ?_
  refine ((lens13 c M).load _ _ _ _ s).bind ?_
  refine ((lens13 c M).load _ _ _ _ s).bind ?_
  refine ((lens13 c M).load _ _ _ _ s).bind ?_
  refine ((lens13 c M).load _ _ _ _ s).bind ?_
  refine ((lens7 c M).load _ _ _ _ s).bind ?_
  exact (lens7 c M).storeFull ![0, 0, 0, 0] (by decide) _ _ _ _ _

/-- The first block's own work. -/
theorem init_runs (V0 V1 : VAt) (s : St F) :
    ∃ s1 s2, Runs c M E (vStep M.a5 M.a12 M.a17 V0) s ⟨⟩ s1 ∧ Runs c M E (vStep M.a5 M.a12 M.a17 V1) s1 ⟨⟩ s2
      ∧ Runs c M E (init M.a5 M.a12 M.a17 M.a18 V0 V1) s ⟨⟩ (s2.set18 (shapeCast S256x256 triV shapeCasts_S256x256_S256x256 : IVec S256x256 32))
      ∧ s1 = ((s.set12 (put s.b12 V0.vs S1x1x128.size (shapeCast S1x1x128 (scaleOf (expLane (amaxLane (window s.b5 V0.x S1x4096x128.size V0.hx)))) shapeCasts_S1x128_S1x1x128))).set17
        (put s.b17 V0.vi S1x128.size (shapeCast S1x128 (invOf (expLane (amaxLane (window s.b5 V0.x S1x4096x128.size V0.hx)))) shapeCasts_S1x128_S1x128)))
      ∧ s2 = ((s1.set12 (put s1.b12 V1.vs S1x1x128.size (shapeCast S1x1x128 (scaleOf (expLane (amaxLane (window s1.b5 V1.x S1x4096x128.size V1.hx)))) shapeCasts_S1x128_S1x1x128))).set17
        (put s1.b17 V1.vi S1x128.size (shapeCast S1x128 (invOf (expLane (amaxLane (window s1.b5 V1.x S1x4096x128.size V1.hx)))) shapeCasts_S1x128_S1x128))) := by
  refine ⟨_, _, vStep_runs V0 s, vStep_runs V1 _, ?_, rfl, rfl⟩
  unfold init
  refine (vStep_runs V0 s).bind ?_
  refine (vStep_runs V1 _).bind ?_
  refine ((lens18 c M).load _ _ _ _ _).bind ?_
  exact (lens18 c M).storeFull ![0, 0] (by decide) _ _ _ _ _

end Cert.Kernel.Model

end
-- ==== Proof.Printed.Block.lean ====
/- For the kernel as printed: One grid point of the kernel: from the codes and scales of the blocks before it to those of its own block, and the
   attention output of its queries. -/
module

public import proofs.«01_k».proof.Proof.Printed.RunsBlock

@[expose] public section

set_option synthInstance.maxSize 4096

noncomputable section

namespace Cert.Kernel.Model

open Idealize.ShloMosaic Idealize.ShloMosaic.TcCoe Idealize.ShloMosaic.Tactic
open Idealize.SL Idealize.SL.RA Idealize.SL.BI
open Idealize.SL.Sem
open VecWindow (window put)
open Facts₀ Facts

variable {F : FTy → Type} [FloatOps F]
variable {c : Dev nD} {M : Mems} {E : Set ℕ}

/-! ## What a block's quantisation gives -/

/-- The key head of a query head. -/
def grp (h : Fin 8) : Fin 2 := ⟨h.val / 4, by omega⟩

/-- Block `j` of key head `g`'s rows. -/
def kblk (K : Vec F S1x4096x256 .bf16) (g : Fin 2) (j : Fin 16) : Vec F S1x256x128 .bf16 :=
  window K ![0, 256 * j.val, 128 * g.val] S1x256x128.size (by revert g j; decide)

/-- Head `h`'s query rows of a block. -/
def qblk (X : Vec F S1x256x1024 .bf16) (h : Fin 8) : Vec F S1x256x128 .bf16 :=
  window X ![0, 0, 128 * h.val] S1x256x128.size (by revert h; decide)

/-- Value head `g`'s rows, of every block. -/
def vall (V : Vec F S1x4096x256 .bf16) (g : Fin 2) : Vec F S1x4096x128 .bf16 :=
  window V ![0, 0, 128 * g.val] S1x4096x128.size (by revert g; decide)

/-- The inverse value scales. -/
def vinvV (V : Vec F S1x4096x256 .bf16) (g : Fin 2) : Vec F S1x128 .f32 :=
  shapeCast S1x128 (invOf (expLane (amaxLane (vall V g)))) shapeCasts_S1x128_S1x128

/-- The value scales. -/
def vsV (V : Vec F S1x4096x256 .bf16) (g : Fin 2) : Vec F S1x1x128 .f32 :=
  shapeCast S1x1x128 (scaleOf (expLane (amaxLane (vall V g)))) shapeCasts_S1x128_S1x1x128

/-- The key codes of a block. -/
def kcV (K : Vec F S1x4096x256 .bf16) (g : Fin 2) (j : Fin 16) : Vec F S1x1x256x128 .fp8e4m3 :=
  shapeCast S1x1x256x128 (truncf .fp8e4m3 (codesOf (rowsOf (kblk K g j))) bitsLt_fp8e4m3_f32 : FVec F S256x128 .fp8e4m3) shapeCasts_S256x128_S1x1x256x128

/-- The key scales of a block over every lane. -/
def ksrV (K : Vec F S1x4096x256 .bf16) (g : Fin 2) (j : Fin 16) : Vec F S1x1x256x128 .f32 :=
  shapeCast S1x1x256x128 (scaleTile (rowsOf (kblk K g j))) shapeCasts_S256x128_S1x1x256x128

/-- The value codes of a block. -/
def vcV (V : Vec F S1x4096x256 .bf16) (g : Fin 2) (j : Fin 16) : Vec F S1x1x256x128 .fp8e4m3 :=
  shapeCast S1x1x256x128 (truncf .fp8e4m3 (vcodesOf (kblk V g j) (vinvV V g)) bitsLt_fp8e4m3_f32 : FVec F S256x128 .fp8e4m3) shapeCasts_S256x128_S1x1x256x128

/-- The value codes of a block, transposed. -/
def vtV (V : Vec F S1x4096x256 .bf16) (g : Fin 2) (j : Fin 16) : Vec F S1x1x128x256 .fp8e4m3 :=
  shapeCast S1x1x128x256 (truncf .fp8e4m3 (transpose S128x256 [1, 0] (vcodesOf (kblk V g j) (vinvV V g)) transposes_S256x128_p1_0_S128x256) bitsLt_fp8e4m3_f32 : FVec F S128x256 .fp8e4m3) shapeCasts_S128x256_S1x1x128x256

/-- The query codes of a block. -/
def qcV (X : Vec F S1x256x1024 .bf16) (h : Fin 8) : Vec F S1x256x128 .fp8e4m3 :=
  shapeCast S1x256x128 (truncf .fp8e4m3 (codesOf (rowsOf (qblk X h))) bitsLt_fp8e4m3_f32 : FVec F S256x128 .fp8e4m3) shapeCasts_S256x128_S1x256x128

/-- The largest magnitudes of a block's rows: lane `h` of the query heads, lane `8 + g` of the key heads. -/
def accV (X : Vec F S1x256x1024 .bf16) (K : Vec F S1x4096x256 .bf16) (j : Fin 16) : FVec F S256x128 .f32 :=
  ([0, 1, 2, 3, 4, 5, 6, 7] : List (Fin 8)).foldl (fun a h => laneSel (BitVec.ofNat 32 h.val) (amaxCol (rowsOf (qblk X h))) a)
    (laneSel 9#32 (amaxCol (rowsOf (kblk K 1 j))) (laneSel 8#32 (amaxCol (rowsOf (kblk K 0 j))) (broadcast S256x128 (Scalar.ofBits .f32 0x00000000#32))))

/-- The query scales of a block. -/
def qsV (X : Vec F S1x256x1024 .bf16) (K : Vec F S1x4096x256 .bf16) (j : Fin 16) : Vec F S1x8x256 .f32 :=
  shapeCast S1x8x256 (extractStridedSlice S8x256 ![0, 0] (scales (accV X K j)) slices_S16x256_o0_0_S8x256) shapeCasts_S8x256_S1x8x256

/-- The key scales of a block. -/
def ksV (X : Vec F S1x256x1024 .bf16) (K : Vec F S1x4096x256 .bf16) (j : Fin 16) : Vec F S1x2x256 .f32 :=
  shapeCast S1x2x256 (extractStridedSlice S2x256 ![8, 0] (scales (accV X K j)) slices_S16x256_o8_0_S2x256) shapeCasts_S2x256_S1x2x256

/-- The query scales in units of the softmax. -/
def cV (X : Vec F S1x256x1024 .bf16) (K : Vec F S1x4096x256 .bf16) (j : Fin 16) : Vec F S8x256 .f32 :=
  shapeCast S8x256 (mulf (extractStridedSlice S8x256 ![0, 0] (scales (accV X K j)) slices_S16x256_o0_0_S8x256) (broadcast S8x256 (Scalar.ofBits .f32 0x3E0293EE#32))) shapeCasts_S8x256_S8x256

/-- The diagonal mask as it is kept. -/
def triC : Vec F S256x256 .i32 := (shapeCast S256x256 triV shapeCasts_S256x256_S256x256 : IVec S256x256 32)

/-- What a key tile holds. -/
def tv (K V : Vec F S1x4096x256 .bf16) (g : Fin 2) (j : Fin 16) : TileV F := ⟨kcV K g j, ksrV K g j, vtV V g j⟩

/-- The block `r` before block `j`. -/
def back (j : Fin 16) (r : ℕ) : Fin 16 := ⟨j.val - r, by omega⟩

/-- The oldest tile of a block's window, where it is one. -/
def leftTv (K V : Vec F S1x4096x256 .bf16) (g : Fin 2) (j : Fin 16) : Option (TileV F) := if 4 ≤ j.val then some (tv K V g (back j 4)) else none

/-- The tiles of a block's window that lie before the block and are seen whole. -/
def restTv (K V : Vec F S1x4096x256 .bf16) (g : Fin 2) (j : Fin 16) : List (TileV F) :=
  if j.val = 0 then [] else if j.val = 1 then [tv K V g (back j 1)] else if j.val = 2 then [tv K V g (back j 1), tv K V g (back j 2)]
  else [tv K V g (back j 1), tv K V g (back j 2), tv K V g (back j 3)]

/-- Head `h`'s scale in units of the softmax. -/
def cRow (X : Vec F S1x256x1024 .bf16) (K : Vec F S1x4096x256 .bf16) (j : Fin 16) (h : Fin 8) : Vec F S1x256 .f32 :=
  window (cV X K j) ![h.val, 0] S1x256.size (by revert h; decide)

/-- Head `h`'s sink. -/
def skAt (sk : Vec F S8 .f32) (h : Fin 8) : F .f32 :=
  window sk ![h.val] S1.size (by revert h; decide) (Shape.Idx.first (by show 0 < S1.numel; decide))

/-- The attention output of head `h` for the queries of block `j`. -/
def outB (X : Vec F S1x256x1024 .bf16) (K V : Vec F S1x4096x256 .bf16) (sk : Vec F S8 .f32) (j : Fin 16) (h : Fin 8) : FVec F S1x256x128 .bf16 :=
  headV (qcV X h) (cRow X K j h) (skAt sk h) (vsV V (grp h)) triC (leftTv K V (grp h) j) (tv K V (grp h) j) (restTv K V (grp h) j)

/-- The interleaved query codes of a block. -/
def codesB (X : Vec F S1x256x1024 .bf16) : Vec F S1x256x8x128 .fp8e4m3 :=
  shapeCast S1x256x8x128 (concatenate S256x8x128 1 [⟨S256x1x128, qCol (qcV X 0)⟩, ⟨S256x1x128, qCol (qcV X 1)⟩, ⟨S256x1x128, qCol (qcV X 2)⟩, ⟨S256x1x128, qCol (qcV X 3)⟩,
    ⟨S256x1x128, qCol (qcV X 4)⟩, ⟨S256x1x128, qCol (qcV X 5)⟩, ⟨S256x1x128, qCol (qcV X 6)⟩, ⟨S256x1x128, qCol (qcV X 7)⟩]
    concatenates_S256x1x128_S256x1x128_S256x1x128_S256x1x128_S256x1x128_S256x1x128_S256x1x128_S256x1x128_S256x8x128_d1) shapeCasts_S256x8x128_S1x256x8x128

/-! ## What the buffers hold -/

/-- A block of codes lies in its array. -/
theorem rows_inb (g : Fin 2) (j : Fin 16) : ∀ a, (![0, g.val, 256 * j.val, 0] : Fin 4 → ℕ) a + S1x1x256x128.size a ≤ S1x2x4096x128.size a := by
  revert g j; decide

/-- A block of row scales lies in its buffer. -/
theorem ksr_inb (g : Fin 2) (j : Fin 16) : ∀ a, (![g.val, j.val, 0, 0] : Fin 4 → ℕ) a + S1x1x256x128.size a ≤ S2x16x256x128.size a := by
  revert g j; decide

/-- A block of transposed codes lies in its buffer. -/
theorem vt_inb (g : Fin 2) (j : Fin 16) : ∀ a, (![g.val, j.val, 0, 0] : Fin 4 → ℕ) a + S1x1x128x256.size a ≤ S2x16x128x256.size a := by
  revert g j; decide

/-- A block of key scales lies in its array. -/
theorem ks_inb (j : Fin 16) : ∀ a, (![0, 0, 256 * j.val] : Fin 3 → ℕ) a + S1x2x256.size a ≤ S1x2x4096.size a := by
  revert j; decide

/-- A head's value scales lie in their array. -/
theorem vs_inb (g : Fin 2) : ∀ a, (![0, g.val, 0] : Fin 3 → ℕ) a + S1x1x128.size a ≤ S1x2x128.size a := by
  revert g; decide

/-- A head's inverse value scales lie in their buffer. -/
theorem vinv_inb (g : Fin 2) : ∀ a, (![g.val, 0] : Fin 2 → ℕ) a + S1x128.size a ≤ S2x128.size a := by
  revert g; decide

/-- The key codes of the first `n` blocks are kept. -/
def KcUpto (K : Vec F S1x4096x256 .bf16) (n : ℕ) (b : Vec F S1x2x4096x128 .fp8e4m3) : Prop :=
  ∀ j : Fin 16, j.val < n → ∀ g, window b ![0, g.val, 256 * j.val, 0] S1x1x256x128.size (rows_inb g j) = kcV K g j

/-- The value codes of the first `n` blocks are kept. -/
def VcUpto (V : Vec F S1x4096x256 .bf16) (n : ℕ) (b : Vec F S1x2x4096x128 .fp8e4m3) : Prop :=
  ∀ j : Fin 16, j.val < n → ∀ g, window b ![0, g.val, 256 * j.val, 0] S1x1x256x128.size (rows_inb g j) = vcV V g j

/-- The key scales of the first `n` blocks are kept. -/
def KsUpto (X : Fin 16 → Vec F S1x256x1024 .bf16) (K : Vec F S1x4096x256 .bf16) (n : ℕ) (b : Vec F S1x2x4096 .f32) : Prop :=
  ∀ j : Fin 16, j.val < n → window b ![0, 0, 256 * j.val] S1x2x256.size (ks_inb j) = ksV (X j) K j

/-- The key scales over the lanes of the first `n` blocks are kept. -/
def KsrUpto (K : Vec F S1x4096x256 .bf16) (n : ℕ) (b : Vec F S2x16x256x128 .f32) : Prop :=
  ∀ j : Fin 16, j.val < n → ∀ g, window b ![g.val, j.val, 0, 0] S1x1x256x128.size (ksr_inb g j) = ksrV K g j

/-- The transposed value codes of the first `n` blocks are kept. -/
def VtUpto (V : Vec F S1x4096x256 .bf16) (n : ℕ) (b : Vec F S2x16x128x256 .fp8e4m3) : Prop :=
  ∀ j : Fin 16, j.val < n → ∀ g, window b ![g.val, j.val, 0, 0] S1x1x128x256.size (vt_inb g j) = vtV V g j

/-- The value scales are kept. -/
def VsDone (V : Vec F S1x4096x256 .bf16) (b : Vec F S1x2x128 .f32) : Prop :=
  ∀ g : Fin 2, window b ![0, g.val, 0] S1x1x128.size (vs_inb g) = vsV V g

/-- The inverse value scales are kept. -/
def VinvDone (V : Vec F S1x4096x256 .bf16) (b : Vec F S2x128 .f32) : Prop :=
  ∀ g : Fin 2, window b ![g.val, 0] S1x128.size (vinv_inb g) = vinvV V g

/-- The attention output of a block is kept. -/
def OutDone (X : Vec F S1x256x1024 .bf16) (K V : Vec F S1x4096x256 .bf16) (sk : Vec F S8 .f32) (j : Fin 16) (b : Vec F S1x256x1024 .bf16) : Prop :=
  ∀ h : Fin 8, window b ![0, 0, 128 * h.val] S1x256x128.size (hd_inb h) = outB X K V sk j h

/-- What the buffers hold of the first `n` blocks of a batch. -/
structure Upto (X : Fin 16 → Vec F S1x256x1024 .bf16) (K V : Vec F S1x4096x256 .bf16) (n : ℕ) (s : St F) : Prop where
  kc : KcUpto K n s.b9
  ks : KsUpto X K n s.b10
  vc : VcUpto V n s.b11
  ksr : KsrUpto K n s.b15
  vt : VtUpto V n s.b16

/-- What the first block of a batch keeps for the later ones. -/
structure Base (V : Vec F S1x4096x256 .bf16) (s : St F) : Prop where
  vs : VsDone V s.b12
  vinv : VinvDone V s.b17
  tri : s.b18 = triC

/-- The inputs of a grid point. -/
structure Ins (X : Fin 16 → Vec F S1x256x1024 .bf16) (K V : Vec F S1x4096x256 .bf16) (sk : Vec F S8 .f32) (j : Fin 16) (s : St F) : Prop where
  sk : s.b2 = sk
  x : s.b3 = X j
  k : s.b4 = K
  v : s.b5 = V

/-! ## Stores that leave the facts alone -/

section Keep

variable {X : Fin 16 → Vec F S1x256x1024 .bf16} {K V : Vec F S1x4096x256 .bf16} {sk : Vec F S8 .f32} {j : Fin 16} {n : ℕ} {s : St F}

/-- A store of the output keeps the arguments staged. -/
theorem Ins.set6 (h : Ins X K V sk j s) (x : Vec F S1x256x1024 .bf16) : Ins X K V sk j (s.set6 x) := ⟨h.sk, h.x, h.k, h.v⟩

/-- A store of the output keeps what earlier blocks left. -/
theorem Upto.set6 (h : Upto X K V n s) (x : Vec F S1x256x1024 .bf16) : Upto X K V n (s.set6 x) := ⟨h.kc, h.ks, h.vc, h.ksr, h.vt⟩

/-- A store of the output keeps what the first block left. -/
theorem Base.set6 (h : Base V s) (x : Vec F S1x256x1024 .bf16) : Base V (s.set6 x) := ⟨h.vs, h.vinv, h.tri⟩

/-- A store of the query codes keeps the arguments staged. -/
theorem Ins.set7 (h : Ins X K V sk j s) (x : Vec F S1x256x8x128 .fp8e4m3) : Ins X K V sk j (s.set7 x) := ⟨h.sk, h.x, h.k, h.v⟩

/-- A store of the query codes keeps what earlier blocks left. -/
theorem Upto.set7 (h : Upto X K V n s) (x : Vec F S1x256x8x128 .fp8e4m3) : Upto X K V n (s.set7 x) := ⟨h.kc, h.ks, h.vc, h.ksr, h.vt⟩

/-- A store of the query codes keeps what the first block left. -/
theorem Base.set7 (h : Base V s) (x : Vec F S1x256x8x128 .fp8e4m3) : Base V (s.set7 x) := ⟨h.vs, h.vinv, h.tri⟩

/-- A store of the query scales keeps the arguments staged. -/
theorem Ins.set8 (h : Ins X K V sk j s) (x : Vec F S1x8x256 .f32) : Ins X K V sk j (s.set8 x) := ⟨h.sk, h.x, h.k, h.v⟩

/-- A store of the query scales keeps what earlier blocks left. -/
theorem Upto.set8 (h : Upto X K V n s) (x : Vec F S1x8x256 .f32) : Upto X K V n (s.set8 x) := ⟨h.kc, h.ks, h.vc, h.ksr, h.vt⟩

/-- A store of the query scales keeps what the first block left. -/
theorem Base.set8 (h : Base V s) (x : Vec F S1x8x256 .f32) : Base V (s.set8 x) := ⟨h.vs, h.vinv, h.tri⟩

/-- A store of the key codes keeps the arguments staged. -/
theorem Ins.set9 (h : Ins X K V sk j s) (x : Vec F S1x2x4096x128 .fp8e4m3) : Ins X K V sk j (s.set9 x) := ⟨h.sk, h.x, h.k, h.v⟩

/-- A store of the key codes keeps what the first block left. -/
theorem Base.set9 (h : Base V s) (x : Vec F S1x2x4096x128 .fp8e4m3) : Base V (s.set9 x) := ⟨h.vs, h.vinv, h.tri⟩

/-- A store of the key scales keeps the arguments staged. -/
theorem Ins.set10 (h : Ins X K V sk j s) (x : Vec F S1x2x4096 .f32) : Ins X K V sk j (s.set10 x) := ⟨h.sk, h.x, h.k, h.v⟩

/-- A store of the key scales keeps what the first block left. -/
theorem Base.set10 (h : Base V s) (x : Vec F S1x2x4096 .f32) : Base V (s.set10 x) := ⟨h.vs, h.vinv, h.tri⟩

/-- A store of the value codes keeps the arguments staged. -/
theorem Ins.set11 (h : Ins X K V sk j s) (x : Vec F S1x2x4096x128 .fp8e4m3) : Ins X K V sk j (s.set11 x) := ⟨h.sk, h.x, h.k, h.v⟩

/-- A store of the value codes keeps what the first block left. -/
theorem Base.set11 (h : Base V s) (x : Vec F S1x2x4096x128 .fp8e4m3) : Base V (s.set11 x) := ⟨h.vs, h.vinv, h.tri⟩

/-- A store of the value scales keeps the arguments staged. -/
theorem Ins.set12 (h : Ins X K V sk j s) (x : Vec F S1x2x128 .f32) : Ins X K V sk j (s.set12 x) := ⟨h.sk, h.x, h.k, h.v⟩

/-- A store of the value scales keeps what earlier blocks left. -/
theorem Upto.set12 (h : Upto X K V n s) (x : Vec F S1x2x128 .f32) : Upto X K V n (s.set12 x) := ⟨h.kc, h.ks, h.vc, h.ksr, h.vt⟩

/-- A store of the kept query codes keeps the arguments staged. -/
theorem Ins.set13 (h : Ins X K V sk j s) (x : Vec F S8x256x128 .fp8e4m3) : Ins X K V sk j (s.set13 x) := ⟨h.sk, h.x, h.k, h.v⟩

/-- A store of the kept query codes keeps what earlier blocks left. -/
theorem Upto.set13 (h : Upto X K V n s) (x : Vec F S8x256x128 .fp8e4m3) : Upto X K V n (s.set13 x) := ⟨h.kc, h.ks, h.vc, h.ksr, h.vt⟩

/-- A store of the kept query codes keeps what the first block left. -/
theorem Base.set13 (h : Base V s) (x : Vec F S8x256x128 .fp8e4m3) : Base V (s.set13 x) := ⟨h.vs, h.vinv, h.tri⟩

/-- A store of the kept query factors keeps the arguments staged. -/
theorem Ins.set14 (h : Ins X K V sk j s) (x : Vec F S8x256 .f32) : Ins X K V sk j (s.set14 x) := ⟨h.sk, h.x, h.k, h.v⟩

/-- A store of the kept query factors keeps what earlier blocks left. -/
theorem Upto.set14 (h : Upto X K V n s) (x : Vec F S8x256 .f32) : Upto X K V n (s.set14 x) := ⟨h.kc, h.ks, h.vc, h.ksr, h.vt⟩

/-- A store of the kept query factors keeps what the first block left. -/
theorem Base.set14 (h : Base V s) (x : Vec F S8x256 .f32) : Base V (s.set14 x) := ⟨h.vs, h.vinv, h.tri⟩

/-- A store of the kept key scales keeps the arguments staged. -/
theorem Ins.set15 (h : Ins X K V sk j s) (x : Vec F S2x16x256x128 .f32) : Ins X K V sk j (s.set15 x) := ⟨h.sk, h.x, h.k, h.v⟩

/-- A store of the kept key scales keeps what the first block left. -/
theorem Base.set15 (h : Base V s) (x : Vec F S2x16x256x128 .f32) : Base V (s.set15 x) := ⟨h.vs, h.vinv, h.tri⟩

/-- A store of the kept value codes keeps the arguments staged. -/
theorem Ins.set16 (h : Ins X K V sk j s) (x : Vec F S2x16x128x256 .fp8e4m3) : Ins X K V sk j (s.set16 x) := ⟨h.sk, h.x, h.k, h.v⟩

/-- A store of the kept value codes keeps what the first block left. -/
theorem Base.set16 (h : Base V s) (x : Vec F S2x16x128x256 .fp8e4m3) : Base V (s.set16 x) := ⟨h.vs, h.vinv, h.tri⟩

/-- A store of the kept inverse value scales keeps the arguments staged. -/
theorem Ins.set17 (h : Ins X K V sk j s) (x : Vec F S2x128 .f32) : Ins X K V sk j (s.set17 x) := ⟨h.sk, h.x, h.k, h.v⟩

/-- A store of the kept inverse value scales keeps what earlier blocks left. -/
theorem Upto.set17 (h : Upto X K V n s) (x : Vec F S2x128 .f32) : Upto X K V n (s.set17 x) := ⟨h.kc, h.ks, h.vc, h.ksr, h.vt⟩

/-- A store of the triangle keeps the arguments staged. -/
theorem Ins.set18 (h : Ins X K V sk j s) (x : Vec F S256x256 .i32) : Ins X K V sk j (s.set18 x) := ⟨h.sk, h.x, h.k, h.v⟩

/-- A store of the triangle keeps what earlier blocks left. -/
theorem Upto.set18 (h : Upto X K V n s) (x : Vec F S256x256 .i32) : Upto X K V n (s.set18 x) := ⟨h.kc, h.ks, h.vc, h.ksr, h.vt⟩

/-- A store of the kept scores keeps the arguments staged. -/
theorem Ins.set19 (h : Ins X K V sk j s) (x : Vec F S2x4x256x256 .f32) : Ins X K V sk j (s.set19 x) := ⟨h.sk, h.x, h.k, h.v⟩

/-- A store of the kept scores keeps what earlier blocks left. -/
theorem Upto.set19 (h : Upto X K V n s) (x : Vec F S2x4x256x256 .f32) : Upto X K V n (s.set19 x) := ⟨h.kc, h.ks, h.vc, h.ksr, h.vt⟩

/-- A store of the kept scores keeps what the first block left. -/
theorem Base.set19 (h : Base V s) (x : Vec F S2x4x256x256 .f32) : Base V (s.set19 x) := ⟨h.vs, h.vinv, h.tri⟩

end Keep

/-- Two windows put at block `j` of both heads extend what is kept by that block. -/
theorem put2_upto {s : Shape} {α : Type} (o : Fin 2 → Fin 16 → Fin s.rank → ℕ) (size : Fin s.rank → ℕ) (w : Fin 2 → Fin 16 → ((a : Fin s.rank) → Fin (size a)) → α)
    (inb : ∀ g j a, o g j a + size a ≤ s.size a)
    (sep : ∀ g j g' j', (g, j) ≠ (g', j') → ∃ a, o g j a + size a ≤ o g' j' a ∨ o g' j' a + size a ≤ o g j a)
    (x : s.Idx → α) (j : Fin 16) (hx : ∀ j' : Fin 16, j'.val < j.val → ∀ g, window x (o g j') size (inb g j') = w g j')
    (j' : Fin 16) (hj' : j'.val < j.val + 1) (g : Fin 2) :
    window (put (put x (o 0 j) size (w 0 j)) (o 1 j) size (w 1 j)) (o g j') size (inb g j') = w g j' := by
  by_cases h1 : (g, j') = (1, j)
  · cases h1; exact VecWindow.window_put_same _ _ _ _ _
  obtain ⟨a, ha⟩ := sep g j' 1 j h1
  rw [VecWindow.window_put_of_disjoint _ _ _ _ _ _ _ a ha]
  by_cases h0 : (g, j') = (0, j)
  · cases h0; exact VecWindow.window_put_same _ _ _ _ _
  obtain ⟨a, ha⟩ := sep g j' 0 j h0
  rw [VecWindow.window_put_of_disjoint _ _ _ _ _ _ _ a ha]
  refine hx j' ?_ g
  rcases Nat.lt_or_ge j'.val j.val with h | h
  · exact h
  · exfalso
    have : j' = j := Fin.ext (by omega)
    subst this
    fin_cases g
    · exact h0 rfl
    · exact h1 rfl

/-- Different blocks of codes do not overlap. -/
theorem rows_sep (g : Fin 2) (j : Fin 16) (g' : Fin 2) (j' : Fin 16) (h : (g, j) ≠ (g', j')) :
    ∃ a, (![0, g.val, 256 * j.val, 0] : Fin 4 → ℕ) a + S1x1x256x128.size a ≤ (![0, g'.val, 256 * j'.val, 0] : Fin 4 → ℕ) a
      ∨ (![0, g'.val, 256 * j'.val, 0] : Fin 4 → ℕ) a + S1x1x256x128.size a ≤ (![0, g.val, 256 * j.val, 0] : Fin 4 → ℕ) a := by
  by_cases hg : g.val = g'.val
  · have : j.val ≠ j'.val := fun e => h (by rw [Fin.ext hg, Fin.ext e])
    exact ⟨2, by show 256 * j.val + 256 ≤ 256 * j'.val ∨ 256 * j'.val + 256 ≤ 256 * j.val; omega⟩
  · exact ⟨1, by show g.val + 1 ≤ g'.val ∨ g'.val + 1 ≤ g.val; omega⟩

/-- Different blocks in a buffer by head and block do not overlap. -/
theorem slot_sep {sz : Fin 4 → ℕ} (h0 : sz 0 = 1) (h1 : sz 1 = 1) (g : Fin 2) (j : Fin 16) (g' : Fin 2) (j' : Fin 16) (h : (g, j) ≠ (g', j')) :
    ∃ a, (![g.val, j.val, 0, 0] : Fin 4 → ℕ) a + sz a ≤ (![g'.val, j'.val, 0, 0] : Fin 4 → ℕ) a
      ∨ (![g'.val, j'.val, 0, 0] : Fin 4 → ℕ) a + sz a ≤ (![g.val, j.val, 0, 0] : Fin 4 → ℕ) a := by
  by_cases hg : g.val = g'.val
  · have : j.val ≠ j'.val := fun e => h (by rw [Fin.ext hg, Fin.ext e])
    exact ⟨1, by show j.val + sz 1 ≤ j'.val ∨ j'.val + sz 1 ≤ j.val; omega⟩
  · exact ⟨0, by show g.val + sz 0 ≤ g'.val ∨ g'.val + sz 0 ≤ g.val; omega⟩

/-- The memrefs of the body are whole buffers. -/
structure Whole (M : Mems) : Prop where
  h2 : M.a2.IsWhole
  h3 : M.a3.IsWhole
  h4 : M.a4.IsWhole
  h5 : M.a5.IsWhole
  h6 : M.a6.IsWhole
  h7 : M.a7.IsWhole
  h8 : M.a8.IsWhole
  h9 : M.a9.IsWhole
  h10 : M.a10.IsWhole
  h11 : M.a11.IsWhole
  h12 : M.a12.IsWhole
  h13 : M.a13.IsWhole
  h14 : M.a14.IsWhole
  h15 : M.a15.IsWhole
  h16 : M.a16.IsWhole
  h17 : M.a17.IsWhole
  h18 : M.a18.IsWhole
  h19 : M.a19.IsWhole

/-- Rows of a buffer at block `j` of key head 0 read as that block. -/
theorem kblk_eq0 (i : grid0.Coords) (j : Fin 16) (hj : j.val = (i 1).val) (K : Vec F S1x4096x256 .bf16) :
    window K (k0_off1 i) S1x256x128.size (k0_off1_inb i) = kblk K 0 j :=
  window_congr rfl (by rw [Gen.k0_off1_eq, ← hj]; rfl) _ _

/-- Rows of a buffer at block `j` of key head 1 read as that block. -/
theorem kblk_eq1 (i : grid0.Coords) (j : Fin 16) (hj : j.val = (i 1).val) (K : Vec F S1x4096x256 .bf16) :
    window K (k0_off5 i) S1x256x128.size (k0_off5_inb i) = kblk K 1 j :=
  window_congr rfl (by rw [Gen.k0_off5_eq, ← hj]; rfl) _ _

/-- The quantisation of a block: from the blocks before it to the blocks up to it, with the query codes and scales. -/
theorem prep_runs (hM : Whole M) (i : grid0.Coords) (j : Fin 16) (hj : j.val = (i 1).val) (X : Fin 16 → Vec F S1x256x1024 .bf16) (K V : Vec F S1x4096x256 .bf16) (sk : Vec F S8 .f32)
    (s : St F) (hI : Ins X K V sk j s) (hU : Upto X K V j.val s) (hB : Base V s) :
    ∃ s', Runs c M E (prepAt i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 M.a19 hM.h19) s ⟨⟩ s'
      ∧ Ins X K V sk j s' ∧ Upto X K V (j.val + 1) s' ∧ Base V s'
      ∧ (∀ h : Fin 8, window s'.b13 ![h.val, 0, 0] S1x256x128.size (qat_inb h) = qcV (X j) h)
      ∧ s'.b14 = cV (X j) K j ∧ s'.b7 = codesB (X j) ∧ s'.b8 = qsV (X j) K j := by
  have hv0 : window s.b17 ![0, 0] S1x128.size inb_S2x128_S1x128_0_0 = vinvV V 0 := hB.vinv 0
  have hk0 := kblk_eq0 (F := F) i j hj
  have hk1 := kblk_eq1 (F := F) i j hj
  have o2 : k0_off2 i = ![0, (0 : Fin 2).val, 256 * j.val, 0] := by rw [Gen.k0_off2_eq, ← hj]; rfl
  have o6 : k0_off6 i = ![0, (1 : Fin 2).val, 256 * j.val, 0] := by rw [Gen.k0_off6_eq, ← hj]; rfl
  have o3 : k0_off3 i = ![(0 : Fin 2).val, j.val, 0, 0] := by rw [Gen.k0_off3_eq, ← hj]; rfl
  have o7 : k0_off7 i = ![(1 : Fin 2).val, j.val, 0, 0] := by rw [Gen.k0_off7_eq, ← hj]; rfl
  have o4 : k0_off4 i = ![(0 : Fin 2).val, j.val, 0, 0] := by rw [Gen.k0_off4_eq, ← hj]; rfl
  have o8 : k0_off8 i = ![(1 : Fin 2).val, j.val, 0, 0] := by rw [Gen.k0_off8_eq, ← hj]; rfl
  have o9 : k0_off9 i = ![0, 0, 256 * j.val] := by rw [Gen.k0_off9_eq, ← hj]
  have r0 := kvStep_runs (c := c) (E := E) (kvat0 M.a9 hM.h9 M.a11 hM.h11 M.a16 hM.h16 i) (broadcast S256x128 (Scalar.ofBits .f32 0x00000000#32)) s
  dsimp only [kvat0] at r0
  rw [hk0, hk0, hv0, hI.k, hI.v] at r0
  generalize hs1 : St.set16 (F := F) _ _ = s1 at r0
  have hI1 : Ins X K V sk j s1 := hs1 ▸ (((hI.set9 _).set15 _).set11 _).set16 _
  have hB1 : Base V s1 := hs1 ▸ (((hB.set9 _).set15 _).set11 _).set16 _
  have hv1 : window s1.b17 ![1, 0] S1x128.size inb_S2x128_S1x128_1_0 = vinvV V 1 := hB1.vinv 1
  have r1 := kvStep_runs (c := c) (E := E) (kvat1 M.a9 hM.h9 M.a11 hM.h11 M.a16 hM.h16 i) (laneSel 8#32 (amaxCol (rowsOf (kblk K 0 j))) (broadcast S256x128 (Scalar.ofBits .f32 0x00000000#32))) s1
  dsimp only [kvat1] at r1
  rw [hk1, hk1, hv1, hI1.k, hI1.v] at r1
  generalize hs2 : St.set16 (F := F) _ _ = s2 at r1
  have hI2 : Ins X K V sk j s2 := hs2 ▸ (((hI1.set9 _).set15 _).set11 _).set16 _
  have r2 := qSteps_runs (c := c) (E := E) (([0, 1, 2, 3, 4, 5, 6, 7] : List (Fin 8)).map (qat M.a13 hM.h13))
    (laneSel 9#32 (amaxCol (rowsOf (kblk K 1 j))) (laneSel 8#32 (amaxCol (rowsOf (kblk K 0 j))) (broadcast S256x128 (Scalar.ofBits .f32 0x00000000#32)))) s2
  rw [hI2.x, List.foldl_map, List.foldl_map] at r2
  have hacc : (([0, 1, 2, 3, 4, 5, 6, 7] : List (Fin 8)).foldl (fun a h => laneSel (qat M.a13 hM.h13 h).n (amaxCol (rowsOf (window (X j) (qat M.a13 hM.h13 h).x S1x256x128.size (qat M.a13 hM.h13 h).hx))) a)
    (laneSel 9#32 (amaxCol (rowsOf (kblk K 1 j))) (laneSel 8#32 (amaxCol (rowsOf (kblk K 0 j))) (broadcast S256x128 (Scalar.ofBits .f32 0x00000000#32))))) = accV (X j) K j := rfl
  rw [hacc] at r2
  generalize hs3 : St.set13 (F := F) _ _ = s3 at r2
  have r3 := putScales_runs (c := c) (M := M) (E := E) (k0_off9 i) (k0_off9_inb i) (scales (accV (X j) K j)) s3
  generalize hs4 : St.set14 (F := F) _ _ = s4 at r3
  have hq : ∀ h : Fin 8, window s4.b13 ![h.val, 0, 0] S1x256x128.size (qat_inb h) = qcV (X j) h := fun h => by
    rw [← hs4, ← hs3]
    exact window_foldl (s := S8x256x128) (fun h : Fin 8 => ![h.val, 0, 0]) S1x256x128.size (fun h => qcV (X j) h) qat_inb [0, 1, 2, 3, 4, 5, 6, 7] (by decide)
      (fun a b hab => ⟨0, by show a.val + 1 ≤ b.val ∨ b.val + 1 ≤ a.val; have : a.val ≠ b.val := fun e => hab (Fin.ext e); omega⟩) s2.b13 h (by revert h; decide)
  have r4 := fun hst => putCodes_runs (F := F) (c := c) (M := M) (E := E) hst s4
  have hc : codesV s4.b13 = codesB (X j) := by
    unfold codesV codesB
    have e0 := hq 0; have e1 := hq 1; have e2 := hq 2; have e3 := hq 3; have e4 := hq 4; have e5 := hq 5; have e6 := hq 6; have e7 := hq 7
    erw [e0, e1, e2, e3, e4, e5, e6, e7]
  rw [hc] at r4
  refine ⟨s4.set7 (codesB (X j)), ?_, ?_, ?_, ?_, hq, ?_, rfl, ?_⟩
  · unfold prepAt prep
    exact r0.bind (r1.bind (r2.bind (r3.bind (r4 _))))
  · subst hs4 hs3 hs2 hs1; exact (((((((((((((hI.set9 _).set15 _).set11 _).set16 _).set9 _).set15 _).set11 _).set16 _).set13 _).set8 _).set10 _).set14 _).set7 _)
  · subst hs4 hs3 hs2 hs1
    refine ⟨?_, ?_, ?_, ?_, ?_⟩
    · show KcUpto K (j.val + 1) (put (put s.b9 (k0_off2 i) S1x1x256x128.size (kcV K 0 j)) (k0_off6 i) S1x1x256x128.size (kcV K 1 j))
      rw [o2, o6]
      exact put2_upto (s := S1x2x4096x128) (fun g j => ![0, g.val, 256 * j.val, 0]) S1x1x256x128.size (fun g j => kcV K g j) rows_inb rows_sep s.b9 j hU.kc
    · intro j' hj'
      show window (put s.b10 (k0_off9 i) S1x2x256.size (ksV (X j) K j)) _ _ _ = _
      rw [o9]
      by_cases h : j' = j
      · subst h; exact VecWindow.window_put_same _ _ _ _ _
      · have : j'.val ≠ j.val := fun e => h (Fin.ext e)
        rw [VecWindow.window_put_of_disjoint _ _ _ _ _ _ _ 2 (by show 256 * j'.val + 256 ≤ 256 * j.val ∨ 256 * j.val + 256 ≤ 256 * j'.val; omega)]
        exact hU.ks j' (by omega)
    · show VcUpto V (j.val + 1) (put (put s.b11 (k0_off2 i) S1x1x256x128.size (vcV V 0 j)) (k0_off6 i) S1x1x256x128.size (vcV V 1 j))
      rw [o2, o6]
      exact put2_upto (s := S1x2x4096x128) (fun g j => ![0, g.val, 256 * j.val, 0]) S1x1x256x128.size (fun g j => vcV V g j) rows_inb rows_sep s.b11 j hU.vc
    · show KsrUpto K (j.val + 1) (put (put s.b15 (k0_off3 i) S1x1x256x128.size (ksrV K 0 j)) (k0_off7 i) S1x1x256x128.size (ksrV K 1 j))
      rw [o3, o7]
      exact put2_upto (s := S2x16x256x128) (fun g j => ![g.val, j.val, 0, 0]) S1x1x256x128.size (fun g j => ksrV K g j) ksr_inb (slot_sep rfl rfl) s.b15 j hU.ksr
    · show VtUpto V (j.val + 1) (put (put s.b16 (k0_off4 i) S1x1x128x256.size (vtV V 0 j)) (k0_off8 i) S1x1x128x256.size (vtV V 1 j))
      rw [o4, o8]
      exact put2_upto (s := S2x16x128x256) (fun g j => ![g.val, j.val, 0, 0]) S1x1x128x256.size (fun g j => vtV V g j) vt_inb (slot_sep rfl rfl) s.b16 j hU.vt
  · subst hs4 hs3 hs2 hs1; exact (((((((((((((hB.set9 _).set15 _).set11 _).set16 _).set9 _).set15 _).set11 _).set16 _).set13 _).set8 _).set10 _).set14 _).set7 _)
  · subst hs4; rfl
  · subst hs4; rfl

/-- The first block's own work: the value scales and the mask. -/
theorem init_base (X : Fin 16 → Vec F S1x256x1024 .bf16) (K V : Vec F S1x4096x256 .bf16) (sk : Vec F S8 .f32) (j : Fin 16) (s : St F) (hI : Ins X K V sk j s) (hU : Upto X K V j.val s) :
    ∃ s', Runs c M E (init M.a5 M.a12 M.a17 M.a18 (vat 0) (vat 1)) s ⟨⟩ s' ∧ Ins X K V sk j s' ∧ Upto X K V j.val s' ∧ Base V s' := by
  obtain ⟨s1, s2, -, -, hr, h1, h2⟩ := init_runs (c := c) (M := M) (E := E) (vat 0) (vat 1) s
  refine ⟨_, hr, ?_, ?_, ?_⟩
  · subst h2 h1; exact (((((hI.set12 _).set17 _).set12 _).set17 _).set18 _)
  · subst h2 h1; exact (((((hU.set12 _).set17 _).set12 _).set17 _).set18 _)
  · have e5 := hI.v
    refine ⟨?_, ?_, ?_⟩
    · have e : (s2.set18 (shapeCast S256x256 triV shapeCasts_S256x256_S256x256 : IVec S256x256 32)).b12 = ([0, 1] : List (Fin 2)).foldl (fun b g => put (s := S1x2x128) b ![0, g.val, 0] S1x1x128.size (vsV V g)) s.b12 := by
        rw [h2, h1, ← e5]; rfl
      rw [e]
      intro g
      exact window_foldl (s := S1x2x128) (fun g : Fin 2 => ![0, g.val, 0]) S1x1x128.size (fun g => vsV V g) vs_inb [0, 1] (by decide)
        (fun a b hab => ⟨1, by show a.val + 1 ≤ b.val ∨ b.val + 1 ≤ a.val; have : a.val ≠ b.val := fun e => hab (Fin.ext e); omega⟩) s.b12 g (by revert g; decide)
    · have e : (s2.set18 (shapeCast S256x256 triV shapeCasts_S256x256_S256x256 : IVec S256x256 32)).b17 = ([0, 1] : List (Fin 2)).foldl (fun b g => put (s := S2x128) b ![g.val, 0] S1x128.size (vinvV V g)) s.b17 := by
        rw [h2, h1, ← e5]; rfl
      rw [e]
      intro g
      exact window_foldl (s := S2x128) (fun g : Fin 2 => ![g.val, 0]) S1x128.size (fun g => vinvV V g) vinv_inb [0, 1] (by decide)
        (fun a b hab => ⟨0, by show a.val + 1 ≤ b.val ∨ b.val + 1 ≤ a.val; have : a.val ≠ b.val := fun e => hab (Fin.ext e); omega⟩) s.b17 g (by revert g; decide)
    · rfl

/-- A tile at a block kept so far holds that block. -/
theorem tileOf_eq (X : Fin 16 → Vec F S1x256x1024 .bf16) (K V : Vec F S1x4096x256 .bf16) (n : ℕ) (s : St F) (hU : Upto X K V n s) (T : Tile) (g : Fin 2) (j : Fin 16) (hj : j.val < n)
    (h1 : T.kc = ![0, g.val, 256 * j.val, 0]) (h2 : T.ks = ![g.val, j.val, 0, 0]) (h3 : T.vt = ![g.val, j.val, 0, 0]) : tileOf s T = tv K V g j := by
  unfold tileOf tv
  rw [← hU.kc j hj g, ← hU.ksr j hj g, ← hU.vt j hj g]
  congr 1
  · exact window_congr rfl h1 _ _
  · exact window_congr rfl h2 _ _
  · exact window_congr rfl h3 _ _

/-- The attention of a block, its tiles given by head. -/
theorem attend_block (h6 : M.a6.IsWhole) (X : Fin 16 → Vec F S1x256x1024 .bf16) (K V : Vec F S1x4096x256 .bf16) (sk : Vec F S8 .f32) (j : Fin 16)
    (L : Fin 8 → Option Tile) (T : Fin 8 → Tile) (Ts : Fin 8 → List Tile) (s : St F) (hI : Ins X K V sk j s) (hB : Base V s)
    (hq : ∀ h : Fin 8, window s.b13 ![h.val, 0, 0] S1x256x128.size (qat_inb h) = qcV (X j) h) (hc : s.b14 = cV (X j) K j)
    (hap : ∀ h, (T h :: Ts h).Pairwise Apart)
    (hL : ∀ h, (L h).map (tileOf s) = leftTv K V (grp h) j) (hT : ∀ h, tileOf s (T h) = tv K V (grp h) j) (hTs : ∀ h, (Ts h).map (tileOf s) = restTv K V (grp h) j) :
    ∃ y b, Runs c M E (attend M.a2 M.a6 M.a9 M.a12 M.a13 M.a14 M.a15 M.a16 M.a19 M.a18 (([0, 1, 2, 3, 4, 5, 6, 7] : List (Fin 8)).map fun h => (hd M.a6 h6 h, L h, T h, Ts h))) s ⟨⟩ ((s.set19 y).set6 b)
      ∧ OutDone (X j) K V sk j b := by
  obtain ⟨y, hy⟩ := attend_runs (c := c) (M := M) (E := E) (([0, 1, 2, 3, 4, 5, 6, 7] : List (Fin 8)).map fun h => (hd M.a6 h6 h, L h, T h, Ts h))
    (fun x hx => by obtain ⟨h, -, rfl⟩ := List.mem_map.mp hx; exact hap h) s
  refine ⟨y, _, hy, fun h => ?_⟩
  rw [List.foldl_map]
  refine (window_foldl (s := S1x256x1024) (fun h : Fin 8 => ![0, 0, 128 * h.val]) S1x256x128.size (fun h => headOut s s.b18 (hd M.a6 h6 h, L h, T h, Ts h)) hd_inb [0, 1, 2, 3, 4, 5, 6, 7] (by decide)
      (fun a b hab => ⟨2, by show 128 * a.val + 128 ≤ 128 * b.val ∨ 128 * b.val + 128 ≤ 128 * a.val; have : a.val ≠ b.val := fun e => hab (Fin.ext e); omega⟩) s.b6 h (by revert h; decide)).trans ?_
  unfold headOut outB
  dsimp only
  rw [hL, hT, hTs, hB.tri]
  have e1 : window s.b13 (hd M.a6 h6 h).q S1x256x128.size (hd M.a6 h6 h).hq = qcV (X j) h := hq h
  have e2 : window s.b14 (hd M.a6 h6 h).c S1x256.size (hd M.a6 h6 h).hc = cRow (X j) K j h := window_congr hc rfl _ _
  have e3 : window s.b12 (hd M.a6 h6 h).v S1x1x128.size (hd M.a6 h6 h).hv = vsV V (grp h) := hB.vs (grp h)
  have e4 : window s.b2 (hd M.a6 h6 h).s S1.size (hd M.a6 h6 h).hs = window sk (hd M.a6 h6 h).s S1.size (hd M.a6 h6 h).hs := window_congr hI.sk rfl _ _
  rw [e1, e2, e3, e4]
  rfl

end Cert.Kernel.Model

end
-- ==== Proof.Printed.ModelEq0.lean ====
/- For the kernel as printed: The printed kernel body at block 0 of a batch is the structured program `Model.body0`. -/
module

public import proofs.«01_k».proof.Proof.Printed.Body
public import Idealize.ShloMosaic.Lib.Tactic

public section

set_option synthInstance.maxSize 4096

noncomputable section

namespace Cert.Kernel.Model

open Idealize.ShloMosaic Idealize.SL.Sem

variable {F : FTy → Type} [FloatOps F]
variable [Facts]
open Facts₀ Facts

/-- The printed body at block 0 of a batch. -/
theorem body0_eq (i : grid0.Coords) (h : k0_cond2 i = 1#1) (h1 : k0_cond1 i = 1#1) (n1 : ¬ k0_cond3 i = 1#1) (n2 : ¬ k0_cond4 i = 1#1) (n3 : ¬ k0_cond5 i = 1#1) (n4 : ¬ k0_cond6 i = 1#1) (arg2 : Memref sig .tc .smem S8 .f32) (harg2 : arg2.IsWhole) (arg3 : Memref sig .tc .vmem S1x256x1024 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x1024 .bf16) (harg6 : arg6.IsWhole) (arg7 : Memref sig .tc .vmem S1x256x8x128 .fp8e4m3) (harg7 : arg7.IsWhole) (arg8 : Memref sig .tc .vmem S1x8x256 .f32) (harg8 : arg8.IsWhole) (arg9 : Memref sig .tc .vmem S1x2x4096x128 .fp8e4m3) (harg9 : arg9.IsWhole) (arg10 : Memref sig .tc .vmem S1x2x4096 .f32) (harg10 : arg10.IsWhole) (arg11 : Memref sig .tc .vmem S1x2x4096x128 .fp8e4m3) (harg11 : arg11.IsWhole) (arg12 : Memref sig .tc .vmem S1x2x128 .f32) (harg12 : arg12.IsWhole) (arg13 : Memref sig .tc .vmem S8x256x128 .fp8e4m3) (harg13 : arg13.IsWhole) (arg14 : Memref sig .tc .vmem S8x256 .f32) (harg14 : arg14.IsWhole) (arg15 : Memref sig .tc .vmem S2x16x256x128 .f32) (harg15 : arg15.IsWhole) (arg16 : Memref sig .tc .vmem S2x16x128x256 .fp8e4m3) (harg16 : arg16.IsWhole) (arg17 : Memref sig .tc .vmem S2x128 .f32) (harg17 : arg17.IsWhole) (arg18 : Memref sig .tc .vmem S256x256 .i32) (harg18 : arg18.IsWhole) (arg19 : Memref sig .tc .vmem S2x4x256x256 .f32) (harg19 : arg19.IsWhole) :
    cc0_fp8_swa (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = body0 i h arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 := by
  unfold cc0_fp8_swa k0_part198
  simp only [dif_pos h, dif_pos h1, dif_neg n1, dif_neg n2, dif_neg n3, dif_neg n4]
  sl_kernel_rfl

end Cert.Kernel.Model

end
-- ==== Proof.Printed.ModelEq1.lean ====
/- For the kernel as printed: The printed kernel body at block 1 of a batch is the structured program `Model.body1`. -/
module

public import proofs.«01_k».proof.Proof.Printed.Body
public import Idealize.ShloMosaic.Lib.Tactic

public section

set_option synthInstance.maxSize 4096

noncomputable section

namespace Cert.Kernel.Model

open Idealize.ShloMosaic Idealize.SL.Sem

variable {F : FTy → Type} [FloatOps F]
variable [Facts]
open Facts₀ Facts

/-- The printed body at block 1 of a batch. -/
theorem body1_eq (i : grid0.Coords) (h : k0_cond3 i = 1#1) (h1 : ¬ k0_cond1 i = 1#1) (n0 : ¬ k0_cond2 i = 1#1) (n2 : ¬ k0_cond4 i = 1#1) (n3 : ¬ k0_cond5 i = 1#1) (n4 : ¬ k0_cond6 i = 1#1) (arg2 : Memref sig .tc .smem S8 .f32) (harg2 : arg2.IsWhole) (arg3 : Memref sig .tc .vmem S1x256x1024 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x1024 .bf16) (harg6 : arg6.IsWhole) (arg7 : Memref sig .tc .vmem S1x256x8x128 .fp8e4m3) (harg7 : arg7.IsWhole) (arg8 : Memref sig .tc .vmem S1x8x256 .f32) (harg8 : arg8.IsWhole) (arg9 : Memref sig .tc .vmem S1x2x4096x128 .fp8e4m3) (harg9 : arg9.IsWhole) (arg10 : Memref sig .tc .vmem S1x2x4096 .f32) (harg10 : arg10.IsWhole) (arg11 : Memref sig .tc .vmem S1x2x4096x128 .fp8e4m3) (harg11 : arg11.IsWhole) (arg12 : Memref sig .tc .vmem S1x2x128 .f32) (harg12 : arg12.IsWhole) (arg13 : Memref sig .tc .vmem S8x256x128 .fp8e4m3) (harg13 : arg13.IsWhole) (arg14 : Memref sig .tc .vmem S8x256 .f32) (harg14 : arg14.IsWhole) (arg15 : Memref sig .tc .vmem S2x16x256x128 .f32) (harg15 : arg15.IsWhole) (arg16 : Memref sig .tc .vmem S2x16x128x256 .fp8e4m3) (harg16 : arg16.IsWhole) (arg17 : Memref sig .tc .vmem S2x128 .f32) (harg17 : arg17.IsWhole) (arg18 : Memref sig .tc .vmem S256x256 .i32) (harg18 : arg18.IsWhole) (arg19 : Memref sig .tc .vmem S2x4x256x256 .f32) (harg19 : arg19.IsWhole) :
    cc0_fp8_swa (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = body1 i h arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 := by
  unfold cc0_fp8_swa k0_part198
  simp only [dif_pos h, dif_neg h1, dif_neg n0, dif_neg n2, dif_neg n3, dif_neg n4]
  sl_kernel_rfl

end Cert.Kernel.Model

end
-- ==== Proof.Printed.ModelEq2.lean ====
/- For the kernel as printed: The printed kernel body at block 2 of a batch is the structured program `Model.body2`. -/
module

public import proofs.«01_k».proof.Proof.Printed.Body
public import Idealize.ShloMosaic.Lib.Tactic

public section

set_option synthInstance.maxSize 4096

noncomputable section

namespace Cert.Kernel.Model

open Idealize.ShloMosaic Idealize.SL.Sem

variable {F : FTy → Type} [FloatOps F]
variable [Facts]
open Facts₀ Facts

/-- The printed body at block 2 of a batch. -/
theorem body2_eq (i : grid0.Coords) (h : k0_cond4 i = 1#1) (h1 : ¬ k0_cond1 i = 1#1) (n0 : ¬ k0_cond2 i = 1#1) (n1 : ¬ k0_cond3 i = 1#1) (n3 : ¬ k0_cond5 i = 1#1) (n4 : ¬ k0_cond6 i = 1#1) (arg2 : Memref sig .tc .smem S8 .f32) (harg2 : arg2.IsWhole) (arg3 : Memref sig .tc .vmem S1x256x1024 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x1024 .bf16) (harg6 : arg6.IsWhole) (arg7 : Memref sig .tc .vmem S1x256x8x128 .fp8e4m3) (harg7 : arg7.IsWhole) (arg8 : Memref sig .tc .vmem S1x8x256 .f32) (harg8 : arg8.IsWhole) (arg9 : Memref sig .tc .vmem S1x2x4096x128 .fp8e4m3) (harg9 : arg9.IsWhole) (arg10 : Memref sig .tc .vmem S1x2x4096 .f32) (harg10 : arg10.IsWhole) (arg11 : Memref sig .tc .vmem S1x2x4096x128 .fp8e4m3) (harg11 : arg11.IsWhole) (arg12 : Memref sig .tc .vmem S1x2x128 .f32) (harg12 : arg12.IsWhole) (arg13 : Memref sig .tc .vmem S8x256x128 .fp8e4m3) (harg13 : arg13.IsWhole) (arg14 : Memref sig .tc .vmem S8x256 .f32) (harg14 : arg14.IsWhole) (arg15 : Memref sig .tc .vmem S2x16x256x128 .f32) (harg15 : arg15.IsWhole) (arg16 : Memref sig .tc .vmem S2x16x128x256 .fp8e4m3) (harg16 : arg16.IsWhole) (arg17 : Memref sig .tc .vmem S2x128 .f32) (harg17 : arg17.IsWhole) (arg18 : Memref sig .tc .vmem S256x256 .i32) (harg18 : arg18.IsWhole) (arg19 : Memref sig .tc .vmem S2x4x256x256 .f32) (harg19 : arg19.IsWhole) :
    cc0_fp8_swa (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = body2 i h arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 := by
  unfold cc0_fp8_swa k0_part198
  simp only [dif_pos h, dif_neg h1, dif_neg n0, dif_neg n1, dif_neg n3, dif_neg n4]
  sl_kernel_rfl

end Cert.Kernel.Model

end
-- ==== Proof.Printed.ModelEq3.lean ====
/- For the kernel as printed: The printed kernel body at block 3 of a batch is the structured program `Model.body3`. -/
module

public import proofs.«01_k».proof.Proof.Printed.Body
public import Idealize.ShloMosaic.Lib.Tactic

public section

set_option synthInstance.maxSize 4096

noncomputable section

namespace Cert.Kernel.Model

open Idealize.ShloMosaic Idealize.SL.Sem

variable {F : FTy → Type} [FloatOps F]
variable [Facts]
open Facts₀ Facts

/-- The printed body at block 3 of a batch. -/
theorem body3_eq (i : grid0.Coords) (h : k0_cond5 i = 1#1) (h1 : ¬ k0_cond1 i = 1#1) (n0 : ¬ k0_cond2 i = 1#1) (n1 : ¬ k0_cond3 i = 1#1) (n2 : ¬ k0_cond4 i = 1#1) (n4 : ¬ k0_cond6 i = 1#1) (arg2 : Memref sig .tc .smem S8 .f32) (harg2 : arg2.IsWhole) (arg3 : Memref sig .tc .vmem S1x256x1024 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x1024 .bf16) (harg6 : arg6.IsWhole) (arg7 : Memref sig .tc .vmem S1x256x8x128 .fp8e4m3) (harg7 : arg7.IsWhole) (arg8 : Memref sig .tc .vmem S1x8x256 .f32) (harg8 : arg8.IsWhole) (arg9 : Memref sig .tc .vmem S1x2x4096x128 .fp8e4m3) (harg9 : arg9.IsWhole) (arg10 : Memref sig .tc .vmem S1x2x4096 .f32) (harg10 : arg10.IsWhole) (arg11 : Memref sig .tc .vmem S1x2x4096x128 .fp8e4m3) (harg11 : arg11.IsWhole) (arg12 : Memref sig .tc .vmem S1x2x128 .f32) (harg12 : arg12.IsWhole) (arg13 : Memref sig .tc .vmem S8x256x128 .fp8e4m3) (harg13 : arg13.IsWhole) (arg14 : Memref sig .tc .vmem S8x256 .f32) (harg14 : arg14.IsWhole) (arg15 : Memref sig .tc .vmem S2x16x256x128 .f32) (harg15 : arg15.IsWhole) (arg16 : Memref sig .tc .vmem S2x16x128x256 .fp8e4m3) (harg16 : arg16.IsWhole) (arg17 : Memref sig .tc .vmem S2x128 .f32) (harg17 : arg17.IsWhole) (arg18 : Memref sig .tc .vmem S256x256 .i32) (harg18 : arg18.IsWhole) (arg19 : Memref sig .tc .vmem S2x4x256x256 .f32) (harg19 : arg19.IsWhole) :
    cc0_fp8_swa (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = body3 i h arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 := by
  unfold cc0_fp8_swa k0_part198
  simp only [dif_pos h, dif_neg h1, dif_neg n0, dif_neg n1, dif_neg n2, dif_neg n4]
  sl_kernel_rfl

end Cert.Kernel.Model

end
-- ==== Proof.Printed.ModelEq4.lean ====
/- For the kernel as printed: The printed kernel body at a later block of a batch is the structured program `Model.body4`. -/
module

public import proofs.«01_k».proof.Proof.Printed.Body
public import Idealize.ShloMosaic.Lib.Tactic

public section

set_option synthInstance.maxSize 4096

noncomputable section

namespace Cert.Kernel.Model

open Idealize.ShloMosaic Idealize.SL.Sem

variable {F : FTy → Type} [FloatOps F]
variable [Facts]
open Facts₀ Facts

/-- The printed body at a later block of a batch. -/
theorem body4_eq (i : grid0.Coords) (h : k0_cond6 i = 1#1) (h1 : ¬ k0_cond1 i = 1#1) (n0 : ¬ k0_cond2 i = 1#1) (n1 : ¬ k0_cond3 i = 1#1) (n2 : ¬ k0_cond4 i = 1#1) (n3 : ¬ k0_cond5 i = 1#1) (arg2 : Memref sig .tc .smem S8 .f32) (harg2 : arg2.IsWhole) (arg3 : Memref sig .tc .vmem S1x256x1024 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x1024 .bf16) (harg6 : arg6.IsWhole) (arg7 : Memref sig .tc .vmem S1x256x8x128 .fp8e4m3) (harg7 : arg7.IsWhole) (arg8 : Memref sig .tc .vmem S1x8x256 .f32) (harg8 : arg8.IsWhole) (arg9 : Memref sig .tc .vmem S1x2x4096x128 .fp8e4m3) (harg9 : arg9.IsWhole) (arg10 : Memref sig .tc .vmem S1x2x4096 .f32) (harg10 : arg10.IsWhole) (arg11 : Memref sig .tc .vmem S1x2x4096x128 .fp8e4m3) (harg11 : arg11.IsWhole) (arg12 : Memref sig .tc .vmem S1x2x128 .f32) (harg12 : arg12.IsWhole) (arg13 : Memref sig .tc .vmem S8x256x128 .fp8e4m3) (harg13 : arg13.IsWhole) (arg14 : Memref sig .tc .vmem S8x256 .f32) (harg14 : arg14.IsWhole) (arg15 : Memref sig .tc .vmem S2x16x256x128 .f32) (harg15 : arg15.IsWhole) (arg16 : Memref sig .tc .vmem S2x16x128x256 .fp8e4m3) (harg16 : arg16.IsWhole) (arg17 : Memref sig .tc .vmem S2x128 .f32) (harg17 : arg17.IsWhole) (arg18 : Memref sig .tc .vmem S256x256 .i32) (harg18 : arg18.IsWhole) (arg19 : Memref sig .tc .vmem S2x4x256x256 .f32) (harg19 : arg19.IsWhole) :
    cc0_fp8_swa (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = body4 i h arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 := by
  unfold cc0_fp8_swa k0_part198
  simp only [dif_pos h, dif_neg h1, dif_neg n0, dif_neg n1, dif_neg n2, dif_neg n3]
  sl_kernel_rfl

end Cert.Kernel.Model

end
-- ==== Proof.Printed.Point.lean ====
/- For the kernel as printed: What the body leaves in the buffers at each grid point, case by case of how many blocks lie before its own. -/
module

public import proofs.«01_k».proof.Proof.Printed.Block
public import proofs.«01_k».proof.Proof.Printed.ModelEq0
public import proofs.«01_k».proof.Proof.Printed.ModelEq1
public import proofs.«01_k».proof.Proof.Printed.ModelEq2
public import proofs.«01_k».proof.Proof.Printed.ModelEq3
public import proofs.«01_k».proof.Proof.Printed.ModelEq4

@[expose] public section

set_option synthInstance.maxSize 4096

noncomputable section

namespace Cert.Kernel.Model

open Idealize.ShloMosaic Idealize.ShloMosaic.TcCoe Idealize.ShloMosaic.Tactic
open Idealize.SL Idealize.SL.RA Idealize.SL.BI
open Idealize.SL.Sem
open VecWindow (window put)
open Facts₀ Facts

variable {F : FTy → Type} [FloatOps F]
variable {c : Dev nD} {M : Mems} {E : Set ℕ}

/-! ## The conditions and offsets in closed form -/

/-- The condition of the start holds where the block is the first of its batch. -/
theorem cond1_iff : ∀ i : grid0.Coords, k0_cond1 i = 1#1 ↔ (i 1).val = 0 := by decide +kernel

/-- The condition of the branch holds where the block is the first of its batch. -/
theorem cond2_iff : ∀ i : grid0.Coords, k0_cond2 i = 1#1 ↔ (i 1).val = 0 := by decide +kernel

/-- The condition of the branch holds where the block is the second of its batch. -/
theorem cond3_iff : ∀ i : grid0.Coords, k0_cond3 i = 1#1 ↔ (i 1).val = 1 := by decide +kernel

/-- The condition of the branch holds where the block is the third of its batch. -/
theorem cond4_iff : ∀ i : grid0.Coords, k0_cond4 i = 1#1 ↔ (i 1).val = 2 := by decide +kernel

/-- The condition of the branch holds where the block is the fourth of its batch. -/
theorem cond5_iff : ∀ i : grid0.Coords, k0_cond5 i = 1#1 ↔ (i 1).val = 3 := by decide +kernel

/-- The condition of the branch holds where the block has four blocks before it. -/
theorem cond6_iff : ∀ i : grid0.Coords, k0_cond6 i = 1#1 ↔ 4 ≤ (i 1).val := by decide +kernel

/-- Where the key codes of key head 0 lie, `r` blocks before the point's. -/
theorem off16_eq : ∀ i : grid0.Coords, k0_cond3 i = 1#1 → ∀ r : Fin 2, k0_off16 i (BitVec.ofNat 32 r.val) = ![0, 0, 256 * ((i 1).val - r.val), 0] := by decide +kernel

/-- Where the key scales of key head 0 lie, `r` blocks before the point's. -/
theorem off17_eq : ∀ i : grid0.Coords, k0_cond3 i = 1#1 → ∀ r : Fin 2, k0_off17 i (BitVec.ofNat 32 r.val) = ![0, (i 1).val - r.val, 0, 0] := by decide +kernel

/-- Where the transposed value codes of key head 0 lie, `r` blocks before the point's. -/
theorem off18_eq : ∀ i : grid0.Coords, k0_cond3 i = 1#1 → ∀ r : Fin 2, k0_off18 i (BitVec.ofNat 32 r.val) = ![0, (i 1).val - r.val, 0, 0] := by decide +kernel

/-- Where the key codes of key head 1 lie, `r` blocks before the point's. -/
theorem off19_eq : ∀ i : grid0.Coords, k0_cond3 i = 1#1 → ∀ r : Fin 2, k0_off19 i (BitVec.ofNat 32 r.val) = ![0, 1, 256 * ((i 1).val - r.val), 0] := by decide +kernel

/-- Where the key scales of key head 1 lie, `r` blocks before the point's. -/
theorem off20_eq : ∀ i : grid0.Coords, k0_cond3 i = 1#1 → ∀ r : Fin 2, k0_off20 i (BitVec.ofNat 32 r.val) = ![1, (i 1).val - r.val, 0, 0] := by decide +kernel

/-- Where the transposed value codes of key head 1 lie, `r` blocks before the point's. -/
theorem off21_eq : ∀ i : grid0.Coords, k0_cond3 i = 1#1 → ∀ r : Fin 2, k0_off21 i (BitVec.ofNat 32 r.val) = ![1, (i 1).val - r.val, 0, 0] := by decide +kernel

/-- Where the key codes of key head 0 lie, `r` blocks before the point's. -/
theorem off22_eq : ∀ i : grid0.Coords, k0_cond4 i = 1#1 → ∀ r : Fin 3, k0_off22 i (BitVec.ofNat 32 r.val) = ![0, 0, 256 * ((i 1).val - r.val), 0] := by decide +kernel

/-- Where the key scales of key head 0 lie, `r` blocks before the point's. -/
theorem off23_eq : ∀ i : grid0.Coords, k0_cond4 i = 1#1 → ∀ r : Fin 3, k0_off23 i (BitVec.ofNat 32 r.val) = ![0, (i 1).val - r.val, 0, 0] := by decide +kernel

/-- Where the transposed value codes of key head 0 lie, `r` blocks before the point's. -/
theorem off24_eq : ∀ i : grid0.Coords, k0_cond4 i = 1#1 → ∀ r : Fin 3, k0_off24 i (BitVec.ofNat 32 r.val) = ![0, (i 1).val - r.val, 0, 0] := by decide +kernel

/-- Where the key codes of key head 1 lie, `r` blocks before the point's. -/
theorem off25_eq : ∀ i : grid0.Coords, k0_cond4 i = 1#1 → ∀ r : Fin 3, k0_off25 i (BitVec.ofNat 32 r.val) = ![0, 1, 256 * ((i 1).val - r.val), 0] := by decide +kernel

/-- Where the key scales of key head 1 lie, `r` blocks before the point's. -/
theorem off26_eq : ∀ i : grid0.Coords, k0_cond4 i = 1#1 → ∀ r : Fin 3, k0_off26 i (BitVec.ofNat 32 r.val) = ![1, (i 1).val - r.val, 0, 0] := by decide +kernel

/-- Where the transposed value codes of key head 1 lie, `r` blocks before the point's. -/
theorem off27_eq : ∀ i : grid0.Coords, k0_cond4 i = 1#1 → ∀ r : Fin 3, k0_off27 i (BitVec.ofNat 32 r.val) = ![1, (i 1).val - r.val, 0, 0] := by decide +kernel

/-- Where the key codes of key head 0 lie, `r` blocks before the point's. -/
theorem off28_eq : ∀ i : grid0.Coords, k0_cond5 i = 1#1 → ∀ r : Fin 4, k0_off28 i (BitVec.ofNat 32 r.val) = ![0, 0, 256 * ((i 1).val - r.val), 0] := by decide +kernel

/-- Where the key scales of key head 0 lie, `r` blocks before the point's. -/
theorem off29_eq : ∀ i : grid0.Coords, k0_cond5 i = 1#1 → ∀ r : Fin 4, k0_off29 i (BitVec.ofNat 32 r.val) = ![0, (i 1).val - r.val, 0, 0] := by decide +kernel

/-- Where the transposed value codes of key head 0 lie, `r` blocks before the point's. -/
theorem off30_eq : ∀ i : grid0.Coords, k0_cond5 i = 1#1 → ∀ r : Fin 4, k0_off30 i (BitVec.ofNat 32 r.val) = ![0, (i 1).val - r.val, 0, 0] := by decide +kernel

/-- Where the key codes of key head 1 lie, `r` blocks before the point's. -/
theorem off31_eq : ∀ i : grid0.Coords, k0_cond5 i = 1#1 → ∀ r : Fin 4, k0_off31 i (BitVec.ofNat 32 r.val) = ![0, 1, 256 * ((i 1).val - r.val), 0] := by decide +kernel

/-- Where the key scales of key head 1 lie, `r` blocks before the point's. -/
theorem off32_eq : ∀ i : grid0.Coords, k0_cond5 i = 1#1 → ∀ r : Fin 4, k0_off32 i (BitVec.ofNat 32 r.val) = ![1, (i 1).val - r.val, 0, 0] := by decide +kernel

/-- Where the transposed value codes of key head 1 lie, `r` blocks before the point's. -/
theorem off33_eq : ∀ i : grid0.Coords, k0_cond5 i = 1#1 → ∀ r : Fin 4, k0_off33 i (BitVec.ofNat 32 r.val) = ![1, (i 1).val - r.val, 0, 0] := by decide +kernel

/-- Where the key codes of key head 0 lie, `r` blocks before the point's. -/
theorem off34_eq : ∀ i : grid0.Coords, k0_cond6 i = 1#1 → ∀ r : Fin 5, k0_off34 i (BitVec.ofNat 32 r.val) = ![0, 0, 256 * ((i 1).val - r.val), 0] := by decide +kernel

/-- Where the key scales of key head 0 lie, `r` blocks before the point's. -/
theorem off35_eq : ∀ i : grid0.Coords, k0_cond6 i = 1#1 → ∀ r : Fin 5, k0_off35 i (BitVec.ofNat 32 r.val) = ![0, (i 1).val - r.val, 0, 0] := by decide +kernel

/-- Where the transposed value codes of key head 0 lie, `r` blocks before the point's. -/
theorem off36_eq : ∀ i : grid0.Coords, k0_cond6 i = 1#1 → ∀ r : Fin 5, k0_off36 i (BitVec.ofNat 32 r.val) = ![0, (i 1).val - r.val, 0, 0] := by decide +kernel

/-- Where the key codes of key head 1 lie, `r` blocks before the point's. -/
theorem off37_eq : ∀ i : grid0.Coords, k0_cond6 i = 1#1 → ∀ r : Fin 5, k0_off37 i (BitVec.ofNat 32 r.val) = ![0, 1, 256 * ((i 1).val - r.val), 0] := by decide +kernel

/-- Where the key scales of key head 1 lie, `r` blocks before the point's. -/
theorem off38_eq : ∀ i : grid0.Coords, k0_cond6 i = 1#1 → ∀ r : Fin 5, k0_off38 i (BitVec.ofNat 32 r.val) = ![1, (i 1).val - r.val, 0, 0] := by decide +kernel

/-- Where the transposed value codes of key head 1 lie, `r` blocks before the point's. -/
theorem off39_eq : ∀ i : grid0.Coords, k0_cond6 i = 1#1 → ∀ r : Fin 5, k0_off39 i (BitVec.ofNat 32 r.val) = ![1, (i 1).val - r.val, 0, 0] := by decide +kernel

/-- The key head's choice for a query head. -/
def pick {α : Type} (h : Fin 8) (a b : α) : α := if h.val < 4 then a else b

/-- A map of a choice by query head is the choice of the maps. -/
theorem pick_eq {α β : Type} (f : α → β) (v : Fin 2 → β) (h : Fin 8) (a b : α) (ha : f a = v 0) (hb : f b = v 1) : f (pick h a b) = v (grp h) := by
  unfold pick
  by_cases hh : h.val < 4
  · rw [if_pos hh, ha]; exact congrArg v (Fin.ext (by show 0 = h.val / 4; omega))
  · rw [if_neg hh, hb]; exact congrArg v (Fin.ext (by show 1 = h.val / 4; omega))

/-! ## The tiles -/

/-- The tile that the first branch reads for key head 0 is the point's own block. -/
theorem tile0_0_eq (X : Fin 16 → Vec F S1x256x1024 .bf16) (K V : Vec F S1x4096x256 .bf16) (i : grid0.Coords) (h : k0_cond2 i = 1#1) (j : Fin 16) (hj : j.val = (i 1).val)
    (s : St F) (hU : Upto X K V (j.val + 1) s) (p : Fin 2) (k : Fin 4) : tileOf s (tile0_0 i h p k) = tv K V 0 j :=
  tileOf_eq X K V _ s hU _ 0 j (by omega) (by show k0_off10 i = _; rw [Gen.k0_off10_eq, ← hj]; rfl)
    (by show k0_off11 i = _; rw [Gen.k0_off11_eq, ← hj]; rfl) (by show k0_off12 i = _; rw [Gen.k0_off12_eq, ← hj]; rfl)

/-- The tile that the first branch reads for key head 1 is the point's own block. -/
theorem tile0_1_eq (X : Fin 16 → Vec F S1x256x1024 .bf16) (K V : Vec F S1x4096x256 .bf16) (i : grid0.Coords) (h : k0_cond2 i = 1#1) (j : Fin 16) (hj : j.val = (i 1).val)
    (s : St F) (hU : Upto X K V (j.val + 1) s) (p : Fin 2) (k : Fin 4) : tileOf s (tile0_1 i h p k) = tv K V 1 j :=
  tileOf_eq X K V _ s hU _ 1 j (by omega) (by show k0_off13 i = _; rw [Gen.k0_off13_eq, ← hj]; rfl)
    (by show k0_off14 i = _; rw [Gen.k0_off14_eq, ← hj]; rfl) (by show k0_off15 i = _; rw [Gen.k0_off15_eq, ← hj]; rfl)

/-- The tiles that the second branch reads for key head 0 are the blocks up to the point's own. -/
theorem tile1_0_eq (X : Fin 16 → Vec F S1x256x1024 .bf16) (K V : Vec F S1x4096x256 .bf16) (i : grid0.Coords) (h : k0_cond3 i = 1#1) (j : Fin 16) (hj : j.val = (i 1).val)
    (s : St F) (hU : Upto X K V (j.val + 1) s) (p : Fin 2) (k : Fin 4) (r : Fin 2) : tileOf s (tile1_0 i h p k r) = tv K V 0 (back j r.val) :=
  tileOf_eq X K V _ s hU _ 0 (back j r.val) (by show j.val - r.val < j.val + 1; omega) (by show k0_off16 i _ = _; rw [off16_eq i h r, ← hj]; rfl)
    (by show k0_off17 i _ = _; rw [off17_eq i h r, ← hj]; rfl) (by show k0_off18 i _ = _; rw [off18_eq i h r, ← hj]; rfl)

/-- The tiles that the second branch reads for key head 1 are the blocks up to the point's own. -/
theorem tile1_1_eq (X : Fin 16 → Vec F S1x256x1024 .bf16) (K V : Vec F S1x4096x256 .bf16) (i : grid0.Coords) (h : k0_cond3 i = 1#1) (j : Fin 16) (hj : j.val = (i 1).val)
    (s : St F) (hU : Upto X K V (j.val + 1) s) (p : Fin 2) (k : Fin 4) (r : Fin 2) : tileOf s (tile1_1 i h p k r) = tv K V 1 (back j r.val) :=
  tileOf_eq X K V _ s hU _ 1 (back j r.val) (by show j.val - r.val < j.val + 1; omega) (by show k0_off19 i _ = _; rw [off19_eq i h r, ← hj]; rfl)
    (by show k0_off20 i _ = _; rw [off20_eq i h r, ← hj]; rfl) (by show k0_off21 i _ = _; rw [off21_eq i h r, ← hj]; rfl)

/-- The tiles that the third branch reads for key head 0 are the blocks up to the point's own. -/
theorem tile2_0_eq (X : Fin 16 → Vec F S1x256x1024 .bf16) (K V : Vec F S1x4096x256 .bf16) (i : grid0.Coords) (h : k0_cond4 i = 1#1) (j : Fin 16) (hj : j.val = (i 1).val)
    (s : St F) (hU : Upto X K V (j.val + 1) s) (p : Fin 2) (k : Fin 4) (r : Fin 3) : tileOf s (tile2_0 i h p k r) = tv K V 0 (back j r.val) :=
  tileOf_eq X K V _ s hU _ 0 (back j r.val) (by show j.val - r.val < j.val + 1; omega) (by show k0_off22 i _ = _; rw [off22_eq i h r, ← hj]; rfl)
    (by show k0_off23 i _ = _; rw [off23_eq i h r, ← hj]; rfl) (by show k0_off24 i _ = _; rw [off24_eq i h r, ← hj]; rfl)

/-- The tiles that the third branch reads for key head 1 are the blocks up to the point's own. -/
theorem tile2_1_eq (X : Fin 16 → Vec F S1x256x1024 .bf16) (K V : Vec F S1x4096x256 .bf16) (i : grid0.Coords) (h : k0_cond4 i = 1#1) (j : Fin 16) (hj : j.val = (i 1).val)
    (s : St F) (hU : Upto X K V (j.val + 1) s) (p : Fin 2) (k : Fin 4) (r : Fin 3) : tileOf s (tile2_1 i h p k r) = tv K V 1 (back j r.val) :=
  tileOf_eq X K V _ s hU _ 1 (back j r.val) (by show j.val - r.val < j.val + 1; omega) (by show k0_off25 i _ = _; rw [off25_eq i h r, ← hj]; rfl)
    (by show k0_off26 i _ = _; rw [off26_eq i h r, ← hj]; rfl) (by show k0_off27 i _ = _; rw [off27_eq i h r, ← hj]; rfl)

/-- The tiles that the fourth branch reads for key head 0 are the blocks up to the point's own. -/
theorem tile3_0_eq (X : Fin 16 → Vec F S1x256x1024 .bf16) (K V : Vec F S1x4096x256 .bf16) (i : grid0.Coords) (h : k0_cond5 i = 1#1) (j : Fin 16) (hj : j.val = (i 1).val)
    (s : St F) (hU : Upto X K V (j.val + 1) s) (p : Fin 2) (k : Fin 4) (r : Fin 4) : tileOf s (tile3_0 i h p k r) = tv K V 0 (back j r.val) :=
  tileOf_eq X K V _ s hU _ 0 (back j r.val) (by show j.val - r.val < j.val + 1; omega) (by show k0_off28 i _ = _; rw [off28_eq i h r, ← hj]; rfl)
    (by show k0_off29 i _ = _; rw [off29_eq i h r, ← hj]; rfl) (by show k0_off30 i _ = _; rw [off30_eq i h r, ← hj]; rfl)

/-- The tiles that the fourth branch reads for key head 1 are the blocks up to the point's own. -/
theorem tile3_1_eq (X : Fin 16 → Vec F S1x256x1024 .bf16) (K V : Vec F S1x4096x256 .bf16) (i : grid0.Coords) (h : k0_cond5 i = 1#1) (j : Fin 16) (hj : j.val = (i 1).val)
    (s : St F) (hU : Upto X K V (j.val + 1) s) (p : Fin 2) (k : Fin 4) (r : Fin 4) : tileOf s (tile3_1 i h p k r) = tv K V 1 (back j r.val) :=
  tileOf_eq X K V _ s hU _ 1 (back j r.val) (by show j.val - r.val < j.val + 1; omega) (by show k0_off31 i _ = _; rw [off31_eq i h r, ← hj]; rfl)
    (by show k0_off32 i _ = _; rw [off32_eq i h r, ← hj]; rfl) (by show k0_off33 i _ = _; rw [off33_eq i h r, ← hj]; rfl)

/-- The tiles that the fifth branch reads for key head 0 are the blocks up to the point's own. -/
theorem tile4_0_eq (X : Fin 16 → Vec F S1x256x1024 .bf16) (K V : Vec F S1x4096x256 .bf16) (i : grid0.Coords) (h : k0_cond6 i = 1#1) (j : Fin 16) (hj : j.val = (i 1).val)
    (s : St F) (hU : Upto X K V (j.val + 1) s) (p : Fin 2) (k : Fin 4) (r : Fin 5) : tileOf s (tile4_0 i h p k r) = tv K V 0 (back j r.val) :=
  tileOf_eq X K V _ s hU _ 0 (back j r.val) (by show j.val - r.val < j.val + 1; omega) (by show k0_off34 i _ = _; rw [off34_eq i h r, ← hj]; rfl)
    (by show k0_off35 i _ = _; rw [off35_eq i h r, ← hj]; rfl) (by show k0_off36 i _ = _; rw [off36_eq i h r, ← hj]; rfl)

/-- The tiles that the fifth branch reads for key head 1 are the blocks up to the point's own. -/
theorem tile4_1_eq (X : Fin 16 → Vec F S1x256x1024 .bf16) (K V : Vec F S1x4096x256 .bf16) (i : grid0.Coords) (h : k0_cond6 i = 1#1) (j : Fin 16) (hj : j.val = (i 1).val)
    (s : St F) (hU : Upto X K V (j.val + 1) s) (p : Fin 2) (k : Fin 4) (r : Fin 5) : tileOf s (tile4_1 i h p k r) = tv K V 1 (back j r.val) :=
  tileOf_eq X K V _ s hU _ 1 (back j r.val) (by show j.val - r.val < j.val + 1; omega) (by show k0_off37 i _ = _; rw [off37_eq i h r, ← hj]; rfl)
    (by show k0_off38 i _ = _; rw [off38_eq i h r, ← hj]; rfl) (by show k0_off39 i _ = _; rw [off39_eq i h r, ← hj]; rfl)

/-- The body at a block with no block before it. -/
theorem point0_runs (hM : Whole M) (i : grid0.Coords) (j : Fin 16) (hj : j.val = (i 1).val) (X : Fin 16 → Vec F S1x256x1024 .bf16) (K V : Vec F S1x4096x256 .bf16) (sk : Vec F S8 .f32)
    (s : St F) (hI : Ins X K V sk j s) (hU : Upto X K V j.val s) (h : k0_cond2 i = 1#1) :
    ∃ s', Runs c M E (body0 i h M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 M.a19 hM.h19) s ⟨⟩ s' ∧ Ins X K V sk j s' ∧ Upto X K V (j.val + 1) s' ∧ Base V s'
      ∧ OutDone (X j) K V sk j s'.b6 ∧ s'.b7 = codesB (X j) ∧ s'.b8 = qsV (X j) K j := by
  have hb : (i 1).val = 0 := (cond2_iff i).1 h
  obtain ⟨s0, r0, hI0, hU0, hB0⟩ := init_base (c := c) (M := M) (E := E) X K V sk j s hI hU
  obtain ⟨s1, r1, hI1, hU1, hB1, hq, hc, h7, h8⟩ := prep_runs (c := c) (E := E) hM i j hj X K V sk s0 hI0 hU0 hB0
  obtain ⟨y, b, r2, ho⟩ := attend_block (c := c) (E := E) hM.h6 X K V sk j (fun x => none) (fun x => pick x (tile0_0 i h (par x) 0) (tile0_1 i h (par x) 0)) (fun x => []) s1 hI1 hB1 hq hc
    (fun x => by simp)
    (fun x => by unfold leftTv; rw [if_neg (by omega)]; rfl)
    (fun x => pick_eq (tileOf s1) (fun g => tv K V g j) x _ _ (tile0_0_eq X K V i h j hj s1 hU1 _ _) (tile0_1_eq X K V i h j hj s1 hU1 _ _))
    (fun x => by unfold restTv; rw [if_pos (by omega)]; rfl)
  refine ⟨_, ?_, (hI1.set19 y).set6 b, (hU1.set19 y).set6 b, (hB1.set19 y).set6 b, ho, h7, h8⟩
  unfold body0
  exact r0.bind (r1.bind r2)

/-- The body at a block with 1 blocks before it. -/
theorem point1_runs (hM : Whole M) (i : grid0.Coords) (j : Fin 16) (hj : j.val = (i 1).val) (X : Fin 16 → Vec F S1x256x1024 .bf16) (K V : Vec F S1x4096x256 .bf16) (sk : Vec F S8 .f32)
    (s : St F) (hI : Ins X K V sk j s) (hU : Upto X K V j.val s) (h : k0_cond3 i = 1#1) (hB : Base V s) :
    ∃ s', Runs c M E (body1 i h M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 M.a19 hM.h19) s ⟨⟩ s' ∧ Ins X K V sk j s' ∧ Upto X K V (j.val + 1) s' ∧ Base V s'
      ∧ OutDone (X j) K V sk j s'.b6 ∧ s'.b7 = codesB (X j) ∧ s'.b8 = qsV (X j) K j := by
  have hb : (i 1).val = 1 := (cond3_iff i).1 h
  obtain ⟨s1, r1, hI1, hU1, hB1, hq, hc, h7, h8⟩ := prep_runs (c := c) (E := E) hM i j hj X K V sk s hI hU hB
  obtain ⟨y, b, r2, ho⟩ := attend_block (c := c) (E := E) hM.h6 X K V sk j (fun x => none) (fun x => pick x (tile1_0 i h (par x) 0 0) (tile1_1 i h (par x) 0 0)) (fun x => pick x [(tile1_0 i h (par x) 1 1)] [(tile1_1 i h (par x) 1 1)]) s1 hI1 hB1 hq hc
    (fun x => by unfold pick; split <;> simp [Apart, tile1_0, tile1_1, slot])
    (fun x => by unfold leftTv; rw [if_neg (by omega)]; rfl)
    (fun x => pick_eq (tileOf s1) (fun g => tv K V g j) x _ _ (tile1_0_eq X K V i h j hj s1 hU1 _ _ 0) (tile1_1_eq X K V i h j hj s1 hU1 _ _ 0))
    (fun x => pick_eq (List.map (tileOf s1)) (fun g => restTv K V g j) x _ _ (by show List.map (tileOf s1) _ = restTv K V 0 j; unfold restTv; rw [if_neg (by omega), if_pos (by omega)]; simp only [List.map, tile1_0_eq X K V i h j hj s1 hU1 _ _ 1]; rfl) (by show List.map (tileOf s1) _ = restTv K V 1 j; unfold restTv; rw [if_neg (by omega), if_pos (by omega)]; simp only [List.map, tile1_1_eq X K V i h j hj s1 hU1 _ _ 1]; rfl))
  refine ⟨_, ?_, (hI1.set19 y).set6 b, (hU1.set19 y).set6 b, (hB1.set19 y).set6 b, ho, h7, h8⟩
  unfold body1
  exact r1.bind r2

/-- The body at a block with 2 blocks before it. -/
theorem point2_runs (hM : Whole M) (i : grid0.Coords) (j : Fin 16) (hj : j.val = (i 1).val) (X : Fin 16 → Vec F S1x256x1024 .bf16) (K V : Vec F S1x4096x256 .bf16) (sk : Vec F S8 .f32)
    (s : St F) (hI : Ins X K V sk j s) (hU : Upto X K V j.val s) (h : k0_cond4 i = 1#1) (hB : Base V s) :
    ∃ s', Runs c M E (body2 i h M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 M.a19 hM.h19) s ⟨⟩ s' ∧ Ins X K V sk j s' ∧ Upto X K V (j.val + 1) s' ∧ Base V s'
      ∧ OutDone (X j) K V sk j s'.b6 ∧ s'.b7 = codesB (X j) ∧ s'.b8 = qsV (X j) K j := by
  have hb : (i 1).val = 2 := (cond4_iff i).1 h
  obtain ⟨s1, r1, hI1, hU1, hB1, hq, hc, h7, h8⟩ := prep_runs (c := c) (E := E) hM i j hj X K V sk s hI hU hB
  obtain ⟨y, b, r2, ho⟩ := attend_block (c := c) (E := E) hM.h6 X K V sk j (fun x => none) (fun x => pick x (tile2_0 i h (par x) 0 0) (tile2_1 i h (par x) 0 0)) (fun x => pick x [(tile2_0 i h (par x) 1 1), (tile2_0 i h (par x) 2 2)] [(tile2_1 i h (par x) 1 1), (tile2_1 i h (par x) 2 2)]) s1 hI1 hB1 hq hc
    (fun x => by unfold pick; split <;> simp [Apart, tile2_0, tile2_1, slot])
    (fun x => by unfold leftTv; rw [if_neg (by omega)]; rfl)
    (fun x => pick_eq (tileOf s1) (fun g => tv K V g j) x _ _ (tile2_0_eq X K V i h j hj s1 hU1 _ _ 0) (tile2_1_eq X K V i h j hj s1 hU1 _ _ 0))
    (fun x => pick_eq (List.map (tileOf s1)) (fun g => restTv K V g j) x _ _ (by show List.map (tileOf s1) _ = restTv K V 0 j; unfold restTv; rw [if_neg (by omega), if_neg (by omega), if_pos (by omega)]; simp only [List.map, tile2_0_eq X K V i h j hj s1 hU1 _ _ 1, tile2_0_eq X K V i h j hj s1 hU1 _ _ 2]; rfl) (by show List.map (tileOf s1) _ = restTv K V 1 j; unfold restTv; rw [if_neg (by omega), if_neg (by omega), if_pos (by omega)]; simp only [List.map, tile2_1_eq X K V i h j hj s1 hU1 _ _ 1, tile2_1_eq X K V i h j hj s1 hU1 _ _ 2]; rfl))
  refine ⟨_, ?_, (hI1.set19 y).set6 b, (hU1.set19 y).set6 b, (hB1.set19 y).set6 b, ho, h7, h8⟩
  unfold body2
  exact r1.bind r2

/-- The body at a block with 3 blocks before it. -/
theorem point3_runs (hM : Whole M) (i : grid0.Coords) (j : Fin 16) (hj : j.val = (i 1).val) (X : Fin 16 → Vec F S1x256x1024 .bf16) (K V : Vec F S1x4096x256 .bf16) (sk : Vec F S8 .f32)
    (s : St F) (hI : Ins X K V sk j s) (hU : Upto X K V j.val s) (h : k0_cond5 i = 1#1) (hB : Base V s) :
    ∃ s', Runs c M E (body3 i h M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 M.a19 hM.h19) s ⟨⟩ s' ∧ Ins X K V sk j s' ∧ Upto X K V (j.val + 1) s' ∧ Base V s'
      ∧ OutDone (X j) K V sk j s'.b6 ∧ s'.b7 = codesB (X j) ∧ s'.b8 = qsV (X j) K j := by
  have hb : (i 1).val = 3 := (cond5_iff i).1 h
  obtain ⟨s1, r1, hI1, hU1, hB1, hq, hc, h7, h8⟩ := prep_runs (c := c) (E := E) hM i j hj X K V sk s hI hU hB
  obtain ⟨y, b, r2, ho⟩ := attend_block (c := c) (E := E) hM.h6 X K V sk j (fun x => none) (fun x => pick x (tile3_0 i h (par x) 0 0) (tile3_1 i h (par x) 0 0)) (fun x => pick x [(tile3_0 i h (par x) 1 1), (tile3_0 i h (par x) 2 2), (tile3_0 i h (par x) 3 3)] [(tile3_1 i h (par x) 1 1), (tile3_1 i h (par x) 2 2), (tile3_1 i h (par x) 3 3)]) s1 hI1 hB1 hq hc
    (fun x => by unfold pick; split <;> simp [Apart, tile3_0, tile3_1, slot])
    (fun x => by unfold leftTv; rw [if_neg (by omega)]; rfl)
    (fun x => pick_eq (tileOf s1) (fun g => tv K V g j) x _ _ (tile3_0_eq X K V i h j hj s1 hU1 _ _ 0) (tile3_1_eq X K V i h j hj s1 hU1 _ _ 0))
    (fun x => pick_eq (List.map (tileOf s1)) (fun g => restTv K V g j) x _ _ (by show List.map (tileOf s1) _ = restTv K V 0 j; unfold restTv; rw [if_neg (by omega), if_neg (by omega), if_neg (by omega)]; simp only [List.map, tile3_0_eq X K V i h j hj s1 hU1 _ _ 1, tile3_0_eq X K V i h j hj s1 hU1 _ _ 2, tile3_0_eq X K V i h j hj s1 hU1 _ _ 3]; rfl) (by show List.map (tileOf s1) _ = restTv K V 1 j; unfold restTv; rw [if_neg (by omega), if_neg (by omega), if_neg (by omega)]; simp only [List.map, tile3_1_eq X K V i h j hj s1 hU1 _ _ 1, tile3_1_eq X K V i h j hj s1 hU1 _ _ 2, tile3_1_eq X K V i h j hj s1 hU1 _ _ 3]; rfl))
  refine ⟨_, ?_, (hI1.set19 y).set6 b, (hU1.set19 y).set6 b, (hB1.set19 y).set6 b, ho, h7, h8⟩
  unfold body3
  exact r1.bind r2

/-- The body at a block with 4 blocks or more before it. -/
theorem point4_runs (hM : Whole M) (i : grid0.Coords) (j : Fin 16) (hj : j.val = (i 1).val) (X : Fin 16 → Vec F S1x256x1024 .bf16) (K V : Vec F S1x4096x256 .bf16) (sk : Vec F S8 .f32)
    (s : St F) (hI : Ins X K V sk j s) (hU : Upto X K V j.val s) (h : k0_cond6 i = 1#1) (hB : Base V s) :
    ∃ s', Runs c M E (body4 i h M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 M.a19 hM.h19) s ⟨⟩ s' ∧ Ins X K V sk j s' ∧ Upto X K V (j.val + 1) s' ∧ Base V s'
      ∧ OutDone (X j) K V sk j s'.b6 ∧ s'.b7 = codesB (X j) ∧ s'.b8 = qsV (X j) K j := by
  have hb : 4 ≤ (i 1).val := (cond6_iff i).1 h
  obtain ⟨s1, r1, hI1, hU1, hB1, hq, hc, h7, h8⟩ := prep_runs (c := c) (E := E) hM i j hj X K V sk s hI hU hB
  obtain ⟨y, b, r2, ho⟩ := attend_block (c := c) (E := E) hM.h6 X K V sk j (fun x => pick x (some (tile4_0 i h (par x) 0 4)) (some (tile4_1 i h (par x) 0 4))) (fun x => pick x (tile4_0 i h (par x) 0 0) (tile4_1 i h (par x) 0 0)) (fun x => pick x [(tile4_0 i h (par x) 1 1), (tile4_0 i h (par x) 2 2), (tile4_0 i h (par x) 3 3)] [(tile4_1 i h (par x) 1 1), (tile4_1 i h (par x) 2 2), (tile4_1 i h (par x) 3 3)]) s1 hI1 hB1 hq hc
    (fun x => by unfold pick; split <;> simp [Apart, tile4_0, tile4_1, slot])
    (fun x => pick_eq (Option.map (tileOf s1)) (fun g => leftTv K V g j) x _ _ (by show some _ = leftTv K V 0 j; unfold leftTv; rw [if_pos (by omega), tile4_0_eq X K V i h j hj s1 hU1 _ _ 4]; rfl) (by show some _ = leftTv K V 1 j; unfold leftTv; rw [if_pos (by omega), tile4_1_eq X K V i h j hj s1 hU1 _ _ 4]; rfl))
    (fun x => pick_eq (tileOf s1) (fun g => tv K V g j) x _ _ (tile4_0_eq X K V i h j hj s1 hU1 _ _ 0) (tile4_1_eq X K V i h j hj s1 hU1 _ _ 0))
    (fun x => pick_eq (List.map (tileOf s1)) (fun g => restTv K V g j) x _ _ (by show List.map (tileOf s1) _ = restTv K V 0 j; unfold restTv; rw [if_neg (by omega), if_neg (by omega), if_neg (by omega)]; simp only [List.map, tile4_0_eq X K V i h j hj s1 hU1 _ _ 1, tile4_0_eq X K V i h j hj s1 hU1 _ _ 2, tile4_0_eq X K V i h j hj s1 hU1 _ _ 3]; rfl) (by show List.map (tileOf s1) _ = restTv K V 1 j; unfold restTv; rw [if_neg (by omega), if_neg (by omega), if_neg (by omega)]; simp only [List.map, tile4_1_eq X K V i h j hj s1 hU1 _ _ 1, tile4_1_eq X K V i h j hj s1 hU1 _ _ 2, tile4_1_eq X K V i h j hj s1 hU1 _ _ 3]; rfl))
  refine ⟨_, ?_, (hI1.set19 y).set6 b, (hU1.set19 y).set6 b, (hB1.set19 y).set6 b, ho, h7, h8⟩
  unfold body4
  exact r1.bind r2

/-- The body at any grid point: from what the blocks before it left to what the blocks up to it leave, with the outputs of its own block. -/
theorem point_runs (hM : Whole M) (i : grid0.Coords) (j : Fin 16) (hj : j.val = (i 1).val) (X : Fin 16 → Vec F S1x256x1024 .bf16) (K V : Vec F S1x4096x256 .bf16) (sk : Vec F S8 .f32)
    (s : St F) (hI : Ins X K V sk j s) (hU : Upto X K V j.val s) (hB : j.val ≠ 0 → Base V s) :
    ∃ s', Runs c M E (cc0_fp8_swa (F := F) i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 M.a19 hM.h19) s ⟨⟩ s' ∧ Ins X K V sk j s' ∧ Upto X K V (j.val + 1) s' ∧ Base V s'
      ∧ OutDone (X j) K V sk j s'.b6 ∧ s'.b7 = codesB (X j) ∧ s'.b8 = qsV (X j) K j := by
  have hlt := j.isLt
  by_cases hb0 : (i 1).val = 0
  · have h := (cond2_iff i).2 hb0
    rw [body0_eq i h ((cond1_iff i).2 hb0) (fun e => by have := (cond3_iff i).1 e; omega) (fun e => by have := (cond4_iff i).1 e; omega) (fun e => by have := (cond5_iff i).1 e; omega) (fun e => by have := (cond6_iff i).1 e; omega)]
    exact point0_runs hM i j hj X K V sk s hI hU h
  by_cases hb1 : (i 1).val = 1
  · have h := (cond3_iff i).2 hb1
    rw [body1_eq i h (fun e => by have := (cond1_iff i).1 e; omega) (fun e => by have := (cond2_iff i).1 e; omega) (fun e => by have := (cond4_iff i).1 e; omega) (fun e => by have := (cond5_iff i).1 e; omega) (fun e => by have := (cond6_iff i).1 e; omega)]
    exact point1_runs hM i j hj X K V sk s hI hU h (hB (by omega))
  by_cases hb2 : (i 1).val = 2
  · have h := (cond4_iff i).2 hb2
    rw [body2_eq i h (fun e => by have := (cond1_iff i).1 e; omega) (fun e => by have := (cond2_iff i).1 e; omega) (fun e => by have := (cond3_iff i).1 e; omega) (fun e => by have := (cond5_iff i).1 e; omega) (fun e => by have := (cond6_iff i).1 e; omega)]
    exact point2_runs hM i j hj X K V sk s hI hU h (hB (by omega))
  by_cases hb3 : (i 1).val = 3
  · have h := (cond5_iff i).2 hb3
    rw [body3_eq i h (fun e => by have := (cond1_iff i).1 e; omega) (fun e => by have := (cond2_iff i).1 e; omega) (fun e => by have := (cond3_iff i).1 e; omega) (fun e => by have := (cond4_iff i).1 e; omega) (fun e => by have := (cond6_iff i).1 e; omega)]
    exact point3_runs hM i j hj X K V sk s hI hU h (hB (by omega))
  · have h := (cond6_iff i).2 (by omega)
    rw [body4_eq i h (fun e => by have := (cond1_iff i).1 e; omega) (fun e => by have := (cond2_iff i).1 e; omega) (fun e => by have := (cond3_iff i).1 e; omega) (fun e => by have := (cond4_iff i).1 e; omega) (fun e => by have := (cond5_iff i).1 e; omega)]
    exact point4_runs hM i j hj X K V sk s hI hU h (hB (by omega))

end Cert.Kernel.Model

end
-- ==== Proof.Printed.Obligation.lean ====
/- For the kernel as printed: The kernel's run: its body at every grid point, from what the pipeline and the blocks before it left; and the frame. -/
module

public import proofs.«01_k».proof.Proof.Printed.Point
public import proofs.«01_k».proof.Proof.Gen.Kernel.Frame
public import Idealize.ShloMosaic.Lib.Pipeline.DatRel
public import Idealize.ShloMosaic.Lib.Pipeline.ArrRel
public import Idealize.ShloMosaic.Lib.Pipeline.ValueKit

@[expose] public section

set_option synthInstance.maxSize 4096
set_option maxRecDepth 16384

noncomputable section

namespace Cert.Kernel.Model

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationRel cellOf)
open Cert.Kernel.Gen
open VecWindow (window put)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The inputs of a batch -/

/-- The grid point of block `j` of batch `b`. -/
def pt (b : Fin 9) (j : Fin 16) : Fin cfg0.N := ⟨16 * b.val + j.val, by show 16 * b.val + j.val < 144; omega⟩

/-- The batch of a grid point. -/
def bat (n : ℕ) : Fin 9 := ⟨n / 16 % 9, Nat.mod_lt _ (by decide)⟩

/-- The block of a grid point. -/
def blkOf (n : ℕ) : Fin 16 := ⟨n % 16, Nat.mod_lt _ (by decide)⟩

/-- The queries of a batch, by block. -/
def inX (c : Dev nD) (b : Fin 9) (j : Fin 16) : Vec F S1x256x1024 .bf16 := iblk m c 1 (pt b j)

/-- The keys of a batch. -/
def inK (c : Dev nD) (b : Fin 9) : Vec F S1x4096x256 .bf16 := iblk m c 2 (pt b 0)

/-- The values of a batch. -/
def inV (c : Dev nD) (b : Fin 9) : Vec F S1x4096x256 .bf16 := iblk m c 3 (pt b 0)

/-- The sinks. -/
def inS (c : Dev nD) : Vec F S8 .f32 := iblk m c 0 (pt 0 0)

/-- The second coordinate of a grid point. -/
theorem coords_one : ∀ t : Fin cfg0.N, ((grid0.coords t) 1).val = t.val % 16 := by
  show ∀ t : Fin grid0.N, ((grid0.coords t) 1).val = t.val % 16
  decide +kernel

/-- The block of the keys at a grid point. -/
theorem index2 : ∀ t : Fin cfg0.N, win0_2.index t = ![t.val / 16, 0, 0] := by
  show ∀ t : Fin grid0.N, win0_2.index t = ![t.val / 16, 0, 0]
  decide +kernel

/-- The block of the values at a grid point. -/
theorem index3 : ∀ t : Fin cfg0.N, win0_3.index t = ![t.val / 16, 0, 0] := by
  show ∀ t : Fin grid0.N, win0_3.index t = ![t.val / 16, 0, 0]
  decide +kernel

/-- The block of the sinks at a grid point. -/
theorem index0 : ∀ t : Fin cfg0.N, win0_0.index t = ![0] := by
  show ∀ t : Fin grid0.N, win0_0.index t = ![0]
  decide +kernel

/-- A grid point is the one of its batch and of its block number. -/
theorem pt_eq (t : Fin cfg0.N) : pt (bat t.val) (blkOf t.val) = t := by
  have ht : t.val < 144 := t.isLt
  exact Fin.ext (by show 16 * (t.val / 16 % 9) + t.val % 16 = t.val; omega)

/-- The staged block of the queries is the one of the point's batch and block number. -/
theorem iblk1_eq (c : Dev nD) (t : Fin cfg0.N) : (iblk m c 1 t : Vec F S1x256x1024 .bf16) = inX m c (bat t.val) (blkOf t.val) := by
  unfold inX; rw [pt_eq]

/-- The staged block of the keys is the one of the point's batch and block number. -/
theorem iblk2_eq (c : Dev nD) (t : Fin cfg0.N) : (iblk m c 2 t : Vec F S1x4096x256 .bf16) = inK m c (bat t.val) := by
  have ht : t.val < 144 := t.isLt
  have e : win0_2.index t = win0_2.index (pt (bat t.val) 0) := by
    rw [index2, index2]
    show (![t.val / 16, 0, 0] : Fin 3 → ℕ) = ![(16 * (t.val / 16 % 9) + 0) / 16, 0, 0]
    congr 1; omega
  unfold inK
  funext y
  blk_simp [iblk]
  refine congrArg _ (funext fun a => Fin.ext ?_)
  blk_simp
  rw [e]

/-- The staged block of the values is the one of the point's batch and block number. -/
theorem iblk3_eq (c : Dev nD) (t : Fin cfg0.N) : (iblk m c 3 t : Vec F S1x4096x256 .bf16) = inV m c (bat t.val) := by
  have ht : t.val < 144 := t.isLt
  have e : win0_3.index t = win0_3.index (pt (bat t.val) 0) := by
    rw [index3, index3]
    show (![t.val / 16, 0, 0] : Fin 3 → ℕ) = ![(16 * (t.val / 16 % 9) + 0) / 16, 0, 0]
    congr 1; omega
  unfold inV
  funext y
  blk_simp [iblk]
  refine congrArg _ (funext fun a => Fin.ext ?_)
  blk_simp
  rw [e]

/-- The staged sinks are the same at every point. -/
theorem iblk0_eq (c : Dev nD) (t : Fin cfg0.N) : (iblk m c 0 t : Vec F S8 .f32) = inS m c := by
  have e : win0_0.index t = win0_0.index (pt 0 0) := by rw [index0, index0]
  unfold inS
  funext y
  blk_simp [iblk]
  refine congrArg _ (funext fun a => Fin.ext ?_)
  blk_simp
  rw [e]

/-! ## The pipeline's proof data -/

/-- What a grid point leaves in each window it writes. -/
def Rl (c : Dev nD) (w : Fin cfg0.W) (t : Fin cfg0.N) : ((cfg0.win w).block.Idx → Elt F (cfg0.win w).elt) → Prop :=
  match w with
  | ⟨0, _⟩ => fun _ => True
  | ⟨1, _⟩ => fun _ => True
  | ⟨2, _⟩ => fun _ => True
  | ⟨3, _⟩ => fun _ => True
  | ⟨4, _⟩ => fun X => OutDone (inX m c (bat t.val) (blkOf t.val)) (inK m c (bat t.val)) (inV m c (bat t.val)) (inS m c) (blkOf t.val) X
  | ⟨5, _⟩ => fun X => X = codesB (inX m c (bat t.val) (blkOf t.val))
  | ⟨6, _⟩ => fun X => X = qsV (inX m c (bat t.val) (blkOf t.val)) (inK m c (bat t.val)) (blkOf t.val)
  | ⟨7, _⟩ => fun X => KcUpto (inK m c (bat t.val)) (t.val % 16 + 1) X
  | ⟨8, _⟩ => fun X => KsUpto (inX m c (bat t.val)) (inK m c (bat t.val)) (t.val % 16 + 1) X
  | ⟨9, _⟩ => fun X => VcUpto (inV m c (bat t.val)) (t.val % 16 + 1) X
  | ⟨10, _⟩ => fun X => VsDone (inV m c (bat t.val)) X

/-- The windows the body writes. -/
def outs (w : Fin cfg0.W) : Bool := Nat.ble 4 w.val

/-- What the scratch buffers hold on entry to grid point `n`, after the first of its batch. -/
def Scr (c : Dev nD) (n : ℕ) (b15 : Vec F S2x16x256x128 .f32) (b16 : Vec F S2x16x128x256 .fp8e4m3) (b17 : Vec F S2x128 .f32) (b18 : Vec F S256x256 .i32) : Prop :=
  n % 16 ≠ 0 → KsrUpto (inK m c (bat n)) (n % 16) b15 ∧ VtUpto (inV m c (bat n)) (n % 16) b16 ∧ VinvDone (inV m c (bat n)) b17 ∧ b18 = triC

/-- The scratch buffers on entry to grid point `n`. -/
def Phi (c : Dev nD) (n : ℕ) : sProp 𝕄 :=
  iprop((∃ b13 b14 b15 b16 b17 b18 b19, ⌜Scr m c n b15 b16 b17 b18⌝
    ∗ owns (c : Thread nD τ) (Memref.whole cc0_scratch0) fullShare b13 ∗ owns (c : Thread nD τ) (Memref.whole cc0_scratch1) fullShare b14
    ∗ owns (c : Thread nD τ) (Memref.whole cc0_scratch2) fullShare b15 ∗ owns (c : Thread nD τ) (Memref.whole cc0_scratch3) fullShare b16
    ∗ owns (c : Thread nD τ) (Memref.whole cc0_scratch4) fullShare b17 ∗ owns (c : Thread nD τ) (Memref.whole cc0_scratch5) fullShare b18
    ∗ owns (c : Thread nD τ) (Memref.whole cc0_scratch6) fullShare b19) ∗ ∃ r, prngReg c r)

/-- The proof data: the inputs kept, the outputs held to what the grid point leaves. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => fun _ => Classical.arbitrary _
    | ⟨5, _⟩ => fun _ => Classical.arbitrary _
    | ⟨6, _⟩ => fun _ => Classical.arbitrary _
    | ⟨7, _⟩ => fun _ => Classical.arbitrary _
    | ⟨8, _⟩ => fun _ => Classical.arbitrary _
    | ⟨9, _⟩ => fun _ => Classical.arbitrary _
    | ⟨10, _⟩ => fun _ => Classical.arbitrary _
  Φ t := Phi m c t.val
  q _ := fullShare
  owed _ := 0

/-- The arrays at the start are those that the region finds. -/
theorem A_eq (c : Dev nD) (w : Fin cfg0.W) : (dat m c).A w = V m c (Pipeline.arrRef spec0 w) := by
  dsimp only [dat]

/-- A point leaves the sinks as it found them. -/
theorem after_0 (c : Dev nD) (t : Fin cfg0.N) : (dat m c).after 0 t = iblk m c 0 t := by dsimp only [dat]
/-- A point finds the sinks staged. -/
theorem before_0 (c : Dev nD) (t : Fin cfg0.N) (d) : (dat m c).before 0 t d = iblk m c 0 t :=
  before0_0_of m (dat m c) (A_eq m c 0) (after_0 m c) t d

/-- A point leaves the queries as it found them. -/
theorem after_1 (c : Dev nD) (t : Fin cfg0.N) : (dat m c).after 1 t = iblk m c 1 t := by dsimp only [dat]
/-- A point finds the queries staged. -/
theorem before_1 (c : Dev nD) (t : Fin cfg0.N) (d) : (dat m c).before 1 t d = iblk m c 1 t :=
  before0_1_of m (dat m c) (A_eq m c 1) (after_1 m c) t d

/-- A point leaves the keys as it found them. -/
theorem after_2 (c : Dev nD) (t : Fin cfg0.N) : (dat m c).after 2 t = iblk m c 2 t := by dsimp only [dat]
/-- A point finds the keys staged. -/
theorem before_2 (c : Dev nD) (t : Fin cfg0.N) (d) : (dat m c).before 2 t d = iblk m c 2 t :=
  before0_2_of m (dat m c) (A_eq m c 2) (after_2 m c) t d

/-- A point leaves the values as it found them. -/
theorem after_3 (c : Dev nD) (t : Fin cfg0.N) : (dat m c).after 3 t = iblk m c 3 t := by dsimp only [dat]
/-- A point finds the values staged. -/
theorem before_3 (c : Dev nD) (t : Fin cfg0.N) (d) : (dat m c).before 3 t d = iblk m c 3 t :=
  before0_3_of m (dat m c) (A_eq m c 3) (after_3 m c) t d

/-- The relational data. -/
abbrev rdat (c : Dev nD) : RDat τ (Elt F) Unit ℕ (UR sig nD τ) ℕ cfg0 c := (dat m c).toRRel outs (Rl m c)

/-- The block of the key codes is never fetched. -/
theorem nofetch_7 (t : Fin cfg0.N) : (cfg0.win 7).fetch t = false := by
  show win0_7.fetch t = false
  simp [Window.fetch]

/-- After a batch's first block, window 7 is found as the block before left it. -/
theorem finds_7 (c : Dev nD) (t : Fin cfg0.N) (ht : t.val % 16 ≠ 0) (Y) (h : (rdat m c).Finds 7 t Y) : Rl m c 7 ⟨t.val - 1, Nat.lt_of_le_of_lt (Nat.sub_le _ _) t.isLt⟩ Y := by
  have h' := ((rdat m c).finds_of_pos (nofetch_7 t) (by omega) Y).mp h
  rcases h' with h' | h'
  · exact absurd ((flush0_7 _).mp h') (by show ¬ (t.val - 1) % 16 = 15; omega)
  · exact (dat m c).toRRel_leaves rfl h'

/-- The block of the key scales is never fetched. -/
theorem nofetch_8 (t : Fin cfg0.N) : (cfg0.win 8).fetch t = false := by
  show win0_8.fetch t = false
  simp [Window.fetch]

/-- After a batch's first block, window 8 is found as the block before left it. -/
theorem finds_8 (c : Dev nD) (t : Fin cfg0.N) (ht : t.val % 16 ≠ 0) (Y) (h : (rdat m c).Finds 8 t Y) : Rl m c 8 ⟨t.val - 1, Nat.lt_of_le_of_lt (Nat.sub_le _ _) t.isLt⟩ Y := by
  have h' := ((rdat m c).finds_of_pos (nofetch_8 t) (by omega) Y).mp h
  rcases h' with h' | h'
  · exact absurd ((flush0_8 _).mp h') (by show ¬ (t.val - 1) % 16 = 15; omega)
  · exact (dat m c).toRRel_leaves rfl h'

/-- The block of the value codes is never fetched. -/
theorem nofetch_9 (t : Fin cfg0.N) : (cfg0.win 9).fetch t = false := by
  show win0_9.fetch t = false
  simp [Window.fetch]

/-- After a batch's first block, window 9 is found as the block before left it. -/
theorem finds_9 (c : Dev nD) (t : Fin cfg0.N) (ht : t.val % 16 ≠ 0) (Y) (h : (rdat m c).Finds 9 t Y) : Rl m c 9 ⟨t.val - 1, Nat.lt_of_le_of_lt (Nat.sub_le _ _) t.isLt⟩ Y := by
  have h' := ((rdat m c).finds_of_pos (nofetch_9 t) (by omega) Y).mp h
  rcases h' with h' | h'
  · exact absurd ((flush0_9 _).mp h') (by show ¬ (t.val - 1) % 16 = 15; omega)
  · exact (dat m c).toRRel_leaves rfl h'

/-- The block of the value scales is never fetched. -/
theorem nofetch_10 (t : Fin cfg0.N) : (cfg0.win 10).fetch t = false := by
  show win0_10.fetch t = false
  simp [Window.fetch]

/-- After a batch's first block, window 10 is found as the block before left it. -/
theorem finds_10 (c : Dev nD) (t : Fin cfg0.N) (ht : t.val % 16 ≠ 0) (Y) (h : (rdat m c).Finds 10 t Y) : Rl m c 10 ⟨t.val - 1, Nat.lt_of_le_of_lt (Nat.sub_le _ _) t.isLt⟩ Y := by
  have h' := ((rdat m c).finds_of_pos (nofetch_10 t) (by omega) Y).mp h
  rcases h' with h' | h'
  · exact absurd ((flush0_10 _).mp h') (by show ¬ (t.val - 1) % 16 = 15; omega)
  · exact (dat m c).toRRel_leaves rfl h'

/-! ## The body at a grid point -/

/-- The memrefs of the body at point `t`. -/
def mems (t : Fin cfg0.N) : Mems := ⟨win0_0.stage (cfg0.slots t 0), win0_1.stage (cfg0.slots t 1), win0_2.stage (cfg0.slots t 2), win0_3.stage (cfg0.slots t 3), win0_4.stage (cfg0.slots t 4), win0_5.stage (cfg0.slots t 5), win0_6.stage (cfg0.slots t 6), win0_7.stage (cfg0.slots t 7), win0_8.stage (cfg0.slots t 8), win0_9.stage (cfg0.slots t 9), win0_10.stage (cfg0.slots t 10), Memref.whole cc0_scratch0, Memref.whole cc0_scratch1, Memref.whole cc0_scratch2, Memref.whole cc0_scratch3, Memref.whole cc0_scratch4, Memref.whole cc0_scratch5, Memref.whole cc0_scratch6⟩

/-- The buffers of a point are whole. -/
theorem mems_whole (t : Fin cfg0.N) : Whole (mems t) := ⟨hstage0_0 ((cfg0.slots t 0).cast nbuf0_0), hstage0_1 ((cfg0.slots t 1).cast nbuf0_1), hstage0_2 ((cfg0.slots t 2).cast nbuf0_2), hstage0_3 ((cfg0.slots t 3).cast nbuf0_3), hstage0_4 ((cfg0.slots t 4).cast nbuf0_4), hstage0_5 ((cfg0.slots t 5).cast nbuf0_5), hstage0_6 ((cfg0.slots t 6).cast nbuf0_6), hstage0_7 ((cfg0.slots t 7).cast nbuf0_7), hstage0_8 ((cfg0.slots t 8).cast nbuf0_8), hstage0_9 ((cfg0.slots t 9).cast nbuf0_9), hstage0_10 ((cfg0.slots t 10).cast nbuf0_10), Memref.isWhole_whole _, Memref.isWhole_whole _, Memref.isWhole_whole _, Memref.isWhole_whole _, Memref.isWhole_whole _, Memref.isWhole_whole _, Memref.isWhole_whole _⟩

/-- A run within what else is held. -/
theorem Runs.within {c : Dev nD} {M : Mems} {E : Set ℕ} {p : Prog (TpuEff nD τ sig (Elt F) Λ₀ .tc) PUnit} {s s' : St F} (h : Runs c M E p s ⟨⟩ s') (Q : sProp 𝕄) :
    iprop(Own c M s ∗ (Own c M s' -∗ Q)) ⊢ wp frame (wpE (defs₀ (F := F)) Variants.none c none) E p (fun _ => Q) := by
  unfold Runs at h
  refine (sep_mono h .rfl).trans ((wp_frame_r _ _ _).trans (wp_mono _ _ _ fun a => ?_))
  iintro ⟨⟨%_, H⟩, Hw⟩
  iapply Hw; iexact H

/-- What the body is called with at point `t`, -/
def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ Y, ⌜(rdat m c).Finds 4 t Y⌝ ∗ owns (c : Thread nD τ) (st0_4 t) fullShare Y)
    ∗ (∃ Y, ⌜(rdat m c).Finds 5 t Y⌝ ∗ owns (c : Thread nD τ) (st0_5 t) fullShare Y)
    ∗ (∃ Y, ⌜(rdat m c).Finds 6 t Y⌝ ∗ owns (c : Thread nD τ) (st0_6 t) fullShare Y)
    ∗ (∃ Y, ⌜(rdat m c).Finds 7 t Y⌝ ∗ owns (c : Thread nD τ) (st0_7 t) fullShare Y)
    ∗ (∃ Y, ⌜(rdat m c).Finds 8 t Y⌝ ∗ owns (c : Thread nD τ) (st0_8 t) fullShare Y)
    ∗ (∃ Y, ⌜(rdat m c).Finds 9 t Y⌝ ∗ owns (c : Thread nD τ) (st0_9 t) fullShare Y)
    ∗ (∃ Y, ⌜(rdat m c).Finds 10 t Y⌝ ∗ owns (c : Thread nD τ) (st0_10 t) fullShare Y))

/-- and what it returns. -/
def bodyPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ (∃ X, ⌜Rl m c 4 t X⌝ ∗ owns (c : Thread nD τ) (st0_4 t) fullShare X)
    ∗ (∃ X, ⌜Rl m c 5 t X⌝ ∗ owns (c : Thread nD τ) (st0_5 t) fullShare X)
    ∗ (∃ X, ⌜Rl m c 6 t X⌝ ∗ owns (c : Thread nD τ) (st0_6 t) fullShare X)
    ∗ (∃ X, ⌜Rl m c 7 t X⌝ ∗ owns (c : Thread nD τ) (st0_7 t) fullShare X)
    ∗ (∃ X, ⌜Rl m c 8 t X⌝ ∗ owns (c : Thread nD τ) (st0_8 t) fullShare X)
    ∗ (∃ X, ⌜Rl m c 9 t X⌝ ∗ owns (c : Thread nD τ) (st0_9 t) fullShare X)
    ∗ (∃ X, ⌜Rl m c 10 t X⌝ ∗ owns (c : Thread nD τ) (st0_10 t) fullShare X))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dat m c).Φ t.succ = Phi m c (t.val + 1) from rfl, show (dat m c).Φ t.castSucc = Phi m c t.val from rfl,
    show (dat m c).owesAt () t.succ = (dat m c).owesAt () t.castSucc from rfl,
    after_0, after_1, after_2, after_3]
  unfold Phi
  iintro ⟨⟨⟨%b13, %b14, %b15, %b16, %b17, %b18, %b19, %hs, G0, G1, G2, G3, G4, G5, G6⟩, Hr⟩, Ho, ⟨%d0, H0⟩, ⟨%d1, H1⟩, ⟨%d2, H2⟩, ⟨%d3, H3⟩, ⟨%Y4, %h4, H4⟩, ⟨%Y5, %h5, H5⟩, ⟨%Y6, %h6, H6⟩, ⟨%Y7, %h7, H7⟩, ⟨%Y8, %h8, H8⟩, ⟨%Y9, %h9, H9⟩, ⟨%Y10, %h10, H10⟩⟩
  have ht : t.val < 144 := t.isLt
  have hb : t.val % 16 ≠ 0 → bat (t.val - 1) = bat t.val := fun h => Fin.ext (by show (t.val - 1) / 16 % 9 = t.val / 16 % 9; omega)
  have hn : t.val % 16 ≠ 0 → (t.val - 1) % 16 + 1 = t.val % 16 := fun h => by omega
  have hI : Ins (inX m c (bat t.val)) (inK m c (bat t.val)) (inV m c (bat t.val)) (inS m c) (blkOf t.val)
      (⟨iblk m c 0 t, iblk m c 1 t, iblk m c 2 t, iblk m c 3 t, Y4, Y5, Y6, Y7, Y8, Y9, Y10, b13, b14, b15, b16, b17, b18, b19⟩ : St F) :=
    ⟨iblk0_eq m c t, iblk1_eq m c t, iblk2_eq m c t, iblk3_eq m c t⟩
  have hU : Upto (inX m c (bat t.val)) (inK m c (bat t.val)) (inV m c (bat t.val)) (blkOf t.val).val
      (⟨iblk m c 0 t, iblk m c 1 t, iblk m c 2 t, iblk m c 3 t, Y4, Y5, Y6, Y7, Y8, Y9, Y10, b13, b14, b15, b16, b17, b18, b19⟩ : St F) := by
    by_cases h0 : t.val % 16 = 0
    · have e : (blkOf t.val).val = 0 := h0
      rw [e]
      exact ⟨fun j hj => absurd hj (Nat.not_lt_zero _), fun j hj => absurd hj (Nat.not_lt_zero _), fun j hj => absurd hj (Nat.not_lt_zero _), fun j hj => absurd hj (Nat.not_lt_zero _), fun j hj => absurd hj (Nat.not_lt_zero _)⟩
    · have k7 : KcUpto (inK m c (bat (t.val - 1))) ((t.val - 1) % 16 + 1) Y7 := finds_7 m c t h0 Y7 h7
      have k8 : KsUpto (inX m c (bat (t.val - 1))) (inK m c (bat (t.val - 1))) ((t.val - 1) % 16 + 1) Y8 := finds_8 m c t h0 Y8 h8
      have k9 : VcUpto (inV m c (bat (t.val - 1))) ((t.val - 1) % 16 + 1) Y9 := finds_9 m c t h0 Y9 h9
      rw [hb h0, hn h0] at k7 k8 k9
      exact ⟨k7, k8, k9, (hs h0).1, (hs h0).2.1⟩
  have hB : (blkOf t.val).val ≠ 0 → Base (inV m c (bat t.val))
      (⟨iblk m c 0 t, iblk m c 1 t, iblk m c 2 t, iblk m c 3 t, Y4, Y5, Y6, Y7, Y8, Y9, Y10, b13, b14, b15, b16, b17, b18, b19⟩ : St F) := fun h0 => by
    have k10 : VsDone (inV m c (bat (t.val - 1))) Y10 := finds_10 m c t h0 Y10 h10
    rw [hb h0] at k10
    exact ⟨k10, (hs h0).2.2.1, (hs h0).2.2.2⟩
  obtain ⟨s', hr, hI', hU', hB', ho, h5', h6'⟩ := point_runs (c := c) (E := Set.univ) (mems_whole t) (grid0.coords t) (blkOf t.val) (coords_one t).symm
    (inX m c (bat t.val)) (inK m c (bat t.val)) (inV m c (bat t.val)) (inS m c) _ hI hU hB
  have e0 : s'.b2 = iblk m c 0 t := hI'.sk.trans (iblk0_eq m c t).symm
  have e1 : s'.b3 = iblk m c 1 t := hI'.x.trans (iblk1_eq m c t).symm
  have e2 : s'.b4 = iblk m c 2 t := hI'.k.trans (iblk2_eq m c t).symm
  have e3 : s'.b5 = iblk m c 3 t := hI'.v.trans (iblk3_eq m c t).symm
  have hs' : Scr m c (t.val + 1) s'.b15 s'.b16 s'.b17 s'.b18 := fun h0 => by
    have e : bat (t.val + 1) = bat t.val := Fin.ext (by show (t.val + 1) / 16 % 9 = t.val / 16 % 9; omega)
    have e' : (t.val + 1) % 16 = t.val % 16 + 1 := by omega
    rw [e, e']
    exact ⟨hU'.ksr, hU'.vt, hB'.vinv, hB'.tri⟩
  iapply (Runs.within hr _)
  isplitl [G0 G1 G2 G3 G4 G5 G6 H0 H1 H2 H3 H4 H5 H6 H7 H8 H9 H10]
  · unfold Own

    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [G0]; · iexact G0
    isplitl [G1]; · iexact G1
    isplitl [G2]; · iexact G2
    isplitl [G3]; · iexact G3
    isplitl [G4]; · iexact G4
    isplitl [G5]; · iexact G5
    iexact G6
  unfold Own
  rw [e0, e1, e2, e3]
  iintro ⟨H0, H1, H2, H3, H4, H5, H6, H7, H8, H9, H10, G0, G1, G2, G3, G4, G5, G6⟩
  isplitl [G0 G1 G2 G3 G4 G5 G6 Hr]
  · isplitl [G0 G1 G2 G3 G4 G5 G6]
    · iexists s'.b13, s'.b14, s'.b15, s'.b16, s'.b17, s'.b18, s'.b19
      isplitr
      · ipureintro; exact hs'
      isplitl [G0]; · iexact G0
      isplitl [G1]; · iexact G1
      isplitl [G2]; · iexact G2
      isplitl [G3]; · iexact G3
      isplitl [G4]; · iexact G4
      isplitl [G5]; · iexact G5
      iexact G6
    · iexact Hr
  isplitl [Ho]; · iexact Ho
  isplitl [H0]; · iexact H0
  isplitl [H1]; · iexact H1
  isplitl [H2]; · iexact H2
  isplitl [H3]; · iexact H3
  isplitl [H4]
  · iexists s'.b6; isplitr
    · ipureintro; exact ho
    · iexact H4
  isplitl [H5]
  · iexists s'.b7; isplitr
    · ipureintro; exact h5'
    · iexact H5
  isplitl [H6]
  · iexists s'.b8; isplitr
    · ipureintro; exact h6'
    · iexact H6
  isplitl [H7]
  · iexists s'.b9; isplitr
    · ipureintro; exact hU'.kc
    · iexact H7
  isplitl [H8]
  · iexists s'.b10; isplitr
    · ipureintro; exact hU'.ks
    · iexact H8
  isplitl [H9]
  · iexists s'.b11; isplitr
    · ipureintro; exact hU'.vc
    · iexact H9
  iexists s'.b12; isplitr
  · ipureintro; exact hB'.vs
  · iexact H10

/-- The body of a point under the definitions. -/
theorem defs₀_row (t : Fin cfg0.N) : defs₀ (F := F) .tc cfg0.body (cfg0.bodyArgs t (cfg0.slots t)) = bodyAt0 t := by
  unfold defs₀; rw [Defs.onTc_tc]

/-- The body obligation at every point. -/
theorem body_obligation (c : Dev nD) : BodyObligationRel (dat (F := F) m c) (defs₀ (F := F)) Variants.none () Set.univ outs (Rl m c) := fun t => by
  rw [bigSep_W0, bigSep_W0, defs₀_row]
  exact triple_restated (sound_body m c t) rfl .rfl fun _ => .rfl

/-! ## The launch -/

/-- What the region holds at its start gives the invariant before the first point. -/
theorem phi_in (c : Dev nD) : Pipeline.ΦA (Val := Elt F) (U := UR sig nD τ) spec0 c ⊢ (rdat m c).Φ 0 := by
  show _ ⊢ Phi m c 0
  unfold Pipeline.ΦA Phi
  rw [scopedRest0_eq]
  iintro ⟨⟨⟨%f0, G0⟩, ⟨%f1, G1⟩, ⟨%f2, G2⟩, ⟨%f3, G3⟩, ⟨%f4, G4⟩, ⟨%f5, G5⟩, ⟨%f6, G6⟩⟩, Hr⟩
  isplitl [G0 G1 G2 G3 G4 G5 G6]
  · iexists f0, f1, f2, f3, f4, f5, f6
    simp only [owns_whole]
    isplitr
    · ipureintro; exact fun h => absurd rfl h
    isplitl [G0]; · iexact G0
    isplitl [G1]; · iexact G1
    isplitl [G2]; · iexact G2
    isplitl [G3]; · iexact G3
    isplitl [G4]; · iexact G4
    isplitl [G5]; · iexact G5
    iexact G6
  · iexact Hr

/-- The invariant after the last point gives back what the region held. -/
theorem phi_out (c : Dev nD) : (rdat m c).Φ (Fin.last cfg0.N) ⊢ Pipeline.ΦA (Val := Elt F) (U := UR sig nD τ) spec0 c := by
  show Phi m c cfg0.N ⊢ _
  unfold Pipeline.ΦA Phi
  rw [scopedRest0_eq]
  simp only [owns_whole]
  iintro ⟨⟨%f0, %f1, %f2, %f3, %f4, %f5, %f6, %_, G0, G1, G2, G3, G4, G5, G6⟩, Hr⟩
  isplitl [G0 G1 G2 G3 G4 G5 G6]
  · isplitl [G0]; · iexists f0; iexact G0
    isplitl [G1]; · iexists f1; iexact G1
    isplitl [G2]; · iexists f2; iexact G2
    isplitl [G3]; · iexists f3; iexact G3
    isplitl [G4]; · iexists f4; iexact G4
    isplitl [G5]; · iexists f5; iexact G5
    iexists f6; iexact G6
  · iexact Hr

set_option backward.isDefEq.respectTransparency.types false in
set_option maxHeartbeats 800000 in
/-- The run: every array as the grid points leave it, every counter at zero. -/
theorem run_main : θ_run defs (onTc (τ := τ) (main (F := F))) (s₀ m ρ) (fun r => RDat.FramePost cfg0 (rdat m) (V m) r ∧ r.2.sem = fun _ => 0) :=
  RDat.θ_run_frame_track cfgs (0 : Fin 1) launch0 defs₀ Variants.none (rdat m) m ρ main
    (hbody := fun c => (body_obligation m c).toRRel) (hshare := fun c w => (dat m c).share_full (fun _ => rfl) w)
    (howed := fun _ _ => rfl) (V := V m) (hmain := hmain m Variants.none) (hA := A_eq m) (hin := phi_in m) (hout := phi_out m)
    (Q' := fun r => RDat.FramePost cfg0 (rdat m) (V m) r ∧ r.2.sem = fun _ => 0) (hQ' := fun _ h => h)

/-- The arguments end as they began, every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => by
    obtain ⟨after, -, hA⟩ := h.1.exists_exact c
    exact ⟨(hA 1).trans ((((rdat m c).withAfter after).arrAt_in 1 rfl _).trans (A_eq m c 1)),
      (hA 2).trans ((((rdat m c).withAfter after).arrAt_in 2 rfl _).trans (A_eq m c 2)),
      (hA 3).trans ((((rdat m c).withAfter after).arrAt_in 3 rfl _).trans (A_eq m c 3)),
      (hA 0).trans ((((rdat m c).withAfter after).arrAt_in 0 rfl _).trans (A_eq m c 0))⟩, h.2⟩) (run_main m ρ)

end Cert.Kernel.Model

end
-- ==== Proof.KArr.lean ====
/- What the kernel's result arrays hold after its run. -/
module

public import proofs.«01_k».proof.Proof.Obligation
public import Idealize.ShloMosaic.Lib.Pointwise

@[expose] public section

set_option synthInstance.maxSize 4096
set_option maxRecDepth 16384

noncomputable section

namespace Cert.KernelIdeal.Model

open Idealize.ShloMosaic Idealize.ShloMosaic.TcCoe Idealize.ShloMosaic.Tactic
open Idealize.SL Idealize.SL.RA Idealize.SL.BI Idealize.SL.Sem
open Idealize.ShloMosaic.Pipeline (Dat RDat Cfg Window BodyObligationRel cellOf)
open Cert.KernelIdeal.Gen
open VecWindow (window put)

variable {F : FTy → Type} [FloatOps F] [Named F]
variable (m : (ℓ : Loc nD τ sig) → Buf (Elt F) ℓ)

/-! ## The arguments under the input blocks -/

/-- The block of the queries at a grid point. -/
theorem index1 : ∀ t : Fin cfg0.N, win0_1.index t = ![t.val / 16, t.val % 16, 0] := by
  show ∀ t : Fin grid0.N, win0_1.index t = ![t.val / 16, t.val % 16, 0]
  decide +kernel

/-- A block of the queries. -/
theorem inX_apply (c : Dev nD) (b : Fin 9) (j : Fin 16) (r : Fin 256) (e : Fin 1024) :
    inX m c b j (ix3 0 r e) = m ((c : Thread nD τ).loc main_arg0) (ix3 b ⟨256 * j.val + r.val, by omega⟩ e) := by
  unfold inX
  have hb : (pt b j).val = 16 * b.val + j.val := rfl
  blk_ext [iblk, V, index1]

/-- The keys of a batch. -/
theorem inK_apply (c : Dev nD) (b : Fin 9) (s : Fin 4096) (e : Fin 256) :
    inK m c b (ix3 0 s e) = m ((c : Thread nD τ).loc main_arg1) (ix3 b s e) := by
  unfold inK
  have hb : (pt b 0).val = 16 * b.val + 0 := rfl
  blk_ext [iblk, V, index2]

/-- The values of a batch. -/
theorem inV_apply (c : Dev nD) (b : Fin 9) (s : Fin 4096) (e : Fin 256) :
    inV m c b (ix3 0 s e) = m ((c : Thread nD τ).loc main_arg2) (ix3 b s e) := by
  unfold inV
  have hb : (pt b 0).val = 16 * b.val + 0 := rfl
  blk_ext [iblk, V, index3]

/-- The sinks. -/
theorem inS_apply (c : Dev nD) (h : Fin 8) : inS m c (ix1 h) = m ((c : Thread nD τ).loc main_arg3) (ix1 h) := by
  unfold inS
  blk_ext [iblk, V, index0]

/-! ## The result arrays -/

/-- The block of the output at a grid point. -/
theorem index4 : ∀ t : Fin cfg0.N, win0_4.index t = ![t.val / 16, t.val % 16, 0] := by
  show ∀ t : Fin grid0.N, win0_4.index t = ![t.val / 16, t.val % 16, 0]
  decide +kernel

/-- The block of the query codes at a grid point. -/
theorem index5 : ∀ t : Fin cfg0.N, win0_5.index t = ![t.val / 16, t.val % 16, 0, 0] := by
  show ∀ t : Fin grid0.N, win0_5.index t = ![t.val / 16, t.val % 16, 0, 0]
  decide +kernel

/-- The block of the query scales at a grid point. -/
theorem index6 : ∀ t : Fin cfg0.N, win0_6.index t = ![t.val / 16, 0, t.val % 16] := by
  show ∀ t : Fin grid0.N, win0_6.index t = ![t.val / 16, 0, t.val % 16]
  decide +kernel

/-- The block of the key codes at a grid point. -/
theorem index7 : ∀ t : Fin cfg0.N, win0_7.index t = ![t.val / 16, 0, 0, 0] := by
  show ∀ t : Fin grid0.N, win0_7.index t = ![t.val / 16, 0, 0, 0]
  decide +kernel

/-- The block of the key scales at a grid point. -/
theorem index8 : ∀ t : Fin cfg0.N, win0_8.index t = ![t.val / 16, 0, 0] := by
  show ∀ t : Fin grid0.N, win0_8.index t = ![t.val / 16, 0, 0]
  decide +kernel

/-- The block of the value codes at a grid point. -/
theorem index9 : ∀ t : Fin cfg0.N, win0_9.index t = ![t.val / 16, 0, 0, 0] := by
  show ∀ t : Fin grid0.N, win0_9.index t = ![t.val / 16, 0, 0, 0]
  decide +kernel

/-- The block of the value scales at a grid point. -/
theorem index10 : ∀ t : Fin cfg0.N, win0_10.index t = ![t.val / 16, 0, 0] := by
  show ∀ t : Fin grid0.N, win0_10.index t = ![t.val / 16, 0, 0]
  decide +kernel

/-- The block of a position. -/
abbrev blkAt (s : Fin 4096) : Fin 16 := ⟨s.val / 256, by omega⟩

/-- A position's place in its block. -/
abbrev rowAt (s : Fin 4096) : Fin 256 := ⟨s.val % 256, by omega⟩

section
variable (c : Dev nD)

/-- An element of the output. -/
def val0 (b : Fin 9) (j : Fin 16) (r : Fin 256) (h : Fin 8) (d : Fin 128) : Elt F .bf16 := outB (inX m c b j) (inK m c b) (inV m c b) (inS m c) j h (ix3 0 r d)

/-- An element of the query codes. -/
def val1 (b : Fin 9) (j : Fin 16) (r : Fin 256) (h : Fin 8) (d : Fin 128) : Elt F .fp8e4m3 := codesB (inX m c b j) (ix4 0 r h d)

/-- An element of the query scales. -/
def val2 (b : Fin 9) (j : Fin 16) (r : Fin 256) (h : Fin 8) : Elt F .f32 := qsV (inX m c b j) (inK m c b) j (ix3 0 h r)

/-- An element of the key codes. -/
def val3 (b : Fin 9) (j : Fin 16) (r : Fin 256) (g : Fin 2) (d : Fin 128) : Elt F .fp8e4m3 := kcV (inK m c b) g j (ix4 0 0 r d)

/-- An element of the key scales. -/
def val4 (b : Fin 9) (j : Fin 16) (r : Fin 256) (g : Fin 2) : Elt F .f32 := ksV (inX m c b j) (inK m c b) j (ix3 0 g r)

/-- An element of the value codes. -/
def val5 (b : Fin 9) (j : Fin 16) (r : Fin 256) (g : Fin 2) (d : Fin 128) : Elt F .fp8e4m3 := vcV (inV m c b) g j (ix4 0 0 r d)

/-- An element of the value scales. -/
def val6 (b : Fin 9) (g : Fin 2) (d : Fin 128) : Elt F .f32 := vsV (inV m c b) g (ix3 0 0 d)

/-- The array of the output. -/
def G0 : Vec F S9x4096x1024 .bf16 := fun i =>
  val0 m c (i 0) (blkAt (i 1)) (rowAt (i 1)) ⟨(i 2).val / 128, by have h : (i 2).val < 1024 := (i 2).isLt; omega⟩ ⟨(i 2).val % 128, Nat.mod_lt _ (by decide)⟩
/-- The array of the query codes. -/
def G1 : Vec F S9x4096x8x128 .fp8e4m3 := fun i => val1 m c (i 0) (blkAt (i 1)) (rowAt (i 1)) (i 2) (i 3)
/-- The array of the query scales. -/
def G2 : Vec F S9x8x4096 .f32 := fun i => val2 m c (i 0) (blkAt (i 2)) (rowAt (i 2)) (i 1)
/-- The array of the key codes. -/
def G3 : Vec F S9x2x4096x128 .fp8e4m3 := fun i => val3 m c (i 0) (blkAt (i 2)) (rowAt (i 2)) (i 1) (i 3)
/-- The array of the key scales. -/
def G4 : Vec F S9x2x4096 .f32 := fun i => val4 m c (i 0) (blkAt (i 2)) (rowAt (i 2)) (i 1)
/-- The array of the value codes. -/
def G5 : Vec F S9x2x4096x128 .fp8e4m3 := fun i => val5 m c (i 0) (blkAt (i 2)) (rowAt (i 2)) (i 1) (i 3)
/-- The array of the value scales. -/
def G6 : Vec F S9x2x128 .f32 := fun i => val6 m c (i 0) (i 1) (i 2)

variable (after : (w : Fin cfg0.W) → Fin cfg0.N → (cfg0.win w).block.Idx → Elt F (cfg0.win w).elt)
variable (hA : ∀ (w : Fin cfg0.W) (u : Fin cfg0.N), (cfg0.win w).flush u = true → (rdat m c).Leaves w u (after w u))

include hA

/-- After the run the array of the query codes holds what the blocks say. -/
theorem arr1 : ((rdat m c).withAfter after).arrAt 5 cfg0.N = G1 m c := by
  refine Dat.arrAt_eq_of_covers _ 5 _ (by decide +kernel) fun t hf y => ?_
  have h : after 5 t = codesB (inX m c (bat t.val) (blkOf t.val)) := (dat m c).toRRel_leaves rfl (hA 5 t hf)
  have ht : t.val < 144 := t.isLt
  blk_simp
  rw [RDat.withAfter_after, h]
  idx_bounds y
  have e : codesB (inX m c (bat t.val) (blkOf t.val)) y = val1 m c (bat t.val) (blkOf t.val) (y 1) (y 2) (y 3) := by
    unfold val1
    refine congrArg _ ?_
    blk_ext
  rw [e]
  unfold G1
  congr 1 <;> apply Fin.ext <;> (try simp only [bat, blkOf, blkAt, rowAt]) <;> (try blk_simp [index5]) <;> omega

/-- After the run the array of the query scales holds what the blocks say. -/
theorem arr2 : ((rdat m c).withAfter after).arrAt 6 cfg0.N = G2 m c := by
  refine Dat.arrAt_eq_of_covers _ 6 _ (by decide +kernel) fun t hf y => ?_
  have h : after 6 t = qsV (inX m c (bat t.val) (blkOf t.val)) (inK m c (bat t.val)) (blkOf t.val) := (dat m c).toRRel_leaves rfl (hA 6 t hf)
  have ht : t.val < 144 := t.isLt
  blk_simp
  rw [RDat.withAfter_after, h]
  idx_bounds y
  have e : qsV (inX m c (bat t.val) (blkOf t.val)) (inK m c (bat t.val)) (blkOf t.val) y = val2 m c (bat t.val) (blkOf t.val) (y 2) (y 1) := by
    unfold val2
    refine congrArg _ ?_
    blk_ext
  rw [e]
  unfold G2
  congr 1 <;> apply Fin.ext <;> (try simp only [bat, blkOf, blkAt, rowAt]) <;> (try blk_simp [index6]) <;> omega

/-- After the run the array of the key codes holds what the blocks say. -/
theorem arr3 : ((rdat m c).withAfter after).arrAt 7 cfg0.N = G3 m c := by
  refine Dat.arrAt_eq_of_covers _ 7 _ (by decide +kernel) fun t hf y => ?_
  have h : KcUpto (inK m c (bat t.val)) (t.val % 16 + 1) (after 7 t) := (dat m c).toRRel_leaves rfl (hA 7 t hf)
  have ht : t.val < 144 := t.isLt
  have hm := (flush0_7 t).mp hf
  blk_simp
  rw [RDat.withAfter_after]
  idx_bounds y
  have e : after 7 t y = val3 m c (bat t.val) (blkAt (y 2)) (rowAt (y 2)) (y 1) (y 3) := by
    unfold val3
    rw [← h (blkAt (y 2)) (by show (y 2).val / 256 < _; omega) (y 1)]
    unfold window
    refine congrArg _ ?_
    blk_ext
  rw [e]
  unfold G3
  congr 1 <;> apply Fin.ext <;> (try simp only [bat, blkOf, blkAt, rowAt]) <;> (try blk_simp [index7]) <;> omega

/-- After the run the array of the key scales holds what the blocks say. -/
theorem arr4 : ((rdat m c).withAfter after).arrAt 8 cfg0.N = G4 m c := by
  refine Dat.arrAt_eq_of_covers _ 8 _ (by decide +kernel) fun t hf y => ?_
  have h : KsUpto (inX m c (bat t.val)) (inK m c (bat t.val)) (t.val % 16 + 1) (after 8 t) := (dat m c).toRRel_leaves rfl (hA 8 t hf)
  have ht : t.val < 144 := t.isLt
  have hm := (flush0_8 t).mp hf
  blk_simp
  rw [RDat.withAfter_after]
  idx_bounds y
  have e : after 8 t y = val4 m c (bat t.val) (blkAt (y 2)) (rowAt (y 2)) (y 1) := by
    unfold val4
    rw [← h (blkAt (y 2)) (by show (y 2).val / 256 < _; omega)]
    unfold window
    refine congrArg _ ?_
    blk_ext
  rw [e]
  unfold G4
  congr 1 <;> apply Fin.ext <;> (try simp only [bat, blkOf, blkAt, rowAt]) <;> (try blk_simp [index8]) <;> omega

/-- After the run the array of the value codes holds what the blocks say. -/
theorem arr5 : ((rdat m c).withAfter after).arrAt 9 cfg0.N = G5 m c := by
  refine Dat.arrAt_eq_of_covers _ 9 _ (by decide +kernel) fun t hf y => ?_
  have h : VcUpto (inV m c (bat t.val)) (t.val % 16 + 1) (after 9 t) := (dat m c).toRRel_leaves rfl (hA 9 t hf)
  have ht : t.val < 144 := t.isLt
  have hm := (flush0_9 t).mp hf
  blk_simp
  rw [RDat.withAfter_after]
  idx_bounds y
  have e : after 9 t y = val5 m c (bat t.val) (blkAt (y 2)) (rowAt (y 2)) (y 1) (y 3) := by
    unfold val5
    rw [← h (blkAt (y 2)) (by show (y 2).val / 256 < _; omega) (y 1)]
    unfold window
    refine congrArg _ ?_
    blk_ext
  rw [e]
  unfold G5
  congr 1 <;> apply Fin.ext <;> (try simp only [bat, blkOf, blkAt, rowAt]) <;> (try blk_simp [index9]) <;> omega

/-- After the run the array of the value scales holds what the blocks say. -/
theorem arr6 : ((rdat m c).withAfter after).arrAt 10 cfg0.N = G6 m c := by
  refine Dat.arrAt_eq_of_covers _ 10 _ (by decide +kernel) fun t hf y => ?_
  have h : VsDone (inV m c (bat t.val)) (after 10 t) := (dat m c).toRRel_leaves rfl (hA 10 t hf)
  have ht : t.val < 144 := t.isLt
  blk_simp
  rw [RDat.withAfter_after]
  idx_bounds y
  have e : after 10 t y = val6 m c (bat t.val) (y 1) (y 2) := by
    unfold val6
    rw [← h (y 1)]
    unfold window
    refine congrArg _ ?_
    blk_ext
  rw [e]
  unfold G6
  congr 1 <;> apply Fin.ext <;> (try simp only [bat]) <;> (try blk_simp [index10]) <;> omega

/-- After the run the array of the output holds what the blocks say. -/
theorem arr0 : ((rdat m c).withAfter after).arrAt 4 cfg0.N = G0 m c := by
  refine Dat.arrAt_eq_of_covers _ 4 _ (by decide +kernel) fun t hf y => ?_
  have h : OutDone (inX m c (bat t.val) (blkOf t.val)) (inK m c (bat t.val)) (inV m c (bat t.val)) (inS m c) (blkOf t.val) (after 4 t) := (dat m c).toRRel_leaves rfl (hA 4 t hf)
  have ht : t.val < 144 := t.isLt
  blk_simp
  rw [RDat.withAfter_after]
  idx_bounds y
  have e : after 4 t y = val0 m c (bat t.val) (blkOf t.val) (y 1) ⟨(y 2).val / 128, by omega⟩ ⟨(y 2).val % 128, Nat.mod_lt _ (by decide)⟩ := by
    unfold val0
    rw [← h ⟨(y 2).val / 128, by omega⟩]
    unfold window
    refine congrArg _ ?_
    blk_ext
  rw [e]
  unfold G0
  congr 1 <;> apply Fin.ext <;> (try simp only [bat, blkOf, blkAt, rowAt]) <;> (try blk_simp [index4]) <;> omega

end

/-- The kernel's run, its results named. -/
theorem values_run (ρ : Dev nD → PrngReg) : θ_run defs (onTc (τ := τ) (main (F := F))) ⟨m, fun _ => 0, ρ⟩ (fun r => ∀ c : Dev nD,
      r.2.mem ((c.tc : Thread nD τ).loc main_v0_0) = G0 m c
      ∧ r.2.mem ((c.tc : Thread nD τ).loc main_v0_1) = G1 m c
      ∧ r.2.mem ((c.tc : Thread nD τ).loc main_v0_2) = G2 m c
      ∧ r.2.mem ((c.tc : Thread nD τ).loc main_v0_3) = G3 m c
      ∧ r.2.mem ((c.tc : Thread nD τ).loc main_v0_4) = G4 m c
      ∧ r.2.mem ((c.tc : Thread nD τ).loc main_v0_5) = G5 m c
      ∧ r.2.mem ((c.tc : Thread nD τ).loc main_v0_6) = G6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
    obtain ⟨after, hL, hA⟩ := h.1.exists_exact c
    exact ⟨(hA 4).trans (arr0 m c after hL), (hA 5).trans (arr1 m c after hL), (hA 6).trans (arr2 m c after hL), (hA 7).trans (arr3 m c after hL),
      (hA 8).trans (arr4 m c after hL), (hA 9).trans (arr5 m c after hL), (hA 10).trans (arr6 m c after hL),
      (hA 1).trans ((((rdat m c).withAfter after).arrAt_in 1 rfl _).trans (A_eq m c 1)),
      (hA 2).trans ((((rdat m c).withAfter after).arrAt_in 2 rfl _).trans (A_eq m c 2)),
      (hA 3).trans ((((rdat m c).withAfter after).arrAt_in 3 rfl _).trans (A_eq m c 3)),
      (hA 0).trans ((((rdat m c).withAfter after).arrAt_in 0 rfl _).trans (A_eq m c 0))⟩) (run_main m ρ)

end Cert.KernelIdeal.Model

end
-- ==== Proof.Quant.lean ====
/- The exponent of a power-of-two scale over the extended reals: the kernel finds it by a table of thresholds, the
   reference by a logarithm, and both give the same integer. -/
module

public import Idealize.ShloMosaic.Lib.Pointwise

@[expose] public section

noncomputable section

namespace Cert.Quant

open Idealize.ShloMosaic

/-- The integer part of the binary logarithm. -/
def lg (y : ℝ) : ℤ := ⌊Real.log y / Real.log 2⌋

/-- The logarithm of two is positive. -/
theorem log2_pos : 0 < Real.log 2 := Real.log_pos (by norm_num)

/-- Two to the integer logarithm is at most the number. -/
theorem lg_le (y : ℝ) (hy : 0 < y) : (2 : ℝ) ^ lg y ≤ y := by
  have h := Int.floor_le (Real.log y / Real.log 2)
  rw [le_div_iff₀ log2_pos, ← Real.log_zpow] at h
  exact (Real.log_le_log_iff (by positivity) hy).mp h

/-- The number is less than two to the integer logarithm plus one. -/
theorem lt_lg (y : ℝ) (hy : 0 < y) : y < (2 : ℝ) ^ (lg y + 1) := by
  have h := Int.lt_floor_add_one (Real.log y / Real.log 2)
  rw [div_lt_iff₀ log2_pos] at h
  have h' : Real.log y < ((lg y + 1 : ℤ) : ℝ) * Real.log 2 := by push_cast; exact h
  rw [← Real.log_zpow] at h'
  exact (Real.log_lt_log_iff hy (by positivity)).mp h'

/-- The integer logarithm is the greatest exponent whose power of two is at most the number. -/
theorem le_lg (y : ℝ) (hy : 0 < y) (n : ℤ) (h : (2 : ℝ) ^ n ≤ y) : n ≤ lg y := by
  by_contra hc
  have h1 : (2 : ℝ) ^ (lg y + 1) ≤ 2 ^ n := zpow_le_zpow_right₀ (by norm_num) (by omega)
  have := lt_lg y hy
  linarith

/-- The exponent of the scale of a magnitude: the scale is `2 ^ ex a`. -/
def ex (a : ℝ) : ℤ := if a / 448 < 2 ^ (-126 : ℤ) then 0 else lg (a / 448) + 1

/-- The scale of a magnitude. -/
def sc (a : ℝ) : ℝ := 2 ^ ex a

/-- The inverse of the scale of a magnitude. -/
def isc (a : ℝ) : ℝ := 2 ^ (-ex a)

/-- A scale is positive. -/
theorem sc_pos (a : ℝ) : 0 < sc a := by unfold sc; positivity

/-- The inverse scale is the inverse of the scale. -/
theorem isc_eq (a : ℝ) : isc a = (sc a)⁻¹ := by unfold isc sc; rw [zpow_neg]

/-- An inverse scale is positive. -/
theorem isc_pos (a : ℝ) : 0 < isc a := by rw [isc_eq]; exact inv_pos.mpr (sc_pos a)

/-! ## Patterns of 32-bit floats -/

/-- What a pattern with its sign bit clear denotes, by its exponent and fraction. -/
theorem ofBits_nat (k f : ℕ) (hk : 1 ≤ k) (hk' : k ≤ 254) (hf : f < 2 ^ 23) :
    Ideal.ofBits .f32 (BitVec.ofNat 32 (k * 2 ^ 23 + f)) = (((2 ^ 23 + f : ℕ) * 2 ^ ((k : ℤ) - 150) : ℝ) : EReal) := by
  have hn : (BitVec.ofNat 32 (k * 2 ^ 23 + f)).toNat = k * 2 ^ 23 + f := by
    rw [BitVec.toNat_ofNat]; omega
  have h1 : ((BitVec.ofNat 32 (k * 2 ^ 23 + f)).extractLsb' 31 1 == 1#1) = false := by
    rw [beq_eq_false_iff_ne]
    intro h
    have := congrArg BitVec.toNat h
    rw [BitVec.extractLsb'_toNat, hn, Nat.shiftRight_eq_div_pow] at this
    simp at this
    omega
  have h2 : ((BitVec.ofNat 32 (k * 2 ^ 23 + f)).extractLsb' 23 8).toNat = k := by
    rw [BitVec.extractLsb'_toNat, hn, Nat.shiftRight_eq_div_pow]; omega
  have h3 : ((BitVec.ofNat 32 (k * 2 ^ 23 + f)).extractLsb' 0 23).toNat = f := by
    rw [BitVec.extractLsb'_toNat, hn, Nat.shiftRight_eq_div_pow]; omega
  show Ideal.ieee 8 23 _ = _
  unfold Ideal.ieee
  simp only [h2, h3]
  rw [if_neg (by omega), if_neg (by omega)]
  have h4 : ((BitVec.ofNat 32 (k * 2 ^ 23 + f)).extractLsb' (8 + 23) 1 == 1#1) = false := h1
  simp only [h4]
  congr 1
  have : ((k : ℤ) - (2 ^ (8 - 1) - 1) - (23 : ℕ)) = (k : ℤ) - 150 := by norm_num; ring
  rw [this]
  simp

/-- A power of two by its exponent field. -/
theorem ofBits_pow (k : ℕ) (hk : 1 ≤ k) (hk' : k ≤ 254) :
    Ideal.ofBits .f32 (BitVec.ofNat 32 (k * 2 ^ 23)) = (((2 : ℝ) ^ ((k : ℤ) - 127) : ℝ) : EReal) := by
  have := ofBits_nat k 0 hk hk' (by norm_num)
  rw [Nat.add_zero] at this
  rw [this]
  congr 1
  have : (k : ℤ) - 127 = 23 + ((k : ℤ) - 150) := by ring
  rw [this, zpow_add₀ (by norm_num : (2 : ℝ) ≠ 0)]
  norm_num

/-! ## The kernel's table -/

/-- One step of the table: the exponent field `k` in place. -/
def step (k : Fin 256) : BitVec 32 := IntOp.shli .vector (BitVec.ofNat 32 k.val) 23#32

/-- The pattern of the threshold of exponent field `k`. -/
def bnd (k : Fin 256) : BitVec 32 := IntOp.subi (IntOp.shli .vector (BitVec.ofNat 32 k.val) 23#32) 2097152#32

/-- The word of exponent field `k` is `k * 2 ^ 23`. -/
theorem step_eq : ∀ k : Fin 256, step k = BitVec.ofNat 32 (k.val * 2 ^ 23) := by decide +kernel

/-- The pattern of a threshold: the exponent field before it and the fraction three quarters. -/
theorem bnd_eq : ∀ k : Fin 256, 2 ≤ k.val → bnd k = BitVec.ofNat 32 ((k.val - 1) * 2 ^ 23 + 6291456) := by decide +kernel

/-- The thresholds from the second on. -/
theorem bnd_val (k : Fin 256) (hk : 2 ≤ k.val) :
    Ideal.ofBits .f32 (bnd k) = ((448 * 2 ^ ((k.val : ℤ) - 136) : ℝ) : EReal) := by
  rw [bnd_eq k hk, ofBits_nat _ _ (by omega) (by omega) (by norm_num)]
  congr 1
  have h : ((k.val - 1 : ℕ) : ℤ) - 150 = ((k.val : ℤ) - 136) + (-15) := by omega
  rw [h, zpow_add₀ (by norm_num : (2 : ℝ) ≠ 0)]
  norm_num
  ring

/-- The exponent field the kernel finds for a magnitude. -/
def word (x : EReal) : BitVec 32 :=
  (Finset.univ : Finset (Fin 256)).fold IntOp.maxsi 2147483648#32
    (fun k => Scalar.select (Ideal.cmp .olt x (Ideal.ofBits .f32 (bnd k))) 0#32 (step k))

/-- The signed maximum of words is the maximum of integers. -/
theorem maxsi_toInt (a b : BitVec 32) : (IntOp.maxsi a b).toInt = max a.toInt b.toInt := by
  unfold IntOp.maxsi
  simp only [BitVec.slt, decide_eq_true_eq]
  split <;> omega

/-- The signed maximum of a table of words is the maximum of its integers. -/
theorem fold_toInt (g : Fin 256 → BitVec 32) :
    ((Finset.univ : Finset (Fin 256)).fold IntOp.maxsi 2147483648#32 g).toInt
      = (Finset.univ : Finset (Fin 256)).fold max (2147483648#32 : BitVec 32).toInt (fun k => (g k).toInt) :=
  (Finset.fold_hom (op := IntOp.maxsi) (op' := max) (m := BitVec.toInt) maxsi_toInt).symm

/-- The word of exponent field `k` as an integer. -/
theorem step_toInt (k : Fin 256) : (step k).toInt = k.val * 2 ^ 23 := by
  rw [step_eq]; revert k; decide +kernel

/-- One entry of the table, by the comparison. -/
theorem entry_lt (x : EReal) (k : Fin 256) (h : x < Ideal.ofBits .f32 (bnd k)) :
    Scalar.select (Ideal.cmp .olt x (Ideal.ofBits .f32 (bnd k))) 0#32 (step k) = 0#32 := by
  simp [Ideal.cmp, h, Scalar.select]

/-- A table entry whose threshold is reached is the word of its exponent field. -/
theorem entry_ge (x : EReal) (k : Fin 256) (h : ¬ x < Ideal.ofBits .f32 (bnd k)) :
    Scalar.select (Ideal.cmp .olt x (Ideal.ofBits .f32 (bnd k))) 0#32 (step k) = step k := by
  simp [Ideal.cmp, h, Scalar.select]

/-- Every entry lies between zero and its step. -/
theorem entry_le (x : EReal) (k : Fin 256) :
    (Scalar.select (Ideal.cmp .olt x (Ideal.ofBits .f32 (bnd k))) 0#32 (step k)).toInt ≤ k.val * 2 ^ 23 := by
  by_cases h : x < Ideal.ofBits .f32 (bnd k)
  · rw [entry_lt x k h]; simp
  · rw [entry_ge x k h, step_toInt]

/-- A magnitude below the tenth threshold has a small exponent field. -/
theorem word_small (a : ℝ) (h : a / 448 < 2 ^ (-126 : ℤ)) : (word (a : EReal)).toInt < 83886080 := by
  unfold word
  rw [fold_toInt, Finset.fold_max_lt]
  refine ⟨by decide, fun k _ => ?_⟩
  by_cases hk : k.val < 10
  · have := entry_le (a : EReal) k
    have : (k.val : ℤ) * 2 ^ 23 < 83886080 := by norm_num; omega
    omega
  · rw [entry_lt]
    · decide
    · rw [bnd_val k (by omega), EReal.coe_lt_coe_iff]
      have h1 : (2 : ℝ) ^ (-126 : ℤ) ≤ 2 ^ ((k.val : ℤ) - 136) := zpow_le_zpow_right₀ (by norm_num) (by omega)
      have := h.trans_le h1
      rw [div_lt_iff₀ (by norm_num)] at this
      linarith

/-- A magnitude at or above the tenth threshold has the exponent field of its binade. -/
theorem word_big (a : ℝ) (h : ¬ a / 448 < 2 ^ (-126 : ℤ)) (ha : a < 2 ^ (128 : ℤ)) :
    ∃ E : ℕ, 10 ≤ E ∧ E ≤ 255 ∧ (E : ℤ) = ex a + 135 ∧ word (a : EReal) = BitVec.ofNat 32 (E * 2 ^ 23) := by
  have hy : 0 < a / 448 := lt_of_lt_of_le (by positivity) (not_lt.mp h)
  have hlo := lg_le _ hy
  have hhi := lt_lg _ hy
  have hn : (-126 : ℤ) ≤ lg (a / 448) := le_lg _ hy _ (not_lt.mp h)
  have hn' : lg (a / 448) ≤ 119 := by
    by_contra hc
    have h1 : (2 : ℝ) ^ (120 : ℤ) ≤ 2 ^ (lg (a / 448)) := zpow_le_zpow_right₀ (by norm_num) (by omega)
    have h2 := h1.trans hlo
    rw [le_div_iff₀ (by norm_num)] at h2
    have h3 : (2 : ℝ) ^ (128 : ℤ) ≤ 2 ^ (120 : ℤ) * 448 := by norm_num
    linarith
  obtain ⟨E, hE⟩ : ∃ E : ℕ, (E : ℤ) = lg (a / 448) + 136 := ⟨(lg (a / 448) + 136).toNat, by omega⟩
  have hEx : (E : ℤ) = ex a + 135 := by unfold ex; rw [if_neg h]; omega
  have h255 : E < 256 := by omega
  refine ⟨E, by omega, by omega, hEx, ?_⟩
  have hstep : step ⟨E, h255⟩ = BitVec.ofNat 32 (E * 2 ^ 23) := step_eq ⟨E, h255⟩
  rw [← hstep]
  apply BitVec.eq_of_toInt_eq
  rw [step_toInt]
  unfold word
  rw [fold_toInt]
  apply le_antisymm
  · rw [Finset.fold_max_le]
    refine ⟨by have : (2147483648#32 : BitVec 32).toInt = -2147483648 := by decide
               rw [this]; norm_num; omega, fun k _ => ?_⟩
    by_cases hk : k.val ≤ E
    · refine (entry_le _ k).trans ?_
      norm_num; omega
    · rw [entry_lt]
      · norm_num
      · rw [bnd_val k (by omega), EReal.coe_lt_coe_iff]
        have h1 : (2 : ℝ) ^ (lg (a / 448) + 1) ≤ 2 ^ ((k.val : ℤ) - 136) := zpow_le_zpow_right₀ (by norm_num) (by omega)
        have := hhi.trans_le h1
        rw [div_lt_iff₀ (by norm_num)] at this
        linarith
  · rw [Finset.le_fold_max]
    right
    refine ⟨⟨E, h255⟩, Finset.mem_univ _, ?_⟩
    rw [entry_ge, step_toInt]
    rw [bnd_val ⟨E, h255⟩ (by show 2 ≤ E; omega), EReal.coe_lt_coe_iff, not_lt]
    have h1 : ((E : ℤ) - 136) = lg (a / 448) := by omega
    show 448 * (2 : ℝ) ^ ((E : ℤ) - 136) ≤ a
    rw [h1]
    rw [le_div_iff₀ (by norm_num)] at hlo
    linarith

/-- Whether the exponent field of a word is large enough. -/
def okW (e : BitVec 32) : BitVec 1 := IntOp.cmpi .sge e 83886080#32

/-- An exponent word below the tenth field is refused. -/
theorem okW_small (e : BitVec 32) (h : e.toInt < 83886080) : okW e = 0#1 := by
  have : ¬ (83886080 : ℤ) ≤ e.toInt := by omega
  simp [okW, IntOp.cmpi, BitVec.sle, this]

/-- An exponent word from the tenth field on is accepted. -/
theorem okW_big : ∀ E : Fin 256, 10 ≤ E.val → okW (BitVec.ofNat 32 (E.val * 2 ^ 23)) = 1#1 := by decide +kernel

/-- The kernel's scale. -/
theorem scale_word (a : ℝ) (ha : a < 2 ^ (128 : ℤ)) :
    Ideal.ofBits .f32 (Scalar.select (okW (word a)) (IntOp.subi (word a) 67108864#32) 1065353216#32) = ((sc a : ℝ) : EReal) := by
  by_cases h : a / 448 < 2 ^ (-126 : ℤ)
  · rw [okW_small _ (word_small a h)]
    have : (Scalar.select 0#1 (IntOp.subi (word a) 67108864#32) 1065353216#32) = BitVec.ofNat 32 (127 * 2 ^ 23) := by
      simp [Scalar.select]
    rw [this, ofBits_pow _ (by norm_num) (by norm_num)]
    unfold sc ex
    rw [if_pos h]; simp
  · obtain ⟨E, h1, h2, h3, h4⟩ := word_big a h ha
    rw [h4, okW_big ⟨E, by omega⟩ h1]
    have : ∀ E : Fin 256, 10 ≤ E.val → Scalar.select 1#1 (IntOp.subi (BitVec.ofNat 32 (E.val * 2 ^ 23)) 67108864#32) 1065353216#32 = BitVec.ofNat 32 ((E.val - 8) * 2 ^ 23) := by
      decide +kernel
    rw [this ⟨E, by omega⟩ h1, ofBits_pow _ (by show 1 ≤ E - 8; omega) (by show E - 8 ≤ 254; omega)]
    unfold sc
    congr 2
    show ((E - 8 : ℕ) : ℤ) - 127 = ex a
    omega

/-- The kernel's inverse scale. -/
theorem inv_word (a : ℝ) (ha : a < 2 ^ (128 : ℤ)) :
    Ideal.ofBits .f32 (Scalar.select (okW (word a)) (IntOp.subi 2197815296#32 (word a)) 1065353216#32) = ((isc a : ℝ) : EReal) := by
  by_cases h : a / 448 < 2 ^ (-126 : ℤ)
  · rw [okW_small _ (word_small a h)]
    have : (Scalar.select 0#1 (IntOp.subi 2197815296#32 (word a)) 1065353216#32) = BitVec.ofNat 32 (127 * 2 ^ 23) := by
      simp [Scalar.select]
    rw [this, ofBits_pow _ (by norm_num) (by norm_num)]
    unfold isc ex
    rw [if_pos h]; simp
  · obtain ⟨E, h1, h2, h3, h4⟩ := word_big a h ha
    rw [h4, okW_big ⟨E, by omega⟩ h1]
    have : ∀ E : Fin 256, 10 ≤ E.val → Scalar.select 1#1 (IntOp.subi 2197815296#32 (BitVec.ofNat 32 (E.val * 2 ^ 23))) 1065353216#32 = BitVec.ofNat 32 ((262 - E.val) * 2 ^ 23) := by
      decide +kernel
    rw [this ⟨E, by omega⟩ h1, ofBits_pow _ (by show 1 ≤ 262 - E; omega) (by show 262 - E ≤ 254; omega)]
    unfold isc
    congr 2
    show ((262 - E : ℕ) : ℤ) - 127 = -ex a
    omega

/-- The kernel's exponent as a float. -/
theorem exp_word (a : ℝ) (ha : a < 2 ^ (128 : ℤ)) :
    (Scalar.select (okW (word a)) (IntOp.subi (IntOp.shrui .vector (word a) 23#32) 135#32) 0#32).toInt = ex a := by
  by_cases h : a / 448 < 2 ^ (-126 : ℤ)
  · rw [okW_small _ (word_small a h)]
    unfold ex
    rw [if_pos h]
    simp [Scalar.select]
  · obtain ⟨E, h1, h2, h3, h4⟩ := word_big a h ha
    rw [h4, okW_big ⟨E, by omega⟩ h1]
    have : ∀ E : Fin 256, 10 ≤ E.val → (Scalar.select 1#1 (IntOp.subi (IntOp.shrui .vector (BitVec.ofNat 32 (E.val * 2 ^ 23)) 23#32) 135#32) 0#32).toInt = (E.val : ℤ) - 135 := by
      decide +kernel
    rw [this ⟨E, by omega⟩ h1]
    show (E : ℤ) - 135 = ex a
    omega

/-! ## The reference's logarithm -/

/-- The pattern of 448. -/
theorem ofBits_448 : Ideal.ofBits .f32 0x43E00000#32 = ((448 : ℝ) : EReal) := by
  simp [Ideal.ofBits, Ideal.ieee, -EReal.coe_mul]; norm_num

/-- The pattern of -448. -/
theorem ofBits_neg448 : Ideal.ofBits .f32 0xC3E00000#32 = ((-448 : ℝ) : EReal) := by
  simp [Ideal.ofBits, Ideal.ieee, -EReal.coe_mul]; norm_num

/-- The pattern of 2. -/
theorem ofBits_two : Ideal.ofBits .f32 0x40000000#32 = ((2 : ℝ) : EReal) := by
  simp [Ideal.ofBits, Ideal.ieee, -EReal.coe_mul]; norm_num

/-- The pattern of 128. -/
theorem ofBits_128 : Ideal.ofBits .f32 0x43000000#32 = ((128 : ℝ) : EReal) := by
  simp [Ideal.ofBits, Ideal.ieee, -EReal.coe_mul]; norm_num

/-- The pattern of the smallest normal number. -/
theorem ofBits_tiny : Ideal.ofBits .f32 0x00800000#32 = (((2 : ℝ) ^ (-126 : ℤ) : ℝ) : EReal) := by
  have := ofBits_pow 1 (by norm_num) (by norm_num)
  simpa using this

/-- The pattern of minus infinity. -/
theorem ofBits_bot : Ideal.ofBits .f32 0xFF800000#32 = ⊥ := by simp [Ideal.ofBits, Ideal.ieee]

/-- Division of reals by a real that is not zero. -/
theorem div_real (x y : ℝ) (hy : y ≠ 0) : Ideal.div (x : EReal) (y : EReal) = ((x / y : ℝ) : EReal) := by
  unfold Ideal.div
  rw [if_neg (by simpa using hy), div_eq_mul_inv, EReal.coe_mul, EReal.coe_inv]

/-- The power of two of a real. -/
theorem exp2_real (x : ℝ) : Ideal.exp2 (x : EReal) = (((2 : ℝ) ^ x : ℝ) : EReal) := rfl

/-- An integer power of two. -/
theorem pow_two (n : ℤ) : Ideal.pow ((2 : ℝ) : EReal) ((n : ℝ) : EReal) = (((2 : ℝ) ^ n : ℝ) : EReal) := by
  show ((Real.rpow 2 (n : ℝ) : ℝ) : EReal) = _
  congr 1
  exact Real.rpow_intCast 2 n

/-- The reference's exponent as it computes it. -/
def exR (a : EReal) : EReal :=
  Scalar.select (Ideal.cmp .olt (Ideal.div a ((448 : ℝ) : EReal)) (((2 : ℝ) ^ (-126 : ℤ) : ℝ) : EReal)) (0 : EReal)
    (Ideal.liftRound Int.floor (Ideal.div (Ideal.log (Ideal.div a ((448 : ℝ) : EReal))) (Ideal.log ((2 : ℝ) : EReal))) + 1)

/-- On a real the reference's exponent is the exponent of a magnitude. -/
theorem exR_eq (a : ℝ) : exR (a : EReal) = ((ex a : ℝ) : EReal) := by
  unfold exR ex
  rw [div_real _ _ (by norm_num)]
  by_cases h : a / 448 < 2 ^ (-126 : ℤ)
  · rw [if_pos h]
    have : Ideal.cmp .olt ((a / 448 : ℝ) : EReal) (((2 : ℝ) ^ (-126 : ℤ) : ℝ) : EReal) = 1#1 := by
      unfold Ideal.cmp
      simp only [EReal.coe_lt_coe_iff, h]
      rfl
    rw [this]
    simp [Scalar.select]
  · rw [if_neg h]
    have : Ideal.cmp .olt ((a / 448 : ℝ) : EReal) (((2 : ℝ) ^ (-126 : ℤ) : ℝ) : EReal) = 0#1 := by
      unfold Ideal.cmp
      simp only [EReal.coe_lt_coe_iff, h]
      rfl
    rw [this]
    have hy : 0 < a / 448 := lt_of_lt_of_le (by positivity) (not_lt.mp h)
    have h1 : Ideal.log ((a / 448 : ℝ) : EReal) = ((Real.log (a / 448) : ℝ) : EReal) := by
      show (if a / 448 ≤ 0 then (⊥ : EReal) else _) = _
      rw [if_neg (by linarith)]
    have h2 : Ideal.log ((2 : ℝ) : EReal) = ((Real.log 2 : ℝ) : EReal) := by
      show (if (2 : ℝ) ≤ 0 then (⊥ : EReal) else _) = _
      rw [if_neg (by norm_num)]
    rw [h1, h2, div_real _ _ (by have := Real.log_pos (by norm_num : (1 : ℝ) < 2); linarith)]
    have h3 : ⌊Real.log (a / 448) / Real.log 2⌋ = lg (a / 448) := rfl
    show (((⌊Real.log (a / 448) / Real.log 2⌋ : ℝ) : EReal) + 1) = _
    rw [h3]
    push_cast
    rfl

end Cert.Quant

end
-- ==== Proof.Coord.lean ====
/- The values of the structured body read at an index over the extended reals. -/
module

public import proofs.«01_k».proof.Proof.Quant
public import proofs.«01_k».proof.Proof.Block

@[expose] public section

set_option synthInstance.maxSize 4096
set_option maxRecDepth 16384

noncomputable section

namespace Cert.KernelIdeal.Model

open Idealize.ShloMosaic Idealize.SL.Sem
open Cert.Quant
open VecWindow (window put)

/-! ## Scalars -/

/-- The kernel's scale of a magnitude. -/
def scW (a : EReal) : EReal := Ideal.ofBits .f32 (Scalar.select (okW (word a)) (IntOp.subi (word a) 67108864#32) 1065353216#32)

/-- The kernel's inverse scale of a magnitude. -/
def invW (a : EReal) : EReal := Ideal.ofBits .f32 (Scalar.select (okW (word a)) (IntOp.subi 2197815296#32 (word a)) 1065353216#32)

/-- A clip to the range of the codes. -/
def clampE (x : EReal) : EReal := min ((448 : ℝ) : EReal) (max ((-448 : ℝ) : EReal) x)

/-- The largest magnitude of a family. -/
def amax {n : ℕ} (f : Fin n → EReal) : EReal := (Finset.univ : Finset (Fin n)).fold max ⊥ (fun k => max (f k) (-f k))

/-! ## The exponent words -/

/-- The exponent word of a column of maxima, entry by entry. -/
theorem expCol_apply (a : FVec Ideal S256x1 .f32) (r : Fin 256) (z : Fin 1) : expCol a (ix2 r z) = word (a (ix2 r z)) := by
  unfold expCol expBits
  refine (multiReductionI_eq_fold .maxsi _ _ _ rfl _).trans ?_
  refine (Shape.Reduces.fold_fiber_r3_a0 _ _ _ _ _).trans ?_
  unfold word
  refine congrArg (fun g => Finset.fold IntOp.maxsi 2147483648#32 g Finset.univ) (funext fun k => ?_)
  pointwise [bnd, step]
  rw [Subsingleton.elim z 0]

/-- The exponent word of a row of 128 maxima, entry by entry. -/
theorem expLane_apply (a : FVec Ideal S1x128 .f32) (r : Fin 1) (z : Fin 128) : expLane a (ix2 r z) = word (a (ix2 r z)) := by
  unfold expLane expBits
  refine (multiReductionI_eq_fold .maxsi _ _ _ rfl _).trans ?_
  refine (Shape.Reduces.fold_fiber_r3_a0 _ _ _ _ _).trans ?_
  unfold word
  refine congrArg (fun g => Finset.fold IntOp.maxsi 2147483648#32 g Finset.univ) (funext fun k => ?_)
  pointwise [bnd, step]
  rw [Subsingleton.elim r 0]

/-- The exponent word of sixteen rows of maxima, entry by entry. -/
theorem expRows_apply (a : FVec Ideal S16x256 .f32) (r : Fin 16) (z : Fin 256) : expRows a (ix2 r z) = word (a (ix2 r z)) := by
  unfold expRows expBits
  refine (multiReductionI_eq_fold .maxsi _ _ _ rfl _).trans ?_
  refine (Shape.Reduces.fold_fiber_r3_a0 _ _ _ _ _).trans ?_
  unfold word
  refine congrArg (fun g => Finset.fold IntOp.maxsi 2147483648#32 g Finset.univ) (funext fun k => ?_)
  pointwise [bnd, step]

/-- The exponent word of a row of 256 maxima, entry by entry. -/
theorem expRow_apply (a : FVec Ideal S1x256 .f32) (r : Fin 1) (z : Fin 256) : expRow a (ix2 r z) = word (a (ix2 r z)) := by
  unfold expRow expBits
  refine (multiReductionI_eq_fold .maxsi _ _ _ rfl _).trans ?_
  refine (Shape.Reduces.fold_fiber_r3_a0 _ _ _ _ _).trans ?_
  unfold word
  refine congrArg (fun g => Finset.fold IntOp.maxsi 2147483648#32 g Finset.univ) (funext fun k => ?_)
  pointwise [bnd, step]
  rw [Subsingleton.elim r 0]

/-- The scale that an exponent word stands for, entry by entry. -/
theorem scaleOf_apply {s : Shape} (e : IVec s 32) (j : s.Idx) :
    scaleOf (F := Ideal) e j = Ideal.ofBits .f32 (Scalar.select (okW (e j)) (IntOp.subi (e j) 67108864#32) 1065353216#32) := rfl

/-- The inverse scale that an exponent word stands for, entry by entry. -/
theorem invOf_apply {s : Shape} (e : IVec s 32) (j : s.Idx) :
    invOf (F := Ideal) e j = Ideal.ofBits .f32 (Scalar.select (okW (e j)) (IntOp.subi 2197815296#32 (e j)) 1065353216#32) := rfl

/-- The clipping to the range of the codes, entry by entry. -/
theorem clip_apply {s : Shape} (x : FVec Ideal s .f32) (j : s.Idx) : clip x j = clampE (x j) := by
  show min (Ideal.ofBits .f32 0x43E00000#32) (max (Ideal.ofBits .f32 0xC3E00000#32) (x j)) = _
  rw [ofBits_448, ofBits_neg448]; rfl

/-! ## The quantisation of a block -/

/-- The greatest magnitude of each row. -/
theorem amaxCol_apply (x : FVec Ideal S256x128 .f32) (r : Fin 256) (z : Fin 1) : amaxCol x (ix2 r z) = amax (fun d : Fin 128 => x (ix2 r d)) := by
  pointwise [amaxCol]
  rw [ofBits_bot]
  rfl

/-- The codes of a matrix: each entry times the inverse scale of its row, clipped. -/
theorem codesOf_apply (x : FVec Ideal S256x128 .f32) (r : Fin 256) (d : Fin 128) :
    codesOf x (ix2 r d) = clampE (x (ix2 r d) * invW (amax fun d : Fin 128 => x (ix2 r d))) := by
  unfold codesOf
  rw [clip_apply]
  pointwise []
  rw [invOf_apply, expCol_apply, amaxCol_apply]
  rfl

/-- The row scales of a matrix, repeated along the lanes. -/
theorem scaleTile_apply (x : FVec Ideal S256x128 .f32) (r : Fin 256) (d : Fin 128) :
    scaleTile x (ix2 r d) = scW (amax fun d : Fin 128 => x (ix2 r d)) := by
  pointwise [scaleTile]
  rw [scaleOf_apply, expCol_apply, amaxCol_apply]
  rfl

/-- A block as a matrix of its rows. -/
theorem rowsOf_apply (x : Vec Ideal S1x256x128 .bf16) (r : Fin 256) (d : Fin 128) : rowsOf x (ix2 r d) = x (ix3 0 r d) := by
  pointwise [rowsOf]

/-- The greatest magnitude of each column of the values. -/
theorem amaxLane_apply (x : Vec Ideal S1x4096x128 .bf16) (z : Fin 1) (d : Fin 128) : amaxLane x (ix2 z d) = amax (fun s : Fin 4096 => x (ix3 0 s d)) := by
  pointwise [amaxLane]
  rw [ofBits_bot]
  rfl

/-- The codes of a block of values with given inverse scales of the columns. -/
theorem vcodesOf_apply (x : Vec Ideal S1x256x128 .bf16) (vinv : Vec Ideal S1x128 .f32) (r : Fin 256) (d : Fin 128) :
    vcodesOf x vinv (ix2 r d) = clampE (x (ix3 0 r d) * vinv (ix2 0 d)) := by
  unfold vcodesOf
  rw [clip_apply]
  pointwise [rowsOf]

/-! ## The pieces of a block -/

/-- A head's block of keys: its entries in the batch's keys. -/
theorem kblk_apply (K : Vec Ideal S1x4096x256 .bf16) (g : Fin 2) (j : Fin 16) (r : Fin 256) (d : Fin 128) :
    kblk K g j (ix3 0 r d) = K (ix3 0 ⟨256 * j.val + r.val, by omega⟩ ⟨128 * g.val + d.val, by omega⟩) := by
  unfold kblk window
  congr 1
  funext a
  fin_cases a <;> apply Fin.ext <;> simp [ix3]

/-- A head of a block of queries: its entries in the block. -/
theorem qblk_apply (X : Vec Ideal S1x256x1024 .bf16) (h : Fin 8) (r : Fin 256) (d : Fin 128) :
    qblk X h (ix3 0 r d) = X (ix3 0 r ⟨128 * h.val + d.val, by omega⟩) := by
  unfold qblk window
  congr 1
  funext a
  fin_cases a <;> apply Fin.ext <;> simp [ix3]

/-- A head of the values: its entries in the batch's values. -/
theorem vall_apply (V : Vec Ideal S1x4096x256 .bf16) (g : Fin 2) (s : Fin 4096) (d : Fin 128) :
    vall V g (ix3 0 s d) = V (ix3 0 s ⟨128 * g.val + d.val, by omega⟩) := by
  unfold vall window
  congr 1
  funext a
  fin_cases a <;> apply Fin.ext <;> simp [ix3]

end Cert.KernelIdeal.Model

end
-- ==== Proof.BlockValue.lean ====
/- The quantised blocks read at an index. -/
module

public import proofs.«01_k».proof.Proof.Coord
@[expose] public section
set_option synthInstance.maxSize 4096
set_option maxRecDepth 16384
noncomputable section
namespace Cert.KernelIdeal.Model
open Idealize.ShloMosaic Idealize.SL.Sem
open Cert.Quant
open Facts₀ Facts

/-- A key row of a batch. -/
abbrev kRow (K : Vec Ideal S1x4096x256 .bf16) (g : Fin 2) (s : Fin 4096) : Fin 128 → EReal := fun d => K (ix3 0 s ⟨128 * g.val + d.val, by omega⟩)

/-- A query row of a block. -/
abbrev qRow (X : Vec Ideal S1x256x1024 .bf16) (h : Fin 8) (r : Fin 256) : Fin 128 → EReal := fun d => X (ix3 0 r ⟨128 * h.val + d.val, by omega⟩)

/-- A value column of a batch. -/
abbrev vCol (V : Vec Ideal S1x4096x256 .bf16) (g : Fin 2) (d : Fin 128) : Fin 4096 → EReal := fun s => V (ix3 0 s ⟨128 * g.val + d.val, by omega⟩)

/-- Position `r` of block `j`. -/
abbrev at' (j : Fin 16) (r : Fin 256) : Fin 4096 := ⟨256 * j.val + r.val, by omega⟩

/-- The codes of a block of keys: each entry times the inverse scale of its row, clipped. -/
theorem kcV_apply (K : Vec Ideal S1x4096x256 .bf16) (g : Fin 2) (j : Fin 16) (r : Fin 256) (d : Fin 128) :
    kcV K g j (ix4 0 0 r d) = clampE (kRow K g (at' j r) d * invW (amax (kRow K g (at' j r)))) := by
  pointwise [kcV]
  rw [codesOf_apply]
  simp only [rowsOf_apply, kblk_apply]

/-- The row scales of a block of keys, repeated along the lanes. -/
theorem ksrV_apply (K : Vec Ideal S1x4096x256 .bf16) (g : Fin 2) (j : Fin 16) (r : Fin 256) (d : Fin 128) :
    ksrV K g j (ix4 0 0 r d) = scW (amax (kRow K g (at' j r))) := by
  pointwise [ksrV]
  rw [scaleTile_apply]
  simp only [rowsOf_apply, kblk_apply]

/-- The inverse scales of the value columns. -/
theorem vinvV_apply (V : Vec Ideal S1x4096x256 .bf16) (g : Fin 2) (d : Fin 128) :
    vinvV V g (ix2 0 d) = invW (amax (vCol V g d)) := by
  pointwise [vinvV]
  rw [invOf_apply, expLane_apply, amaxLane_apply]
  simp only [vall_apply]
  rfl

/-- The scales of the value columns. -/
theorem vsV_apply (V : Vec Ideal S1x4096x256 .bf16) (g : Fin 2) (d : Fin 128) :
    vsV V g (ix3 0 0 d) = scW (amax (vCol V g d)) := by
  pointwise [vsV]
  rw [scaleOf_apply, expLane_apply, amaxLane_apply]
  simp only [vall_apply]
  rfl

/-- The codes of a block of values: each entry times the inverse scale of its column, clipped. -/
theorem vcV_apply (V : Vec Ideal S1x4096x256 .bf16) (g : Fin 2) (j : Fin 16) (r : Fin 256) (d : Fin 128) :
    vcV V g j (ix4 0 0 r d) = clampE (vCol V g d (at' j r) * invW (amax (vCol V g d))) := by
  pointwise [vcV]
  rw [vcodesOf_apply, vinvV_apply, kblk_apply]

/-- The transposed codes of a block of values. -/
theorem vtV_apply (V : Vec Ideal S1x4096x256 .bf16) (g : Fin 2) (j : Fin 16) (r : Fin 256) (d : Fin 128) :
    vtV V g j (ix4 0 0 d r) = clampE (vCol V g d (at' j r) * invW (amax (vCol V g d))) := by
  pointwise [vtV]
  rw [vcodesOf_apply, vinvV_apply, kblk_apply]

/-- The codes of a head of a block of queries: each entry times the inverse scale of its row, clipped. -/
theorem qcV_apply (X : Vec Ideal S1x256x1024 .bf16) (h : Fin 8) (r : Fin 256) (d : Fin 128) :
    qcV X h (ix3 0 r d) = clampE (qRow X h r d * invW (amax (qRow X h r))) := by
  pointwise [qcV]
  rw [codesOf_apply]
  simp only [rowsOf_apply, qblk_apply]

/-- The row maxima of a block of keys. -/
theorem amaxK_apply (K : Vec Ideal S1x4096x256 .bf16) (g : Fin 2) (j : Fin 16) (r : Fin 256) (z : Fin 1) :
    amaxCol (rowsOf (kblk K g j)) (ix2 r z) = amax (kRow K g (at' j r)) := by
  rw [amaxCol_apply]; simp only [rowsOf_apply, kblk_apply]

/-- The row maxima of a head of a block of queries. -/
theorem amaxQ_apply (X : Vec Ideal S1x256x1024 .bf16) (h : Fin 8) (r : Fin 256) (z : Fin 1) :
    amaxCol (rowsOf (qblk X h)) (ix2 r z) = amax (qRow X h r) := by
  rw [amaxCol_apply]; simp only [rowsOf_apply, qblk_apply]

/-- One lane is replaced by a column, the other lanes stay. -/
theorem laneSel_apply (n : BitVec 32) (a : FVec Ideal S256x1 .f32) (acc : FVec Ideal S256x128 .f32) (r : Fin 256) (l : Fin 128) :
    laneSel n a acc (ix2 r l) = if BitVec.ofNat 32 l.val = n then a (ix2 r 0) else acc (ix2 r l) := by
  pointwise [laneSel]
  by_cases h : BitVec.ofNat 32 l.val = n
  · simp [Scalar.select, IntOp.cmpi, h]
  · have : (BitVec.ofNat 32 l.val == n) = false := by simpa using h
    simp [Scalar.select, IntOp.cmpi, h, this]

/-- The gathered maxima hold in lane `h` those of query head `h`. -/
theorem accV_q (X : Vec Ideal S1x256x1024 .bf16) (K : Vec Ideal S1x4096x256 .bf16) (j : Fin 16) (r : Fin 256) (h : Fin 8) :
    accV X K j (ix2 r ⟨h.val, by omega⟩) = amax (qRow X h r) := by
  unfold accV
  simp only [List.foldl_cons, List.foldl_nil, laneSel_apply, amaxQ_apply, amaxK_apply]
  have e : ∀ n : Fin 8, (BitVec.ofNat 32 h.val = BitVec.ofNat 32 n.val) = (h = n) := by revert h; decide +kernel
  have e8 : ¬ BitVec.ofNat 32 h.val = 8#32 := by revert h; decide +kernel
  have e9 : ¬ BitVec.ofNat 32 h.val = 9#32 := by revert h; decide +kernel
  simp only [e]
  have hh : h = 0 ∨ h = 1 ∨ h = 2 ∨ h = 3 ∨ h = 4 ∨ h = 5 ∨ h = 6 ∨ h = 7 := by revert h; decide
  rcases hh with rfl | rfl | rfl | rfl | rfl | rfl | rfl | rfl <;> simp

/-- The gathered maxima hold in lane `8 + g` those of key head `g`. -/
theorem accV_k (X : Vec Ideal S1x256x1024 .bf16) (K : Vec Ideal S1x4096x256 .bf16) (j : Fin 16) (r : Fin 256) (g : Fin 2) :
    accV X K j (ix2 r ⟨8 + g.val, by omega⟩) = amax (kRow K g (at' j r)) := by
  unfold accV
  simp only [List.foldl_cons, List.foldl_nil, laneSel_apply, amaxQ_apply, amaxK_apply]
  have e : ∀ n : Fin 8, (BitVec.ofNat 32 (8 + g.val) = BitVec.ofNat 32 n.val) = False := by revert g; decide +kernel
  simp only [e, if_false]
  have hg : g = 0 ∨ g = 1 := by revert g; decide
  rcases hg with rfl | rfl <;> simp

/-- The scales of the gathered maxima, turned so that a lane becomes a row. -/
theorem scales_apply (acc : FVec Ideal S256x128 .f32) (l : Fin 16) (r : Fin 256) :
    scales acc (ix2 l r) = scW (acc (ix2 r ⟨l.val, by omega⟩)) := by
  unfold scales
  rw [scaleOf_apply, expRows_apply]
  pointwise []
  rfl

/-- The query scales of a block. -/
theorem qsV_apply (X : Vec Ideal S1x256x1024 .bf16) (K : Vec Ideal S1x4096x256 .bf16) (j : Fin 16) (h : Fin 8) (r : Fin 256) :
    qsV X K j (ix3 0 h r) = scW (amax (qRow X h r)) := by
  pointwise [qsV]
  rw [scales_apply]
  simp only [accV_q]

/-- The key scales of a block. -/
theorem ksV_apply (X : Vec Ideal S1x256x1024 .bf16) (K : Vec Ideal S1x4096x256 .bf16) (j : Fin 16) (g : Fin 2) (r : Fin 256) :
    ksV X K j (ix3 0 g r) = scW (amax (kRow K g (at' j r))) := by
  pointwise [ksV]
  rw [scales_apply]
  simp only [accV_k]

/-- The query codes of a block, all heads. -/
theorem codesB_apply (X : Vec Ideal S1x256x1024 .bf16) (r : Fin 256) (h : Fin 8) (d : Fin 128) :
    codesB X (ix4 0 r h d) = clampE (qRow X h r d * invW (amax (qRow X h r))) := by
  rw [← qcV_apply]
  pointwise [codesB, qCol]
  fin_vals h with hk
  all_goals simp only [hk, Nat.reduceSub, Nat.reduceLT, ↓reduceDIte]
  all_goals (congr 2; exact Fin.ext hk.symm)

/-- The factor between scores and exponents of two. -/
def cR : ℝ := (Real.log 2)⁻¹ * (Real.sqrt 128)⁻¹

/-- The named constant of the softmax is `1 / (ln 2 * sqrt 128)`. -/
theorem named_c : Named.named (F := Ideal) (φ := .f32) κ "sm_scale_log2_e" 0x3E0293EE#32 = ((cR : ℝ) : EReal) :=
  IdealRules.named_const.ideal_named_scalar _ _ _ _ (by unfold cR; rfl)

/-- The first eight rows of the scales are those of the query heads. -/
theorem slice_scales (v : Vec Ideal S16x256 .f32) (h : Fin 8) (r : Fin 256) :
    extractStridedSlice S8x256 ![0, 0] v slices_S16x256_o0_0_S8x256 (ix2 h r) = v (ix2 ⟨h, by omega⟩ r) := by
  pointwise []

/-- A query's factor on its scores: its scale times the softmax constant. -/
theorem cV_apply (X : Vec Ideal S1x256x1024 .bf16) (K : Vec Ideal S1x4096x256 .bf16) (j : Fin 16) (h : Fin 8) (r : Fin 256) :
    cV X K j (ix2 h r) = scW (amax (qRow X h r)) * ((cR : ℝ) : EReal) := by
  unfold cV
  rw [shapeCast_self, named_c, mulf_apply, slice_scales, scales_apply, accV_q]
  rfl

end Cert.KernelIdeal.Model

end
-- ==== Proof.Head.lean ====
/- One attention head read at an index. -/
module

public import proofs.«01_k».proof.Proof.BlockValue

@[expose] public section

set_option synthInstance.maxSize 4096
set_option maxRecDepth 16384

noncomputable section

namespace Cert.KernelIdeal.Model

open Idealize.ShloMosaic Idealize.SL.Sem
open Cert.Quant
open VecWindow (window put)
open Facts₀ Facts

/-- The largest value of a family. -/
abbrev top {n : ℕ} (f : Fin n → EReal) : EReal := (Finset.univ : Finset (Fin n)).sup f

/-- The kernel's triangle entry says whether the key's row is at most the query's. -/
theorem cmp_small : ∀ k r : Fin 256, IntOp.cmpi CmpIPredicate.ne
      (Scalar.select (IntOp.cmpi CmpIPredicate.sle (BitVec.ofNat 32 k.val) (BitVec.ofNat 32 r.val)) 4294967295#32 0#32) 0#32 =
    BitVec.ofBool (decide (k.val ≤ r.val)) := by
  intro k r
  have hk := k.isLt
  have hr := r.isLt
  have e : (BitVec.ofNat 32 k.val).sle (BitVec.ofNat 32 r.val) = decide (k.val ≤ r.val) := by
    rw [BitVec.sle_eq_decide, BitVec.toInt_ofNat', BitVec.toInt_ofNat']
    congr 1
    rw [Int.bmod_eq_of_le (by omega) (by omega), Int.bmod_eq_of_le (by omega) (by omega)]
    simp
  simp only [IntOp.cmpi, e]
  by_cases h : k.val ≤ r.val <;> simp [h, Scalar.select]

/-- The triangle mask holds where the key's row is at most the query's. -/
theorem tri_apply (k r : Fin 256) : triMask (F := Ideal) triC (ix2 k r) = BitVec.ofBool (decide (k.val ≤ r.val)) := by
  pointwise [triMask, triC, triV]
  exact cmp_small k r

/-- A score before the query's factor: the sum of products of codes, times the key's scale. -/
theorem scoreV_apply (kc : Vec Ideal S1x1x256x128 .fp8e4m3) (ks : Vec Ideal S1x1x256x128 .f32) (q : FVec Ideal S256x128 .fp8e4m3) (k r : Fin 256) :
    scoreV kc ks q (ix2 k r) = (∑ d : Fin 128, kc (ix4 0 0 k d) * q (ix2 r d)) * ks (ix4 0 0 k ⟨r.val % 128, by omega⟩) := by
  pointwise [scoreV]
  congr 1
  have hr := r.isLt
  split
  · congr 2; exact Fin.ext (by show r.val = r.val % 128; omega)
  · congr 2; exact Fin.ext (by show r.val - 128 = r.val % 128; omega)

/-- The maxima of a tile by the row's remainder modulo eight. -/
theorem tileMax_apply (t : FVec Ideal S256x256 .f32) (a : Fin 8) (r : Fin 256) :
    tileMax t (ix2 a r) = top (fun k : Fin 32 => t (ix2 ⟨k.val * 8 + a.val, by omega⟩ r)) := by
  pointwise [tileMax]
  rw [ofBits_bot]
  rfl

/-- The sums of a tile by the row's remainder modulo eight. -/
theorem tileSum_apply (t : FVec Ideal S256x256 .f32) (a : Fin 8) (r : Fin 256) :
    tileSum t (ix2 a r) = ∑ k : Fin 32, t (ix2 ⟨k.val * 8 + a.val, by omega⟩ r) := by
  pointwise [tileSum]

/-- The maximum of the eight partial maxima, times the query's factor. -/
theorem uMax_apply (mx : FVec Ideal S8x256 .f32) (c : Vec Ideal S1x256 .f32) (z : Fin 1) (r : Fin 256) :
    uMax mx c (ix2 z r) = top (fun a : Fin 8 => mx (ix2 a r)) * c (ix2 z r) := by
  pointwise [uMax]
  rw [ofBits_bot]
  rfl

/-- The shifted powers of two of a kept tile of scores. -/
theorem probs_apply (t : Vec Ideal S1x1x256x256 .f32) (c : Vec Ideal S1x256 .f32) (shift : FVec Ideal S1x256 .f32) (k r : Fin 256) :
    probs t c shift (ix2 k r) = Ideal.exp2 (t (ix4 0 0 k r) * c (ix2 0 r) - shift (ix2 0 r)) := by
  pointwise [probs]
  rfl

/-- A tile's products of value codes and probability codes are added to the accumulator. -/
theorem pvV_apply (vt : Vec Ideal S1x1x128x256 .fp8e4m3) (p : FVec Ideal S256x256 .f32) (acc : FVec Ideal S128x256 .f32) (d : Fin 128) (r : Fin 256) :
    pvV vt p acc (ix2 d r) = acc (ix2 d r) + ∑ k : Fin 256, vt (ix4 0 0 d k) * p (ix2 k r) := by
  pointwise [pvV]

/-- The output: the accumulator over the sum with the sink, times the scale of the value column. -/
theorem outV_apply (acc : FVec Ideal S128x256 .f32) (lsum : FVec Ideal S8x256 .f32) (sink : EReal) (shift : FVec Ideal S1x256 .f32) (vs : Vec Ideal S1x1x128 .f32) (r : Fin 256) (d : Fin 128) :
    outV (F := Ideal) acc lsum sink shift vs (ix3 0 r d) = (acc (ix2 d r) * Ideal.div 1 (∑ a : Fin 8, lsum (ix2 a r) + Ideal.exp2 (sink - shift (ix2 0 r)))) * vs (ix3 0 0 d) := by
  pointwise [outV]
  rfl

/-! ## Rows in groups -/

/-- Summing by the remainder modulo eight and then over the remainders is summing over all rows. -/
theorem sum_groups {M : Type} [AddCommMonoid M] (f : Fin 256 → M) :
    ∑ a : Fin 8, ∑ k : Fin 32, f ⟨k.val * 8 + a.val, by omega⟩ = ∑ k : Fin 256, f k := by
  rw [Finset.sum_comm, ← Finset.sum_product']
  refine Finset.sum_bij (fun p _ => ⟨p.1.val * 8 + p.2.val, by omega⟩) (fun _ _ => Finset.mem_univ _) ?_ ?_ (fun _ _ => rfl)
  · rintro ⟨a, b⟩ _ ⟨a', b'⟩ _ h
    have := congrArg Fin.val h
    simp only at this
    exact Prod.ext (Fin.ext (by show a.val = a'.val; omega)) (Fin.ext (by show b.val = b'.val; omega))
  · intro k _
    exact ⟨(⟨k.val / 8, by omega⟩, ⟨k.val % 8, by omega⟩), Finset.mem_product.mpr ⟨Finset.mem_univ _, Finset.mem_univ _⟩, Fin.ext (by show k.val / 8 * 8 + k.val % 8 = k.val; omega)⟩

/-- The maximum by the remainder modulo eight and then over the remainders is the maximum over all rows. -/
theorem top_groups (f : Fin 256 → EReal) : top (fun a : Fin 8 => top fun k : Fin 32 => f ⟨k.val * 8 + a.val, by omega⟩) = top f := by
  refine eq_of_forall_ge_iff fun c => ?_
  simp only [top, Finset.sup_le_iff, Finset.mem_univ, true_implies]
  refine ⟨fun h k => ?_, fun h a k => h _⟩
  have := h ⟨k.val % 8, by omega⟩ ⟨k.val / 8, by omega⟩
  rwa [show (⟨(⟨k.val / 8, by omega⟩ : Fin 32).val * 8 + (⟨k.val % 8, by omega⟩ : Fin 8).val, by dsimp only; omega⟩ : Fin 256) = k from Fin.ext (by show k.val / 8 * 8 + k.val % 8 = k.val; omega)] at this

/-- The first pass's maximum is that of the start and of every tile. -/
theorem pass1_top (q : FVec Ideal S256x128 .fp8e4m3) (Ts : List (TileV Ideal)) (mx : FVec Ideal S8x256 .f32) (r : Fin 256) :
    top (fun a : Fin 8 => pass1V q Ts mx (ix2 a r)) = top (fun a : Fin 8 => mx (ix2 a r)) ⊔ (Ts.map fun T => top fun k => scoreV T.kc T.ks q (ix2 k r)).foldr (· ⊔ ·) ⊥ := by
  induction Ts generalizing mx with
  | nil => simp [pass1V]
  | cons T Ts ih =>
    rw [pass1V, ih, List.map_cons, List.foldr_cons, ← sup_assoc]
    refine congrArg (fun a => a ⊔ _) ?_
    have : ∀ a, maximumf mx (tileMax (scoreV T.kc T.ks q)) (ix2 a r) = mx (ix2 a r) ⊔ tileMax (scoreV T.kc T.ks q) (ix2 a r) := fun _ => rfl
    simp only [this, tileMax_apply]
    refine Finset.sup_sup.trans ?_
    exact congrArg (fun a => _ ⊔ a) (top_groups fun k => scoreV T.kc T.ks q (ix2 k r))

/-- The second pass's sum is the start's plus that of every tile. -/
theorem pass2_sum (c : Vec Ideal S1x256 .f32) (shift : FVec Ideal S1x256 .f32) (Ts : List (Vec Ideal S1x1x128x256 .fp8e4m3 × Vec Ideal S1x1x256x256 .f32)) (acc : FVec Ideal S128x256 .f32) (l : FVec Ideal S8x256 .f32) (r : Fin 256) :
    ∑ a : Fin 8, (pass2V c shift Ts acc l).2 (ix2 a r) = ∑ a : Fin 8, l (ix2 a r) + (Ts.map fun T => ∑ k, probs T.2 c shift (ix2 k r)).sum := by
  induction Ts generalizing acc l with
  | nil => simp [pass2V]
  | cons T Ts ih =>
    rw [pass2V, ih, List.map_cons, List.sum_cons, ← add_assoc]
    refine congrArg (fun a => a + _) ?_
    have : ∀ a, addf l (tileSum (probs T.2 c shift)) (ix2 a r) = l (ix2 a r) + tileSum (probs T.2 c shift) (ix2 a r) := fun _ => rfl
    simp only [this, tileSum_apply]
    rw [Finset.sum_add_distrib, sum_groups fun k => probs T.2 c shift (ix2 k r)]

/-- The second pass's accumulator is the start plus every tile's products. -/
theorem pass2_acc (c : Vec Ideal S1x256 .f32) (shift : FVec Ideal S1x256 .f32) (Ts : List (Vec Ideal S1x1x128x256 .fp8e4m3 × Vec Ideal S1x1x256x256 .f32)) (acc : FVec Ideal S128x256 .f32) (l : FVec Ideal S8x256 .f32) (d : Fin 128) (r : Fin 256) :
    (pass2V c shift Ts acc l).1 (ix2 d r) = acc (ix2 d r) + (Ts.map fun T => ∑ k, T.1 (ix4 0 0 d k) * clampE (probs T.2 c shift (ix2 k r))).sum := by
  induction Ts generalizing acc l with
  | nil => simp [pass2V]
  | cons T Ts ih =>
    rw [pass2V, ih, List.map_cons, List.sum_cons, ← add_assoc, pvV_apply]
    simp only [clip_apply]

/-- The exponent of a scale by its word. -/
def expE (a : EReal) : EReal := (((Scalar.select (okW (word a)) (IntOp.subi (IntOp.shrui .vector (word a) 23#32) 135#32) 0#32).toInt : ℝ) : EReal)

/-- The exponent of a probability scale, read off an exponent word. -/
theorem sitofp_exp (e : IVec S1x256 32) (j : S1x256.Idx) (a : EReal) (h : e j = word a) :
    (sitofp .f32 (select (expOk e) (subi (shrui e (broadcast S1x256 23#32)) (broadcast S1x256 135#32)) (broadcast S1x256 0#32)) : FVec Ideal S1x256 .f32) j = expE a := by
  unfold expE
  rw [← h]
  rfl

/-- The shift of a row: its maximum with the sink, plus the exponent of its probabilities' scale. -/
theorem shiftV_apply (u : FVec Ideal S1x256 .f32) (sink : EReal) (z : Fin 1) (r : Fin 256) :
    shiftV (F := Ideal) u sink (ix2 z r) = max (u (ix2 z r)) sink + expE (Ideal.exp2 (u (ix2 z r) - max (u (ix2 z r)) sink)) := by
  unfold shiftV
  refine (addf_apply _ _ _).trans ?_
  exact congrArg (fun a => max (u (ix2 z r)) sink + a) (sitofp_exp _ _ _ (expRow_apply _ z r))

end Cert.KernelIdeal.Model

end
-- ==== Proof.Row.lean ====
/- One row of the attention: the kernel's way of computing it and the reference's agree. -/
module

public import proofs.«01_k».proof.Proof.Head

@[expose] public section

noncomputable section

namespace Cert.Row

open Idealize.ShloMosaic Idealize.SL.Sem
open Cert.Quant
open Cert.KernelIdeal.Model (clampE amax top expE)

variable {n : ℕ}

/-- The kernel's shift of a row's exponents. -/
def shK (L : Fin n → EReal) (c S : EReal) : EReal := max (top L * c) S + expE (Ideal.exp2 (top L * c - max (top L * c) S))

/-- The kernel's output of a row. -/
def rowK (L : Fin n → EReal) (c S : EReal) (w : Fin n → EReal) (vs : EReal) : EReal :=
  ((∑ s, w s * clampE (Ideal.exp2 (L s * c - shK L c S))) * Ideal.div 1 (∑ s, Ideal.exp2 (L s * c - shK L c S) + Ideal.exp2 (S - shK L c S))) * vs

/-- The reference's probabilities of a row. -/
def pR (L : Fin n → EReal) (sink : EReal) (s : Fin n) : EReal := Ideal.exp (L s - max (top L) sink)

/-- The reference's output of a row. -/
def rowR (L : Fin n → EReal) (sink : EReal) (w : Fin n → EReal) (vs : EReal) : EReal :=
  ((∑ s, w s * clampE (pR L sink s * Ideal.pow ((2 : ℝ) : EReal) (-exR (amax (pR L sink)))))
    * Ideal.div (Ideal.pow ((2 : ℝ) : EReal) (exR (amax (pR L sink)))) (∑ s, pR L sink s + Ideal.exp (sink - max (top L) sink))) * vs

/-- The exponential of a real. -/
theorem exp_real (x : ℝ) : Ideal.exp (x : EReal) = ((Real.exp x : ℝ) : EReal) := rfl

/-- A real minus infinity is minus infinity. -/
theorem real_sub_top (x : ℝ) : (x : EReal) - ⊤ = ⊥ := by rw [sub_eq_add_neg, EReal.neg_top, EReal.add_bot]

/-- On a real the kernel's exponent is the exponent of a magnitude. -/
theorem expE_real (a : ℝ) (ha : a < 2 ^ (128 : ℤ)) : expE (a : EReal) = ((ex a : ℝ) : EReal) := by
  unfold expE; rw [exp_word a ha]

/-- Zero is not clipped. -/
theorem clampE_zero : clampE 0 = 0 := by
  unfold clampE
  rw [← EReal.coe_zero, max_eq_right (by exact_mod_cast (by norm_num : (-448 : ℝ) ≤ 0)), min_eq_right (by exact_mod_cast (by norm_num : (0 : ℝ) ≤ 448))]

/-- A power of two of `x / ln 2` is the exponential of `x`. -/
theorem two_rpow (x : ℝ) : (2 : ℝ) ^ (x * (Real.log 2)⁻¹) = Real.exp x := by
  rw [Real.rpow_def_of_pos (by norm_num)]
  congr 1
  have := log2_pos
  field_simp

/-- A sum of reals among the extended reals. -/
theorem coe_sum' (f : Fin n → ℝ) : ∑ s, ((f s : ℝ) : EReal) = ((∑ s, f s : ℝ) : EReal) := by
  induction (Finset.univ : Finset (Fin n)) using Finset.induction_on with
  | empty => simp
  | insert a s ha ih => rw [Finset.sum_insert ha, Finset.sum_insert ha, ih, EReal.coe_add]

section
variable (vis : Fin n → Prop) [DecidablePred vis]

/-- The maximum over the visible keys is the score of the greatest. -/
theorem top_vis (σ : Fin n → ℝ) (s0 : Fin n) (h0 : vis s0) (hm : ∀ s, vis s → σ s ≤ σ s0) :
    top (fun s => if vis s then ((σ s : ℝ) : EReal) else ⊥) = ((σ s0 : ℝ) : EReal) := by
  refine le_antisymm (Finset.sup_le fun s _ => ?_) ?_
  · by_cases h : vis s
    · rw [if_pos h]; exact_mod_cast hm s h
    · rw [if_neg h]; exact bot_le
  · refine le_trans (le_of_eq ?_) (Finset.le_sup (f := fun s => if vis s then ((σ s : ℝ) : EReal) else ⊥) (Finset.mem_univ s0))
    rw [if_pos h0]

/-- The greatest magnitude of numbers that are not negative is the greatest of them. -/
theorem amax_real (p : Fin n → ℝ) (hp : ∀ s, 0 ≤ p s) (s0 : Fin n) (hm : ∀ s, p s ≤ p s0) : amax (fun s => ((p s : ℝ) : EReal)) = ((p s0 : ℝ) : EReal) := by
  have e : ∀ s, max ((p s : ℝ) : EReal) (-((p s : ℝ) : EReal)) = ((p s : ℝ) : EReal) := fun s =>
    max_eq_left (by rw [← EReal.coe_neg]; exact_mod_cast (by linarith [hp s] : -(p s) ≤ p s))
  unfold amax
  simp only [e]
  refine le_antisymm (Finset.sup_le (f := fun s => ((p s : ℝ) : EReal)) fun s _ => by exact_mod_cast hm s) (Finset.le_sup (f := fun s => ((p s : ℝ) : EReal)) (Finset.mem_univ s0))

/-- The two ways of computing a row agree when the sink is not plus infinity; `m` is the shift of the reference. -/
theorem row_eq_real (σ : Fin n → ℝ) (α : ℝ) (hα : 0 < α) (s0 : Fin n) (h0 : vis s0) (hm : ∀ s, vis s → σ s ≤ σ s0) (m E : ℝ) (hE : 0 ≤ E) (hZ : σ s0 * α ≤ m)
    (sink S : EReal) (hR : max ((σ s0 * α : ℝ) : EReal) sink = (m : EReal)) (hK : max ((σ s0 * (α * (Real.log 2)⁻¹) : ℝ) : EReal) S = ((m * (Real.log 2)⁻¹ : ℝ) : EReal))
    (hER : Ideal.exp (sink - (m : EReal)) = (E : EReal)) (hEK : ∀ e : ℤ, Ideal.exp2 (S - ((m * (Real.log 2)⁻¹ + e : ℝ) : EReal)) = ((E * 2 ^ (-e) : ℝ) : EReal)) (w : Fin n → EReal) (vs : EReal) :
    rowK (fun s => if vis s then ((σ s : ℝ) : EReal) else ⊥) ((α * (Real.log 2)⁻¹ : ℝ) : EReal) S w vs
      = rowR (fun s => if vis s then ((σ s * α : ℝ) : EReal) else ⊥) sink w vs := by
  have hl := log2_pos
  have tK := top_vis vis σ s0 h0 hm
  have tR := top_vis vis (fun s => σ s * α) s0 h0 (fun s hs => mul_le_mul_of_nonneg_right (hm s hs) hα.le)
  have hl' : 0 < (Real.log 2)⁻¹ := inv_pos.mpr hl
  obtain ⟨P, hP⟩ : ∃ P : Fin n → ℝ, ∀ s, P s = if vis s then Real.exp (σ s * α - m) else 0 := ⟨_, fun _ => rfl⟩
  have hP0 : ∀ s, 0 ≤ P s := fun s => by simp only [hP]; split <;> positivity
  have hPs : P s0 = Real.exp (σ s0 * α - m) := by simp only [hP, if_pos h0]
  have hPm : ∀ s, P s ≤ P s0 := fun s => by
    rw [hPs]; simp only [hP]
    split
    · rename_i h; exact Real.exp_le_exp.mpr (by linarith [mul_le_mul_of_nonneg_right (hm s h) hα.le])
    · positivity
  have hp1 : P s0 < 2 ^ (128 : ℤ) := by
    rw [hPs]
    refine lt_of_le_of_lt (Real.exp_le_one_iff.mpr (by linarith)) (by norm_num)
  have hpR : pR (fun s => if vis s then ((σ s * α : ℝ) : EReal) else ⊥) sink = fun s => ((P s : ℝ) : EReal) := by
    funext s
    unfold pR
    rw [tR, hR]
    beta_reduce
    by_cases h : vis s
    · rw [if_pos h, ← EReal.coe_sub, exp_real]; simp only [hP, if_pos h]
    · rw [if_neg h]; simp only [hP, if_neg h]
      rw [EReal.coe_zero, EReal.bot_sub]; rfl
  have hsh : shK (fun s => if vis s then ((σ s : ℝ) : EReal) else ⊥) ((α * (Real.log 2)⁻¹ : ℝ) : EReal) S = ((m * (Real.log 2)⁻¹ + ex (P s0) : ℝ) : EReal) := by
    unfold shK
    rw [tK, ← EReal.coe_mul, hK, ← EReal.coe_sub, exp2_real]
    have : (2 : ℝ) ^ (σ s0 * (α * (Real.log 2)⁻¹) - m * (Real.log 2)⁻¹) = P s0 := by
      rw [hPs, ← two_rpow]; congr 1; ring
    rw [this, expE_real _ hp1, ← EReal.coe_add]
  have hpK : ∀ s, Ideal.exp2 ((if vis s then ((σ s : ℝ) : EReal) else ⊥) * ((α * (Real.log 2)⁻¹ : ℝ) : EReal) - ((m * (Real.log 2)⁻¹ + ex (P s0) : ℝ) : EReal)) = ((P s * isc (P s0) : ℝ) : EReal) := by
    intro s
    by_cases h : vis s
    · rw [if_pos h, ← EReal.coe_mul, ← EReal.coe_sub, exp2_real]
      congr 1
      rw [hP s, if_pos h, ← two_rpow, isc, ← Real.rpow_intCast, ← Real.rpow_add (by norm_num)]
      congr 1
      push_cast
      ring
    · rw [if_neg h, EReal.bot_mul_coe_of_pos (mul_pos hα hl'), EReal.bot_sub]
      simp only [hP, if_neg h, zero_mul, EReal.coe_zero]
      rfl
  unfold rowK rowR
  rw [hsh, hpR, amax_real P hP0 s0 hPm, exR_eq, ← EReal.coe_neg, ← Int.cast_neg, Quant.pow_two, Quant.pow_two, tR, hR, hER, hEK]
  simp only [hpK, ← EReal.coe_mul]
  have hi : (2 : ℝ) ^ (-ex (P s0)) = isc (P s0) := rfl
  have hs : (2 : ℝ) ^ (ex (P s0)) = sc (P s0) := rfl
  simp only [hi, hs]
  rw [coe_sum', coe_sum', ← EReal.coe_add, ← EReal.coe_add, ← Finset.sum_mul, ← add_mul]
  have hsum : 0 < ∑ s, P s + E := by
    have : P s0 ≤ ∑ s, P s := Finset.single_le_sum (fun s _ => hP0 s) (Finset.mem_univ s0)
    have : 0 < P s0 := by rw [hPs]; positivity
    linarith
  have hisc := isc_pos (P s0)
  have hsc := sc_pos (P s0)
  rw [← EReal.coe_one, div_real _ _ (by positivity), div_real _ _ (by positivity)]
  congr 3
  rw [isc_eq]
  field_simp

/-- The two ways of computing a row agree. -/
theorem row_eq (s1 : Fin n) (h1 : vis s1) (σ : Fin n → ℝ) (α : ℝ) (hα : 0 < α) (sink : EReal) (w : Fin n → EReal) (vs : EReal) :
    rowK (fun s => if vis s then ((σ s : ℝ) : EReal) else ⊥) ((α * (Real.log 2)⁻¹ : ℝ) : EReal) (sink * (((Real.log 2)⁻¹ : ℝ) : EReal)) w vs
      = rowR (fun s => if vis s then ((σ s * α : ℝ) : EReal) else ⊥) sink w vs := by
  have hl := log2_pos
  have hl' : 0 < (Real.log 2)⁻¹ := inv_pos.mpr hl
  obtain ⟨s0, hs0, hm⟩ := Finset.exists_max_image (Finset.univ.filter vis) σ ⟨s1, by simp [h1]⟩
  have h0 : vis s0 := by simpa using hs0
  have hm : ∀ s, vis s → σ s ≤ σ s0 := fun s hs => hm s (by simp [hs])
  induction sink using EReal.rec with
  | bot =>
    refine row_eq_real vis σ α hα s0 h0 hm (σ s0 * α) 0 le_rfl le_rfl ⊥ _ (max_eq_left bot_le) ?_ ?_ ?_ w vs
    · rw [EReal.bot_mul_coe_of_pos hl', max_eq_left bot_le, mul_assoc]
    · rw [EReal.bot_sub, EReal.coe_zero]; rfl
    · intro e; rw [EReal.bot_mul_coe_of_pos hl', EReal.bot_sub, zero_mul, EReal.coe_zero]; rfl
  | coe y =>
    refine row_eq_real vis σ α hα s0 h0 hm (max (σ s0 * α) y) (Real.exp (y - max (σ s0 * α) y)) (by positivity) (le_max_left _ _) _ _ ?_ ?_ ?_ ?_ w vs
    · exact (EReal.coe_strictMono.monotone.map_max).symm
    · rw [← EReal.coe_mul, ← EReal.coe_strictMono.monotone.map_max, ← mul_assoc, ← max_mul_of_nonneg _ _ hl'.le]
    · rw [← EReal.coe_sub, exp_real]
    · intro e
      rw [← EReal.coe_mul, ← EReal.coe_sub, exp2_real]
      congr 1
      rw [← two_rpow, ← Real.rpow_intCast, ← Real.rpow_add (by norm_num)]
      congr 1
      push_cast
      ring
  | top =>
    have tK := top_vis vis σ s0 h0 hm
    have tR := top_vis vis (fun s => σ s * α) s0 h0 (fun s hs => mul_le_mul_of_nonneg_right (hm s hs) hα.le)
    have e0 : (0 : ℝ) < 2 ^ (128 : ℤ) := by positivity
    have hsh : shK (fun s => if vis s then ((σ s : ℝ) : EReal) else ⊥) ((α * (Real.log 2)⁻¹ : ℝ) : EReal) ((⊤ : EReal) * (((Real.log 2)⁻¹ : ℝ) : EReal)) = ⊤ := by
      unfold shK
      rw [tK, EReal.top_mul_coe_of_pos hl', max_eq_right le_top, ← EReal.coe_mul]
      have : Ideal.exp2 (((σ s0 * (α * (Real.log 2)⁻¹) : ℝ) : EReal) - ⊤) = ((0 : ℝ) : EReal) := by rw [real_sub_top, EReal.coe_zero]; rfl
      rw [this, expE_real 0 e0, EReal.top_add_coe]
    have hK : ∀ s, Ideal.exp2 ((if vis s then ((σ s : ℝ) : EReal) else ⊥) * ((α * (Real.log 2)⁻¹ : ℝ) : EReal) - ⊤) = 0 := by
      intro s
      by_cases h : vis s
      · rw [if_pos h, ← EReal.coe_mul, real_sub_top]; rfl
      · rw [if_neg h, EReal.bot_mul_coe_of_pos (mul_pos hα hl'), EReal.bot_sub]; rfl
    have hR : pR (fun s => if vis s then ((σ s * α : ℝ) : EReal) else ⊥) ⊤ = fun s => 0 := by
      funext s
      unfold pR
      rw [max_eq_right le_top]
      beta_reduce
      by_cases h : vis s
      · rw [if_pos h, real_sub_top]; rfl
      · rw [if_neg h, EReal.bot_sub]; rfl
    unfold rowK rowR
    rw [hsh, hR]
    simp only [hK, zero_mul, clampE_zero, mul_zero, Finset.sum_const_zero]

end

end Cert.Row

end
-- ==== Proof.Window.lean ====
/- One head's output of a block as one row over all the keys of its batch. -/
module

public import proofs.«01_k».proof.Proof.Row

@[expose] public section

set_option synthInstance.maxSize 4096
set_option maxRecDepth 16384

noncomputable section

namespace Cert.KernelIdeal.Model

open Idealize.ShloMosaic Idealize.SL.Sem
open Cert.Quant Cert.Row
open Facts₀ Facts
open VecWindow (window)

/-! ## A sum over the keys, block by block -/

/-- The blocks that lie whole inside the window. -/
def restIdx (j : Fin 16) : List (Fin 16) :=
  if j.val = 0 then [] else if j.val = 1 then [back j 1] else if j.val = 2 then [back j 1, back j 2] else [back j 1, back j 2, back j 3]

/-- The tiles of those blocks. -/
theorem restTv_eq (K V : Vec Ideal S1x4096x256 .bf16) (g : Fin 2) (j : Fin 16) : restTv K V g j = (restIdx j).map (tv K V g) := by
  unfold restTv restIdx
  split_ifs <;> rfl

/-- The blocks that the window meets. -/
def metIdx (j : Fin 16) : List (Fin 16) := j :: ((if 4 ≤ j.val then [back j 4] else []) ++ restIdx j)

/-- No block is met twice. -/
theorem metIdx_nodup : ∀ j, (metIdx j).Nodup := by decide

/-- A block that is not met lies after the query's block or more than four before it. -/
theorem not_met : ∀ j J : Fin 16, J ∉ metIdx j → j.val < J.val ∨ J.val + 4 < j.val := by decide

/-- A block met in whole lies one to three before the query's block. -/
theorem rest_lt : ∀ j J : Fin 16, J ∈ restIdx j → J.val < j.val ∧ j.val < J.val + 4 := by decide

/-- The keys that query `q` sees. -/
abbrev Vis (q s : Fin 4096) : Prop := s.val ≤ q.val ∧ q.val < s.val + 1024

/-- In the query's own block the keys up to the query are seen. -/
theorem vis_diag (j : Fin 16) (r k : Fin 256) : Vis (at' j r) (at' j k) ↔ k.val ≤ r.val := by
  unfold Vis
  show 256 * j.val + k.val ≤ 256 * j.val + r.val ∧ 256 * j.val + r.val < 256 * j.val + k.val + 1024 ↔ _
  omega

/-- In the block four before the keys after the query's row are seen. -/
theorem vis_left (j : Fin 16) (h : 4 ≤ j.val) (r k : Fin 256) : Vis (at' j r) (at' (back j 4) k) ↔ ¬ k.val ≤ r.val := by
  unfold Vis
  show 256 * (j.val - 4) + k.val ≤ 256 * j.val + r.val ∧ 256 * j.val + r.val < 256 * (j.val - 4) + k.val + 1024 ↔ _
  omega

/-- In a block met in whole every key is seen. -/
theorem vis_rest (j J : Fin 16) (h : J ∈ restIdx j) (r k : Fin 256) : Vis (at' j r) (at' J k) := by
  have := rest_lt j J h
  unfold Vis
  show 256 * J.val + k.val ≤ 256 * j.val + r.val ∧ 256 * j.val + r.val < 256 * J.val + k.val + 1024
  omega

/-- In a block that is not met no key is seen. -/
theorem vis_out (j J : Fin 16) (h : J ∉ metIdx j) (r k : Fin 256) : ¬ Vis (at' j r) (at' J k) := by
  have := not_met j J h
  unfold Vis
  show ¬ (256 * J.val + k.val ≤ 256 * j.val + r.val ∧ 256 * j.val + r.val < 256 * J.val + k.val + 1024)
  omega

/-- Every position is a row of a block. -/
theorem at'_surj (s : Fin 4096) : s = at' ⟨s.val / 256, by omega⟩ ⟨s.val % 256, by omega⟩ :=
  Fin.ext (by show s.val = 256 * (s.val / 256) + s.val % 256; omega)

/-- A sum over the positions is a sum over the blocks and their rows. -/
theorem sum_at' (f : Fin 4096 → EReal) : ∑ s, f s = ∑ J : Fin 16, ∑ k : Fin 256, f (at' J k) := by
  rw [← Finset.sum_product']
  refine (Finset.sum_bij (fun p _ => at' p.1 p.2) (fun _ _ => Finset.mem_univ _) ?_ (fun s _ => ⟨(_, _), Finset.mem_univ _, (at'_surj s).symm⟩) (fun _ _ => rfl)).symm
  rintro ⟨a, b⟩ _ ⟨a', b'⟩ _ h
  have h := congrArg Fin.val h
  change 256 * a.val + b.val = 256 * a'.val + b'.val at h
  exact Prod.ext (Fin.ext (by show a.val = a'.val; omega)) (Fin.ext (by show b.val = b'.val; omega))

/-- A sum over the blocks that vanishes off the met ones is the sum over these. -/
theorem sum_met (j : Fin 16) (B : Fin 16 → EReal) (h0 : ∀ J, J ∉ metIdx j → B J = 0) :
    ∑ J, B J = B j + ((if 4 ≤ j.val then B (back j 4) else 0) + ((restIdx j).map B).sum) := by
  rw [← Finset.sum_subset (Finset.subset_univ (metIdx j).toFinset) (fun J _ hJ => h0 J (fun h => hJ (List.mem_toFinset.mpr h))), List.sum_toFinset _ (metIdx_nodup j)]
  unfold metIdx
  rw [List.map_cons, List.sum_cons, List.map_append, List.sum_append]
  split_ifs <;> simp

/-- A sum over the keys that a query sees, in the pieces the kernel forms it from. -/
theorem sum_window (φ : Fin 4096 → EReal → EReal) (hφ : ∀ s, φ s ⊥ = 0) (f : Fin 4096 → EReal) (j : Fin 16) (r : Fin 256) :
    ∑ s, φ s (if Vis (at' j r) s then f s else ⊥)
      = (∑ k : Fin 256, if k.val ≤ r.val then φ (at' j k) (f (at' j k)) else 0)
        + ((if 4 ≤ j.val then ∑ k : Fin 256, (if k.val ≤ r.val then 0 else φ (at' (back j 4) k) (f (at' (back j 4) k))) else 0)
        + ((restIdx j).map fun J => ∑ k, φ (at' J k) (f (at' J k))).sum) := by
  rw [sum_at', sum_met j _ (fun J hJ => Finset.sum_eq_zero fun k _ => by rw [if_neg (vis_out j J hJ r k), hφ])]
  congr 1
  · refine Finset.sum_congr rfl fun k _ => ?_
    simp only [vis_diag]
    split_ifs <;> simp [hφ]
  congr 1
  · split_ifs with h
    · refine Finset.sum_congr rfl fun k _ => ?_
      simp only [vis_left j h]
      split_ifs <;> simp [hφ]
    · rfl
  · congr 1
    refine List.map_congr_left fun J hJ => Finset.sum_congr rfl fun k _ => ?_
    rw [if_pos (vis_rest j J hJ r k)]

/-- The greatest value over the keys that a query sees, in the pieces the kernel forms it from. -/
theorem top_window (f : Fin 4096 → EReal) (j : Fin 16) (r : Fin 256) :
    top (fun s => if Vis (at' j r) s then f s else ⊥)
      = top (fun k : Fin 256 => if k.val ≤ r.val then f (at' j k) else if 4 ≤ j.val then f (at' (back j 4) k) else ⊥)
        ⊔ ((restIdx j).map fun J => top fun k => f (at' J k)).foldr (· ⊔ ·) ⊥ := by
  have hf : ∀ (l : List (Fin 16)) (c : EReal), (l.map fun J => top fun k => f (at' J k)).foldr (· ⊔ ·) ⊥ ≤ c ↔ ∀ J ∈ l, ∀ k, f (at' J k) ≤ c := by
    intro l c
    induction l with
    | nil => simp
    | cons a l ih => rw [List.map_cons, List.foldr_cons, sup_le_iff, ih, List.forall_mem_cons, Finset.sup_le_iff]; simp
  refine eq_of_forall_ge_iff fun c => ?_
  rw [sup_le_iff, hf, Finset.sup_le_iff, Finset.sup_le_iff]
  constructor
  · intro h
    refine ⟨fun k _ => ?_, fun J hJ k => ?_⟩
    · have h1 := h (at' j k) (Finset.mem_univ _)
      by_cases hk : k.val ≤ r.val
      · rw [if_pos hk]; rwa [if_pos ((vis_diag j r k).mpr hk)] at h1
      · rw [if_neg hk]
        by_cases h4 : 4 ≤ j.val
        · rw [if_pos h4]
          have h2 := h (at' (back j 4) k) (Finset.mem_univ _)
          rwa [if_pos ((vis_left j h4 r k).mpr hk)] at h2
        · rw [if_neg h4]; exact bot_le
    · have h1 := h (at' J k) (Finset.mem_univ _)
      rwa [if_pos (vis_rest j J hJ r k)] at h1
  · rintro ⟨h1, h2⟩ s -
    by_cases hv : Vis (at' j r) s
    · rw [if_pos hv]
      obtain ⟨J, k, rfl⟩ : ∃ J k, s = at' J k := ⟨_, _, at'_surj s⟩
      by_cases hm : J ∈ metIdx j
      · unfold metIdx at hm
        rcases List.mem_cons.mp hm with rfl | hm
        · have := h1 k (Finset.mem_univ _)
          rwa [if_pos ((vis_diag J r k).mp hv)] at this
        rcases List.mem_append.mp hm with hm | hm
        · by_cases h4 : 4 ≤ j.val
          · rw [if_pos h4] at hm
            obtain rfl := List.mem_singleton.mp hm
            have := h1 k (Finset.mem_univ _)
            rwa [if_neg ((vis_left j h4 r k).mp hv), if_pos h4] at this
          · rw [if_neg h4] at hm; simp at hm
        · exact h2 J hm k
      · exact absurd hv (vis_out j J hm r k)
    · rw [if_neg hv]; exact bot_le

/-! ## One head -/

/-- A head's query codes as a matrix. -/
theorem qMat_apply (q0 : Vec Ideal S1x256x128 .fp8e4m3) (r : Fin 256) (d : Fin 128) : qMat q0 (ix2 r d) = q0 (ix3 0 r d) := by
  pointwise [qMat]

/-- A tile of scores as it is kept. -/
theorem keptV_apply (x : FVec Ideal S256x256 .f32) (k r : Fin 256) : keptV x (ix4 0 0 k r) = x (ix2 k r) := by
  pointwise [keptV]

/-- The named constant of the sinks is `1 / ln 2`. -/
theorem named_l : Named.named (F := Ideal) (φ := .f32) κ "log2_e" 0x3FB8AA3B#32 = (((Real.log 2)⁻¹ : ℝ) : EReal) :=
  IdealRules.named_const.ideal_named_scalar _ _ _ _ (by rfl)

/-- The sink in base two. -/
theorem sinkV_ideal (x : EReal) : sinkV (F := Ideal) x = x * (((Real.log 2)⁻¹ : ℝ) : EReal) :=
  (show _ = x * Named.named (F := Ideal) (φ := .f32) κ "log2_e" 0x3FB8AA3B#32 from rfl).trans (congrArg (fun a : EReal => x * a) named_l)

/-- The factors of a head's queries. -/
theorem cRow_apply (X : Vec Ideal S1x256x1024 .bf16) (K : Vec Ideal S1x4096x256 .bf16) (j : Fin 16) (h : Fin 8) (r : Fin 256) : cRow X K j h (ix2 0 r) = scW (amax (qRow X h r)) * ((cR : ℝ) : EReal) := by
  rw [← cV_apply X K j h r]
  unfold cRow window
  congr 1; funext a; fin_cases a <;> apply Fin.ext <;> simp [ix2]

/-- The sink of a head. -/
theorem skAt_apply (sk : Vec Ideal S8 .f32) (h : Fin 8) : skAt sk h = sk (ix1 h) := by
  unfold skAt window
  congr 1; funext a; fin_cases a; apply Fin.ext; simp [ix1]; rfl

/-- The score of a query and the key at position `s`, in the kernel's codes. -/
def keyScore (X : Vec Ideal S1x256x1024 .bf16) (K : Vec Ideal S1x4096x256 .bf16) (h : Fin 8) (r : Fin 256) (s : Fin 4096) : EReal :=
  (∑ d, clampE (kRow K (grp h) s d * invW (amax (kRow K (grp h) s))) * clampE (qRow X h r d * invW (amax (qRow X h r)))) * scW (amax (kRow K (grp h) s))

/-- The scores of a block are those of its keys. -/
theorem scoreV_tv (X : Vec Ideal S1x256x1024 .bf16) (K V : Vec Ideal S1x4096x256 .bf16) (h : Fin 8) (J : Fin 16) (k r : Fin 256) :
    scoreV (tv K V (grp h) J).kc (tv K V (grp h) J).ks (qMat (qcV X h)) (ix2 k r) = keyScore X K h r (at' J k) := by
  rw [scoreV_apply]
  unfold tv keyScore
  simp only [kcV_apply, ksrV_apply, qMat_apply, qcV_apply]

/-- The merged tile: the query's own block up to the query, and after it the block four before. -/
theorem diagV_tv (X : Vec Ideal S1x256x1024 .bf16) (K V : Vec Ideal S1x4096x256 .bf16) (h : Fin 8) (j : Fin 16) (k r : Fin 256) :
    diagV (qcV X h) triC (leftTv K V (grp h) j) (tv K V (grp h) j) (ix2 k r)
      = if k.val ≤ r.val then keyScore X K h r (at' j k) else if 4 ≤ j.val then keyScore X K h r (at' (back j 4) k) else ⊥ := by
  have e : diagV (qcV X h) triC (leftTv K V (grp h) j) (tv K V (grp h) j) (ix2 k r)
      = Scalar.select (triMask (F := Ideal) triC (ix2 k r)) (scoreV (tv K V (grp h) j).kc (tv K V (grp h) j).ks (qMat (qcV X h)) (ix2 k r)) (leftScoreV (qMat (qcV X h)) (leftTv K V (grp h) j) (ix2 k r)) := rfl
  rw [e, tri_apply, scoreV_tv]
  have e' : leftScoreV (qMat (qcV X h)) (leftTv K V (grp h) j) (ix2 k r) = if 4 ≤ j.val then keyScore X K h r (at' (back j 4) k) else ⊥ := by
    unfold leftTv
    by_cases h4 : 4 ≤ j.val
    · rw [if_pos h4, if_pos h4]; exact scoreV_tv X K V h (back j 4) k r
    · rw [if_neg h4, if_neg h4]; exact ofBits_bot
  rw [e']
  by_cases hk : k.val ≤ r.val <;> simp [hk, Scalar.select]

/-- The shift of a query is the row's shift over all the keys in its window. -/
theorem headShift_tv (X : Vec Ideal S1x256x1024 .bf16) (K V : Vec Ideal S1x4096x256 .bf16) (sk : Vec Ideal S8 .f32) (h : Fin 8) (j : Fin 16) (z : Fin 1) (r : Fin 256) :
    headShift (qcV X h) (cRow X K j h) (skAt sk h) triC (leftTv K V (grp h) j) (tv K V (grp h) j) (restTv K V (grp h) j) (ix2 0 r)
      = shK (fun s => if Vis (at' j r) s then keyScore X K h r s else ⊥) (scW (amax (qRow X h r)) * ((cR : ℝ) : EReal)) (sk (ix1 h) * (((Real.log 2)⁻¹ : ℝ) : EReal)) := by
  unfold headShift shK
  rw [shiftV_apply, uMax_apply, pass1_top, top_window, cRow_apply, skAt_apply]
  rw [sinkV_ideal, restTv_eq, List.map_map]
  simp only [tileMax_apply]
  rw [top_groups fun k => diagV (qcV X h) triC (leftTv K V (grp h) j) (tv K V (grp h) j) (ix2 k r)]
  simp only [diagV_tv, Function.comp_def, scoreV_tv]

/-- The weight of a score. -/
theorem exp_bot (c : ℝ) (hc : 0 < c) (sh : EReal) : Ideal.exp2 (⊥ * ((c : ℝ) : EReal) - sh) = 0 := by
  rw [EReal.bot_mul_coe_of_pos hc, EReal.bot_sub]; rfl

section
variable (X : Vec Ideal S1x256x1024 .bf16) (K V : Vec Ideal S1x4096x256 .bf16) (h : Fin 8) (j : Fin 16)
variable (c : Vec Ideal S1x256 .f32) (shift : FVec Ideal S1x256 .f32) (cr : ℝ) (hcr : 0 < cr) (r : Fin 256) (hc : c (ix2 0 r) = ((cr : ℝ) : EReal))

/-- A value code. -/
abbrev valCode (g : Fin 2) (d : Fin 128) (s : Fin 4096) : EReal := clampE (vCol V g d s * invW (amax (vCol V g d)))

include hcr hc in
/-- The sum of a query's probabilities is a sum over all positions. -/
theorem headSums_l : ∑ a : Fin 8, (headSums (qcV X h) c shift triC (leftTv K V (grp h) j) (tv K V (grp h) j) (restTv K V (grp h) j)).2 (ix2 a r)
    = ∑ s, Ideal.exp2 ((if Vis (at' j r) s then keyScore X K h r s else ⊥) * ((cr : ℝ) : EReal) - shift (ix2 0 r)) := by
  rw [sum_window (fun s x => Ideal.exp2 (x * ((cr : ℝ) : EReal) - shift (ix2 0 r))) (fun s => exp_bot cr hcr _)]
  unfold headSums
  rw [pass2_sum, restTv_eq, List.map_map, List.map_map, ← add_assoc]
  have e : ∀ a, addf (broadcast S8x256 (Scalar.ofBits (F := Ideal) .f32 0x00000000#32)) (tileSum (probs (keptV (diagV (qcV X h) triC (leftTv K V (grp h) j) (tv K V (grp h) j))) c shift)) (ix2 a r)
      = tileSum (probs (keptV (diagV (qcV X h) triC (leftTv K V (grp h) j) (tv K V (grp h) j))) c shift) (ix2 a r) := fun a => by
    refine (addf_apply _ _ _).trans ?_
    have : broadcast S8x256 (Scalar.ofBits (F := Ideal) .f32 0x00000000#32) (ix2 a r) = 0 := Ideal.ofBits_zero_f32
    rw [this]
    exact zero_add _
  simp only [e, tileSum_apply]
  rw [sum_groups fun k => probs (keptV (diagV (qcV X h) triC (leftTv K V (grp h) j) (tv K V (grp h) j))) c shift (ix2 k r)]
  simp only [probs_apply, keptV_apply, diagV_tv, Function.comp_def, scoreV_tv, hc]
  refine congrArg (fun a => a + _) ?_
  by_cases h4 : 4 ≤ j.val
  · simp only [if_pos h4]
    rw [← Finset.sum_add_distrib]
    refine Finset.sum_congr rfl fun k _ => ?_
    split_ifs <;> simp
  · simp only [if_neg h4, add_zero]
    refine Finset.sum_congr rfl fun k _ => ?_
    split_ifs
    · rfl
    · exact exp_bot cr hcr _

include hcr hc in
/-- The accumulator of a query is a sum over all positions. -/
theorem headSums_acc (d : Fin 128) : (headSums (qcV X h) c shift triC (leftTv K V (grp h) j) (tv K V (grp h) j) (restTv K V (grp h) j)).1 (ix2 d r)
    = ∑ s, valCode V (grp h) d s * clampE (Ideal.exp2 ((if Vis (at' j r) s then keyScore X K h r s else ⊥) * ((cr : ℝ) : EReal) - shift (ix2 0 r))) := by
  rw [sum_window (fun s x => valCode V (grp h) d s * clampE (Ideal.exp2 (x * ((cr : ℝ) : EReal) - shift (ix2 0 r)))) (fun s => by
    rw [exp_bot cr hcr, clampE_zero, mul_zero])]
  unfold headSums
  rw [pass2_acc, restTv_eq, List.map_map, List.map_map, pvV_apply, ← add_assoc]
  have e : ∀ k, select (triMask (F := Ideal) triC) (clip (probs (keptV (diagV (qcV X h) triC (leftTv K V (grp h) j) (tv K V (grp h) j))) c shift)) (broadcast S256x256 (Scalar.ofBits .f32 0x00000000#32)) (ix2 k r)
      = if k.val ≤ r.val then clampE (Ideal.exp2 (keyScore X K h r (at' j k) * ((cr : ℝ) : EReal) - shift (ix2 0 r))) else 0 := fun k => by
    refine (show _ = Scalar.select (triMask (F := Ideal) triC (ix2 k r)) (clip (probs (keptV (diagV (qcV X h) triC (leftTv K V (grp h) j) (tv K V (grp h) j))) c shift) (ix2 k r)) (Ideal.ofBits .f32 0x00000000#32) from rfl).trans ?_
    rw [tri_apply, clip_apply, probs_apply, keptV_apply, diagV_tv, hc, Ideal.ofBits_zero_f32]
    by_cases hk : k.val ≤ r.val <;> simp [hk, Scalar.select]
  have el : leftPvV (F := Ideal) triC (probs (keptV (diagV (qcV X h) triC (leftTv K V (grp h) j) (tv K V (grp h) j))) c shift) (broadcast S128x256 (Scalar.ofBits .f32 0x00000000#32)) (leftTv K V (grp h) j) (ix2 d r)
      = if 4 ≤ j.val then ∑ k : Fin 256, (if k.val ≤ r.val then 0 else valCode V (grp h) d (at' (back j 4) k) * clampE (Ideal.exp2 (keyScore X K h r (at' (back j 4) k) * ((cr : ℝ) : EReal) - shift (ix2 0 r)))) else 0 := by
    have e0 : broadcast S128x256 (Scalar.ofBits (F := Ideal) .f32 0x00000000#32) (ix2 d r) = 0 := Ideal.ofBits_zero_f32
    by_cases h4 : 4 ≤ j.val
    · have eL : leftTv K V (grp h) j = some (tv K V (grp h) (back j 4)) := if_pos h4
      rw [if_pos h4]
      generalize hp : probs (keptV (diagV (qcV X h) triC (leftTv K V (grp h) j) (tv K V (grp h) j))) c shift = p
      rw [eL]
      refine (pvV_apply _ _ _ d r).trans ?_
      rw [e0, zero_add]
      refine Finset.sum_congr rfl fun k _ => ?_
      refine (congrArg (fun a => _ * a) (show _ = Scalar.select (triMask (F := Ideal) triC (ix2 k r)) (Ideal.ofBits .f32 0x00000000#32) (clip p (ix2 k r)) from rfl)).trans ?_
      rw [tri_apply, clip_apply, ← hp, probs_apply, keptV_apply, diagV_tv, hc, Ideal.ofBits_zero_f32]
      have ev : (tv K V (grp h) (back j 4)).vt (ix4 0 0 d k) = valCode V (grp h) d (at' (back j 4) k) := vtV_apply V (grp h) (back j 4) k d
      rw [ev]
      by_cases hk : k.val ≤ r.val <;> simp [hk, h4, Scalar.select]
    · have eL : leftTv K V (grp h) j = none := if_neg h4
      rw [if_neg h4]
      generalize probs (keptV (diagV (qcV X h) triC (leftTv K V (grp h) j) (tv K V (grp h) j))) c shift = p
      rw [eL]
      exact e0
  rw [el]
  simp only [e]
  have ev : ∀ (J : Fin 16) (k : Fin 256), (tv K V (grp h) J).vt (ix4 0 0 d k) = valCode V (grp h) d (at' J k) := fun J k => vtV_apply V (grp h) J k d
  simp only [ev, Function.comp_def, probs_apply, keptV_apply, scoreV_tv, hc]
  refine congrArg (fun a => a + _) ?_
  rw [add_comm]
  refine congrArg (fun a => a + _) ?_
  refine Finset.sum_congr rfl fun k _ => ?_
  split_ifs
  · rfl
  · exact mul_zero _

end

/-- The output of one head, row by row. -/
theorem outB_apply (X : Vec Ideal S1x256x1024 .bf16) (K V : Vec Ideal S1x4096x256 .bf16) (sk : Vec Ideal S8 .f32) (h : Fin 8) (j : Fin 16) (r : Fin 256) (d : Fin 128)
    (cr : ℝ) (hcr : 0 < cr) (hc : scW (amax (qRow X h r)) * ((cR : ℝ) : EReal) = ((cr : ℝ) : EReal)) :
    outB X K V sk j h (ix3 0 r d) = rowK (fun s => if Vis (at' j r) s then keyScore X K h r s else ⊥) ((cr : ℝ) : EReal) (sk (ix1 h) * (((Real.log 2)⁻¹ : ℝ) : EReal))
      (valCode V (grp h) d) (scW (amax (vCol V (grp h) d))) := by
  unfold outB headV rowK
  rw [outV_apply, headSums_l X K V h j _ _ cr hcr r ((cRow_apply X K j h r).trans hc), headSums_acc X K V h j _ _ cr hcr r ((cRow_apply X K j h r).trans hc), headShift_tv X K V sk h j 0 r, hc, vsV_apply, skAt_apply, sinkV_ideal]

end Cert.KernelIdeal.Model

end
-- ==== Proof.Scale.lean ====
/- The scales of finite rows: the kernel's words and the reference's powers of two agree. -/
module

public import proofs.«01_k».proof.Proof.Row

@[expose] public section

noncomputable section

namespace Cert.Row

open Idealize.ShloMosaic Idealize.SL.Sem
open Cert.Quant
open Cert.KernelIdeal.Model (clampE amax top expE scW invW)

/-- A value within the range of the precondition. -/
def Fin' (x : EReal) : Prop := ∃ y : ℝ, x = (y : EReal) ∧ |y| < 2 ^ (128 : ℤ)

/-- The greatest magnitude of a finite row. -/
theorem amax_fin {n : ℕ} (f : Fin (n + 1) → EReal) (hf : ∀ d, Fin' (f d)) : ∃ A : ℝ, A < 2 ^ (128 : ℤ) ∧ amax f = (A : EReal) := by
  choose y hy hb using hf
  have e : ∀ d, max (f d) (-(f d)) = ((|y d| : ℝ) : EReal) := fun d => by
    rw [hy, ← EReal.coe_neg, ← EReal.coe_strictMono.monotone.map_max]; rfl
  obtain ⟨d0, -, h0⟩ := Finset.exists_max_image (Finset.univ : Finset (Fin (n + 1))) (fun d => |y d|) ⟨0, Finset.mem_univ _⟩
  refine ⟨|y d0|, hb d0, ?_⟩
  unfold amax
  simp only [e]
  exact le_antisymm (Finset.sup_le (f := fun s => ((|y s| : ℝ) : EReal)) fun s _ => by exact_mod_cast h0 s (Finset.mem_univ _))
    (Finset.le_sup (f := fun s => ((|y s| : ℝ) : EReal)) (Finset.mem_univ d0))

/-- The scale of a finite row, in the kernel's words and in the reference's powers. -/
theorem scale_fin {n : ℕ} (f : Fin (n + 1) → EReal) (hf : ∀ d, Fin' (f d)) :
    ∃ s i : ℝ, 0 < s ∧ scW (amax f) = (s : EReal) ∧ Ideal.pow ((2 : ℝ) : EReal) (exR (amax f)) = (s : EReal)
      ∧ invW (amax f) = (i : EReal) ∧ Ideal.pow ((2 : ℝ) : EReal) (-exR (amax f)) = (i : EReal) := by
  obtain ⟨A, hA, e⟩ := amax_fin f hf
  refine ⟨sc A, isc A, sc_pos A, ?_, ?_, ?_, ?_⟩
  · rw [e]; exact scale_word A hA
  · rw [e, exR_eq, Quant.pow_two]; rfl
  · rw [e]; exact inv_word A hA
  · rw [e, exR_eq, ← EReal.coe_neg, ← Int.cast_neg, Quant.pow_two]; rfl

/-- The scales agree. -/
theorem scW_eq {n : ℕ} (f : Fin (n + 1) → EReal) (hf : ∀ d, Fin' (f d)) : scW (amax f) = Ideal.pow ((2 : ℝ) : EReal) (exR (amax f)) := by
  obtain ⟨s, i, -, h1, h2, -⟩ := scale_fin f hf
  rw [h1, h2]

/-- The inverse scales agree. -/
theorem invW_eq {n : ℕ} (f : Fin (n + 1) → EReal) (hf : ∀ d, Fin' (f d)) : invW (amax f) = Ideal.pow ((2 : ℝ) : EReal) (-exR (amax f)) := by
  obtain ⟨s, i, -, -, -, h1, h2⟩ := scale_fin f hf
  rw [h1, h2]

/-- A clipped real is a real. -/
theorem clampE_real (x : ℝ) : ∃ y : ℝ, clampE (x : EReal) = (y : EReal) :=
  ⟨min 448 (max (-448) x), by unfold clampE; rw [EReal.coe_strictMono.monotone.map_min, EReal.coe_strictMono.monotone.map_max]⟩

/-- The codes of a finite row are real. -/
theorem code_real {n : ℕ} (f : Fin (n + 1) → EReal) (hf : ∀ d, Fin' (f d)) (d : Fin (n + 1)) : ∃ y : ℝ, clampE (f d * invW (amax f)) = (y : EReal) := by
  obtain ⟨s, i, -, -, -, h1, -⟩ := scale_fin f hf
  obtain ⟨y, hy, -⟩ := hf d
  rw [h1, hy, ← EReal.coe_mul]
  exact clampE_real _

end Cert.Row

end
-- ==== Proof.RefRead.lean ====
/- What the reference computes, as functions of its arguments. -/
module

public import proofs.«01_k».proof.Proof.Gen.ReferenceIdeal.Frame
public import Idealize.ShloMosaic.Lib.StableHlo.RunRead
public import Idealize.ShloMosaic.Lib.Claim
public import proofs.«01_k».proof.Proof.Quant

@[expose] public section

set_option synthInstance.maxSize 4096
set_option maxRecDepth 16384

noncomputable section

namespace Cert.ReferenceIdeal.Val

open Idealize.ShloMosaic Idealize.ShloMosaic.TcCoe Idealize.SL.Sem Cert.ReferenceIdeal.Gen

/-! ## The quantiser -/

/-- A number over a shape. -/
def all {s : Shape} (h : S_.BroadcastsInDim s (![] : Fin 0 → Fin s.rank)) (x : BitVec 32) : FVec Ideal s .f32 := broadcastInDim s ![] h (constant S_ .f32 x)

/-- The exponent of the scale of a magnitude. -/
def expH {s : Shape} (h : S_.BroadcastsInDim s (![] : Fin 0 → Fin s.rank)) (a : FVec Ideal s .f32) : FVec Ideal s .f32 :=
  select (cmpf .olt (Host.divf a (all h 1138753536#32)) (all h 8388608#32)) (all h 0#32)
    (addf (Host.floor (Host.divf (Host.log (Host.divf a (all h 1138753536#32))) (broadcastInDim s ![] h (Host.log (constant S_ .f32 1073741824#32))))) (all h 1065353216#32))

/-- A clip to the range of the codes. -/
def clipH {s : Shape} (h : S_.BroadcastsInDim s (![] : Fin 0 → Fin s.rank)) (x : FVec Ideal s .f32) : FVec Ideal s .f32 :=
  minimumf (all h 1138753536#32) (maximumf (all h 3286237184#32) x)

/-- The query rows. -/
def xq (x : FVec Ideal S9x4096x1024 .bf16) : FVec Ideal S9x4096x8x128 .f32 :=
  extf .f32 (shapeCast S9x4096x8x128 x shapeCasts_S9x4096x1024_S9x4096x8x128 : FVec Ideal S9x4096x8x128 .bf16) bitsLt_bf16_f32

/-- The query exponents. -/
def eq (x : FVec Ideal S9x4096x1024 .bf16) : FVec Ideal S9x4096x8x1 .f32 :=
  expH bcast_S_S9x4096x8x1 (broadcastInDim S9x4096x8x1 ![0, 1, 2] bcast_S9x4096x8_S9x4096x8x1_0_1_2
    (Host.reduce FloatOps.maximumf (Host.absf (xq x)) (constant S_ .f32 4286578688#32) reducesTo_S9x4096x8x128_S9x4096x8_d3 h_S_))

/-- The query codes. -/
def cq (x : FVec Ideal S9x4096x1024 .bf16) : FVec Ideal S9x4096x8x128 .f32 :=
  clipH bcast_S_S9x4096x8x128 (mulf (xq x) (broadcastInDim S9x4096x8x128 ![0, 1, 2, 3] bcast_S9x4096x8x1_S9x4096x8x128_0_1_2_3
    (Host.powf (all bcast_S_S9x4096x8x1 1073741824#32) (Host.negf (eq x)))))

/-- The query scales. -/
def sq (x : FVec Ideal S9x4096x1024 .bf16) : FVec Ideal S9x4096x8 .f32 :=
  shapeCast S9x4096x8 (Host.powf (all bcast_S_S9x4096x8x1 1073741824#32) (eq x)) shapeCasts_S9x4096x8x1_S9x4096x8

/-- The key rows, and likewise the value rows. -/
def xk (x : FVec Ideal S9x4096x256 .bf16) : FVec Ideal S9x4096x2x128 .f32 :=
  extf .f32 (shapeCast S9x4096x2x128 x shapeCasts_S9x4096x256_S9x4096x2x128 : FVec Ideal S9x4096x2x128 .bf16) bitsLt_bf16_f32

/-- The key exponents. -/
def ek (x : FVec Ideal S9x4096x256 .bf16) : FVec Ideal S9x4096x2x1 .f32 :=
  expH bcast_S_S9x4096x2x1 (broadcastInDim S9x4096x2x1 ![0, 1, 2] bcast_S9x4096x2_S9x4096x2x1_0_1_2
    (Host.reduce FloatOps.maximumf (Host.absf (xk x)) (constant S_ .f32 4286578688#32) reducesTo_S9x4096x2x128_S9x4096x2_d3 h_S_))

/-- The key codes. -/
def ck (x : FVec Ideal S9x4096x256 .bf16) : FVec Ideal S9x2x4096x128 .f32 :=
  transpose S9x2x4096x128 [0, 2, 1, 3] (clipH bcast_S_S9x4096x2x128 (mulf (xk x) (broadcastInDim S9x4096x2x128 ![0, 1, 2, 3] bcast_S9x4096x2x1_S9x4096x2x128_0_1_2_3
    (Host.powf (all bcast_S_S9x4096x2x1 1073741824#32) (Host.negf (ek x)))))) transposes_S9x4096x2x128_S9x2x4096x128_0_2_1_3

/-- The key scales. -/
def sk (x : FVec Ideal S9x4096x256 .bf16) : FVec Ideal S9x4096x2 .f32 :=
  shapeCast S9x4096x2 (Host.powf (all bcast_S_S9x4096x2x1 1073741824#32) (ek x)) shapeCasts_S9x4096x2x1_S9x4096x2

/-- The value exponents. -/
def ev (x : FVec Ideal S9x4096x256 .bf16) : FVec Ideal S9x1x2x128 .f32 :=
  expH bcast_S_S9x1x2x128 (broadcastInDim S9x1x2x128 ![0, 2, 3] bcast_S9x2x128_S9x1x2x128_0_2_3
    (Host.reduce FloatOps.maximumf (Host.absf (xk x)) (constant S_ .f32 4286578688#32) reducesTo_S9x4096x2x128_S9x2x128_d1 h_S_))

/-- The value codes. -/
def cv (x : FVec Ideal S9x4096x256 .bf16) : FVec Ideal S9x2x4096x128 .f32 :=
  transpose S9x2x4096x128 [0, 2, 1, 3] (clipH bcast_S_S9x4096x2x128 (mulf (xk x) (broadcastInDim S9x4096x2x128 ![0, 1, 2, 3] bcast_S9x1x2x128_S9x4096x2x128_0_1_2_3
    (Host.powf (all bcast_S_S9x1x2x128 1073741824#32) (Host.negf (ev x)))))) transposes_S9x4096x2x128_S9x2x4096x128_0_2_1_3

/-- The value scales. -/
def sv (x : FVec Ideal S9x4096x256 .bf16) : FVec Ideal S9x2x128 .f32 :=
  shapeCast S9x2x128 (Host.powf (all bcast_S_S9x1x2x128 1073741824#32) (ev x)) shapeCasts_S9x1x2x128_S9x2x128

/-! ## The attention -/

/-- The scores. -/
def scoreR (qc : FVec Ideal S9x4096x8x128 .f32) (qs : FVec Ideal S9x4096x8 .f32) (kc : FVec Ideal S9x2x4096x128 .f32) (ks : FVec Ideal S9x4096x2 .f32) : FVec Ideal S9x2x4x4096x4096 .f32 :=
  mulf (mulf (transpose S9x2x4x4096x4096 [0, 1, 4, 3, 2]
        (Host.dotGeneral (φ₁ := .f32) (φ₂ := .f32) dot_S9x2x4096x128_S9x4096x2x4x128_S9x2x4096x4096x4_3_4_2_13_01_02 none kc (shapeCast S9x4096x2x4x128 qc shapeCasts_S9x4096x8x128_S9x4096x2x4x128))
        transposes_S9x2x4096x4096x4_S9x2x4x4096x4096_0_1_4_3_2)
      (broadcastInDim S9x2x4x4096x4096 ![0, 1, 2, 3, 4] bcast_S9x2x4x4096x1_S9x2x4x4096x4096_0_1_2_3_4
        (broadcastInDim S9x2x4x4096x1 ![0, 1, 2, 3] bcast_S9x2x4x4096_S9x2x4x4096x1_0_1_2_3
          (Host.divf (transpose S9x2x4x4096 [0, 2, 3, 1] (shapeCast S9x4096x2x4 qs shapeCasts_S9x4096x8_S9x4096x2x4) transposes_S9x4096x2x4_S9x2x4x4096_0_2_3_1)
            (broadcastInDim S9x2x4x4096 ![] bcast_S_S9x2x4x4096 (Host.sqrt (constant S_ .f32 0x43000000#32)))))))
    (broadcastInDim S9x2x4x4096x4096 ![0, 1, 2, 3, 4] bcast_S9x2x1x1x4096_S9x2x4x4096x4096_0_1_2_3_4
      (broadcastInDim S9x2x1x1x4096 ![0, 1, 4] bcast_S9x2x4096_S9x2x1x1x4096_0_1_4 (transpose S9x2x4096 [0, 2, 1] ks transposes_S9x4096x2_S9x2x4096_0_2_1)))

/-- Which keys a query sees. -/
def seenR : IVec S4096x4096 1 :=
  andi (cmpi .sle (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))
    (cmpi .sgt (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (subi (broadcastInDim S4096x1 ![0] bcast_S4096_S4096x1_0 (iotaInDim S4096 32 0)) (broadcastInDim S4096x1 ![] bcast_S_S4096x1 (constantI S_ 32 1024#32)))))

/-- The scores of the keys seen. -/
def logitR (s : FVec Ideal S9x2x4x4096x4096 .f32) : FVec Ideal S9x2x4x4096x4096 .f32 :=
  select (broadcastInDim S9x2x4x4096x4096 ![3, 4] bcast_S4096x4096_S9x2x4x4096x4096_3_4 seenR) s (all bcast_S_S9x2x4x4096x4096 0xFF800000#32)

/-- The sinks over the heads. -/
def sinkR (sinks : FVec Ideal S8 .f32) : FVec Ideal S9x2x4x4096 .f32 :=
  broadcastInDim S9x2x4x4096 ![0, 1, 2, 3] bcast_S1x2x4x1_S9x2x4x4096_0_1_2_3
    (broadcastInDim S1x2x4x1 ![1, 2] bcast_S2x4_S1x2x4x1_1_2 (shapeCast S2x4 sinks shapeCasts_S8_S2x4))

/-- The largest score or sink. -/
def maxR (t : FVec Ideal S9x2x4x4096x4096 .f32) (sinks : FVec Ideal S8 .f32) : FVec Ideal S9x2x4x4096 .f32 :=
  maximumf (Host.reduce FloatOps.maximumf t (constant S_ .f32 0xFF800000#32) reducesTo_S9x2x4x4096x4096_S9x2x4x4096_d4 h_S_) (sinkR sinks)

/-- A row's number over the keys. -/
def overKeys (a : FVec Ideal S9x2x4x4096x1 .f32) : FVec Ideal S9x2x4x4096x4096 .f32 :=
  broadcastInDim S9x2x4x4096x4096 ![0, 1, 2, 3, 4] bcast_S9x2x4x4096x1_S9x2x4x4096x4096_0_1_2_3_4 a

/-- A row's number as a column. -/
def col (a : FVec Ideal S9x2x4x4096 .f32) : FVec Ideal S9x2x4x4096x1 .f32 :=
  broadcastInDim S9x2x4x4096x1 ![0, 1, 2, 3] bcast_S9x2x4x4096_S9x2x4x4096x1_0_1_2_3 a

/-- The unnormalised probabilities. -/
def probR (t : FVec Ideal S9x2x4x4096x4096 .f32) (m : FVec Ideal S9x2x4x4096 .f32) : FVec Ideal S9x2x4x4096x4096 .f32 :=
  Host.exp (subf t (overKeys (col m)))

/-- The sums of the probabilities, the sink's included. -/
def sumR (p : FVec Ideal S9x2x4x4096x4096 .f32) (m : FVec Ideal S9x2x4x4096 .f32) (sinks : FVec Ideal S8 .f32) : FVec Ideal S9x2x4x4096 .f32 :=
  addf (Host.reduceAdd p (constant S_ .f32 0x00000000#32) reducesTo_S9x2x4x4096x4096_S9x2x4x4096_d4 h_S_) (Host.exp (subf (sinkR sinks) m))

/-- The exponents of the probabilities' scales. -/
def ep (p : FVec Ideal S9x2x4x4096x4096 .f32) : FVec Ideal S9x2x4x4096x1 .f32 :=
  expH bcast_S_S9x2x4x4096x1 (col (Host.reduce FloatOps.maximumf (Host.absf p) (constant S_ .f32 0xFF800000#32) reducesTo_S9x2x4x4096x4096_S9x2x4x4096_d4 h_S_))

/-- The codes of the probabilities. -/
def cp (p : FVec Ideal S9x2x4x4096x4096 .f32) : FVec Ideal S9x2x4x4096x4096 .f32 :=
  clipH bcast_S_S9x2x4x4096x4096 (mulf p (overKeys (Host.powf (all bcast_S_S9x2x4x4096x1 0x40000000#32) (Host.negf (ep p)))))

/-- The output from the probabilities and their sums. -/
def mixR (p : FVec Ideal S9x2x4x4096x4096 .f32) (l : FVec Ideal S9x2x4x4096 .f32) (vc : FVec Ideal S9x2x4096x128 .f32) (vs : FVec Ideal S9x2x128 .f32) : FVec Ideal S9x4096x1024 .bf16 :=
  truncf .bf16 (shapeCast S9x4096x1024 (mulf (mulf
      (transpose S9x4096x2x4x128 [0, 4, 1, 3, 2] (Host.dotGeneral (φ₁ := .f32) (φ₂ := .f32) dot_S9x2x4096x128_S9x2x4x4096x4096_S9x2x128x4x4096_2_4_3_23_01_01 none vc (cp p))
        transposes_S9x2x128x4x4096_S9x4096x2x4x128_0_4_1_3_2)
      (broadcastInDim S9x4096x2x4x128 ![0, 1, 2, 3, 4] bcast_S9x4096x2x4x1_S9x4096x2x4x128_0_1_2_3_4
        (broadcastInDim S9x4096x2x4x1 ![0, 1, 2, 3] bcast_S9x4096x2x4_S9x4096x2x4x1_0_1_2_3
          (transpose S9x4096x2x4 [0, 3, 1, 2] (Host.divf (shapeCast S9x2x4x4096 (Host.powf (all bcast_S_S9x2x4x4096x1 0x40000000#32) (ep p)) shapeCasts_S9x2x4x4096x1_S9x2x4x4096) l)
            transposes_S9x2x4x4096_S9x4096x2x4_0_3_1_2))))
    (broadcastInDim S9x4096x2x4x128 ![0, 1, 2, 3, 4] bcast_S9x1x2x1x128_S9x4096x2x4x128_0_1_2_3_4
      (broadcastInDim S9x1x2x1x128 ![0, 2, 4] bcast_S9x2x128_S9x1x2x1x128_0_2_4 vs))) shapeCasts_S9x4096x2x4x128_S9x4096x1024 : FVec Ideal S9x4096x1024 .f32) bitsLt_bf16_f32

/-- The output from the scores. -/
def outR (t : FVec Ideal S9x2x4x4096x4096 .f32) (sinks : FVec Ideal S8 .f32) (vc : FVec Ideal S9x2x4096x128 .f32) (vs : FVec Ideal S9x2x128 .f32) : FVec Ideal S9x4096x1024 .bf16 :=
  mixR (probR t (maxR t sinks)) (sumR (probR t (maxR t sinks)) (maxR t sinks) sinks) vc vs

/-! ## The program's buffers -/

section
variable (m : (ℓ : Loc nD τ sig) → Buf (Elt Ideal) ℓ) (c : Dev nD)

/-- The buffer of the query codes before their rounding. -/
theorem v22_eq : V m c main_v22 = cq (m ((c : Thread nD τ).loc main_arg0)) := by
  unfold_abbrev_sides
  after_reads_simp
  rfl

/-- The buffer of the query scales. -/
theorem v25_eq : V m c main_v25 = sq (m ((c : Thread nD τ).loc main_arg0)) := by
  unfold_abbrev_sides
  after_reads_simp
  rfl

/-- The buffer of the key codes before their rounding. -/
theorem v78_eq : V m c main_v78 = ck (m ((c : Thread nD τ).loc main_arg1)) := by
  unfold_abbrev_sides
  after_reads_simp
  rfl

/-- The buffer of the key scales. -/
theorem v51_eq : V m c main_v51 = sk (m ((c : Thread nD τ).loc main_arg1)) := by
  unfold_abbrev_sides
  after_reads_simp
  rfl

/-- The buffer of the value codes before their rounding. -/
theorem v79_eq : V m c main_v79 = cv (m ((c : Thread nD τ).loc main_arg2)) := by
  unfold_abbrev_sides
  after_reads_simp
  rfl

/-- The buffer of the value scales. -/
theorem v77_eq : V m c main_v77 = sv (m ((c : Thread nD τ).loc main_arg2)) := by
  unfold_abbrev_sides
  after_reads_simp
  rfl

end

/-- The lines after the region. -/
abbrev tailOps : List (HloOp τ sig (Elt Ideal)) := List.flatten [hostOps1, hostOps1_1, hostOps1_2, hostOps1_3, hostOps1_4, hostOps1_5, hostOps1_6]

/-- The query scales are returned with the positions last. -/
theorem v160_eq (U : Valuation τ sig (Elt Ideal)) : StableHlo.after tailOps U (Proc.devRef .tc main_v160) =
    (transpose S9x8x4096 [0, 2, 1] (U (Proc.devRef .tc main_v25) : FVec Ideal S9x4096x8 .f32) transposes_S9x4096x8_S9x8x4096_0_2_1 : FVec Ideal S9x8x4096 .f32) := by
  simp only [tailOps, hostOps1, hostOps1_1, hostOps1_2, hostOps1_3, hostOps1_4, hostOps1_5, hostOps1_6, List.flatten_cons, List.flatten_nil, List.cons_append, List.nil_append, List.append_nil]
  after_reads_simp

/-- The key scales are returned with the positions last. -/
theorem v161_eq (U : Valuation τ sig (Elt Ideal)) : StableHlo.after tailOps U (Proc.devRef .tc main_v161) =
    (transpose S9x2x4096 [0, 2, 1] (U (Proc.devRef .tc main_v51) : FVec Ideal S9x4096x2 .f32) transposes_S9x4096x2_S9x2x4096_0_2_1 : FVec Ideal S9x2x4096 .f32) := by
  simp only [tailOps, hostOps1, hostOps1_1, hostOps1_2, hostOps1_3, hostOps1_4, hostOps1_5, hostOps1_6, List.flatten_cons, List.flatten_nil, List.cons_append, List.nil_append, List.append_nil]
  after_reads_simp

/-- The output is computed from the rounded codes and the scales. -/
theorem v159_eq (U : Valuation τ sig (Elt Ideal)) : StableHlo.after tailOps U (Proc.devRef .tc main_v159) =
    outR (logitR (scoreR (U (Proc.devRef .tc main_v80_3)) (U (Proc.devRef .tc main_v25)) (U (Proc.devRef .tc main_v80_4)) (U (Proc.devRef .tc main_v51))))
      (U (Proc.devRef .tc main_arg3)) (U (Proc.devRef .tc main_v80_5)) (U (Proc.devRef .tc main_v77)) := by
  simp only [tailOps, hostOps1, hostOps1_1, hostOps1_2, hostOps1_3, hostOps1_4, hostOps1_5, hostOps1_6, List.flatten_cons, List.flatten_nil, List.cons_append, List.nil_append, List.append_nil]
  after_reads_simp
  rfl

end Cert.ReferenceIdeal.Val

end
-- ==== Proof.RefCoord.lean ====
/- The reference read at an index. -/
module

public import proofs.«01_k».proof.Proof.RefRead
public import proofs.«01_k».proof.Proof.Row

@[expose] public section

set_option synthInstance.maxSize 4096
set_option maxRecDepth 16384

noncomputable section

namespace Cert.ReferenceIdeal.Val

open Idealize.ShloMosaic Idealize.SL.Sem Cert.ReferenceIdeal.Gen
open Cert.Quant
open Cert.KernelIdeal.Model (clampE amax top)

/-- A query row. -/
abbrev qRowA (x : FVec Ideal S9x4096x1024 .bf16) (b : Fin 9) (s : Fin 4096) (h : Fin 8) : Fin 128 → EReal := fun d => x (ix3 b s ⟨128 * h.val + d.val, by omega⟩)

/-- A key row. -/
abbrev kRowA (x : FVec Ideal S9x4096x256 .bf16) (b : Fin 9) (g : Fin 2) (s : Fin 4096) : Fin 128 → EReal := fun d => x (ix3 b s ⟨128 * g.val + d.val, by omega⟩)

/-- A value column. -/
abbrev vColA (x : FVec Ideal S9x4096x256 .bf16) (b : Fin 9) (g : Fin 2) (d : Fin 128) : Fin 4096 → EReal := fun s => x (ix3 b s ⟨128 * g.val + d.val, by omega⟩)

/-- The reference's exponent, entry by entry. -/
theorem expH_apply {s : Shape} (h : S_.BroadcastsInDim s (![] : Fin 0 → Fin s.rank)) (a : FVec Ideal s .f32) (i : s.Idx) : expH h a i = exR (a i) := by
  show Scalar.select (Ideal.cmp .olt (Ideal.div (a i) (Ideal.ofBits .f32 1138753536#32)) (Ideal.ofBits .f32 8388608#32)) (Ideal.ofBits .f32 0#32)
    (Ideal.liftRound Int.floor (Ideal.div (Ideal.log (Ideal.div (a i) (Ideal.ofBits .f32 1138753536#32))) (Ideal.log (Ideal.ofBits .f32 1073741824#32))) + Ideal.ofBits .f32 1065353216#32) = _
  unfold exR
  rw [ofBits_448, ofBits_tiny, ofBits_two, Ideal.ofBits_zero, Idealize.ShloMosaic.Ideal.ofBits_one_f32]

/-- The reference's clipping, entry by entry. -/
theorem clipH_apply {s : Shape} (h : S_.BroadcastsInDim s (![] : Fin 0 → Fin s.rank)) (a : FVec Ideal s .f32) (i : s.Idx) : clipH h a i = clampE (a i) := by
  show min (Ideal.ofBits .f32 1138753536#32) (max (Ideal.ofBits .f32 3286237184#32) (a i)) = _
  rw [ofBits_448, ofBits_neg448]; rfl

/-- An array filled with twos. -/
theorem all_two {s : Shape} (h : S_.BroadcastsInDim s (![] : Fin 0 → Fin s.rank)) (i : s.Idx) : all h 1073741824#32 i = ((2 : ℝ) : EReal) := ofBits_two

/-- The queries by head. -/
theorem xq_apply (x : FVec Ideal S9x4096x1024 .bf16) (b : Fin 9) (s : Fin 4096) (h : Fin 8) (d : Fin 128) : xq x (ix4 b s h d) = qRowA x b s h d := by
  pointwise [xq]
  exact congrArg (fun e => x (ix3 b s e)) (Fin.ext (by show h.val * 128 + d.val = 128 * h.val + d.val; omega))

/-- The keys, or the values, by head. -/
theorem xk_apply (x : FVec Ideal S9x4096x256 .bf16) (b : Fin 9) (s : Fin 4096) (h : Fin 2) (d : Fin 128) : xk x (ix4 b s h d) = kRowA x b h s d := by
  pointwise [xk]
  exact congrArg (fun e => x (ix3 b s e)) (Fin.ext (by show h.val * 128 + d.val = 128 * h.val + d.val; omega))

/-- The exponents of the queries' scales: one for a position and a head. -/
theorem eq_apply (x : FVec Ideal S9x4096x1024 .bf16) (b : Fin 9) (s : Fin 4096) (h : Fin 8) (z : Fin 1) : eq x (ix4 b s h z) = exR (amax (qRowA x b s h)) := by
  unfold eq
  rw [expH_apply]
  pointwise []
  simp only [xq_apply]
  rw [ofBits_bot]
  rfl

/-- The exponents of the keys' scales: one for a position and a head. -/
theorem ek_apply (x : FVec Ideal S9x4096x256 .bf16) (b : Fin 9) (s : Fin 4096) (h : Fin 2) (z : Fin 1) : ek x (ix4 b s h z) = exR (amax (kRowA x b h s)) := by
  unfold ek
  rw [expH_apply]
  pointwise []
  simp only [xk_apply]
  rw [ofBits_bot]
  rfl

/-- The exponents of the values' scales: one for a head and a column. -/
theorem ev_apply (x : FVec Ideal S9x4096x256 .bf16) (b : Fin 9) (h : Fin 2) (d : Fin 128) (z : Fin 1) : ev x (ix4 b z h d) = exR (amax (vColA x b h d)) := by
  unfold ev
  rw [expH_apply]
  pointwise []
  simp only [xk_apply]
  rw [ofBits_bot]
  rfl

/-- The query codes: each entry times the inverse scale of its row, clipped. -/
theorem cq_apply (x : FVec Ideal S9x4096x1024 .bf16) (b : Fin 9) (s : Fin 4096) (h : Fin 8) (d : Fin 128) :
    cq x (ix4 b s h d) = clampE (qRowA x b s h d * Ideal.pow ((2 : ℝ) : EReal) (-exR (amax (qRowA x b s h)))) := by
  unfold cq
  rw [clipH_apply]
  pointwise []
  rw [xq_apply, all_two, eq_apply]

/-- The query scales. -/
theorem sq_apply (x : FVec Ideal S9x4096x1024 .bf16) (b : Fin 9) (s : Fin 4096) (h : Fin 8) :
    sq x (ix3 b s h) = Ideal.pow ((2 : ℝ) : EReal) (exR (amax (qRowA x b s h))) := by
  pointwise [sq]
  rw [all_two, eq_apply]

/-- The key codes: each entry times the inverse scale of its row, clipped. -/
theorem ck_apply (x : FVec Ideal S9x4096x256 .bf16) (b : Fin 9) (g : Fin 2) (s : Fin 4096) (d : Fin 128) :
    ck x (ix4 b g s d) = clampE (kRowA x b g s d * Ideal.pow ((2 : ℝ) : EReal) (-exR (amax (kRowA x b g s)))) := by
  pointwise [ck]
  rw [clipH_apply]
  pointwise []
  rw [xk_apply, all_two, ek_apply]

/-- The key scales. -/
theorem sk_apply (x : FVec Ideal S9x4096x256 .bf16) (b : Fin 9) (s : Fin 4096) (h : Fin 2) :
    sk x (ix3 b s h) = Ideal.pow ((2 : ℝ) : EReal) (exR (amax (kRowA x b h s))) := by
  pointwise [sk]
  rw [all_two, ek_apply]

/-- The value codes: each entry times the inverse scale of its column, clipped. -/
theorem cv_apply (x : FVec Ideal S9x4096x256 .bf16) (b : Fin 9) (g : Fin 2) (s : Fin 4096) (d : Fin 128) :
    cv x (ix4 b g s d) = clampE (vColA x b g d s * Ideal.pow ((2 : ℝ) : EReal) (-exR (amax (vColA x b g d)))) := by
  pointwise [cv]
  rw [clipH_apply]
  pointwise []
  rw [xk_apply, all_two, ev_apply]

/-- The value scales. -/
theorem sv_apply (x : FVec Ideal S9x4096x256 .bf16) (b : Fin 9) (h : Fin 2) (d : Fin 128) :
    sv x (ix3 b h d) = Ideal.pow ((2 : ℝ) : EReal) (exR (amax (vColA x b h d))) := by
  pointwise [sv]
  rw [all_two, ev_apply]

/-! ## The attention -/

/-- A score: the sum of products of codes, times the query's scale over the root of 128, times the key's scale. -/
theorem scoreR_apply (qc : FVec Ideal S9x4096x8x128 .f32) (qs : FVec Ideal S9x4096x8 .f32) (kc : FVec Ideal S9x2x4096x128 .f32) (ks : FVec Ideal S9x4096x2 .f32)
    (b : Fin 9) (g : Fin 2) (i : Fin 4) (q s : Fin 4096) : scoreR qc qs kc ks (ix5 b g i q s)
      = (∑ d, kc (ix4 b g s d) * qc (ix4 b q ⟨g.val * 4 + i.val, by omega⟩ d)) * Ideal.div (qs (ix3 b q ⟨g.val * 4 + i.val, by omega⟩)) ((Real.sqrt 128 : ℝ) : EReal) * ks (ix3 b s g) := by
  pointwise [scoreR]
  rw [ofBits_128]
  have : Ideal.sqrt ((128 : ℝ) : EReal) = ((Real.sqrt 128 : ℝ) : EReal) := if_neg (by norm_num)
  rw [this]

/-- A query sees the keys at or before it, fewer than 1024 back. -/
abbrev Seen (q s : Fin 4096) : Prop := s.val ≤ q.val ∧ q.val < s.val + 1024

/-- A position as a word is the position. -/
theorem toInt_small (x : ℕ) (h : x < 4096) : (BitVec.ofNat 32 x).toInt = x := by
  rw [BitVec.toInt_ofNat', Int.bmod_eq_of_le (by omega) (by omega)]

/-- The mask of the reference holds where the key is in the query's window. -/
theorem seenR_apply (q s : Fin 4096) : seenR (ix2 q s) = BitVec.ofBool (decide (Seen q s)) := by
  pointwise [seenR]
  have hq := q.isLt
  have hs := s.isLt
  have e : IntOp.subi (BitVec.ofNat 32 q.val) 1024#32 = BitVec.ofInt 32 (q.val - 1024) := by
    unfold IntOp.subi
    apply BitVec.eq_of_toInt_eq
    rw [BitVec.toInt_sub, toInt_small _ hq, BitVec.toInt_ofInt]
    rfl
  have e' : (BitVec.ofInt 32 ((q.val : ℤ) - 1024)).toInt = q.val - 1024 := by
    rw [BitVec.toInt_ofInt, Int.bmod_eq_of_le (by omega) (by omega)]
  rw [e]
  have c1 : IntOp.cmpi CmpIPredicate.sle (BitVec.ofNat 32 s.val) (BitVec.ofNat 32 q.val) = BitVec.ofBool (decide (s.val ≤ q.val)) := by
    unfold IntOp.cmpi
    simp only [BitVec.sle_eq_decide, toInt_small _ hq, toInt_small _ hs, Nat.cast_le]
  have c2 : IntOp.cmpi CmpIPredicate.sgt (BitVec.ofNat 32 s.val) (BitVec.ofInt 32 ((q.val : ℤ) - 1024)) = BitVec.ofBool (decide (q.val < s.val + 1024)) := by
    unfold IntOp.cmpi
    simp only [BitVec.slt_eq_decide, toInt_small _ hs, e']
    exact congrArg BitVec.ofBool (decide_eq_decide.mpr (by omega))
  rw [c1, c2]
  unfold Seen IntOp.andi
  by_cases h1 : s.val ≤ q.val <;> by_cases h2 : q.val < s.val + 1024 <;> simp [h1, h2]

/-- A masked score: the score in the window, minus infinity out of it. -/
theorem logitR_apply (t : FVec Ideal S9x2x4x4096x4096 .f32) (b : Fin 9) (g : Fin 2) (i : Fin 4) (q s : Fin 4096) :
    logitR t (ix5 b g i q s) = if Seen q s then t (ix5 b g i q s) else ⊥ := by
  pointwise [logitR]
  rw [seenR_apply]
  have : all bcast_S_S9x2x4x4096x4096 4286578688#32 (ix5 b g i q s) = ⊥ := ofBits_bot
  rw [this]
  by_cases h : Seen q s <;> simp [h, Scalar.select]

/-- The sink of a head, for each query. -/
theorem sinkR_apply (t : FVec Ideal S8 .f32) (b : Fin 9) (g : Fin 2) (i : Fin 4) (q : Fin 4096) : sinkR t (ix4 b g i q) = t (ix1 ⟨g.val * 4 + i.val, by omega⟩) := by
  pointwise [sinkR]

/-- The maximum of each row, as a column. -/
theorem rowMax_apply (p : FVec Ideal S9x2x4x4096x4096 .f32) (b : Fin 9) (g : Fin 2) (i : Fin 4) (q : Fin 4096) (z : Fin 1) :
    col (Host.reduce FloatOps.maximumf p (constant S_ FTy.f32 0xFF800000#32) reducesTo_S9x2x4x4096x4096_S9x2x4x4096_d4 h_S_) (ix5 b g i q z) = top (fun s => p (ix5 b g i q s)) := by
  pointwise [col]
  rw [ofBits_bot]
  rfl

/-- A row's number as a column. -/
theorem col_apply (a : FVec Ideal S9x2x4x4096 .f32) (b : Fin 9) (g : Fin 2) (i : Fin 4) (q : Fin 4096) (z : Fin 1) : col a (ix5 b g i q z) = a (ix4 b g i q) := by
  pointwise [col]

/-- The maximum of a row and of the head's sink. -/
theorem maxR_apply (t : FVec Ideal S9x2x4x4096x4096 .f32) (sinks : FVec Ideal S8 .f32) (b : Fin 9) (g : Fin 2) (i : Fin 4) (q : Fin 4096) :
    maxR t sinks (ix4 b g i q) = max (top fun s => t (ix5 b g i q s)) (sinks (ix1 ⟨g.val * 4 + i.val, by omega⟩)) := by
  unfold maxR
  refine (maximumf_apply _ _ _).trans ?_
  rw [sinkR_apply, ← rowMax_apply t b g i q 0, col_apply]
  rfl

/-- An unnormalised probability. -/
theorem probR_apply (t : FVec Ideal S9x2x4x4096x4096 .f32) (m : FVec Ideal S9x2x4x4096 .f32) (b : Fin 9) (g : Fin 2) (i : Fin 4) (q s : Fin 4096) :
    probR t m (ix5 b g i q s) = Ideal.exp (t (ix5 b g i q s) - m (ix4 b g i q)) := by
  pointwise [probR, overKeys, col]

/-- The sum of a row's probabilities and of the sink's. -/
theorem sumR_apply (p : FVec Ideal S9x2x4x4096x4096 .f32) (m : FVec Ideal S9x2x4x4096 .f32) (sinks : FVec Ideal S8 .f32) (b : Fin 9) (g : Fin 2) (i : Fin 4) (q : Fin 4096) :
    sumR p m sinks (ix4 b g i q) = ∑ s, p (ix5 b g i q s) + Ideal.exp (sinks (ix1 ⟨g.val * 4 + i.val, by omega⟩) - m (ix4 b g i q)) := by
  pointwise [sumR]
  rw [sinkR_apply]

/-- The exponent of a row's probability scale. -/
theorem ep_apply (p : FVec Ideal S9x2x4x4096x4096 .f32) (b : Fin 9) (g : Fin 2) (i : Fin 4) (q : Fin 4096) (z : Fin 1) :
    ep p (ix5 b g i q z) = exR (amax fun s => p (ix5 b g i q s)) := by
  unfold ep
  rw [expH_apply, rowMax_apply]
  rfl

/-- The probability codes: each probability times the inverse scale of its row, clipped. -/
theorem cp_apply (p : FVec Ideal S9x2x4x4096x4096 .f32) (b : Fin 9) (g : Fin 2) (i : Fin 4) (q s : Fin 4096) :
    cp p (ix5 b g i q s) = clampE (p (ix5 b g i q s) * Ideal.pow ((2 : ℝ) : EReal) (-exR (amax fun s => p (ix5 b g i q s)))) := by
  unfold cp
  rw [clipH_apply]
  pointwise [overKeys]
  rw [all_two, ep_apply]

/-- An output from the probabilities: the products with the value codes, times the row's scale over its sum, times the value scale. -/
theorem mixR_apply (p : FVec Ideal S9x2x4x4096x4096 .f32) (l : FVec Ideal S9x2x4x4096 .f32) (vc : FVec Ideal S9x2x4096x128 .f32) (vs : FVec Ideal S9x2x128 .f32) (b : Fin 9) (q : Fin 4096) (e : Fin 1024) :
    mixR p l vc vs (ix3 b q e) = (∑ s, vc (ix4 b ⟨e.val / 512, by omega⟩ s ⟨e.val % 128, by omega⟩) * cp p (ix5 b ⟨e.val / 512, by omega⟩ ⟨e.val / 128 % 4, by omega⟩ q s))
      * Ideal.div (Ideal.pow ((2 : ℝ) : EReal) (ep p (ix5 b ⟨e.val / 512, by omega⟩ ⟨e.val / 128 % 4, by omega⟩ q 0))) (l (ix4 b ⟨e.val / 512, by omega⟩ ⟨e.val / 128 % 4, by omega⟩ q))
      * vs (ix3 b ⟨e.val / 512, by omega⟩ ⟨e.val % 128, by omega⟩) := by
  pointwise [mixR]
  rw [all_two]

/-- The reference's output, row by row. -/
theorem outR_apply (t : FVec Ideal S9x2x4x4096x4096 .f32) (sinks : FVec Ideal S8 .f32) (vc : FVec Ideal S9x2x4096x128 .f32) (vs : FVec Ideal S9x2x128 .f32) (b : Fin 9) (q : Fin 4096) (h : Fin 8) (d : Fin 128) :
    outR t sinks vc vs (ix3 b q ⟨128 * h.val + d.val, by omega⟩)
      = Cert.Row.rowR (fun s => t (ix5 b ⟨h.val / 4, by omega⟩ ⟨h.val % 4, by omega⟩ q s)) (sinks (ix1 h)) (fun s => vc (ix4 b ⟨h.val / 4, by omega⟩ s d)) (vs (ix3 b ⟨h.val / 4, by omega⟩ d)) := by
  unfold outR
  rw [mixR_apply]
  have e1 : (⟨(128 * h.val + d.val) / 512, by omega⟩ : Fin 2) = ⟨h.val / 4, by omega⟩ := Fin.ext (by show (128 * h.val + d.val) / 512 = h.val / 4; omega)
  have e2 : (⟨(128 * h.val + d.val) / 128 % 4, by omega⟩ : Fin 4) = ⟨h.val % 4, by omega⟩ := Fin.ext (by show (128 * h.val + d.val) / 128 % 4 = h.val % 4; omega)
  have e3 : (⟨(128 * h.val + d.val) % 128, by omega⟩ : Fin 128) = d := Fin.ext (by show (128 * h.val + d.val) % 128 = d.val; omega)
  have e4 : (⟨h.val / 4 * 4 + h.val % 4, by omega⟩ : Fin 8) = h := Fin.ext (by show h.val / 4 * 4 + h.val % 4 = h.val; omega)
  rw [e1, e2, e3]
  simp only [cp_apply, ep_apply, sumR_apply, probR_apply, maxR_apply, e4]
  rfl

end Cert.ReferenceIdeal.Val

end
-- ==== Proof.RefArr.lean ====
/- The reference's run with its results named. -/
module

public import proofs.«01_k».proof.Proof.RefRead
public import Idealize.ShloMosaic.Lib.Pipeline.ValueKit
public import Idealize.ShloMosaic.Lib.Pointwise

@[expose] public section

set_option synthInstance.maxSize 4096
set_option maxRecDepth 16384

noncomputable section

namespace Cert.ReferenceIdeal.Val

open Idealize.ShloMosaic Idealize.ShloMosaic.TcCoe Idealize.SL.Sem Cert.ReferenceIdeal.Gen
open Idealize.ShloMosaic.Pipeline (Dat)

variable (m : (ℓ : Loc nD τ sig) → Buf (Elt Ideal) ℓ)

/-- Every window is one block, the whole array. -/
theorem idx : ∀ t : Fin cfg0.N, win0_0.index t = ![0, 0, 0, 0] ∧ win0_1.index t = ![0, 0, 0, 0] ∧ win0_2.index t = ![0, 0, 0, 0]
    ∧ win0_3.index t = ![0, 0, 0, 0] ∧ win0_4.index t = ![0, 0, 0, 0] ∧ win0_5.index t = ![0, 0, 0, 0]
    ∧ win0_6.index t = ![0, 0, 0, 0] ∧ win0_7.index t = ![0, 0, 0, 0] ∧ win0_8.index t = ![0, 0, 0, 0] :=
  (by decide +kernel : ∀ t : Fin grid0.N, _)

/-- The query codes as the region reads them. -/
theorem iblk0 (c : Dev nD) : iblk m c 0 t0_0 = cq (m ((c : Thread nD τ).loc main_arg0)) := by
  rw [← v22_eq]
  blk_ext! [iblk, idx t0_0]

/-- The key codes as the region reads them. -/
theorem iblk1 (c : Dev nD) : iblk m c 1 t0_0 = ck (m ((c : Thread nD τ).loc main_arg1)) := by
  rw [← v78_eq]
  blk_ext! [iblk, idx t0_0]

/-- The value codes as the region reads them. -/
theorem iblk2 (c : Dev nD) : iblk m c 2 t0_0 = cv (m ((c : Thread nD τ).loc main_arg2)) := by
  rw [← v79_eq]
  blk_ext! [iblk, idx t0_0]

/-- The stored query codes. -/
theorem arr3 (c : Dev nD) : (dats m 0 c).arrAt 3 cfg0.N = cq (m ((c : Thread nD τ).loc main_arg0)) := by
  refine (dats m 0 c).arrAt_eq_of_after_last 3 t0_0 (by decide +kernel) _ fun j => ?_
  blk_simp
  rw [after0_3]
  unfold out0_3
  frame_out
  rw [iblk0]
  unfold k0_pay1
  rw [shapeCast_self]
  rfl

/-- The stored key codes. -/
theorem arr4 (c : Dev nD) : (dats m 0 c).arrAt 4 cfg0.N = ck (m ((c : Thread nD τ).loc main_arg1)) := by
  refine (dats m 0 c).arrAt_eq_of_after_last 4 t0_0 (by decide +kernel) _ fun j => ?_
  blk_simp
  rw [after0_4]
  unfold out0_4
  frame_out
  rw [iblk1]
  unfold k0_pay3
  rw [shapeCast_self]
  rfl

/-- The stored value codes. -/
theorem arr5 (c : Dev nD) : (dats m 0 c).arrAt 5 cfg0.N = cv (m ((c : Thread nD τ).loc main_arg2)) := by
  refine (dats m 0 c).arrAt_eq_of_after_last 5 t0_0 (by decide +kernel) _ fun j => ?_
  blk_simp
  rw [after0_5]
  unfold out0_5
  frame_out
  rw [iblk2]
  unfold k0_pay5
  rw [shapeCast_self]
  rfl

/-- The query codes widened again. -/
theorem arr6 (c : Dev nD) : (dats m 0 c).arrAt 6 cfg0.N = cq (m ((c : Thread nD τ).loc main_arg0)) := by
  refine (dats m 0 c).arrAt_eq_of_after_last 6 t0_0 (by decide +kernel) _ fun j => ?_
  blk_simp
  rw [after0_6]
  unfold out0_6
  frame_out
  rw [iblk0]
  unfold k0_pay2 k0_pay1
  dsimp only
  rw [shapeCast_self]
  rfl

/-- The key codes widened again. -/
theorem arr7 (c : Dev nD) : (dats m 0 c).arrAt 7 cfg0.N = ck (m ((c : Thread nD τ).loc main_arg1)) := by
  refine (dats m 0 c).arrAt_eq_of_after_last 7 t0_0 (by decide +kernel) _ fun j => ?_
  blk_simp
  rw [after0_7]
  unfold out0_7
  frame_out
  rw [iblk1]
  unfold k0_pay4 k0_pay3
  dsimp only
  rw [shapeCast_self]
  rfl

/-- The value codes widened again. -/
theorem arr8 (c : Dev nD) : (dats m 0 c).arrAt 8 cfg0.N = cv (m ((c : Thread nD τ).loc main_arg2)) := by
  refine (dats m 0 c).arrAt_eq_of_after_last 8 t0_0 (by decide +kernel) _ fun j => ?_
  blk_simp
  rw [after0_8]
  unfold out0_8
  frame_out
  rw [iblk2]
  unfold k0_pay6 k0_pay5
  dsimp only
  rw [shapeCast_self]
  rfl

/-- The buffers as the lines after the region find them. -/
def atTail (c : Dev nD) : Valuation τ sig (Elt Ideal) :=
  Pipeline.withArrays (cfgs 0).spec c (V0 m c) fun w => (dats m 0 c).arrAt w (cfgs 0).N

/-- Different windows of the region have different arrays. -/
theorem arrRef_inj : Function.Injective (Pipeline.arrRef spec0) := by decide +kernel

/-- A buffer that no window stages is as the region found it. -/
theorem atTail_of_ne (c : Dev nD) (b : Ref sig .tc) (hb : ∀ w, Pipeline.arrRef spec0 w ≠ b) : atTail m c (Proc.devRef .tc b) = V m c b :=
  Pipeline.withArrays_of_ne _ c (V0 m c) _ b hb

/-- A buffer that a window stages holds that window's array. -/
theorem atTail_arr (c : Dev nD) (w : Fin cfg0.W) : atTail m c (Proc.devRef .tc (Pipeline.arrRef spec0 w)) = (dats m 0 c).arrAt w cfg0.N :=
  Pipeline.withArrays_arr spec0 arrRef_inj c (V0 m c) _ w

/-- The attention output of the reference as a function of its arguments. -/
def out (x : FVec Ideal S9x4096x1024 .bf16) (k v : FVec Ideal S9x4096x256 .bf16) (s : FVec Ideal S8 .f32) : FVec Ideal S9x4096x1024 .bf16 :=
  outR (logitR (scoreR (cq x) (sq x) (ck k) (sk k))) s (cv v) (sv v)

/-- The reference's run, its results named. -/
theorem values_run (ρ : Dev nD → PrngReg) : θ_run defs (onTc (τ := τ) (main (F := Ideal))) ⟨m, fun _ => 0, ρ⟩ (fun r => ∀ c : Dev nD,
      r.2.mem ((c.tc : Thread nD τ).loc main_v159) = out (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_v80_0) = cq (m ((c.tc : Thread nD τ).loc main_arg0))
      ∧ r.2.mem ((c.tc : Thread nD τ).loc main_v160)
        = (transpose S9x8x4096 [0, 2, 1] (sq (m ((c.tc : Thread nD τ).loc main_arg0))) transposes_S9x4096x8_S9x8x4096_0_2_1 : FVec Ideal S9x8x4096 .f32)
      ∧ r.2.mem ((c.tc : Thread nD τ).loc main_v80_1) = ck (m ((c.tc : Thread nD τ).loc main_arg1))
      ∧ r.2.mem ((c.tc : Thread nD τ).loc main_v161)
        = (transpose S9x2x4096 [0, 2, 1] (sk (m ((c.tc : Thread nD τ).loc main_arg1))) transposes_S9x4096x2_S9x2x4096_0_2_1 : FVec Ideal S9x2x4096 .f32)
      ∧ r.2.mem ((c.tc : Thread nD τ).loc main_v80_2) = cv (m ((c.tc : Thread nD τ).loc main_arg2))
      ∧ r.2.mem ((c.tc : Thread nD τ).loc main_v77) = sv (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
    have e25 := (atTail_of_ne m c main_v25 (by decide)).trans (v25_eq m c)
    have e51 := (atTail_of_ne m c main_v51 (by decide)).trans (v51_eq m c)
    have e77 := (atTail_of_ne m c main_v77 (by decide)).trans (v77_eq m c)
    have e3 := (atTail_of_ne m c main_arg3 (by decide)).trans (V_main_arg3 m c)
    have f3 := (atTail_arr m c 6).trans (arr6 m c)
    have f4 := (atTail_arr m c 7).trans (arr7 m c)
    have f5 := (atTail_arr m c 8).trans (arr8 m c)
    refine ⟨((h c).2 main_v159 (Pipeline.mem_restRefs_of main_v159 (by decide) (by decide))).trans ?_, ((h c).1 3).trans (arr3 m c),
      ((h c).2 main_v160 (Pipeline.mem_restRefs_of main_v160 (by decide) (by decide))).trans ?_, ((h c).1 4).trans (arr4 m c),
      ((h c).2 main_v161 (Pipeline.mem_restRefs_of main_v161 (by decide) (by decide))).trans ?_, ((h c).1 5).trans (arr5 m c),
      ((h c).2 main_v77 (Pipeline.mem_restRefs_of main_v77 (by decide) (by decide))).trans ?_,
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩
    · refine (v159_eq (atTail m c)).trans ?_
      unfold out
      exact congr (congr (congr (congrArg outR (congrArg logitR (congr (congr (congr (congrArg scoreR f3) e25) f4) e51))) e3) f5) e77
    · refine (v160_eq (atTail m c)).trans ?_
      rw [e25]
    · refine (v161_eq (atTail m c)).trans ?_
      rw [e51]
    · refine Eq.trans ?_ e77
      unfold Pipeline.afterTail₀
      rw [List.flatten_cons, List.flatten_cons, List.flatten_cons, List.flatten_cons, List.flatten_cons, List.flatten_cons, List.flatten_cons, List.flatten_nil, List.append_nil,
        StableHlo.after_append, StableHlo.after_append, StableHlo.after_append, StableHlo.after_append, StableHlo.after_append, StableHlo.after_append,
        StableHlo.after_of_writes_sub (r := main_v77) hostOps1_6 _ hostOps1_6_writes (by decide +kernel),
        StableHlo.after_of_writes_sub (r := main_v77) hostOps1_5 _ hostOps1_5_writes (by decide +kernel),
        StableHlo.after_of_writes_sub (r := main_v77) hostOps1_4 _ hostOps1_4_writes (by decide +kernel),
        StableHlo.after_of_writes_sub (r := main_v77) hostOps1_3 _ hostOps1_3_writes (by decide +kernel),
        StableHlo.after_of_writes_sub (r := main_v77) hostOps1_2 _ hostOps1_2_writes (by decide +kernel),
        StableHlo.after_of_writes_sub (r := main_v77) hostOps1_1 _ hostOps1_1_writes (by decide +kernel),
        StableHlo.after_of_writes_sub (r := main_v77) hostOps1 _ hostOps1_writes (by decide +kernel)]
      rfl) (run_main m ρ)

end Cert.ReferenceIdeal.Val

end
-- ==== Proof.Value.lean ====
/- The kernel's results are the reference's, for finite queries, keys and values. -/
module

public import proofs.«01_k».proof.Proof.KArr
public import proofs.«01_k».proof.Proof.Window
public import proofs.«01_k».proof.Proof.Scale
public import proofs.«01_k».proof.Proof.RefCoord
public import proofs.«01_k».proof.Proof.RefArr

@[expose] public section

set_option synthInstance.maxSize 4096
set_option maxRecDepth 16384

noncomputable section

namespace Cert.Value

open Idealize.ShloMosaic Idealize.ShloMosaic.TcCoe Idealize.SL.Sem
open Cert.Quant Cert.Row
open Cert.KernelIdeal Cert.KernelIdeal.Model
open Cert.ReferenceIdeal.Val (qRowA kRowA vColA cq sq ck sk cv sv cq_apply sq_apply ck_apply sk_apply cv_apply sv_apply scoreR logitR scoreR_apply logitR_apply outR_apply Seen)

variable (m : (ℓ : Loc nD τ sig) → Buf (Elt Ideal) ℓ) (c : Dev nD)

/-- The queries. -/
abbrev xs : Vec Ideal S9x4096x1024 .bf16 := m ((c : Thread nD τ).loc main_arg0)
/-- The keys. -/
abbrev kk : Vec Ideal S9x4096x256 .bf16 := m ((c : Thread nD τ).loc main_arg1)
/-- The values. -/
abbrev vv : Vec Ideal S9x4096x256 .bf16 := m ((c : Thread nD τ).loc main_arg2)
/-- The sinks. -/
abbrev ss : Vec Ideal S8 .f32 := m ((c : Thread nD τ).loc main_arg3)

/-- Two arrays of rank three are equal when they agree at every triple. -/
theorem ext3 {α : Type} {n0 n1 n2 : Nat} {f g : (⟨3, ![n0, n1, n2]⟩ : Shape).Idx → α} (h : ∀ (a : Fin n0) (b : Fin n1) (c : Fin n2), f (ix3 a b c) = g (ix3 a b c)) : f = g :=
  funext fun i => by rw [← ix3_eta i]; exact h _ _ _

/-- Two arrays of rank four are equal when they agree at every quadruple. -/
theorem ext4 {α : Type} {n0 n1 n2 n3 : Nat} {f g : (⟨4, ![n0, n1, n2, n3]⟩ : Shape).Idx → α}
    (h : ∀ (a : Fin n0) (b : Fin n1) (c : Fin n2) (d : Fin n3), f (ix4 a b c d) = g (ix4 a b c d)) : f = g :=
  funext fun i => by rw [← ix4_eta i]; exact h _ _ _ _

/-- A position is its row of its block. -/
theorem at_eq (s : Fin 4096) : at' (blkAt s) (rowAt s) = s := Fin.ext (by show 256 * (s.val / 256) + s.val % 256 = s.val; omega)

/-- A query row of a block is a row of the queries. -/
theorem qRow_eq (b : Fin 9) (j : Fin 16) (h : Fin 8) (r : Fin 256) : qRow (inX m c b j) h r = qRowA (xs m c) b (at' j r) h :=
  funext fun d => inX_apply m c b j r ⟨128 * h.val + d.val, by omega⟩

/-- A key row of a batch is a row of the keys. -/
theorem kRow_eq (b : Fin 9) (g : Fin 2) (s : Fin 4096) : kRow (inK m c b) g s = kRowA (kk m c) b g s :=
  funext fun d => inK_apply m c b s ⟨128 * g.val + d.val, by omega⟩

/-- A value column of a batch is a column of the values. -/
theorem vCol_eq (b : Fin 9) (g : Fin 2) (d : Fin 128) : vCol (inV m c b) g d = vColA (vv m c) b g d :=
  funext fun s => inV_apply m c b s ⟨128 * g.val + d.val, by omega⟩

/-! ## The codes and the scales -/

/-- The query codes agree. -/
theorem eq1 (hx : ∀ i, Fin' (xs m c i)) : G1 m c = cq (xs m c) := by
  refine ext4 fun i0 i1 i2 i3 => ?_
  show codesB (inX m c i0 (blkAt i1)) (ix4 0 (rowAt i1) i2 i3) = _
  rw [codesB_apply, qRow_eq, at_eq, cq_apply, invW_eq (n := 127) _ fun d => hx _]

/-- The query scales agree. -/
theorem eq2 (hx : ∀ i, Fin' (xs m c i)) : G2 m c
    = (transpose Cert.ReferenceIdeal.S9x8x4096 [0, 2, 1] (sq (xs m c)) Cert.ReferenceIdeal.Facts₀.transposes_S9x4096x8_S9x8x4096_0_2_1 : FVec Ideal Cert.ReferenceIdeal.S9x8x4096 .f32) := by
  refine ext3 fun i0 i1 i2 => ?_
  show qsV (inX m c i0 (blkAt i2)) (inK m c i0) (blkAt i2) (ix3 0 i1 (rowAt i2)) = _
  rw [qsV_apply, qRow_eq, at_eq]
  pointwise []
  rw [sq_apply, scW_eq (n := 127) _ fun d => hx _]

/-- The key codes agree. -/
theorem eq3 (hk : ∀ i, Fin' (kk m c i)) : G3 m c = ck (kk m c) := by
  refine ext4 fun i0 i1 i2 i3 => ?_
  show kcV (inK m c i0) i1 (blkAt i2) (ix4 0 0 (rowAt i2) i3) = _
  rw [kcV_apply, kRow_eq, at_eq, ck_apply, invW_eq (n := 127) _ fun d => hk _]

/-- The key scales agree. -/
theorem eq4 (hk : ∀ i, Fin' (kk m c i)) : G4 m c
    = (transpose Cert.ReferenceIdeal.S9x2x4096 [0, 2, 1] (sk (kk m c)) Cert.ReferenceIdeal.Facts₀.transposes_S9x4096x2_S9x2x4096_0_2_1 : FVec Ideal Cert.ReferenceIdeal.S9x2x4096 .f32) := by
  refine ext3 fun i0 i1 i2 => ?_
  show ksV (inX m c i0 (blkAt i2)) (inK m c i0) (blkAt i2) (ix3 0 i1 (rowAt i2)) = _
  rw [ksV_apply, kRow_eq, at_eq]
  pointwise []
  rw [sk_apply, scW_eq (n := 127) _ fun d => hk _]

/-- The value codes agree. -/
theorem eq5 (hv : ∀ i, Fin' (vv m c i)) : G5 m c = cv (vv m c) := by
  refine ext4 fun i0 i1 i2 i3 => ?_
  show vcV (inV m c i0) i1 (blkAt i2) (ix4 0 0 (rowAt i2) i3) = _
  rw [vcV_apply, vCol_eq, at_eq, cv_apply, invW_eq (n := 4095) _ fun d => hv _]

/-- The value scales agree. -/
theorem eq6 (hv : ∀ i, Fin' (vv m c i)) : G6 m c = sv (vv m c) := by
  refine ext3 fun i0 i1 i2 => ?_
  show vsV (inV m c i0) i1 (ix3 0 0 i2) = _
  rw [vsV_apply, vCol_eq, sv_apply, scW_eq (n := 4095) _ fun d => hv _]

/-! ## The output -/

/-- The reference's unscaled score of a query and a key is the kernel's, times the query's scale over √128. -/
theorem score_eq (hx : ∀ i, Fin' (xs m c i)) (hk : ∀ i, Fin' (kk m c i)) (b : Fin 9) (j : Fin 16) (h : Fin 8) (r : Fin 256) (σq : ℝ)
    (hq : scW (amax (qRowA (xs m c) b (at' j r) h)) = ((σq : ℝ) : EReal)) (s : Fin 4096) : ∃ y : ℝ, keyScore (inX m c b j) (inK m c b) h r s = ((y : ℝ) : EReal)
      ∧ scoreR (cq (xs m c)) (sq (xs m c)) (ck (kk m c)) (sk (kk m c)) (ix5 b ⟨h.val / 4, by omega⟩ ⟨h.val % 4, by omega⟩ (at' j r) s)
        = ((y * (σq / Real.sqrt 128) : ℝ) : EReal) := by
  have hfq : ∀ d, Fin' (qRowA (xs m c) b (at' j r) h d) := fun d => hx _
  have hfk : ∀ d, Fin' (kRowA (kk m c) b (grp h) s d) := fun d => hk _
  choose yq hyq using code_real (n := 127) _ hfq
  choose yk hyk using code_real (n := 127) _ hfk
  obtain ⟨w, -, -, hw, -⟩ := scale_fin (n := 127) _ hfk
  have hS : (∑ d, ((yk d : ℝ) : EReal) * ((yq d : ℝ) : EReal)) = ((∑ d, yk d * yq d : ℝ) : EReal) := by
    rw [← coe_sum']; exact Finset.sum_congr rfl fun d _ => (EReal.coe_mul _ _).symm
  refine ⟨(∑ d, yk d * yq d) * w, ?_, ?_⟩
  · unfold keyScore
    rw [qRow_eq, kRow_eq]
    simp only [hyq, hyk]
    rw [hS, hw, ← EReal.coe_mul]
  · rw [scoreR_apply]
    have e : (⟨(⟨h.val / 4, by omega⟩ : Fin 2).val * 4 + (⟨h.val % 4, by omega⟩ : Fin 4).val, by dsimp only; omega⟩ : Fin 8) = h := Fin.ext (by show h.val / 4 * 4 + h.val % 4 = h.val; omega)
    rw [e]
    show (∑ d, ck (kk m c) (ix4 b (grp h) s d) * cq (xs m c) (ix4 b (at' j r) h d)) * Ideal.div (sq (xs m c) (ix3 b (at' j r) h)) ((Real.sqrt 128 : ℝ) : EReal) * sk (kk m c) (ix3 b s (grp h)) = _
    simp only [ck_apply, cq_apply]
    rw [← invW_eq (n := 127) _ hfq, ← invW_eq (n := 127) _ hfk, sq_apply, sk_apply, ← scW_eq (n := 127) _ hfq, ← scW_eq (n := 127) _ hfk, hq, hw]
    simp only [hyq, hyk]
    rw [hS, Quant.div_real _ _ (Real.sqrt_pos.mpr (by norm_num)).ne', ← EReal.coe_mul, ← EReal.coe_mul]
    congr 1
    ring

/-- An element of the output. -/
theorem out_eq (hx : ∀ i, Fin' (xs m c i)) (hk : ∀ i, Fin' (kk m c i)) (hv : ∀ i, Fin' (vv m c i)) (b : Fin 9) (j : Fin 16) (h : Fin 8) (r : Fin 256) (d : Fin 128) :
    outB (inX m c b j) (inK m c b) (inV m c b) (inS m c) j h (ix3 0 r d)
      = Cert.ReferenceIdeal.Val.out (xs m c) (kk m c) (vv m c) (ss m c) (ix3 b (at' j r) ⟨128 * h.val + d.val, by omega⟩) := by
  obtain ⟨σq, -, hpos, hq, -⟩ := scale_fin (n := 127) (qRowA (xs m c) b (at' j r) h) fun d => hx _
  have h128 : 0 < Real.sqrt 128 := Real.sqrt_pos.mpr (by norm_num)
  have hα : 0 < σq / Real.sqrt 128 := div_pos hpos h128
  have hcr : σq * cR = σq / Real.sqrt 128 * (Real.log 2)⁻¹ := by unfold cR; rw [div_eq_mul_inv]; ring
  have hcp : 0 < σq / Real.sqrt 128 * (Real.log 2)⁻¹ := mul_pos hα (inv_pos.mpr (Real.log_pos (by norm_num)))
  have hfv : ∀ d s, Fin' (vColA (vv m c) b (grp h) d s) := fun d s => hv _
  choose σ h1 h2 using score_eq m c hx hk b j h r σq hq
  rw [outB_apply (inX m c b j) (inK m c b) (inV m c b) (inS m c) h j r d (σq / Real.sqrt 128 * (Real.log 2)⁻¹) hcp (by rw [qRow_eq, hq, ← EReal.coe_mul, hcr])]
  unfold Cert.ReferenceIdeal.Val.out
  rw [outR_apply]
  simp only [logitR_apply, h1, h2]
  rw [inS_apply]
  have e1 : valCode (inV m c b) (grp h) d = fun s => cv (vv m c) (ix4 b (grp h) s d) := funext fun s => by
    unfold valCode
    rw [vCol_eq, cv_apply, invW_eq (n := 4095) _ (hfv d)]
  have e2 : scW (amax (vCol (inV m c b) (grp h) d)) = sv (vv m c) (ix3 b (grp h) d) := by
    rw [vCol_eq, sv_apply, scW_eq (n := 4095) _ (hfv d)]
  rw [e1, e2]
  exact row_eq (vis := Vis (at' j r)) (at' j r) ⟨le_refl _, by omega⟩ σ _ hα _ _ _

/-- The outputs agree. -/
theorem eq0 (hx : ∀ i, Fin' (xs m c i)) (hk : ∀ i, Fin' (kk m c i)) (hv : ∀ i, Fin' (vv m c i)) :
    G0 m c = Cert.ReferenceIdeal.Val.out (xs m c) (kk m c) (vv m c) (ss m c) := by
  refine ext3 fun i0 i1 i2 => ?_
  refine (out_eq m c hx hk hv i0 (blkAt i1) ⟨i2.val / 128, by omega⟩ (rowAt i1) ⟨i2.val % 128, Nat.mod_lt _ (by decide)⟩).trans ?_
  rw [at_eq]
  exact congrArg (fun e => Cert.ReferenceIdeal.Val.out (xs m c) (kk m c) (vv m c) (ss m c) (ix3 i0 i1 e)) (Fin.ext (by show 128 * (i2.val / 128) + i2.val % 128 = i2.val; omega))

end Cert.Value

end
-- ==== Proof.Finite.lean ====
/- What the precondition says of the arguments. -/
module

public import proofs.«01_k».proof.Defs
public import proofs.«01_k».proof.Proof.Scale
public import Idealize.ShloMosaic.Lib.ReduceAll
public import Idealize.ShloMosaic.Lib.Decide

@[expose] public section

set_option synthInstance.maxSize 4096
set_option maxRecDepth 16384

noncomputable section

namespace Cert.Finite

open Idealize.ShloMosaic Cert.Pre_finite Cert.Row

/-- The side conditions of the precondition's operations. -/
theorem facts : Cert.Pre_finite.Facts where
  bitsLt_bf16_f32 := by decide
  bcast_S_S9x4096x1024 := by decide
  reducesTo_S9x4096x1024_S_d0_1_2 := by decide
  h_S_ := by decide
  bcast_S_S9x4096x256 := by decide
  reducesTo_S9x4096x256_S_d0_1_2 := by decide

/-- A number whose magnitude is at most the greatest finite one is finite. -/
theorem fin_of_le (x : EReal) (h : Ideal.cmp .ole (max x (-x)) (Ideal.ofBits .f32 0x7F7F0000#32) = 1#1) : Fin' x := by
  have hb : Ideal.ofBits .f32 0x7F7F0000#32 = (((2 ^ 23 + 8323072 : ℕ) * 2 ^ ((254 : ℤ) - 150) : ℝ) : EReal) :=
    Cert.Quant.ofBits_nat 254 8323072 (by norm_num) (by norm_num) (by norm_num)
  have hle : max x (-x) ≤ (((2 ^ 23 + 8323072 : ℕ) * 2 ^ ((254 : ℤ) - 150) : ℝ) : EReal) := by
    rw [← hb]
    by_contra hn
    have : Ideal.cmp .ole (max x (-x)) (Ideal.ofBits .f32 0x7F7F0000#32) = 0#1 := by
      simp [Ideal.cmp, hn]
    rw [this] at h
    exact absurd h (by decide)
  obtain ⟨h1, h2⟩ := max_le_iff.mp hle
  induction x using EReal.rec with
  | bot => exact absurd h2 (by rw [EReal.neg_bot, not_le]; exact EReal.coe_lt_top _)
  | top => exact absurd h1 (by rw [not_le]; exact EReal.coe_lt_top _)
  | coe y =>
    refine ⟨y, rfl, lt_of_le_of_lt (abs_le'.mpr ⟨EReal.coe_le_coe_iff.mp h1, ?_⟩) (b := ((2 ^ 23 + 8323072 : ℕ) * 2 ^ ((254 : ℤ) - 150) : ℝ)) ?_⟩
    · rw [← EReal.coe_neg] at h2
      exact EReal.coe_le_coe_iff.mp h2
    · norm_num

/-- The precondition: every query, key and value is finite. -/
theorem args (x : FVec Ideal S9x4096x1024 .bf16) (k v : FVec Ideal S9x4096x256 .bf16) (s : FVec Ideal S8 .f32)
    (h : (letI := facts; Cert.Pre_finite.fn (F := Ideal) x k v s) = fun _ => 1#1) : (∀ i, Fin' (x i)) ∧ (∀ i, Fin' (k i)) ∧ (∀ i, Fin' (v i)) := by
  have h0 := congrFun h ix0
  unfold Cert.Pre_finite.fn at h0
  dsimp only at h0
  obtain ⟨h1, h2⟩ := IntOp.andi_eq_one.mp h0
  obtain ⟨h3, h4⟩ := IntOp.andi_eq_one.mp h1
  exact ⟨fun i => fin_of_le _ (Host.reduce_andi_all _ _ _ _ _ h3 i), fun i => fin_of_le _ (Host.reduce_andi_all _ _ _ _ _ h4 i),
    fun i => fin_of_le _ (Host.reduce_andi_all _ _ _ _ _ h2 i)⟩

end Cert.Finite

end
-- ==== Proof.lean ====
module

public import proofs.«01_k».proof.Defs
public import proofs.«01_k».proof.Proof.Obligation
public import proofs.«01_k».proof.Proof.Printed.Obligation
public import proofs.«01_k».proof.Proof.Gen.ReferenceIdeal
public import proofs.«01_k».proof.Proof.Gen.ReferenceIdeal.Frame
public import proofs.«01_k».proof.Proof.Value
public import proofs.«01_k».proof.Proof.Finite
public import Idealize.ShloMosaic.Adequacy
public import Idealize.ShloMosaic.Init

@[expose] public section

noncomputable section

namespace Cert.Proof

open Idealize.ShloMosaic Idealize.SL.Sem

/-- The kernel as printed runs, keeps its arguments and ends with every counter at zero. -/
theorem frame_p : quiescent_Kernel (hKernel := Cert.Kernel.Gen.facts) :=
  fun m g _ => Cert.Kernel.Model.frame_run m g

/-- The idealized kernel runs, keeps its arguments and ends with every counter at zero. -/
theorem frame_pi : quiescent_KernelIdeal (hKernelIdeal := Cert.KernelIdeal.Gen.facts) :=
  fun m g _ => Cert.KernelIdeal.Model.frame_run m g

/-- The reference runs, keeps its arguments and ends with every counter at zero. -/
theorem frame_ri : quiescent_ReferenceIdeal (hReferenceIdeal := Cert.ReferenceIdeal.Gen.facts) :=
  fun m g _ => Cert.ReferenceIdeal.Gen.frame m g

/-- The two named constants denote what their names say. -/
theorem preserves : preserves_Kernel_KernelIdeal :=
  ⟨IdealRules.named_const.statement Cert.KernelIdeal.κ "sm_scale_log2_e" .f32 0x3E0293EE#32 (((Real.log 2)⁻¹ * (Real.sqrt 128)⁻¹ : ℝ) : EReal) rfl,
    IdealRules.named_const.statement Cert.KernelIdeal.κ "log2_e" .f32 0x3FB8AA3B#32 (((Real.log 2)⁻¹ : ℝ) : EReal) rfl⟩

/-- For finite queries, keys and values the idealized kernel and the reference both run and their seven results are equal. -/
theorem values : algebraic_KernelIdeal_ReferenceIdeal_pre_finite (hKernelIdeal := Cert.KernelIdeal.Gen.facts) (hReferenceIdeal := Cert.ReferenceIdeal.Gen.facts)
    (hPre_finite := Cert.Finite.facts) := fun m g m' g' hpre hargs => by
  have hf := fun c => Cert.Finite.args _ _ _ _ (hpre c)
  refine ⟨Cert.KernelIdeal.Model.G0 m, Cert.KernelIdeal.Model.G1 m, Cert.KernelIdeal.Model.G2 m, Cert.KernelIdeal.Model.G3 m, Cert.KernelIdeal.Model.G4 m,
    Cert.KernelIdeal.Model.G5 m, Cert.KernelIdeal.Model.G6 m, Cert.KernelIdeal.Model.values_run m g, ?_⟩
  refine (θ_run Cert.ReferenceIdeal.defs _ _).mono (fun r h c => ?_) (Cert.ReferenceIdeal.Val.values_run m' g')
  obtain ⟨h0, h1, h2, h3, h4, h5, h6, ha⟩ := h c
  obtain ⟨a0, a1, a2, a3⟩ := hargs c
  obtain ⟨hx, hk, hv⟩ := hf c
  rw [a0, a1, a2, a3] at h0
  rw [a0] at h1 h2
  rw [a1] at h3 h4
  rw [a2] at h5 h6
  exact ⟨h0.trans (Cert.Value.eq0 m c hx hk hv).symm, h1.trans (Cert.Value.eq1 m c hx).symm, h2.trans (Cert.Value.eq2 m c hx).symm, h3.trans (Cert.Value.eq3 m c hk).symm,
    h4.trans (Cert.Value.eq4 m c hk).symm, h5.trans (Cert.Value.eq5 m c hv).symm, h6.trans (Cert.Value.eq6 m c hv).symm, ha⟩

/-- All the claims together. -/
theorem claim : Cert.Claim :=
  ⟨Cert.Kernel.Gen.facts, Cert.KernelIdeal.Gen.facts, Cert.ReferenceIdeal.Gen.facts, Cert.Finite.facts, frame_p, frame_pi,
    fun m g _ => Cert.KernelIdeal.Model.frame_run m g, frame_ri, fun m g _ => Cert.ReferenceIdeal.Gen.frame m g, preserves, values⟩

end Cert.Proof

end
